-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Mmgate (m : (ℓ : Loc Cert.Mmgate.nD Cert.Mmgate.τ Cert.Mmgate.sig) → Buf (Elt Bits) ℓ) : Prop :=
  True

def Pre_MmgateIdeal (m : (ℓ : Loc Cert.MmgateIdeal.nD Cert.MmgateIdeal.τ Cert.MmgateIdeal.sig) → Buf (Elt Ideal) ℓ) : Prop :=
  True

def Pre_MmgateIdeal_finite_gate [hPre_finite_gate : Cert.Pre_finite_gate.Facts] (m : (ℓ : Loc Cert.MmgateIdeal.nD Cert.MmgateIdeal.τ Cert.MmgateIdeal.sig) → Buf (Elt Ideal) ℓ) : Prop :=
  ∀ c : Dev Cert.MmgateIdeal.nD,
    (Cert.Pre_finite_gate.fn (F := Ideal) (m ((c.tc : Thread Cert.MmgateIdeal.nD Cert.MmgateIdeal.τ).loc Cert.MmgateIdeal.main_arg0)) (m ((c.tc : Thread Cert.MmgateIdeal.nD Cert.MmgateIdeal.τ).loc Cert.MmgateIdeal.main_arg1)) (m ((c.tc : Thread Cert.MmgateIdeal.nD Cert.MmgateIdeal.τ).loc Cert.MmgateIdeal.main_arg2)) (m ((c.tc : Thread Cert.MmgateIdeal.nD Cert.MmgateIdeal.τ).loc Cert.MmgateIdeal.main_arg3)) (m ((c.tc : Thread Cert.MmgateIdeal.nD Cert.MmgateIdeal.τ).loc Cert.MmgateIdeal.main_arg4))).1 = (fun _ => 1#1)
    ∧ (Cert.Pre_finite_gate.fn (F := Ideal) (m ((c.tc : Thread Cert.MmgateIdeal.nD Cert.MmgateIdeal.τ).loc Cert.MmgateIdeal.main_arg0)) (m ((c.tc : Thread Cert.MmgateIdeal.nD Cert.MmgateIdeal.τ).loc Cert.MmgateIdeal.main_arg1)) (m ((c.tc : Thread Cert.MmgateIdeal.nD Cert.MmgateIdeal.τ).loc Cert.MmgateIdeal.main_arg2)) (m ((c.tc : Thread Cert.MmgateIdeal.nD Cert.MmgateIdeal.τ).loc Cert.MmgateIdeal.main_arg3)) (m ((c.tc : Thread Cert.MmgateIdeal.nD Cert.MmgateIdeal.τ).loc Cert.MmgateIdeal.main_arg4))).2.1 = (fun _ => 1#1)
    ∧ (Cert.Pre_finite_gate.fn (F := Ideal) (m ((c.tc : Thread Cert.MmgateIdeal.nD Cert.MmgateIdeal.τ).loc Cert.MmgateIdeal.main_arg0)) (m ((c.tc : Thread Cert.MmgateIdeal.nD Cert.MmgateIdeal.τ).loc Cert.MmgateIdeal.main_arg1)) (m ((c.tc : Thread Cert.MmgateIdeal.nD Cert.MmgateIdeal.τ).loc Cert.MmgateIdeal.main_arg2)) (m ((c.tc : Thread Cert.MmgateIdeal.nD Cert.MmgateIdeal.τ).loc Cert.MmgateIdeal.main_arg3)) (m ((c.tc : Thread Cert.MmgateIdeal.nD Cert.MmgateIdeal.τ).loc Cert.MmgateIdeal.main_arg4))).2.2.1 = (fun _ => 1#1)
    ∧ (Cert.Pre_finite_gate.fn (F := Ideal) (m ((c.tc : Thread Cert.MmgateIdeal.nD Cert.MmgateIdeal.τ).loc Cert.MmgateIdeal.main_arg0)) (m ((c.tc : Thread Cert.MmgateIdeal.nD Cert.MmgateIdeal.τ).loc Cert.MmgateIdeal.main_arg1)) (m ((c.tc : Thread Cert.MmgateIdeal.nD Cert.MmgateIdeal.τ).loc Cert.MmgateIdeal.main_arg2)) (m ((c.tc : Thread Cert.MmgateIdeal.nD Cert.MmgateIdeal.τ).loc Cert.MmgateIdeal.main_arg3)) (m ((c.tc : Thread Cert.MmgateIdeal.nD Cert.MmgateIdeal.τ).loc Cert.MmgateIdeal.main_arg4))).2.2.2 = (fun _ => 1#1)

def Pre_MmgateRefIdeal (m : (ℓ : Loc Cert.MmgateRefIdeal.nD Cert.MmgateRefIdeal.τ Cert.MmgateRefIdeal.sig) → Buf (Elt Ideal) ℓ) : Prop :=
  True

def Pre_MmgateRefIdeal_finite_gate [hPre_finite_gate : Cert.Pre_finite_gate.Facts] (m : (ℓ : Loc Cert.MmgateRefIdeal.nD Cert.MmgateRefIdeal.τ Cert.MmgateRefIdeal.sig) → Buf (Elt Ideal) ℓ) : Prop :=
  ∀ c : Dev Cert.MmgateRefIdeal.nD,
    (Cert.Pre_finite_gate.fn (F := Ideal) (m ((c.tc : Thread Cert.MmgateRefIdeal.nD Cert.MmgateRefIdeal.τ).loc Cert.MmgateRefIdeal.main_arg0)) (m ((c.tc : Thread Cert.MmgateRefIdeal.nD Cert.MmgateRefIdeal.τ).loc Cert.MmgateRefIdeal.main_arg1)) (m ((c.tc : Thread Cert.MmgateRefIdeal.nD Cert.MmgateRefIdeal.τ).loc Cert.MmgateRefIdeal.main_arg2)) (m ((c.tc : Thread Cert.MmgateRefIdeal.nD Cert.MmgateRefIdeal.τ).loc Cert.MmgateRefIdeal.main_arg3)) (m ((c.tc : Thread Cert.MmgateRefIdeal.nD Cert.MmgateRefIdeal.τ).loc Cert.MmgateRefIdeal.main_arg4))).1 = (fun _ => 1#1)
    ∧ (Cert.Pre_finite_gate.fn (F := Ideal) (m ((c.tc : Thread Cert.MmgateRefIdeal.nD Cert.MmgateRefIdeal.τ).loc Cert.MmgateRefIdeal.main_arg0)) (m ((c.tc : Thread Cert.MmgateRefIdeal.nD Cert.MmgateRefIdeal.τ).loc Cert.MmgateRefIdeal.main_arg1)) (m ((c.tc : Thread Cert.MmgateRefIdeal.nD Cert.MmgateRefIdeal.τ).loc Cert.MmgateRefIdeal.main_arg2)) (m ((c.tc : Thread Cert.MmgateRefIdeal.nD Cert.MmgateRefIdeal.τ).loc Cert.MmgateRefIdeal.main_arg3)) (m ((c.tc : Thread Cert.MmgateRefIdeal.nD Cert.MmgateRefIdeal.τ).loc Cert.MmgateRefIdeal.main_arg4))).2.1 = (fun _ => 1#1)
    ∧ (Cert.Pre_finite_gate.fn (F := Ideal) (m ((c.tc : Thread Cert.MmgateRefIdeal.nD Cert.MmgateRefIdeal.τ).loc Cert.MmgateRefIdeal.main_arg0)) (m ((c.tc : Thread Cert.MmgateRefIdeal.nD Cert.MmgateRefIdeal.τ).loc Cert.MmgateRefIdeal.main_arg1)) (m ((c.tc : Thread Cert.MmgateRefIdeal.nD Cert.MmgateRefIdeal.τ).loc Cert.MmgateRefIdeal.main_arg2)) (m ((c.tc : Thread Cert.MmgateRefIdeal.nD Cert.MmgateRefIdeal.τ).loc Cert.MmgateRefIdeal.main_arg3)) (m ((c.tc : Thread Cert.MmgateRefIdeal.nD Cert.MmgateRefIdeal.τ).loc Cert.MmgateRefIdeal.main_arg4))).2.2.1 = (fun _ => 1#1)
    ∧ (Cert.Pre_finite_gate.fn (F := Ideal) (m ((c.tc : Thread Cert.MmgateRefIdeal.nD Cert.MmgateRefIdeal.τ).loc Cert.MmgateRefIdeal.main_arg0)) (m ((c.tc : Thread Cert.MmgateRefIdeal.nD Cert.MmgateRefIdeal.τ).loc Cert.MmgateRefIdeal.main_arg1)) (m ((c.tc : Thread Cert.MmgateRefIdeal.nD Cert.MmgateRefIdeal.τ).loc Cert.MmgateRefIdeal.main_arg2)) (m ((c.tc : Thread Cert.MmgateRefIdeal.nD Cert.MmgateRefIdeal.τ).loc Cert.MmgateRefIdeal.main_arg3)) (m ((c.tc : Thread Cert.MmgateRefIdeal.nD Cert.MmgateRefIdeal.τ).loc Cert.MmgateRefIdeal.main_arg4))).2.2.2 = (fun _ => 1#1)

def Pre_Mmin (m : (ℓ : Loc Cert.Mmin.nD Cert.Mmin.τ Cert.Mmin.sig) → Buf (Elt Bits) ℓ) : Prop :=
  True

def Pre_MminIdeal (m : (ℓ : Loc Cert.MminIdeal.nD Cert.MminIdeal.τ Cert.MminIdeal.sig) → Buf (Elt Ideal) ℓ) : Prop :=
  True

def Pre_MminIdeal_finite_in [hPre_finite_in : Cert.Pre_finite_in.Facts] (m : (ℓ : Loc Cert.MminIdeal.nD Cert.MminIdeal.τ Cert.MminIdeal.sig) → Buf (Elt Ideal) ℓ) : Prop :=
  ∀ c : Dev Cert.MminIdeal.nD,
    (Cert.Pre_finite_in.fn (F := Ideal) (m ((c.tc : Thread Cert.MminIdeal.nD Cert.MminIdeal.τ).loc Cert.MminIdeal.main_arg0)) (m ((c.tc : Thread Cert.MminIdeal.nD Cert.MminIdeal.τ).loc Cert.MminIdeal.main_arg1)) (m ((c.tc : Thread Cert.MminIdeal.nD Cert.MminIdeal.τ).loc Cert.MminIdeal.main_arg2)) (m ((c.tc : Thread Cert.MminIdeal.nD Cert.MminIdeal.τ).loc Cert.MminIdeal.main_arg3)) (m ((c.tc : Thread Cert.MminIdeal.nD Cert.MminIdeal.τ).loc Cert.MminIdeal.main_arg4))).1 = (fun _ => 1#1)
    ∧ (Cert.Pre_finite_in.fn (F := Ideal) (m ((c.tc : Thread Cert.MminIdeal.nD Cert.MminIdeal.τ).loc Cert.MminIdeal.main_arg0)) (m ((c.tc : Thread Cert.MminIdeal.nD Cert.MminIdeal.τ).loc Cert.MminIdeal.main_arg1)) (m ((c.tc : Thread Cert.MminIdeal.nD Cert.MminIdeal.τ).loc Cert.MminIdeal.main_arg2)) (m ((c.tc : Thread Cert.MminIdeal.nD Cert.MminIdeal.τ).loc Cert.MminIdeal.main_arg3)) (m ((c.tc : Thread Cert.MminIdeal.nD Cert.MminIdeal.τ).loc Cert.MminIdeal.main_arg4))).2.1 = (fun _ => 1#1)
    ∧ (Cert.Pre_finite_in.fn (F := Ideal) (m ((c.tc : Thread Cert.MminIdeal.nD Cert.MminIdeal.τ).loc Cert.MminIdeal.main_arg0)) (m ((c.tc : Thread Cert.MminIdeal.nD Cert.MminIdeal.τ).loc Cert.MminIdeal.main_arg1)) (m ((c.tc : Thread Cert.MminIdeal.nD Cert.MminIdeal.τ).loc Cert.MminIdeal.main_arg2)) (m ((c.tc : Thread Cert.MminIdeal.nD Cert.MminIdeal.τ).loc Cert.MminIdeal.main_arg3)) (m ((c.tc : Thread Cert.MminIdeal.nD Cert.MminIdeal.τ).loc Cert.MminIdeal.main_arg4))).2.2.1 = (fun _ => 1#1)
    ∧ (Cert.Pre_finite_in.fn (F := Ideal) (m ((c.tc : Thread Cert.MminIdeal.nD Cert.MminIdeal.τ).loc Cert.MminIdeal.main_arg0)) (m ((c.tc : Thread Cert.MminIdeal.nD Cert.MminIdeal.τ).loc Cert.MminIdeal.main_arg1)) (m ((c.tc : Thread Cert.MminIdeal.nD Cert.MminIdeal.τ).loc Cert.MminIdeal.main_arg2)) (m ((c.tc : Thread Cert.MminIdeal.nD Cert.MminIdeal.τ).loc Cert.MminIdeal.main_arg3)) (m ((c.tc : Thread Cert.MminIdeal.nD Cert.MminIdeal.τ).loc Cert.MminIdeal.main_arg4))).2.2.2 = (fun _ => 1#1)

def Pre_MminRefIdeal (m : (ℓ : Loc Cert.MminRefIdeal.nD Cert.MminRefIdeal.τ Cert.MminRefIdeal.sig) → Buf (Elt Ideal) ℓ) : Prop :=
  True

def Pre_MminRefIdeal_finite_in [hPre_finite_in : Cert.Pre_finite_in.Facts] (m : (ℓ : Loc Cert.MminRefIdeal.nD Cert.MminRefIdeal.τ Cert.MminRefIdeal.sig) → Buf (Elt Ideal) ℓ) : Prop :=
  ∀ c : Dev Cert.MminRefIdeal.nD,
    (Cert.Pre_finite_in.fn (F := Ideal) (m ((c.tc : Thread Cert.MminRefIdeal.nD Cert.MminRefIdeal.τ).loc Cert.MminRefIdeal.main_arg0)) (m ((c.tc : Thread Cert.MminRefIdeal.nD Cert.MminRefIdeal.τ).loc Cert.MminRefIdeal.main_arg1)) (m ((c.tc : Thread Cert.MminRefIdeal.nD Cert.MminRefIdeal.τ).loc Cert.MminRefIdeal.main_arg2)) (m ((c.tc : Thread Cert.MminRefIdeal.nD Cert.MminRefIdeal.τ).loc Cert.MminRefIdeal.main_arg3)) (m ((c.tc : Thread Cert.MminRefIdeal.nD Cert.MminRefIdeal.τ).loc Cert.MminRefIdeal.main_arg4))).1 = (fun _ => 1#1)
    ∧ (Cert.Pre_finite_in.fn (F := Ideal) (m ((c.tc : Thread Cert.MminRefIdeal.nD Cert.MminRefIdeal.τ).loc Cert.MminRefIdeal.main_arg0)) (m ((c.tc : Thread Cert.MminRefIdeal.nD Cert.MminRefIdeal.τ).loc Cert.MminRefIdeal.main_arg1)) (m ((c.tc : Thread Cert.MminRefIdeal.nD Cert.MminRefIdeal.τ).loc Cert.MminRefIdeal.main_arg2)) (m ((c.tc : Thread Cert.MminRefIdeal.nD Cert.MminRefIdeal.τ).loc Cert.MminRefIdeal.main_arg3)) (m ((c.tc : Thread Cert.MminRefIdeal.nD Cert.MminRefIdeal.τ).loc Cert.MminRefIdeal.main_arg4))).2.1 = (fun _ => 1#1)
    ∧ (Cert.Pre_finite_in.fn (F := Ideal) (m ((c.tc : Thread Cert.MminRefIdeal.nD Cert.MminRefIdeal.τ).loc Cert.MminRefIdeal.main_arg0)) (m ((c.tc : Thread Cert.MminRefIdeal.nD Cert.MminRefIdeal.τ).loc Cert.MminRefIdeal.main_arg1)) (m ((c.tc : Thread Cert.MminRefIdeal.nD Cert.MminRefIdeal.τ).loc Cert.MminRefIdeal.main_arg2)) (m ((c.tc : Thread Cert.MminRefIdeal.nD Cert.MminRefIdeal.τ).loc Cert.MminRefIdeal.main_arg3)) (m ((c.tc : Thread Cert.MminRefIdeal.nD Cert.MminRefIdeal.τ).loc Cert.MminRefIdeal.main_arg4))).2.2.1 = (fun _ => 1#1)
    ∧ (Cert.Pre_finite_in.fn (F := Ideal) (m ((c.tc : Thread Cert.MminRefIdeal.nD Cert.MminRefIdeal.τ).loc Cert.MminRefIdeal.main_arg0)) (m ((c.tc : Thread Cert.MminRefIdeal.nD Cert.MminRefIdeal.τ).loc Cert.MminRefIdeal.main_arg1)) (m ((c.tc : Thread Cert.MminRefIdeal.nD Cert.MminRefIdeal.τ).loc Cert.MminRefIdeal.main_arg2)) (m ((c.tc : Thread Cert.MminRefIdeal.nD Cert.MminRefIdeal.τ).loc Cert.MminRefIdeal.main_arg3)) (m ((c.tc : Thread Cert.MminRefIdeal.nD Cert.MminRefIdeal.τ).loc Cert.MminRefIdeal.main_arg4))).2.2.2 = (fun _ => 1#1)

def Pre_Mmup (m : (ℓ : Loc Cert.Mmup.nD Cert.Mmup.τ Cert.Mmup.sig) → Buf (Elt Bits) ℓ) : Prop :=
  True

def Pre_MmupIdeal (m : (ℓ : Loc Cert.MmupIdeal.nD Cert.MmupIdeal.τ Cert.MmupIdeal.sig) → Buf (Elt Ideal) ℓ) : Prop :=
  True

def Pre_MmupIdeal_finite_up [hPre_finite_up : Cert.Pre_finite_up.Facts] (m : (ℓ : Loc Cert.MmupIdeal.nD Cert.MmupIdeal.τ Cert.MmupIdeal.sig) → Buf (Elt Ideal) ℓ) : Prop :=
  ∀ c : Dev Cert.MmupIdeal.nD,
    (Cert.Pre_finite_up.fn (F := Ideal) (m ((c.tc : Thread Cert.MmupIdeal.nD Cert.MmupIdeal.τ).loc Cert.MmupIdeal.main_arg0)) (m ((c.tc : Thread Cert.MmupIdeal.nD Cert.MmupIdeal.τ).loc Cert.MmupIdeal.main_arg1)) (m ((c.tc : Thread Cert.MmupIdeal.nD Cert.MmupIdeal.τ).loc Cert.MmupIdeal.main_arg2)) (m ((c.tc : Thread Cert.MmupIdeal.nD Cert.MmupIdeal.τ).loc Cert.MmupIdeal.main_arg3)) (m ((c.tc : Thread Cert.MmupIdeal.nD Cert.MmupIdeal.τ).loc Cert.MmupIdeal.main_arg4)) (m ((c.tc : Thread Cert.MmupIdeal.nD Cert.MmupIdeal.τ).loc Cert.MmupIdeal.main_arg5))).1 = (fun _ => 1#1)
    ∧ (Cert.Pre_finite_up.fn (F := Ideal) (m ((c.tc : Thread Cert.MmupIdeal.nD Cert.MmupIdeal.τ).loc Cert.MmupIdeal.main_arg0)) (m ((c.tc : Thread Cert.MmupIdeal.nD Cert.MmupIdeal.τ).loc Cert.MmupIdeal.main_arg1)) (m ((c.tc : Thread Cert.MmupIdeal.nD Cert.MmupIdeal.τ).loc Cert.MmupIdeal.main_arg2)) (m ((c.tc : Thread Cert.MmupIdeal.nD Cert.MmupIdeal.τ).loc Cert.MmupIdeal.main_arg3)) (m ((c.tc : Thread Cert.MmupIdeal.nD Cert.MmupIdeal.τ).loc Cert.MmupIdeal.main_arg4)) (m ((c.tc : Thread Cert.MmupIdeal.nD Cert.MmupIdeal.τ).loc Cert.MmupIdeal.main_arg5))).2.1 = (fun _ => 1#1)
    ∧ (Cert.Pre_finite_up.fn (F := Ideal) (m ((c.tc : Thread Cert.MmupIdeal.nD Cert.MmupIdeal.τ).loc Cert.MmupIdeal.main_arg0)) (m ((c.tc : Thread Cert.MmupIdeal.nD Cert.MmupIdeal.τ).loc Cert.MmupIdeal.main_arg1)) (m ((c.tc : Thread Cert.MmupIdeal.nD Cert.MmupIdeal.τ).loc Cert.MmupIdeal.main_arg2)) (m ((c.tc : Thread Cert.MmupIdeal.nD Cert.MmupIdeal.τ).loc Cert.MmupIdeal.main_arg3)) (m ((c.tc : Thread Cert.MmupIdeal.nD Cert.MmupIdeal.τ).loc Cert.MmupIdeal.main_arg4)) (m ((c.tc : Thread Cert.MmupIdeal.nD Cert.MmupIdeal.τ).loc Cert.MmupIdeal.main_arg5))).2.2.1 = (fun _ => 1#1)
    ∧ (Cert.Pre_finite_up.fn (F := Ideal) (m ((c.tc : Thread Cert.MmupIdeal.nD Cert.MmupIdeal.τ).loc Cert.MmupIdeal.main_arg0)) (m ((c.tc : Thread Cert.MmupIdeal.nD Cert.MmupIdeal.τ).loc Cert.MmupIdeal.main_arg1)) (m ((c.tc : Thread Cert.MmupIdeal.nD Cert.MmupIdeal.τ).loc Cert.MmupIdeal.main_arg2)) (m ((c.tc : Thread Cert.MmupIdeal.nD Cert.MmupIdeal.τ).loc Cert.MmupIdeal.main_arg3)) (m ((c.tc : Thread Cert.MmupIdeal.nD Cert.MmupIdeal.τ).loc Cert.MmupIdeal.main_arg4)) (m ((c.tc : Thread Cert.MmupIdeal.nD Cert.MmupIdeal.τ).loc Cert.MmupIdeal.main_arg5))).2.2.2.1 = (fun _ => 1#1)
    ∧ (Cert.Pre_finite_up.fn (F := Ideal) (m ((c.tc : Thread Cert.MmupIdeal.nD Cert.MmupIdeal.τ).loc Cert.MmupIdeal.main_arg0)) (m ((c.tc : Thread Cert.MmupIdeal.nD Cert.MmupIdeal.τ).loc Cert.MmupIdeal.main_arg1)) (m ((c.tc : Thread Cert.MmupIdeal.nD Cert.MmupIdeal.τ).loc Cert.MmupIdeal.main_arg2)) (m ((c.tc : Thread Cert.MmupIdeal.nD Cert.MmupIdeal.τ).loc Cert.MmupIdeal.main_arg3)) (m ((c.tc : Thread Cert.MmupIdeal.nD Cert.MmupIdeal.τ).loc Cert.MmupIdeal.main_arg4)) (m ((c.tc : Thread Cert.MmupIdeal.nD Cert.MmupIdeal.τ).loc Cert.MmupIdeal.main_arg5))).2.2.2.2 = (fun _ => 1#1)

def Pre_MmupRefIdeal (m : (ℓ : Loc Cert.MmupRefIdeal.nD Cert.MmupRefIdeal.τ Cert.MmupRefIdeal.sig) → Buf (Elt Ideal) ℓ) : Prop :=
  True

def Pre_MmupRefIdeal_finite_up [hPre_finite_up : Cert.Pre_finite_up.Facts] (m : (ℓ : Loc Cert.MmupRefIdeal.nD Cert.MmupRefIdeal.τ Cert.MmupRefIdeal.sig) → Buf (Elt Ideal) ℓ) : Prop :=
  ∀ c : Dev Cert.MmupRefIdeal.nD,
    (Cert.Pre_finite_up.fn (F := Ideal) (m ((c.tc : Thread Cert.MmupRefIdeal.nD Cert.MmupRefIdeal.τ).loc Cert.MmupRefIdeal.main_arg0)) (m ((c.tc : Thread Cert.MmupRefIdeal.nD Cert.MmupRefIdeal.τ).loc Cert.MmupRefIdeal.main_arg1)) (m ((c.tc : Thread Cert.MmupRefIdeal.nD Cert.MmupRefIdeal.τ).loc Cert.MmupRefIdeal.main_arg2)) (m ((c.tc : Thread Cert.MmupRefIdeal.nD Cert.MmupRefIdeal.τ).loc Cert.MmupRefIdeal.main_arg3)) (m ((c.tc : Thread Cert.MmupRefIdeal.nD Cert.MmupRefIdeal.τ).loc Cert.MmupRefIdeal.main_arg4)) (m ((c.tc : Thread Cert.MmupRefIdeal.nD Cert.MmupRefIdeal.τ).loc Cert.MmupRefIdeal.main_arg5))).1 = (fun _ => 1#1)
    ∧ (Cert.Pre_finite_up.fn (F := Ideal) (m ((c.tc : Thread Cert.MmupRefIdeal.nD Cert.MmupRefIdeal.τ).loc Cert.MmupRefIdeal.main_arg0)) (m ((c.tc : Thread Cert.MmupRefIdeal.nD Cert.MmupRefIdeal.τ).loc Cert.MmupRefIdeal.main_arg1)) (m ((c.tc : Thread Cert.MmupRefIdeal.nD Cert.MmupRefIdeal.τ).loc Cert.MmupRefIdeal.main_arg2)) (m ((c.tc : Thread Cert.MmupRefIdeal.nD Cert.MmupRefIdeal.τ).loc Cert.MmupRefIdeal.main_arg3)) (m ((c.tc : Thread Cert.MmupRefIdeal.nD Cert.MmupRefIdeal.τ).loc Cert.MmupRefIdeal.main_arg4)) (m ((c.tc : Thread Cert.MmupRefIdeal.nD Cert.MmupRefIdeal.τ).loc Cert.MmupRefIdeal.main_arg5))).2.1 = (fun _ => 1#1)
    ∧ (Cert.Pre_finite_up.fn (F := Ideal) (m ((c.tc : Thread Cert.MmupRefIdeal.nD Cert.MmupRefIdeal.τ).loc Cert.MmupRefIdeal.main_arg0)) (m ((c.tc : Thread Cert.MmupRefIdeal.nD Cert.MmupRefIdeal.τ).loc Cert.MmupRefIdeal.main_arg1)) (m ((c.tc : Thread Cert.MmupRefIdeal.nD Cert.MmupRefIdeal.τ).loc Cert.MmupRefIdeal.main_arg2)) (m ((c.tc : Thread Cert.MmupRefIdeal.nD Cert.MmupRefIdeal.τ).loc Cert.MmupRefIdeal.main_arg3)) (m ((c.tc : Thread Cert.MmupRefIdeal.nD Cert.MmupRefIdeal.τ).loc Cert.MmupRefIdeal.main_arg4)) (m ((c.tc : Thread Cert.MmupRefIdeal.nD Cert.MmupRefIdeal.τ).loc Cert.MmupRefIdeal.main_arg5))).2.2.1 = (fun _ => 1#1)
    ∧ (Cert.Pre_finite_up.fn (F := Ideal) (m ((c.tc : Thread Cert.MmupRefIdeal.nD Cert.MmupRefIdeal.τ).loc Cert.MmupRefIdeal.main_arg0)) (m ((c.tc : Thread Cert.MmupRefIdeal.nD Cert.MmupRefIdeal.τ).loc Cert.MmupRefIdeal.main_arg1)) (m ((c.tc : Thread Cert.MmupRefIdeal.nD Cert.MmupRefIdeal.τ).loc Cert.MmupRefIdeal.main_arg2)) (m ((c.tc : Thread Cert.MmupRefIdeal.nD Cert.MmupRefIdeal.τ).loc Cert.MmupRefIdeal.main_arg3)) (m ((c.tc : Thread Cert.MmupRefIdeal.nD Cert.MmupRefIdeal.τ).loc Cert.MmupRefIdeal.main_arg4)) (m ((c.tc : Thread Cert.MmupRefIdeal.nD Cert.MmupRefIdeal.τ).loc Cert.MmupRefIdeal.main_arg5))).2.2.2.1 = (fun _ => 1#1)
    ∧ (Cert.Pre_finite_up.fn (F := Ideal) (m ((c.tc : Thread Cert.MmupRefIdeal.nD Cert.MmupRefIdeal.τ).loc Cert.MmupRefIdeal.main_arg0)) (m ((c.tc : Thread Cert.MmupRefIdeal.nD Cert.MmupRefIdeal.τ).loc Cert.MmupRefIdeal.main_arg1)) (m ((c.tc : Thread Cert.MmupRefIdeal.nD Cert.MmupRefIdeal.τ).loc Cert.MmupRefIdeal.main_arg2)) (m ((c.tc : Thread Cert.MmupRefIdeal.nD Cert.MmupRefIdeal.τ).loc Cert.MmupRefIdeal.main_arg3)) (m ((c.tc : Thread Cert.MmupRefIdeal.nD Cert.MmupRefIdeal.τ).loc Cert.MmupRefIdeal.main_arg4)) (m ((c.tc : Thread Cert.MmupRefIdeal.nD Cert.MmupRefIdeal.τ).loc Cert.MmupRefIdeal.main_arg5))).2.2.2.2 = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).1 = (fun _ => 1#1)
    ∧ (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.1 = (fun _ => 1#1)
    ∧ (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.1 = (fun _ => 1#1)
    ∧ (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).1 = (fun _ => 1#1)
    ∧ (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.1 = (fun _ => 1#1)
    ∧ (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.1 = (fun _ => 1#1)
    ∧ (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.2 = (fun _ => 1#1)

def Pre_Asm (m : (ℓ : Loc Cert.Asm.nD Cert.Asm.τ Cert.Asm.sig) → Buf (Elt Bits) ℓ) : Prop :=
  True

def Pre_AsmIdeal (m : (ℓ : Loc Cert.AsmIdeal.nD Cert.AsmIdeal.τ Cert.AsmIdeal.sig) → Buf (Elt Ideal) ℓ) : Prop :=
  True

def Pre_AsmRefIdeal (m : (ℓ : Loc Cert.AsmRefIdeal.nD Cert.AsmRefIdeal.τ Cert.AsmRefIdeal.sig) → Buf (Elt Ideal) ℓ) : Prop :=
  True

def Pre_Swaf (m : (ℓ : Loc Cert.Swaf.nD Cert.Swaf.τ Cert.Swaf.sig) → Buf (Elt Bits) ℓ) : Prop :=
  True

def Pre_SwafIdeal (m : (ℓ : Loc Cert.SwafIdeal.nD Cert.SwafIdeal.τ Cert.SwafIdeal.sig) → Buf (Elt Ideal) ℓ) : Prop :=
  True

def Pre_SwafIdeal_finite_swaf [hPre_finite_swaf : Cert.Pre_finite_swaf.Facts] (m : (ℓ : Loc Cert.SwafIdeal.nD Cert.SwafIdeal.τ Cert.SwafIdeal.sig) → Buf (Elt Ideal) ℓ) : Prop :=
  ∀ c : Dev Cert.SwafIdeal.nD,
    (Cert.Pre_finite_swaf.fn (F := Ideal) (m ((c.tc : Thread Cert.SwafIdeal.nD Cert.SwafIdeal.τ).loc Cert.SwafIdeal.main_arg0)) (m ((c.tc : Thread Cert.SwafIdeal.nD Cert.SwafIdeal.τ).loc Cert.SwafIdeal.main_arg1)) (m ((c.tc : Thread Cert.SwafIdeal.nD Cert.SwafIdeal.τ).loc Cert.SwafIdeal.main_arg2))).1 = (fun _ => 1#1)
    ∧ (Cert.Pre_finite_swaf.fn (F := Ideal) (m ((c.tc : Thread Cert.SwafIdeal.nD Cert.SwafIdeal.τ).loc Cert.SwafIdeal.main_arg0)) (m ((c.tc : Thread Cert.SwafIdeal.nD Cert.SwafIdeal.τ).loc Cert.SwafIdeal.main_arg1)) (m ((c.tc : Thread Cert.SwafIdeal.nD Cert.SwafIdeal.τ).loc Cert.SwafIdeal.main_arg2))).2 = (fun _ => 1#1)

def Pre_SwafRefIdeal (m : (ℓ : Loc Cert.SwafRefIdeal.nD Cert.SwafRefIdeal.τ Cert.SwafRefIdeal.sig) → Buf (Elt Ideal) ℓ) : Prop :=
  True

def Pre_SwafRefIdeal_finite_swaf [hPre_finite_swaf : Cert.Pre_finite_swaf.Facts] (m : (ℓ : Loc Cert.SwafRefIdeal.nD Cert.SwafRefIdeal.τ Cert.SwafRefIdeal.sig) → Buf (Elt Ideal) ℓ) : Prop :=
  ∀ c : Dev Cert.SwafRefIdeal.nD,
    (Cert.Pre_finite_swaf.fn (F := Ideal) (m ((c.tc : Thread Cert.SwafRefIdeal.nD Cert.SwafRefIdeal.τ).loc Cert.SwafRefIdeal.main_arg0)) (m ((c.tc : Thread Cert.SwafRefIdeal.nD Cert.SwafRefIdeal.τ).loc Cert.SwafRefIdeal.main_arg1)) (m ((c.tc : Thread Cert.SwafRefIdeal.nD Cert.SwafRefIdeal.τ).loc Cert.SwafRefIdeal.main_arg2))).1 = (fun _ => 1#1)
    ∧ (Cert.Pre_finite_swaf.fn (F := Ideal) (m ((c.tc : Thread Cert.SwafRefIdeal.nD Cert.SwafRefIdeal.τ).loc Cert.SwafRefIdeal.main_arg0)) (m ((c.tc : Thread Cert.SwafRefIdeal.nD Cert.SwafRefIdeal.τ).loc Cert.SwafRefIdeal.main_arg1)) (m ((c.tc : Thread Cert.SwafRefIdeal.nD Cert.SwafRefIdeal.τ).loc Cert.SwafRefIdeal.main_arg2))).2 = (fun _ => 1#1)

def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbIdeal_off_floor [hPre_off_floor : Cert.Pre_off_floor.Facts] (m : (ℓ : Loc Cert.LbIdeal.nD Cert.LbIdeal.τ Cert.LbIdeal.sig) → Buf (Elt Ideal) ℓ) : Prop :=
  ∀ c : Dev Cert.LbIdeal.nD,
    (Cert.Pre_off_floor.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))).1 = (fun _ => 1#1)
    ∧ (Cert.Pre_off_floor.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))).2.1 = (fun _ => 1#1)
    ∧ (Cert.Pre_off_floor.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))).2.2.1 = (fun _ => 1#1)
    ∧ (Cert.Pre_off_floor.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))).2.2.2.1 = (fun _ => 1#1)
    ∧ (Cert.Pre_off_floor.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))).2.2.2.2 = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_off_floor [hPre_off_floor : Cert.Pre_off_floor.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_off_floor.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).1 = (fun _ => 1#1)
    ∧ (Cert.Pre_off_floor.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).2.1 = (fun _ => 1#1)
    ∧ (Cert.Pre_off_floor.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).2.2.1 = (fun _ => 1#1)
    ∧ (Cert.Pre_off_floor.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).2.2.2.1 = (fun _ => 1#1)
    ∧ (Cert.Pre_off_floor.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).2.2.2.2 = (fun _ => 1#1)

def Pre_Convf (m : (ℓ : Loc Cert.Convf.nD Cert.Convf.τ Cert.Convf.sig) → Buf (Elt Bits) ℓ) : Prop :=
  True

def Pre_ConvfIdeal (m : (ℓ : Loc Cert.ConvfIdeal.nD Cert.ConvfIdeal.τ Cert.ConvfIdeal.sig) → Buf (Elt Ideal) ℓ) : Prop :=
  True

def Pre_ConvfRefIdeal (m : (ℓ : Loc Cert.ConvfRefIdeal.nD Cert.ConvfRefIdeal.τ Cert.ConvfRefIdeal.sig) → Buf (Elt Ideal) ℓ) : Prop :=
  True

def Pre_Plef (m : (ℓ : Loc Cert.Plef.nD Cert.Plef.τ Cert.Plef.sig) → Buf (Elt Bits) ℓ) : Prop :=
  True

def Pre_PlefIdeal (m : (ℓ : Loc Cert.PlefIdeal.nD Cert.PlefIdeal.τ Cert.PlefIdeal.sig) → Buf (Elt Ideal) ℓ) : Prop :=
  True

def Pre_PlefRefIdeal (m : (ℓ : Loc Cert.PlefRefIdeal.nD Cert.PlefRefIdeal.τ Cert.PlefRefIdeal.sig) → Buf (Elt Ideal) ℓ) : Prop :=
  True

def Pre_Lbf (m : (ℓ : Loc Cert.Lbf.nD Cert.Lbf.τ Cert.Lbf.sig) → Buf (Elt Bits) ℓ) : Prop :=
  True

def Pre_LbfIdeal (m : (ℓ : Loc Cert.LbfIdeal.nD Cert.LbfIdeal.τ Cert.LbfIdeal.sig) → Buf (Elt Ideal) ℓ) : Prop :=
  True

def Pre_LbfRefIdeal (m : (ℓ : Loc Cert.LbfRefIdeal.nD Cert.LbfRefIdeal.τ Cert.LbfRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Mmout (m : (ℓ : Loc Cert.Mmout.nD Cert.Mmout.τ Cert.Mmout.sig) → Buf (Elt Bits) ℓ) : Prop :=
  True

def Pre_MmoutIdeal (m : (ℓ : Loc Cert.MmoutIdeal.nD Cert.MmoutIdeal.τ Cert.MmoutIdeal.sig) → Buf (Elt Ideal) ℓ) : Prop :=
  True

def Pre_MmoutRefIdeal (m : (ℓ : Loc Cert.MmoutRefIdeal.nD Cert.MmoutRefIdeal.τ Cert.MmoutRefIdeal.sig) → Buf (Elt Ideal) ℓ) : Prop :=
  True

def Pre_Mmdown (m : (ℓ : Loc Cert.Mmdown.nD Cert.Mmdown.τ Cert.Mmdown.sig) → Buf (Elt Bits) ℓ) : Prop :=
  True

def Pre_MmdownIdeal (m : (ℓ : Loc Cert.MmdownIdeal.nD Cert.MmdownIdeal.τ Cert.MmdownIdeal.sig) → Buf (Elt Ideal) ℓ) : Prop :=
  True

def Pre_MmdownRefIdeal (m : (ℓ : Loc Cert.MmdownRefIdeal.nD Cert.MmdownRefIdeal.τ Cert.MmdownRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Prod (m : (ℓ : Loc Cert.Prod.nD Cert.Prod.τ Cert.Prod.sig) → Buf (Elt Bits) ℓ) : Prop :=
  True

def Pre_ProdIdeal (m : (ℓ : Loc Cert.ProdIdeal.nD Cert.ProdIdeal.τ Cert.ProdIdeal.sig) → Buf (Elt Ideal) ℓ) : Prop :=
  True

def Pre_ProdRefIdeal (m : (ℓ : Loc Cert.ProdRefIdeal.nD Cert.ProdRefIdeal.τ Cert.ProdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0)

def quiescent_Mmgate [hMmgate : Cert.Mmgate.Facts] : Prop :=
  ∀ (m : (ℓ : Loc Cert.Mmgate.nD Cert.Mmgate.τ Cert.Mmgate.sig) → Buf (Elt Bits) ℓ) (g : Dev Cert.Mmgate.nD → PrngReg), Pre_Mmgate m →
    θ_run (Cert.Mmgate.defs (F := Bits)) (onTc (τ := Cert.Mmgate.τ) (Cert.Mmgate.main (F := Bits))) ⟨m, fun _ => 0, g⟩ (fun r => (∀ c : Dev Cert.Mmgate.nD,
      r.2.mem ((c.tc : Thread Cert.Mmgate.nD Cert.Mmgate.τ).loc Cert.Mmgate.main_arg0) = m ((c.tc : Thread Cert.Mmgate.nD Cert.Mmgate.τ).loc Cert.Mmgate.main_arg0)
      ∧ r.2.mem ((c.tc : Thread Cert.Mmgate.nD Cert.Mmgate.τ).loc Cert.Mmgate.main_arg1) = m ((c.tc : Thread Cert.Mmgate.nD Cert.Mmgate.τ).loc Cert.Mmgate.main_arg1)
      ∧ r.2.mem ((c.tc : Thread Cert.Mmgate.nD Cert.Mmgate.τ).loc Cert.Mmgate.main_arg2) = m ((c.tc : Thread Cert.Mmgate.nD Cert.Mmgate.τ).loc Cert.Mmgate.main_arg2)
      ∧ r.2.mem ((c.tc : Thread Cert.Mmgate.nD Cert.Mmgate.τ).loc Cert.Mmgate.main_arg3) = m ((c.tc : Thread Cert.Mmgate.nD Cert.Mmgate.τ).loc Cert.Mmgate.main_arg3)
      ∧ r.2.mem ((c.tc : Thread Cert.Mmgate.nD Cert.Mmgate.τ).loc Cert.Mmgate.main_arg4) = m ((c.tc : Thread Cert.Mmgate.nD Cert.Mmgate.τ).loc Cert.Mmgate.main_arg4))
      ∧ r.2.sem = fun _ => 0)

def quiescent_MmgateIdeal [hMmgateIdeal : Cert.MmgateIdeal.Facts] : Prop :=
  ∀ (m : (ℓ : Loc Cert.MmgateIdeal.nD Cert.MmgateIdeal.τ Cert.MmgateIdeal.sig) → Buf (Elt Ideal) ℓ) (g : Dev Cert.MmgateIdeal.nD → PrngReg), Pre_MmgateIdeal m →
    θ_run (Cert.MmgateIdeal.defs (F := Ideal)) (onTc (τ := Cert.MmgateIdeal.τ) (Cert.MmgateIdeal.main (F := Ideal))) ⟨m, fun _ => 0, g⟩ (fun r => (∀ c : Dev Cert.MmgateIdeal.nD,
      r.2.mem ((c.tc : Thread Cert.MmgateIdeal.nD Cert.MmgateIdeal.τ).loc Cert.MmgateIdeal.main_arg0) = m ((c.tc : Thread Cert.MmgateIdeal.nD Cert.MmgateIdeal.τ).loc Cert.MmgateIdeal.main_arg0)
      ∧ r.2.mem ((c.tc : Thread Cert.MmgateIdeal.nD Cert.MmgateIdeal.τ).loc Cert.MmgateIdeal.main_arg1) = m ((c.tc : Thread Cert.MmgateIdeal.nD Cert.MmgateIdeal.τ).loc Cert.MmgateIdeal.main_arg1)
      ∧ r.2.mem ((c.tc : Thread Cert.MmgateIdeal.nD Cert.MmgateIdeal.τ).loc Cert.MmgateIdeal.main_arg2) = m ((c.tc : Thread Cert.MmgateIdeal.nD Cert.MmgateIdeal.τ).loc Cert.MmgateIdeal.main_arg2)
      ∧ r.2.mem ((c.tc : Thread Cert.MmgateIdeal.nD Cert.MmgateIdeal.τ).loc Cert.MmgateIdeal.main_arg3) = m ((c.tc : Thread Cert.MmgateIdeal.nD Cert.MmgateIdeal.τ).loc Cert.MmgateIdeal.main_arg3)
      ∧ r.2.mem ((c.tc : Thread Cert.MmgateIdeal.nD Cert.MmgateIdeal.τ).loc Cert.MmgateIdeal.main_arg4) = m ((c.tc : Thread Cert.MmgateIdeal.nD Cert.MmgateIdeal.τ).loc Cert.MmgateIdeal.main_arg4))
      ∧ r.2.sem = fun _ => 0)

def quiescent_MmgateIdeal_pre_finite_gate [hMmgateIdeal : Cert.MmgateIdeal.Facts] [hPre_finite_gate : Cert.Pre_finite_gate.Facts] : Prop :=
  ∀ (m : (ℓ : Loc Cert.MmgateIdeal.nD Cert.MmgateIdeal.τ Cert.MmgateIdeal.sig) → Buf (Elt Ideal) ℓ) (g : Dev Cert.MmgateIdeal.nD → PrngReg), Pre_MmgateIdeal_finite_gate m →
    θ_run (Cert.MmgateIdeal.defs (F := Ideal)) (onTc (τ := Cert.MmgateIdeal.τ) (Cert.MmgateIdeal.main (F := Ideal))) ⟨m, fun _ => 0, g⟩ (fun r => (∀ c : Dev Cert.MmgateIdeal.nD,
      r.2.mem ((c.tc : Thread Cert.MmgateIdeal.nD Cert.MmgateIdeal.τ).loc Cert.MmgateIdeal.main_arg0) = m ((c.tc : Thread Cert.MmgateIdeal.nD Cert.MmgateIdeal.τ).loc Cert.MmgateIdeal.main_arg0)
      ∧ r.2.mem ((c.tc : Thread Cert.MmgateIdeal.nD Cert.MmgateIdeal.τ).loc Cert.MmgateIdeal.main_arg1) = m ((c.tc : Thread Cert.MmgateIdeal.nD Cert.MmgateIdeal.τ).loc Cert.MmgateIdeal.main_arg1)
      ∧ r.2.mem ((c.tc : Thread Cert.MmgateIdeal.nD Cert.MmgateIdeal.τ).loc Cert.MmgateIdeal.main_arg2) = m ((c.tc : Thread Cert.MmgateIdeal.nD Cert.MmgateIdeal.τ).loc Cert.MmgateIdeal.main_arg2)
      ∧ r.2.mem ((c.tc : Thread Cert.MmgateIdeal.nD Cert.MmgateIdeal.τ).loc Cert.MmgateIdeal.main_arg3) = m ((c.tc : Thread Cert.MmgateIdeal.nD Cert.MmgateIdeal.τ).loc Cert.MmgateIdeal.main_arg3)
      ∧ r.2.mem ((c.tc : Thread Cert.MmgateIdeal.nD Cert.MmgateIdeal.τ).loc Cert.MmgateIdeal.main_arg4) = m ((c.tc : Thread Cert.MmgateIdeal.nD Cert.MmgateIdeal.τ).loc Cert.MmgateIdeal.main_arg4))
      ∧ r.2.sem = fun _ => 0)

def quiescent_MmgateRefIdeal [hMmgateRefIdeal : Cert.MmgateRefIdeal.Facts] : Prop :=
  ∀ (m : (ℓ : Loc Cert.MmgateRefIdeal.nD Cert.MmgateRefIdeal.τ Cert.MmgateRefIdeal.sig) → Buf (Elt Ideal) ℓ) (g : Dev Cert.MmgateRefIdeal.nD → PrngReg), Pre_MmgateRefIdeal m →
    θ_run (Cert.MmgateRefIdeal.defs (F := Ideal)) (onTc (τ := Cert.MmgateRefIdeal.τ) (Cert.MmgateRefIdeal.main (F := Ideal))) ⟨m, fun _ => 0, g⟩ (fun r => (∀ c : Dev Cert.MmgateRefIdeal.nD,
      r.2.mem ((c.tc : Thread Cert.MmgateRefIdeal.nD Cert.MmgateRefIdeal.τ).loc Cert.MmgateRefIdeal.main_arg0) = m ((c.tc : Thread Cert.MmgateRefIdeal.nD Cert.MmgateRefIdeal.τ).loc Cert.MmgateRefIdeal.main_arg0)
      ∧ r.2.mem ((c.tc : Thread Cert.MmgateRefIdeal.nD Cert.MmgateRefIdeal.τ).loc Cert.MmgateRefIdeal.main_arg1) = m ((c.tc : Thread Cert.MmgateRefIdeal.nD Cert.MmgateRefIdeal.τ).loc Cert.MmgateRefIdeal.main_arg1)
      ∧ r.2.mem ((c.tc : Thread Cert.MmgateRefIdeal.nD Cert.MmgateRefIdeal.τ).loc Cert.MmgateRefIdeal.main_arg2) = m ((c.tc : Thread Cert.MmgateRefIdeal.nD Cert.MmgateRefIdeal.τ).loc Cert.MmgateRefIdeal.main_arg2)
      ∧ r.2.mem ((c.tc : Thread Cert.MmgateRefIdeal.nD Cert.MmgateRefIdeal.τ).loc Cert.MmgateRefIdeal.main_arg3) = m ((c.tc : Thread Cert.MmgateRefIdeal.nD Cert.MmgateRefIdeal.τ).loc Cert.MmgateRefIdeal.main_arg3)
      ∧ r.2.mem ((c.tc : Thread Cert.MmgateRefIdeal.nD Cert.MmgateRefIdeal.τ).loc Cert.MmgateRefIdeal.main_arg4) = m ((c.tc : Thread Cert.MmgateRefIdeal.nD Cert.MmgateRefIdeal.τ).loc Cert.MmgateRefIdeal.main_arg4))
      ∧ r.2.sem = fun _ => 0)

def quiescent_MmgateRefIdeal_pre_finite_gate [hMmgateRefIdeal : Cert.MmgateRefIdeal.Facts] [hPre_finite_gate : Cert.Pre_finite_gate.Facts] : Prop :=
  ∀ (m : (ℓ : Loc Cert.MmgateRefIdeal.nD Cert.MmgateRefIdeal.τ Cert.MmgateRefIdeal.sig) → Buf (Elt Ideal) ℓ) (g : Dev Cert.MmgateRefIdeal.nD → PrngReg), Pre_MmgateRefIdeal_finite_gate m →
    θ_run (Cert.MmgateRefIdeal.defs (F := Ideal)) (onTc (τ := Cert.MmgateRefIdeal.τ) (Cert.MmgateRefIdeal.main (F := Ideal))) ⟨m, fun _ => 0, g⟩ (fun r => (∀ c : Dev Cert.MmgateRefIdeal.nD,
      r.2.mem ((c.tc : Thread Cert.MmgateRefIdeal.nD Cert.MmgateRefIdeal.τ).loc Cert.MmgateRefIdeal.main_arg0) = m ((c.tc : Thread Cert.MmgateRefIdeal.nD Cert.MmgateRefIdeal.τ).loc Cert.MmgateRefIdeal.main_arg0)
      ∧ r.2.mem ((c.tc : Thread Cert.MmgateRefIdeal.nD Cert.MmgateRefIdeal.τ).loc Cert.MmgateRefIdeal.main_arg1) = m ((c.tc : Thread Cert.MmgateRefIdeal.nD Cert.MmgateRefIdeal.τ).loc Cert.MmgateRefIdeal.main_arg1)
      ∧ r.2.mem ((c.tc : Thread Cert.MmgateRefIdeal.nD Cert.MmgateRefIdeal.τ).loc Cert.MmgateRefIdeal.main_arg2) = m ((c.tc : Thread Cert.MmgateRefIdeal.nD Cert.MmgateRefIdeal.τ).loc Cert.MmgateRefIdeal.main_arg2)
      ∧ r.2.mem ((c.tc : Thread Cert.MmgateRefIdeal.nD Cert.MmgateRefIdeal.τ).loc Cert.MmgateRefIdeal.main_arg3) = m ((c.tc : Thread Cert.MmgateRefIdeal.nD Cert.MmgateRefIdeal.τ).loc Cert.MmgateRefIdeal.main_arg3)
      ∧ r.2.mem ((c.tc : Thread Cert.MmgateRefIdeal.nD Cert.MmgateRefIdeal.τ).loc Cert.MmgateRefIdeal.main_arg4) = m ((c.tc : Thread Cert.MmgateRefIdeal.nD Cert.MmgateRefIdeal.τ).loc Cert.MmgateRefIdeal.main_arg4))
      ∧ r.2.sem = fun _ => 0)

def quiescent_Mmin [hMmin : Cert.Mmin.Facts] : Prop :=
  ∀ (m : (ℓ : Loc Cert.Mmin.nD Cert.Mmin.τ Cert.Mmin.sig) → Buf (Elt Bits) ℓ) (g : Dev Cert.Mmin.nD → PrngReg), Pre_Mmin m →
    θ_run (Cert.Mmin.defs (F := Bits)) (onTc (τ := Cert.Mmin.τ) (Cert.Mmin.main (F := Bits))) ⟨m, fun _ => 0, g⟩ (fun r => (∀ c : Dev Cert.Mmin.nD,
      r.2.mem ((c.tc : Thread Cert.Mmin.nD Cert.Mmin.τ).loc Cert.Mmin.main_arg0) = m ((c.tc : Thread Cert.Mmin.nD Cert.Mmin.τ).loc Cert.Mmin.main_arg0)
      ∧ r.2.mem ((c.tc : Thread Cert.Mmin.nD Cert.Mmin.τ).loc Cert.Mmin.main_arg1) = m ((c.tc : Thread Cert.Mmin.nD Cert.Mmin.τ).loc Cert.Mmin.main_arg1)
      ∧ r.2.mem ((c.tc : Thread Cert.Mmin.nD Cert.Mmin.τ).loc Cert.Mmin.main_arg2) = m ((c.tc : Thread Cert.Mmin.nD Cert.Mmin.τ).loc Cert.Mmin.main_arg2)
      ∧ r.2.mem ((c.tc : Thread Cert.Mmin.nD Cert.Mmin.τ).loc Cert.Mmin.main_arg3) = m ((c.tc : Thread Cert.Mmin.nD Cert.Mmin.τ).loc Cert.Mmin.main_arg3)
      ∧ r.2.mem ((c.tc : Thread Cert.Mmin.nD Cert.Mmin.τ).loc Cert.Mmin.main_arg4) = m ((c.tc : Thread Cert.Mmin.nD Cert.Mmin.τ).loc Cert.Mmin.main_arg4))
      ∧ r.2.sem = fun _ => 0)

def quiescent_MminIdeal [hMminIdeal : Cert.MminIdeal.Facts] : Prop :=
  ∀ (m : (ℓ : Loc Cert.MminIdeal.nD Cert.MminIdeal.τ Cert.MminIdeal.sig) → Buf (Elt Ideal) ℓ) (g : Dev Cert.MminIdeal.nD → PrngReg), Pre_MminIdeal m →
    θ_run (Cert.MminIdeal.defs (F := Ideal)) (onTc (τ := Cert.MminIdeal.τ) (Cert.MminIdeal.main (F := Ideal))) ⟨m, fun _ => 0, g⟩ (fun r => (∀ c : Dev Cert.MminIdeal.nD,
      r.2.mem ((c.tc : Thread Cert.MminIdeal.nD Cert.MminIdeal.τ).loc Cert.MminIdeal.main_arg0) = m ((c.tc : Thread Cert.MminIdeal.nD Cert.MminIdeal.τ).loc Cert.MminIdeal.main_arg0)
      ∧ r.2.mem ((c.tc : Thread Cert.MminIdeal.nD Cert.MminIdeal.τ).loc Cert.MminIdeal.main_arg1) = m ((c.tc : Thread Cert.MminIdeal.nD Cert.MminIdeal.τ).loc Cert.MminIdeal.main_arg1)
      ∧ r.2.mem ((c.tc : Thread Cert.MminIdeal.nD Cert.MminIdeal.τ).loc Cert.MminIdeal.main_arg2) = m ((c.tc : Thread Cert.MminIdeal.nD Cert.MminIdeal.τ).loc Cert.MminIdeal.main_arg2)
      ∧ r.2.mem ((c.tc : Thread Cert.MminIdeal.nD Cert.MminIdeal.τ).loc Cert.MminIdeal.main_arg3) = m ((c.tc : Thread Cert.MminIdeal.nD Cert.MminIdeal.τ).loc Cert.MminIdeal.main_arg3)
      ∧ r.2.mem ((c.tc : Thread Cert.MminIdeal.nD Cert.MminIdeal.τ).loc Cert.MminIdeal.main_arg4) = m ((c.tc : Thread Cert.MminIdeal.nD Cert.MminIdeal.τ).loc Cert.MminIdeal.main_arg4))
      ∧ r.2.sem = fun _ => 0)

def quiescent_MminIdeal_pre_finite_in [hMminIdeal : Cert.MminIdeal.Facts] [hPre_finite_in : Cert.Pre_finite_in.Facts] : Prop :=
  ∀ (m : (ℓ : Loc Cert.MminIdeal.nD Cert.MminIdeal.τ Cert.MminIdeal.sig) → Buf (Elt Ideal) ℓ) (g : Dev Cert.MminIdeal.nD → PrngReg), Pre_MminIdeal_finite_in m →
    θ_run (Cert.MminIdeal.defs (F := Ideal)) (onTc (τ := Cert.MminIdeal.τ) (Cert.MminIdeal.main (F := Ideal))) ⟨m, fun _ => 0, g⟩ (fun r => (∀ c : Dev Cert.MminIdeal.nD,
      r.2.mem ((c.tc : Thread Cert.MminIdeal.nD Cert.MminIdeal.τ).loc Cert.MminIdeal.main_arg0) = m ((c.tc : Thread Cert.MminIdeal.nD Cert.MminIdeal.τ).loc Cert.MminIdeal.main_arg0)
      ∧ r.2.mem ((c.tc : Thread Cert.MminIdeal.nD Cert.MminIdeal.τ).loc Cert.MminIdeal.main_arg1) = m ((c.tc : Thread Cert.MminIdeal.nD Cert.MminIdeal.τ).loc Cert.MminIdeal.main_arg1)
      ∧ r.2.mem ((c.tc : Thread Cert.MminIdeal.nD Cert.MminIdeal.τ).loc Cert.MminIdeal.main_arg2) = m ((c.tc : Thread Cert.MminIdeal.nD Cert.MminIdeal.τ).loc Cert.MminIdeal.main_arg2)
      ∧ r.2.mem ((c.tc : Thread Cert.MminIdeal.nD Cert.MminIdeal.τ).loc Cert.MminIdeal.main_arg3) = m ((c.tc : Thread Cert.MminIdeal.nD Cert.MminIdeal.τ).loc Cert.MminIdeal.main_arg3)
      ∧ r.2.mem ((c.tc : Thread Cert.MminIdeal.nD Cert.MminIdeal.τ).loc Cert.MminIdeal.main_arg4) = m ((c.tc : Thread Cert.MminIdeal.nD Cert.MminIdeal.τ).loc Cert.MminIdeal.main_arg4))
      ∧ r.2.sem = fun _ => 0)

def quiescent_MminRefIdeal [hMminRefIdeal : Cert.MminRefIdeal.Facts] : Prop :=
  ∀ (m : (ℓ : Loc Cert.MminRefIdeal.nD Cert.MminRefIdeal.τ Cert.MminRefIdeal.sig) → Buf (Elt Ideal) ℓ) (g : Dev Cert.MminRefIdeal.nD → PrngReg), Pre_MminRefIdeal m →
    θ_run (Cert.MminRefIdeal.defs (F := Ideal)) (onTc (τ := Cert.MminRefIdeal.τ) (Cert.MminRefIdeal.main (F := Ideal))) ⟨m, fun _ => 0, g⟩ (fun r => (∀ c : Dev Cert.MminRefIdeal.nD,
      r.2.mem ((c.tc : Thread Cert.MminRefIdeal.nD Cert.MminRefIdeal.τ).loc Cert.MminRefIdeal.main_arg0) = m ((c.tc : Thread Cert.MminRefIdeal.nD Cert.MminRefIdeal.τ).loc Cert.MminRefIdeal.main_arg0)
      ∧ r.2.mem ((c.tc : Thread Cert.MminRefIdeal.nD Cert.MminRefIdeal.τ).loc Cert.MminRefIdeal.main_arg1) = m ((c.tc : Thread Cert.MminRefIdeal.nD Cert.MminRefIdeal.τ).loc Cert.MminRefIdeal.main_arg1)
      ∧ r.2.mem ((c.tc : Thread Cert.MminRefIdeal.nD Cert.MminRefIdeal.τ).loc Cert.MminRefIdeal.main_arg2) = m ((c.tc : Thread Cert.MminRefIdeal.nD Cert.MminRefIdeal.τ).loc Cert.MminRefIdeal.main_arg2)
      ∧ r.2.mem ((c.tc : Thread Cert.MminRefIdeal.nD Cert.MminRefIdeal.τ).loc Cert.MminRefIdeal.main_arg3) = m ((c.tc : Thread Cert.MminRefIdeal.nD Cert.MminRefIdeal.τ).loc Cert.MminRefIdeal.main_arg3)
      ∧ r.2.mem ((c.tc : Thread Cert.MminRefIdeal.nD Cert.MminRefIdeal.τ).loc Cert.MminRefIdeal.main_arg4) = m ((c.tc : Thread Cert.MminRefIdeal.nD Cert.MminRefIdeal.τ).loc Cert.MminRefIdeal.main_arg4))
      ∧ r.2.sem = fun _ => 0)

def quiescent_MminRefIdeal_pre_finite_in [hMminRefIdeal : Cert.MminRefIdeal.Facts] [hPre_finite_in : Cert.Pre_finite_in.Facts] : Prop :=
  ∀ (m : (ℓ : Loc Cert.MminRefIdeal.nD Cert.MminRefIdeal.τ Cert.MminRefIdeal.sig) → Buf (Elt Ideal) ℓ) (g : Dev Cert.MminRefIdeal.nD → PrngReg), Pre_MminRefIdeal_finite_in m →
    θ_run (Cert.MminRefIdeal.defs (F := Ideal)) (onTc (τ := Cert.MminRefIdeal.τ) (Cert.MminRefIdeal.main (F := Ideal))) ⟨m, fun _ => 0, g⟩ (fun r => (∀ c : Dev Cert.MminRefIdeal.nD,
      r.2.mem ((c.tc : Thread Cert.MminRefIdeal.nD Cert.MminRefIdeal.τ).loc Cert.MminRefIdeal.main_arg0) = m ((c.tc : Thread Cert.MminRefIdeal.nD Cert.MminRefIdeal.τ).loc Cert.MminRefIdeal.main_arg0)
      ∧ r.2.mem ((c.tc : Thread Cert.MminRefIdeal.nD Cert.MminRefIdeal.τ).loc Cert.MminRefIdeal.main_arg1) = m ((c.tc : Thread Cert.MminRefIdeal.nD Cert.MminRefIdeal.τ).loc Cert.MminRefIdeal.main_arg1)
      ∧ r.2.mem ((c.tc : Thread Cert.MminRefIdeal.nD Cert.MminRefIdeal.τ).loc Cert.MminRefIdeal.main_arg2) = m ((c.tc : Thread Cert.MminRefIdeal.nD Cert.MminRefIdeal.τ).loc Cert.MminRefIdeal.main_arg2)
      ∧ r.2.mem ((c.tc : Thread Cert.MminRefIdeal.nD Cert.MminRefIdeal.τ).loc Cert.MminRefIdeal.main_arg3) = m ((c.tc : Thread Cert.MminRefIdeal.nD Cert.MminRefIdeal.τ).loc Cert.MminRefIdeal.main_arg3)
      ∧ r.2.mem ((c.tc : Thread Cert.MminRefIdeal.nD Cert.MminRefIdeal.τ).loc Cert.MminRefIdeal.main_arg4) = m ((c.tc : Thread Cert.MminRefIdeal.nD Cert.MminRefIdeal.τ).loc Cert.MminRefIdeal.main_arg4))
      ∧ r.2.sem = fun _ => 0)

def quiescent_Mmup [hMmup : Cert.Mmup.Facts] : Prop :=
  ∀ (m : (ℓ : Loc Cert.Mmup.nD Cert.Mmup.τ Cert.Mmup.sig) → Buf (Elt Bits) ℓ) (g : Dev Cert.Mmup.nD → PrngReg), Pre_Mmup m →
    θ_run (Cert.Mmup.defs (F := Bits)) (onTc (τ := Cert.Mmup.τ) (Cert.Mmup.main (F := Bits))) ⟨m, fun _ => 0, g⟩ (fun r => (∀ c : Dev Cert.Mmup.nD,
      r.2.mem ((c.tc : Thread Cert.Mmup.nD Cert.Mmup.τ).loc Cert.Mmup.main_arg0) = m ((c.tc : Thread Cert.Mmup.nD Cert.Mmup.τ).loc Cert.Mmup.main_arg0)
      ∧ r.2.mem ((c.tc : Thread Cert.Mmup.nD Cert.Mmup.τ).loc Cert.Mmup.main_arg1) = m ((c.tc : Thread Cert.Mmup.nD Cert.Mmup.τ).loc Cert.Mmup.main_arg1)
      ∧ r.2.mem ((c.tc : Thread Cert.Mmup.nD Cert.Mmup.τ).loc Cert.Mmup.main_arg2) = m ((c.tc : Thread Cert.Mmup.nD Cert.Mmup.τ).loc Cert.Mmup.main_arg2)
      ∧ r.2.mem ((c.tc : Thread Cert.Mmup.nD Cert.Mmup.τ).loc Cert.Mmup.main_arg3) = m ((c.tc : Thread Cert.Mmup.nD Cert.Mmup.τ).loc Cert.Mmup.main_arg3)
      ∧ r.2.mem ((c.tc : Thread Cert.Mmup.nD Cert.Mmup.τ).loc Cert.Mmup.main_arg4) = m ((c.tc : Thread Cert.Mmup.nD Cert.Mmup.τ).loc Cert.Mmup.main_arg4)
      ∧ r.2.mem ((c.tc : Thread Cert.Mmup.nD Cert.Mmup.τ).loc Cert.Mmup.main_arg5) = m ((c.tc : Thread Cert.Mmup.nD Cert.Mmup.τ).loc Cert.Mmup.main_arg5))
      ∧ r.2.sem = fun _ => 0)

def quiescent_MmupIdeal [hMmupIdeal : Cert.MmupIdeal.Facts] : Prop :=
  ∀ (m : (ℓ : Loc Cert.MmupIdeal.nD Cert.MmupIdeal.τ Cert.MmupIdeal.sig) → Buf (Elt Ideal) ℓ) (g : Dev Cert.MmupIdeal.nD → PrngReg), Pre_MmupIdeal m →
    θ_run (Cert.MmupIdeal.defs (F := Ideal)) (onTc (τ := Cert.MmupIdeal.τ) (Cert.MmupIdeal.main (F := Ideal))) ⟨m, fun _ => 0, g⟩ (fun r => (∀ c : Dev Cert.MmupIdeal.nD,
      r.2.mem ((c.tc : Thread Cert.MmupIdeal.nD Cert.MmupIdeal.τ).loc Cert.MmupIdeal.main_arg0) = m ((c.tc : Thread Cert.MmupIdeal.nD Cert.MmupIdeal.τ).loc Cert.MmupIdeal.main_arg0)
      ∧ r.2.mem ((c.tc : Thread Cert.MmupIdeal.nD Cert.MmupIdeal.τ).loc Cert.MmupIdeal.main_arg1) = m ((c.tc : Thread Cert.MmupIdeal.nD Cert.MmupIdeal.τ).loc Cert.MmupIdeal.main_arg1)
      ∧ r.2.mem ((c.tc : Thread Cert.MmupIdeal.nD Cert.MmupIdeal.τ).loc Cert.MmupIdeal.main_arg2) = m ((c.tc : Thread Cert.MmupIdeal.nD Cert.MmupIdeal.τ).loc Cert.MmupIdeal.main_arg2)
      ∧ r.2.mem ((c.tc : Thread Cert.MmupIdeal.nD Cert.MmupIdeal.τ).loc Cert.MmupIdeal.main_arg3) = m ((c.tc : Thread Cert.MmupIdeal.nD Cert.MmupIdeal.τ).loc Cert.MmupIdeal.main_arg3)
      ∧ r.2.mem ((c.tc : Thread Cert.MmupIdeal.nD Cert.MmupIdeal.τ).loc Cert.MmupIdeal.main_arg4) = m ((c.tc : Thread Cert.MmupIdeal.nD Cert.MmupIdeal.τ).loc Cert.MmupIdeal.main_arg4)
      ∧ r.2.mem ((c.tc : Thread Cert.MmupIdeal.nD Cert.MmupIdeal.τ).loc Cert.MmupIdeal.main_arg5) = m ((c.tc : Thread Cert.MmupIdeal.nD Cert.MmupIdeal.τ).loc Cert.MmupIdeal.main_arg5))
      ∧ r.2.sem = fun _ => 0)

def quiescent_MmupIdeal_pre_finite_up [hMmupIdeal : Cert.MmupIdeal.Facts] [hPre_finite_up : Cert.Pre_finite_up.Facts] : Prop :=
  ∀ (m : (ℓ : Loc Cert.MmupIdeal.nD Cert.MmupIdeal.τ Cert.MmupIdeal.sig) → Buf (Elt Ideal) ℓ) (g : Dev Cert.MmupIdeal.nD → PrngReg), Pre_MmupIdeal_finite_up m →
    θ_run (Cert.MmupIdeal.defs (F := Ideal)) (onTc (τ := Cert.MmupIdeal.τ) (Cert.MmupIdeal.main (F := Ideal))) ⟨m, fun _ => 0, g⟩ (fun r => (∀ c : Dev Cert.MmupIdeal.nD,
      r.2.mem ((c.tc : Thread Cert.MmupIdeal.nD Cert.MmupIdeal.τ).loc Cert.MmupIdeal.main_arg0) = m ((c.tc : Thread Cert.MmupIdeal.nD Cert.MmupIdeal.τ).loc Cert.MmupIdeal.main_arg0)
      ∧ r.2.mem ((c.tc : Thread Cert.MmupIdeal.nD Cert.MmupIdeal.τ).loc Cert.MmupIdeal.main_arg1) = m ((c.tc : Thread Cert.MmupIdeal.nD Cert.MmupIdeal.τ).loc Cert.MmupIdeal.main_arg1)
      ∧ r.2.mem ((c.tc : Thread Cert.MmupIdeal.nD Cert.MmupIdeal.τ).loc Cert.MmupIdeal.main_arg2) = m ((c.tc : Thread Cert.MmupIdeal.nD Cert.MmupIdeal.τ).loc Cert.MmupIdeal.main_arg2)
      ∧ r.2.mem ((c.tc : Thread Cert.MmupIdeal.nD Cert.MmupIdeal.τ).loc Cert.MmupIdeal.main_arg3) = m ((c.tc : Thread Cert.MmupIdeal.nD Cert.MmupIdeal.τ).loc Cert.MmupIdeal.main_arg3)
      ∧ r.2.mem ((c.tc : Thread Cert.MmupIdeal.nD Cert.MmupIdeal.τ).loc Cert.MmupIdeal.main_arg4) = m ((c.tc : Thread Cert.MmupIdeal.nD Cert.MmupIdeal.τ).loc Cert.MmupIdeal.main_arg4)
      ∧ r.2.mem ((c.tc : Thread Cert.MmupIdeal.nD Cert.MmupIdeal.τ).loc Cert.MmupIdeal.main_arg5) = m ((c.tc : Thread Cert.MmupIdeal.nD Cert.MmupIdeal.τ).loc Cert.MmupIdeal.main_arg5))
      ∧ r.2.sem = fun _ => 0)

def quiescent_MmupRefIdeal [hMmupRefIdeal : Cert.MmupRefIdeal.Facts] : Prop :=
  ∀ (m : (ℓ : Loc Cert.MmupRefIdeal.nD Cert.MmupRefIdeal.τ Cert.MmupRefIdeal.sig) → Buf (Elt Ideal) ℓ) (g : Dev Cert.MmupRefIdeal.nD → PrngReg), Pre_MmupRefIdeal m →
    θ_run (Cert.MmupRefIdeal.defs (F := Ideal)) (onTc (τ := Cert.MmupRefIdeal.τ) (Cert.MmupRefIdeal.main (F := Ideal))) ⟨m, fun _ => 0, g⟩ (fun r => (∀ c : Dev Cert.MmupRefIdeal.nD,
      r.2.mem ((c.tc : Thread Cert.MmupRefIdeal.nD Cert.MmupRefIdeal.τ).loc Cert.MmupRefIdeal.main_arg0) = m ((c.tc : Thread Cert.MmupRefIdeal.nD Cert.MmupRefIdeal.τ).loc Cert.MmupRefIdeal.main_arg0)
      ∧ r.2.mem ((c.tc : Thread Cert.MmupRefIdeal.nD Cert.MmupRefIdeal.τ).loc Cert.MmupRefIdeal.main_arg1) = m ((c.tc : Thread Cert.MmupRefIdeal.nD Cert.MmupRefIdeal.τ).loc Cert.MmupRefIdeal.main_arg1)
      ∧ r.2.mem ((c.tc : Thread Cert.MmupRefIdeal.nD Cert.MmupRefIdeal.τ).loc Cert.MmupRefIdeal.main_arg2) = m ((c.tc : Thread Cert.MmupRefIdeal.nD Cert.MmupRefIdeal.τ).loc Cert.MmupRefIdeal.main_arg2)
      ∧ r.2.mem ((c.tc : Thread Cert.MmupRefIdeal.nD Cert.MmupRefIdeal.τ).loc Cert.MmupRefIdeal.main_arg3) = m ((c.tc : Thread Cert.MmupRefIdeal.nD Cert.MmupRefIdeal.τ).loc Cert.MmupRefIdeal.main_arg3)
      ∧ r.2.mem ((c.tc : Thread Cert.MmupRefIdeal.nD Cert.MmupRefIdeal.τ).loc Cert.MmupRefIdeal.main_arg4) = m ((c.tc : Thread Cert.MmupRefIdeal.nD Cert.MmupRefIdeal.τ).loc Cert.MmupRefIdeal.main_arg4)
      ∧ r.2.mem ((c.tc : Thread Cert.MmupRefIdeal.nD Cert.MmupRefIdeal.τ).loc Cert.MmupRefIdeal.main_arg5) = m ((c.tc : Thread Cert.MmupRefIdeal.nD Cert.MmupRefIdeal.τ).loc Cert.MmupRefIdeal.main_arg5))
      ∧ r.2.sem = fun _ => 0)

def quiescent_MmupRefIdeal_pre_finite_up [hMmupRefIdeal : Cert.MmupRefIdeal.Facts] [hPre_finite_up : Cert.Pre_finite_up.Facts] : Prop :=
  ∀ (m : (ℓ : Loc Cert.MmupRefIdeal.nD Cert.MmupRefIdeal.τ Cert.MmupRefIdeal.sig) → Buf (Elt Ideal) ℓ) (g : Dev Cert.MmupRefIdeal.nD → PrngReg), Pre_MmupRefIdeal_finite_up m →
    θ_run (Cert.MmupRefIdeal.defs (F := Ideal)) (onTc (τ := Cert.MmupRefIdeal.τ) (Cert.MmupRefIdeal.main (F := Ideal))) ⟨m, fun _ => 0, g⟩ (fun r => (∀ c : Dev Cert.MmupRefIdeal.nD,
      r.2.mem ((c.tc : Thread Cert.MmupRefIdeal.nD Cert.MmupRefIdeal.τ).loc Cert.MmupRefIdeal.main_arg0) = m ((c.tc : Thread Cert.MmupRefIdeal.nD Cert.MmupRefIdeal.τ).loc Cert.MmupRefIdeal.main_arg0)
      ∧ r.2.mem ((c.tc : Thread Cert.MmupRefIdeal.nD Cert.MmupRefIdeal.τ).loc Cert.MmupRefIdeal.main_arg1) = m ((c.tc : Thread Cert.MmupRefIdeal.nD Cert.MmupRefIdeal.τ).loc Cert.MmupRefIdeal.main_arg1)
      ∧ r.2.mem ((c.tc : Thread Cert.MmupRefIdeal.nD Cert.MmupRefIdeal.τ).loc Cert.MmupRefIdeal.main_arg2) = m ((c.tc : Thread Cert.MmupRefIdeal.nD Cert.MmupRefIdeal.τ).loc Cert.MmupRefIdeal.main_arg2)
      ∧ r.2.mem ((c.tc : Thread Cert.MmupRefIdeal.nD Cert.MmupRefIdeal.τ).loc Cert.MmupRefIdeal.main_arg3) = m ((c.tc : Thread Cert.MmupRefIdeal.nD Cert.MmupRefIdeal.τ).loc Cert.MmupRefIdeal.main_arg3)
      ∧ r.2.mem ((c.tc : Thread Cert.MmupRefIdeal.nD Cert.MmupRefIdeal.τ).loc Cert.MmupRefIdeal.main_arg4) = m ((c.tc : Thread Cert.MmupRefIdeal.nD Cert.MmupRefIdeal.τ).loc Cert.MmupRefIdeal.main_arg4)
      ∧ r.2.mem ((c.tc : Thread Cert.MmupRefIdeal.nD Cert.MmupRefIdeal.τ).loc Cert.MmupRefIdeal.main_arg5) = m ((c.tc : Thread Cert.MmupRefIdeal.nD Cert.MmupRefIdeal.τ).loc Cert.MmupRefIdeal.main_arg5))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Asm [hAsm : Cert.Asm.Facts] : Prop :=
  ∀ (m : (ℓ : Loc Cert.Asm.nD Cert.Asm.τ Cert.Asm.sig) → Buf (Elt Bits) ℓ) (g : Dev Cert.Asm.nD → PrngReg), Pre_Asm m →
    θ_run (Cert.Asm.defs (F := Bits)) (onTc (τ := Cert.Asm.τ) (Cert.Asm.main (F := Bits))) ⟨m, fun _ => 0, g⟩ (fun r => (∀ c : Dev Cert.Asm.nD,
      r.2.mem ((c.tc : Thread Cert.Asm.nD Cert.Asm.τ).loc Cert.Asm.main_arg0) = m ((c.tc : Thread Cert.Asm.nD Cert.Asm.τ).loc Cert.Asm.main_arg0)
      ∧ r.2.mem ((c.tc : Thread Cert.Asm.nD Cert.Asm.τ).loc Cert.Asm.main_arg1) = m ((c.tc : Thread Cert.Asm.nD Cert.Asm.τ).loc Cert.Asm.main_arg1)
      ∧ r.2.mem ((c.tc : Thread Cert.Asm.nD Cert.Asm.τ).loc Cert.Asm.main_arg2) = m ((c.tc : Thread Cert.Asm.nD Cert.Asm.τ).loc Cert.Asm.main_arg2)
      ∧ r.2.mem ((c.tc : Thread Cert.Asm.nD Cert.Asm.τ).loc Cert.Asm.main_arg3) = m ((c.tc : Thread Cert.Asm.nD Cert.Asm.τ).loc Cert.Asm.main_arg3)
      ∧ r.2.mem ((c.tc : Thread Cert.Asm.nD Cert.Asm.τ).loc Cert.Asm.main_arg4) = m ((c.tc : Thread Cert.Asm.nD Cert.Asm.τ).loc Cert.Asm.main_arg4)
      ∧ r.2.mem ((c.tc : Thread Cert.Asm.nD Cert.Asm.τ).loc Cert.Asm.main_arg5) = m ((c.tc : Thread Cert.Asm.nD Cert.Asm.τ).loc Cert.Asm.main_arg5)
      ∧ r.2.mem ((c.tc : Thread Cert.Asm.nD Cert.Asm.τ).loc Cert.Asm.main_arg6) = m ((c.tc : Thread Cert.Asm.nD Cert.Asm.τ).loc Cert.Asm.main_arg6)
      ∧ r.2.mem ((c.tc : Thread Cert.Asm.nD Cert.Asm.τ).loc Cert.Asm.main_arg7) = m ((c.tc : Thread Cert.Asm.nD Cert.Asm.τ).loc Cert.Asm.main_arg7)
      ∧ r.2.mem ((c.tc : Thread Cert.Asm.nD Cert.Asm.τ).loc Cert.Asm.main_arg8) = m ((c.tc : Thread Cert.Asm.nD Cert.Asm.τ).loc Cert.Asm.main_arg8))
      ∧ r.2.sem = fun _ => 0)

def quiescent_AsmIdeal [hAsmIdeal : Cert.AsmIdeal.Facts] : Prop :=
  ∀ (m : (ℓ : Loc Cert.AsmIdeal.nD Cert.AsmIdeal.τ Cert.AsmIdeal.sig) → Buf (Elt Ideal) ℓ) (g : Dev Cert.AsmIdeal.nD → PrngReg), Pre_AsmIdeal m →
    θ_run (Cert.AsmIdeal.defs (F := Ideal)) (onTc (τ := Cert.AsmIdeal.τ) (Cert.AsmIdeal.main (F := Ideal))) ⟨m, fun _ => 0, g⟩ (fun r => (∀ c : Dev Cert.AsmIdeal.nD,
      r.2.mem ((c.tc : Thread Cert.AsmIdeal.nD Cert.AsmIdeal.τ).loc Cert.AsmIdeal.main_arg0) = m ((c.tc : Thread Cert.AsmIdeal.nD Cert.AsmIdeal.τ).loc Cert.AsmIdeal.main_arg0)
      ∧ r.2.mem ((c.tc : Thread Cert.AsmIdeal.nD Cert.AsmIdeal.τ).loc Cert.AsmIdeal.main_arg1) = m ((c.tc : Thread Cert.AsmIdeal.nD Cert.AsmIdeal.τ).loc Cert.AsmIdeal.main_arg1)
      ∧ r.2.mem ((c.tc : Thread Cert.AsmIdeal.nD Cert.AsmIdeal.τ).loc Cert.AsmIdeal.main_arg2) = m ((c.tc : Thread Cert.AsmIdeal.nD Cert.AsmIdeal.τ).loc Cert.AsmIdeal.main_arg2)
      ∧ r.2.mem ((c.tc : Thread Cert.AsmIdeal.nD Cert.AsmIdeal.τ).loc Cert.AsmIdeal.main_arg3) = m ((c.tc : Thread Cert.AsmIdeal.nD Cert.AsmIdeal.τ).loc Cert.AsmIdeal.main_arg3)
      ∧ r.2.mem ((c.tc : Thread Cert.AsmIdeal.nD Cert.AsmIdeal.τ).loc Cert.AsmIdeal.main_arg4) = m ((c.tc : Thread Cert.AsmIdeal.nD Cert.AsmIdeal.τ).loc Cert.AsmIdeal.main_arg4)
      ∧ r.2.mem ((c.tc : Thread Cert.AsmIdeal.nD Cert.AsmIdeal.τ).loc Cert.AsmIdeal.main_arg5) = m ((c.tc : Thread Cert.AsmIdeal.nD Cert.AsmIdeal.τ).loc Cert.AsmIdeal.main_arg5)
      ∧ r.2.mem ((c.tc : Thread Cert.AsmIdeal.nD Cert.AsmIdeal.τ).loc Cert.AsmIdeal.main_arg6) = m ((c.tc : Thread Cert.AsmIdeal.nD Cert.AsmIdeal.τ).loc Cert.AsmIdeal.main_arg6)
      ∧ r.2.mem ((c.tc : Thread Cert.AsmIdeal.nD Cert.AsmIdeal.τ).loc Cert.AsmIdeal.main_arg7) = m ((c.tc : Thread Cert.AsmIdeal.nD Cert.AsmIdeal.τ).loc Cert.AsmIdeal.main_arg7)
      ∧ r.2.mem ((c.tc : Thread Cert.AsmIdeal.nD Cert.AsmIdeal.τ).loc Cert.AsmIdeal.main_arg8) = m ((c.tc : Thread Cert.AsmIdeal.nD Cert.AsmIdeal.τ).loc Cert.AsmIdeal.main_arg8))
      ∧ r.2.sem = fun _ => 0)

def quiescent_AsmRefIdeal [hAsmRefIdeal : Cert.AsmRefIdeal.Facts] : Prop :=
  ∀ (m : (ℓ : Loc Cert.AsmRefIdeal.nD Cert.AsmRefIdeal.τ Cert.AsmRefIdeal.sig) → Buf (Elt Ideal) ℓ) (g : Dev Cert.AsmRefIdeal.nD → PrngReg), Pre_AsmRefIdeal m →
    θ_run (Cert.AsmRefIdeal.defs (F := Ideal)) (onTc (τ := Cert.AsmRefIdeal.τ) (Cert.AsmRefIdeal.main (F := Ideal))) ⟨m, fun _ => 0, g⟩ (fun r => (∀ c : Dev Cert.AsmRefIdeal.nD,
      r.2.mem ((c.tc : Thread Cert.AsmRefIdeal.nD Cert.AsmRefIdeal.τ).loc Cert.AsmRefIdeal.main_arg0) = m ((c.tc : Thread Cert.AsmRefIdeal.nD Cert.AsmRefIdeal.τ).loc Cert.AsmRefIdeal.main_arg0)
      ∧ r.2.mem ((c.tc : Thread Cert.AsmRefIdeal.nD Cert.AsmRefIdeal.τ).loc Cert.AsmRefIdeal.main_arg1) = m ((c.tc : Thread Cert.AsmRefIdeal.nD Cert.AsmRefIdeal.τ).loc Cert.AsmRefIdeal.main_arg1)
      ∧ r.2.mem ((c.tc : Thread Cert.AsmRefIdeal.nD Cert.AsmRefIdeal.τ).loc Cert.AsmRefIdeal.main_arg2) = m ((c.tc : Thread Cert.AsmRefIdeal.nD Cert.AsmRefIdeal.τ).loc Cert.AsmRefIdeal.main_arg2)
      ∧ r.2.mem ((c.tc : Thread Cert.AsmRefIdeal.nD Cert.AsmRefIdeal.τ).loc Cert.AsmRefIdeal.main_arg3) = m ((c.tc : Thread Cert.AsmRefIdeal.nD Cert.AsmRefIdeal.τ).loc Cert.AsmRefIdeal.main_arg3)
      ∧ r.2.mem ((c.tc : Thread Cert.AsmRefIdeal.nD Cert.AsmRefIdeal.τ).loc Cert.AsmRefIdeal.main_arg4) = m ((c.tc : Thread Cert.AsmRefIdeal.nD Cert.AsmRefIdeal.τ).loc Cert.AsmRefIdeal.main_arg4)
      ∧ r.2.mem ((c.tc : Thread Cert.AsmRefIdeal.nD Cert.AsmRefIdeal.τ).loc Cert.AsmRefIdeal.main_arg5) = m ((c.tc : Thread Cert.AsmRefIdeal.nD Cert.AsmRefIdeal.τ).loc Cert.AsmRefIdeal.main_arg5)
      ∧ r.2.mem ((c.tc : Thread Cert.AsmRefIdeal.nD Cert.AsmRefIdeal.τ).loc Cert.AsmRefIdeal.main_arg6) = m ((c.tc : Thread Cert.AsmRefIdeal.nD Cert.AsmRefIdeal.τ).loc Cert.AsmRefIdeal.main_arg6)
      ∧ r.2.mem ((c.tc : Thread Cert.AsmRefIdeal.nD Cert.AsmRefIdeal.τ).loc Cert.AsmRefIdeal.main_arg7) = m ((c.tc : Thread Cert.AsmRefIdeal.nD Cert.AsmRefIdeal.τ).loc Cert.AsmRefIdeal.main_arg7)
      ∧ r.2.mem ((c.tc : Thread Cert.AsmRefIdeal.nD Cert.AsmRefIdeal.τ).loc Cert.AsmRefIdeal.main_arg8) = m ((c.tc : Thread Cert.AsmRefIdeal.nD Cert.AsmRefIdeal.τ).loc Cert.AsmRefIdeal.main_arg8))
      ∧ r.2.sem = fun _ => 0)

def quiescent_Swaf [hSwaf : Cert.Swaf.Facts] : Prop :=
  ∀ (m : (ℓ : Loc Cert.Swaf.nD Cert.Swaf.τ Cert.Swaf.sig) → Buf (Elt Bits) ℓ) (g : Dev Cert.Swaf.nD → PrngReg), Pre_Swaf m →
    θ_run (Cert.Swaf.defs (F := Bits)) (onTc (τ := Cert.Swaf.τ) (Cert.Swaf.main (F := Bits))) ⟨m, fun _ => 0, g⟩ (fun r => (∀ c : Dev Cert.Swaf.nD,
      r.2.mem ((c.tc : Thread Cert.Swaf.nD Cert.Swaf.τ).loc Cert.Swaf.main_arg0) = m ((c.tc : Thread Cert.Swaf.nD Cert.Swaf.τ).loc Cert.Swaf.main_arg0)
      ∧ r.2.mem ((c.tc : Thread Cert.Swaf.nD Cert.Swaf.τ).loc Cert.Swaf.main_arg1) = m ((c.tc : Thread Cert.Swaf.nD Cert.Swaf.τ).loc Cert.Swaf.main_arg1)
      ∧ r.2.mem ((c.tc : Thread Cert.Swaf.nD Cert.Swaf.τ).loc Cert.Swaf.main_arg2) = m ((c.tc : Thread Cert.Swaf.nD Cert.Swaf.τ).loc Cert.Swaf.main_arg2))
      ∧ r.2.sem = fun _ => 0)

def quiescent_SwafIdeal [hSwafIdeal : Cert.SwafIdeal.Facts] : Prop :=
  ∀ (m : (ℓ : Loc Cert.SwafIdeal.nD Cert.SwafIdeal.τ Cert.SwafIdeal.sig) → Buf (Elt Ideal) ℓ) (g : Dev Cert.SwafIdeal.nD → PrngReg), Pre_SwafIdeal m →
    θ_run (Cert.SwafIdeal.defs (F := Ideal)) (onTc (τ := Cert.SwafIdeal.τ) (Cert.SwafIdeal.main (F := Ideal))) ⟨m, fun _ => 0, g⟩ (fun r => (∀ c : Dev Cert.SwafIdeal.nD,
      r.2.mem ((c.tc : Thread Cert.SwafIdeal.nD Cert.SwafIdeal.τ).loc Cert.SwafIdeal.main_arg0) = m ((c.tc : Thread Cert.SwafIdeal.nD Cert.SwafIdeal.τ).loc Cert.SwafIdeal.main_arg0)
      ∧ r.2.mem ((c.tc : Thread Cert.SwafIdeal.nD Cert.SwafIdeal.τ).loc Cert.SwafIdeal.main_arg1) = m ((c.tc : Thread Cert.SwafIdeal.nD Cert.SwafIdeal.τ).loc Cert.SwafIdeal.main_arg1)
      ∧ r.2.mem ((c.tc : Thread Cert.SwafIdeal.nD Cert.SwafIdeal.τ).loc Cert.SwafIdeal.main_arg2) = m ((c.tc : Thread Cert.SwafIdeal.nD Cert.SwafIdeal.τ).loc Cert.SwafIdeal.main_arg2))
      ∧ r.2.sem = fun _ => 0)

def quiescent_SwafIdeal_pre_finite_swaf [hSwafIdeal : Cert.SwafIdeal.Facts] [hPre_finite_swaf : Cert.Pre_finite_swaf.Facts] : Prop :=
  ∀ (m : (ℓ : Loc Cert.SwafIdeal.nD Cert.SwafIdeal.τ Cert.SwafIdeal.sig) → Buf (Elt Ideal) ℓ) (g : Dev Cert.SwafIdeal.nD → PrngReg), Pre_SwafIdeal_finite_swaf m →
    θ_run (Cert.SwafIdeal.defs (F := Ideal)) (onTc (τ := Cert.SwafIdeal.τ) (Cert.SwafIdeal.main (F := Ideal))) ⟨m, fun _ => 0, g⟩ (fun r => (∀ c : Dev Cert.SwafIdeal.nD,
      r.2.mem ((c.tc : Thread Cert.SwafIdeal.nD Cert.SwafIdeal.τ).loc Cert.SwafIdeal.main_arg0) = m ((c.tc : Thread Cert.SwafIdeal.nD Cert.SwafIdeal.τ).loc Cert.SwafIdeal.main_arg0)
      ∧ r.2.mem ((c.tc : Thread Cert.SwafIdeal.nD Cert.SwafIdeal.τ).loc Cert.SwafIdeal.main_arg1) = m ((c.tc : Thread Cert.SwafIdeal.nD Cert.SwafIdeal.τ).loc Cert.SwafIdeal.main_arg1)
      ∧ r.2.mem ((c.tc : Thread Cert.SwafIdeal.nD Cert.SwafIdeal.τ).loc Cert.SwafIdeal.main_arg2) = m ((c.tc : Thread Cert.SwafIdeal.nD Cert.SwafIdeal.τ).loc Cert.SwafIdeal.main_arg2))
      ∧ r.2.sem = fun _ => 0)

def quiescent_SwafRefIdeal [hSwafRefIdeal : Cert.SwafRefIdeal.Facts] : Prop :=
  ∀ (m : (ℓ : Loc Cert.SwafRefIdeal.nD Cert.SwafRefIdeal.τ Cert.SwafRefIdeal.sig) → Buf (Elt Ideal) ℓ) (g : Dev Cert.SwafRefIdeal.nD → PrngReg), Pre_SwafRefIdeal m →
    θ_run (Cert.SwafRefIdeal.defs (F := Ideal)) (onTc (τ := Cert.SwafRefIdeal.τ) (Cert.SwafRefIdeal.main (F := Ideal))) ⟨m, fun _ => 0, g⟩ (fun r => (∀ c : Dev Cert.SwafRefIdeal.nD,
      r.2.mem ((c.tc : Thread Cert.SwafRefIdeal.nD Cert.SwafRefIdeal.τ).loc Cert.SwafRefIdeal.main_arg0) = m ((c.tc : Thread Cert.SwafRefIdeal.nD Cert.SwafRefIdeal.τ).loc Cert.SwafRefIdeal.main_arg0)
      ∧ r.2.mem ((c.tc : Thread Cert.SwafRefIdeal.nD Cert.SwafRefIdeal.τ).loc Cert.SwafRefIdeal.main_arg1) = m ((c.tc : Thread Cert.SwafRefIdeal.nD Cert.SwafRefIdeal.τ).loc Cert.SwafRefIdeal.main_arg1)
      ∧ r.2.mem ((c.tc : Thread Cert.SwafRefIdeal.nD Cert.SwafRefIdeal.τ).loc Cert.SwafRefIdeal.main_arg2) = m ((c.tc : Thread Cert.SwafRefIdeal.nD Cert.SwafRefIdeal.τ).loc Cert.SwafRefIdeal.main_arg2))
      ∧ r.2.sem = fun _ => 0)

def quiescent_SwafRefIdeal_pre_finite_swaf [hSwafRefIdeal : Cert.SwafRefIdeal.Facts] [hPre_finite_swaf : Cert.Pre_finite_swaf.Facts] : Prop :=
  ∀ (m : (ℓ : Loc Cert.SwafRefIdeal.nD Cert.SwafRefIdeal.τ Cert.SwafRefIdeal.sig) → Buf (Elt Ideal) ℓ) (g : Dev Cert.SwafRefIdeal.nD → PrngReg), Pre_SwafRefIdeal_finite_swaf m →
    θ_run (Cert.SwafRefIdeal.defs (F := Ideal)) (onTc (τ := Cert.SwafRefIdeal.τ) (Cert.SwafRefIdeal.main (F := Ideal))) ⟨m, fun _ => 0, g⟩ (fun r => (∀ c : Dev Cert.SwafRefIdeal.nD,
      r.2.mem ((c.tc : Thread Cert.SwafRefIdeal.nD Cert.SwafRefIdeal.τ).loc Cert.SwafRefIdeal.main_arg0) = m ((c.tc : Thread Cert.SwafRefIdeal.nD Cert.SwafRefIdeal.τ).loc Cert.SwafRefIdeal.main_arg0)
      ∧ r.2.mem ((c.tc : Thread Cert.SwafRefIdeal.nD Cert.SwafRefIdeal.τ).loc Cert.SwafRefIdeal.main_arg1) = m ((c.tc : Thread Cert.SwafRefIdeal.nD Cert.SwafRefIdeal.τ).loc Cert.SwafRefIdeal.main_arg1)
      ∧ r.2.mem ((c.tc : Thread Cert.SwafRefIdeal.nD Cert.SwafRefIdeal.τ).loc Cert.SwafRefIdeal.main_arg2) = m ((c.tc : Thread Cert.SwafRefIdeal.nD Cert.SwafRefIdeal.τ).loc Cert.SwafRefIdeal.main_arg2))
      ∧ r.2.sem = fun _ => 0)

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0)
      ∧ r.2.mem ((c.tc : Thread Cert.Lb.nD Cert.Lb.τ).loc Cert.Lb.main_arg1) = m ((c.tc : Thread Cert.Lb.nD Cert.Lb.τ).loc Cert.Lb.main_arg1))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbIdeal_pre_off_floor [hLbIdeal : Cert.LbIdeal.Facts] [hPre_off_floor : Cert.Pre_off_floor.Facts] : Prop :=
  ∀ (m : (ℓ : Loc Cert.LbIdeal.nD Cert.LbIdeal.τ Cert.LbIdeal.sig) → Buf (Elt Ideal) ℓ) (g : Dev Cert.LbIdeal.nD → PrngReg), Pre_LbIdeal_off_floor m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_LbRefIdeal_pre_off_floor [hLbRefIdeal : Cert.LbRefIdeal.Facts] [hPre_off_floor : Cert.Pre_off_floor.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_off_floor m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_Convf [hConvf : Cert.Convf.Facts] : Prop :=
  ∀ (m : (ℓ : Loc Cert.Convf.nD Cert.Convf.τ Cert.Convf.sig) → Buf (Elt Bits) ℓ) (g : Dev Cert.Convf.nD → PrngReg), Pre_Convf m →
    θ_run (Cert.Convf.defs (F := Bits)) (onTc (τ := Cert.Convf.τ) (Cert.Convf.main (F := Bits))) ⟨m, fun _ => 0, g⟩ (fun r => (∀ c : Dev Cert.Convf.nD,
      r.2.mem ((c.tc : Thread Cert.Convf.nD Cert.Convf.τ).loc Cert.Convf.main_arg0) = m ((c.tc : Thread Cert.Convf.nD Cert.Convf.τ).loc Cert.Convf.main_arg0)
      ∧ r.2.mem ((c.tc : Thread Cert.Convf.nD Cert.Convf.τ).loc Cert.Convf.main_arg1) = m ((c.tc : Thread Cert.Convf.nD Cert.Convf.τ).loc Cert.Convf.main_arg1)
      ∧ r.2.mem ((c.tc : Thread Cert.Convf.nD Cert.Convf.τ).loc Cert.Convf.main_arg2) = m ((c.tc : Thread Cert.Convf.nD Cert.Convf.τ).loc Cert.Convf.main_arg2))
      ∧ r.2.sem = fun _ => 0)

def quiescent_ConvfIdeal [hConvfIdeal : Cert.ConvfIdeal.Facts] : Prop :=
  ∀ (m : (ℓ : Loc Cert.ConvfIdeal.nD Cert.ConvfIdeal.τ Cert.ConvfIdeal.sig) → Buf (Elt Ideal) ℓ) (g : Dev Cert.ConvfIdeal.nD → PrngReg), Pre_ConvfIdeal m →
    θ_run (Cert.ConvfIdeal.defs (F := Ideal)) (onTc (τ := Cert.ConvfIdeal.τ) (Cert.ConvfIdeal.main (F := Ideal))) ⟨m, fun _ => 0, g⟩ (fun r => (∀ c : Dev Cert.ConvfIdeal.nD,
      r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
      ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1)
      ∧ r.2.mem ((c.tc : Thread Cert.ConvfIdeal.nD Cert.ConvfIdeal.τ).loc Cert.ConvfIdeal.main_arg2) = m ((c.tc : Thread Cert.ConvfIdeal.nD Cert.ConvfIdeal.τ).loc Cert.ConvfIdeal.main_arg2))
      ∧ r.2.sem = fun _ => 0)

def quiescent_ConvfRefIdeal [hConvfRefIdeal : Cert.ConvfRefIdeal.Facts] : Prop :=
  ∀ (m : (ℓ : Loc Cert.ConvfRefIdeal.nD Cert.ConvfRefIdeal.τ Cert.ConvfRefIdeal.sig) → Buf (Elt Ideal) ℓ) (g : Dev Cert.ConvfRefIdeal.nD → PrngReg), Pre_ConvfRefIdeal m →
    θ_run (Cert.ConvfRefIdeal.defs (F := Ideal)) (onTc (τ := Cert.ConvfRefIdeal.τ) (Cert.ConvfRefIdeal.main (F := Ideal))) ⟨m, fun _ => 0, g⟩ (fun r => (∀ c : Dev Cert.ConvfRefIdeal.nD,
      r.2.mem ((c.tc : Thread Cert.ConvfRefIdeal.nD Cert.ConvfRefIdeal.τ).loc Cert.ConvfRefIdeal.main_arg0) = m ((c.tc : Thread Cert.ConvfRefIdeal.nD Cert.ConvfRefIdeal.τ).loc Cert.ConvfRefIdeal.main_arg0)
      ∧ r.2.mem ((c.tc : Thread Cert.ConvfRefIdeal.nD Cert.ConvfRefIdeal.τ).loc Cert.ConvfRefIdeal.main_arg1) = m ((c.tc : Thread Cert.ConvfRefIdeal.nD Cert.ConvfRefIdeal.τ).loc Cert.ConvfRefIdeal.main_arg1)
      ∧ r.2.mem ((c.tc : Thread Cert.ConvfRefIdeal.nD Cert.ConvfRefIdeal.τ).loc Cert.ConvfRefIdeal.main_arg2) = m ((c.tc : Thread Cert.ConvfRefIdeal.nD Cert.ConvfRefIdeal.τ).loc Cert.ConvfRefIdeal.main_arg2))
      ∧ r.2.sem = fun _ => 0)

def quiescent_Plef [hPlef : Cert.Plef.Facts] : Prop :=
  ∀ (m : (ℓ : Loc Cert.Plef.nD Cert.Plef.τ Cert.Plef.sig) → Buf (Elt Bits) ℓ) (g : Dev Cert.Plef.nD → PrngReg), Pre_Plef m →
    θ_run (Cert.Plef.defs (F := Bits)) (onTc (τ := Cert.Plef.τ) (Cert.Plef.main (F := Bits))) ⟨m, fun _ => 0, g⟩ (fun r => (∀ c : Dev Cert.Plef.nD,
      r.2.mem ((c.tc : Thread Cert.Plef.nD Cert.Plef.τ).loc Cert.Plef.main_arg0) = m ((c.tc : Thread Cert.Plef.nD Cert.Plef.τ).loc Cert.Plef.main_arg0)
      ∧ r.2.mem ((c.tc : Thread Cert.Plef.nD Cert.Plef.τ).loc Cert.Plef.main_arg1) = m ((c.tc : Thread Cert.Plef.nD Cert.Plef.τ).loc Cert.Plef.main_arg1)
      ∧ r.2.mem ((c.tc : Thread Cert.Plef.nD Cert.Plef.τ).loc Cert.Plef.main_arg2) = m ((c.tc : Thread Cert.Plef.nD Cert.Plef.τ).loc Cert.Plef.main_arg2)
      ∧ r.2.mem ((c.tc : Thread Cert.Plef.nD Cert.Plef.τ).loc Cert.Plef.main_arg3) = m ((c.tc : Thread Cert.Plef.nD Cert.Plef.τ).loc Cert.Plef.main_arg3)
      ∧ r.2.mem ((c.tc : Thread Cert.Plef.nD Cert.Plef.τ).loc Cert.Plef.main_arg4) = m ((c.tc : Thread Cert.Plef.nD Cert.Plef.τ).loc Cert.Plef.main_arg4))
      ∧ r.2.sem = fun _ => 0)

def quiescent_PlefIdeal [hPlefIdeal : Cert.PlefIdeal.Facts] : Prop :=
  ∀ (m : (ℓ : Loc Cert.PlefIdeal.nD Cert.PlefIdeal.τ Cert.PlefIdeal.sig) → Buf (Elt Ideal) ℓ) (g : Dev Cert.PlefIdeal.nD → PrngReg), Pre_PlefIdeal m →
    θ_run (Cert.PlefIdeal.defs (F := Ideal)) (onTc (τ := Cert.PlefIdeal.τ) (Cert.PlefIdeal.main (F := Ideal))) ⟨m, fun _ => 0, g⟩ (fun r => (∀ c : Dev Cert.PlefIdeal.nD,
      r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
      ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
      ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
      ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3)
      ∧ r.2.mem ((c.tc : Thread Cert.PlefIdeal.nD Cert.PlefIdeal.τ).loc Cert.PlefIdeal.main_arg4) = m ((c.tc : Thread Cert.PlefIdeal.nD Cert.PlefIdeal.τ).loc Cert.PlefIdeal.main_arg4))
      ∧ r.2.sem = fun _ => 0)

def quiescent_PlefRefIdeal [hPlefRefIdeal : Cert.PlefRefIdeal.Facts] : Prop :=
  ∀ (m : (ℓ : Loc Cert.PlefRefIdeal.nD Cert.PlefRefIdeal.τ Cert.PlefRefIdeal.sig) → Buf (Elt Ideal) ℓ) (g : Dev Cert.PlefRefIdeal.nD → PrngReg), Pre_PlefRefIdeal m →
    θ_run (Cert.PlefRefIdeal.defs (F := Ideal)) (onTc (τ := Cert.PlefRefIdeal.τ) (Cert.PlefRefIdeal.main (F := Ideal))) ⟨m, fun _ => 0, g⟩ (fun r => (∀ c : Dev Cert.PlefRefIdeal.nD,
      r.2.mem ((c.tc : Thread Cert.PlefRefIdeal.nD Cert.PlefRefIdeal.τ).loc Cert.PlefRefIdeal.main_arg0) = m ((c.tc : Thread Cert.PlefRefIdeal.nD Cert.PlefRefIdeal.τ).loc Cert.PlefRefIdeal.main_arg0)
      ∧ r.2.mem ((c.tc : Thread Cert.PlefRefIdeal.nD Cert.PlefRefIdeal.τ).loc Cert.PlefRefIdeal.main_arg1) = m ((c.tc : Thread Cert.PlefRefIdeal.nD Cert.PlefRefIdeal.τ).loc Cert.PlefRefIdeal.main_arg1)
      ∧ r.2.mem ((c.tc : Thread Cert.PlefRefIdeal.nD Cert.PlefRefIdeal.τ).loc Cert.PlefRefIdeal.main_arg2) = m ((c.tc : Thread Cert.PlefRefIdeal.nD Cert.PlefRefIdeal.τ).loc Cert.PlefRefIdeal.main_arg2)
      ∧ r.2.mem ((c.tc : Thread Cert.PlefRefIdeal.nD Cert.PlefRefIdeal.τ).loc Cert.PlefRefIdeal.main_arg3) = m ((c.tc : Thread Cert.PlefRefIdeal.nD Cert.PlefRefIdeal.τ).loc Cert.PlefRefIdeal.main_arg3)
      ∧ r.2.mem ((c.tc : Thread Cert.PlefRefIdeal.nD Cert.PlefRefIdeal.τ).loc Cert.PlefRefIdeal.main_arg4) = m ((c.tc : Thread Cert.PlefRefIdeal.nD Cert.PlefRefIdeal.τ).loc Cert.PlefRefIdeal.main_arg4))
      ∧ r.2.sem = fun _ => 0)

def quiescent_Lbf [hLbf : Cert.Lbf.Facts] : Prop :=
  ∀ (m : (ℓ : Loc Cert.Lbf.nD Cert.Lbf.τ Cert.Lbf.sig) → Buf (Elt Bits) ℓ) (g : Dev Cert.Lbf.nD → PrngReg), Pre_Lbf m →
    θ_run (Cert.Lbf.defs (F := Bits)) (onTc (τ := Cert.Lbf.τ) (Cert.Lbf.main (F := Bits))) ⟨m, fun _ => 0, g⟩ (fun r => (∀ c : Dev Cert.Lbf.nD,
      r.2.mem ((c.tc : Thread Cert.Lbf.nD Cert.Lbf.τ).loc Cert.Lbf.main_arg0) = m ((c.tc : Thread Cert.Lbf.nD Cert.Lbf.τ).loc Cert.Lbf.main_arg0))
      ∧ r.2.sem = fun _ => 0)

def quiescent_LbfIdeal [hLbfIdeal : Cert.LbfIdeal.Facts] : Prop :=
  ∀ (m : (ℓ : Loc Cert.LbfIdeal.nD Cert.LbfIdeal.τ Cert.LbfIdeal.sig) → Buf (Elt Ideal) ℓ) (g : Dev Cert.LbfIdeal.nD → PrngReg), Pre_LbfIdeal m →
    θ_run (Cert.LbfIdeal.defs (F := Ideal)) (onTc (τ := Cert.LbfIdeal.τ) (Cert.LbfIdeal.main (F := Ideal))) ⟨m, fun _ => 0, g⟩ (fun r => (∀ c : Dev Cert.LbfIdeal.nD,
      r.2.mem ((c.tc : Thread Cert.LbfIdeal.nD Cert.LbfIdeal.τ).loc Cert.LbfIdeal.main_arg0) = m ((c.tc : Thread Cert.LbfIdeal.nD Cert.LbfIdeal.τ).loc Cert.LbfIdeal.main_arg0))
      ∧ r.2.sem = fun _ => 0)

def quiescent_LbfRefIdeal [hLbfRefIdeal : Cert.LbfRefIdeal.Facts] : Prop :=
  ∀ (m : (ℓ : Loc Cert.LbfRefIdeal.nD Cert.LbfRefIdeal.τ Cert.LbfRefIdeal.sig) → Buf (Elt Ideal) ℓ) (g : Dev Cert.LbfRefIdeal.nD → PrngReg), Pre_LbfRefIdeal m →
    θ_run (Cert.LbfRefIdeal.defs (F := Ideal)) (onTc (τ := Cert.LbfRefIdeal.τ) (Cert.LbfRefIdeal.main (F := Ideal))) ⟨m, fun _ => 0, g⟩ (fun r => (∀ c : Dev Cert.LbfRefIdeal.nD,
      r.2.mem ((c.tc : Thread Cert.LbfRefIdeal.nD Cert.LbfRefIdeal.τ).loc Cert.LbfRefIdeal.main_arg0) = m ((c.tc : Thread Cert.LbfRefIdeal.nD Cert.LbfRefIdeal.τ).loc Cert.LbfRefIdeal.main_arg0))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Mmout [hMmout : Cert.Mmout.Facts] : Prop :=
  ∀ (m : (ℓ : Loc Cert.Mmout.nD Cert.Mmout.τ Cert.Mmout.sig) → Buf (Elt Bits) ℓ) (g : Dev Cert.Mmout.nD → PrngReg), Pre_Mmout m →
    θ_run (Cert.Mmout.defs (F := Bits)) (onTc (τ := Cert.Mmout.τ) (Cert.Mmout.main (F := Bits))) ⟨m, fun _ => 0, g⟩ (fun r => (∀ c : Dev Cert.Mmout.nD,
      r.2.mem ((c.tc : Thread Cert.Mmout.nD Cert.Mmout.τ).loc Cert.Mmout.main_arg0) = m ((c.tc : Thread Cert.Mmout.nD Cert.Mmout.τ).loc Cert.Mmout.main_arg0)
      ∧ r.2.mem ((c.tc : Thread Cert.Mmout.nD Cert.Mmout.τ).loc Cert.Mmout.main_arg1) = m ((c.tc : Thread Cert.Mmout.nD Cert.Mmout.τ).loc Cert.Mmout.main_arg1)
      ∧ r.2.mem ((c.tc : Thread Cert.Mmout.nD Cert.Mmout.τ).loc Cert.Mmout.main_arg2) = m ((c.tc : Thread Cert.Mmout.nD Cert.Mmout.τ).loc Cert.Mmout.main_arg2)
      ∧ r.2.mem ((c.tc : Thread Cert.Mmout.nD Cert.Mmout.τ).loc Cert.Mmout.main_arg3) = m ((c.tc : Thread Cert.Mmout.nD Cert.Mmout.τ).loc Cert.Mmout.main_arg3))
      ∧ r.2.sem = fun _ => 0)

def quiescent_MmoutIdeal [hMmoutIdeal : Cert.MmoutIdeal.Facts] : Prop :=
  ∀ (m : (ℓ : Loc Cert.MmoutIdeal.nD Cert.MmoutIdeal.τ Cert.MmoutIdeal.sig) → Buf (Elt Ideal) ℓ) (g : Dev Cert.MmoutIdeal.nD → PrngReg), Pre_MmoutIdeal m →
    θ_run (Cert.MmoutIdeal.defs (F := Ideal)) (onTc (τ := Cert.MmoutIdeal.τ) (Cert.MmoutIdeal.main (F := Ideal))) ⟨m, fun _ => 0, g⟩ (fun r => (∀ c : Dev Cert.MmoutIdeal.nD,
      r.2.mem ((c.tc : Thread Cert.MmoutIdeal.nD Cert.MmoutIdeal.τ).loc Cert.MmoutIdeal.main_arg0) = m ((c.tc : Thread Cert.MmoutIdeal.nD Cert.MmoutIdeal.τ).loc Cert.MmoutIdeal.main_arg0)
      ∧ r.2.mem ((c.tc : Thread Cert.MmoutIdeal.nD Cert.MmoutIdeal.τ).loc Cert.MmoutIdeal.main_arg1) = m ((c.tc : Thread Cert.MmoutIdeal.nD Cert.MmoutIdeal.τ).loc Cert.MmoutIdeal.main_arg1)
      ∧ r.2.mem ((c.tc : Thread Cert.MmoutIdeal.nD Cert.MmoutIdeal.τ).loc Cert.MmoutIdeal.main_arg2) = m ((c.tc : Thread Cert.MmoutIdeal.nD Cert.MmoutIdeal.τ).loc Cert.MmoutIdeal.main_arg2)
      ∧ r.2.mem ((c.tc : Thread Cert.MmoutIdeal.nD Cert.MmoutIdeal.τ).loc Cert.MmoutIdeal.main_arg3) = m ((c.tc : Thread Cert.MmoutIdeal.nD Cert.MmoutIdeal.τ).loc Cert.MmoutIdeal.main_arg3))
      ∧ r.2.sem = fun _ => 0)

def quiescent_MmoutRefIdeal [hMmoutRefIdeal : Cert.MmoutRefIdeal.Facts] : Prop :=
  ∀ (m : (ℓ : Loc Cert.MmoutRefIdeal.nD Cert.MmoutRefIdeal.τ Cert.MmoutRefIdeal.sig) → Buf (Elt Ideal) ℓ) (g : Dev Cert.MmoutRefIdeal.nD → PrngReg), Pre_MmoutRefIdeal m →
    θ_run (Cert.MmoutRefIdeal.defs (F := Ideal)) (onTc (τ := Cert.MmoutRefIdeal.τ) (Cert.MmoutRefIdeal.main (F := Ideal))) ⟨m, fun _ => 0, g⟩ (fun r => (∀ c : Dev Cert.MmoutRefIdeal.nD,
      r.2.mem ((c.tc : Thread Cert.MmoutRefIdeal.nD Cert.MmoutRefIdeal.τ).loc Cert.MmoutRefIdeal.main_arg0) = m ((c.tc : Thread Cert.MmoutRefIdeal.nD Cert.MmoutRefIdeal.τ).loc Cert.MmoutRefIdeal.main_arg0)
      ∧ r.2.mem ((c.tc : Thread Cert.MmoutRefIdeal.nD Cert.MmoutRefIdeal.τ).loc Cert.MmoutRefIdeal.main_arg1) = m ((c.tc : Thread Cert.MmoutRefIdeal.nD Cert.MmoutRefIdeal.τ).loc Cert.MmoutRefIdeal.main_arg1)
      ∧ r.2.mem ((c.tc : Thread Cert.MmoutRefIdeal.nD Cert.MmoutRefIdeal.τ).loc Cert.MmoutRefIdeal.main_arg2) = m ((c.tc : Thread Cert.MmoutRefIdeal.nD Cert.MmoutRefIdeal.τ).loc Cert.MmoutRefIdeal.main_arg2)
      ∧ r.2.mem ((c.tc : Thread Cert.MmoutRefIdeal.nD Cert.MmoutRefIdeal.τ).loc Cert.MmoutRefIdeal.main_arg3) = m ((c.tc : Thread Cert.MmoutRefIdeal.nD Cert.MmoutRefIdeal.τ).loc Cert.MmoutRefIdeal.main_arg3))
      ∧ r.2.sem = fun _ => 0)

def quiescent_Mmdown [hMmdown : Cert.Mmdown.Facts] : Prop :=
  ∀ (m : (ℓ : Loc Cert.Mmdown.nD Cert.Mmdown.τ Cert.Mmdown.sig) → Buf (Elt Bits) ℓ) (g : Dev Cert.Mmdown.nD → PrngReg), Pre_Mmdown m →
    θ_run (Cert.Mmdown.defs (F := Bits)) (onTc (τ := Cert.Mmdown.τ) (Cert.Mmdown.main (F := Bits))) ⟨m, fun _ => 0, g⟩ (fun r => (∀ c : Dev Cert.Mmdown.nD,
      r.2.mem ((c.tc : Thread Cert.Mmdown.nD Cert.Mmdown.τ).loc Cert.Mmdown.main_arg0) = m ((c.tc : Thread Cert.Mmdown.nD Cert.Mmdown.τ).loc Cert.Mmdown.main_arg0)
      ∧ r.2.mem ((c.tc : Thread Cert.Mmdown.nD Cert.Mmdown.τ).loc Cert.Mmdown.main_arg1) = m ((c.tc : Thread Cert.Mmdown.nD Cert.Mmdown.τ).loc Cert.Mmdown.main_arg1)
      ∧ r.2.mem ((c.tc : Thread Cert.Mmdown.nD Cert.Mmdown.τ).loc Cert.Mmdown.main_arg2) = m ((c.tc : Thread Cert.Mmdown.nD Cert.Mmdown.τ).loc Cert.Mmdown.main_arg2)
      ∧ r.2.mem ((c.tc : Thread Cert.Mmdown.nD Cert.Mmdown.τ).loc Cert.Mmdown.main_arg3) = m ((c.tc : Thread Cert.Mmdown.nD Cert.Mmdown.τ).loc Cert.Mmdown.main_arg3))
      ∧ r.2.sem = fun _ => 0)

def quiescent_MmdownIdeal [hMmdownIdeal : Cert.MmdownIdeal.Facts] : Prop :=
  ∀ (m : (ℓ : Loc Cert.MmdownIdeal.nD Cert.MmdownIdeal.τ Cert.MmdownIdeal.sig) → Buf (Elt Ideal) ℓ) (g : Dev Cert.MmdownIdeal.nD → PrngReg), Pre_MmdownIdeal m →
    θ_run (Cert.MmdownIdeal.defs (F := Ideal)) (onTc (τ := Cert.MmdownIdeal.τ) (Cert.MmdownIdeal.main (F := Ideal))) ⟨m, fun _ => 0, g⟩ (fun r => (∀ c : Dev Cert.MmdownIdeal.nD,
      r.2.mem ((c.tc : Thread Cert.MmdownIdeal.nD Cert.MmdownIdeal.τ).loc Cert.MmdownIdeal.main_arg0) = m ((c.tc : Thread Cert.MmdownIdeal.nD Cert.MmdownIdeal.τ).loc Cert.MmdownIdeal.main_arg0)
      ∧ r.2.mem ((c.tc : Thread Cert.MmdownIdeal.nD Cert.MmdownIdeal.τ).loc Cert.MmdownIdeal.main_arg1) = m ((c.tc : Thread Cert.MmdownIdeal.nD Cert.MmdownIdeal.τ).loc Cert.MmdownIdeal.main_arg1)
      ∧ r.2.mem ((c.tc : Thread Cert.MmdownIdeal.nD Cert.MmdownIdeal.τ).loc Cert.MmdownIdeal.main_arg2) = m ((c.tc : Thread Cert.MmdownIdeal.nD Cert.MmdownIdeal.τ).loc Cert.MmdownIdeal.main_arg2)
      ∧ r.2.mem ((c.tc : Thread Cert.MmdownIdeal.nD Cert.MmdownIdeal.τ).loc Cert.MmdownIdeal.main_arg3) = m ((c.tc : Thread Cert.MmdownIdeal.nD Cert.MmdownIdeal.τ).loc Cert.MmdownIdeal.main_arg3))
      ∧ r.2.sem = fun _ => 0)

def quiescent_MmdownRefIdeal [hMmdownRefIdeal : Cert.MmdownRefIdeal.Facts] : Prop :=
  ∀ (m : (ℓ : Loc Cert.MmdownRefIdeal.nD Cert.MmdownRefIdeal.τ Cert.MmdownRefIdeal.sig) → Buf (Elt Ideal) ℓ) (g : Dev Cert.MmdownRefIdeal.nD → PrngReg), Pre_MmdownRefIdeal m →
    θ_run (Cert.MmdownRefIdeal.defs (F := Ideal)) (onTc (τ := Cert.MmdownRefIdeal.τ) (Cert.MmdownRefIdeal.main (F := Ideal))) ⟨m, fun _ => 0, g⟩ (fun r => (∀ c : Dev Cert.MmdownRefIdeal.nD,
      r.2.mem ((c.tc : Thread Cert.MmdownRefIdeal.nD Cert.MmdownRefIdeal.τ).loc Cert.MmdownRefIdeal.main_arg0) = m ((c.tc : Thread Cert.MmdownRefIdeal.nD Cert.MmdownRefIdeal.τ).loc Cert.MmdownRefIdeal.main_arg0)
      ∧ r.2.mem ((c.tc : Thread Cert.MmdownRefIdeal.nD Cert.MmdownRefIdeal.τ).loc Cert.MmdownRefIdeal.main_arg1) = m ((c.tc : Thread Cert.MmdownRefIdeal.nD Cert.MmdownRefIdeal.τ).loc Cert.MmdownRefIdeal.main_arg1)
      ∧ r.2.mem ((c.tc : Thread Cert.MmdownRefIdeal.nD Cert.MmdownRefIdeal.τ).loc Cert.MmdownRefIdeal.main_arg2) = m ((c.tc : Thread Cert.MmdownRefIdeal.nD Cert.MmdownRefIdeal.τ).loc Cert.MmdownRefIdeal.main_arg2)
      ∧ r.2.mem ((c.tc : Thread Cert.MmdownRefIdeal.nD Cert.MmdownRefIdeal.τ).loc Cert.MmdownRefIdeal.main_arg3) = m ((c.tc : Thread Cert.MmdownRefIdeal.nD Cert.MmdownRefIdeal.τ).loc Cert.MmdownRefIdeal.main_arg3))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Prod [hProd : Cert.Prod.Facts] : Prop :=
  ∀ (m : (ℓ : Loc Cert.Prod.nD Cert.Prod.τ Cert.Prod.sig) → Buf (Elt Bits) ℓ) (g : Dev Cert.Prod.nD → PrngReg), Pre_Prod m →
    θ_run (Cert.Prod.defs (F := Bits)) (onTc (τ := Cert.Prod.τ) (Cert.Prod.main (F := Bits))) ⟨m, fun _ => 0, g⟩ (fun r => (∀ c : Dev Cert.Prod.nD,
      r.2.mem ((c.tc : Thread Cert.Prod.nD Cert.Prod.τ).loc Cert.Prod.main_arg0) = m ((c.tc : Thread Cert.Prod.nD Cert.Prod.τ).loc Cert.Prod.main_arg0)
      ∧ r.2.mem ((c.tc : Thread Cert.Prod.nD Cert.Prod.τ).loc Cert.Prod.main_arg1) = m ((c.tc : Thread Cert.Prod.nD Cert.Prod.τ).loc Cert.Prod.main_arg1))
      ∧ r.2.sem = fun _ => 0)

def quiescent_ProdIdeal [hProdIdeal : Cert.ProdIdeal.Facts] : Prop :=
  ∀ (m : (ℓ : Loc Cert.ProdIdeal.nD Cert.ProdIdeal.τ Cert.ProdIdeal.sig) → Buf (Elt Ideal) ℓ) (g : Dev Cert.ProdIdeal.nD → PrngReg), Pre_ProdIdeal m →
    θ_run (Cert.ProdIdeal.defs (F := Ideal)) (onTc (τ := Cert.ProdIdeal.τ) (Cert.ProdIdeal.main (F := Ideal))) ⟨m, fun _ => 0, g⟩ (fun r => (∀ c : Dev Cert.ProdIdeal.nD,
      r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
      ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ r.2.sem = fun _ => 0)

def quiescent_ProdRefIdeal [hProdRefIdeal : Cert.ProdRefIdeal.Facts] : Prop :=
  ∀ (m : (ℓ : Loc Cert.ProdRefIdeal.nD Cert.ProdRefIdeal.τ Cert.ProdRefIdeal.sig) → Buf (Elt Ideal) ℓ) (g : Dev Cert.ProdRefIdeal.nD → PrngReg), Pre_ProdRefIdeal m →
    θ_run (Cert.ProdRefIdeal.defs (F := Ideal)) (onTc (τ := Cert.ProdRefIdeal.τ) (Cert.ProdRefIdeal.main (F := Ideal))) ⟨m, fun _ => 0, g⟩ (fun r => (∀ c : Dev Cert.ProdRefIdeal.nD,
      r.2.mem ((c.tc : Thread Cert.ProdRefIdeal.nD Cert.ProdRefIdeal.τ).loc Cert.ProdRefIdeal.main_arg0) = m ((c.tc : Thread Cert.ProdRefIdeal.nD Cert.ProdRefIdeal.τ).loc Cert.ProdRefIdeal.main_arg0)
      ∧ r.2.mem ((c.tc : Thread Cert.ProdRefIdeal.nD Cert.ProdRefIdeal.τ).loc Cert.ProdRefIdeal.main_arg1) = m ((c.tc : Thread Cert.ProdRefIdeal.nD Cert.ProdRefIdeal.τ).loc Cert.ProdRefIdeal.main_arg1))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1))
      ∧ r.2.sem = fun _ => 0)

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v14) = v0 c
          ∧ r.2.mem ((c.tc : Thread Cert.PleRefIdeal.nD Cert.PleRefIdeal.τ).loc Cert.PleRefIdeal.main_v15) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3))

def preserves_Mmgate_MmgateIdeal : Prop :=
  True

def algebraic_MmgateIdeal_MmgateRefIdeal_pre_finite_gate [hMmgateIdeal : Cert.MmgateIdeal.Facts] [hMmgateRefIdeal : Cert.MmgateRefIdeal.Facts] [hPre_finite_gate : Cert.Pre_finite_gate.Facts] : Prop :=
  ∀ (m : (ℓ : Loc Cert.MmgateIdeal.nD Cert.MmgateIdeal.τ Cert.MmgateIdeal.sig) → Buf (Elt Ideal) ℓ) (g : Dev Cert.MmgateIdeal.nD → PrngReg)
    (m' : (ℓ : Loc Cert.MmgateRefIdeal.nD Cert.MmgateRefIdeal.τ Cert.MmgateRefIdeal.sig) → Buf (Elt Ideal) ℓ) (g' : Dev Cert.MmgateRefIdeal.nD → PrngReg), Pre_MmgateIdeal_finite_gate m →
    (∀ c : Dev Cert.MmgateIdeal.nD,
      m' ((c.tc : Thread Cert.MmgateRefIdeal.nD Cert.MmgateRefIdeal.τ).loc Cert.MmgateRefIdeal.main_arg0) = m ((c.tc : Thread Cert.MmgateIdeal.nD Cert.MmgateIdeal.τ).loc Cert.MmgateIdeal.main_arg0)
      ∧ m' ((c.tc : Thread Cert.MmgateRefIdeal.nD Cert.MmgateRefIdeal.τ).loc Cert.MmgateRefIdeal.main_arg1) = m ((c.tc : Thread Cert.MmgateIdeal.nD Cert.MmgateIdeal.τ).loc Cert.MmgateIdeal.main_arg1)
      ∧ m' ((c.tc : Thread Cert.MmgateRefIdeal.nD Cert.MmgateRefIdeal.τ).loc Cert.MmgateRefIdeal.main_arg2) = m ((c.tc : Thread Cert.MmgateIdeal.nD Cert.MmgateIdeal.τ).loc Cert.MmgateIdeal.main_arg2)
      ∧ m' ((c.tc : Thread Cert.MmgateRefIdeal.nD Cert.MmgateRefIdeal.τ).loc Cert.MmgateRefIdeal.main_arg3) = m ((c.tc : Thread Cert.MmgateIdeal.nD Cert.MmgateIdeal.τ).loc Cert.MmgateIdeal.main_arg3)
      ∧ m' ((c.tc : Thread Cert.MmgateRefIdeal.nD Cert.MmgateRefIdeal.τ).loc Cert.MmgateRefIdeal.main_arg4) = m ((c.tc : Thread Cert.MmgateIdeal.nD Cert.MmgateIdeal.τ).loc Cert.MmgateIdeal.main_arg4)) →
    ∃ (v0 : (c : Dev Cert.MmgateIdeal.nD) → Buf (Elt Ideal) ((c.tc : Thread Cert.MmgateIdeal.nD Cert.MmgateIdeal.τ).loc Cert.MmgateIdeal.main_v3_0)) (v1 : (c : Dev Cert.MmgateIdeal.nD) → Buf (Elt Ideal) ((c.tc : Thread Cert.MmgateIdeal.nD Cert.MmgateIdeal.τ).loc Cert.MmgateIdeal.main_v3_1)) (v2 : (c : Dev Cert.MmgateIdeal.nD) → Buf (Elt Ideal) ((c.tc : Thread Cert.MmgateIdeal.nD Cert.MmgateIdeal.τ).loc Cert.MmgateIdeal.main_v3_2)),
      θ_run (Cert.MmgateIdeal.defs (F := Ideal)) (onTc (τ := Cert.MmgateIdeal.τ) (Cert.MmgateIdeal.main (F := Ideal))) ⟨m, fun _ => 0, g⟩ (fun r => ∀ c : Dev Cert.MmgateIdeal.nD,
          r.2.mem ((c.tc : Thread Cert.MmgateIdeal.nD Cert.MmgateIdeal.τ).loc Cert.MmgateIdeal.main_v3_0) = v0 c
          ∧ r.2.mem ((c.tc : Thread Cert.MmgateIdeal.nD Cert.MmgateIdeal.τ).loc Cert.MmgateIdeal.main_v3_1) = v1 c
          ∧ r.2.mem ((c.tc : Thread Cert.MmgateIdeal.nD Cert.MmgateIdeal.τ).loc Cert.MmgateIdeal.main_v3_2) = v2 c
          ∧ r.2.mem ((c.tc : Thread Cert.MmgateIdeal.nD Cert.MmgateIdeal.τ).loc Cert.MmgateIdeal.main_arg0) = m ((c.tc : Thread Cert.MmgateIdeal.nD Cert.MmgateIdeal.τ).loc Cert.MmgateIdeal.main_arg0)
          ∧ r.2.mem ((c.tc : Thread Cert.MmgateIdeal.nD Cert.MmgateIdeal.τ).loc Cert.MmgateIdeal.main_arg1) = m ((c.tc : Thread Cert.MmgateIdeal.nD Cert.MmgateIdeal.τ).loc Cert.MmgateIdeal.main_arg1)
          ∧ r.2.mem ((c.tc : Thread Cert.MmgateIdeal.nD Cert.MmgateIdeal.τ).loc Cert.MmgateIdeal.main_arg2) = m ((c.tc : Thread Cert.MmgateIdeal.nD Cert.MmgateIdeal.τ).loc Cert.MmgateIdeal.main_arg2)
          ∧ r.2.mem ((c.tc : Thread Cert.MmgateIdeal.nD Cert.MmgateIdeal.τ).loc Cert.MmgateIdeal.main_arg3) = m ((c.tc : Thread Cert.MmgateIdeal.nD Cert.MmgateIdeal.τ).loc Cert.MmgateIdeal.main_arg3)
          ∧ r.2.mem ((c.tc : Thread Cert.MmgateIdeal.nD Cert.MmgateIdeal.τ).loc Cert.MmgateIdeal.main_arg4) = m ((c.tc : Thread Cert.MmgateIdeal.nD Cert.MmgateIdeal.τ).loc Cert.MmgateIdeal.main_arg4))
      ∧ θ_run (Cert.MmgateRefIdeal.defs (F := Ideal)) (onTc (τ := Cert.MmgateRefIdeal.τ) (Cert.MmgateRefIdeal.main (F := Ideal))) ⟨m', fun _ => 0, g'⟩ (fun r => ∀ c : Dev Cert.MmgateRefIdeal.nD,
          r.2.mem ((c.tc : Thread Cert.MmgateRefIdeal.nD Cert.MmgateRefIdeal.τ).loc Cert.MmgateRefIdeal.main_v38) = v0 c
          ∧ r.2.mem ((c.tc : Thread Cert.MmgateRefIdeal.nD Cert.MmgateRefIdeal.τ).loc Cert.MmgateRefIdeal.main_v39) = v1 c
          ∧ r.2.mem ((c.tc : Thread Cert.MmgateRefIdeal.nD Cert.MmgateRefIdeal.τ).loc Cert.MmgateRefIdeal.main_v41) = v2 c
          ∧ r.2.mem ((c.tc : Thread Cert.MmgateRefIdeal.nD Cert.MmgateRefIdeal.τ).loc Cert.MmgateRefIdeal.main_arg0) = m' ((c.tc : Thread Cert.MmgateRefIdeal.nD Cert.MmgateRefIdeal.τ).loc Cert.MmgateRefIdeal.main_arg0)
          ∧ r.2.mem ((c.tc : Thread Cert.MmgateRefIdeal.nD Cert.MmgateRefIdeal.τ).loc Cert.MmgateRefIdeal.main_arg1) = m' ((c.tc : Thread Cert.MmgateRefIdeal.nD Cert.MmgateRefIdeal.τ).loc Cert.MmgateRefIdeal.main_arg1)
          ∧ r.2.mem ((c.tc : Thread Cert.MmgateRefIdeal.nD Cert.MmgateRefIdeal.τ).loc Cert.MmgateRefIdeal.main_arg2) = m' ((c.tc : Thread Cert.MmgateRefIdeal.nD Cert.MmgateRefIdeal.τ).loc Cert.MmgateRefIdeal.main_arg2)
          ∧ r.2.mem ((c.tc : Thread Cert.MmgateRefIdeal.nD Cert.MmgateRefIdeal.τ).loc Cert.MmgateRefIdeal.main_arg3) = m' ((c.tc : Thread Cert.MmgateRefIdeal.nD Cert.MmgateRefIdeal.τ).loc Cert.MmgateRefIdeal.main_arg3)
          ∧ r.2.mem ((c.tc : Thread Cert.MmgateRefIdeal.nD Cert.MmgateRefIdeal.τ).loc Cert.MmgateRefIdeal.main_arg4) = m' ((c.tc : Thread Cert.MmgateRefIdeal.nD Cert.MmgateRefIdeal.τ).loc Cert.MmgateRefIdeal.main_arg4))

def preserves_Mmin_MminIdeal : Prop :=
  True

def algebraic_MminIdeal_MminRefIdeal_pre_finite_in [hMminIdeal : Cert.MminIdeal.Facts] [hMminRefIdeal : Cert.MminRefIdeal.Facts] [hPre_finite_in : Cert.Pre_finite_in.Facts] : Prop :=
  ∀ (m : (ℓ : Loc Cert.MminIdeal.nD Cert.MminIdeal.τ Cert.MminIdeal.sig) → Buf (Elt Ideal) ℓ) (g : Dev Cert.MminIdeal.nD → PrngReg)
    (m' : (ℓ : Loc Cert.MminRefIdeal.nD Cert.MminRefIdeal.τ Cert.MminRefIdeal.sig) → Buf (Elt Ideal) ℓ) (g' : Dev Cert.MminRefIdeal.nD → PrngReg), Pre_MminIdeal_finite_in m →
    (∀ c : Dev Cert.MminIdeal.nD,
      m' ((c.tc : Thread Cert.MminRefIdeal.nD Cert.MminRefIdeal.τ).loc Cert.MminRefIdeal.main_arg0) = m ((c.tc : Thread Cert.MminIdeal.nD Cert.MminIdeal.τ).loc Cert.MminIdeal.main_arg0)
      ∧ m' ((c.tc : Thread Cert.MminRefIdeal.nD Cert.MminRefIdeal.τ).loc Cert.MminRefIdeal.main_arg1) = m ((c.tc : Thread Cert.MminIdeal.nD Cert.MminIdeal.τ).loc Cert.MminIdeal.main_arg1)
      ∧ m' ((c.tc : Thread Cert.MminRefIdeal.nD Cert.MminRefIdeal.τ).loc Cert.MminRefIdeal.main_arg2) = m ((c.tc : Thread Cert.MminIdeal.nD Cert.MminIdeal.τ).loc Cert.MminIdeal.main_arg2)
      ∧ m' ((c.tc : Thread Cert.MminRefIdeal.nD Cert.MminRefIdeal.τ).loc Cert.MminRefIdeal.main_arg3) = m ((c.tc : Thread Cert.MminIdeal.nD Cert.MminIdeal.τ).loc Cert.MminIdeal.main_arg3)
      ∧ m' ((c.tc : Thread Cert.MminRefIdeal.nD Cert.MminRefIdeal.τ).loc Cert.MminRefIdeal.main_arg4) = m ((c.tc : Thread Cert.MminIdeal.nD Cert.MminIdeal.τ).loc Cert.MminIdeal.main_arg4)) →
    ∃ (v0 : (c : Dev Cert.MminIdeal.nD) → Buf (Elt Ideal) ((c.tc : Thread Cert.MminIdeal.nD Cert.MminIdeal.τ).loc Cert.MminIdeal.main_v3_0)) (v1 : (c : Dev Cert.MminIdeal.nD) → Buf (Elt Ideal) ((c.tc : Thread Cert.MminIdeal.nD Cert.MminIdeal.τ).loc Cert.MminIdeal.main_v3_1)) (v2 : (c : Dev Cert.MminIdeal.nD) → Buf (Elt Ideal) ((c.tc : Thread Cert.MminIdeal.nD Cert.MminIdeal.τ).loc Cert.MminIdeal.main_v3_2)),
      θ_run (Cert.MminIdeal.defs (F := Ideal)) (onTc (τ := Cert.MminIdeal.τ) (Cert.MminIdeal.main (F := Ideal))) ⟨m, fun _ => 0, g⟩ (fun r => ∀ c : Dev Cert.MminIdeal.nD,
          r.2.mem ((c.tc : Thread Cert.MminIdeal.nD Cert.MminIdeal.τ).loc Cert.MminIdeal.main_v3_0) = v0 c
          ∧ r.2.mem ((c.tc : Thread Cert.MminIdeal.nD Cert.MminIdeal.τ).loc Cert.MminIdeal.main_v3_1) = v1 c
          ∧ r.2.mem ((c.tc : Thread Cert.MminIdeal.nD Cert.MminIdeal.τ).loc Cert.MminIdeal.main_v3_2) = v2 c
          ∧ r.2.mem ((c.tc : Thread Cert.MminIdeal.nD Cert.MminIdeal.τ).loc Cert.MminIdeal.main_arg0) = m ((c.tc : Thread Cert.MminIdeal.nD Cert.MminIdeal.τ).loc Cert.MminIdeal.main_arg0)
          ∧ r.2.mem ((c.tc : Thread Cert.MminIdeal.nD Cert.MminIdeal.τ).loc Cert.MminIdeal.main_arg1) = m ((c.tc : Thread Cert.MminIdeal.nD Cert.MminIdeal.τ).loc Cert.MminIdeal.main_arg1)
          ∧ r.2.mem ((c.tc : Thread Cert.MminIdeal.nD Cert.MminIdeal.τ).loc Cert.MminIdeal.main_arg2) = m ((c.tc : Thread Cert.MminIdeal.nD Cert.MminIdeal.τ).loc Cert.MminIdeal.main_arg2)
          ∧ r.2.mem ((c.tc : Thread Cert.MminIdeal.nD Cert.MminIdeal.τ).loc Cert.MminIdeal.main_arg3) = m ((c.tc : Thread Cert.MminIdeal.nD Cert.MminIdeal.τ).loc Cert.MminIdeal.main_arg3)
          ∧ r.2.mem ((c.tc : Thread Cert.MminIdeal.nD Cert.MminIdeal.τ).loc Cert.MminIdeal.main_arg4) = m ((c.tc : Thread Cert.MminIdeal.nD Cert.MminIdeal.τ).loc Cert.MminIdeal.main_arg4))
      ∧ θ_run (Cert.MminRefIdeal.defs (F := Ideal)) (onTc (τ := Cert.MminRefIdeal.τ) (Cert.MminRefIdeal.main (F := Ideal))) ⟨m', fun _ => 0, g'⟩ (fun r => ∀ c : Dev Cert.MminRefIdeal.nD,
          r.2.mem ((c.tc : Thread Cert.MminRefIdeal.nD Cert.MminRefIdeal.τ).loc Cert.MminRefIdeal.main_v38) = v0 c
          ∧ r.2.mem ((c.tc : Thread Cert.MminRefIdeal.nD Cert.MminRefIdeal.τ).loc Cert.MminRefIdeal.main_v39) = v1 c
          ∧ r.2.mem ((c.tc : Thread Cert.MminRefIdeal.nD Cert.MminRefIdeal.τ).loc Cert.MminRefIdeal.main_v41) = v2 c
          ∧ r.2.mem ((c.tc : Thread Cert.MminRefIdeal.nD Cert.MminRefIdeal.τ).loc Cert.MminRefIdeal.main_arg0) = m' ((c.tc : Thread Cert.MminRefIdeal.nD Cert.MminRefIdeal.τ).loc Cert.MminRefIdeal.main_arg0)
          ∧ r.2.mem ((c.tc : Thread Cert.MminRefIdeal.nD Cert.MminRefIdeal.τ).loc Cert.MminRefIdeal.main_arg1) = m' ((c.tc : Thread Cert.MminRefIdeal.nD Cert.MminRefIdeal.τ).loc Cert.MminRefIdeal.main_arg1)
          ∧ r.2.mem ((c.tc : Thread Cert.MminRefIdeal.nD Cert.MminRefIdeal.τ).loc Cert.MminRefIdeal.main_arg2) = m' ((c.tc : Thread Cert.MminRefIdeal.nD Cert.MminRefIdeal.τ).loc Cert.MminRefIdeal.main_arg2)
          ∧ r.2.mem ((c.tc : Thread Cert.MminRefIdeal.nD Cert.MminRefIdeal.τ).loc Cert.MminRefIdeal.main_arg3) = m' ((c.tc : Thread Cert.MminRefIdeal.nD Cert.MminRefIdeal.τ).loc Cert.MminRefIdeal.main_arg3)
          ∧ r.2.mem ((c.tc : Thread Cert.MminRefIdeal.nD Cert.MminRefIdeal.τ).loc Cert.MminRefIdeal.main_arg4) = m' ((c.tc : Thread Cert.MminRefIdeal.nD Cert.MminRefIdeal.τ).loc Cert.MminRefIdeal.main_arg4))

def preserves_Mmup_MmupIdeal : Prop :=
  True

def algebraic_MmupIdeal_MmupRefIdeal_pre_finite_up [hMmupIdeal : Cert.MmupIdeal.Facts] [hMmupRefIdeal : Cert.MmupRefIdeal.Facts] [hPre_finite_up : Cert.Pre_finite_up.Facts] : Prop :=
  ∀ (m : (ℓ : Loc Cert.MmupIdeal.nD Cert.MmupIdeal.τ Cert.MmupIdeal.sig) → Buf (Elt Ideal) ℓ) (g : Dev Cert.MmupIdeal.nD → PrngReg)
    (m' : (ℓ : Loc Cert.MmupRefIdeal.nD Cert.MmupRefIdeal.τ Cert.MmupRefIdeal.sig) → Buf (Elt Ideal) ℓ) (g' : Dev Cert.MmupRefIdeal.nD → PrngReg), Pre_MmupIdeal_finite_up m →
    (∀ c : Dev Cert.MmupIdeal.nD,
      m' ((c.tc : Thread Cert.MmupRefIdeal.nD Cert.MmupRefIdeal.τ).loc Cert.MmupRefIdeal.main_arg0) = m ((c.tc : Thread Cert.MmupIdeal.nD Cert.MmupIdeal.τ).loc Cert.MmupIdeal.main_arg0)
      ∧ m' ((c.tc : Thread Cert.MmupRefIdeal.nD Cert.MmupRefIdeal.τ).loc Cert.MmupRefIdeal.main_arg1) = m ((c.tc : Thread Cert.MmupIdeal.nD Cert.MmupIdeal.τ).loc Cert.MmupIdeal.main_arg1)
      ∧ m' ((c.tc : Thread Cert.MmupRefIdeal.nD Cert.MmupRefIdeal.τ).loc Cert.MmupRefIdeal.main_arg2) = m ((c.tc : Thread Cert.MmupIdeal.nD Cert.MmupIdeal.τ).loc Cert.MmupIdeal.main_arg2)
      ∧ m' ((c.tc : Thread Cert.MmupRefIdeal.nD Cert.MmupRefIdeal.τ).loc Cert.MmupRefIdeal.main_arg3) = m ((c.tc : Thread Cert.MmupIdeal.nD Cert.MmupIdeal.τ).loc Cert.MmupIdeal.main_arg3)
      ∧ m' ((c.tc : Thread Cert.MmupRefIdeal.nD Cert.MmupRefIdeal.τ).loc Cert.MmupRefIdeal.main_arg4) = m ((c.tc : Thread Cert.MmupIdeal.nD Cert.MmupIdeal.τ).loc Cert.MmupIdeal.main_arg4)
      ∧ m' ((c.tc : Thread Cert.MmupRefIdeal.nD Cert.MmupRefIdeal.τ).loc Cert.MmupRefIdeal.main_arg5) = m ((c.tc : Thread Cert.MmupIdeal.nD Cert.MmupIdeal.τ).loc Cert.MmupIdeal.main_arg5)) →
    ∃ (v0 : (c : Dev Cert.MmupIdeal.nD) → Buf (Elt Ideal) ((c.tc : Thread Cert.MmupIdeal.nD Cert.MmupIdeal.τ).loc Cert.MmupIdeal.main_v4_0)) (v1 : (c : Dev Cert.MmupIdeal.nD) → Buf (Elt Ideal) ((c.tc : Thread Cert.MmupIdeal.nD Cert.MmupIdeal.τ).loc Cert.MmupIdeal.main_v4_1)) (v2 : (c : Dev Cert.MmupIdeal.nD) → Buf (Elt Ideal) ((c.tc : Thread Cert.MmupIdeal.nD Cert.MmupIdeal.τ).loc Cert.MmupIdeal.main_v4_2)),
      θ_run (Cert.MmupIdeal.defs (F := Ideal)) (onTc (τ := Cert.MmupIdeal.τ) (Cert.MmupIdeal.main (F := Ideal))) ⟨m, fun _ => 0, g⟩ (fun r => ∀ c : Dev Cert.MmupIdeal.nD,
          r.2.mem ((c.tc : Thread Cert.MmupIdeal.nD Cert.MmupIdeal.τ).loc Cert.MmupIdeal.main_v4_0) = v0 c
          ∧ r.2.mem ((c.tc : Thread Cert.MmupIdeal.nD Cert.MmupIdeal.τ).loc Cert.MmupIdeal.main_v4_1) = v1 c
          ∧ r.2.mem ((c.tc : Thread Cert.MmupIdeal.nD Cert.MmupIdeal.τ).loc Cert.MmupIdeal.main_v4_2) = v2 c
          ∧ r.2.mem ((c.tc : Thread Cert.MmupIdeal.nD Cert.MmupIdeal.τ).loc Cert.MmupIdeal.main_arg0) = m ((c.tc : Thread Cert.MmupIdeal.nD Cert.MmupIdeal.τ).loc Cert.MmupIdeal.main_arg0)
          ∧ r.2.mem ((c.tc : Thread Cert.MmupIdeal.nD Cert.MmupIdeal.τ).loc Cert.MmupIdeal.main_arg1) = m ((c.tc : Thread Cert.MmupIdeal.nD Cert.MmupIdeal.τ).loc Cert.MmupIdeal.main_arg1)
          ∧ r.2.mem ((c.tc : Thread Cert.MmupIdeal.nD Cert.MmupIdeal.τ).loc Cert.MmupIdeal.main_arg2) = m ((c.tc : Thread Cert.MmupIdeal.nD Cert.MmupIdeal.τ).loc Cert.MmupIdeal.main_arg2)
          ∧ r.2.mem ((c.tc : Thread Cert.MmupIdeal.nD Cert.MmupIdeal.τ).loc Cert.MmupIdeal.main_arg3) = m ((c.tc : Thread Cert.MmupIdeal.nD Cert.MmupIdeal.τ).loc Cert.MmupIdeal.main_arg3)
          ∧ r.2.mem ((c.tc : Thread Cert.MmupIdeal.nD Cert.MmupIdeal.τ).loc Cert.MmupIdeal.main_arg4) = m ((c.tc : Thread Cert.MmupIdeal.nD Cert.MmupIdeal.τ).loc Cert.MmupIdeal.main_arg4)
          ∧ r.2.mem ((c.tc : Thread Cert.MmupIdeal.nD Cert.MmupIdeal.τ).loc Cert.MmupIdeal.main_arg5) = m ((c.tc : Thread Cert.MmupIdeal.nD Cert.MmupIdeal.τ).loc Cert.MmupIdeal.main_arg5))
      ∧ θ_run (Cert.MmupRefIdeal.defs (F := Ideal)) (onTc (τ := Cert.MmupRefIdeal.τ) (Cert.MmupRefIdeal.main (F := Ideal))) ⟨m', fun _ => 0, g'⟩ (fun r => ∀ c : Dev Cert.MmupRefIdeal.nD,
          r.2.mem ((c.tc : Thread Cert.MmupRefIdeal.nD Cert.MmupRefIdeal.τ).loc Cert.MmupRefIdeal.main_v43) = v0 c
          ∧ r.2.mem ((c.tc : Thread Cert.MmupRefIdeal.nD Cert.MmupRefIdeal.τ).loc Cert.MmupRefIdeal.main_v44) = v1 c
          ∧ r.2.mem ((c.tc : Thread Cert.MmupRefIdeal.nD Cert.MmupRefIdeal.τ).loc Cert.MmupRefIdeal.main_v46) = v2 c
          ∧ r.2.mem ((c.tc : Thread Cert.MmupRefIdeal.nD Cert.MmupRefIdeal.τ).loc Cert.MmupRefIdeal.main_arg0) = m' ((c.tc : Thread Cert.MmupRefIdeal.nD Cert.MmupRefIdeal.τ).loc Cert.MmupRefIdeal.main_arg0)
          ∧ r.2.mem ((c.tc : Thread Cert.MmupRefIdeal.nD Cert.MmupRefIdeal.τ).loc Cert.MmupRefIdeal.main_arg1) = m' ((c.tc : Thread Cert.MmupRefIdeal.nD Cert.MmupRefIdeal.τ).loc Cert.MmupRefIdeal.main_arg1)
          ∧ r.2.mem ((c.tc : Thread Cert.MmupRefIdeal.nD Cert.MmupRefIdeal.τ).loc Cert.MmupRefIdeal.main_arg2) = m' ((c.tc : Thread Cert.MmupRefIdeal.nD Cert.MmupRefIdeal.τ).loc Cert.MmupRefIdeal.main_arg2)
          ∧ r.2.mem ((c.tc : Thread Cert.MmupRefIdeal.nD Cert.MmupRefIdeal.τ).loc Cert.MmupRefIdeal.main_arg3) = m' ((c.tc : Thread Cert.MmupRefIdeal.nD Cert.MmupRefIdeal.τ).loc Cert.MmupRefIdeal.main_arg3)
          ∧ r.2.mem ((c.tc : Thread Cert.MmupRefIdeal.nD Cert.MmupRefIdeal.τ).loc Cert.MmupRefIdeal.main_arg4) = m' ((c.tc : Thread Cert.MmupRefIdeal.nD Cert.MmupRefIdeal.τ).loc Cert.MmupRefIdeal.main_arg4)
          ∧ r.2.mem ((c.tc : Thread Cert.MmupRefIdeal.nD Cert.MmupRefIdeal.τ).loc Cert.MmupRefIdeal.main_arg5) = m' ((c.tc : Thread Cert.MmupRefIdeal.nD Cert.MmupRefIdeal.τ).loc Cert.MmupRefIdeal.main_arg5))

def preserves_Swa_SwaIdeal : Prop :=
  IdealRules.named_const.Statement Cert.SwaIdeal.κ "mask" .f32 0xF149F2CA#32 ⊥

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v27_0)) (v1 : (c : Dev Cert.SwaIdeal.nD) → Buf (Elt Ideal) ((c.tc : Thread Cert.SwaIdeal.nD Cert.SwaIdeal.τ).loc Cert.SwaIdeal.main_v27_1)) (v2 : (c : Dev Cert.SwaIdeal.nD) → Buf (Elt Ideal) ((c.tc : Thread Cert.SwaIdeal.nD Cert.SwaIdeal.τ).loc Cert.SwaIdeal.main_v27_2)) (v3 : (c : Dev Cert.SwaIdeal.nD) → Buf (Elt Ideal) ((c.tc : Thread Cert.SwaIdeal.nD Cert.SwaIdeal.τ).loc Cert.SwaIdeal.main_v27_3)) (v4 : (c : Dev Cert.SwaIdeal.nD) → Buf (Elt Ideal) ((c.tc : Thread Cert.SwaIdeal.nD Cert.SwaIdeal.τ).loc Cert.SwaIdeal.main_v27_4)) (v5 : (c : Dev Cert.SwaIdeal.nD) → Buf (Elt Ideal) ((c.tc : Thread Cert.SwaIdeal.nD Cert.SwaIdeal.τ).loc Cert.SwaIdeal.main_v27_5)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v27_0) = v0 c
          ∧ r.2.mem ((c.tc : Thread Cert.SwaIdeal.nD Cert.SwaIdeal.τ).loc Cert.SwaIdeal.main_v27_1) = v1 c
          ∧ r.2.mem ((c.tc : Thread Cert.SwaIdeal.nD Cert.SwaIdeal.τ).loc Cert.SwaIdeal.main_v27_2) = v2 c
          ∧ r.2.mem ((c.tc : Thread Cert.SwaIdeal.nD Cert.SwaIdeal.τ).loc Cert.SwaIdeal.main_v27_3) = v3 c
          ∧ r.2.mem ((c.tc : Thread Cert.SwaIdeal.nD Cert.SwaIdeal.τ).loc Cert.SwaIdeal.main_v27_4) = v4 c
          ∧ r.2.mem ((c.tc : Thread Cert.SwaIdeal.nD Cert.SwaIdeal.τ).loc Cert.SwaIdeal.main_v27_5) = v5 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v146) = v0 c
          ∧ r.2.mem ((c.tc : Thread Cert.SwaRefIdeal.nD Cert.SwaRefIdeal.τ).loc Cert.SwaRefIdeal.main_v148) = v1 c
          ∧ r.2.mem ((c.tc : Thread Cert.SwaRefIdeal.nD Cert.SwaRefIdeal.τ).loc Cert.SwaRefIdeal.main_v150) = v2 c
          ∧ r.2.mem ((c.tc : Thread Cert.SwaRefIdeal.nD Cert.SwaRefIdeal.τ).loc Cert.SwaRefIdeal.main_v152) = v3 c
          ∧ r.2.mem ((c.tc : Thread Cert.SwaRefIdeal.nD Cert.SwaRefIdeal.τ).loc Cert.SwaRefIdeal.main_v154) = v4 c
          ∧ r.2.mem ((c.tc : Thread Cert.SwaRefIdeal.nD Cert.SwaRefIdeal.τ).loc Cert.SwaRefIdeal.main_v155) = v5 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v32_0)) (v1 : (c : Dev Cert.ConvIdeal.nD) → Buf (Elt Ideal) ((c.tc : Thread Cert.ConvIdeal.nD Cert.ConvIdeal.τ).loc Cert.ConvIdeal.main_v32_1)) (v2 : (c : Dev Cert.ConvIdeal.nD) → Buf (Elt Ideal) ((c.tc : Thread Cert.ConvIdeal.nD Cert.ConvIdeal.τ).loc Cert.ConvIdeal.main_v32_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v32_0) = v0 c
          ∧ r.2.mem ((c.tc : Thread Cert.ConvIdeal.nD Cert.ConvIdeal.τ).loc Cert.ConvIdeal.main_v32_1) = v1 c
          ∧ r.2.mem ((c.tc : Thread Cert.ConvIdeal.nD Cert.ConvIdeal.τ).loc Cert.ConvIdeal.main_v32_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v72) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_v76) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Asm_AsmIdeal : Prop :=
  True

def algebraic_AsmIdeal_AsmRefIdeal [hAsmIdeal : Cert.AsmIdeal.Facts] [hAsmRefIdeal : Cert.AsmRefIdeal.Facts] : Prop :=
  ∀ (m : (ℓ : Loc Cert.AsmIdeal.nD Cert.AsmIdeal.τ Cert.AsmIdeal.sig) → Buf (Elt Ideal) ℓ) (g : Dev Cert.AsmIdeal.nD → PrngReg)
    (m' : (ℓ : Loc Cert.AsmRefIdeal.nD Cert.AsmRefIdeal.τ Cert.AsmRefIdeal.sig) → Buf (Elt Ideal) ℓ) (g' : Dev Cert.AsmRefIdeal.nD → PrngReg), Pre_AsmIdeal m →
    (∀ c : Dev Cert.AsmIdeal.nD,
      m' ((c.tc : Thread Cert.AsmRefIdeal.nD Cert.AsmRefIdeal.τ).loc Cert.AsmRefIdeal.main_arg0) = m ((c.tc : Thread Cert.AsmIdeal.nD Cert.AsmIdeal.τ).loc Cert.AsmIdeal.main_arg0)
      ∧ m' ((c.tc : Thread Cert.AsmRefIdeal.nD Cert.AsmRefIdeal.τ).loc Cert.AsmRefIdeal.main_arg1) = m ((c.tc : Thread Cert.AsmIdeal.nD Cert.AsmIdeal.τ).loc Cert.AsmIdeal.main_arg1)
      ∧ m' ((c.tc : Thread Cert.AsmRefIdeal.nD Cert.AsmRefIdeal.τ).loc Cert.AsmRefIdeal.main_arg2) = m ((c.tc : Thread Cert.AsmIdeal.nD Cert.AsmIdeal.τ).loc Cert.AsmIdeal.main_arg2)
      ∧ m' ((c.tc : Thread Cert.AsmRefIdeal.nD Cert.AsmRefIdeal.τ).loc Cert.AsmRefIdeal.main_arg3) = m ((c.tc : Thread Cert.AsmIdeal.nD Cert.AsmIdeal.τ).loc Cert.AsmIdeal.main_arg3)
      ∧ m' ((c.tc : Thread Cert.AsmRefIdeal.nD Cert.AsmRefIdeal.τ).loc Cert.AsmRefIdeal.main_arg4) = m ((c.tc : Thread Cert.AsmIdeal.nD Cert.AsmIdeal.τ).loc Cert.AsmIdeal.main_arg4)
      ∧ m' ((c.tc : Thread Cert.AsmRefIdeal.nD Cert.AsmRefIdeal.τ).loc Cert.AsmRefIdeal.main_arg5) = m ((c.tc : Thread Cert.AsmIdeal.nD Cert.AsmIdeal.τ).loc Cert.AsmIdeal.main_arg5)
      ∧ m' ((c.tc : Thread Cert.AsmRefIdeal.nD Cert.AsmRefIdeal.τ).loc Cert.AsmRefIdeal.main_arg6) = m ((c.tc : Thread Cert.AsmIdeal.nD Cert.AsmIdeal.τ).loc Cert.AsmIdeal.main_arg6)
      ∧ m' ((c.tc : Thread Cert.AsmRefIdeal.nD Cert.AsmRefIdeal.τ).loc Cert.AsmRefIdeal.main_arg7) = m ((c.tc : Thread Cert.AsmIdeal.nD Cert.AsmIdeal.τ).loc Cert.AsmIdeal.main_arg7)
      ∧ m' ((c.tc : Thread Cert.AsmRefIdeal.nD Cert.AsmRefIdeal.τ).loc Cert.AsmRefIdeal.main_arg8) = m ((c.tc : Thread Cert.AsmIdeal.nD Cert.AsmIdeal.τ).loc Cert.AsmIdeal.main_arg8)) →
    ∃ (v0 : (c : Dev Cert.AsmIdeal.nD) → Buf (Elt Ideal) ((c.tc : Thread Cert.AsmIdeal.nD Cert.AsmIdeal.τ).loc Cert.AsmIdeal.main_v5)),
      θ_run (Cert.AsmIdeal.defs (F := Ideal)) (onTc (τ := Cert.AsmIdeal.τ) (Cert.AsmIdeal.main (F := Ideal))) ⟨m, fun _ => 0, g⟩ (fun r => ∀ c : Dev Cert.AsmIdeal.nD,
          r.2.mem ((c.tc : Thread Cert.AsmIdeal.nD Cert.AsmIdeal.τ).loc Cert.AsmIdeal.main_v5) = v0 c
          ∧ r.2.mem ((c.tc : Thread Cert.AsmIdeal.nD Cert.AsmIdeal.τ).loc Cert.AsmIdeal.main_arg0) = m ((c.tc : Thread Cert.AsmIdeal.nD Cert.AsmIdeal.τ).loc Cert.AsmIdeal.main_arg0)
          ∧ r.2.mem ((c.tc : Thread Cert.AsmIdeal.nD Cert.AsmIdeal.τ).loc Cert.AsmIdeal.main_arg1) = m ((c.tc : Thread Cert.AsmIdeal.nD Cert.AsmIdeal.τ).loc Cert.AsmIdeal.main_arg1)
          ∧ r.2.mem ((c.tc : Thread Cert.AsmIdeal.nD Cert.AsmIdeal.τ).loc Cert.AsmIdeal.main_arg2) = m ((c.tc : Thread Cert.AsmIdeal.nD Cert.AsmIdeal.τ).loc Cert.AsmIdeal.main_arg2)
          ∧ r.2.mem ((c.tc : Thread Cert.AsmIdeal.nD Cert.AsmIdeal.τ).loc Cert.AsmIdeal.main_arg3) = m ((c.tc : Thread Cert.AsmIdeal.nD Cert.AsmIdeal.τ).loc Cert.AsmIdeal.main_arg3)
          ∧ r.2.mem ((c.tc : Thread Cert.AsmIdeal.nD Cert.AsmIdeal.τ).loc Cert.AsmIdeal.main_arg4) = m ((c.tc : Thread Cert.AsmIdeal.nD Cert.AsmIdeal.τ).loc Cert.AsmIdeal.main_arg4)
          ∧ r.2.mem ((c.tc : Thread Cert.AsmIdeal.nD Cert.AsmIdeal.τ).loc Cert.AsmIdeal.main_arg5) = m ((c.tc : Thread Cert.AsmIdeal.nD Cert.AsmIdeal.τ).loc Cert.AsmIdeal.main_arg5)
          ∧ r.2.mem ((c.tc : Thread Cert.AsmIdeal.nD Cert.AsmIdeal.τ).loc Cert.AsmIdeal.main_arg6) = m ((c.tc : Thread Cert.AsmIdeal.nD Cert.AsmIdeal.τ).loc Cert.AsmIdeal.main_arg6)
          ∧ r.2.mem ((c.tc : Thread Cert.AsmIdeal.nD Cert.AsmIdeal.τ).loc Cert.AsmIdeal.main_arg7) = m ((c.tc : Thread Cert.AsmIdeal.nD Cert.AsmIdeal.τ).loc Cert.AsmIdeal.main_arg7)
          ∧ r.2.mem ((c.tc : Thread Cert.AsmIdeal.nD Cert.AsmIdeal.τ).loc Cert.AsmIdeal.main_arg8) = m ((c.tc : Thread Cert.AsmIdeal.nD Cert.AsmIdeal.τ).loc Cert.AsmIdeal.main_arg8))
      ∧ θ_run (Cert.AsmRefIdeal.defs (F := Ideal)) (onTc (τ := Cert.AsmRefIdeal.τ) (Cert.AsmRefIdeal.main (F := Ideal))) ⟨m', fun _ => 0, g'⟩ (fun r => ∀ c : Dev Cert.AsmRefIdeal.nD,
          r.2.mem ((c.tc : Thread Cert.AsmRefIdeal.nD Cert.AsmRefIdeal.τ).loc Cert.AsmRefIdeal.main_v37) = v0 c
          ∧ r.2.mem ((c.tc : Thread Cert.AsmRefIdeal.nD Cert.AsmRefIdeal.τ).loc Cert.AsmRefIdeal.main_arg0) = m' ((c.tc : Thread Cert.AsmRefIdeal.nD Cert.AsmRefIdeal.τ).loc Cert.AsmRefIdeal.main_arg0)
          ∧ r.2.mem ((c.tc : Thread Cert.AsmRefIdeal.nD Cert.AsmRefIdeal.τ).loc Cert.AsmRefIdeal.main_arg1) = m' ((c.tc : Thread Cert.AsmRefIdeal.nD Cert.AsmRefIdeal.τ).loc Cert.AsmRefIdeal.main_arg1)
          ∧ r.2.mem ((c.tc : Thread Cert.AsmRefIdeal.nD Cert.AsmRefIdeal.τ).loc Cert.AsmRefIdeal.main_arg2) = m' ((c.tc : Thread Cert.AsmRefIdeal.nD Cert.AsmRefIdeal.τ).loc Cert.AsmRefIdeal.main_arg2)
          ∧ r.2.mem ((c.tc : Thread Cert.AsmRefIdeal.nD Cert.AsmRefIdeal.τ).loc Cert.AsmRefIdeal.main_arg3) = m' ((c.tc : Thread Cert.AsmRefIdeal.nD Cert.AsmRefIdeal.τ).loc Cert.AsmRefIdeal.main_arg3)
          ∧ r.2.mem ((c.tc : Thread Cert.AsmRefIdeal.nD Cert.AsmRefIdeal.τ).loc Cert.AsmRefIdeal.main_arg4) = m' ((c.tc : Thread Cert.AsmRefIdeal.nD Cert.AsmRefIdeal.τ).loc Cert.AsmRefIdeal.main_arg4)
          ∧ r.2.mem ((c.tc : Thread Cert.AsmRefIdeal.nD Cert.AsmRefIdeal.τ).loc Cert.AsmRefIdeal.main_arg5) = m' ((c.tc : Thread Cert.AsmRefIdeal.nD Cert.AsmRefIdeal.τ).loc Cert.AsmRefIdeal.main_arg5)
          ∧ r.2.mem ((c.tc : Thread Cert.AsmRefIdeal.nD Cert.AsmRefIdeal.τ).loc Cert.AsmRefIdeal.main_arg6) = m' ((c.tc : Thread Cert.AsmRefIdeal.nD Cert.AsmRefIdeal.τ).loc Cert.AsmRefIdeal.main_arg6)
          ∧ r.2.mem ((c.tc : Thread Cert.AsmRefIdeal.nD Cert.AsmRefIdeal.τ).loc Cert.AsmRefIdeal.main_arg7) = m' ((c.tc : Thread Cert.AsmRefIdeal.nD Cert.AsmRefIdeal.τ).loc Cert.AsmRefIdeal.main_arg7)
          ∧ r.2.mem ((c.tc : Thread Cert.AsmRefIdeal.nD Cert.AsmRefIdeal.τ).loc Cert.AsmRefIdeal.main_arg8) = m' ((c.tc : Thread Cert.AsmRefIdeal.nD Cert.AsmRefIdeal.τ).loc Cert.AsmRefIdeal.main_arg8))

def preserves_Swaf_SwafIdeal : Prop :=
  IdealRules.named_const.Statement Cert.SwafIdeal.κ "mask" .f32 0xF149F2CA#32 ⊥

def algebraic_SwafIdeal_SwafRefIdeal_pre_finite_swaf [hSwafIdeal : Cert.SwafIdeal.Facts] [hSwafRefIdeal : Cert.SwafRefIdeal.Facts] [hPre_finite_swaf : Cert.Pre_finite_swaf.Facts] : Prop :=
  ∀ (m : (ℓ : Loc Cert.SwafIdeal.nD Cert.SwafIdeal.τ Cert.SwafIdeal.sig) → Buf (Elt Ideal) ℓ) (g : Dev Cert.SwafIdeal.nD → PrngReg)
    (m' : (ℓ : Loc Cert.SwafRefIdeal.nD Cert.SwafRefIdeal.τ Cert.SwafRefIdeal.sig) → Buf (Elt Ideal) ℓ) (g' : Dev Cert.SwafRefIdeal.nD → PrngReg), Pre_SwafIdeal_finite_swaf m →
    (∀ c : Dev Cert.SwafIdeal.nD,
      m' ((c.tc : Thread Cert.SwafRefIdeal.nD Cert.SwafRefIdeal.τ).loc Cert.SwafRefIdeal.main_arg0) = m ((c.tc : Thread Cert.SwafIdeal.nD Cert.SwafIdeal.τ).loc Cert.SwafIdeal.main_arg0)
      ∧ m' ((c.tc : Thread Cert.SwafRefIdeal.nD Cert.SwafRefIdeal.τ).loc Cert.SwafRefIdeal.main_arg1) = m ((c.tc : Thread Cert.SwafIdeal.nD Cert.SwafIdeal.τ).loc Cert.SwafIdeal.main_arg1)
      ∧ m' ((c.tc : Thread Cert.SwafRefIdeal.nD Cert.SwafRefIdeal.τ).loc Cert.SwafRefIdeal.main_arg2) = m ((c.tc : Thread Cert.SwafIdeal.nD Cert.SwafIdeal.τ).loc Cert.SwafIdeal.main_arg2)) →
    ∃ (v0 : (c : Dev Cert.SwafIdeal.nD) → Buf (Elt Ideal) ((c.tc : Thread Cert.SwafIdeal.nD Cert.SwafIdeal.τ).loc Cert.SwafIdeal.main_v28)),
      θ_run (Cert.SwafIdeal.defs (F := Ideal)) (onTc (τ := Cert.SwafIdeal.τ) (Cert.SwafIdeal.main (F := Ideal))) ⟨m, fun _ => 0, g⟩ (fun r => ∀ c : Dev Cert.SwafIdeal.nD,
          r.2.mem ((c.tc : Thread Cert.SwafIdeal.nD Cert.SwafIdeal.τ).loc Cert.SwafIdeal.main_v28) = v0 c
          ∧ r.2.mem ((c.tc : Thread Cert.SwafIdeal.nD Cert.SwafIdeal.τ).loc Cert.SwafIdeal.main_arg0) = m ((c.tc : Thread Cert.SwafIdeal.nD Cert.SwafIdeal.τ).loc Cert.SwafIdeal.main_arg0)
          ∧ r.2.mem ((c.tc : Thread Cert.SwafIdeal.nD Cert.SwafIdeal.τ).loc Cert.SwafIdeal.main_arg1) = m ((c.tc : Thread Cert.SwafIdeal.nD Cert.SwafIdeal.τ).loc Cert.SwafIdeal.main_arg1)
          ∧ r.2.mem ((c.tc : Thread Cert.SwafIdeal.nD Cert.SwafIdeal.τ).loc Cert.SwafIdeal.main_arg2) = m ((c.tc : Thread Cert.SwafIdeal.nD Cert.SwafIdeal.τ).loc Cert.SwafIdeal.main_arg2))
      ∧ θ_run (Cert.SwafRefIdeal.defs (F := Ideal)) (onTc (τ := Cert.SwafRefIdeal.τ) (Cert.SwafRefIdeal.main (F := Ideal))) ⟨m', fun _ => 0, g'⟩ (fun r => ∀ c : Dev Cert.SwafRefIdeal.nD,
          r.2.mem ((c.tc : Thread Cert.SwafRefIdeal.nD Cert.SwafRefIdeal.τ).loc Cert.SwafRefIdeal.main_v71) = v0 c
          ∧ r.2.mem ((c.tc : Thread Cert.SwafRefIdeal.nD Cert.SwafRefIdeal.τ).loc Cert.SwafRefIdeal.main_arg0) = m' ((c.tc : Thread Cert.SwafRefIdeal.nD Cert.SwafRefIdeal.τ).loc Cert.SwafRefIdeal.main_arg0)
          ∧ r.2.mem ((c.tc : Thread Cert.SwafRefIdeal.nD Cert.SwafRefIdeal.τ).loc Cert.SwafRefIdeal.main_arg1) = m' ((c.tc : Thread Cert.SwafRefIdeal.nD Cert.SwafRefIdeal.τ).loc Cert.SwafRefIdeal.main_arg1)
          ∧ r.2.mem ((c.tc : Thread Cert.SwafRefIdeal.nD Cert.SwafRefIdeal.τ).loc Cert.SwafRefIdeal.main_arg2) = m' ((c.tc : Thread Cert.SwafRefIdeal.nD Cert.SwafRefIdeal.τ).loc Cert.SwafRefIdeal.main_arg2))

def preserves_Lb_LbIdeal : Prop :=
  True

def algebraic_LbIdeal_LbRefIdeal_pre_off_floor [hLbIdeal : Cert.LbIdeal.Facts] [hLbRefIdeal : Cert.LbRefIdeal.Facts] [hPre_off_floor : Cert.Pre_off_floor.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal_off_floor m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)
      ∧ m' ((c.tc : Thread Cert.LbRefIdeal.nD Cert.LbRefIdeal.τ).loc Cert.LbRefIdeal.main_arg1) = m ((c.tc : Thread Cert.LbIdeal.nD Cert.LbIdeal.τ).loc Cert.LbIdeal.main_arg1)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0)
          ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v86) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0)
          ∧ r.2.mem ((c.tc : Thread Cert.LbRefIdeal.nD Cert.LbRefIdeal.τ).loc Cert.LbRefIdeal.main_arg1) = m' ((c.tc : Thread Cert.LbRefIdeal.nD Cert.LbRefIdeal.τ).loc Cert.LbRefIdeal.main_arg1))

def preserves_Convf_ConvfIdeal : Prop :=
  True

def algebraic_ConvfIdeal_ConvfRefIdeal [hConvfIdeal : Cert.ConvfIdeal.Facts] [hConvfRefIdeal : Cert.ConvfRefIdeal.Facts] : Prop :=
  ∀ (m : (ℓ : Loc Cert.ConvfIdeal.nD Cert.ConvfIdeal.τ Cert.ConvfIdeal.sig) → Buf (Elt Ideal) ℓ) (g : Dev Cert.ConvfIdeal.nD → PrngReg)
    (m' : (ℓ : Loc Cert.ConvfRefIdeal.nD Cert.ConvfRefIdeal.τ Cert.ConvfRefIdeal.sig) → Buf (Elt Ideal) ℓ) (g' : Dev Cert.ConvfRefIdeal.nD → PrngReg), Pre_ConvfIdeal m →
    (∀ c : Dev Cert.ConvfIdeal.nD,
      m' ((c.tc : Thread Cert.ConvfRefIdeal.nD Cert.ConvfRefIdeal.τ).loc Cert.ConvfRefIdeal.main_arg0) = m ((c.tc : Thread Cert.ConvfIdeal.nD Cert.ConvfIdeal.τ).loc Cert.ConvfIdeal.main_arg0)
      ∧ m' ((c.tc : Thread Cert.ConvfRefIdeal.nD Cert.ConvfRefIdeal.τ).loc Cert.ConvfRefIdeal.main_arg1) = m ((c.tc : Thread Cert.ConvfIdeal.nD Cert.ConvfIdeal.τ).loc Cert.ConvfIdeal.main_arg1)
      ∧ m' ((c.tc : Thread Cert.ConvfRefIdeal.nD Cert.ConvfRefIdeal.τ).loc Cert.ConvfRefIdeal.main_arg2) = m ((c.tc : Thread Cert.ConvfIdeal.nD Cert.ConvfIdeal.τ).loc Cert.ConvfIdeal.main_arg2)) →
    ∃ (v0 : (c : Dev Cert.ConvfIdeal.nD) → Buf (Elt Ideal) ((c.tc : Thread Cert.ConvfIdeal.nD Cert.ConvfIdeal.τ).loc Cert.ConvfIdeal.main_v3_0)) (v1 : (c : Dev Cert.ConvfIdeal.nD) → Buf (Elt Ideal) ((c.tc : Thread Cert.ConvfIdeal.nD Cert.ConvfIdeal.τ).loc Cert.ConvfIdeal.main_v3_1)),
      θ_run (Cert.ConvfIdeal.defs (F := Ideal)) (onTc (τ := Cert.ConvfIdeal.τ) (Cert.ConvfIdeal.main (F := Ideal))) ⟨m, fun _ => 0, g⟩ (fun r => ∀ c : Dev Cert.ConvfIdeal.nD,
          r.2.mem ((c.tc : Thread Cert.ConvfIdeal.nD Cert.ConvfIdeal.τ).loc Cert.ConvfIdeal.main_v3_0) = v0 c
          ∧ r.2.mem ((c.tc : Thread Cert.ConvfIdeal.nD Cert.ConvfIdeal.τ).loc Cert.ConvfIdeal.main_v3_1) = v1 c
          ∧ r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
          ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1)
          ∧ r.2.mem ((c.tc : Thread Cert.ConvfIdeal.nD Cert.ConvfIdeal.τ).loc Cert.ConvfIdeal.main_arg2) = m ((c.tc : Thread Cert.ConvfIdeal.nD Cert.ConvfIdeal.τ).loc Cert.ConvfIdeal.main_arg2))
      ∧ θ_run (Cert.ConvfRefIdeal.defs (F := Ideal)) (onTc (τ := Cert.ConvfRefIdeal.τ) (Cert.ConvfRefIdeal.main (F := Ideal))) ⟨m', fun _ => 0, g'⟩ (fun r => ∀ c : Dev Cert.ConvfRefIdeal.nD,
          r.2.mem ((c.tc : Thread Cert.ConvfRefIdeal.nD Cert.ConvfRefIdeal.τ).loc Cert.ConvfRefIdeal.main_v30) = v0 c
          ∧ r.2.mem ((c.tc : Thread Cert.ConvfRefIdeal.nD Cert.ConvfRefIdeal.τ).loc Cert.ConvfRefIdeal.main_v57) = v1 c
          ∧ r.2.mem ((c.tc : Thread Cert.ConvfRefIdeal.nD Cert.ConvfRefIdeal.τ).loc Cert.ConvfRefIdeal.main_arg0) = m' ((c.tc : Thread Cert.ConvfRefIdeal.nD Cert.ConvfRefIdeal.τ).loc Cert.ConvfRefIdeal.main_arg0)
          ∧ r.2.mem ((c.tc : Thread Cert.ConvfRefIdeal.nD Cert.ConvfRefIdeal.τ).loc Cert.ConvfRefIdeal.main_arg1) = m' ((c.tc : Thread Cert.ConvfRefIdeal.nD Cert.ConvfRefIdeal.τ).loc Cert.ConvfRefIdeal.main_arg1)
          ∧ r.2.mem ((c.tc : Thread Cert.ConvfRefIdeal.nD Cert.ConvfRefIdeal.τ).loc Cert.ConvfRefIdeal.main_arg2) = m' ((c.tc : Thread Cert.ConvfRefIdeal.nD Cert.ConvfRefIdeal.τ).loc Cert.ConvfRefIdeal.main_arg2))

def preserves_Plef_PlefIdeal : Prop :=
  True

def algebraic_PlefIdeal_PlefRefIdeal [hPlefIdeal : Cert.PlefIdeal.Facts] [hPlefRefIdeal : Cert.PlefRefIdeal.Facts] : Prop :=
  ∀ (m : (ℓ : Loc Cert.PlefIdeal.nD Cert.PlefIdeal.τ Cert.PlefIdeal.sig) → Buf (Elt Ideal) ℓ) (g : Dev Cert.PlefIdeal.nD → PrngReg)
    (m' : (ℓ : Loc Cert.PlefRefIdeal.nD Cert.PlefRefIdeal.τ Cert.PlefRefIdeal.sig) → Buf (Elt Ideal) ℓ) (g' : Dev Cert.PlefRefIdeal.nD → PrngReg), Pre_PlefIdeal m →
    (∀ c : Dev Cert.PlefIdeal.nD,
      m' ((c.tc : Thread Cert.PlefRefIdeal.nD Cert.PlefRefIdeal.τ).loc Cert.PlefRefIdeal.main_arg0) = m ((c.tc : Thread Cert.PlefIdeal.nD Cert.PlefIdeal.τ).loc Cert.PlefIdeal.main_arg0)
      ∧ m' ((c.tc : Thread Cert.PlefRefIdeal.nD Cert.PlefRefIdeal.τ).loc Cert.PlefRefIdeal.main_arg1) = m ((c.tc : Thread Cert.PlefIdeal.nD Cert.PlefIdeal.τ).loc Cert.PlefIdeal.main_arg1)
      ∧ m' ((c.tc : Thread Cert.PlefRefIdeal.nD Cert.PlefRefIdeal.τ).loc Cert.PlefRefIdeal.main_arg2) = m ((c.tc : Thread Cert.PlefIdeal.nD Cert.PlefIdeal.τ).loc Cert.PlefIdeal.main_arg2)
      ∧ m' ((c.tc : Thread Cert.PlefRefIdeal.nD Cert.PlefRefIdeal.τ).loc Cert.PlefRefIdeal.main_arg3) = m ((c.tc : Thread Cert.PlefIdeal.nD Cert.PlefIdeal.τ).loc Cert.PlefIdeal.main_arg3)
      ∧ m' ((c.tc : Thread Cert.PlefRefIdeal.nD Cert.PlefRefIdeal.τ).loc Cert.PlefRefIdeal.main_arg4) = m ((c.tc : Thread Cert.PlefIdeal.nD Cert.PlefIdeal.τ).loc Cert.PlefIdeal.main_arg4)) →
    ∃ (v0 : (c : Dev Cert.PlefIdeal.nD) → Buf (Elt Ideal) ((c.tc : Thread Cert.PlefIdeal.nD Cert.PlefIdeal.τ).loc Cert.PlefIdeal.main_v3_0)) (v1 : (c : Dev Cert.PlefIdeal.nD) → Buf (Elt Ideal) ((c.tc : Thread Cert.PlefIdeal.nD Cert.PlefIdeal.τ).loc Cert.PlefIdeal.main_v3_1)),
      θ_run (Cert.PlefIdeal.defs (F := Ideal)) (onTc (τ := Cert.PlefIdeal.τ) (Cert.PlefIdeal.main (F := Ideal))) ⟨m, fun _ => 0, g⟩ (fun r => ∀ c : Dev Cert.PlefIdeal.nD,
          r.2.mem ((c.tc : Thread Cert.PlefIdeal.nD Cert.PlefIdeal.τ).loc Cert.PlefIdeal.main_v3_0) = v0 c
          ∧ r.2.mem ((c.tc : Thread Cert.PlefIdeal.nD Cert.PlefIdeal.τ).loc Cert.PlefIdeal.main_v3_1) = v1 c
          ∧ r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
          ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
          ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
          ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3)
          ∧ r.2.mem ((c.tc : Thread Cert.PlefIdeal.nD Cert.PlefIdeal.τ).loc Cert.PlefIdeal.main_arg4) = m ((c.tc : Thread Cert.PlefIdeal.nD Cert.PlefIdeal.τ).loc Cert.PlefIdeal.main_arg4))
      ∧ θ_run (Cert.PlefRefIdeal.defs (F := Ideal)) (onTc (τ := Cert.PlefRefIdeal.τ) (Cert.PlefRefIdeal.main (F := Ideal))) ⟨m', fun _ => 0, g'⟩ (fun r => ∀ c : Dev Cert.PlefRefIdeal.nD,
          r.2.mem ((c.tc : Thread Cert.PlefRefIdeal.nD Cert.PlefRefIdeal.τ).loc Cert.PlefRefIdeal.main_v8) = v0 c
          ∧ r.2.mem ((c.tc : Thread Cert.PlefRefIdeal.nD Cert.PlefRefIdeal.τ).loc Cert.PlefRefIdeal.main_v22) = v1 c
          ∧ r.2.mem ((c.tc : Thread Cert.PlefRefIdeal.nD Cert.PlefRefIdeal.τ).loc Cert.PlefRefIdeal.main_arg0) = m' ((c.tc : Thread Cert.PlefRefIdeal.nD Cert.PlefRefIdeal.τ).loc Cert.PlefRefIdeal.main_arg0)
          ∧ r.2.mem ((c.tc : Thread Cert.PlefRefIdeal.nD Cert.PlefRefIdeal.τ).loc Cert.PlefRefIdeal.main_arg1) = m' ((c.tc : Thread Cert.PlefRefIdeal.nD Cert.PlefRefIdeal.τ).loc Cert.PlefRefIdeal.main_arg1)
          ∧ r.2.mem ((c.tc : Thread Cert.PlefRefIdeal.nD Cert.PlefRefIdeal.τ).loc Cert.PlefRefIdeal.main_arg2) = m' ((c.tc : Thread Cert.PlefRefIdeal.nD Cert.PlefRefIdeal.τ).loc Cert.PlefRefIdeal.main_arg2)
          ∧ r.2.mem ((c.tc : Thread Cert.PlefRefIdeal.nD Cert.PlefRefIdeal.τ).loc Cert.PlefRefIdeal.main_arg3) = m' ((c.tc : Thread Cert.PlefRefIdeal.nD Cert.PlefRefIdeal.τ).loc Cert.PlefRefIdeal.main_arg3)
          ∧ r.2.mem ((c.tc : Thread Cert.PlefRefIdeal.nD Cert.PlefRefIdeal.τ).loc Cert.PlefRefIdeal.main_arg4) = m' ((c.tc : Thread Cert.PlefRefIdeal.nD Cert.PlefRefIdeal.τ).loc Cert.PlefRefIdeal.main_arg4))

def preserves_Lbf_LbfIdeal : Prop :=
  True

def algebraic_LbfIdeal_LbfRefIdeal [hLbfIdeal : Cert.LbfIdeal.Facts] [hLbfRefIdeal : Cert.LbfRefIdeal.Facts] : Prop :=
  ∀ (m : (ℓ : Loc Cert.LbfIdeal.nD Cert.LbfIdeal.τ Cert.LbfIdeal.sig) → Buf (Elt Ideal) ℓ) (g : Dev Cert.LbfIdeal.nD → PrngReg)
    (m' : (ℓ : Loc Cert.LbfRefIdeal.nD Cert.LbfRefIdeal.τ Cert.LbfRefIdeal.sig) → Buf (Elt Ideal) ℓ) (g' : Dev Cert.LbfRefIdeal.nD → PrngReg), Pre_LbfIdeal m →
    (∀ c : Dev Cert.LbfIdeal.nD,
      m' ((c.tc : Thread Cert.LbfRefIdeal.nD Cert.LbfRefIdeal.τ).loc Cert.LbfRefIdeal.main_arg0) = m ((c.tc : Thread Cert.LbfIdeal.nD Cert.LbfIdeal.τ).loc Cert.LbfIdeal.main_arg0)) →
    ∃ (v0 : (c : Dev Cert.LbfIdeal.nD) → Buf (Elt Ideal) ((c.tc : Thread Cert.LbfIdeal.nD Cert.LbfIdeal.τ).loc Cert.LbfIdeal.main_v0)),
      θ_run (Cert.LbfIdeal.defs (F := Ideal)) (onTc (τ := Cert.LbfIdeal.τ) (Cert.LbfIdeal.main (F := Ideal))) ⟨m, fun _ => 0, g⟩ (fun r => ∀ c : Dev Cert.LbfIdeal.nD,
          r.2.mem ((c.tc : Thread Cert.LbfIdeal.nD Cert.LbfIdeal.τ).loc Cert.LbfIdeal.main_v0) = v0 c
          ∧ r.2.mem ((c.tc : Thread Cert.LbfIdeal.nD Cert.LbfIdeal.τ).loc Cert.LbfIdeal.main_arg0) = m ((c.tc : Thread Cert.LbfIdeal.nD Cert.LbfIdeal.τ).loc Cert.LbfIdeal.main_arg0))
      ∧ θ_run (Cert.LbfRefIdeal.defs (F := Ideal)) (onTc (τ := Cert.LbfRefIdeal.τ) (Cert.LbfRefIdeal.main (F := Ideal))) ⟨m', fun _ => 0, g'⟩ (fun r => ∀ c : Dev Cert.LbfRefIdeal.nD,
          r.2.mem ((c.tc : Thread Cert.LbfRefIdeal.nD Cert.LbfRefIdeal.τ).loc Cert.LbfRefIdeal.main_v47) = v0 c
          ∧ r.2.mem ((c.tc : Thread Cert.LbfRefIdeal.nD Cert.LbfRefIdeal.τ).loc Cert.LbfRefIdeal.main_arg0) = m' ((c.tc : Thread Cert.LbfRefIdeal.nD Cert.LbfRefIdeal.τ).loc Cert.LbfRefIdeal.main_arg0))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Mmout_MmoutIdeal : Prop :=
  True

def algebraic_MmoutIdeal_MmoutRefIdeal [hMmoutIdeal : Cert.MmoutIdeal.Facts] [hMmoutRefIdeal : Cert.MmoutRefIdeal.Facts] : Prop :=
  ∀ (m : (ℓ : Loc Cert.MmoutIdeal.nD Cert.MmoutIdeal.τ Cert.MmoutIdeal.sig) → Buf (Elt Ideal) ℓ) (g : Dev Cert.MmoutIdeal.nD → PrngReg)
    (m' : (ℓ : Loc Cert.MmoutRefIdeal.nD Cert.MmoutRefIdeal.τ Cert.MmoutRefIdeal.sig) → Buf (Elt Ideal) ℓ) (g' : Dev Cert.MmoutRefIdeal.nD → PrngReg), Pre_MmoutIdeal m →
    (∀ c : Dev Cert.MmoutIdeal.nD,
      m' ((c.tc : Thread Cert.MmoutRefIdeal.nD Cert.MmoutRefIdeal.τ).loc Cert.MmoutRefIdeal.main_arg0) = m ((c.tc : Thread Cert.MmoutIdeal.nD Cert.MmoutIdeal.τ).loc Cert.MmoutIdeal.main_arg0)
      ∧ m' ((c.tc : Thread Cert.MmoutRefIdeal.nD Cert.MmoutRefIdeal.τ).loc Cert.MmoutRefIdeal.main_arg1) = m ((c.tc : Thread Cert.MmoutIdeal.nD Cert.MmoutIdeal.τ).loc Cert.MmoutIdeal.main_arg1)
      ∧ m' ((c.tc : Thread Cert.MmoutRefIdeal.nD Cert.MmoutRefIdeal.τ).loc Cert.MmoutRefIdeal.main_arg2) = m ((c.tc : Thread Cert.MmoutIdeal.nD Cert.MmoutIdeal.τ).loc Cert.MmoutIdeal.main_arg2)
      ∧ m' ((c.tc : Thread Cert.MmoutRefIdeal.nD Cert.MmoutRefIdeal.τ).loc Cert.MmoutRefIdeal.main_arg3) = m ((c.tc : Thread Cert.MmoutIdeal.nD Cert.MmoutIdeal.τ).loc Cert.MmoutIdeal.main_arg3)) →
    ∃ (v0 : (c : Dev Cert.MmoutIdeal.nD) → Buf (Elt Ideal) ((c.tc : Thread Cert.MmoutIdeal.nD Cert.MmoutIdeal.τ).loc Cert.MmoutIdeal.main_v3_0)) (v1 : (c : Dev Cert.MmoutIdeal.nD) → Buf (Elt Ideal) ((c.tc : Thread Cert.MmoutIdeal.nD Cert.MmoutIdeal.τ).loc Cert.MmoutIdeal.main_v3_1)),
      θ_run (Cert.MmoutIdeal.defs (F := Ideal)) (onTc (τ := Cert.MmoutIdeal.τ) (Cert.MmoutIdeal.main (F := Ideal))) ⟨m, fun _ => 0, g⟩ (fun r => ∀ c : Dev Cert.MmoutIdeal.nD,
          r.2.mem ((c.tc : Thread Cert.MmoutIdeal.nD Cert.MmoutIdeal.τ).loc Cert.MmoutIdeal.main_v3_0) = v0 c
          ∧ r.2.mem ((c.tc : Thread Cert.MmoutIdeal.nD Cert.MmoutIdeal.τ).loc Cert.MmoutIdeal.main_v3_1) = v1 c
          ∧ r.2.mem ((c.tc : Thread Cert.MmoutIdeal.nD Cert.MmoutIdeal.τ).loc Cert.MmoutIdeal.main_arg0) = m ((c.tc : Thread Cert.MmoutIdeal.nD Cert.MmoutIdeal.τ).loc Cert.MmoutIdeal.main_arg0)
          ∧ r.2.mem ((c.tc : Thread Cert.MmoutIdeal.nD Cert.MmoutIdeal.τ).loc Cert.MmoutIdeal.main_arg1) = m ((c.tc : Thread Cert.MmoutIdeal.nD Cert.MmoutIdeal.τ).loc Cert.MmoutIdeal.main_arg1)
          ∧ r.2.mem ((c.tc : Thread Cert.MmoutIdeal.nD Cert.MmoutIdeal.τ).loc Cert.MmoutIdeal.main_arg2) = m ((c.tc : Thread Cert.MmoutIdeal.nD Cert.MmoutIdeal.τ).loc Cert.MmoutIdeal.main_arg2)
          ∧ r.2.mem ((c.tc : Thread Cert.MmoutIdeal.nD Cert.MmoutIdeal.τ).loc Cert.MmoutIdeal.main_arg3) = m ((c.tc : Thread Cert.MmoutIdeal.nD Cert.MmoutIdeal.τ).loc Cert.MmoutIdeal.main_arg3))
      ∧ θ_run (Cert.MmoutRefIdeal.defs (F := Ideal)) (onTc (τ := Cert.MmoutRefIdeal.τ) (Cert.MmoutRefIdeal.main (F := Ideal))) ⟨m', fun _ => 0, g'⟩ (fun r => ∀ c : Dev Cert.MmoutRefIdeal.nD,
          r.2.mem ((c.tc : Thread Cert.MmoutRefIdeal.nD Cert.MmoutRefIdeal.τ).loc Cert.MmoutRefIdeal.main_v1) = v0 c
          ∧ r.2.mem ((c.tc : Thread Cert.MmoutRefIdeal.nD Cert.MmoutRefIdeal.τ).loc Cert.MmoutRefIdeal.main_v15) = v1 c
          ∧ r.2.mem ((c.tc : Thread Cert.MmoutRefIdeal.nD Cert.MmoutRefIdeal.τ).loc Cert.MmoutRefIdeal.main_arg0) = m' ((c.tc : Thread Cert.MmoutRefIdeal.nD Cert.MmoutRefIdeal.τ).loc Cert.MmoutRefIdeal.main_arg0)
          ∧ r.2.mem ((c.tc : Thread Cert.MmoutRefIdeal.nD Cert.MmoutRefIdeal.τ).loc Cert.MmoutRefIdeal.main_arg1) = m' ((c.tc : Thread Cert.MmoutRefIdeal.nD Cert.MmoutRefIdeal.τ).loc Cert.MmoutRefIdeal.main_arg1)
          ∧ r.2.mem ((c.tc : Thread Cert.MmoutRefIdeal.nD Cert.MmoutRefIdeal.τ).loc Cert.MmoutRefIdeal.main_arg2) = m' ((c.tc : Thread Cert.MmoutRefIdeal.nD Cert.MmoutRefIdeal.τ).loc Cert.MmoutRefIdeal.main_arg2)
          ∧ r.2.mem ((c.tc : Thread Cert.MmoutRefIdeal.nD Cert.MmoutRefIdeal.τ).loc Cert.MmoutRefIdeal.main_arg3) = m' ((c.tc : Thread Cert.MmoutRefIdeal.nD Cert.MmoutRefIdeal.τ).loc Cert.MmoutRefIdeal.main_arg3))

def preserves_Mmdown_MmdownIdeal : Prop :=
  True

def algebraic_MmdownIdeal_MmdownRefIdeal [hMmdownIdeal : Cert.MmdownIdeal.Facts] [hMmdownRefIdeal : Cert.MmdownRefIdeal.Facts] : Prop :=
  ∀ (m : (ℓ : Loc Cert.MmdownIdeal.nD Cert.MmdownIdeal.τ Cert.MmdownIdeal.sig) → Buf (Elt Ideal) ℓ) (g : Dev Cert.MmdownIdeal.nD → PrngReg)
    (m' : (ℓ : Loc Cert.MmdownRefIdeal.nD Cert.MmdownRefIdeal.τ Cert.MmdownRefIdeal.sig) → Buf (Elt Ideal) ℓ) (g' : Dev Cert.MmdownRefIdeal.nD → PrngReg), Pre_MmdownIdeal m →
    (∀ c : Dev Cert.MmdownIdeal.nD,
      m' ((c.tc : Thread Cert.MmdownRefIdeal.nD Cert.MmdownRefIdeal.τ).loc Cert.MmdownRefIdeal.main_arg0) = m ((c.tc : Thread Cert.MmdownIdeal.nD Cert.MmdownIdeal.τ).loc Cert.MmdownIdeal.main_arg0)
      ∧ m' ((c.tc : Thread Cert.MmdownRefIdeal.nD Cert.MmdownRefIdeal.τ).loc Cert.MmdownRefIdeal.main_arg1) = m ((c.tc : Thread Cert.MmdownIdeal.nD Cert.MmdownIdeal.τ).loc Cert.MmdownIdeal.main_arg1)
      ∧ m' ((c.tc : Thread Cert.MmdownRefIdeal.nD Cert.MmdownRefIdeal.τ).loc Cert.MmdownRefIdeal.main_arg2) = m ((c.tc : Thread Cert.MmdownIdeal.nD Cert.MmdownIdeal.τ).loc Cert.MmdownIdeal.main_arg2)
      ∧ m' ((c.tc : Thread Cert.MmdownRefIdeal.nD Cert.MmdownRefIdeal.τ).loc Cert.MmdownRefIdeal.main_arg3) = m ((c.tc : Thread Cert.MmdownIdeal.nD Cert.MmdownIdeal.τ).loc Cert.MmdownIdeal.main_arg3)) →
    ∃ (v0 : (c : Dev Cert.MmdownIdeal.nD) → Buf (Elt Ideal) ((c.tc : Thread Cert.MmdownIdeal.nD Cert.MmdownIdeal.τ).loc Cert.MmdownIdeal.main_v3_0)) (v1 : (c : Dev Cert.MmdownIdeal.nD) → Buf (Elt Ideal) ((c.tc : Thread Cert.MmdownIdeal.nD Cert.MmdownIdeal.τ).loc Cert.MmdownIdeal.main_v3_1)),
      θ_run (Cert.MmdownIdeal.defs (F := Ideal)) (onTc (τ := Cert.MmdownIdeal.τ) (Cert.MmdownIdeal.main (F := Ideal))) ⟨m, fun _ => 0, g⟩ (fun r => ∀ c : Dev Cert.MmdownIdeal.nD,
          r.2.mem ((c.tc : Thread Cert.MmdownIdeal.nD Cert.MmdownIdeal.τ).loc Cert.MmdownIdeal.main_v3_0) = v0 c
          ∧ r.2.mem ((c.tc : Thread Cert.MmdownIdeal.nD Cert.MmdownIdeal.τ).loc Cert.MmdownIdeal.main_v3_1) = v1 c
          ∧ r.2.mem ((c.tc : Thread Cert.MmdownIdeal.nD Cert.MmdownIdeal.τ).loc Cert.MmdownIdeal.main_arg0) = m ((c.tc : Thread Cert.MmdownIdeal.nD Cert.MmdownIdeal.τ).loc Cert.MmdownIdeal.main_arg0)
          ∧ r.2.mem ((c.tc : Thread Cert.MmdownIdeal.nD Cert.MmdownIdeal.τ).loc Cert.MmdownIdeal.main_arg1) = m ((c.tc : Thread Cert.MmdownIdeal.nD Cert.MmdownIdeal.τ).loc Cert.MmdownIdeal.main_arg1)
          ∧ r.2.mem ((c.tc : Thread Cert.MmdownIdeal.nD Cert.MmdownIdeal.τ).loc Cert.MmdownIdeal.main_arg2) = m ((c.tc : Thread Cert.MmdownIdeal.nD Cert.MmdownIdeal.τ).loc Cert.MmdownIdeal.main_arg2)
          ∧ r.2.mem ((c.tc : Thread Cert.MmdownIdeal.nD Cert.MmdownIdeal.τ).loc Cert.MmdownIdeal.main_arg3) = m ((c.tc : Thread Cert.MmdownIdeal.nD Cert.MmdownIdeal.τ).loc Cert.MmdownIdeal.main_arg3))
      ∧ θ_run (Cert.MmdownRefIdeal.defs (F := Ideal)) (onTc (τ := Cert.MmdownRefIdeal.τ) (Cert.MmdownRefIdeal.main (F := Ideal))) ⟨m', fun _ => 0, g'⟩ (fun r => ∀ c : Dev Cert.MmdownRefIdeal.nD,
          r.2.mem ((c.tc : Thread Cert.MmdownRefIdeal.nD Cert.MmdownRefIdeal.τ).loc Cert.MmdownRefIdeal.main_v1) = v0 c
          ∧ r.2.mem ((c.tc : Thread Cert.MmdownRefIdeal.nD Cert.MmdownRefIdeal.τ).loc Cert.MmdownRefIdeal.main_v15) = v1 c
          ∧ r.2.mem ((c.tc : Thread Cert.MmdownRefIdeal.nD Cert.MmdownRefIdeal.τ).loc Cert.MmdownRefIdeal.main_arg0) = m' ((c.tc : Thread Cert.MmdownRefIdeal.nD Cert.MmdownRefIdeal.τ).loc Cert.MmdownRefIdeal.main_arg0)
          ∧ r.2.mem ((c.tc : Thread Cert.MmdownRefIdeal.nD Cert.MmdownRefIdeal.τ).loc Cert.MmdownRefIdeal.main_arg1) = m' ((c.tc : Thread Cert.MmdownRefIdeal.nD Cert.MmdownRefIdeal.τ).loc Cert.MmdownRefIdeal.main_arg1)
          ∧ r.2.mem ((c.tc : Thread Cert.MmdownRefIdeal.nD Cert.MmdownRefIdeal.τ).loc Cert.MmdownRefIdeal.main_arg2) = m' ((c.tc : Thread Cert.MmdownRefIdeal.nD Cert.MmdownRefIdeal.τ).loc Cert.MmdownRefIdeal.main_arg2)
          ∧ r.2.mem ((c.tc : Thread Cert.MmdownRefIdeal.nD Cert.MmdownRefIdeal.τ).loc Cert.MmdownRefIdeal.main_arg3) = m' ((c.tc : Thread Cert.MmdownRefIdeal.nD Cert.MmdownRefIdeal.τ).loc Cert.MmdownRefIdeal.main_arg3))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Prod_ProdIdeal : Prop :=
  True

def algebraic_ProdIdeal_ProdRefIdeal [hProdIdeal : Cert.ProdIdeal.Facts] [hProdRefIdeal : Cert.ProdRefIdeal.Facts] : Prop :=
  ∀ (m : (ℓ : Loc Cert.ProdIdeal.nD Cert.ProdIdeal.τ Cert.ProdIdeal.sig) → Buf (Elt Ideal) ℓ) (g : Dev Cert.ProdIdeal.nD → PrngReg)
    (m' : (ℓ : Loc Cert.ProdRefIdeal.nD Cert.ProdRefIdeal.τ Cert.ProdRefIdeal.sig) → Buf (Elt Ideal) ℓ) (g' : Dev Cert.ProdRefIdeal.nD → PrngReg), Pre_ProdIdeal m →
    (∀ c : Dev Cert.ProdIdeal.nD,
      m' ((c.tc : Thread Cert.ProdRefIdeal.nD Cert.ProdRefIdeal.τ).loc Cert.ProdRefIdeal.main_arg0) = m ((c.tc : Thread Cert.ProdIdeal.nD Cert.ProdIdeal.τ).loc Cert.ProdIdeal.main_arg0)
      ∧ m' ((c.tc : Thread Cert.ProdRefIdeal.nD Cert.ProdRefIdeal.τ).loc Cert.ProdRefIdeal.main_arg1) = m ((c.tc : Thread Cert.ProdIdeal.nD Cert.ProdIdeal.τ).loc Cert.ProdIdeal.main_arg1)) →
    ∃ (v0 : (c : Dev Cert.ProdIdeal.nD) → Buf (Elt Ideal) ((c.tc : Thread Cert.ProdIdeal.nD Cert.ProdIdeal.τ).loc Cert.ProdIdeal.main_v2)),
      θ_run (Cert.ProdIdeal.defs (F := Ideal)) (onTc (τ := Cert.ProdIdeal.τ) (Cert.ProdIdeal.main (F := Ideal))) ⟨m, fun _ => 0, g⟩ (fun r => ∀ c : Dev Cert.ProdIdeal.nD,
          r.2.mem ((c.tc : Thread Cert.ProdIdeal.nD Cert.ProdIdeal.τ).loc Cert.ProdIdeal.main_v2) = v0 c
          ∧ r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
          ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ θ_run (Cert.ProdRefIdeal.defs (F := Ideal)) (onTc (τ := Cert.ProdRefIdeal.τ) (Cert.ProdRefIdeal.main (F := Ideal))) ⟨m', fun _ => 0, g'⟩ (fun r => ∀ c : Dev Cert.ProdRefIdeal.nD,
          r.2.mem ((c.tc : Thread Cert.ProdRefIdeal.nD Cert.ProdRefIdeal.τ).loc Cert.ProdRefIdeal.main_v1) = v0 c
          ∧ r.2.mem ((c.tc : Thread Cert.ProdRefIdeal.nD Cert.ProdRefIdeal.τ).loc Cert.ProdRefIdeal.main_arg0) = m' ((c.tc : Thread Cert.ProdRefIdeal.nD Cert.ProdRefIdeal.τ).loc Cert.ProdRefIdeal.main_arg0)
          ∧ r.2.mem ((c.tc : Thread Cert.ProdRefIdeal.nD Cert.ProdRefIdeal.τ).loc Cert.ProdRefIdeal.main_arg1) = m' ((c.tc : Thread Cert.ProdRefIdeal.nD Cert.ProdRefIdeal.τ).loc Cert.ProdRefIdeal.main_arg1))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v3) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v1)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v1) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)) →
    ∃ (v0 : (c : Dev Cert.PairIdeal.nD) → Buf (Elt Ideal) ((c.tc : Thread Cert.PairIdeal.nD Cert.PairIdeal.τ).loc Cert.PairIdeal.main_v2)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v2) = v0 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v1) = v0 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1))

def Claim : Prop :=
  ∃ (hPle : Cert.Ple.Facts) (hPleIdeal : Cert.PleIdeal.Facts) (hPleRefIdeal : Cert.PleRefIdeal.Facts) (hMmgate : Cert.Mmgate.Facts) (hMmgateIdeal : Cert.MmgateIdeal.Facts) (hMmgateRefIdeal : Cert.MmgateRefIdeal.Facts) (hMmin : Cert.Mmin.Facts) (hMminIdeal : Cert.MminIdeal.Facts) (hMminRefIdeal : Cert.MminRefIdeal.Facts) (hMmup : Cert.Mmup.Facts) (hMmupIdeal : Cert.MmupIdeal.Facts) (hMmupRefIdeal : Cert.MmupRefIdeal.Facts) (hSwa : Cert.Swa.Facts) (hSwaIdeal : Cert.SwaIdeal.Facts) (hSwaRefIdeal : Cert.SwaRefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hAsm : Cert.Asm.Facts) (hAsmIdeal : Cert.AsmIdeal.Facts) (hAsmRefIdeal : Cert.AsmRefIdeal.Facts) (hSwaf : Cert.Swaf.Facts) (hSwafIdeal : Cert.SwafIdeal.Facts) (hSwafRefIdeal : Cert.SwafRefIdeal.Facts) (hLb : Cert.Lb.Facts) (hLbIdeal : Cert.LbIdeal.Facts) (hLbRefIdeal : Cert.LbRefIdeal.Facts) (hConvf : Cert.Convf.Facts) (hConvfIdeal : Cert.ConvfIdeal.Facts) (hConvfRefIdeal : Cert.ConvfRefIdeal.Facts) (hPlef : Cert.Plef.Facts) (hPlefIdeal : Cert.PlefIdeal.Facts) (hPlefRefIdeal : Cert.PlefRefIdeal.Facts) (hLbf : Cert.Lbf.Facts) (hLbfIdeal : Cert.LbfIdeal.Facts) (hLbfRefIdeal : Cert.LbfRefIdeal.Facts) (hRms : Cert.Rms.Facts) (hRmsIdeal : Cert.RmsIdeal.Facts) (hRmsRefIdeal : Cert.RmsRefIdeal.Facts) (hMmout : Cert.Mmout.Facts) (hMmoutIdeal : Cert.MmoutIdeal.Facts) (hMmoutRefIdeal : Cert.MmoutRefIdeal.Facts) (hMmdown : Cert.Mmdown.Facts) (hMmdownIdeal : Cert.MmdownIdeal.Facts) (hMmdownRefIdeal : Cert.MmdownRefIdeal.Facts) (hAdamw : Cert.Adamw.Facts) (hAdamwIdeal : Cert.AdamwIdeal.Facts) (hAdamwRefIdeal : Cert.AdamwRefIdeal.Facts) (hProd : Cert.Prod.Facts) (hProdIdeal : Cert.ProdIdeal.Facts) (hProdRefIdeal : Cert.ProdRefIdeal.Facts) (hWgrad : Cert.Wgrad.Facts) (hWgradIdeal : Cert.WgradIdeal.Facts) (hWgradRefIdeal : Cert.WgradRefIdeal.Facts) (hSlots : Cert.Slots.Facts) (hSlotsIdeal : Cert.SlotsIdeal.Facts) (hSlotsRefIdeal : Cert.SlotsRefIdeal.Facts) (hPair : Cert.Pair.Facts) (hPairIdeal : Cert.PairIdeal.Facts) (hPairRefIdeal : Cert.PairRefIdeal.Facts) (hPre_finite_gate : Cert.Pre_finite_gate.Facts) (hPre_finite_in : Cert.Pre_finite_in.Facts) (hPre_finite_up : Cert.Pre_finite_up.Facts) (hPre_finite_swa : Cert.Pre_finite_swa.Facts) (hPre_finite_loss : Cert.Pre_finite_loss.Facts) (hPre_finite_conv : Cert.Pre_finite_conv.Facts) (hPre_finite_swaf : Cert.Pre_finite_swaf.Facts) (hPre_off_floor : Cert.Pre_off_floor.Facts),
    quiescent_Ple (hPle := hPle)
    ∧ quiescent_PleIdeal (hPleIdeal := hPleIdeal)
    ∧ quiescent_PleRefIdeal (hPleRefIdeal := hPleRefIdeal)
    ∧ quiescent_Mmgate (hMmgate := hMmgate)
    ∧ quiescent_MmgateIdeal (hMmgateIdeal := hMmgateIdeal)
    ∧ quiescent_MmgateIdeal_pre_finite_gate (hMmgateIdeal := hMmgateIdeal) (hPre_finite_gate := hPre_finite_gate)
    ∧ quiescent_MmgateRefIdeal (hMmgateRefIdeal := hMmgateRefIdeal)
    ∧ quiescent_MmgateRefIdeal_pre_finite_gate (hMmgateRefIdeal := hMmgateRefIdeal) (hPre_finite_gate := hPre_finite_gate)
    ∧ quiescent_Mmin (hMmin := hMmin)
    ∧ quiescent_MminIdeal (hMminIdeal := hMminIdeal)
    ∧ quiescent_MminIdeal_pre_finite_in (hMminIdeal := hMminIdeal) (hPre_finite_in := hPre_finite_in)
    ∧ quiescent_MminRefIdeal (hMminRefIdeal := hMminRefIdeal)
    ∧ quiescent_MminRefIdeal_pre_finite_in (hMminRefIdeal := hMminRefIdeal) (hPre_finite_in := hPre_finite_in)
    ∧ quiescent_Mmup (hMmup := hMmup)
    ∧ quiescent_MmupIdeal (hMmupIdeal := hMmupIdeal)
    ∧ quiescent_MmupIdeal_pre_finite_up (hMmupIdeal := hMmupIdeal) (hPre_finite_up := hPre_finite_up)
    ∧ quiescent_MmupRefIdeal (hMmupRefIdeal := hMmupRefIdeal)
    ∧ quiescent_MmupRefIdeal_pre_finite_up (hMmupRefIdeal := hMmupRefIdeal) (hPre_finite_up := hPre_finite_up)
    ∧ quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_Asm (hAsm := hAsm)
    ∧ quiescent_AsmIdeal (hAsmIdeal := hAsmIdeal)
    ∧ quiescent_AsmRefIdeal (hAsmRefIdeal := hAsmRefIdeal)
    ∧ quiescent_Swaf (hSwaf := hSwaf)
    ∧ quiescent_SwafIdeal (hSwafIdeal := hSwafIdeal)
    ∧ quiescent_SwafIdeal_pre_finite_swaf (hSwafIdeal := hSwafIdeal) (hPre_finite_swaf := hPre_finite_swaf)
    ∧ quiescent_SwafRefIdeal (hSwafRefIdeal := hSwafRefIdeal)
    ∧ quiescent_SwafRefIdeal_pre_finite_swaf (hSwafRefIdeal := hSwafRefIdeal) (hPre_finite_swaf := hPre_finite_swaf)
    ∧ quiescent_Lb (hLb := hLb)
    ∧ quiescent_LbIdeal (hLbIdeal := hLbIdeal)
    ∧ quiescent_LbIdeal_pre_off_floor (hLbIdeal := hLbIdeal) (hPre_off_floor := hPre_off_floor)
    ∧ quiescent_LbRefIdeal (hLbRefIdeal := hLbRefIdeal)
    ∧ quiescent_LbRefIdeal_pre_off_floor (hLbRefIdeal := hLbRefIdeal) (hPre_off_floor := hPre_off_floor)
    ∧ quiescent_Convf (hConvf := hConvf)
    ∧ quiescent_ConvfIdeal (hConvfIdeal := hConvfIdeal)
    ∧ quiescent_ConvfRefIdeal (hConvfRefIdeal := hConvfRefIdeal)
    ∧ quiescent_Plef (hPlef := hPlef)
    ∧ quiescent_PlefIdeal (hPlefIdeal := hPlefIdeal)
    ∧ quiescent_PlefRefIdeal (hPlefRefIdeal := hPlefRefIdeal)
    ∧ quiescent_Lbf (hLbf := hLbf)
    ∧ quiescent_LbfIdeal (hLbfIdeal := hLbfIdeal)
    ∧ quiescent_LbfRefIdeal (hLbfRefIdeal := hLbfRefIdeal)
    ∧ quiescent_Rms (hRms := hRms)
    ∧ quiescent_RmsIdeal (hRmsIdeal := hRmsIdeal)
    ∧ quiescent_RmsRefIdeal (hRmsRefIdeal := hRmsRefIdeal)
    ∧ quiescent_Mmout (hMmout := hMmout)
    ∧ quiescent_MmoutIdeal (hMmoutIdeal := hMmoutIdeal)
    ∧ quiescent_MmoutRefIdeal (hMmoutRefIdeal := hMmoutRefIdeal)
    ∧ quiescent_Mmdown (hMmdown := hMmdown)
    ∧ quiescent_MmdownIdeal (hMmdownIdeal := hMmdownIdeal)
    ∧ quiescent_MmdownRefIdeal (hMmdownRefIdeal := hMmdownRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Prod (hProd := hProd)
    ∧ quiescent_ProdIdeal (hProdIdeal := hProdIdeal)
    ∧ quiescent_ProdRefIdeal (hProdRefIdeal := hProdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_Pair (hPair := hPair)
    ∧ quiescent_PairIdeal (hPairIdeal := hPairIdeal)
    ∧ quiescent_PairRefIdeal (hPairRefIdeal := hPairRefIdeal)
    ∧ preserves_Ple_PleIdeal
    ∧ algebraic_PleIdeal_PleRefIdeal (hPleIdeal := hPleIdeal) (hPleRefIdeal := hPleRefIdeal)
    ∧ preserves_Mmgate_MmgateIdeal
    ∧ algebraic_MmgateIdeal_MmgateRefIdeal_pre_finite_gate (hMmgateIdeal := hMmgateIdeal) (hMmgateRefIdeal := hMmgateRefIdeal) (hPre_finite_gate := hPre_finite_gate)
    ∧ preserves_Mmin_MminIdeal
    ∧ algebraic_MminIdeal_MminRefIdeal_pre_finite_in (hMminIdeal := hMminIdeal) (hMminRefIdeal := hMminRefIdeal) (hPre_finite_in := hPre_finite_in)
    ∧ preserves_Mmup_MmupIdeal
    ∧ algebraic_MmupIdeal_MmupRefIdeal_pre_finite_up (hMmupIdeal := hMmupIdeal) (hMmupRefIdeal := hMmupRefIdeal) (hPre_finite_up := hPre_finite_up)
    ∧ preserves_Swa_SwaIdeal
    ∧ algebraic_SwaIdeal_SwaRefIdeal_pre_finite_swa (hSwaIdeal := hSwaIdeal) (hSwaRefIdeal := hSwaRefIdeal) (hPre_finite_swa := hPre_finite_swa)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Conv_ConvIdeal
    ∧ algebraic_ConvIdeal_ConvRefIdeal_pre_finite_conv (hConvIdeal := hConvIdeal) (hConvRefIdeal := hConvRefIdeal) (hPre_finite_conv := hPre_finite_conv)
    ∧ preserves_Asm_AsmIdeal
    ∧ algebraic_AsmIdeal_AsmRefIdeal (hAsmIdeal := hAsmIdeal) (hAsmRefIdeal := hAsmRefIdeal)
    ∧ preserves_Swaf_SwafIdeal
    ∧ algebraic_SwafIdeal_SwafRefIdeal_pre_finite_swaf (hSwafIdeal := hSwafIdeal) (hSwafRefIdeal := hSwafRefIdeal) (hPre_finite_swaf := hPre_finite_swaf)
    ∧ preserves_Lb_LbIdeal
    ∧ algebraic_LbIdeal_LbRefIdeal_pre_off_floor (hLbIdeal := hLbIdeal) (hLbRefIdeal := hLbRefIdeal) (hPre_off_floor := hPre_off_floor)
    ∧ preserves_Convf_ConvfIdeal
    ∧ algebraic_ConvfIdeal_ConvfRefIdeal (hConvfIdeal := hConvfIdeal) (hConvfRefIdeal := hConvfRefIdeal)
    ∧ preserves_Plef_PlefIdeal
    ∧ algebraic_PlefIdeal_PlefRefIdeal (hPlefIdeal := hPlefIdeal) (hPlefRefIdeal := hPlefRefIdeal)
    ∧ preserves_Lbf_LbfIdeal
    ∧ algebraic_LbfIdeal_LbfRefIdeal (hLbfIdeal := hLbfIdeal) (hLbfRefIdeal := hLbfRefIdeal)
    ∧ preserves_Rms_RmsIdeal
    ∧ algebraic_RmsIdeal_RmsRefIdeal (hRmsIdeal := hRmsIdeal) (hRmsRefIdeal := hRmsRefIdeal)
    ∧ preserves_Mmout_MmoutIdeal
    ∧ algebraic_MmoutIdeal_MmoutRefIdeal (hMmoutIdeal := hMmoutIdeal) (hMmoutRefIdeal := hMmoutRefIdeal)
    ∧ preserves_Mmdown_MmdownIdeal
    ∧ algebraic_MmdownIdeal_MmdownRefIdeal (hMmdownIdeal := hMmdownIdeal) (hMmdownRefIdeal := hMmdownRefIdeal)
    ∧ preserves_Adamw_AdamwIdeal
    ∧ algebraic_AdamwIdeal_AdamwRefIdeal (hAdamwIdeal := hAdamwIdeal) (hAdamwRefIdeal := hAdamwRefIdeal)
    ∧ preserves_Prod_ProdIdeal
    ∧ algebraic_ProdIdeal_ProdRefIdeal (hProdIdeal := hProdIdeal) (hProdRefIdeal := hProdRefIdeal)
    ∧ preserves_Wgrad_WgradIdeal
    ∧ algebraic_WgradIdeal_WgradRefIdeal (hWgradIdeal := hWgradIdeal) (hWgradRefIdeal := hWgradRefIdeal)
    ∧ preserves_Slots_SlotsIdeal
    ∧ algebraic_SlotsIdeal_SlotsRefIdeal (hSlotsIdeal := hSlotsIdeal) (hSlotsRefIdeal := hSlotsRefIdeal)
    ∧ preserves_Pair_PairIdeal
    ∧ algebraic_PairIdeal_PairRefIdeal (hPairIdeal := hPairIdeal) (hPairRefIdeal := hPairRefIdeal)
-- ==== Pre_finite_conv.lean ====
abbrev S16384x5632 : Shape := ⟨2, ![16384, 5632]⟩
abbrev S3x2816 : Shape := ⟨2, ![3, 2816]⟩
abbrev S2816 : Shape := ⟨1, ![2816]⟩
abbrev S16384x2816 : Shape := ⟨2, ![16384, 2816]⟩
abbrev S_ : Shape := ⟨0, ![]⟩

class Facts : Prop where
  bcast_S_S16384x5632 : S_.BroadcastsInDim S16384x5632 (![] : Fin 0 → Fin S16384x5632.rank)
  bcast_S_S3x2816 : S_.BroadcastsInDim S3x2816 (![] : Fin 0 → Fin S3x2816.rank)
  bcast_S_S2816 : S_.BroadcastsInDim S2816 (![] : Fin 0 → Fin S2816.rank)
  bcast_S_S16384x2816 : S_.BroadcastsInDim S16384x2816 (![] : Fin 0 → Fin S16384x2816.rank)

variable [Facts]

def fn {F : FTy → Type} [FloatOps F] (main_arg0 : FVec F S16384x5632 .f32) (main_arg1 : FVec F S3x2816 .f32) (main_arg2 : FVec F S2816 .f32) (main_arg3 : FVec F S16384x2816 .f32) : IVec S16384x5632 1 × IVec S3x2816 1 × IVec S2816 1 × IVec S16384x2816 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_v3 : FVec F S3x2816 .f32 := Host.absf main_arg1
  let main_cst_0 : FVec F S_ .f32 := constant S_ .f32 0x7F800000#32
  let main_v4 : FVec F S3x2816 .f32 := broadcastInDim S3x2816 ![] bcast_S_S3x2816 main_cst_0
  let main_v5 : IVec S3x2816 1 := cmpf .olt main_v3 main_v4
  let main_v6 : FVec F S2816 .f32 := Host.absf main_arg2
  let main_cst_1 : FVec F S_ .f32 := constant S_ .f32 0x7F800000#32
  let main_v7 : FVec F S2816 .f32 := broadcastInDim S2816 ![] bcast_S_S2816 main_cst_1
  let main_v8 : IVec S2816 1 := cmpf .olt main_v6 main_v7
  let main_v9 : FVec F S16384x2816 .f32 := Host.absf main_arg3
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  (main_v2, main_v5, main_v8, main_v11)
-- ==== Pre_finite_gate.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S1024 .f32) (main_arg2 : FVec F S1024x1024 .f32) (main_arg3 : FVec F S16384x1024 .f32) (main_arg4 : FVec F S16384x1024 .f32) : IVec S16384x1024 1 × IVec S1024 1 × IVec S1024x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_finite_in.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S16384x2816 : S_.BroadcastsInDim S16384x2816 (![] : Fin 0 → Fin S16384x2816.rank)

variable [Facts]

def fn {F : FTy → Type} [FloatOps F] (main_arg0 : FVec F S16384x1024 .f32) (main_arg1 : FVec F S1024 .f32) (main_arg2 : FVec F S1024x2816 .f32) (main_arg3 : FVec F S16384x2816 .f32) (main_arg4 : FVec F S16384x1024 .f32) : IVec S16384x1024 1 × IVec S1024 1 × IVec S1024x2816 1 × IVec S16384x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S16384x2816 .f32 := Host.absf main_arg3
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  (main_v2, main_v5, main_v8, main_v11)
-- ==== Pre_finite_loss.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024 .f32) (main_arg2 : FVec F S16384x1024 .f32) : IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_finite_swa.lean ====
abbrev S16384x2816 : Shape := ⟨2, ![16384, 2816]⟩
abbrev S8 : Shape := ⟨1, ![8]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  bcast_S_S8 : S_.BroadcastsInDim S8 (![] : Fin 0 → Fin S8.rank)
  bcast_S_S16384x1024 : S_.BroadcastsInDim S16384x1024 (![] : Fin 0 → Fin S16384x1024.rank)

variable [Facts]

def fn {F : FTy → Type} [FloatOps F] (main_arg0 : FVec F S16384x2816 .f32) (main_arg1 : FVec F S8 .f32) (main_arg2 : FVec F S16384x1024 .f32) : IVec S16384x2816 1 × IVec S8 1 × IVec S16384x1024 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_finite_swaf.lean ====
abbrev S16384x2816 : Shape := ⟨2, ![16384, 2816]⟩
abbrev S8 : Shape := ⟨1, ![8]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  bcast_S_S8 : S_.BroadcastsInDim S8 (![] : Fin 0 → Fin S8.rank)

variable [Facts]

def fn {F : FTy → Type} [FloatOps F] (main_arg0 : FVec F S16384x2816 .f32) (main_arg1 : FVec F S8 .f32) (main_arg2 : FVec F S16384x1024 .f32) : IVec S16384x2816 1 × IVec S8 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  (main_v2, main_v5)
-- ==== Pre_finite_up.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S16384x2816 : S_.BroadcastsInDim S16384x2816 (![] : Fin 0 → Fin S16384x2816.rank)

variable [Facts]

def fn {F : FTy → Type} [FloatOps F] (main_arg0 : FVec F S16384x1024 .f32) (main_arg1 : FVec F S1024 .f32) (main_arg2 : FVec F S1024x5632 .f32) (main_arg3 : FVec F S16384x2816 .f32) (main_arg4 : FVec F S16384x2816 .f32) (main_arg5 : FVec F S16384x1024 .f32) : IVec S16384x1024 1 × IVec S1024 1 × IVec S1024x5632 1 × IVec S16384x2816 1 × IVec S16384x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S16384x2816 .f32 := Host.absf main_arg3
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  let main_v12 : FVec F S16384x2816 .f32 := Host.absf main_arg4
  let main_cst_3 : FVec F S_ .f32 := constant S_ .f32 0x7F800000#32
  let main_v13 : FVec F S16384x2816 .f32 := broadcastInDim S16384x2816 ![] bcast_S_S16384x2816 main_cst_3
  let main_v14 : IVec S16384x2816 1 := cmpf .olt main_v12 main_v13
  (main_v2, main_v5, main_v8, main_v11, main_v14)
-- ==== Pre_off_floor.lean ====
abbrev S4x512 : Shape := ⟨2, ![4, 512]⟩
abbrev S32x512 : Shape := ⟨2, ![32, 512]⟩
abbrev S_ : Shape := ⟨0, ![]⟩
abbrev S512 : Shape := ⟨1, ![512]⟩
abbrev S1x512 : Shape := ⟨2, ![1, 512]⟩

class Facts : Prop where
  reducesTo_S4x512_S512_d0 : S4x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S_S4x512 : S_.BroadcastsInDim S4x512 (![] : Fin 0 → Fin S4x512.rank)
  bcast_S_S32x512 : S_.BroadcastsInDim S32x512 (![] : Fin 0 → Fin S32x512.rank)
  slices_S4x512_S1x512_1_0 : S4x512.Slices ![1, 0] S1x512
  shapeCasts_S1x512_S512 : S1x512.ShapeCasts S512
  slices_S4x512_S1x512_2_0 : S4x512.Slices ![2, 0] S1x512
  slices_S4x512_S1x512_3_0 : S4x512.Slices ![3, 0] S1x512

variable [Facts]

def fn_part1 {F : FTy → Type} [FloatOps F] (main_v10 : FVec F S4x512 .f32) (main_v13 : IVec S4x512 1) (main_v16 : IVec S32x512 1) (main_v18 : FVec F S512 .f32) : IVec S4x512 1 × IVec S32x512 1 × IVec S512 1 × IVec S512 1 × IVec S512 1 :=
  let main_cst_4 : FVec F S_ .f32 := constant S_ .f32 0x0DA24260#32
  let main_v19 : FVec F S512 .f32 := broadcastInDim S512 ![] bcast_S_S512 main_cst_4
  let main_v20 : IVec S512 1 := cmpf .une main_v18 main_v19
  let main_v21 : FVec F S1x512 .f32 := (extractStridedSlice S1x512 ![1, 0] · slices_S4x512_S1x512_1_0) main_v10
  let main_v22 : FVec F S512 .f32 := shapeCast S512 main_v21 shapeCasts_S1x512_S512
  let main_v23 : FVec F S1x512 .f32 := (extractStridedSlice S1x512 ![2, 0] · slices_S4x512_S1x512_2_0) main_v10
  let main_v24 : FVec F S512 .f32 := shapeCast S512 main_v23 shapeCasts_S1x512_S512
  let main_v25 : FVec F S512 .f32 := addf main_v22 main_v24
  let main_cst_5 : FVec F S_ .f32 := constant S_ .f32 0x0DA24260#32
  let main_v26 : FVec F S512 .f32 := broadcastInDim S512 ![] bcast_S_S512 main_cst_5
  let main_v27 : IVec S512 1 := cmpf .une main_v25 main_v26
  let main_v28 : FVec F S1x512 .f32 := (extractStridedSlice S1x512 ![1, 0] · slices_S4x512_S1x512_1_0) main_v10
  let main_v29 : FVec F S512 .f32 := shapeCast S512 main_v28 shapeCasts_S1x512_S512
  let main_v30 : FVec F S1x512 .f32 := (extractStridedSlice S1x512 ![2, 0] · slices_S4x512_S1x512_2_0) main_v10
  let main_v31 : FVec F S512 .f32 := shapeCast S512 main_v30 shapeCasts_S1x512_S512
  let main_v32 : FVec F S512 .f32 := addf main_v29 main_v31
  let main_v33 : FVec F S1x512 .f32 := (extractStridedSlice S1x512 ![3, 0] · slices_S4x512_S1x512_3_0) main_v10
  let main_v34 : FVec F S512 .f32 := shapeCast S512 main_v33 shapeCasts_S1x512_S512
  let main_v35 : FVec F S512 .f32 := addf main_v32 main_v34
  let main_cst_6 : FVec F S_ .f32 := constant S_ .f32 0x0DA24260#32
  let main_v36 : FVec F S512 .f32 := broadcastInDim S512 ![] bcast_S_S512 main_cst_6
  let main_v37 : IVec S512 1 := cmpf .une main_v35 main_v36
  (main_v13, main_v16, main_v20, main_v27, main_v37)

def fn {F : FTy → Type} [FloatOps F] (main_arg0 : FVec F S4x512 .f32) (main_arg1 : FVec F S32x512 .f32) : IVec S4x512 1 × IVec S32x512 1 × IVec S512 1 × IVec S512 1 × IVec S512 1 :=
  let main_cst : FVec F S_ .f32 := constant S_ .f32 0xFF800000#32
  let main_v0 : FVec F S512 .f32 := (fun x v => Host.reduce FloatOps.maximumf x v reducesTo_S4x512_S512_d0 h_S_) main_arg0 main_cst
  let main_cst_0 : FVec F S_ .f32 := constant S_ .f32 0xFF800000#32
  let main_v1 : FVec F S512 .f32 := broadcastInDim S512 ![] bcast_S_S512 main_cst_0
  let main_v2 : FVec F S512 .f32 := maximumf main_v1 main_v0
  let main_v3 : FVec F S1x512 .f32 := broadcastInDim S1x512 ![1] bcast_S512_S1x512_1 main_v2
  let main_v4 : FVec F S4x512 .f32 := broadcastInDim S4x512 ![0, 1] bcast_S1x512_S4x512_0_1 main_v3
  let main_v5 : FVec F S4x512 .f32 := subf main_arg0 main_v4
  let main_v6 : FVec F S4x512 .f32 := Host.exp main_v5
  let main_cst_1 : FVec F S_ .f32 := constant S_ .f32 0x00000000#32
  let main_v7 : FVec F S512 .f32 := (fun x v => Host.reduceAdd x v reducesTo_S4x512_S512_d0 h_S_) main_v6 main_cst_1
  let main_v8 : FVec F S1x512 .f32 := broadcastInDim S1x512 ![1] bcast_S512_S1x512_1 main_v7
  let main_v9 : FVec F S4x512 .f32 := broadcastInDim S4x512 ![0, 1] bcast_S1x512_S4x512_0_1 main_v8
  let main_v10 : FVec F S4x512 .f32 := Host.divf main_v6 main_v9
  let main_v11 : FVec F S4x512 .f32 := Host.absf main_arg0
  let main_cst_2 : FVec F S_ .f32 := constant S_ .f32 0x7F800000#32
  let main_v12 : FVec F S4x512 .f32 := broadcastInDim S4x512 ![] bcast_S_S4x512 main_cst_2
  let main_v13 : IVec S4x512 1 := cmpf .olt main_v11 main_v12
  let main_v14 : FVec F S32x512 .f32 := Host.absf main_arg1
  let main_cst_3 : FVec F S_ .f32 := constant S_ .f32 0x7F800000#32
  let main_v15 : FVec F S32x512 .f32 := broadcastInDim S32x512 ![] bcast_S_S32x512 main_cst_3
  let main_v16 : IVec S32x512 1 := cmpf .olt main_v14 main_v15
  let main_v17 : FVec F S1x512 .f32 := (extractStridedSlice S1x512 ![1, 0] · slices_S4x512_S1x512_1_0) main_v10
  let main_v18 : FVec F S512 .f32 := shapeCast S512 main_v17 shapeCasts_S1x512_S512
  fn_part1 (F := F) main_v10 main_v13 main_v16 main_v18
-- ==== Ple.lean ====
abbrev S16384x1024 : Shape := ⟨2, ![16384, 1024]⟩
abbrev S16384x256 : Shape := ⟨2, ![16384, 256]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S256x1024, .f32⟩
  | .hbm, ⟨3, _⟩ => ⟨S16384x1024, .f32⟩
  | .hbm, ⟨4, _⟩ => ⟨S16384x1024, .bf16⟩
  | .hbm, ⟨5, _⟩ => ⟨S256x1024, .bf16⟩
  | .hbm, ⟨6, _⟩ => ⟨S16384x1024, .bf16⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S16384x1024 : Shape := ⟨2, ![16384, 1024]⟩
abbrev S16384x256 : Shape := ⟨2, ![16384, 256]⟩
abbrev S256x1024 : Shape := ⟨2, ![256, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S256x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Mmgate.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MmgateRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Mmin.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x2816, .f32⟩
  | .hbm, ⟨4, _⟩ => ⟨S16384x1024, .f32⟩
  | .hbm, ⟨5, _⟩ => ⟨S16384x2816, .bf16⟩
  | .hbm, ⟨6, _⟩ => ⟨S1024x2816, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MminRefIdeal.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x2816, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2816, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Mmup.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S1x1024 : Shape := ⟨2, ![1, 1024]⟩
abbrev S8x1024 : Shape := ⟨2, ![8, 1024]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x2816, .f32⟩
  | .hbm, ⟨4, _⟩ => ⟨S16384x2816, .f32⟩
  | .hbm, ⟨5, _⟩ => ⟨S16384x1024, .f32⟩
  | .hbm, ⟨6, _⟩ => ⟨S16384x2816, .bf16⟩
  | .hbm, ⟨7, _⟩ => ⟨S16384x2816, .bf16⟩
  | .hbm, ⟨8, _⟩ => ⟨S1024x5632, .bf16⟩
  | .hbm, ⟨9, _⟩ => ⟨S1x1024, .f32⟩
  | .hbm, ⟨10, _⟩ => ⟨S16384x1024, .f32⟩
  | .hbm, ⟨11, _⟩ => ⟨S16384x1024, .bf16⟩
  | .hbm, ⟨12, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MmupRefIdeal.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S8x1024 : Shape := ⟨2, ![8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x2816, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x5632, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .bf16⟩
  | .hbm, ⟨62, _⟩ => ⟨S1x1024, .f32⟩
  | .hbm, ⟨63, _⟩ => ⟨S_, .i32⟩
  | .hbm, ⟨64, _⟩ => ⟨S_, .f32⟩
  | .hbm, ⟨65, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c : Ref sig .tc := ⟨.hbm, 63, rfl⟩
abbrev main_call0_v0 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Swa.lean ====
abbrev S16384x2816 : Shape := ⟨2, ![16384, 2816]⟩
abbrev S8 : Shape := ⟨1, ![8]⟩
abbrev S16384x1024 : Shape := ⟨2, ![16384, 1024]⟩
abbrev S2x1x4 : Shape := ⟨3, ![2, 1, 4]⟩
abbrev S2x1x4x128 : Shape := ⟨4, ![2, 1, 4, 128]⟩
abbrev S2x1x512 : Shape := ⟨3, ![2, 1, 512]⟩
abbrev S_ : Shape := ⟨0, ![]⟩
abbrev S2x8x512 : Shape := ⟨3, ![2, 8, 512]⟩
abbrev S16x512 : Shape := ⟨2, ![16, 512]⟩
abbrev S2x256x512 : Shape := ⟨3, ![2, 256, 512]⟩
abbrev S16384x512 : Shape := ⟨2, ![16384, 512]⟩
abbrev S16384x128 : Shape := ⟨2, ![16384, 128]⟩
abbrev S1024x512 : Shape := ⟨2, ![1024, 512]⟩
abbrev S128x128 : Shape := ⟨2, ![128, 128]⟩
abbrev S1024x128 : Shape := ⟨2, ![1024, 128]⟩
abbrev S1152x128 : Shape := ⟨2, ![1152, 128]⟩
abbrev S256x128 : Shape := ⟨2, ![256, 128]⟩
abbrev S1x256x512 : Shape := ⟨3, ![1, 256, 512]⟩
abbrev S256x512 : Shape := ⟨2, ![256, 512]⟩
abbrev S128x512 : Shape := ⟨2, ![128, 512]⟩
abbrev S512x128 : Shape := ⟨2, ![512, 128]⟩
abbrev S256x64 : Shape := ⟨2, ![256, 64]⟩
abbrev S64x128 : Shape := ⟨2, ![64, 128]⟩
abbrev S64x512 : Shape := ⟨2, ![64, 512]⟩
abbrev S1x512 : Shape := ⟨2, ![1, 512]⟩
abbrev S128x256 : Shape := ⟨2, ![128, 256]⟩
abbrev S512 : Shape := ⟨1, ![512]⟩
abbrev S64x256 : Shape := ⟨2, ![64, 256]⟩
abbrev S1x128 : Shape := ⟨2, ![1, 128]⟩
abbrev S1 : Shape := ⟨1, ![1]⟩
abbrev S1x1 : Shape := ⟨2, ![1, 1]⟩

abbrev nBuf : Space → Nat
  | .hbm => 48
  | .vmem => 25
  | .smem => 0
  | _ => 0

abbrev bufTy : (tb : Table) → Fin (tcTables nBuf tb) → BufTy
  | .hbm, ⟨0, _⟩ => ⟨S16384x2816, .f32⟩
  | .hbm, ⟨1, _⟩ => ⟨S8, .f32⟩
  | .hbm, ⟨2, _⟩ => ⟨S16384x1024, .f32⟩
  | .hbm, ⟨3, _⟩ => ⟨S2x1x4, .f32⟩
  | .hbm, ⟨4, _⟩ => ⟨S2x1x4x128, .f32⟩
  | .hbm, ⟨5, _⟩ => ⟨S2x1x512, .f32⟩
  | .hbm, ⟨6, _⟩ => ⟨S_, .i32⟩
  | .hbm, ⟨7, _⟩ => ⟨S_, .f32⟩
  | .hbm, ⟨8, _⟩ => ⟨S2x8x512, .f32⟩
  | .hbm, ⟨9, _⟩ => ⟨S16x512, .f32⟩
  | .hbm, ⟨10, _⟩ => ⟨S2x256x512, .i32⟩
  | .hbm, ⟨11, _⟩ => ⟨S2x256x512, .i32⟩
  | .hbm, ⟨12, _⟩ => ⟨S_, .i32⟩
  | .hbm, ⟨13, _⟩ => ⟨S2x256x512, .i32⟩
  | .hbm, ⟨14, _⟩ => ⟨S2x256x512, .i32⟩
  | .hbm, ⟨15, _⟩ => ⟨S_, .i32⟩
  | .hbm, ⟨16, _⟩ => ⟨S2x256x512, .i32⟩
  | .hbm, ⟨17, _⟩ => ⟨S2x256x512, .i32⟩
  | .hbm, ⟨18, _⟩ => ⟨S2x256x512, .i32⟩
  | .hbm, ⟨19, _⟩ => ⟨S_, .i32⟩
  | .hbm, ⟨20, _⟩ => ⟨S2x256x512, .i32⟩
  | .hbm, ⟨21, _⟩ => ⟨S2x256x512, .i1⟩
  | .hbm, ⟨22, _⟩ => ⟨S2x256x512, .i32⟩
  | .hbm, ⟨23, _⟩ => ⟨S_, .i32⟩
  | .hbm, ⟨24, _⟩ => ⟨S2x256x512, .i32⟩
  | .hbm, ⟨25, _⟩ => ⟨S2x256x512, .i1⟩
  | .hbm, ⟨26, _⟩ => ⟨S_, .i32⟩
  | .hbm, ⟨27, _⟩ => ⟨S2x256x512, .i32⟩
  | .hbm, ⟨28, _⟩ => ⟨S2x256x512, .i1⟩
  | .hbm, ⟨29, _⟩ => ⟨S2x256x512, .i1⟩
  | .hbm, ⟨30, _⟩ => ⟨S_, .i32⟩
  | .hbm, ⟨31, _⟩ => ⟨S2x256x512, .i32⟩
  | .hbm, ⟨32, _⟩ => ⟨S2x256x512, .i1⟩
  | .hbm, ⟨33, _⟩ => ⟨S2x256x512, .i1⟩
  | .hbm, ⟨34, _⟩ => ⟨S2x256x512, .i1⟩
  | .hbm, ⟨35, _⟩ => ⟨S2x256x512, .i1⟩
  | .hbm, ⟨36, _⟩ => ⟨S_, .f32⟩
  | .hbm, ⟨37, _⟩ => ⟨S_, .f32⟩
  | .hbm, ⟨38, _⟩ => ⟨S2x256x512, .f32⟩
  | .hbm, ⟨39, _⟩ => ⟨S2x256x512, .f32⟩
  | .hbm, ⟨40, _⟩ => ⟨S2x256x512, .f32⟩
  | .hbm, ⟨41, _⟩ => ⟨S2x256x512, .f32⟩
  | .hbm, ⟨42, _⟩ => ⟨S16384x512, .bf16⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16x512, .f32⟩
  | .local _ .vmem, ⟨0, _⟩ => ⟨S1024x512, .f32⟩
  | .local _ .vmem, ⟨1, _⟩ => ⟨S1024x512, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S16x512, .f32⟩
  | .local _ .vmem, ⟨11, _⟩ => ⟨S2x256x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S16x512, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v25 : BitVec 32 := Scalar.minsi arg0 c1_i32
  let v26 : Index := Scalar.indexCast v25
  let c0_8 : Index := 0#32
  let c0_9 : Index := 0#32
  ![v26.toNat, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_4 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SwaIdeal.lean ====
variable {F : FTy → Type} [FloatOps F] [Named F]
def κ : String → Option EReal := fun
  | "mask" => some ⊥
  | _ => none
-- ==== SwaRefIdeal.lean ====
abbrev S16384x2816 : Shape := ⟨2, ![16384, 2816]⟩
abbrev S8 : Shape := ⟨1, ![8]⟩
abbrev S16384x1024 : Shape := ⟨2, ![16384, 1024]⟩
abbrev S16384x512 : Shape := ⟨2, ![16384, 512]⟩
abbrev S128x128x2x4x64 : Shape := ⟨5, ![128, 128, 2, 4, 64]⟩
abbrev S16384x128 : Shape := ⟨2, ![16384, 128]⟩
abbrev S128x128x2x64 : Shape := ⟨4, ![128, 128, 2, 64]⟩
abbrev S_ : Shape := ⟨0, ![]⟩
abbrev S1x128x2x64 : Shape := ⟨4, ![1, 128, 2, 64]⟩
abbrev S127x128x2x64 : Shape := ⟨4, ![127, 128, 2, 64]⟩
abbrev S128x256x2x64 : Shape := ⟨4, ![128, 256, 2, 64]⟩
abbrev S2x4x1 : Shape := ⟨3, ![2, 4, 1]⟩
abbrev S2x4x128 : Shape := ⟨3, ![2, 4, 128]⟩
abbrev S128x2x256x128x4 : Shape := ⟨5, ![128, 2, 256, 128, 4]⟩
abbrev S128x2x4x128x256 : Shape := ⟨5, ![128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S1x2x4x128x1 : Shape := ⟨5, ![1, 2, 4, 128, 1]⟩
abbrev S128x2x4x128 : Shape := ⟨4, ![128, 2, 4, 128]⟩
abbrev S128x2x4x128x1 : Shape := ⟨5, ![128, 2, 4, 128, 1]⟩
abbrev S128x2x64x4x128 : Shape := ⟨5, ![128, 2, 64, 4, 128]⟩
abbrev S128x2x64x256 : Shape := ⟨4, ![128, 2, 64, 256]⟩
abbrev S2x4x128x1 : Shape := ⟨4, ![2, 4, 128, 1]⟩
abbrev S128x2x128x4x64 : Shape := ⟨5, ![128, 2, 128, 4, 64]⟩
abbrev S128x2x256x64 : Shape := ⟨4, ![128, 2, 256, 64]⟩
abbrev S2x1x512 : Shape := ⟨3, ![2, 1, 512]⟩
abbrev S2x4 : Shape := ⟨2, ![2, 4]⟩
abbrev S2x4x512 : Shape := ⟨3, ![2, 4, 512]⟩
abbrev S2x5x512 : Shape := ⟨3, ![2, 5, 512]⟩
abbrev S2x8x512 : Shape := ⟨3, ![2, 8, 512]⟩
abbrev S16x512 : Shape := ⟨2, ![16, 512]⟩

abbrev nBuf : Space → Nat
  | .hbm => 195
  | .vmem => 0
  | .smem => 0
  | _ => 0

abbrev hbmTy0_0 (i : Nat) : BufTy := match i % 128 with
  | 0 => ⟨S16384x2816, .f32⟩
  | 1 => ⟨S8, .f32⟩
  | 2 => ⟨S16384x1024, .f32⟩
  | 3 => ⟨S16384x512, .f32⟩
  | 4 => ⟨S128x128x2x4x64, .f32⟩
  | 5 => ⟨S16384x128, .f32⟩
  | 6 => ⟨S128x128x2x64, .f32⟩
  | 7 => ⟨S16384x128, .f32⟩
  | 8 => ⟨S128x128x2x64, .f32⟩
  | 9 => ⟨S_, .f32⟩
  | 10 => ⟨S1x128x2x64, .f32⟩
  | 11 => ⟨S127x128x2x64, .f32⟩
  | 12 => ⟨S128x128x2x64, .f32⟩
  | 13 => ⟨S128x256x2x64, .f32⟩
  | 14 => ⟨S127x128x2x64, .f32⟩
  | 15 => ⟨S128x128x2x64, .f32⟩
  | 16 => ⟨S128x256x2x64, .f32⟩
  | 17 => ⟨S2x4x1, .f32⟩
  | 18 => ⟨S2x4x128, .f32⟩
  | 19 => ⟨S16384x512, .f32⟩
  | 20 => ⟨S128x128x2x4x64, .f32⟩
  | 21 => ⟨S128x2x256x128x4, .f32⟩
  | 22 => ⟨S128x2x4x128x256, .f32⟩
  | 23 => ⟨S_, .f32⟩
  | 24 => ⟨S128x2x4x128x256, .f32⟩
  | 25 => ⟨S128x2x4x128x256, .f32⟩
  | 26 => ⟨S128, .i32⟩
  | 27 => ⟨S128x1, .i32⟩
  | 28 => ⟨S_, .i32⟩
  | 29 => ⟨S128x1, .i32⟩
  | 30 => ⟨S128x1, .i32⟩
  | 31 => ⟨S256, .i32⟩
  | 32 => ⟨S1x256, .i32⟩
  | 33 => ⟨S128x256, .i32⟩
  | 34 => ⟨S128x256, .i32⟩
  | 35 => ⟨S128x256, .i32⟩
  | 36 => ⟨S_, .i32⟩
  | 37 => ⟨S128x256, .i32⟩
  | 38 => ⟨S128x256, .i1⟩
  | 39 => ⟨S_, .i32⟩
  | 40 => ⟨S128x256, .i32⟩
  | 41 => ⟨S128x256, .i1⟩
  | 42 => ⟨S128x256, .i1⟩
  | 43 => ⟨S128, .i32⟩
  | 44 => ⟨S_, .i32⟩
  | 45 => ⟨S128, .i32⟩
  | 46 => ⟨S128, .i1⟩
  | 47 => ⟨S128x1x1, .i1⟩
  | 48 => ⟨S1x128x256, .i1⟩
  | 49 => ⟨S_, .i32⟩
  | 50 => ⟨S1x256, .i32⟩
  | 51 => ⟨S1x256, .i1⟩
  | 52 => ⟨S1x1x256, .i1⟩
  | 53 => ⟨S128x1x256, .i1⟩
  | 54 => ⟨S128x1x256, .i1⟩
  | 55 => ⟨S128x1x256, .i1⟩
  | 56 => ⟨S128x1x256, .i1⟩
  | 57 => ⟨S128x128x256, .i1⟩
  | 58 => ⟨S128x128x256, .i1⟩
  | 59 => ⟨S128x128x256, .i1⟩
  | 60 => ⟨S128x1x1x128x256, .i1⟩
  | 61 => ⟨S_, .f32⟩
  | 62 => ⟨S_, .f32⟩
  | 63 => ⟨S128x2x4x128x256, .i1⟩
  | 64 => ⟨S128x2x4x128x256, .f32⟩
  | 65 => ⟨S128x2x4x128x256, .f32⟩
  | 66 => ⟨S_, .f32⟩
  | 67 => ⟨S128x2x4x128x256, .f32⟩
  | 68 => ⟨S1x2x4x128x1, .f32⟩
  | 69 => ⟨S_, .f32⟩
  | 70 => ⟨S128x2x4x128, .f32⟩
  | 71 => ⟨S128x2x4x128x1, .f32⟩
  | 72 => ⟨S128x2x4x128x256, .f32⟩
  | 73 => ⟨S128x2x4x128x256, .i1⟩
  | 74 => ⟨S128x2x4x128x256, .f32⟩
  | 75 => ⟨S_, .f32⟩
  | 76 => ⟨S128x2x4x128, .f32⟩
  | 77 => ⟨S128x2x4x128x1, .f32⟩
  | 78 => ⟨S128x2x4x128x1, .f32⟩
  | 79 => ⟨S128x2x4x128x1, .f32⟩
  | 80 => ⟨S128x2x4x128x1, .f32⟩
  | 81 => ⟨S128x2x4x128x1, .i1⟩
  | 82 => ⟨S128x2x4x128x1, .f32⟩
  | 83 => ⟨S128x2x4x128x1, .i1⟩
  | 84 => ⟨S_, .f32⟩
  | 85 => ⟨S128x2x4x128x1, .f32⟩
  | 86 => ⟨S_, .f32⟩
  | 87 => ⟨S128x2x4x128x1, .f32⟩
  | 88 => ⟨S_, .f32⟩
  | 89 => ⟨S128x2x4x128x1, .f32⟩
  | 90 => ⟨S128x2x4x128x1, .f32⟩
  | 91 => ⟨S128x2x4x128x1, .f32⟩
  | 92 => ⟨S128x2x4x128x1, .f32⟩
  | 93 => ⟨S128x2x4x128x1, .i1⟩
  | 94 => ⟨S128x2x4x128x1, .f32⟩
  | 95 => ⟨S128x2x4x128x1, .i1⟩
  | 96 => ⟨S_, .f32⟩
  | 97 => ⟨S128x2x4x128x1, .f32⟩
  | 98 => ⟨S_, .f32⟩
  | 99 => ⟨S128x2x4x128x1, .f32⟩
  | 100 => ⟨S_, .f32⟩
  | 101 => ⟨S128x2x4x128x1, .f32⟩
  | 102 => ⟨S128x2x4x128x1, .f32⟩
  | 103 => ⟨S128x2x4x128x1, .f32⟩
  | 104 => ⟨S128x2x4x128x256, .f32⟩
  | 105 => ⟨S128x2x4x128x256, .f32⟩
  | 106 => ⟨S128x2x4x128x256, .f32⟩
  | 107 => ⟨S_, .f32⟩
  | 108 => ⟨S128x2x4x128, .f32⟩
  | 109 => ⟨S128x2x4x128x1, .f32⟩
  | 110 => ⟨S128x2x4x128x1, .f32⟩
  | 111 => ⟨S128x2x4x128x1, .f32⟩
  | 112 => ⟨S128x2x4x128x1, .f32⟩
  | 113 => ⟨S128x2x4x128x1, .f32⟩
  | 114 => ⟨S128x2x4x128x256, .f32⟩
  | 115 => ⟨S128x2x4x128x256, .f32⟩
  | 116 => ⟨S128x2x4x128x1, .f32⟩
  | 117 => ⟨S_, .f32⟩
  | 118 => ⟨S128x2x4x128x1, .f32⟩
  | 119 => ⟨S128x2x4x128x1, .f32⟩
  | 120 => ⟨S128x2x64x4x128, .f32⟩
  | 121 => ⟨S128x128x2x4x64, .f32⟩
  | 122 => ⟨S128x2x64x4x128, .f32⟩
  | 123 => ⟨S128x2x4x128x256, .f32⟩
  | 124 => ⟨S128x2x64x256, .f32⟩
  | 125 => ⟨S128x256x2x64, .f32⟩
  | 126 => ⟨S128x2x4x128x256, .f32⟩
  | 127 => ⟨S128x2x4x128x256, .f32⟩
  | _ => ⟨S16384x2816, .f32⟩

abbrev hbmTy0_1 (i : Nat) : BufTy := match i % 128 with
  | 0 => ⟨S128x2x4x128x256, .f32⟩
  | 1 => ⟨S_, .f32⟩
  | 2 => ⟨S128x2x4x128, .f32⟩
  | 3 => ⟨S128x2x4x128x1, .f32⟩
  | 4 => ⟨S128x2x4x128x1, .f32⟩
  | 5 => ⟨S128x2x4x128x256, .f32⟩
  | 6 => ⟨S128x2x4x128x256, .f32⟩
  | 7 => ⟨S128x2x4x128x1, .f32⟩
  | 8 => ⟨S_, .f32⟩
  | 9 => ⟨S2x4x128x1, .f32⟩
  | 10 => ⟨S1x2x4x128x1, .f32⟩
  | 11 => ⟨S128x2x4x128x1, .f32⟩
  | 12 => ⟨S_, .f32⟩
  | 13 => ⟨S128x2x4x128, .f32⟩
  | 14 => ⟨S128x2x4x128x256, .f32⟩
  | 15 => ⟨S128x2x4x128x256, .f32⟩
  | 16 => ⟨S128x2x4x128x256, .f32⟩
  | 17 => ⟨S128x2x4x128x256, .f32⟩
  | 18 => ⟨S_, .f32⟩
  | 19 => ⟨S128x2x4x128, .f32⟩
  | 20 => ⟨S128x2x4x128x1, .f32⟩
  | 21 => ⟨S128x2x4x128x1, .f32⟩
  | 22 => ⟨S128x2x4x128x1, .f32⟩
  | 23 => ⟨S_, .f32⟩
  | 24 => ⟨S2x4x128x1, .f32⟩
  | 25 => ⟨S1x2x4x128x1, .f32⟩
  | 26 => ⟨S1x2x4x128x1, .f32⟩
  | 27 => ⟨S128x2x4x128x1, .f32⟩
  | 28 => ⟨S_, .f32⟩
  | 29 => ⟨S128x2x4x128, .f32⟩
  | 30 => ⟨S128x2x4x128, .f32⟩
  | 31 => ⟨S128x2x4x128x256, .f32⟩
  | 32 => ⟨S128x2x4x128x256, .f32⟩
  | 33 => ⟨S128x2x4x128x256, .f32⟩
  | 34 => ⟨S_, .f32⟩
  | 35 => ⟨S2x4x128, .f32⟩
  | 36 => ⟨S_, .f32⟩
  | 37 => ⟨S128x2x4x128x256, .f32⟩
  | 38 => ⟨S128x2x4x128x256, .f32⟩
  | 39 => ⟨S_, .f32⟩
  | 40 => ⟨S128x2x4x128x256, .f32⟩
  | 41 => ⟨S128x2x4x128x256, .f32⟩
  | 42 => ⟨S128x2x256x128x4, .f32⟩
  | 43 => ⟨S128x2x128x4x64, .f32⟩
  | 44 => ⟨S128x128x2x4x64, .f32⟩
  | 45 => ⟨S128x2x256x64, .f32⟩
  | 46 => ⟨S128x256x2x64, .f32⟩
  | 47 => ⟨S2x1x512, .f32⟩
  | 48 => ⟨S_, .f32⟩
  | 49 => ⟨S2x4, .f32⟩
  | 50 => ⟨S2x4x1, .f32⟩
  | 51 => ⟨S2x4x512, .f32⟩
  | 52 => ⟨S2x5x512, .f32⟩
  | 53 => ⟨S_, .i32⟩
  | 54 => ⟨S_, .f32⟩
  | 55 => ⟨S2x8x512, .f32⟩
  | 56 => ⟨S16384x512, .f32⟩
  | 57 => ⟨S16384x512, .bf16⟩
  | 58 => ⟨S128x128x2x64, .f32⟩
  | 59 => ⟨S16384x128, .f32⟩
  | 60 => ⟨S128x128x2x64, .f32⟩
  | 61 => ⟨S16384x128, .f32⟩
  | 62 => ⟨S128x128x2x64, .f32⟩
  | 63 => ⟨S16384x128, .f32⟩
  | 64 => ⟨S128x128x2x64, .f32⟩
  | 65 => ⟨S16384x128, .f32⟩
  | 66 => ⟨S16x512, .f32⟩
  | _ => ⟨S16384x2816, .f32⟩

abbrev hbmTy (i : Nat) : BufTy := match i / 128 with
  | 0 => hbmTy0_0 i
  | 1 => hbmTy0_1 i
  | _ => ⟨S16384x2816, .f32⟩

abbrev bufTy : (tb : Table) → Fin (tcTables nBuf tb) → BufTy
  | .hbm, ⟨i, _⟩ => hbmTy i
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_1 : Ref sig .tc := ⟨.hbm, 36, rfl⟩
abbrev main_v30 : Ref sig .tc := ⟨.hbm, 37, rfl⟩
abbrev main_v31 : Ref sig .tc := ⟨.hbm, 38, rfl⟩
abbrev main_c_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_call0_v0 : Ref sig .tc := ⟨.hbm, 62, rfl⟩
abbrev main_v51_1 : Ref sig .tc := ⟨.hbm, 63, rfl⟩
abbrev main_call0_v2 : Ref sig .tc := ⟨.hbm, 64, rfl⟩
abbrev main_v51_0 : Ref sig .tc := ⟨.hbm, 65, rfl⟩
abbrev main_call0_cst : Ref sig .tc := ⟨.hbm, 66, rfl⟩
abbrev main_v51_2 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_15 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_16 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_17 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_18 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_19 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_20 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_21 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_22 : Ref sig .tc := ⟨.hbm, 162, rfl⟩
abbrev main_v130 : Ref sig .tc := ⟨.hbm, 163, rfl⟩
abbrev main_call1_cst : Ref sig .tc := ⟨.hbm, 164, rfl⟩
abbrev main_call1_v0 : Ref sig .tc := ⟨.hbm, 165, rfl⟩
abbrev main_v131 : Ref sig .tc := ⟨.hbm, 166, rfl⟩
abbrev main_cst_23 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_24 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_c_25 : Ref sig .tc := ⟨.hbm, 181, rfl⟩
abbrev main_call2_v0 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩

abbrev nD : Nat := 1
abbrev τ : Topo := Topo.v7x

variable {F : FTy → Type} [FloatOps F]
-- ==== Loss.lean ====
abbrev S16384x1024 : Shape := ⟨2, ![16384, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .hbm, ⟨6, _⟩ => ⟨S8x128, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x128, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1 : Shape := ⟨2, ![1, 1]⟩
abbrev S8x128 : Shape := ⟨2, ![8, 128]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .bf16⟩
  | .hbm, ⟨72, _⟩ => ⟨S1x1, .f32⟩
  | .hbm, ⟨73, _⟩ => ⟨S_, .i32⟩
  | .hbm, ⟨74, _⟩ => ⟨S_, .f32⟩
  | .hbm, ⟨75, _⟩ => ⟨S8x128, .f32⟩
  | .hbm, ⟨76, _⟩ => ⟨S1x1024, .f32⟩
  | .hbm, ⟨77, _⟩ => ⟨S_, .i32⟩
  | .hbm, ⟨78, _⟩ => ⟨S_, .f32⟩
  | .hbm, ⟨79, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_c_16 : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Conv.lean ====
abbrev S16384x5632 : Shape := ⟨2, ![16384, 5632]⟩
abbrev S3x2816 : Shape := ⟨2, ![3, 2816]⟩
abbrev S2816 : Shape := ⟨1, ![2816]⟩
abbrev S16384x2816 : Shape := ⟨2, ![16384, 2816]⟩
abbrev S_ : Shape := ⟨0, ![]⟩
abbrev S8x2816 : Shape := ⟨2, ![8, 2816]⟩
abbrev S1x2816 : Shape := ⟨2, ![1, 2816]⟩
abbrev S16383x2816 : Shape := ⟨2, ![16383, 2816]⟩
abbrev S2x2816 : Shape := ⟨2, ![2, 2816]⟩
abbrev S16382x2816 : Shape := ⟨2, ![16382, 2816]⟩
abbrev S512x1408 : Shape := ⟨2, ![512, 1408]⟩
abbrev S16x1408 : Shape := ⟨2, ![16, 1408]⟩
abbrev S8x1408 : Shape := ⟨2, ![8, 1408]⟩
abbrev S520x1408 : Shape := ⟨2, ![520, 1408]⟩
abbrev S1x1408 : Shape := ⟨2, ![1, 1408]⟩
abbrev S1408 : Shape := ⟨1, ![1408]⟩

abbrev nBuf : Space → Nat
  | .hbm => 43
  | .vmem => 22
  | .smem => 0
  | _ => 0

abbrev bufTy : (tb : Table) → Fin (tcTables nBuf tb) → BufTy
  | .hbm, ⟨0, _⟩ => ⟨S16384x5632, .f32⟩
  | .hbm, ⟨1, _⟩ => ⟨S3x2816, .f32⟩
  | .hbm, ⟨2, _⟩ => ⟨S2816, .f32⟩
  | .hbm, ⟨3, _⟩ => ⟨S16384x2816, .f32⟩
  | .hbm, ⟨4, _⟩ => ⟨S16384x5632, .bf16⟩
  | .hbm, ⟨5, _⟩ => ⟨S_, .i32⟩
  | .hbm, ⟨6, _⟩ => ⟨S_, .f32⟩
  | .hbm, ⟨7, _⟩ => ⟨S8x2816, .f32⟩
  | .hbm, ⟨8, _⟩ => ⟨S16384x2816, .bf16⟩
  | .hbm, ⟨9, _⟩ => ⟨S16384x2816, .f32⟩
  | .hbm, ⟨10, _⟩ => ⟨S_, .f32⟩
  | .hbm, ⟨11, _⟩ => ⟨S1x2816, .f32⟩
  | .hbm, ⟨12, _⟩ => ⟨S16383x2816, .f32⟩
  | .hbm, ⟨13, _⟩ => ⟨S16384x2816, .f32⟩
  | .hbm, ⟨14, _⟩ => ⟨S_, .f32⟩
  | .hbm, ⟨15, _⟩ => ⟨S2x2816, .f32⟩
  | .hbm, ⟨16, _⟩ => ⟨S16382x2816, .f32⟩
  | .hbm, ⟨17, _⟩ => ⟨S16384x2816, .f32⟩
  | .hbm, ⟨18, _⟩ => ⟨S1x2816, .f32⟩
  | .hbm, ⟨19, _⟩ => ⟨S2816, .f32⟩
  | .hbm, ⟨20, _⟩ => ⟨S1x2816, .f32⟩
  | .hbm, ⟨21, _⟩ => ⟨S16384x2816, .f32⟩
  | .hbm, ⟨22, _⟩ => ⟨S16384x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S1x2816, .f32⟩
  | .hbm, ⟨36, _⟩ => ⟨S16384x2816, .f32⟩
  | .hbm, ⟨37, _⟩ => ⟨S16384x2816, .f32⟩
  | .hbm, ⟨38, _⟩ => ⟨S16384x2816, .bf16⟩
  | .hbm, ⟨39, _⟩ => ⟨S16384x2816, .bf16⟩
  | .hbm, ⟨40, _⟩ => ⟨S16384x2816, .bf16⟩
  | .hbm, ⟨41, _⟩ => ⟨S16384x2816, .bf16⟩
  | .hbm, ⟨42, _⟩ => ⟨S8x2816, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S16x1408, .bf16⟩
  | .local _ .vmem, ⟨5, _⟩ => ⟨S16x1408, .bf16⟩
  | .local _ .vmem, ⟨6, _⟩ => ⟨S512x1408, .bf16⟩
  | .local _ .vmem, ⟨7, _⟩ => ⟨S512x1408, .bf16⟩
  | .local _ .vmem, ⟨8, _⟩ => ⟨S16x1408, .bf16⟩
  | .local _ .vmem, ⟨9, _⟩ => ⟨S16x1408, .bf16⟩
  | .local _ .vmem, ⟨10, _⟩ => ⟨S512x1408, .bf16⟩
  | .local _ .vmem, ⟨11, _⟩ => ⟨S512x1408, .bf16⟩
  | .local _ .vmem, ⟨12, _⟩ => ⟨S16x1408, .bf16⟩
  | .local _ .vmem, ⟨13, _⟩ => ⟨S16x1408, .bf16⟩
  | .local _ .vmem, ⟨14, _⟩ => ⟨S8x1408, .f32⟩
  | .local _ .vmem, ⟨15, _⟩ => ⟨S8x1408, .f32⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S8x1408, .f32⟩
  | .local _ .vmem, ⟨21, _⟩ => ⟨S8x1408, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let v3 : BitVec 32 := Scalar.addi arg0 c2_i32
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi arg0 c0_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi arg0 c0_i32
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvRefIdeal.lean ====
abbrev S16384x5632 : Shape := ⟨2, ![16384, 5632]⟩
abbrev S3x2816 : Shape := ⟨2, ![3, 2816]⟩
abbrev S2816 : Shape := ⟨1, ![2816]⟩
abbrev S16384x2816 : Shape := ⟨2, ![16384, 2816]⟩
abbrev S_ : Shape := ⟨0, ![]⟩
abbrev S1x2816 : Shape := ⟨2, ![1, 2816]⟩
abbrev S16383x2816 : Shape := ⟨2, ![16383, 2816]⟩
abbrev S2x2816 : Shape := ⟨2, ![2, 2816]⟩
abbrev S16382x2816 : Shape := ⟨2, ![16382, 2816]⟩
abbrev S4x2816 : Shape := ⟨2, ![4, 2816]⟩
abbrev S8x2816 : Shape := ⟨2, ![8, 2816]⟩

abbrev nBuf : Space → Nat
  | .hbm => 115
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S3x2816, .f32⟩
  | .hbm, ⟨2, _⟩ => ⟨S2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S1x2816, .f32⟩
  | .hbm, ⟨8, _⟩ => ⟨S16383x2816, .f32⟩
  | .hbm, ⟨9, _⟩ => ⟨S16384x2816, .f32⟩
  | .hbm, ⟨10, _⟩ => ⟨S_, .f32⟩
  | .hbm, ⟨11, _⟩ => ⟨S1x2816, .f32⟩
  | .hbm, ⟨12, _⟩ => ⟨S_, .f32⟩
  | .hbm, ⟨13, _⟩ => ⟨S2x2816, .f32⟩
  | .hbm, ⟨14, _⟩ => ⟨S16382x2816, .f32⟩
  | .hbm, ⟨15, _⟩ => ⟨S16384x2816, .f32⟩
  | .hbm, ⟨16, _⟩ => ⟨S_, .f32⟩
  | .hbm, ⟨17, _⟩ => ⟨S2x2816, .f32⟩
  | .hbm, ⟨18, _⟩ => ⟨S1x2816, .f32⟩
  | .hbm, ⟨19, _⟩ => ⟨S2816, .f32⟩
  | .hbm, ⟨20, _⟩ => ⟨S1x2816, .f32⟩
  | .hbm, ⟨21, _⟩ => ⟨S16384x2816, .f32⟩
  | .hbm, ⟨22, _⟩ => ⟨S16384x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S1x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S2816, .f32⟩
  | .hbm, ⟨60, _⟩ => ⟨S1x2816, .f32⟩
  | .hbm, ⟨61, _⟩ => ⟨S_, .f32⟩
  | .hbm, ⟨62, _⟩ => ⟨S2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S2816, .f32⟩
  | .hbm, ⟨68, _⟩ => ⟨S1x2816, .f32⟩
  | .hbm, ⟨69, _⟩ => ⟨S_, .f32⟩
  | .hbm, ⟨70, _⟩ => ⟨S2816, .f32⟩
  | .hbm, ⟨71, _⟩ => ⟨S1x2816, .f32⟩
  | .hbm, ⟨72, _⟩ => ⟨S_, .f32⟩
  | .hbm, ⟨73, _⟩ => ⟨S3x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S_, .f32⟩
  | .hbm, ⟨78, _⟩ => ⟨S2816, .f32⟩
  | .hbm, ⟨79, _⟩ => ⟨S1x2816, .f32⟩
  | .hbm, ⟨80, _⟩ => ⟨S_, .f32⟩
  | .hbm, ⟨81, _⟩ => ⟨S2816, .f32⟩
  | .hbm, ⟨82, _⟩ => ⟨S1x2816, .f32⟩
  | .hbm, ⟨83, _⟩ => ⟨S_, .f32⟩
  | .hbm, ⟨84, _⟩ => ⟨S3x2816, .f32⟩
  | .hbm, ⟨85, _⟩ => ⟨S3x2816, .f32⟩
  | .hbm, ⟨86, _⟩ => ⟨S16384x2816, .f32⟩
  | .hbm, ⟨87, _⟩ => ⟨S16384x2816, .f32⟩
  | .hbm, ⟨88, _⟩ => ⟨S16384x2816, .f32⟩
  | .hbm, ⟨89, _⟩ => ⟨S_, .f32⟩
  | .hbm, ⟨90, _⟩ => ⟨S2816, .f32⟩
  | .hbm, ⟨91, _⟩ => ⟨S1x2816, .f32⟩
  | .hbm, ⟨92, _⟩ => ⟨S_, .f32⟩
  | .hbm, ⟨93, _⟩ => ⟨S2816, .f32⟩
  | .hbm, ⟨94, _⟩ => ⟨S1x2816, .f32⟩
  | .hbm, ⟨95, _⟩ => ⟨S_, .f32⟩
  | .hbm, ⟨96, _⟩ => ⟨S3x2816, .f32⟩
  | .hbm, ⟨97, _⟩ => ⟨S3x2816, .f32⟩
  | .hbm, ⟨98, _⟩ => ⟨S2x2816, .f32⟩
  | .hbm, ⟨99, _⟩ => ⟨S16382x2816, .f32⟩
  | .hbm, ⟨100, _⟩ => ⟨S_, .f32⟩
  | .hbm, ⟨101, _⟩ => ⟨S16384x2816, .f32⟩
  | .hbm, ⟨102, _⟩ => ⟨S16384x2816, .f32⟩
  | .hbm, ⟨103, _⟩ => ⟨S1x2816, .f32⟩
  | .hbm, ⟨104, _⟩ => ⟨S16383x2816, .f32⟩
  | .hbm, ⟨105, _⟩ => ⟨S_, .f32⟩
  | .hbm, ⟨106, _⟩ => ⟨S16384x2816, .f32⟩
  | .hbm, ⟨107, _⟩ => ⟨S16384x2816, .f32⟩
  | .hbm, ⟨108, _⟩ => ⟨S16384x2816, .bf16⟩
  | .hbm, ⟨109, _⟩ => ⟨S16384x2816, .bf16⟩
  | .hbm, ⟨110, _⟩ => ⟨S1x2816, .f32⟩
  | .hbm, ⟨111, _⟩ => ⟨S4x2816, .f32⟩
  | .hbm, ⟨112, _⟩ => ⟨S_, .i32⟩
  | .hbm, ⟨113, _⟩ => ⟨S_, .f32⟩
  | .hbm, ⟨114, _⟩ => ⟨S8x2816, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c : Ref sig .tc := ⟨.hbm, 112, rfl⟩
abbrev main_call2_v0 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== Asm.lean ====
abbrev S16384x512 : Shape := ⟨2, ![16384, 512]⟩
abbrev S16384x128 : Shape := ⟨2, ![16384, 128]⟩
abbrev S16384x2816 : Shape := ⟨2, ![16384, 2816]⟩
abbrev S1024x512 : Shape := ⟨2, ![1024, 512]⟩
abbrev S1024x128 : Shape := ⟨2, ![1024, 128]⟩
abbrev S128x128 : Shape := ⟨2, ![128, 128]⟩
abbrev S1024x2816 : Shape := ⟨2, ![1024, 2816]⟩
abbrev S896x128 : Shape := ⟨2, ![896, 128]⟩

abbrev nBuf : Space → Nat
  | .hbm => 15
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x2816, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S128x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S128x128, .f32⟩
  | .local _ .vmem, ⟨21, _⟩ => ⟨S128x128, .f32⟩
  | .local _ .vmem, ⟨22, _⟩ => ⟨S1024x2816, .bf16⟩
  | .local _ .vmem, ⟨23, _⟩ => ⟨S1024x2816, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AsmRefIdeal.lean ====
abbrev S16384x512 : Shape := ⟨2, ![16384, 512]⟩
abbrev S16384x128 : Shape := ⟨2, ![16384, 128]⟩
abbrev S_ : Shape := ⟨0, ![]⟩
abbrev S16384x2816 : Shape := ⟨2, ![16384, 2816]⟩
abbrev S128x128x128 : Shape := ⟨3, ![128, 128, 128]⟩
abbrev S1x128x128 : Shape := ⟨3, ![1, 128, 128]⟩
abbrev S127x128x128 : Shape := ⟨3, ![127, 128, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S_, .f32⟩
  | .hbm, ⟨10, _⟩ => ⟨S16384x2816, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x128, .f32⟩
  | .hbm, ⟨17, _⟩ => ⟨S16384x128, .f32⟩
  | .hbm, ⟨18, _⟩ => ⟨S128x128x128, .f32⟩
  | .hbm, ⟨19, _⟩ => ⟨S_, .f32⟩
  | .hbm, ⟨20, _⟩ => ⟨S1x128x128, .f32⟩
  | .hbm, ⟨21, _⟩ => ⟨S127x128x128, .f32⟩
  | .hbm, ⟨22, _⟩ => ⟨S128x128x128, .f32⟩
  | .hbm, ⟨23, _⟩ => ⟨S_, .f32⟩
  | .hbm, ⟨24, _⟩ => ⟨S1x128x128, .f32⟩
  | .hbm, ⟨25, _⟩ => ⟨S16384x128, .f32⟩
  | .hbm, ⟨26, _⟩ => ⟨S16384x128, .f32⟩
  | .hbm, ⟨27, _⟩ => ⟨S128x128x128, .f32⟩
  | .hbm, ⟨28, _⟩ => ⟨S_, .f32⟩
  | .hbm, ⟨29, _⟩ => ⟨S1x128x128, .f32⟩
  | .hbm, ⟨30, _⟩ => ⟨S127x128x128, .f32⟩
  | .hbm, ⟨31, _⟩ => ⟨S128x128x128, .f32⟩
  | .hbm, ⟨32, _⟩ => ⟨S_, .f32⟩
  | .hbm, ⟨33, _⟩ => ⟨S1x128x128, .f32⟩
  | .hbm, ⟨34, _⟩ => ⟨S16384x128, .f32⟩
  | .hbm, ⟨35, _⟩ => ⟨S16384x128, .f32⟩
  | .hbm, ⟨36, _⟩ => ⟨S128x128x128, .f32⟩
  | .hbm, ⟨37, _⟩ => ⟨S128x128x128, .f32⟩
  | .hbm, ⟨38, _⟩ => ⟨S1x128x128, .f32⟩
  | .hbm, ⟨39, _⟩ => ⟨S127x128x128, .f32⟩
  | .hbm, ⟨40, _⟩ => ⟨S_, .f32⟩
  | .hbm, ⟨41, _⟩ => ⟨S128x128x128, .f32⟩
  | .hbm, ⟨42, _⟩ => ⟨S128x128x128, .f32⟩
  | .hbm, ⟨43, _⟩ => ⟨S16384x128, .f32⟩
  | .hbm, ⟨44, _⟩ => ⟨S128x128x128, .f32⟩
  | .hbm, ⟨45, _⟩ => ⟨S128x128x128, .f32⟩
  | .hbm, ⟨46, _⟩ => ⟨S1x128x128, .f32⟩
  | .hbm, ⟨47, _⟩ => ⟨S127x128x128, .f32⟩
  | .hbm, ⟨48, _⟩ => ⟨S_, .f32⟩
  | .hbm, ⟨49, _⟩ => ⟨S128x128x128, .f32⟩
  | .hbm, ⟨50, _⟩ => ⟨S128x128x128, .f32⟩
  | .hbm, ⟨51, _⟩ => ⟨S16384x128, .f32⟩
  | .hbm, ⟨52, _⟩ => ⟨S16384x2816, .f32⟩
  | .hbm, ⟨53, _⟩ => ⟨S16384x2816, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Swaf.lean ====
abbrev S16384x2816 : Shape := ⟨2, ![16384, 2816]⟩
abbrev S8 : Shape := ⟨1, ![8]⟩
abbrev S16384x1024 : Shape := ⟨2, ![16384, 1024]⟩
abbrev S2x1x4 : Shape := ⟨3, ![2, 1, 4]⟩
abbrev S2x1x4x128 : Shape := ⟨4, ![2, 1, 4, 128]⟩
abbrev S2x1x512 : Shape := ⟨3, ![2, 1, 512]⟩
abbrev S_ : Shape := ⟨0, ![]⟩
abbrev S2x8x512 : Shape := ⟨3, ![2, 8, 512]⟩
abbrev S16x512 : Shape := ⟨2, ![16, 512]⟩
abbrev S2x256x512 : Shape := ⟨3, ![2, 256, 512]⟩
abbrev S1024x512 : Shape := ⟨2, ![1024, 512]⟩
abbrev S128x128 : Shape := ⟨2, ![128, 128]⟩
abbrev S1024x128 : Shape := ⟨2, ![1024, 128]⟩
abbrev S1152x128 : Shape := ⟨2, ![1152, 128]⟩
abbrev S256x128 : Shape := ⟨2, ![256, 128]⟩
abbrev S1x256x512 : Shape := ⟨3, ![1, 256, 512]⟩
abbrev S256x512 : Shape := ⟨2, ![256, 512]⟩
abbrev S128x512 : Shape := ⟨2, ![128, 512]⟩
abbrev S512x128 : Shape := ⟨2, ![512, 128]⟩
abbrev S256x64 : Shape := ⟨2, ![256, 64]⟩
abbrev S64x128 : Shape := ⟨2, ![64, 128]⟩
abbrev S64x512 : Shape := ⟨2, ![64, 512]⟩
abbrev S1x512 : Shape := ⟨2, ![1, 512]⟩
abbrev S128x256 : Shape := ⟨2, ![128, 256]⟩
abbrev S512 : Shape := ⟨1, ![512]⟩
abbrev S64x256 : Shape := ⟨2, ![64, 256]⟩

abbrev nBuf : Space → Nat
  | .hbm => 44
  | .vmem => 14
  | .smem => 0
  | _ => 0

abbrev bufTy : (tb : Table) → Fin (tcTables nBuf tb) → BufTy
  | .hbm, ⟨0, _⟩ => ⟨S16384x2816, .f32⟩
  | .hbm, ⟨1, _⟩ => ⟨S8, .f32⟩
  | .hbm, ⟨2, _⟩ => ⟨S16384x1024, .f32⟩
  | .hbm, ⟨3, _⟩ => ⟨S2x1x4, .f32⟩
  | .hbm, ⟨4, _⟩ => ⟨S2x1x4x128, .f32⟩
  | .hbm, ⟨5, _⟩ => ⟨S2x1x512, .f32⟩
  | .hbm, ⟨6, _⟩ => ⟨S_, .i32⟩
  | .hbm, ⟨7, _⟩ => ⟨S_, .f32⟩
  | .hbm, ⟨8, _⟩ => ⟨S2x8x512, .f32⟩
  | .hbm, ⟨9, _⟩ => ⟨S16x512, .f32⟩
  | .hbm, ⟨10, _⟩ => ⟨S2x256x512, .i32⟩
  | .hbm, ⟨11, _⟩ => ⟨S2x256x512, .i32⟩
  | .hbm, ⟨12, _⟩ => ⟨S_, .i32⟩
  | .hbm, ⟨13, _⟩ => ⟨S2x256x512, .i32⟩
  | .hbm, ⟨14, _⟩ => ⟨S2x256x512, .i32⟩
  | .hbm, ⟨15, _⟩ => ⟨S_, .i32⟩
  | .hbm, ⟨16, _⟩ => ⟨S2x256x512, .i32⟩
  | .hbm, ⟨17, _⟩ => ⟨S2x256x512, .i32⟩
  | .hbm, ⟨18, _⟩ => ⟨S2x256x512, .i32⟩
  | .hbm, ⟨19, _⟩ => ⟨S_, .i32⟩
  | .hbm, ⟨20, _⟩ => ⟨S2x256x512, .i32⟩
  | .hbm, ⟨21, _⟩ => ⟨S2x256x512, .i1⟩
  | .hbm, ⟨22, _⟩ => ⟨S2x256x512, .i32⟩
  | .hbm, ⟨23, _⟩ => ⟨S_, .i32⟩
  | .hbm, ⟨24, _⟩ => ⟨S2x256x512, .i32⟩
  | .hbm, ⟨25, _⟩ => ⟨S2x256x512, .i1⟩
  | .hbm, ⟨26, _⟩ => ⟨S_, .i32⟩
  | .hbm, ⟨27, _⟩ => ⟨S2x256x512, .i32⟩
  | .hbm, ⟨28, _⟩ => ⟨S2x256x512, .i1⟩
  | .hbm, ⟨29, _⟩ => ⟨S2x256x512, .i1⟩
  | .hbm, ⟨30, _⟩ => ⟨S_, .i32⟩
  | .hbm, ⟨31, _⟩ => ⟨S2x256x512, .i32⟩
  | .hbm, ⟨32, _⟩ => ⟨S2x256x512, .i1⟩
  | .hbm, ⟨33, _⟩ => ⟨S2x256x512, .i1⟩
  | .hbm, ⟨34, _⟩ => ⟨S2x256x512, .i1⟩
  | .hbm, ⟨35, _⟩ => ⟨S2x256x512, .i1⟩
  | .hbm, ⟨36, _⟩ => ⟨S_, .f32⟩
  | .hbm, ⟨37, _⟩ => ⟨S_, .f32⟩
  | .hbm, ⟨38, _⟩ => ⟨S2x256x512, .f32⟩
  | .hbm, ⟨39, _⟩ => ⟨S2x256x512, .f32⟩
  | .hbm, ⟨40, _⟩ => ⟨S2x256x512, .f32⟩
  | .hbm, ⟨41, _⟩ => ⟨S2x256x512, .f32⟩
  | .hbm, ⟨42, _⟩ => ⟨S16384x1024, .bf16⟩
  | .hbm, ⟨43, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S16x512, .f32⟩
  | .local _ .vmem, ⟨11, _⟩ => ⟨S2x256x512, .f32⟩
  | .local _ .vmem, ⟨12, _⟩ => ⟨S1024x512, .bf16⟩
  | .local _ .vmem, ⟨13, _⟩ => ⟨S1024x512, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v22 : BitVec 32 := Scalar.minsi arg0 c1_i32
  let v23 : Index := Scalar.indexCast v22
  let c0_7 : Index := 0#32
  let c0_8 : Index := 0#32
  ![v23.toNat, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_4 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwafIdeal.lean ====
variable {F : FTy → Type} [FloatOps F] [Named F]
def κ : String → Option EReal := fun
  | "mask" => some ⊥
  | _ => none
-- ==== SwafRefIdeal.lean ====
abbrev S16384x2816 : Shape := ⟨2, ![16384, 2816]⟩
abbrev S8 : Shape := ⟨1, ![8]⟩
abbrev S16384x1024 : Shape := ⟨2, ![16384, 1024]⟩
abbrev S16384x512 : Shape := ⟨2, ![16384, 512]⟩
abbrev S128x128x2x4x64 : Shape := ⟨5, ![128, 128, 2, 4, 64]⟩
abbrev S16384x128 : Shape := ⟨2, ![16384, 128]⟩
abbrev S128x128x2x64 : Shape := ⟨4, ![128, 128, 2, 64]⟩
abbrev S_ : Shape := ⟨0, ![]⟩
abbrev S1x128x2x64 : Shape := ⟨4, ![1, 128, 2, 64]⟩
abbrev S127x128x2x64 : Shape := ⟨4, ![127, 128, 2, 64]⟩
abbrev S128x256x2x64 : Shape := ⟨4, ![128, 256, 2, 64]⟩
abbrev S2x4x1 : Shape := ⟨3, ![2, 4, 1]⟩
abbrev S2x4x128 : Shape := ⟨3, ![2, 4, 128]⟩
abbrev S128x2x256x128x4 : Shape := ⟨5, ![128, 2, 256, 128, 4]⟩
abbrev S128x2x4x128x256 : Shape := ⟨5, ![128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S1x2x4x128x1 : Shape := ⟨5, ![1, 2, 4, 128, 1]⟩
abbrev S128x2x4x128 : Shape := ⟨4, ![128, 2, 4, 128]⟩
abbrev S128x2x4x128x1 : Shape := ⟨5, ![128, 2, 4, 128, 1]⟩
abbrev S128x2x64x4x128 : Shape := ⟨5, ![128, 2, 64, 4, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S8, .f32⟩
  | .hbm, ⟨2, _⟩ => ⟨S16384x1024, .f32⟩
  | .hbm, ⟨3, _⟩ => ⟨S16384x512, .f32⟩
  | .hbm, ⟨4, _⟩ => ⟨S128x128x2x4x64, .f32⟩
  | .hbm, ⟨5, _⟩ => ⟨S16384x128, .f32⟩
  | .hbm, ⟨6, _⟩ => ⟨S128x128x2x64, .f32⟩
  | .hbm, ⟨7, _⟩ => ⟨S16384x128, .f32⟩
  | .hbm, ⟨8, _⟩ => ⟨S128x128x2x64, .f32⟩
  | .hbm, ⟨9, _⟩ => ⟨S_, .f32⟩
  | .hbm, ⟨10, _⟩ => ⟨S1x128x2x64, .f32⟩
  | .hbm, ⟨11, _⟩ => ⟨S127x128x2x64, .f32⟩
  | .hbm, ⟨12, _⟩ => ⟨S128x128x2x64, .f32⟩
  | .hbm, ⟨13, _⟩ => ⟨S128x256x2x64, .f32⟩
  | .hbm, ⟨14, _⟩ => ⟨S127x128x2x64, .f32⟩
  | .hbm, ⟨15, _⟩ => ⟨S128x128x2x64, .f32⟩
  | .hbm, ⟨16, _⟩ => ⟨S128x256x2x64, .f32⟩
  | .hbm, ⟨17, _⟩ => ⟨S2x4x1, .f32⟩
  | .hbm, ⟨18, _⟩ => ⟨S2x4x128, .f32⟩
  | .hbm, ⟨19, _⟩ => ⟨S128x2x256x128x4, .f32⟩
  | .hbm, ⟨20, _⟩ => ⟨S128x2x4x128x256, .f32⟩
  | .hbm, ⟨21, _⟩ => ⟨S_, .f32⟩
  | .hbm, ⟨22, _⟩ => ⟨S128x2x4x128x256, .f32⟩
  | .hbm, ⟨23, _⟩ => ⟨S128x2x4x128x256, .f32⟩
  | .hbm, ⟨24, _⟩ => ⟨S128, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128x1x1, .i1⟩
  | .hbm, ⟨46, _⟩ => ⟨S1x128x256, .i1⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x1x256, .i1⟩
  | .hbm, ⟨51, _⟩ => ⟨S128x1x256, .i1⟩
  | .hbm, ⟨52, _⟩ => ⟨S128x1x256, .i1⟩
  | .hbm, ⟨53, _⟩ => ⟨S128x1x256, .i1⟩
  | .hbm, ⟨54, _⟩ => ⟨S128x1x256, .i1⟩
  | .hbm, ⟨55, _⟩ => ⟨S128x128x256, .i1⟩
  | .hbm, ⟨56, _⟩ => ⟨S128x128x256, .i1⟩
  | .hbm, ⟨57, _⟩ => ⟨S128x128x256, .i1⟩
  | .hbm, ⟨58, _⟩ => ⟨S128x1x1x128x256, .i1⟩
  | .hbm, ⟨59, _⟩ => ⟨S_, .f32⟩
  | .hbm, ⟨60, _⟩ => ⟨S_, .f32⟩
  | .hbm, ⟨61, _⟩ => ⟨S128x2x4x128x256, .i1⟩
  | .hbm, ⟨62, _⟩ => ⟨S128x2x4x128x256, .f32⟩
  | .hbm, ⟨63, _⟩ => ⟨S128x2x4x128x256, .f32⟩
  | .hbm, ⟨64, _⟩ => ⟨S1x2x4x128x1, .f32⟩
  | .hbm, ⟨65, _⟩ => ⟨S_, .f32⟩
  | .hbm, ⟨66, _⟩ => ⟨S128x2x4x128, .f32⟩
  | .hbm, ⟨67, _⟩ => ⟨S128x2x4x128x1, .f32⟩
  | .hbm, ⟨68, _⟩ => ⟨S128x2x4x128x1, .f32⟩
  | .hbm, ⟨69, _⟩ => ⟨S128x2x4x128x1, .f32⟩
  | .hbm, ⟨70, _⟩ => ⟨S128x2x4x128x256, .f32⟩
  | .hbm, ⟨71, _⟩ => ⟨S128x2x4x128x256, .f32⟩
  | .hbm, ⟨72, _⟩ => ⟨S128x2x4x128x256, .f32⟩
  | .hbm, ⟨73, _⟩ => ⟨S_, .f32⟩
  | .hbm, ⟨74, _⟩ => ⟨S128x2x4x128, .f32⟩
  | .hbm, ⟨75, _⟩ => ⟨S128x2x4x128x1, .f32⟩
  | .hbm, ⟨76, _⟩ => ⟨S128x2x4x128x1, .f32⟩
  | .hbm, ⟨77, _⟩ => ⟨S128x2x4x128x1, .f32⟩
  | .hbm, ⟨78, _⟩ => ⟨S128x2x4x128x1, .f32⟩
  | .hbm, ⟨79, _⟩ => ⟨S128x2x4x128x1, .f32⟩
  | .hbm, ⟨80, _⟩ => ⟨S128x2x4x128x256, .f32⟩
  | .hbm, ⟨81, _⟩ => ⟨S128x2x4x128x256, .f32⟩
  | .hbm, ⟨82, _⟩ => ⟨S128x2x64x4x128, .f32⟩
  | .hbm, ⟨83, _⟩ => ⟨S128x128x2x4x64, .f32⟩
  | .hbm, ⟨84, _⟩ => ⟨S16384x512, .f32⟩
  | .hbm, ⟨85, _⟩ => ⟨S16384x512, .f32⟩
  | .hbm, ⟨86, _⟩ => ⟨S16384x1024, .f32⟩
  | .hbm, ⟨87, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== Lb.lean ====
abbrev S4x512 : Shape := ⟨2, ![4, 512]⟩
abbrev S32x512 : Shape := ⟨2, ![32, 512]⟩
abbrev S8x512 : Shape := ⟨2, ![8, 512]⟩
abbrev S512 : Shape := ⟨1, ![512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S32x512, .f32⟩
  | .hbm, ⟨2, _⟩ => ⟨S8x512, .f32⟩
  | .local _ .vmem, ⟨0, _⟩ => ⟨S32x512, .f32⟩
  | .local _ .vmem, ⟨1, _⟩ => ⟨S4x512, .f32⟩
  | .local _ .vmem, ⟨2, _⟩ => ⟨S8x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbRefIdeal.lean ====
abbrev S4x512 : Shape := ⟨2, ![4, 512]⟩
abbrev S32x512 : Shape := ⟨2, ![32, 512]⟩
abbrev S4x8x512 : Shape := ⟨3, ![4, 8, 512]⟩
abbrev S_ : Shape := ⟨0, ![]⟩
abbrev S512 : Shape := ⟨1, ![512]⟩
abbrev S1x512 : Shape := ⟨2, ![1, 512]⟩
abbrev S4x1x512 : Shape := ⟨3, ![4, 1, 512]⟩
abbrev S8x512 : Shape := ⟨2, ![8, 512]⟩

abbrev nBuf : Space → Nat
  | .hbm => 118
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S32x512, .f32⟩
  | .hbm, ⟨2, _⟩ => ⟨S4x8x512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S4x512, .f32⟩
  | .hbm, ⟨7, _⟩ => ⟨S4x512, .i1⟩
  | .hbm, ⟨8, _⟩ => ⟨S4x512, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .i1⟩
  | .hbm, ⟨17, _⟩ => ⟨S_, .f32⟩
  | .hbm, ⟨18, _⟩ => ⟨S512, .f32⟩
  | .hbm, ⟨19, _⟩ => ⟨S512, .i1⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S1x512, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S_, .f32⟩
  | .hbm, ⟨33, _⟩ => ⟨S512, .f32⟩
  | .hbm, ⟨34, _⟩ => ⟨S1x512, .f32⟩
  | .hbm, ⟨35, _⟩ => ⟨S4x512, .f32⟩
  | .hbm, ⟨36, _⟩ => ⟨S4x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S_, .f32⟩
  | .hbm, ⟨42, _⟩ => ⟨S_, .f32⟩
  | .hbm, ⟨43, _⟩ => ⟨S4x512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S4x512, .f32⟩
  | .hbm, ⟨48, _⟩ => ⟨S4x512, .f32⟩
  | .hbm, ⟨49, _⟩ => ⟨S_, .f32⟩
  | .hbm, ⟨50, _⟩ => ⟨S4x512, .f32⟩
  | .hbm, ⟨51, _⟩ => ⟨S4x512, .f32⟩
  | .hbm, ⟨52, _⟩ => ⟨S_, .f32⟩
  | .hbm, ⟨53, _⟩ => ⟨S4x512, .f32⟩
  | .hbm, ⟨54, _⟩ => ⟨S4x512, .i1⟩
  | .hbm, ⟨55, _⟩ => ⟨S_, .f32⟩
  | .hbm, ⟨56, _⟩ => ⟨S4x512, .f32⟩
  | .hbm, ⟨57, _⟩ => ⟨S4x512, .i1⟩
  | .hbm, ⟨58, _⟩ => ⟨S_, .f32⟩
  | .hbm, ⟨59, _⟩ => ⟨S4x512, .f32⟩
  | .hbm, ⟨60, _⟩ => ⟨S_, .f32⟩
  | .hbm, ⟨61, _⟩ => ⟨S4x512, .f32⟩
  | .hbm, ⟨62, _⟩ => ⟨S_, .f32⟩
  | .hbm, ⟨63, _⟩ => ⟨S4x512, .f32⟩
  | .hbm, ⟨64, _⟩ => ⟨S4x512, .f32⟩
  | .hbm, ⟨65, _⟩ => ⟨S4x512, .f32⟩
  | .hbm, ⟨66, _⟩ => ⟨S4x512, .f32⟩
  | .hbm, ⟨67, _⟩ => ⟨S4x512, .f32⟩
  | .hbm, ⟨68, _⟩ => ⟨S4x512, .f32⟩
  | .hbm, ⟨69, _⟩ => ⟨S_, .f32⟩
  | .hbm, ⟨70, _⟩ => ⟨S4x512, .f32⟩
  | .hbm, ⟨71, _⟩ => ⟨S4x512, .f32⟩
  | .hbm, ⟨72, _⟩ => ⟨S_, .f32⟩
  | .hbm, ⟨73, _⟩ => ⟨S4x512, .f32⟩
  | .hbm, ⟨74, _⟩ => ⟨S4x512, .f32⟩
  | .hbm, ⟨75, _⟩ => ⟨S4x1x512, .f32⟩
  | .hbm, ⟨76, _⟩ => ⟨S4x512, .f32⟩
  | .hbm, ⟨77, _⟩ => ⟨S4x1x512, .f32⟩
  | .hbm, ⟨78, _⟩ => ⟨S4x512, .f32⟩
  | .hbm, ⟨79, _⟩ => ⟨S4x1x512, .f32⟩
  | .hbm, ⟨80, _⟩ => ⟨S4x512, .f32⟩
  | .hbm, ⟨81, _⟩ => ⟨S4x512, .f32⟩
  | .hbm, ⟨82, _⟩ => ⟨S4x512, .f32⟩
  | .hbm, ⟨83, _⟩ => ⟨S4x512, .f32⟩
  | .hbm, ⟨84, _⟩ => ⟨S4x512, .f32⟩
  | .hbm, ⟨85, _⟩ => ⟨S4x512, .f32⟩
  | .hbm, ⟨86, _⟩ => ⟨S4x512, .f32⟩
  | .hbm, ⟨87, _⟩ => ⟨S4x512, .f32⟩
  | .hbm, ⟨88, _⟩ => ⟨S4x512, .f32⟩
  | .hbm, ⟨89, _⟩ => ⟨S_, .f32⟩
  | .hbm, ⟨90, _⟩ => ⟨S512, .f32⟩
  | .hbm, ⟨91, _⟩ => ⟨S1x512, .f32⟩
  | .hbm, ⟨92, _⟩ => ⟨S_, .f32⟩
  | .hbm, ⟨93, _⟩ => ⟨S512, .f32⟩
  | .hbm, ⟨94, _⟩ => ⟨S1x512, .f32⟩
  | .hbm, ⟨95, _⟩ => ⟨S_, .f32⟩
  | .hbm, ⟨96, _⟩ => ⟨S4x512, .f32⟩
  | .hbm, ⟨97, _⟩ => ⟨S_, .f32⟩
  | .hbm, ⟨98, _⟩ => ⟨S_, .f32⟩
  | .hbm, ⟨99, _⟩ => ⟨S4x512, .f32⟩
  | .hbm, ⟨100, _⟩ => ⟨S4x512, .f32⟩
  | .hbm, ⟨101, _⟩ => ⟨S4x512, .f32⟩
  | .hbm, ⟨102, _⟩ => ⟨S4x512, .f32⟩
  | .hbm, ⟨103, _⟩ => ⟨S4x512, .f32⟩
  | .hbm, ⟨104, _⟩ => ⟨S_, .f32⟩
  | .hbm, ⟨105, _⟩ => ⟨S512, .f32⟩
  | .hbm, ⟨106, _⟩ => ⟨S1x512, .f32⟩
  | .hbm, ⟨107, _⟩ => ⟨S1x512, .f32⟩
  | .hbm, ⟨108, _⟩ => ⟨S4x512, .f32⟩
  | .hbm, ⟨109, _⟩ => ⟨S4x512, .f32⟩
  | .hbm, ⟨110, _⟩ => ⟨S_, .f32⟩
  | .hbm, ⟨111, _⟩ => ⟨S512, .f32⟩
  | .hbm, ⟨112, _⟩ => ⟨S4x512, .f32⟩
  | .hbm, ⟨113, _⟩ => ⟨S4x512, .f32⟩
  | .hbm, ⟨114, _⟩ => ⟨S4x512, .f32⟩
  | .hbm, ⟨115, _⟩ => ⟨S_, .i32⟩
  | .hbm, ⟨116, _⟩ => ⟨S_, .f32⟩
  | .hbm, ⟨117, _⟩ => ⟨S8x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_call0_call0_cst : Ref sig .tc := ⟨.hbm, 41, rfl⟩
abbrev main_call0_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_cst_14 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_cst_16 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_cst_19 : Ref sig .tc := ⟨.hbm, 95, rfl⟩
abbrev main_v71 : Ref sig .tc := ⟨.hbm, 96, rfl⟩
abbrev main_call1_call0_cst : Ref sig .tc := ⟨.hbm, 97, rfl⟩
abbrev main_call1_call0_v0 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_20 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_21 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c : Ref sig .tc := ⟨.hbm, 115, rfl⟩
abbrev main_call2_v0 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Convf.lean ====
abbrev S16384x5632 : Shape := ⟨2, ![16384, 5632]⟩
abbrev S3x2816 : Shape := ⟨2, ![3, 2816]⟩
abbrev S2816 : Shape := ⟨1, ![2816]⟩
abbrev S_ : Shape := ⟨0, ![]⟩
abbrev S8x2816 : Shape := ⟨2, ![8, 2816]⟩
abbrev S1x2816 : Shape := ⟨2, ![1, 2816]⟩
abbrev S16384x2816 : Shape := ⟨2, ![16384, 2816]⟩
abbrev S512x1408 : Shape := ⟨2, ![512, 1408]⟩
abbrev S16x1408 : Shape := ⟨2, ![16, 1408]⟩
abbrev S8x1408 : Shape := ⟨2, ![8, 1408]⟩
abbrev S1x1408 : Shape := ⟨2, ![1, 1408]⟩
abbrev S504x1408 : Shape := ⟨2, ![504, 1408]⟩

abbrev nBuf : Space → Nat
  | .hbm => 10
  | .vmem => 14
  | .smem => 0
  | _ => 0

abbrev bufTy : (tb : Table) → Fin (tcTables nBuf tb) → BufTy
  | .hbm, ⟨0, _⟩ => ⟨S16384x5632, .f32⟩
  | .hbm, ⟨1, _⟩ => ⟨S3x2816, .f32⟩
  | .hbm, ⟨2, _⟩ => ⟨S2816, .f32⟩
  | .hbm, ⟨3, _⟩ => ⟨S16384x5632, .bf16⟩
  | .hbm, ⟨4, _⟩ => ⟨S_, .i32⟩
  | .hbm, ⟨5, _⟩ => ⟨S_, .f32⟩
  | .hbm, ⟨6, _⟩ => ⟨S8x2816, .f32⟩
  | .hbm, ⟨7, _⟩ => ⟨S1x2816, .f32⟩
  | .hbm, ⟨8, _⟩ => ⟨S16384x2816, .bf16⟩
  | .hbm, ⟨9, _⟩ => ⟨S16384x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S8x1408, .f32⟩
  | .local _ .vmem, ⟨7, _⟩ => ⟨S8x1408, .f32⟩
  | .local _ .vmem, ⟨8, _⟩ => ⟨S1x1408, .f32⟩
  | .local _ .vmem, ⟨9, _⟩ => ⟨S1x1408, .f32⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvfRefIdeal.lean ====
abbrev S16384x5632 : Shape := ⟨2, ![16384, 5632]⟩
abbrev S3x2816 : Shape := ⟨2, ![3, 2816]⟩
abbrev S2816 : Shape := ⟨1, ![2816]⟩
abbrev S16384x2816 : Shape := ⟨2, ![16384, 2816]⟩
abbrev S_ : Shape := ⟨0, ![]⟩
abbrev S1x2816 : Shape := ⟨2, ![1, 2816]⟩
abbrev S16383x2816 : Shape := ⟨2, ![16383, 2816]⟩
abbrev S2x2816 : Shape := ⟨2, ![2, 2816]⟩
abbrev S16382x2816 : Shape := ⟨2, ![16382, 2816]⟩

abbrev nBuf : Space → Nat
  | .hbm => 73
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S3x2816, .f32⟩
  | .hbm, ⟨2, _⟩ => ⟨S2816, .f32⟩
  | .hbm, ⟨3, _⟩ => ⟨S16384x2816, .f32⟩
  | .hbm, ⟨4, _⟩ => ⟨S16384x2816, .f32⟩
  | .hbm, ⟨5, _⟩ => ⟨S_, .f32⟩
  | .hbm, ⟨6, _⟩ => ⟨S1x2816, .f32⟩
  | .hbm, ⟨7, _⟩ => ⟨S16383x2816, .f32⟩
  | .hbm, ⟨8, _⟩ => ⟨S16384x2816, .f32⟩
  | .hbm, ⟨9, _⟩ => ⟨S_, .f32⟩
  | .hbm, ⟨10, _⟩ => ⟨S2x2816, .f32⟩
  | .hbm, ⟨11, _⟩ => ⟨S16382x2816, .f32⟩
  | .hbm, ⟨12, _⟩ => ⟨S16384x2816, .f32⟩
  | .hbm, ⟨13, _⟩ => ⟨S1x2816, .f32⟩
  | .hbm, ⟨14, _⟩ => ⟨S2816, .f32⟩
  | .hbm, ⟨15, _⟩ => ⟨S1x2816, .f32⟩
  | .hbm, ⟨16, _⟩ => ⟨S16384x2816, .f32⟩
  | .hbm, ⟨17, _⟩ => ⟨S16384x2816, .f32⟩
  | .hbm, ⟨18, _⟩ => ⟨S1x2816, .f32⟩
  | .hbm, ⟨19, _⟩ => ⟨S2816, .f32⟩
  | .hbm, ⟨20, _⟩ => ⟨S1x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S1x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .bf16⟩
  | .hbm, ⟨44, _⟩ => ⟨S_, .f32⟩
  | .hbm, ⟨45, _⟩ => ⟨S1x2816, .f32⟩
  | .hbm, ⟨46, _⟩ => ⟨S16383x2816, .f32⟩
  | .hbm, ⟨47, _⟩ => ⟨S16384x2816, .f32⟩
  | .hbm, ⟨48, _⟩ => ⟨S_, .f32⟩
  | .hbm, ⟨49, _⟩ => ⟨S2x2816, .f32⟩
  | .hbm, ⟨50, _⟩ => ⟨S16382x2816, .f32⟩
  | .hbm, ⟨51, _⟩ => ⟨S16384x2816, .f32⟩
  | .hbm, ⟨52, _⟩ => ⟨S1x2816, .f32⟩
  | .hbm, ⟨53, _⟩ => ⟨S2816, .f32⟩
  | .hbm, ⟨54, _⟩ => ⟨S1x2816, .f32⟩
  | .hbm, ⟨55, _⟩ => ⟨S16384x2816, .f32⟩
  | .hbm, ⟨56, _⟩ => ⟨S16384x2816, .f32⟩
  | .hbm, ⟨57, _⟩ => ⟨S1x2816, .f32⟩
  | .hbm, ⟨58, _⟩ => ⟨S2816, .f32⟩
  | .hbm, ⟨59, _⟩ => ⟨S1x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S1x2816, .f32⟩
  | .hbm, ⟨64, _⟩ => ⟨S2816, .f32⟩
  | .hbm, ⟨65, _⟩ => ⟨S1x2816, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S1x2816, .f32⟩
  | .hbm, ⟨70, _⟩ => ⟨S16384x2816, .f32⟩
  | .hbm, ⟨71, _⟩ => ⟨S16384x2816, .f32⟩
  | .hbm, ⟨72, _⟩ => ⟨S16384x2816, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Plef.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S256x1024, .f32⟩
  | .hbm, ⟨4, _⟩ => ⟨S1024, .f32⟩
  | .hbm, ⟨5, _⟩ => ⟨S16384x1024, .bf16⟩
  | .hbm, ⟨6, _⟩ => ⟨S256x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PlefRefIdeal.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S256x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Lbf.lean ====
abbrev S4x512 : Shape := ⟨2, ![4, 512]⟩
abbrev S32x512 : Shape := ⟨2, ![32, 512]⟩
abbrev S512 : Shape := ⟨1, ![512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S32x512, .f32⟩
  | .local _ .vmem, ⟨0, _⟩ => ⟨S4x512, .f32⟩
  | .local _ .vmem, ⟨1, _⟩ => ⟨S32x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbfRefIdeal.lean ====
abbrev S4x512 : Shape := ⟨2, ![4, 512]⟩
abbrev S_ : Shape := ⟨0, ![]⟩
abbrev S512 : Shape := ⟨1, ![512]⟩
abbrev S1x512 : Shape := ⟨2, ![1, 512]⟩
abbrev S4x1x512 : Shape := ⟨3, ![4, 1, 512]⟩
abbrev S4x4x512 : Shape := ⟨3, ![4, 4, 512]⟩
abbrev S4x8x512 : Shape := ⟨3, ![4, 8, 512]⟩
abbrev S32x512 : Shape := ⟨2, ![32, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S4x512, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4x512, .f32⟩
  | .hbm, ⟨28, _⟩ => ⟨S4x512, .f32⟩
  | .hbm, ⟨29, _⟩ => ⟨S_, .f32⟩
  | .hbm, ⟨30, _⟩ => ⟨S_, .f32⟩
  | .hbm, ⟨31, _⟩ => ⟨S4x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S4x512, .f32⟩
  | .hbm, ⟨36, _⟩ => ⟨S4x512, .f32⟩
  | .hbm, ⟨37, _⟩ => ⟨S_, .f32⟩
  | .hbm, ⟨38, _⟩ => ⟨S4x512, .f32⟩
  | .hbm, ⟨39, _⟩ => ⟨S4x512, .f32⟩
  | .hbm, ⟨40, _⟩ => ⟨S4x512, .f32⟩
  | .hbm, ⟨41, _⟩ => ⟨S4x512, .f32⟩
  | .hbm, ⟨42, _⟩ => ⟨S4x512, .f32⟩
  | .hbm, ⟨43, _⟩ => ⟨S_, .f32⟩
  | .hbm, ⟨44, _⟩ => ⟨S4x512, .f32⟩
  | .hbm, ⟨45, _⟩ => ⟨S4x512, .f32⟩
  | .hbm, ⟨46, _⟩ => ⟨S_, .f32⟩
  | .hbm, ⟨47, _⟩ => ⟨S_, .f32⟩
  | .hbm, ⟨48, _⟩ => ⟨S4x512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S4x512, .f32⟩
  | .hbm, ⟨53, _⟩ => ⟨S4x512, .f32⟩
  | .hbm, ⟨54, _⟩ => ⟨S4x1x512, .f32⟩
  | .hbm, ⟨55, _⟩ => ⟨S4x1x512, .f32⟩
  | .hbm, ⟨56, _⟩ => ⟨S4x1x512, .f32⟩
  | .hbm, ⟨57, _⟩ => ⟨S4x1x512, .f32⟩
  | .hbm, ⟨58, _⟩ => ⟨S4x4x512, .f32⟩
  | .hbm, ⟨59, _⟩ => ⟨S_, .i32⟩
  | .hbm, ⟨60, _⟩ => ⟨S_, .f32⟩
  | .hbm, ⟨61, _⟩ => ⟨S4x8x512, .f32⟩
  | .hbm, ⟨62, _⟩ => ⟨S32x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_call0_cst : Ref sig .tc := ⟨.hbm, 29, rfl⟩
abbrev main_call0_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_call1_call0_cst : Ref sig .tc := ⟨.hbm, 46, rfl⟩
abbrev main_call1_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_call2_v0 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Rms.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mmout.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MmoutRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Mmdown.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S16384x2816, .bf16⟩
  | .hbm, ⟨5, _⟩ => ⟨S2816x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MmdownRefIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Adamw.lean ====
abbrev S1024x256 : Shape := ⟨2, ![1024, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Prod.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x5632, .bf16⟩
  | .hbm, ⟨4, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProdRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Wgrad.lean ====
abbrev S16384x1024 : Shape := ⟨2, ![16384, 1024]⟩
abbrev S1024x2816 : Shape := ⟨2, ![1024, 2816]⟩
abbrev S16384x2816 : Shape := ⟨2, ![16384, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x1024, .bf16⟩
  | .hbm, ⟨4, _⟩ => ⟨S16384x2816, .bf16⟩
  | .hbm, ⟨5, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x2816, .f32⟩
  | .hbm, ⟨4, _⟩ => ⟨S2816x1024, .f32⟩
  | .hbm, ⟨5, _⟩ => ⟨S1024x2816, .f32⟩
  | .hbm, ⟨6, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Slots.lean ====
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .bf16⟩
  | .hbm, ⟨2, _⟩ => ⟨S352x1024, .f32⟩
  | .local _ .vmem, ⟨0, _⟩ => ⟨S4x352x1024, .bf16⟩
  | .local _ .vmem, ⟨1, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SlotsRefIdeal.lean ====
abbrev S4x352x1024 : Shape := ⟨3, ![4, 352, 1024]⟩
abbrev S_ : Shape := ⟨0, ![]⟩
abbrev S352x1024 : Shape := ⟨2, ![352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S_, .f32⟩
  | .hbm, ⟨2, _⟩ => ⟨S352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Pair.lean ====
abbrev S1408x1024 : Shape := ⟨2, ![1408, 1024]⟩
abbrev S704x1024 : Shape := ⟨2, ![704, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .bf16⟩
  | .hbm, ⟨3, _⟩ => ⟨S1408x1024, .bf16⟩
  | .hbm, ⟨4, _⟩ => ⟨S1408x1024, .bf16⟩
  | .local _ .vmem, ⟨0, _⟩ => ⟨S704x1024, .bf16⟩
  | .local _ .vmem, ⟨1, _⟩ => ⟨S704x1024, .bf16⟩
  | .local _ .vmem, ⟨2, _⟩ => ⟨S704x1024, .bf16⟩
  | .local _ .vmem, ⟨3, _⟩ => ⟨S704x1024, .bf16⟩
  | .local _ .vmem, ⟨4, _⟩ => ⟨S704x1024, .bf16⟩
  | .local _ .vmem, ⟨5, _⟩ => ⟨S704x1024, .bf16⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairRefIdeal.lean ====
abbrev S1408x1024 : Shape := ⟨2, ![1408, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .bf16⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Common.lean ====
/-
  Scalar facts over the extended reals that the certificates share: the sigmoid written with a hyperbolic tangent, which
  the kernels use, is the sigmoid written with an exponential, which the references use; arithmetic on extended reals that
  are real numbers is arithmetic on those numbers.
-/
module

public import Idealize.ShloMosaic.Lib.Pointwise
public import Mathlib.Analysis.SpecialFunctions.Trigonometric.DerivHyp

@[expose] public section

noncomputable section

namespace Cert.Common

open Idealize.ShloMosaic

/-- The word 0x3F000000 is one half. -/
theorem ofBits_half : Ideal.ofBits .f32 0x3F000000#32 = ((1 / 2 : ℝ) : EReal) := by
  simp [Ideal.ofBits, Ideal.ieee, -EReal.coe_mul]
  norm_num

/-- Over the reals, `tanh (x / 2) / 2 + 1 / 2` is `1 / (1 + exp (-x))`. -/
theorem tanh_half (x : ℝ) : 1 / 2 * Real.tanh (1 / 2 * x) + 1 / 2 = (1 + Real.exp (-x))⁻¹ := by
  have hx : Real.exp (-x) = Real.exp (-(1 / 2 * x)) * Real.exp (-(1 / 2 * x)) := by rw [← Real.exp_add]; congr 1; ring
  have hp := Real.exp_pos (1 / 2 * x)
  have hm := Real.exp_pos (-(1 / 2 * x))
  have h1 : Real.exp (1 / 2 * x) * Real.exp (-(1 / 2 * x)) = 1 := by rw [← Real.exp_add]; simp
  rw [Real.tanh_eq_sinh_div_cosh, Real.sinh_eq, Real.cosh_eq, hx]
  generalize Real.exp (1 / 2 * x) = a at *
  generalize Real.exp (-(1 / 2 * x)) = b at *
  have : a + b ≠ 0 := by positivity
  have : 1 + b * b ≠ 0 := by positivity
  field_simp
  nlinarith

/-- The same over the extended reals, where both sides are 0 at -∞ and 1 at +∞. -/
theorem sigmoid_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [ofBits_half]
  show _ = Ideal.logistic x
  induction x with
  | bot =>
    rw [EReal.coe_mul_bot_of_pos (by norm_num), Ideal.tanh_bot, Ideal.logistic_bot, ← EReal.coe_one, ← EReal.coe_neg,
      ← EReal.coe_mul, ← EReal.coe_add]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, tanh_half]

/-! ## Finite arguments -/

/-- An extended real whose absolute value is below the word of plus infinity is a real number. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- So an array all of whose elements pass that test is an array of real numbers. -/
theorem reals_of_abs_lt {ι : Type} (x : ι → EReal)
    (h : (fun i => Ideal.cmp .olt (max (x i) (-(x i))) (Ideal.ofBits .f32 0x7F800000#32)) = fun _ => 1#1) :
    ∃ f : ι → ℝ, x = fun i => (f i : EReal) :=
  ⟨fun i => (real_of_abs_lt (x i) (congrFun h i)).choose, funext fun i => (real_of_abs_lt (x i) (congrFun h i)).choose_spec⟩

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x y : ℝ) (hy : y ≠ 0) : Ideal.div (x : EReal) (y : EReal) = ((x / y : ℝ) : EReal) := by
  rw [Ideal.div_coe hy, ← EReal.coe_mul, mul_one_div]

theorem rsqrt_real (x : ℝ) (hx : 0 < x) : Ideal.rsqrt (x : EReal) = (((Real.sqrt x)⁻¹ : ℝ) : EReal) := by
  rw [Ideal.rsqrt_coe, if_neg hx.le.not_gt, if_neg hx.ne']

/-- The word 0x44800000 is 1024. -/
theorem ofBits_1024 : Ideal.ofBits .f32 0x44800000#32 = ((1024 : ℝ) : EReal) := by
  simp [Ideal.ofBits, Ideal.ieee, -EReal.coe_mul]
  norm_num

/-- The word 0xBF000000 is minus one half. -/
theorem ofBits_neg_half : Ideal.ofBits .f32 0xBF000000#32 = ((-(1 / 2) : ℝ) : EReal) := by
  simp [Ideal.ofBits, Ideal.ieee, -EReal.coe_mul]
  norm_num

/-- The norms' epsilon, the number nearest one millionth. -/
def eps : ℝ := 8796093 / 2 ^ 43

theorem eps_pos : 0 < eps := by norm_num [eps]

theorem ofBits_eps : Ideal.ofBits .f32 0x358637BD#32 = (eps : EReal) := by
  simp [Ideal.ofBits, Ideal.ieee, -EReal.coe_mul, eps]
  norm_num

end Cert.Common

end
-- ==== Proof.PleValue.lean ====
/-
  The gate's gradient. The kernel walks the rows in blocks of 512 and writes, row by row, the cotangent of the gated product
  for both factors; here each of its two result arrays is shown to be the reference's term.
-/
module

public import proofs.«01_k».proof.Proof.Common
public import proofs.«01_k».proof.Proof.Gen.PleIdeal.Value
public import proofs.«01_k».proof.Proof.Gen.PleRefIdeal.Run
public import Idealize.ShloMosaic.Lib.Pipeline.ValueKit

@[expose] public section

set_option maxRecDepth 16384

noncomputable section

namespace Cert.PleRefIdeal.RefValue

open Cert.PleRefIdeal Cert.PleRefIdeal.Gen Idealize.ShloMosaic Idealize.ShloMosaic.TcCoe

/-- The gate of the reference: one over one plus the exponential of minus the pre-activation. -/
def gate (g : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf g)))

/-- The cotangent of the projection. -/
def dpu (g ct : FVec Ideal S16384x1024 .f32) : FVec Ideal S16384x1024 .bf16 :=
  truncf .bf16 (mulf (gate g) ct) bitsLt_bf16_f32

/-- The cotangent of the gate's pre-activation. -/
def dg (g : FVec Ideal S16384x1024 .f32) (p : FVec Ideal S16384x256 .f32) (w : FVec Ideal S256x1024 .f32)
    (ct : FVec Ideal S16384x1024 .f32) : FVec Ideal S16384x1024 .bf16 :=
  truncf .bf16 (mulf (mulf ct (Host.dotGeneral dot_S16384x256_S256x1024_S16384x1024_1_0_0_1_n_n none p w))
    (mulf (gate g) (subf (broadcastInDim S16384x1024 ![] bcast_S_S16384x1024 (constant S_ .f32 0x3F800000#32)) (gate g)))) bitsLt_bf16_f32

theorem gate_at (g : FVec Ideal S16384x1024 .f32) (r : Fin 16384) (l : Fin 1024) :
    gate g (ix2 r l) = Ideal.div 1 (1 + Ideal.exp (-(g (ix2 r l)))) := by
  pointwise [gate]

theorem dpu_at (g ct : FVec Ideal S16384x1024 .f32) (r : Fin 16384) (l : Fin 1024) :
    dpu g ct (ix2 r l) = Ideal.div 1 (1 + Ideal.exp (-(g (ix2 r l)))) * ct (ix2 r l) := by
  pointwise [dpu, gate_at]

theorem dg_at (g : FVec Ideal S16384x1024 .f32) (p : FVec Ideal S16384x256 .f32) (w : FVec Ideal S256x1024 .f32)
    (ct : FVec Ideal S16384x1024 .f32) (r : Fin 16384) (l : Fin 1024) :
    dg g p w ct (ix2 r l) = ct (ix2 r l) * (∑ k : Fin 256, p (ix2 r k) * w (ix2 k l))
      * (Ideal.div 1 (1 + Ideal.exp (-(g (ix2 r l)))) * (1 - Ideal.div 1 (1 + Ideal.exp (-(g (ix2 r l)))))) := by
  pointwise [dg, gate_at]

end Cert.PleRefIdeal.RefValue

namespace Cert.PleIdeal.RefValue

open Cert.PleIdeal Cert.PleIdeal.Gen Idealize.ShloMosaic Idealize.ShloMosaic.TcCoe Idealize.SL.Sem
open Idealize.ShloMosaic.Pipeline (Dat)

variable (m : (ℓ : Loc nD τ sig) → Buf (Elt Ideal) ℓ)

theorem gate_at (g : FVec Ideal S512x1024 .bf16) (r : Fin 512) (l : Fin 1024) :
    k0_pay1 (F := Ideal) g (ix2 r l) = Ideal.div 1 (1 + Ideal.exp (-(g (ix2 r l)))) := by
  rw [← Common.sigmoid_eq]
  pointwise [k0_pay1]

theorem dpu_at (d : FVec Ideal S512x1024 .f32) (g : FVec Ideal S512x1024 .bf16) (r : Fin 512) (l : Fin 1024) :
    k0_pay2 (F := Ideal) d g (ix2 r l) = d (ix2 r l) * Ideal.div 1 (1 + Ideal.exp (-(g (ix2 r l)))) := by
  pointwise [k0_pay2, gate_at]

theorem dg_at (d : FVec Ideal S512x1024 .f32) (g : FVec Ideal S512x1024 .bf16) (p : FVec Ideal S512x256 .f32)
    (w : FVec Ideal S256x1024 .bf16) (r : Fin 512) (l : Fin 1024) :
    k0_pay3 (F := Ideal) d g p w (ix2 r l) = d (ix2 r l) * (∑ k : Fin 256, p (ix2 r k) * w (ix2 k l))
      * Ideal.div 1 (1 + Ideal.exp (-(g (ix2 r l)))) * (1 - Ideal.div 1 (1 + Ideal.exp (-(g (ix2 r l))))) := by
  pointwise [k0_pay3, gate_at]

/-- Where each window's block lies: the row windows move with the grid point, the weight stays. -/
theorem idx (t : Fin cfg0.N) : win0_0.index t = ![t.val, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0]) t

/-- The first host value: the pre-activation, cast. -/
theorem V_v0 (c : Dev nD) : V m c main_v0 = truncf (F := Ideal) (s := S16384x1024) (φ := .f32) .bf16 (m ((c : Thread nD τ).loc main_arg0)) bitsLt_bf16_f32 := by
  entry_read
  rfl
theorem V_v1 (c : Dev nD) : V m c main_v1 = truncf (F := Ideal) (s := S256x1024) (φ := .f32) .bf16 (m ((c : Thread nD τ).loc main_arg2)) bitsLt_bf16_f32 := by
  entry_read
  rfl

/-- The kernel's first result is the cotangent of the projection. -/
theorem final4 (c : Dev nD) : (dats m 0 c).arrAt 4 cfg0.N
    = PleRefIdeal.RefValue.dpu (m ((c : Thread nD τ).loc main_arg0)) (m ((c : Thread nD τ).loc main_arg3)) := by
  refine (dats m 0 c).arrAt_eq_of_covers 4 _ (by decide +kernel) fun t hf y => ?_
  blk_simp
  rw [after0_4]; frame_out
  obtain ⟨r, l, rfl⟩ : ∃ (r : Fin 512) (l : Fin 1024), y = ix2 r l := ⟨y 0, y 1, eq_ix2 y⟩
  refine (dpu_at _ _ r l).trans ?_
  pointwise [PleRefIdeal.RefValue.dpu, PleRefIdeal.RefValue.gate]
  blk_point [iblk, V_v0, V_main_arg3, idx t]

/-- Its second result is the cotangent of the gate's pre-activation. -/
theorem final5 (c : Dev nD) : (dats m 0 c).arrAt 5 cfg0.N
    = PleRefIdeal.RefValue.dg (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]; frame_out
  obtain ⟨r, l, rfl⟩ : ∃ (r : Fin 512) (l : Fin 1024), y = ix2 r l := ⟨y 0, y 1, eq_ix2 y⟩
  refine (dg_at _ _ _ _ r l).trans ?_
  rw [mul_assoc]
  pointwise [PleRefIdeal.RefValue.dg, PleRefIdeal.RefValue.gate]
  blk_point [iblk, V_v0, V_v1, V_main_arg1, V_main_arg3, idx t]

end Cert.PleIdeal.RefValue

end
-- ==== Proof.Norm.lean ====
/-
  The gradient of the root-mean-square norm over the real numbers: what the kernels write, and the form the derivative of
  the reciprocal square root gives. Shared by the certificates of every call that ends in this gradient.
-/
module

public import proofs.«01_k».proof.Proof.Common
public import Idealize.ShloMosaic.Lib.Pipeline.ValueKit

@[expose] public section

noncomputable section

namespace Cert.Norm

open Idealize.ShloMosaic Cert.Common

variable {n : Type} [Fintype n]

/-- The mean square of a row of 1024, plus epsilon. -/
def ms (x : n → ℝ) : ℝ := (∑ j, x j * x j) / 1024 + eps

/-- The row's scale. -/
def rs (x : n → ℝ) : ℝ := (Real.sqrt (ms x))⁻¹

/-- The gradient at column `l` of a row `x` whose normalised row has the cotangent `d`. -/
def bwd (d x : n → ℝ) (l : n) : ℝ := rs x * (d l - x l * rs x * ((∑ j, d j * (x j * rs x)) / 1024))

theorem ms_pos (x : n → ℝ) : 0 < ms x :=
  add_pos_of_nonneg_of_pos (div_nonneg (Finset.sum_nonneg fun j _ => mul_self_nonneg (x j)) (by norm_num)) eps_pos

theorem rs_sq (x : n → ℝ) : rs x * rs x = 1 / ms x := by
  rw [rs, ← mul_inv, Real.mul_self_sqrt (ms_pos x).le, one_div]

/-- The mean square as the programs compute it. -/
theorem ms_at (x : n → ℝ) : Ideal.div (∑ j, (x j : EReal) * (x j : EReal)) (Ideal.ofBits .f32 0x44800000#32) + Ideal.ofBits .f32 0x358637BD#32 = (ms x : EReal) := by
  simp only [← EReal.coe_mul, ← coe_sum]
  rw [ofBits_1024, ofBits_eps, div_real _ _ (by norm_num), ← EReal.coe_add, ms]

theorem rs_at (x : n → ℝ) : Ideal.rsqrt (ms x : EReal) = (rs x : EReal) := by rw [rsqrt_real _ (ms_pos x), rs]

/-- The kernels' form. -/
theorem bwd_at (d x : n → ℝ) (l : n) :
    (rs x : EReal) * ((d l : EReal) - (x l : EReal) * (rs x : EReal) * Ideal.div (∑ j, (d j : EReal) * ((x j : EReal) * (rs x : EReal))) (Ideal.ofBits .f32 0x44800000#32))
      = (bwd d x l : EReal) := by
  simp only [← EReal.coe_mul, ← coe_sum, ofBits_1024]
  rw [div_real _ _ (by norm_num), ← EReal.coe_mul, ← EReal.coe_sub, ← EReal.coe_mul, bwd]

/-- The derivative's form: the scale's own derivative is minus one half of the scale over the mean square, and the mean
    square depends on the row twice. -/
theorem bwd_ref (d x : n → ℝ) (l : n) :
    (d l : EReal) * (rs x : EReal) + (x l : EReal) * Ideal.div ((∑ j, (x j : EReal) * (d j : EReal)) * (Ideal.ofBits .f32 0xBF000000#32 * Ideal.div (rs x : EReal) (ms x : EReal))) (Ideal.ofBits .f32 0x44800000#32)
        + Ideal.div ((∑ j, (x j : EReal) * (d j : EReal)) * (Ideal.ofBits .f32 0xBF000000#32 * Ideal.div (rs x : EReal) (ms x : EReal))) (Ideal.ofBits .f32 0x44800000#32) * (x l : EReal)
      = (bwd d x l : EReal) := by
  simp only [← EReal.coe_mul, ← coe_sum, ofBits_1024, ofBits_neg_half, div_real _ _ (ms_pos x).ne']
  rw [div_real _ _ (by norm_num)]
  simp only [← EReal.coe_mul, ← EReal.coe_add]
  congr 1
  have h : ∑ j, d j * (x j * rs x) = (∑ j, x j * d j) * rs x := by
    rw [Finset.sum_mul]; exact Finset.sum_congr rfl fun j _ => by ring
  rw [bwd, h, div_eq_mul_one_div (rs x) (ms x), ← rs_sq]
  ring

/-- What the derivative gives at one element, in the references' own words: `D` is the cotangent that passes by the norm,
    `E` the cotangent of the normalised row. -/
theorem ref_form (d x : n → ℝ) (E : n → EReal) (hE : ∀ j, E j = (d j : EReal)) (D : EReal) (l : n) :
    D + E l * Ideal.rsqrt (Ideal.div (∑ j, (x j : EReal) * (x j : EReal)) (Ideal.ofBits .f32 0x44800000#32) + Ideal.ofBits .f32 0x358637BD#32)
        + (x l : EReal) * (∑ _i : Fin 1, Ideal.div ((∑ j, (x j : EReal) * E j) * (Ideal.ofBits .f32 0xBF000000#32
            * Ideal.div (Ideal.rsqrt (Ideal.div (∑ j, (x j : EReal) * (x j : EReal)) (Ideal.ofBits .f32 0x44800000#32) + Ideal.ofBits .f32 0x358637BD#32))
                (Ideal.div (∑ j, (x j : EReal) * (x j : EReal)) (Ideal.ofBits .f32 0x44800000#32) + Ideal.ofBits .f32 0x358637BD#32))) (Ideal.ofBits .f32 0x44800000#32))
        + (∑ _i : Fin 1, Ideal.div ((∑ j, (x j : EReal) * E j) * (Ideal.ofBits .f32 0xBF000000#32
            * Ideal.div (Ideal.rsqrt (Ideal.div (∑ j, (x j : EReal) * (x j : EReal)) (Ideal.ofBits .f32 0x44800000#32) + Ideal.ofBits .f32 0x358637BD#32))
                (Ideal.div (∑ j, (x j : EReal) * (x j : EReal)) (Ideal.ofBits .f32 0x44800000#32) + Ideal.ofBits .f32 0x358637BD#32))) (Ideal.ofBits .f32 0x44800000#32)) * (x l : EReal)
      = D + (bwd d x l : EReal) := by
  rw [← bwd_ref d x l]
  simp only [ms_at, rs_at, hE, Finset.univ_unique, Finset.sum_const, Finset.card_singleton, one_smul, add_assoc]

/-- The same element in the kernels' words. -/
theorem ker_form (d x : n → ℝ) (E : n → EReal) (hE : ∀ j, E j = (d j : EReal)) (D : EReal) (l : n) :
    D + Ideal.rsqrt (Ideal.div (∑ j, (x j : EReal) * (x j : EReal)) (Ideal.ofBits .f32 0x44800000#32) + Ideal.ofBits .f32 0x358637BD#32)
        * (E l - (x l : EReal) * Ideal.rsqrt (Ideal.div (∑ j, (x j : EReal) * (x j : EReal)) (Ideal.ofBits .f32 0x44800000#32) + Ideal.ofBits .f32 0x358637BD#32)
          * Ideal.div (∑ j, E j * ((x j : EReal) * Ideal.rsqrt (Ideal.div (∑ j, (x j : EReal) * (x j : EReal)) (Ideal.ofBits .f32 0x44800000#32) + Ideal.ofBits .f32 0x358637BD#32))) (Ideal.ofBits .f32 0x44800000#32))
      = D + (bwd d x l : EReal) := by
  rw [← bwd_at d x l]
  simp only [ms_at, rs_at, hE]

/-- The rows of all blocks of equal height are the array's rows. -/
theorem rows_sum {M : Type} [AddCommMonoid M] (a b : ℕ) {N : ℕ} (hN : N = a * b) (f : Fin N → M) (h : ∀ (s : Fin a) (k : Fin b), s.val * b + k.val < N) :
    ∑ s : Fin a, ∑ k : Fin b, f ⟨s.val * b + k.val, h s k⟩ = ∑ r : Fin N, f r :=
  Fin.sum_mul_add_congr (fun _ _ _ => rfl) hN

end Cert.Norm

end
-- ==== Proof.Stores.lean ====
/-
  Reading back a buffer some of whose rows were stored into last: a stored row reads the payload, another row what was there
  before. Shared by the certificates of the calls that add one row at a time into a block of eight.
-/
module

public import Idealize.ShloMosaic.Lib.Pipeline.ValueKit
public import Idealize.ShloMosaic.Lib.WritesUnit
public import Idealize.ShloMosaic.Lib.Pipeline.ReadBack

@[expose] public section

namespace Cert.Stores

open Idealize.ShloMosaic

variable {Val : EltTy → Type} [∀ e, Nonempty (Val e)] {e : EltTy} {a n k : ℕ}

/-- The place of column `l` of row `r` of the stored rows. -/
theorem emb_row {o : ℕ} (inb : ∀ i, (![o, 0] : Fin 2 → ℕ) i + (![k, n] : Fin 2 → ℕ) i ≤ (⟨2, ![a, n]⟩ : Shape).size i)
    (r : Fin a) (q : Fin k) (l : Fin n) (h : r.val = o + q.val) :
    (Rect.unit (s := ⟨2, ![a, n]⟩) ![o, 0] ![k, n] inb).emb (ix2 q l) = ix2 r l := by
  funext i
  refine Fin.ext ?_
  refine Fin.cases ?_ (fun i => Fin.cases ?_ (fun i => i.elim0) i) i
  · show o + 1 * q.val = r.val
    omega
  · show 0 + 1 * l.val = l.val
    omega

theorem not_mem_row {o : ℕ} (inb : ∀ i, (![o, 0] : Fin 2 → ℕ) i + (![k, n] : Fin 2 → ℕ) i ≤ (⟨2, ![a, n]⟩ : Shape).size i)
    (r : Fin a) (l : Fin n) (h : r.val < o ∨ o + k ≤ r.val) :
    (ix2 r l : (⟨2, ![a, n]⟩ : Shape).Idx) ∉ (Rect.unit (s := ⟨2, ![a, n]⟩) ![o, 0] ![k, n] inb).set := by
  rw [Rect.mem_set_unit]
  intro hall
  have h0 : o ≤ r.val ∧ r.val < o + k := hall 0
  omega

/-- A buffer known by its stores, read on the rows stored last. -/
theorem canon_row {o : ℕ} (inb : ∀ i, (![o, 0] : Fin 2 → ℕ) i + (![k, n] : Fin 2 → ℕ) i ≤ (⟨2, ![a, n]⟩ : Shape).size i)
    (w : (Rect.unit (s := ⟨2, ![a, n]⟩) ![o, 0] ![k, n] inb).shape.Idx → Val e) (L : List (View.Piece Val (⟨2, ![a, n]⟩ : Shape) e))
    (r : Fin a) (q : Fin k) (l : Fin n) (h : r.val = o + q.val) :
    View.canon (⟨Rect.unit (s := ⟨2, ![a, n]⟩) ![o, 0] ![k, n] inb, w⟩ :: L) (ix2 r l) = w (ix2 q l) := by
  rw [← emb_row inb r q l h]
  exact View.canon_cons_emb _ w L _

/-- And on another row. -/
theorem canon_other {o : ℕ} (inb : ∀ i, (![o, 0] : Fin 2 → ℕ) i + (![k, n] : Fin 2 → ℕ) i ≤ (⟨2, ![a, n]⟩ : Shape).size i)
    (w : (Rect.unit (s := ⟨2, ![a, n]⟩) ![o, 0] ![k, n] inb).shape.Idx → Val e) (L : List (View.Piece Val (⟨2, ![a, n]⟩ : Shape) e))
    (r : Fin a) (l : Fin n) (h : r.val < o ∨ o + k ≤ r.val) :
    View.canon (⟨Rect.unit (s := ⟨2, ![a, n]⟩) ![o, 0] ![k, n] inb, w⟩ :: L) (ix2 r l) = View.canon L (ix2 r l) :=
  View.canon_cons_of_not_mem _ L (not_mem_row inb r l h)

/-- A rectangle of rows `o…` and columns `p…`. -/
theorem emb_block {o p w : ℕ} (inb : ∀ i, (![o, p] : Fin 2 → ℕ) i + (![k, w] : Fin 2 → ℕ) i ≤ (⟨2, ![a, n]⟩ : Shape).size i)
    (r : Fin a) (l : Fin n) (q : Fin k) (j : Fin w) (h : r.val = o + q.val) (h' : l.val = p + j.val) :
    (Rect.unit (s := ⟨2, ![a, n]⟩) ![o, p] ![k, w] inb).emb (ix2 q j) = ix2 r l := by
  funext i
  refine Fin.ext ?_
  refine Fin.cases ?_ (fun i => Fin.cases ?_ (fun i => i.elim0) i) i
  · show o + 1 * q.val = r.val
    omega
  · show p + 1 * j.val = l.val
    omega

theorem canon_block {o p w : ℕ} (inb : ∀ i, (![o, p] : Fin 2 → ℕ) i + (![k, w] : Fin 2 → ℕ) i ≤ (⟨2, ![a, n]⟩ : Shape).size i)
    (x : (Rect.unit (s := ⟨2, ![a, n]⟩) ![o, p] ![k, w] inb).shape.Idx → Val e) (L : List (View.Piece Val (⟨2, ![a, n]⟩ : Shape) e))
    (r : Fin a) (l : Fin n) (q : Fin k) (j : Fin w) (h : r.val = o + q.val) (h' : l.val = p + j.val) :
    View.canon (⟨Rect.unit (s := ⟨2, ![a, n]⟩) ![o, p] ![k, w] inb, x⟩ :: L) (ix2 r l) = x (ix2 q j) := by
  rw [← emb_block inb r l q j h h']
  exact View.canon_cons_emb _ x L _

theorem canon_beside {o p w : ℕ} (inb : ∀ i, (![o, p] : Fin 2 → ℕ) i + (![k, w] : Fin 2 → ℕ) i ≤ (⟨2, ![a, n]⟩ : Shape).size i)
    (x : (Rect.unit (s := ⟨2, ![a, n]⟩) ![o, p] ![k, w] inb).shape.Idx → Val e) (L : List (View.Piece Val (⟨2, ![a, n]⟩ : Shape) e))
    (r : Fin a) (l : Fin n) (h : (r.val < o ∨ o + k ≤ r.val) ∨ l.val < p ∨ p + w ≤ l.val) :
    View.canon (⟨Rect.unit (s := ⟨2, ![a, n]⟩) ![o, p] ![k, w] inb, x⟩ :: L) (ix2 r l) = View.canon L (ix2 r l) := by
  refine View.canon_cons_of_not_mem _ L fun hm => ?_
  rw [Rect.mem_set_unit] at hm
  have h0 : o ≤ r.val ∧ r.val < o + k := hm 0
  have h1 : p ≤ l.val ∧ l.val < p + w := hm 1
  omega

/-- A load of some rows. -/
theorem ld_row {o : ℕ} (inb : ∀ i, (![o, 0] : Fin 2 → ℕ) i + (![k, n] : Fin 2 → ℕ) i ≤ (⟨2, ![a, n]⟩ : Shape).size i)
    (X : (⟨2, ![a, n]⟩ : Shape).Idx → Val e) (r : Fin a) (q : Fin k) (l : Fin n) (h : r.val = o + q.val) :
    View.ld X (Rect.unit (s := ⟨2, ![a, n]⟩) ![o, 0] ![k, n] inb) (ix2 q l) = X (ix2 r l) := by
  rw [← emb_row inb r q l h]
  rfl

variable {sig : RefSig} {κ : Kind} {sp : Space} (v : View sig κ sp (⟨2, ![a, n]⟩ : Shape) e) (f : v.ty.Contents Val)

/-- A buffer that held something before, read on the rows stored last. -/
theorem read_row {o : ℕ} (inb : ∀ i, (![o, 0] : Fin 2 → ℕ) i + (![k, n] : Fin 2 → ℕ) i ≤ (⟨2, ![a, n]⟩ : Shape).size i)
    (w : (Rect.unit (s := ⟨2, ![a, n]⟩) ![o, 0] ![k, n] inb).shape.Idx → Val e) (L : List (View.Piece Val (⟨2, ![a, n]⟩ : Shape) e))
    (r : Fin a) (q : Fin k) (l : Fin n) (h : r.val = o + q.val) :
    v.read Val (v.writes Val f (⟨Rect.unit (s := ⟨2, ![a, n]⟩) ![o, 0] ![k, n] inb, w⟩ :: L)) (ix2 r l) = w (ix2 q l) :=
  View.read_writes_cons_rows_of_mem v f inb w L (ix2 r l) (ix2 q l) rfl h rfl

/-- And on another row. -/
theorem read_other {o : ℕ} (inb : ∀ i, (![o, 0] : Fin 2 → ℕ) i + (![k, n] : Fin 2 → ℕ) i ≤ (⟨2, ![a, n]⟩ : Shape).size i)
    (w : (Rect.unit (s := ⟨2, ![a, n]⟩) ![o, 0] ![k, n] inb).shape.Idx → Val e) (L : List (View.Piece Val (⟨2, ![a, n]⟩ : Shape) e))
    (r : Fin a) (l : Fin n) (h : r.val < o ∨ o + k ≤ r.val) :
    v.read Val (v.writes Val f (⟨Rect.unit (s := ⟨2, ![a, n]⟩) ![o, 0] ![k, n] inb, w⟩ :: L)) (ix2 r l) = v.read Val (v.writes Val f L) (ix2 r l) :=
  View.read_writes_cons_rows_of_not_mem v f inb w L (ix2 r l) rfl rfl h

/-- The first row stored, then read: one case each. -/
theorem canon_first (inb : ∀ i, (![0, 0] : Fin 2 → ℕ) i + (![1, n] : Fin 2 → ℕ) i ≤ (⟨2, ![a, n]⟩ : Shape).size i)
    (w : (Rect.unit (s := ⟨2, ![a, n]⟩) ![0, 0] ![1, n] inb).shape.Idx → Val e) (L : List (View.Piece Val (⟨2, ![a, n]⟩ : Shape) e)) (r : Fin a) (l : Fin n) :
    View.canon (⟨Rect.unit (s := ⟨2, ![a, n]⟩) ![0, 0] ![1, n] inb, w⟩ :: L) (ix2 r l) = if r.val = 0 then w (ix2 (0 : Fin 1) l) else View.canon L (ix2 r l) := by
  by_cases h : r.val = 0
  · rw [if_pos h, canon_row inb w L r 0 l (by simpa using h)]
  · rw [if_neg h, canon_other inb w L r l (by omega)]

theorem read_first (inb : ∀ i, (![0, 0] : Fin 2 → ℕ) i + (![1, n] : Fin 2 → ℕ) i ≤ (⟨2, ![a, n]⟩ : Shape).size i)
    (w : (Rect.unit (s := ⟨2, ![a, n]⟩) ![0, 0] ![1, n] inb).shape.Idx → Val e) (L : List (View.Piece Val (⟨2, ![a, n]⟩ : Shape) e)) (r : Fin a) (l : Fin n) :
    v.read Val (v.writes Val f (⟨Rect.unit (s := ⟨2, ![a, n]⟩) ![0, 0] ![1, n] inb, w⟩ :: L)) (ix2 r l)
      = if r.val = 0 then w (ix2 (0 : Fin 1) l) else v.read Val (v.writes Val f L) (ix2 r l) := by
  by_cases h : r.val = 0
  · rw [if_pos h, read_row v f inb w L r 0 l (by simpa using h)]
  · rw [if_neg h, read_other v f inb w L r l (by omega)]

/-- One element stored in the first corner. -/
theorem emb_corner (inb : ∀ i, (![0, 0] : Fin 2 → ℕ) i + (![1, 1] : Fin 2 → ℕ) i ≤ (⟨2, ![a, n]⟩ : Shape).size i)
    (r : Fin a) (l : Fin n) (h : r.val = 0 ∧ l.val = 0) :
    (Rect.unit (s := ⟨2, ![a, n]⟩) ![0, 0] ![1, 1] inb).emb (ix2 (0 : Fin 1) (0 : Fin 1)) = ix2 r l := by
  funext i
  refine Fin.ext ?_
  refine Fin.cases ?_ (fun i => Fin.cases ?_ (fun i => i.elim0) i) i
  · exact h.1.symm
  · exact h.2.symm

theorem not_mem_corner (inb : ∀ i, (![0, 0] : Fin 2 → ℕ) i + (![1, 1] : Fin 2 → ℕ) i ≤ (⟨2, ![a, n]⟩ : Shape).size i)
    (r : Fin a) (l : Fin n) (h : ¬ (r.val = 0 ∧ l.val = 0)) :
    (ix2 r l : (⟨2, ![a, n]⟩ : Shape).Idx) ∉ (Rect.unit (s := ⟨2, ![a, n]⟩) ![0, 0] ![1, 1] inb).set := by
  rw [Rect.mem_set_unit]
  intro hall
  have h0 : 0 ≤ r.val ∧ r.val < 0 + 1 := hall 0
  have h1 : 0 ≤ l.val ∧ l.val < 0 + 1 := hall 1
  omega

theorem canon_corner (inb : ∀ i, (![0, 0] : Fin 2 → ℕ) i + (![1, 1] : Fin 2 → ℕ) i ≤ (⟨2, ![a, n]⟩ : Shape).size i)
    (w : (Rect.unit (s := ⟨2, ![a, n]⟩) ![0, 0] ![1, 1] inb).shape.Idx → Val e) (L : List (View.Piece Val (⟨2, ![a, n]⟩ : Shape) e)) (r : Fin a) (l : Fin n) :
    View.canon (⟨Rect.unit (s := ⟨2, ![a, n]⟩) ![0, 0] ![1, 1] inb, w⟩ :: L) (ix2 r l)
      = if r.val = 0 ∧ l.val = 0 then w (ix2 (0 : Fin 1) (0 : Fin 1)) else View.canon L (ix2 r l) := by
  by_cases h : r.val = 0 ∧ l.val = 0
  · rw [if_pos h, ← emb_corner inb r l h]
    exact View.canon_cons_emb _ w L _
  · rw [if_neg h]
    exact View.canon_cons_of_not_mem _ L (not_mem_corner inb r l h)

theorem read_corner (inb : ∀ i, (![0, 0] : Fin 2 → ℕ) i + (![1, 1] : Fin 2 → ℕ) i ≤ (⟨2, ![a, n]⟩ : Shape).size i)
    (w : (Rect.unit (s := ⟨2, ![a, n]⟩) ![0, 0] ![1, 1] inb).shape.Idx → Val e) (L : List (View.Piece Val (⟨2, ![a, n]⟩ : Shape) e)) (r : Fin a) (l : Fin n) :
    v.read Val (v.writes Val f (⟨Rect.unit (s := ⟨2, ![a, n]⟩) ![0, 0] ![1, 1] inb, w⟩ :: L)) (ix2 r l)
      = if r.val = 0 ∧ l.val = 0 then w (ix2 (0 : Fin 1) (0 : Fin 1)) else v.read Val (v.writes Val f L) (ix2 r l) := by
  by_cases h : r.val = 0 ∧ l.val = 0
  · rw [if_pos h]
    refine View.read_writes_cons_unit_of_mem v f inb w L (ix2 r l) (ix2 (0 : Fin 1) (0 : Fin 1)) rfl fun i => ?_
    refine Fin.cases ?_ (fun i => Fin.cases ?_ (fun i => i.elim0) i) i
    · exact h.1
    · exact h.2
  · rw [if_neg h]
    by_cases h0 : r.val = 0
    · exact View.read_writes_cons_unit_of_not_mem v f inb w L (ix2 r l) rfl 1 (Or.inr (show 0 + 1 ≤ l.val by omega))
    · exact View.read_writes_cons_unit_of_not_mem v f inb w L (ix2 r l) rfl 0 (Or.inr (show 0 + 1 ≤ r.val by omega))

/-- A whole buffer holding `X` reads `X`. -/
theorem read_unread {sh : Shape} {M : Memref sig κ sp sh e} (hM : M.IsWhole) (X : sh.Idx → Val e) : M.view.read Val (hM.unread X) = X :=
  hM.read_unread X

end Cert.Stores
-- ==== Proof.MmgateValue.lean ====
/- The gradient through a norm fused with the product by the transposed gate weight: what the kernel leaves and what the reference's
   vector-Jacobian product gives, both brought to one formula over the reals.
-/
module

public import proofs.«01_k».proof.Proof.Norm
public import proofs.«01_k».proof.Proof.Stores
public import proofs.«01_k».proof.Proof.Gen.MmgateIdeal.Value
public import proofs.«01_k».proof.Proof.Gen.MmgateRefIdeal.Run
public import Idealize.ShloMosaic.Lib.Pipeline.ValueKit

@[expose] public section

set_option maxRecDepth 16384

noncomputable section

namespace Cert.MmgateRefIdeal.RefValue

open Cert.MmgateRefIdeal Cert.MmgateRefIdeal.Gen Cert.MmgateRefIdeal.Value Idealize.ShloMosaic Idealize.ShloMosaic.TcCoe

variable (m : (ℓ : Loc nD τ sig) → Buf (Elt Ideal) ℓ) (c : Dev nD)

/-- The cotangent of the normalised row: the product with the weight, times the norm's own weight. -/
def cot (G : S1024.Idx → ℝ) (W : S1024x1024.Idx → ℝ) (Z : S16384x1024.Idx → ℝ) (r : Fin 16384) (j : Fin 1024) : ℝ :=
  (∑ k : Fin 1024, Z (ix2 r k) * W (ix2 j k)) * G (ix1 j)

/-- The gradient of the residual stream, over the reals. -/
def dh (X : S16384x1024.Idx → ℝ) (G : S1024.Idx → ℝ) (W : S1024x1024.Idx → ℝ) (Z : S16384x1024.Idx → ℝ)
    (D : FVec Ideal S16384x1024 .f32) : FVec Ideal S16384x1024 .f32 :=
  fun i => D i + ((Norm.bwd (cot G W Z (i 0)) (fun j : Fin 1024 => X (ix2 (i 0) j)) (i 1) : ℝ) : EReal)

/-- The product with the weight, in real numbers. -/
theorem cot_coe (G : S1024.Idx → ℝ) (W : S1024x1024.Idx → ℝ) (Z : S16384x1024.Idx → ℝ) (r : Fin 16384) (j : Fin 1024) :
    (∑ k : Fin 1024, (Z (ix2 r k) : EReal) * (W (ix2 j k) : EReal)) * (G (ix1 j) : EReal) = (cot G W Z r j : EReal) := by
  simp only [← EReal.coe_mul, ← Common.coe_sum, cot]

theorem res0 (X : S16384x1024.Idx → ℝ) (G : S1024.Idx → ℝ) (W : S1024x1024.Idx → ℝ) (Z : S16384x1024.Idx → ℝ) (D : FVec Ideal S16384x1024 .f32)
    (hx : m ((c : Thread nD τ).loc main_arg0) = fun i => ((X i : ℝ) : EReal))
    (hg : m ((c : Thread nD τ).loc main_arg1) = fun i => ((G i : ℝ) : EReal))
    (hw : m ((c : Thread nD τ).loc main_arg2) = fun i => ((W i : ℝ) : EReal))
    (hz : m ((c : Thread nD τ).loc main_arg3) = fun i => ((Z i : ℝ) : EReal)) (hd : m ((c : Thread nD τ).loc main_arg4) = D) :
    res_main_v38 m c = dh X G W Z D := by
  funext y
  obtain ⟨r, l, rfl⟩ : ∃ (r : Fin 16384) (l : Fin 1024), y = ix2 r l := ⟨y 0, y 1, eq_ix2 y⟩
  pointwise [res_main_v38, hx, hg, hw, hz, hd]
  exact Norm.ref_form (cot G W Z r) (fun j : Fin 1024 => X (ix2 r j)) _ (cot_coe G W Z r) _ l

/-- One row's term of the gradient of the norm's weight. -/
def prod (x : FVec Ideal S16384x1024 .f32) (w : FVec Ideal S1024x1024 .f32) (z : FVec Ideal S16384x1024 .f32) (r : Fin 16384) (l : Fin 1024) : EReal :=
  (∑ k : Fin 1024, z (ix2 r k) * w (ix2 l k)) * (x (ix2 r l)
    * Ideal.rsqrt (Ideal.div (∑ j : Fin 1024, x (ix2 r j) * x (ix2 r j)) (Ideal.ofBits .f32 0x44800000#32) + Ideal.ofBits .f32 0x358637BD#32))

/-- The gradient of the norm's weight, in the first of eight rows. -/
def dg (x : FVec Ideal S16384x1024 .f32) (w : FVec Ideal S1024x1024 .f32) (z : FVec Ideal S16384x1024 .f32) : FVec Ideal S8x1024 .f32 :=
  fun i => if (i 0).val = 0 then ∑ r : Fin 16384, prod x w z r (i 1) else 0

theorem res2 (x : FVec Ideal S16384x1024 .f32) (w : FVec Ideal S1024x1024 .f32) (z : FVec Ideal S16384x1024 .f32) :
    pad S8x1024 ![0, 0] ![7, 0] ![0, 0] (broadcastInDim S1x1024 ![1] bcast_S1024_S1x1024_1 (Host.reduceAdd (shapeCast _ (Host.reduceAdd (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (Host.dotGeneral dot_S16384x1024_S1024x1024_S16384x1024_1_1_0_0_n_n none z w)) (constant S_ .f32 0x00000000#32) reducesTo_S16384x1024_S1024_d0 h_S_) shapeCasts_S1024_S1x1024) (constant S_ .f32 0x00000000#32) reducesTo_S1x1024_S1024_d0 h_S_)) (sitofp .f32 (constantI S_ 32 0#32)) pads_S1x1024_S8x1024_070_000 h_S_
      = dg x w z := by
  funext y
  obtain ⟨r, l, rfl⟩ : ∃ (r : Fin 8) (l : Fin 1024), y = ix2 r l := ⟨y 0, y 1, eq_ix2 y⟩
  pointwise [dg, prod]
  by_cases hr : r.val = 0
  · rw [if_pos hr, dif_pos (by omega), Fin.sum_univ_one]
    exact Finset.sum_congr rfl fun R _ => mul_comm _ _
  · rw [if_neg hr, dif_neg (by omega)]
    simp [FloatOps.sitofp]

end Cert.MmgateRefIdeal.RefValue

namespace Cert.MmgateIdeal.RefValue

open Cert.MmgateIdeal Cert.MmgateIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: rows move with the grid point, weights and the norm's sum stay. -/
theorem idx (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0]) t

theorem V_v0 (c : Dev nD) : V m c main_v0 = truncf (F := Ideal) (s := S16384x1024) (φ := .f32) .bf16 (m ((c : Thread nD τ).loc main_arg3)) bitsLt_bf16_f32 := by
  entry_read
  rfl
theorem V_v1 (c : Dev nD) : V m c main_v1 = truncf (F := Ideal) (s := S1024x1024) (φ := .f32) .bf16 (m ((c : Thread nD τ).loc main_arg2)) bitsLt_bf16_f32 := by
  entry_read
  rfl
theorem V_v2 (c : Dev nD) (z : Fin 1) (l : Fin 1024) : V m c main_v2 (ix2 z l) = m ((c : Thread nD τ).loc main_arg1) (ix1 l) := by
  entry_read
  pointwise []

/-- One element of a block: every read already a real number. -/
theorem dx_at (z : FVec Ideal S1024x1024 .bf16) (w : FVec Ideal S1024x1024 .bf16) (x : FVec Ideal S1024x1024 .f32) (g : FVec Ideal S1x1024 .f32)
    (D : FVec Ideal S1024x1024 .f32) (r l : Fin 1024) (d X : Fin 1024 → ℝ) (hx : ∀ j, x (ix2 r j) = (X j : EReal))
    (hd : ∀ j, (∑ k : Fin 1024, z (ix2 r k) * w (ix2 j k)) * g (ix2 0 j) = (d j : EReal)) :
    k0_pay2 (F := Ideal) (k0_pay8 z w x g) D (ix2 r l) = D (ix2 r l) + (Norm.bwd d X l : EReal) := by
  pointwise [k0_pay2, k0_pay8, k0_pay7, k0_pay6, k0_pay4, hx]
  exact Norm.ker_form d X _ hd _ l

variable (X : S16384x1024.Idx → ℝ) (G : S1024.Idx → ℝ) (W : S1024x1024.Idx → ℝ) (Z : S16384x1024.Idx → ℝ)

theorem row_lt (t : Fin cfg0.N) (r : Fin 1024) : t.val * 1024 + r.val < 16384 := by
  have h : t.val < 16 := t.isLt
  omega

/-- The array row of row `r` of block `t`. -/
abbrev row (t : Fin cfg0.N) (r : Fin 1024) : Fin 16384 := ⟨t.val * 1024 + r.val, row_lt t r⟩

theorem rd0 (c : Dev nD) (t : Fin cfg0.N) (r k : Fin 1024) : iblk m c 0 t (ix2 r k) = m ((c : Thread nD τ).loc main_arg3) (ix2 (row t r) k) := by
  blk_point [iblk, V_v0, idx t]
theorem rd1 (c : Dev nD) (t : Fin cfg0.N) (r k : Fin 1024) : iblk m c 1 t (ix2 r k) = m ((c : Thread nD τ).loc main_arg2) (ix2 r k) := by
  blk_point [iblk, V_v1, idx t]
theorem rd2 (c : Dev nD) (t : Fin cfg0.N) (r k : Fin 1024) : iblk m c 2 t (ix2 r k) = m ((c : Thread nD τ).loc main_arg0) (ix2 (row t r) k) := by
  blk_point [iblk, V_main_arg0, idx t]
theorem rd3 (c : Dev nD) (t : Fin cfg0.N) (k : Fin 1024) : iblk m c 3 t (ix2 0 k) = m ((c : Thread nD τ).loc main_arg1) (ix1 k) := by
  rw [← V_v2 m c 0]
  blk_point [iblk, idx t]
theorem rd4 (c : Dev nD) (t : Fin cfg0.N) (r k : Fin 1024) : iblk m c 4 t (ix2 r k) = m ((c : Thread nD τ).loc main_arg4) (ix2 (row t r) k) := by
  blk_point [iblk, V_main_arg4, idx t]

section
variable (c : Dev nD)
  (hx : m ((c : Thread nD τ).loc main_arg0) = fun i => ((X i : ℝ) : EReal))
  (hg : m ((c : Thread nD τ).loc main_arg1) = fun i => ((G i : ℝ) : EReal))
  (hw : m ((c : Thread nD τ).loc main_arg2) = fun i => ((W i : ℝ) : EReal))
  (hz : m ((c : Thread nD τ).loc main_arg3) = fun i => ((Z i : ℝ) : EReal))
include hx hg hw hz

/-- What a point leaves in the gradient's block. -/
theorem blk_at (t : Fin cfg0.N) (r l : Fin 1024) :
    k0_pay2 (F := Ideal) (k0_pay8 (iblk m c 0 t) (iblk m c 1 t) (iblk m c 2 t) (iblk m c 3 t)) (iblk m c 4 t) (ix2 r l)
      = MmgateRefIdeal.RefValue.dh X G W Z (m ((c : Thread nD τ).loc main_arg4)) (ix2 (row t r) l) := by
  refine (dx_at _ _ _ _ _ r l (MmgateRefIdeal.RefValue.cot G W Z (row t r)) (fun j : Fin 1024 => X (ix2 (row t r) j)) (fun j => ?_) (fun j => ?_)).trans ?_
  · rw [rd2, hx]
  · rw [← MmgateRefIdeal.RefValue.cot_coe]
    simp only [rd0, rd1, rd3, hg, hw, hz]
  · rw [rd4]; rfl

theorem final5 : (dats m 0 c).arrAt 5 cfg0.N = MmgateRefIdeal.RefValue.dh X G W Z (m ((c : Thread nD τ).loc main_arg4)) := by
  refine (dats m 0 c).arrAt_eq_of_covers 5 _ (by decide +kernel) fun t hf y => ?_
  blk_simp
  obtain ⟨r, l, rfl⟩ : ∃ (r : Fin 1024) (l : Fin 1024), y = ix2 r l := ⟨y 0, y 1, eq_ix2 y⟩
  rw [after0_5]
  by_cases h : t.val % 16 = 0
  all_goals
    first | rw [outsAt0_A m c t h] | rw [outsAt0_B m c t h]
    frame_out
    refine (blk_at m X G W Z c hx hg hw hz t r l).trans ?_
    blk_ext [idx t]

/-- Its copy, cast. -/
theorem final6 : (dats m 0 c).arrAt 6 cfg0.N = MmgateRefIdeal.RefValue.dh X G W Z (m ((c : Thread nD τ).loc main_arg4)) := by
  refine (dats m 0 c).arrAt_eq_of_covers 6 _ (by decide +kernel) fun t hf y => ?_
  blk_simp
  obtain ⟨r, l, rfl⟩ : ∃ (r : Fin 1024) (l : Fin 1024), y = ix2 r l := ⟨y 0, y 1, eq_ix2 y⟩
  rw [after0_6]
  by_cases h : t.val % 16 = 0
  all_goals
    first | rw [outsAt0_A m c t h] | rw [outsAt0_B m c t h]
    frame_out
    refine (blk_at m X G W Z c hx hg hw hz t r l).trans ?_
    blk_ext [idx t]

end

/-- A block's contribution to the gradient of the norm's weight: its rows' products, in row 0. -/
def part (c : Dev nD) (t : Fin cfg0.N) : S8x1024.Idx → EReal :=
  fun j => if (j 0).val = 0 then k0_pay9 (F := Ideal) (iblk m c 0 t) (iblk m c 1 t) (iblk m c 2 t) (ix2 0 (j 1)) else 0

theorem stepA (c : Dev nD) (t : Fin cfg0.N) (h : t.val % 16 = 0) (j : S8x1024.Idx) : (outsAt0 m c t.val t.isLt).2.2 j = (0 : EReal) + part m c t j := by
  rw [outsAt0_A m c t h]; frame_out
  obtain ⟨r, l, rfl⟩ : ∃ (r : Fin 8) (l : Fin 1024), j = ix2 r l := ⟨j 0, j 1, eq_ix2 j⟩
  rw [Stores.canon_first, View.readCov_fill _ _ _ _ _ (by decide), View.canon_cons_unit_lit _ _ _ (by decide)]
  by_cases hr : r.val = 0
  · rw [if_pos hr]
    pointwise [part, k0_pay1, k0_pay10, k0_pay5]
    rw [if_pos hr]
  · rw [if_neg hr]
    pointwise [part, k0_pay1, k0_pay10, k0_pay5]
    rw [if_neg hr]

theorem stepB (c : Dev nD) (t : Fin cfg0.N) (h : ¬ t.val % 16 = 0) (j : S8x1024.Idx) :
    (outsAt0 m c t.val t.isLt).2.2 j = ((outsAt0 m c (t.val - 1) (by have := t.isLt; omega)).2.2 j : EReal) + part m c t j := by
  rw [outsAt0_B m c t h]; frame_out
  obtain ⟨r, l, rfl⟩ : ∃ (r : Fin 8) (l : Fin 1024), j = ix2 r l := ⟨j 0, j 1, eq_ix2 j⟩
  rw [Stores.read_first, View.writes_nil, Stores.read_unread]
  by_cases hr : r.val = 0
  · rw [if_pos hr]
    obtain rfl : r = 0 := Fin.ext hr
    pointwise [part, k0_pay1, k0_pay10, k0_pay5]
  · rw [if_neg hr]
    pointwise [part, k0_pay1, k0_pay10, k0_pay5]
    rw [if_neg hr, add_zero]

/-- One product of a row. -/
theorem part_at (c : Dev nD) (t : Fin cfg0.N) (l : Fin 1024) :
    k0_pay9 (F := Ideal) (iblk m c 0 t) (iblk m c 1 t) (iblk m c 2 t) (ix2 0 l) = ∑ r : Fin 1024,
      MmgateRefIdeal.RefValue.prod (m ((c : Thread nD τ).loc main_arg0)) (m ((c : Thread nD τ).loc main_arg2)) (m ((c : Thread nD τ).loc main_arg3)) (row t r) l := by
  pointwise [k0_pay9, k0_pay7, k0_pay6, k0_pay4]
  simp only [rd0, rd1, rd2]
  rfl

theorem row_run (t : Fin cfg0.N) (s : Fin 16) (h : 16 * (t.val / 16) + s.val < cfg0.N) (k : Fin 1024) (h' : s.val * 1024 + k.val < 16384) :
    row ⟨16 * (t.val / 16) + s.val, h⟩ k = ⟨s.val * 1024 + k.val, h'⟩ := by
  have : t.val < 16 := t.isLt
  exact Fin.ext (by show (16 * (t.val / 16) + s.val) * 1024 + k.val = s.val * 1024 + k.val; omega)

theorem parts_sum (c : Dev nD) (t : Fin cfg0.N) (h : ∀ s : Fin 16, 16 * (t.val / 16) + s.val < cfg0.N) (r : Fin 8) (l : Fin 1024) :
    ∑ s : Fin 16, part m c ⟨16 * (t.val / 16) + s.val, h s⟩ (ix2 r l)
      = MmgateRefIdeal.RefValue.dg (m ((c : Thread nD τ).loc main_arg0)) (m ((c : Thread nD τ).loc main_arg2)) (m ((c : Thread nD τ).loc main_arg3)) (ix2 r l) := by
  have hp : ∀ t', part m c t' (ix2 r l) = if r.val = 0 then ∑ k : Fin 1024, MmgateRefIdeal.RefValue.prod (m ((c : Thread nD τ).loc main_arg0))
      (m ((c : Thread nD τ).loc main_arg2)) (m ((c : Thread nD τ).loc main_arg3)) (row t' k) l else 0 := fun t' => by
    rw [← part_at m c t' l]; rfl
  have hd : ∀ x w z, MmgateRefIdeal.RefValue.dg x w z (ix2 r l) = if r.val = 0 then ∑ R : Fin 16384, MmgateRefIdeal.RefValue.prod x w z R l else 0 :=
    fun x w z => rfl
  rw [hd]
  simp only [hp]
  by_cases hr : r.val = 0
  · have hb : ∀ (s : Fin 16) (k : Fin 1024), s.val * 1024 + k.val < 16384 := fun s k => by omega
    simp only [if_pos hr, row_run t _ (h _) _ (hb _ _)]
    exact Norm.rows_sum 16 1024 (by norm_num) (fun R => MmgateRefIdeal.RefValue.prod _ _ _ R l) hb
  · simp only [if_neg hr, Finset.sum_const_zero]

theorem final7 (c : Dev nD) : (dats m 0 c).arrAt 7 cfg0.N
    = MmgateRefIdeal.RefValue.dg (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  rw [after0_7, Pipeline.eq_sum_fin_of_reset_step_apply_of_flush (f := fun n h => (outsAt0 m c n h).2.2) 16 (fun _ => (0 : EReal)) (part m c)
        (fun t h j => stepA m c t h j) (fun t h j => stepB m c t h j) t ((flush0_7 t).mp hf) _]
  obtain ⟨r, l, rfl⟩ : ∃ (r : Fin 8) (l : Fin 1024), y = ix2 r l := ⟨y 0, y 1, eq_ix2 y⟩
  rw [zero_add, show (win0_7.blk t).view.emb (ix2 r l) = ix2 r l by blk_ext [idx t]]
  have ht := (flush0_7 t).mp hf
  have hN : t.val < 16 := t.isLt
  exact parts_sum m c t _ r l

end Cert.MmgateIdeal.RefValue

end
-- ==== Proof.MminValue.lean ====
/- The same fused gradient at the shape of the layer's input projection, whose rows come in smaller blocks.
-/
module

public import proofs.«01_k».proof.Proof.Norm
public import proofs.«01_k».proof.Proof.Stores
public import proofs.«01_k».proof.Proof.Gen.MminIdeal.Value
public import proofs.«01_k».proof.Proof.Gen.MminRefIdeal.Run
public import Idealize.ShloMosaic.Lib.Pipeline.ValueKit

@[expose] public section

set_option maxRecDepth 16384

noncomputable section

namespace Cert.MminRefIdeal.RefValue

open Cert.MminRefIdeal Cert.MminRefIdeal.Gen Cert.MminRefIdeal.Value Idealize.ShloMosaic Idealize.ShloMosaic.TcCoe

variable (m : (ℓ : Loc nD τ sig) → Buf (Elt Ideal) ℓ) (c : Dev nD)

/-- The cotangent of the normalised row: the product with the weight, times the norm's own weight. -/
def cot (G : S1024.Idx → ℝ) (W : S1024x2816.Idx → ℝ) (Z : S16384x2816.Idx → ℝ) (r : Fin 16384) (j : Fin 1024) : ℝ :=
  (∑ k : Fin 2816, Z (ix2 r k) * W (ix2 j k)) * G (ix1 j)

/-- The gradient of the residual stream, over the reals. -/
def dh (X : S16384x1024.Idx → ℝ) (G : S1024.Idx → ℝ) (W : S1024x2816.Idx → ℝ) (Z : S16384x2816.Idx → ℝ)
    (D : FVec Ideal S16384x1024 .f32) : FVec Ideal S16384x1024 .f32 :=
  fun i => D i + ((Norm.bwd (cot G W Z (i 0)) (fun j : Fin 1024 => X (ix2 (i 0) j)) (i 1) : ℝ) : EReal)

/-- The product with the weight, in real numbers. -/
theorem cot_coe (G : S1024.Idx → ℝ) (W : S1024x2816.Idx → ℝ) (Z : S16384x2816.Idx → ℝ) (r : Fin 16384) (j : Fin 1024) :
    (∑ k : Fin 2816, (Z (ix2 r k) : EReal) * (W (ix2 j k) : EReal)) * (G (ix1 j) : EReal) = (cot G W Z r j : EReal) := by
  simp only [← EReal.coe_mul, ← Common.coe_sum, cot]

theorem res0 (X : S16384x1024.Idx → ℝ) (G : S1024.Idx → ℝ) (W : S1024x2816.Idx → ℝ) (Z : S16384x2816.Idx → ℝ) (D : FVec Ideal S16384x1024 .f32)
    (hx : m ((c : Thread nD τ).loc main_arg0) = fun i => ((X i : ℝ) : EReal))
    (hg : m ((c : Thread nD τ).loc main_arg1) = fun i => ((G i : ℝ) : EReal))
    (hw : m ((c : Thread nD τ).loc main_arg2) = fun i => ((W i : ℝ) : EReal))
    (hz : m ((c : Thread nD τ).loc main_arg3) = fun i => ((Z i : ℝ) : EReal)) (hd : m ((c : Thread nD τ).loc main_arg4) = D) :
    res_main_v38 m c = dh X G W Z D := by
  funext y
  obtain ⟨r, l, rfl⟩ : ∃ (r : Fin 16384) (l : Fin 1024), y = ix2 r l := ⟨y 0, y 1, eq_ix2 y⟩
  pointwise [res_main_v38, hx, hg, hw, hz, hd]
  exact Norm.ref_form (cot G W Z r) (fun j : Fin 1024 => X (ix2 r j)) _ (cot_coe G W Z r) _ l

/-- One row's term of the gradient of the norm's weight. -/
def prod (x : FVec Ideal S16384x1024 .f32) (w : FVec Ideal S1024x2816 .f32) (z : FVec Ideal S16384x2816 .f32) (r : Fin 16384) (l : Fin 1024) : EReal :=
  (∑ k : Fin 2816, z (ix2 r k) * w (ix2 l k)) * (x (ix2 r l)
    * Ideal.rsqrt (Ideal.div (∑ j : Fin 1024, x (ix2 r j) * x (ix2 r j)) (Ideal.ofBits .f32 0x44800000#32) + Ideal.ofBits .f32 0x358637BD#32))

/-- The gradient of the norm's weight, in the first of eight rows. -/
def dg (x : FVec Ideal S16384x1024 .f32) (w : FVec Ideal S1024x2816 .f32) (z : FVec Ideal S16384x2816 .f32) : FVec Ideal S8x1024 .f32 :=
  fun i => if (i 0).val = 0 then ∑ r : Fin 16384, prod x w z r (i 1) else 0

theorem res2 (x : FVec Ideal S16384x1024 .f32) (w : FVec Ideal S1024x2816 .f32) (z : FVec Ideal S16384x2816 .f32) :
    pad S8x1024 ![0, 0] ![7, 0] ![0, 0] (broadcastInDim S1x1024 ![1] bcast_S1024_S1x1024_1 (Host.reduceAdd (shapeCast _ (Host.reduceAdd (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (Host.dotGeneral dot_S16384x2816_S1024x2816_S16384x1024_1_1_0_0_n_n none z w)) (constant S_ .f32 0x00000000#32) reducesTo_S16384x1024_S1024_d0 h_S_) shapeCasts_S1024_S1x1024) (constant S_ .f32 0x00000000#32) reducesTo_S1x1024_S1024_d0 h_S_)) (sitofp .f32 (constantI S_ 32 0#32)) pads_S1x1024_S8x1024_070_000 h_S_
      = dg x w z := by
  funext y
  obtain ⟨r, l, rfl⟩ : ∃ (r : Fin 8) (l : Fin 1024), y = ix2 r l := ⟨y 0, y 1, eq_ix2 y⟩
  pointwise [dg, prod]
  by_cases hr : r.val = 0
  · rw [if_pos hr, dif_pos (by omega), Fin.sum_univ_one]
    exact Finset.sum_congr rfl fun R _ => mul_comm _ _
  · rw [if_neg hr, dif_neg (by omega)]
    simp [FloatOps.sitofp]

end Cert.MminRefIdeal.RefValue

namespace Cert.MminIdeal.RefValue

open Cert.MminIdeal Cert.MminIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: rows move with the grid point, weights and the norm's sum stay. -/
theorem idx (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0]) t

theorem V_v0 (c : Dev nD) : V m c main_v0 = truncf (F := Ideal) (s := S16384x2816) (φ := .f32) .bf16 (m ((c : Thread nD τ).loc main_arg3)) bitsLt_bf16_f32 := by
  entry_read
  rfl
theorem V_v1 (c : Dev nD) : V m c main_v1 = truncf (F := Ideal) (s := S1024x2816) (φ := .f32) .bf16 (m ((c : Thread nD τ).loc main_arg2)) bitsLt_bf16_f32 := by
  entry_read
  rfl
theorem V_v2 (c : Dev nD) (z : Fin 1) (l : Fin 1024) : V m c main_v2 (ix2 z l) = m ((c : Thread nD τ).loc main_arg1) (ix1 l) := by
  entry_read
  pointwise []

/-- One element of a block: every read already a real number. -/
theorem dx_at (z : FVec Ideal S512x2816 .bf16) (w : FVec Ideal S1024x2816 .bf16) (x : FVec Ideal S512x1024 .f32) (g : FVec Ideal S1x1024 .f32)
    (D : FVec Ideal S512x1024 .f32) (r : Fin 512) (l : Fin 1024) (d X : Fin 1024 → ℝ) (hx : ∀ j, x (ix2 r j) = (X j : EReal))
    (hd : ∀ j, (∑ k : Fin 2816, z (ix2 r k) * w (ix2 j k)) * g (ix2 0 j) = (d j : EReal)) :
    k0_pay2 (F := Ideal) (k0_pay8 z w x g) D (ix2 r l) = D (ix2 r l) + (Norm.bwd d X l : EReal) := by
  pointwise [k0_pay2, k0_pay8, k0_pay7, k0_pay6, k0_pay4, hx]
  exact Norm.ker_form d X _ hd _ l

variable (X : S16384x1024.Idx → ℝ) (G : S1024.Idx → ℝ) (W : S1024x2816.Idx → ℝ) (Z : S16384x2816.Idx → ℝ)

theorem row_lt (t : Fin cfg0.N) (r : Fin 512) : t.val * 512 + r.val < 16384 := by
  have h : t.val < 32 := t.isLt
  omega

/-- The array row of row `r` of block `t`. -/
abbrev row (t : Fin cfg0.N) (r : Fin 512) : Fin 16384 := ⟨t.val * 512 + r.val, row_lt t r⟩

theorem rd0 (c : Dev nD) (t : Fin cfg0.N) (r : Fin 512) (k : Fin 2816) : iblk m c 0 t (ix2 r k) = m ((c : Thread nD τ).loc main_arg3) (ix2 (row t r) k) := by
  blk_point [iblk, V_v0, idx t]
theorem rd1 (c : Dev nD) (t : Fin cfg0.N) (r : Fin 1024) (k : Fin 2816) : iblk m c 1 t (ix2 r k) = m ((c : Thread nD τ).loc main_arg2) (ix2 r k) := by
  blk_point [iblk, V_v1, idx t]
theorem rd2 (c : Dev nD) (t : Fin cfg0.N) (r : Fin 512) (k : Fin 1024) : iblk m c 2 t (ix2 r k) = m ((c : Thread nD τ).loc main_arg0) (ix2 (row t r) k) := by
  blk_point [iblk, V_main_arg0, idx t]
theorem rd3 (c : Dev nD) (t : Fin cfg0.N) (k : Fin 1024) : iblk m c 3 t (ix2 0 k) = m ((c : Thread nD τ).loc main_arg1) (ix1 k) := by
  rw [← V_v2 m c 0]
  blk_point [iblk, idx t]
theorem rd4 (c : Dev nD) (t : Fin cfg0.N) (r : Fin 512) (k : Fin 1024) : iblk m c 4 t (ix2 r k) = m ((c : Thread nD τ).loc main_arg4) (ix2 (row t r) k) := by
  blk_point [iblk, V_main_arg4, idx t]

section
variable (c : Dev nD)
  (hx : m ((c : Thread nD τ).loc main_arg0) = fun i => ((X i : ℝ) : EReal))
  (hg : m ((c : Thread nD τ).loc main_arg1) = fun i => ((G i : ℝ) : EReal))
  (hw : m ((c : Thread nD τ).loc main_arg2) = fun i => ((W i : ℝ) : EReal))
  (hz : m ((c : Thread nD τ).loc main_arg3) = fun i => ((Z i : ℝ) : EReal))
include hx hg hw hz

/-- What a point leaves in the gradient's block. -/
theorem blk_at (t : Fin cfg0.N) (r : Fin 512) (l : Fin 1024) :
    k0_pay2 (F := Ideal) (k0_pay8 (iblk m c 0 t) (iblk m c 1 t) (iblk m c 2 t) (iblk m c 3 t)) (iblk m c 4 t) (ix2 r l)
      = MminRefIdeal.RefValue.dh X G W Z (m ((c : Thread nD τ).loc main_arg4)) (ix2 (row t r) l) := by
  refine (dx_at _ _ _ _ _ r l (MminRefIdeal.RefValue.cot G W Z (row t r)) (fun j : Fin 1024 => X (ix2 (row t r) j)) (fun j => ?_) (fun j => ?_)).trans ?_
  · rw [rd2, hx]
  · rw [← MminRefIdeal.RefValue.cot_coe]
    simp only [rd0, rd1, rd3, hg, hw, hz]
  · rw [rd4]; rfl

theorem final5 : (dats m 0 c).arrAt 5 cfg0.N = MminRefIdeal.RefValue.dh X G W Z (m ((c : Thread nD τ).loc main_arg4)) := by
  refine (dats m 0 c).arrAt_eq_of_covers 5 _ (by decide +kernel) fun t hf y => ?_
  blk_simp
  obtain ⟨r, l, rfl⟩ : ∃ (r : Fin 512) (l : Fin 1024), y = ix2 r l := ⟨y 0, y 1, eq_ix2 y⟩
  rw [after0_5]
  by_cases h : t.val % 32 = 0
  all_goals
    first | rw [outsAt0_A m c t h] | rw [outsAt0_B m c t h]
    frame_out
    refine (blk_at m X G W Z c hx hg hw hz t r l).trans ?_
    blk_ext [idx t]

/-- Its copy, cast. -/
theorem final6 : (dats m 0 c).arrAt 6 cfg0.N = MminRefIdeal.RefValue.dh X G W Z (m ((c : Thread nD τ).loc main_arg4)) := by
  refine (dats m 0 c).arrAt_eq_of_covers 6 _ (by decide +kernel) fun t hf y => ?_
  blk_simp
  obtain ⟨r, l, rfl⟩ : ∃ (r : Fin 512) (l : Fin 1024), y = ix2 r l := ⟨y 0, y 1, eq_ix2 y⟩
  rw [after0_6]
  by_cases h : t.val % 32 = 0
  all_goals
    first | rw [outsAt0_A m c t h] | rw [outsAt0_B m c t h]
    frame_out
    refine (blk_at m X G W Z c hx hg hw hz t r l).trans ?_
    blk_ext [idx t]

end

/-- A block's contribution to the gradient of the norm's weight: its rows' products, in row 0. -/
def part (c : Dev nD) (t : Fin cfg0.N) : S8x1024.Idx → EReal :=
  fun j => if (j 0).val = 0 then k0_pay9 (F := Ideal) (iblk m c 0 t) (iblk m c 1 t) (iblk m c 2 t) (ix2 0 (j 1)) else 0

theorem stepA (c : Dev nD) (t : Fin cfg0.N) (h : t.val % 32 = 0) (j : S8x1024.Idx) : (outsAt0 m c t.val t.isLt).2.2 j = (0 : EReal) + part m c t j := by
  rw [outsAt0_A m c t h]; frame_out
  obtain ⟨r, l, rfl⟩ : ∃ (r : Fin 8) (l : Fin 1024), j = ix2 r l := ⟨j 0, j 1, eq_ix2 j⟩
  rw [Stores.canon_first, View.readCov_fill _ _ _ _ _ (by decide), View.canon_cons_unit_lit _ _ _ (by decide)]
  by_cases hr : r.val = 0
  · rw [if_pos hr]
    pointwise [part, k0_pay1, k0_pay10, k0_pay5]
    rw [if_pos hr]
  · rw [if_neg hr]
    pointwise [part, k0_pay1, k0_pay10, k0_pay5]
    rw [if_neg hr]

theorem stepB (c : Dev nD) (t : Fin cfg0.N) (h : ¬ t.val % 32 = 0) (j : S8x1024.Idx) :
    (outsAt0 m c t.val t.isLt).2.2 j = ((outsAt0 m c (t.val - 1) (by have := t.isLt; omega)).2.2 j : EReal) + part m c t j := by
  rw [outsAt0_B m c t h]; frame_out
  obtain ⟨r, l, rfl⟩ : ∃ (r : Fin 8) (l : Fin 1024), j = ix2 r l := ⟨j 0, j 1, eq_ix2 j⟩
  rw [Stores.read_first, View.writes_nil, Stores.read_unread]
  by_cases hr : r.val = 0
  · rw [if_pos hr]
    obtain rfl : r = 0 := Fin.ext hr
    pointwise [part, k0_pay1, k0_pay10, k0_pay5]
  · rw [if_neg hr]
    pointwise [part, k0_pay1, k0_pay10, k0_pay5]
    rw [if_neg hr, add_zero]

/-- One product of a row. -/
theorem part_at (c : Dev nD) (t : Fin cfg0.N) (l : Fin 1024) :
    k0_pay9 (F := Ideal) (iblk m c 0 t) (iblk m c 1 t) (iblk m c 2 t) (ix2 0 l) = ∑ r : Fin 512,
      MminRefIdeal.RefValue.prod (m ((c : Thread nD τ).loc main_arg0)) (m ((c : Thread nD τ).loc main_arg2)) (m ((c : Thread nD τ).loc main_arg3)) (row t r) l := by
  pointwise [k0_pay9, k0_pay7, k0_pay6, k0_pay4]
  simp only [rd0, rd1, rd2]
  rfl

theorem row_run (t : Fin cfg0.N) (s : Fin 32) (h : 32 * (t.val / 32) + s.val < cfg0.N) (k : Fin 512) (h' : s.val * 512 + k.val < 16384) :
    row ⟨32 * (t.val / 32) + s.val, h⟩ k = ⟨s.val * 512 + k.val, h'⟩ := by
  have : t.val < 32 := t.isLt
  exact Fin.ext (by show (32 * (t.val / 32) + s.val) * 512 + k.val = s.val * 512 + k.val; omega)

theorem parts_sum (c : Dev nD) (t : Fin cfg0.N) (h : ∀ s : Fin 32, 32 * (t.val / 32) + s.val < cfg0.N) (r : Fin 8) (l : Fin 1024) :
    ∑ s : Fin 32, part m c ⟨32 * (t.val / 32) + s.val, h s⟩ (ix2 r l)
      = MminRefIdeal.RefValue.dg (m ((c : Thread nD τ).loc main_arg0)) (m ((c : Thread nD τ).loc main_arg2)) (m ((c : Thread nD τ).loc main_arg3)) (ix2 r l) := by
  have hp : ∀ t', part m c t' (ix2 r l) = if r.val = 0 then ∑ k : Fin 512, MminRefIdeal.RefValue.prod (m ((c : Thread nD τ).loc main_arg0))
      (m ((c : Thread nD τ).loc main_arg2)) (m ((c : Thread nD τ).loc main_arg3)) (row t' k) l else 0 := fun t' => by
    rw [← part_at m c t' l]; rfl
  have hd : ∀ x w z, MminRefIdeal.RefValue.dg x w z (ix2 r l) = if r.val = 0 then ∑ R : Fin 16384, MminRefIdeal.RefValue.prod x w z R l else 0 :=
    fun x w z => rfl
  rw [hd]
  simp only [hp]
  by_cases hr : r.val = 0
  · have hb : ∀ (s : Fin 32) (k : Fin 512), s.val * 512 + k.val < 16384 := fun s k => by omega
    simp only [if_pos hr, row_run t _ (h _) _ (hb _ _)]
    exact Norm.rows_sum 32 512 (by norm_num) (fun R => MminRefIdeal.RefValue.prod _ _ _ R l) hb
  · simp only [if_neg hr, Finset.sum_const_zero]

theorem final7 (c : Dev nD) : (dats m 0 c).arrAt 7 cfg0.N
    = MminRefIdeal.RefValue.dg (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  rw [after0_7, Pipeline.eq_sum_fin_of_reset_step_apply_of_flush (f := fun n h => (outsAt0 m c n h).2.2) 32 (fun _ => (0 : EReal)) (part m c)
        (fun t h j => stepA m c t h j) (fun t h j => stepB m c t h j) t ((flush0_7 t).mp hf) _]
  obtain ⟨r, l, rfl⟩ : ∃ (r : Fin 8) (l : Fin 1024), y = ix2 r l := ⟨y 0, y 1, eq_ix2 y⟩
  rw [zero_add, show (win0_7.blk t).view.emb (ix2 r l) = ix2 r l by blk_ext [idx t]]
  have ht := (flush0_7 t).mp hf
  have hN : t.val < 32 := t.isLt
  exact parts_sum m c t _ r l

end Cert.MminIdeal.RefValue

end
-- ==== Proof.MmupValue.lean ====
/- The same fused gradient where the product has two parts, one for each half of the up projection's weight.
-/
module

public import proofs.«01_k».proof.Proof.Norm
public import proofs.«01_k».proof.Proof.Stores
public import proofs.«01_k».proof.Proof.Gen.MmupIdeal.Value
public import proofs.«01_k».proof.Proof.Gen.MmupRefIdeal.Run
public import Idealize.ShloMosaic.Lib.Pipeline.ValueKit

@[expose] public section

set_option maxRecDepth 16384

noncomputable section

namespace Cert.MmupRefIdeal.RefValue

open Cert.MmupRefIdeal Cert.MmupRefIdeal.Gen Cert.MmupRefIdeal.Value Idealize.ShloMosaic Idealize.ShloMosaic.TcCoe

variable (m : (ℓ : Loc nD τ sig) → Buf (Elt Ideal) ℓ) (c : Dev nD)

/-- Column `k` of the left half of the weight, and of the right half. -/
def left (k : Fin 2816) : Fin 5632 := ⟨k.val, by omega⟩
def right (k : Fin 2816) : Fin 5632 := ⟨2816 + k.val, by omega⟩

/-- The contraction over both halves, one half at a time. -/
theorem halves (f : Fin 5632 → EReal) : ∑ k : Fin 5632, f k = (∑ k : Fin 2816, f (left k)) + ∑ k : Fin 2816, f (right k) :=
  Fin.sum_univ_add (a := 2816) (b := 2816) f

/-- The cotangent of the normalised row: the product with the weight, times the norm's own weight. -/
def cot (G : S1024.Idx → ℝ) (W : S1024x5632.Idx → ℝ) (Z Y : S16384x2816.Idx → ℝ) (r : Fin 16384) (j : Fin 1024) : ℝ :=
  ((∑ k : Fin 2816, Z (ix2 r k) * W (ix2 j (left k))) + ∑ k : Fin 2816, Y (ix2 r k) * W (ix2 j (right k))) * G (ix1 j)

/-- The gradient of the residual stream, over the reals. -/
def dh (X : S16384x1024.Idx → ℝ) (G : S1024.Idx → ℝ) (W : S1024x5632.Idx → ℝ) (Z Y : S16384x2816.Idx → ℝ)
    (D : FVec Ideal S16384x1024 .f32) : FVec Ideal S16384x1024 .f32 :=
  fun i => D i + ((Norm.bwd (cot G W Z Y (i 0)) (fun j : Fin 1024 => X (ix2 (i 0) j)) (i 1) : ℝ) : EReal)

/-- The product with the weight, in real numbers. -/
theorem cot_coe (G : S1024.Idx → ℝ) (W : S1024x5632.Idx → ℝ) (Z Y : S16384x2816.Idx → ℝ) (r : Fin 16384) (j : Fin 1024) :
    ((∑ k : Fin 2816, (Z (ix2 r k) : EReal) * (W (ix2 j (left k)) : EReal)) + ∑ k : Fin 2816, (Y (ix2 r k) : EReal) * (W (ix2 j (right k)) : EReal)) * (G (ix1 j) : EReal) = (cot G W Z Y r j : EReal) := by
  simp only [← EReal.coe_mul, ← Common.coe_sum, ← EReal.coe_add, cot]

/-- The cotangent of the normalised row, as the reference contracts it: over both halves at once. -/
theorem dot_at (z y : FVec Ideal S16384x2816 .f32) (w : FVec Ideal S1024x5632 .f32) (R : Fin 16384) (l : Fin 1024) :
    Host.dotGeneral dot_S16384x5632_S1024x5632_S16384x1024_1_1_0_0_n_n none (addf (pad S16384x5632 ![0, 2816] ![0, 0] ![0, 0] y (constant S_ .f32 0x00000000#32) pads_S16384x2816_S16384x5632_000_281600 h_S_) (pad S16384x5632 ![0, 0] ![0, 2816] ![0, 0] z (constant S_ .f32 0x00000000#32) pads_S16384x2816_S16384x5632_000_028160 h_S_)) w (ix2 R l)
      = (∑ k : Fin 2816, z (ix2 R k) * w (ix2 l (left k))) + ∑ k : Fin 2816, y (ix2 R k) * w (ix2 l (right k)) := by
  pointwise []
  rw [halves]
  congr 1
  · refine Finset.sum_congr rfl fun k _ => ?_
    rw [dif_neg (by simp [left]), dif_pos (by simp [left]), zero_add]
    rfl
  · refine Finset.sum_congr rfl fun k _ => ?_
    rw [dif_pos (by simp [right]), dif_neg (by simp [right]), add_zero]
    congr 2
    exact congrArg (ix2 R) (Fin.ext (by simp [right]))

theorem res0 (X : S16384x1024.Idx → ℝ) (G : S1024.Idx → ℝ) (W : S1024x5632.Idx → ℝ) (Z Y : S16384x2816.Idx → ℝ) (D : FVec Ideal S16384x1024 .f32)
    (hx : m ((c : Thread nD τ).loc main_arg0) = fun i => ((X i : ℝ) : EReal))
    (hg : m ((c : Thread nD τ).loc main_arg1) = fun i => ((G i : ℝ) : EReal))
    (hw : m ((c : Thread nD τ).loc main_arg2) = fun i => ((W i : ℝ) : EReal))
    (hz : m ((c : Thread nD τ).loc main_arg3) = fun i => ((Z i : ℝ) : EReal))
    (hy : m ((c : Thread nD τ).loc main_arg4) = fun i => ((Y i : ℝ) : EReal)) (hd : m ((c : Thread nD τ).loc main_arg5) = D) :
    res_main_v43 m c = dh X G W Z Y D := by
  funext y
  obtain ⟨r, l, rfl⟩ : ∃ (r : Fin 16384) (l : Fin 1024), y = ix2 r l := ⟨y 0, y 1, eq_ix2 y⟩
  unfold res_main_v43
  generalize hE : (Host.dotGeneral (F := Ideal) dot_S16384x5632_S1024x5632_S16384x1024_1_1_0_0_n_n none _ _ : FVec Ideal S16384x1024 .f32) = E
  have he : ∀ j : Fin 1024, E (ix2 r j) = ((∑ k : Fin 2816, (Z (ix2 r k) : EReal) * (W (ix2 j (left k)) : EReal)) + ∑ k : Fin 2816, (Y (ix2 r k) : EReal) * (W (ix2 j (right k)) : EReal)) := fun j => by
    rw [← hE, hw, hz, hy]
    exact dot_at _ _ _ r j
  pointwise [hx, hg, hd]
  exact Norm.ref_form (cot G W Z Y r) (fun j : Fin 1024 => X (ix2 r j)) _ (fun j => by rw [← cot_coe, ← he j]) _ l

/-- One row's term of the gradient of the norm's weight. -/
def prod (x : FVec Ideal S16384x1024 .f32) (w : FVec Ideal S1024x5632 .f32) (z y : FVec Ideal S16384x2816 .f32) (r : Fin 16384) (l : Fin 1024) : EReal :=
  ((∑ k : Fin 2816, z (ix2 r k) * w (ix2 l (left k))) + ∑ k : Fin 2816, y (ix2 r k) * w (ix2 l (right k))) * (x (ix2 r l)
    * Ideal.rsqrt (Ideal.div (∑ j : Fin 1024, x (ix2 r j) * x (ix2 r j)) (Ideal.ofBits .f32 0x44800000#32) + Ideal.ofBits .f32 0x358637BD#32))

/-- The gradient of the norm's weight, in the first of eight rows. -/
def dg (x : FVec Ideal S16384x1024 .f32) (w : FVec Ideal S1024x5632 .f32) (z y : FVec Ideal S16384x2816 .f32) : FVec Ideal S8x1024 .f32 :=
  fun i => if (i 0).val = 0 then ∑ r : Fin 16384, prod x w z y r (i 1) else 0

theorem res2 (x : FVec Ideal S16384x1024 .f32) (w : FVec Ideal S1024x5632 .f32) (z y : FVec Ideal S16384x2816 .f32) :
    pad S8x1024 ![0, 0] ![7, 0] ![0, 0] (broadcastInDim S1x1024 ![1] bcast_S1024_S1x1024_1 (Host.reduceAdd (shapeCast _ (Host.reduceAdd (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (Host.dotGeneral dot_S16384x5632_S1024x5632_S16384x1024_1_1_0_0_n_n none (addf (pad S16384x5632 ![0, 2816] ![0, 0] ![0, 0] y (constant S_ .f32 0x00000000#32) pads_S16384x2816_S16384x5632_000_281600 h_S_) (pad S16384x5632 ![0, 0] ![0, 2816] ![0, 0] z (constant S_ .f32 0x00000000#32) pads_S16384x2816_S16384x5632_000_028160 h_S_)) w)) (constant S_ .f32 0x00000000#32) reducesTo_S16384x1024_S1024_d0 h_S_) shapeCasts_S1024_S1x1024) (constant S_ .f32 0x00000000#32) reducesTo_S1x1024_S1024_d0 h_S_)) (sitofp .f32 (constantI S_ 32 0#32)) pads_S1x1024_S8x1024_070_000 h_S_
      = dg x w z y := by
  funext i
  obtain ⟨r, l, rfl⟩ : ∃ (r : Fin 8) (l : Fin 1024), i = ix2 r l := ⟨i 0, i 1, eq_ix2 i⟩
  generalize hE : (Host.dotGeneral (F := Ideal) dot_S16384x5632_S1024x5632_S16384x1024_1_1_0_0_n_n none _ _ : FVec Ideal S16384x1024 .f32) = E
  have he : ∀ (R : Fin 16384) (j : Fin 1024), E (ix2 R j) = (∑ k : Fin 2816, z (ix2 R k) * w (ix2 j (left k))) + ∑ k : Fin 2816, y (ix2 R k) * w (ix2 j (right k)) := fun R j => by rw [← hE]; exact dot_at z y w R j
  pointwise [dg, prod, he]
  by_cases hr : r.val = 0
  · rw [if_pos hr, dif_pos (by omega), Fin.sum_univ_one]
    exact Finset.sum_congr rfl fun R _ => mul_comm _ _
  · rw [if_neg hr, dif_neg (by omega)]
    simp [FloatOps.sitofp]

end Cert.MmupRefIdeal.RefValue

namespace Cert.MmupIdeal.RefValue

open Cert.MmupIdeal Cert.MmupIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: rows move with the grid point, the weight's halves and the norm's sum stay. -/
theorem idx (t : Fin cfg0.N) : win0_0.index t = ![t.val, 0] ∧ win0_1.index t = ![t.val, 0] ∧ win0_2.index t = ![0, 0]
    ∧ win0_3.index t = ![0, 1] ∧ win0_4.index t = ![t.val, 0] ∧ win0_5.index t = ![0, 0] ∧ win0_6.index t = ![t.val, 0] ∧ win0_7.index t = ![t.val, 0]
    ∧ win0_8.index t = ![t.val, 0] ∧ win0_9.index t = ![0, 0] :=
  (by decide +kernel : ∀ t : Fin grid0.N, win0_0.index t = ![t.val, 0] ∧ win0_1.index t = ![t.val, 0] ∧ win0_2.index t = ![0, 0]
    ∧ win0_3.index t = ![0, 1] ∧ win0_4.index t = ![t.val, 0] ∧ win0_5.index t = ![0, 0] ∧ win0_6.index t = ![t.val, 0] ∧ win0_7.index t = ![t.val, 0]
    ∧ win0_8.index t = ![t.val, 0] ∧ win0_9.index t = ![0, 0]) t

theorem V_v0 (c : Dev nD) : V m c main_v0 = truncf (F := Ideal) (s := S16384x2816) (φ := .f32) .bf16 (m ((c : Thread nD τ).loc main_arg3)) bitsLt_bf16_f32 := by
  entry_read
  rfl
theorem V_v1 (c : Dev nD) : V m c main_v1 = truncf (F := Ideal) (s := S16384x2816) (φ := .f32) .bf16 (m ((c : Thread nD τ).loc main_arg4)) bitsLt_bf16_f32 := by
  entry_read
  rfl
theorem V_v2 (c : Dev nD) : V m c main_v2 = truncf (F := Ideal) (s := S1024x5632) (φ := .f32) .bf16 (m ((c : Thread nD τ).loc main_arg2)) bitsLt_bf16_f32 := by
  entry_read
  rfl
theorem V_v3 (c : Dev nD) (z : Fin 1) (l : Fin 1024) : V m c main_v3 (ix2 z l) = m ((c : Thread nD τ).loc main_arg1) (ix1 l) := by
  entry_read
  pointwise []

/-- One element of a block: every read already a real number. -/
theorem dx_at (z y : FVec Ideal S512x2816 .bf16) (w v : FVec Ideal S1024x2816 .bf16) (x : FVec Ideal S512x1024 .f32) (g : FVec Ideal S1x1024 .f32)
    (D : FVec Ideal S512x1024 .f32) (r : Fin 512) (l : Fin 1024) (d X : Fin 1024 → ℝ) (hx : ∀ j, x (ix2 r j) = (X j : EReal))
    (hd : ∀ j, ((∑ k : Fin 2816, z (ix2 r k) * w (ix2 j k)) + ∑ k : Fin 2816, y (ix2 r k) * v (ix2 j k)) * g (ix2 0 j) = (d j : EReal)) :
    k0_pay2 (F := Ideal) (k0_pay6 x) (k0_pay8 z w y v g) (k0_pay9 z w y v x g) D (ix2 r l) = D (ix2 r l) + (Norm.bwd d X l : EReal) := by
  pointwise [k0_pay2, k0_pay8, k0_pay9, k0_pay7, k0_pay6, k0_pay4, hx]
  exact Norm.ker_form d X _ hd _ l

variable (X : S16384x1024.Idx → ℝ) (G : S1024.Idx → ℝ) (W : S1024x5632.Idx → ℝ) (Z Y : S16384x2816.Idx → ℝ)

theorem row_lt (t : Fin cfg0.N) (r : Fin 512) : t.val * 512 + r.val < 16384 := by
  have h : t.val < 32 := t.isLt
  omega

/-- The array row of row `r` of block `t`. -/
abbrev row (t : Fin cfg0.N) (r : Fin 512) : Fin 16384 := ⟨t.val * 512 + r.val, row_lt t r⟩

theorem rd0 (c : Dev nD) (t : Fin cfg0.N) (r : Fin 512) (k : Fin 2816) : iblk m c 0 t (ix2 r k) = m ((c : Thread nD τ).loc main_arg3) (ix2 (row t r) k) := by
  blk_point [iblk, V_v0, idx t]
theorem rd1 (c : Dev nD) (t : Fin cfg0.N) (r : Fin 512) (k : Fin 2816) : iblk m c 1 t (ix2 r k) = m ((c : Thread nD τ).loc main_arg4) (ix2 (row t r) k) := by
  blk_point [iblk, V_v1, idx t]
theorem rd2 (c : Dev nD) (t : Fin cfg0.N) (r : Fin 1024) (k : Fin 2816) : iblk m c 2 t (ix2 r k) = m ((c : Thread nD τ).loc main_arg2) (ix2 r (MmupRefIdeal.RefValue.left k)) := by
  blk_point [iblk, V_v2, idx t, MmupRefIdeal.RefValue.left]
theorem rd3 (c : Dev nD) (t : Fin cfg0.N) (r : Fin 1024) (k : Fin 2816) : iblk m c 3 t (ix2 r k) = m ((c : Thread nD τ).loc main_arg2) (ix2 r (MmupRefIdeal.RefValue.right k)) := by
  blk_point [iblk, V_v2, idx t, MmupRefIdeal.RefValue.right]
theorem rd4 (c : Dev nD) (t : Fin cfg0.N) (r : Fin 512) (k : Fin 1024) : iblk m c 4 t (ix2 r k) = m ((c : Thread nD τ).loc main_arg0) (ix2 (row t r) k) := by
  blk_point [iblk, V_main_arg0, idx t]
theorem rd5 (c : Dev nD) (t : Fin cfg0.N) (k : Fin 1024) : iblk m c 5 t (ix2 0 k) = m ((c : Thread nD τ).loc main_arg1) (ix1 k) := by
  rw [← V_v3 m c 0]
  blk_point [iblk, idx t]
theorem rd6 (c : Dev nD) (t : Fin cfg0.N) (r : Fin 512) (k : Fin 1024) : iblk m c 6 t (ix2 r k) = m ((c : Thread nD τ).loc main_arg5) (ix2 (row t r) k) := by
  blk_point [iblk, V_main_arg5, idx t]

section
variable (c : Dev nD)
  (hx : m ((c : Thread nD τ).loc main_arg0) = fun i => ((X i : ℝ) : EReal))
  (hg : m ((c : Thread nD τ).loc main_arg1) = fun i => ((G i : ℝ) : EReal))
  (hw : m ((c : Thread nD τ).loc main_arg2) = fun i => ((W i : ℝ) : EReal))
  (hz : m ((c : Thread nD τ).loc main_arg3) = fun i => ((Z i : ℝ) : EReal))
  (hy : m ((c : Thread nD τ).loc main_arg4) = fun i => ((Y i : ℝ) : EReal))
include hx hg hw hz hy

/-- What a point leaves in the gradient's block. -/
theorem blk_at (t : Fin cfg0.N) (r : Fin 512) (l : Fin 1024) :
    k0_pay2 (F := Ideal) (k0_pay6 (iblk m c 4 t)) (k0_pay8 (iblk m c 0 t) (iblk m c 2 t) (iblk m c 1 t) (iblk m c 3 t) (iblk m c 5 t)) (k0_pay9 (iblk m c 0 t) (iblk m c 2 t) (iblk m c 1 t) (iblk m c 3 t) (iblk m c 4 t) (iblk m c 5 t)) (iblk m c 6 t) (ix2 r l)
      = MmupRefIdeal.RefValue.dh X G W Z Y (m ((c : Thread nD τ).loc main_arg5)) (ix2 (row t r) l) := by
  refine (dx_at _ _ _ _ _ _ _ r l (MmupRefIdeal.RefValue.cot G W Z Y (row t r)) (fun j : Fin 1024 => X (ix2 (row t r) j)) (fun j => ?_) (fun j => ?_)).trans ?_
  · rw [rd4, hx]
  · rw [← MmupRefIdeal.RefValue.cot_coe]
    simp only [rd0, rd1, rd2, rd3, rd5, hg, hw, hz, hy]
  · rw [rd6]; rfl

theorem final7 : (dats m 0 c).arrAt 7 cfg0.N = MmupRefIdeal.RefValue.dh X G W Z Y (m ((c : Thread nD τ).loc main_arg5)) := by
  refine (dats m 0 c).arrAt_eq_of_covers 7 _ (by decide +kernel) fun t hf y => ?_
  blk_simp
  obtain ⟨r, l, rfl⟩ : ∃ (r : Fin 512) (l : Fin 1024), y = ix2 r l := ⟨y 0, y 1, eq_ix2 y⟩
  rw [after0_7]
  by_cases h : t.val % 32 = 0
  all_goals
    first | rw [outsAt0_A m c t h] | rw [outsAt0_B m c t h]
    frame_out
    refine (blk_at m X G W Z Y c hx hg hw hz hy t r l).trans ?_
    blk_ext [idx t]

/-- Its copy, cast. -/
theorem final8 : (dats m 0 c).arrAt 8 cfg0.N = MmupRefIdeal.RefValue.dh X G W Z Y (m ((c : Thread nD τ).loc main_arg5)) := by
  refine (dats m 0 c).arrAt_eq_of_covers 8 _ (by decide +kernel) fun t hf y => ?_
  blk_simp
  obtain ⟨r, l, rfl⟩ : ∃ (r : Fin 512) (l : Fin 1024), y = ix2 r l := ⟨y 0, y 1, eq_ix2 y⟩
  rw [after0_8]
  by_cases h : t.val % 32 = 0
  all_goals
    first | rw [outsAt0_A m c t h] | rw [outsAt0_B m c t h]
    frame_out
    refine (blk_at m X G W Z Y c hx hg hw hz hy t r l).trans ?_
    blk_ext [idx t]

end

/-- The rows' products, summed down a block. -/
def acc (z : FVec Ideal S512x2816 .bf16) (w : FVec Ideal S1024x2816 .bf16) (y : FVec Ideal S512x2816 .bf16) (v : FVec Ideal S1024x2816 .bf16) (x : FVec Ideal S512x1024 .f32) : S1x1024.Idx → EReal :=
  fun j => ∑ r : Fin 512, k0_pay4 (F := Ideal) z w y v (ix2 r (j 1)) * k0_pay7 (F := Ideal) x (ix2 r (j 1))

/-- A block's contribution to the gradient of the norm's weight: its rows' products, in row 0. -/
def part (c : Dev nD) (t : Fin cfg0.N) : S8x1024.Idx → EReal :=
  fun j => if (j 0).val = 0 then acc (iblk m c 0 t) (iblk m c 2 t) (iblk m c 1 t) (iblk m c 3 t) (iblk m c 4 t) (ix2 0 (j 1)) else 0

theorem stepA (c : Dev nD) (t : Fin cfg0.N) (h : t.val % 32 = 0) (j : S8x1024.Idx) : (outsAt0 m c t.val t.isLt).2.2 j = (0 : EReal) + part m c t j := by
  rw [outsAt0_A m c t h]; frame_out
  obtain ⟨r, l, rfl⟩ : ∃ (r : Fin 8) (l : Fin 1024), j = ix2 r l := ⟨j 0, j 1, eq_ix2 j⟩
  rw [Stores.canon_first, View.readCov_fill _ _ _ _ _ (by decide), View.canon_cons_unit_lit _ _ _ (by decide)]
  by_cases hr : r.val = 0
  · rw [if_pos hr]
    pointwise [part, acc, k0_pay1, k0_pay5]
    rw [if_pos hr]
  · rw [if_neg hr]
    pointwise [part, acc, k0_pay1, k0_pay5]
    rw [if_neg hr]

theorem stepB (c : Dev nD) (t : Fin cfg0.N) (h : ¬ t.val % 32 = 0) (j : S8x1024.Idx) :
    (outsAt0 m c t.val t.isLt).2.2 j = ((outsAt0 m c (t.val - 1) (by have := t.isLt; omega)).2.2 j : EReal) + part m c t j := by
  rw [outsAt0_B m c t h]; frame_out
  obtain ⟨r, l, rfl⟩ : ∃ (r : Fin 8) (l : Fin 1024), j = ix2 r l := ⟨j 0, j 1, eq_ix2 j⟩
  rw [Stores.read_first, View.writes_nil, Stores.read_unread]
  by_cases hr : r.val = 0
  · rw [if_pos hr]
    obtain rfl : r = 0 := Fin.ext hr
    pointwise [part, acc, k0_pay1, k0_pay5]
  · rw [if_neg hr]
    pointwise [part, acc, k0_pay1, k0_pay5]
    rw [if_neg hr, add_zero]

/-- One product of a row. -/
theorem part_at (c : Dev nD) (t : Fin cfg0.N) (l : Fin 1024) :
    acc (iblk m c 0 t) (iblk m c 2 t) (iblk m c 1 t) (iblk m c 3 t) (iblk m c 4 t) (ix2 0 l) = ∑ r : Fin 512,
      MmupRefIdeal.RefValue.prod (m ((c : Thread nD τ).loc main_arg0)) (m ((c : Thread nD τ).loc main_arg2)) (m ((c : Thread nD τ).loc main_arg3)) (m ((c : Thread nD τ).loc main_arg4)) (row t r) l := by
  pointwise [acc, k0_pay7, k0_pay6, k0_pay4]
  simp only [rd0, rd1, rd2, rd3, rd4]
  rfl

theorem row_run (t : Fin cfg0.N) (s : Fin 32) (h : 32 * (t.val / 32) + s.val < cfg0.N) (k : Fin 512) (h' : s.val * 512 + k.val < 16384) :
    row ⟨32 * (t.val / 32) + s.val, h⟩ k = ⟨s.val * 512 + k.val, h'⟩ := by
  have : t.val < 32 := t.isLt
  exact Fin.ext (by show (32 * (t.val / 32) + s.val) * 512 + k.val = s.val * 512 + k.val; omega)

theorem parts_sum (c : Dev nD) (t : Fin cfg0.N) (h : ∀ s : Fin 32, 32 * (t.val / 32) + s.val < cfg0.N) (r : Fin 8) (l : Fin 1024) :
    ∑ s : Fin 32, part m c ⟨32 * (t.val / 32) + s.val, h s⟩ (ix2 r l)
      = MmupRefIdeal.RefValue.dg (m ((c : Thread nD τ).loc main_arg0)) (m ((c : Thread nD τ).loc main_arg2)) (m ((c : Thread nD τ).loc main_arg3)) (m ((c : Thread nD τ).loc main_arg4)) (ix2 r l) := by
  have hp : ∀ t', part m c t' (ix2 r l) = if r.val = 0 then ∑ k : Fin 512, MmupRefIdeal.RefValue.prod (m ((c : Thread nD τ).loc main_arg0))
      (m ((c : Thread nD τ).loc main_arg2)) (m ((c : Thread nD τ).loc main_arg3)) (m ((c : Thread nD τ).loc main_arg4)) (row t' k) l else 0 := fun t' => by
    rw [← part_at m c t' l]; rfl
  have hd : ∀ x w z y, MmupRefIdeal.RefValue.dg x w z y (ix2 r l) = if r.val = 0 then ∑ R : Fin 16384, MmupRefIdeal.RefValue.prod x w z y R l else 0 :=
    fun x w z y => rfl
  rw [hd]
  simp only [hp]
  by_cases hr : r.val = 0
  · have hb : ∀ (s : Fin 32) (k : Fin 512), s.val * 512 + k.val < 16384 := fun s k => by omega
    simp only [if_pos hr, row_run t _ (h _) _ (hb _ _)]
    exact Norm.rows_sum 32 512 (by norm_num) (fun R => MmupRefIdeal.RefValue.prod _ _ _ _ R l) hb
  · simp only [if_neg hr, Finset.sum_const_zero]

theorem final9 (c : Dev nD) : (dats m 0 c).arrAt 9 cfg0.N
    = MmupRefIdeal.RefValue.dg (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, Pipeline.eq_sum_fin_of_reset_step_apply_of_flush (f := fun n h => (outsAt0 m c n h).2.2) 32 (fun _ => (0 : EReal)) (part m c)
        (fun t h j => stepA m c t h j) (fun t h j => stepB m c t h j) t ((flush0_9 t).mp hf) _]
  obtain ⟨r, l, rfl⟩ : ∃ (r : Fin 8) (l : Fin 1024), y = ix2 r l := ⟨y 0, y 1, eq_ix2 y⟩
  rw [zero_add, show (win0_9.blk t).view.emb (ix2 r l) = ix2 r l by blk_ext [idx t]]
  have ht := (flush0_9 t).mp hf
  have hN : t.val < 32 := t.isLt
  exact parts_sum m c t _ r l

end Cert.MmupIdeal.RefValue

end
-- ==== Proof.Attention.lean ====
/-
  One row of attention over the real numbers, with its gradient: weights that may be zero, one more weight that belongs to no
  key (the sink), and the cotangents of the probabilities. Then the same quantities as the programs compute them, from scores
  that are real numbers or minus infinity, after subtracting the row's largest score. Shared by the certificates of the
  attention's calls.
-/
module

public import proofs.«01_k».proof.Proof.Common
public import Idealize.ShloMosaic.Lib.Pipeline.ValueKit

@[expose] public section

noncomputable section

namespace Cert.Attention

open Idealize.ShloMosaic Cert.Common

variable {n : Type} [Fintype n] (w : n → ℝ) (u : ℝ) (v : n → ℝ)

/-- What the weights are divided by. -/
def total : ℝ := (∑ k, w k) + u

/-- The probability of a key. -/
def prob (k : n) : ℝ := w k / total w u

/-- The probability of the sink. -/
def rest : ℝ := u / total w u

/-- The mean cotangent of the row. -/
def delta : ℝ := ∑ k, v k * prob w u k

/-- The gradient of a score. -/
def grad (k : n) : ℝ := prob w u k * (v k - delta w u v)

/-- The weight of a score: its exponential where the key may be looked at, and zero elsewhere. -/
def weight (ok : Prop) [Decidable ok] (s : ℝ) : ℝ := if ok then Real.exp s else 0

/-- A score as the programs hold it. -/
def score (ok : Prop) [Decidable ok] (s : ℝ) : EReal := if ok then (s : EReal) else ⊥

theorem weight_nonneg (ok : Prop) [Decidable ok] (s : ℝ) : 0 ≤ weight ok s := by
  unfold weight
  split
  · exact (Real.exp_pos s).le
  · exact le_rfl

variable {w u v}

theorem total_pos (hw : ∀ k, 0 ≤ w k) (hu : 0 < u) : 0 < total w u :=
  add_pos_of_nonneg_of_pos (Finset.sum_nonneg fun k _ => hw k) hu

theorem prob_zero {k : n} (h : w k = 0) : prob w u k = 0 := by rw [prob, h, zero_div]
theorem grad_zero {k : n} (h : w k = 0) : grad w u v k = 0 := by rw [grad, prob_zero h, zero_mul]

/-- The gradient only looks at cotangents of keys with a weight. -/
theorem delta_congr {v' : n → ℝ} (h : ∀ k, w k ≠ 0 → v k = v' k) : delta w u v = delta w u v' :=
  Finset.sum_congr rfl fun k _ => by
    by_cases hk : w k = 0
    · rw [prob_zero hk, mul_zero, mul_zero]
    · rw [h k hk]

theorem grad_congr {v' : n → ℝ} (h : ∀ k, w k ≠ 0 → v k = v' k) (k : n) : grad w u v k = grad w u v' k := by
  by_cases hk : w k = 0
  · rw [grad_zero hk, grad_zero hk]
  · rw [grad, grad, h k hk, delta_congr h]

/-- What the scores' gradients and the sink's add up to. -/
theorem sum_grad (hw : ∀ k, 0 ≤ w k) (hu : 0 < u) : ∑ k, grad w u v k = delta w u v * rest w u := by
  have ht := (total_pos hw hu).ne'
  have hp : ∑ k, prob w u k = 1 - rest w u := by
    simp only [prob, rest, ← Finset.sum_div]
    rw [eq_sub_iff_add_eq, ← add_div]
    exact div_self ht
  have : ∀ k, grad w u v k = v k * prob w u k - delta w u v * prob w u k := fun k => by rw [grad]; ring
  rw [Finset.sum_congr rfl fun k _ => this k, Finset.sum_sub_distrib, ← Finset.mul_sum, hp]
  show delta w u v - _ = _
  ring

/-! ## The row's largest score -/

/-- The word 0xFF800000 is minus infinity. -/
theorem ofBits_bot : Ideal.ofBits .f32 0xFF800000#32 = ⊥ := by simp [Ideal.ofBits, Ideal.ieee]

/-- The word 0x3E000000 is one eighth. -/
theorem ofBits_eighth : Ideal.ofBits .f32 0x3E000000#32 = ((1 / 8 : ℝ) : EReal) := by
  simp [Ideal.ofBits, Ideal.ieee, -EReal.coe_mul]
  norm_num

theorem score_ne_top (ok : Prop) [Decidable ok] (s : ℝ) : score ok s ≠ ⊤ := by
  unfold score
  split
  · exact EReal.coe_ne_top s
  · exact bot_ne_top

theorem fold_ne_top (S : n → EReal) (h : ∀ k, S k ≠ ⊤) : Finset.univ.fold max ⊥ S ≠ ⊤ := by
  have : Finset.univ.fold max ⊥ S < ⊤ := Finset.fold_max_lt _ |>.mpr ⟨bot_lt_top, fun k _ => lt_top_iff_ne_top.mpr (h k)⟩
  exact this.ne

/-- The largest of the scores and the sink is a real number. -/
theorem max_real (x : EReal) (h : x ≠ ⊤) (z : ℝ) : ∃ M : ℝ, max x (z : EReal) = (M : EReal) := by
  induction x with
  | bot => exact ⟨z, by simp⟩
  | top => exact absurd rfl h
  | coe r => exact ⟨max r z, (EReal.coe_strictMono.monotone.map_max).symm⟩

/-- The largest score is one of them. -/
theorem fold_attained [Nonempty n] (S : n → EReal) : ∃ k, S k = Finset.univ.fold max ⊥ S := by
  have h := Finset.exists_mem_eq_sup (Finset.univ : Finset n) Finset.univ_nonempty S
  obtain ⟨k, _, hk⟩ := h
  exact ⟨k, hk.symm⟩

/-- The exponential after subtracting a real number. -/
theorem exp_score (ok : Prop) [Decidable ok] (s M : ℝ) : Ideal.exp (score ok s - (M : EReal)) = ((Real.exp (-M) * weight ok s : ℝ) : EReal) := by
  unfold score weight
  split
  · rw [← EReal.coe_sub, Ideal.exp_coe, ← Real.exp_add]
    congr 2
    ring
  · rw [EReal.bot_sub, Ideal.exp_bot, mul_zero, EReal.coe_zero]

theorem exp_sink (z M : ℝ) : Ideal.exp ((z : EReal) - (M : EReal)) = ((Real.exp (-M) * Real.exp z : ℝ) : EReal) := by
  rw [← EReal.coe_sub, Ideal.exp_coe, ← Real.exp_add]
  congr 2
  ring

/-! ## The kernels' forms, from exponentials that carry a common factor -/

variable {a : ℝ}

theorem scaled_total (a : ℝ) (w : n → ℝ) (u : ℝ) : (∑ k, ((a * w k : ℝ) : EReal)) + ((a * u : ℝ) : EReal) = ((a * total w u : ℝ) : EReal) := by
  rw [← coe_sum, ← EReal.coe_add, total, mul_add, Finset.mul_sum]

theorem inv_at (ha : 0 < a) (ht : 0 < total w u) : Ideal.div 1 ((a * total w u : ℝ) : EReal) = ((1 / (a * total w u) : ℝ) : EReal) := by
  rw [← EReal.coe_one, div_real _ _ (mul_pos ha ht).ne']

theorem prob_at (ha : 0 < a) (ht : 0 < total w u) (k : n) :
    ((a * w k : ℝ) : EReal) * ((1 / (a * total w u) : ℝ) : EReal) = (prob w u k : EReal) := by
  rw [← EReal.coe_mul, prob]
  congr 1
  field_simp

theorem rest_at (ha : 0 < a) (ht : 0 < total w u) :
    ((a * u : ℝ) : EReal) * ((1 / (a * total w u) : ℝ) : EReal) = (rest w u : EReal) := by
  rw [← EReal.coe_mul, rest]
  congr 1
  field_simp

theorem delta_at (w : n → ℝ) (u : ℝ) (v : n → ℝ) : ∑ k, (v k : EReal) * (prob w u k : EReal) = (delta w u v : EReal) := by
  simp only [← EReal.coe_mul, ← coe_sum, delta]

theorem grad_at (w : n → ℝ) (u : ℝ) (v : n → ℝ) (k : n) :
    (prob w u k : EReal) * ((v k : EReal) - (delta w u v : EReal)) = (grad w u v k : EReal) := by
  rw [← EReal.coe_sub, ← EReal.coe_mul, grad]

/-! ## The derivative's forms -/

theorem quot_at (ha : 0 < a) (ht : 0 < total w u) (k : n) :
    Ideal.div ((a * w k : ℝ) : EReal) ((a * total w u : ℝ) : EReal) = (prob w u k : EReal) := by
  rw [div_real _ _ (mul_pos ha ht).ne', prob, mul_div_mul_left _ _ ha.ne']

/-- The denominator's cotangent. -/
theorem denom_at (ha : 0 < a) (ht : 0 < total w u) :
    -∑ k, (v k : EReal) * Ideal.div 1 (((a * total w u : ℝ) : EReal) * ((a * total w u : ℝ) : EReal)) * ((a * w k : ℝ) : EReal)
      = ((-(delta w u v / (a * total w u)) : ℝ) : EReal) := by
  have h := (mul_pos ha ht).ne'
  rw [← EReal.coe_mul, ← EReal.coe_one, div_real _ _ (mul_ne_zero h h)]
  simp only [← EReal.coe_mul, ← coe_sum]
  rw [← EReal.coe_neg]
  congr 2
  rw [delta, Finset.sum_div]
  refine Finset.sum_congr rfl fun k _ => ?_
  rw [prob]
  field_simp

theorem sink_grad_at (ha : 0 < a) (ht : 0 < total w u) :
    ((-(delta w u v / (a * total w u)) : ℝ) : EReal) * ((a * u : ℝ) : EReal) = ((-(rest w u * delta w u v) : ℝ) : EReal) := by
  rw [← EReal.coe_mul, rest]
  congr 1
  field_simp

theorem exp_grad_at (ha : 0 < a) (ht : 0 < total w u) (k : n) :
    (Ideal.div (v k : EReal) ((a * total w u : ℝ) : EReal) + ((-(delta w u v / (a * total w u)) : ℝ) : EReal)) * ((a * w k : ℝ) : EReal)
      = (grad w u v k : EReal) := by
  rw [div_real _ _ (mul_pos ha ht).ne', ← EReal.coe_add, ← EReal.coe_mul, grad, prob]
  congr 1
  field_simp
  ring

/-- The largest score's own gradient vanishes. -/
theorem max_grad_at (hw : ∀ k, 0 ≤ w k) (hu : 0 < u) :
    -((-(rest w u * delta w u v) : ℝ) : EReal) + ∑ k, -(grad w u v k : EReal) = 0 := by
  simp only [← EReal.coe_neg, ← coe_sum]
  rw [← EReal.coe_add, Finset.sum_neg_distrib, sum_grad hw hu, ← EReal.coe_zero]
  congr 1
  ring

/-- So what the derivative spreads over the scores equal to the largest is nothing. -/
theorem spread_at {S : n → EReal} {t : EReal} (ht : ∃ k, S k = t) (k : n) :
    Ideal.div 0 (∑ j, ((if S j = t then 1 else 0 : ℝ) : EReal)) * ((if S k = t then 1 else 0 : ℝ) : EReal) = 0 := by
  obtain ⟨j, hj⟩ := ht
  have hpos : (∑ j, if S j = t then 1 else 0 : ℝ) ≠ 0 := by
    refine (lt_of_lt_of_le (by rw [if_pos hj]; norm_num) (Finset.single_le_sum (f := fun j => if S j = t then (1 : ℝ) else 0)
      (fun i _ => ?_) (Finset.mem_univ j))).ne'
    split <;> norm_num
  simp only [← coe_sum]
  rw [← EReal.coe_zero, div_real _ _ hpos, zero_div, EReal.coe_zero, zero_mul]

end Cert.Attention

end
-- ==== Proof.SwaScores.lean ====
/-
  The quantities of the sliding-window attention and of its gradient as functions of the arguments, over the real numbers, and the scores as
  the reference writes them: a real number for a key that a query may look at, minus infinity for another.
-/
module

public import proofs.«01_k».proof.Proof.Attention
public import proofs.«01_k».proof.Proof.Gen.SwaRefIdeal.Run
public import Idealize.ShloMosaic.Lib.Pipeline.ValueKit

@[expose] public section

set_option maxRecDepth 16384

noncomputable section

namespace Cert.SwaRefIdeal.RefValue

open Cert.SwaRefIdeal Cert.SwaRefIdeal.Gen Cert.SwaRefIdeal.Value Idealize.ShloMosaic Idealize.ShloMosaic.TcCoe Cert.Attention

/-! ## What is computed, over the reals: `X` the projections, `Z` the sinks, `Y` the cotangent of the mixed output -/

section Spec

variable (X : S16384x2816.Idx → ℝ) (Z : S8.Idx → ℝ) (Y : S16384x1024.Idx → ℝ)

/-- The key or value of place `k` of the two blocks that block `n` looks at, from the columns at `o`; before the first block lie zeros. -/
def key (o : ℕ) (ho : o + 128 ≤ 2816) (n : Fin 128) (k : Fin 256) (h : Fin 2) (d : Fin 64) : ℝ :=
  if _hk : k.val < 128 then if _hn : n.val < 1 then 0 else X (ix2 ⟨(n.val - 1) * 128 + k.val, by omega⟩ ⟨o + (h.val * 64 + d.val), by omega⟩)
  else X (ix2 ⟨n.val * 128 + (k.val - 128), by omega⟩ ⟨o + (h.val * 64 + d.val), by omega⟩)

def query (n q : Fin 128) (h : Fin 2) (g : Fin 4) (d : Fin 64) : ℝ :=
  X (ix2 ⟨n.val * 128 + q.val, by omega⟩ ⟨2048 + (h.val * 256 + g.val * 64 + d.val), by omega⟩)

def cot (n q : Fin 128) (h : Fin 2) (g : Fin 4) (d : Fin 64) : ℝ :=
  Y (ix2 ⟨n.val * 128 + q.val, by omega⟩ ⟨512 + (h.val * 256 + g.val * 64 + d.val), by omega⟩)

/-- The keys a query may look at: itself and the 127 before it, none before the first. -/
abbrev ok (n q : Fin 128) (k : Fin 256) : Prop := k.val ≤ q.val + 128 ∧ q.val < k.val ∧ ¬ (n.val = 0 ∧ k.val < 128)

def scr (n : Fin 128) (h : Fin 2) (g : Fin 4) (q : Fin 128) (k : Fin 256) : ℝ :=
  (∑ d, key X 2560 (by norm_num) n k h d * query X n q h g d) * (1 / 8)

def wt (n : Fin 128) (h : Fin 2) (g : Fin 4) (q : Fin 128) (k : Fin 256) : ℝ := weight (ok n q k) (scr X n h g q k)

def sink (h : Fin 2) (g : Fin 4) : ℝ := Z (ix1 ⟨h.val * 4 + g.val, by omega⟩)

/-- The cotangent of a probability. -/
def dp (n : Fin 128) (h : Fin 2) (g : Fin 4) (q : Fin 128) (k : Fin 256) : ℝ :=
  ∑ d, cot Y n q h g d * key X 2688 (by norm_num) n k h d

def pr (n : Fin 128) (h : Fin 2) (g : Fin 4) (q : Fin 128) (k : Fin 256) : ℝ := prob (wt X n h g q) (Real.exp (sink Z h g)) k

def gr (n : Fin 128) (h : Fin 2) (g : Fin 4) (q : Fin 128) (k : Fin 256) : ℝ :=
  grad (wt X n h g q) (Real.exp (sink Z h g)) (dp X Y n h g q) k

def dv (n : Fin 128) (k : Fin 256) (h : Fin 2) (d : Fin 64) : ℝ := ∑ g, ∑ q, cot Y n q h g d * pr X Z n h g q k

def dk (n : Fin 128) (k : Fin 256) (h : Fin 2) (d : Fin 64) : ℝ := ∑ q, ∑ g, gr X Z Y n h g q k * (1 / 8) * query X n q h g d

def dq (n q : Fin 128) (h : Fin 2) (g : Fin 4) (d : Fin 64) : ℝ := ∑ k, gr X Z Y n h g q k * (1 / 8) * key X 2560 (by norm_num) n k h d

/-- One block's share of the gradient of a sink. -/
def ds (n : Fin 128) (h : Fin 2) (g : Fin 4) (q : Fin 128) : ℝ :=
  -(rest (wt X n h g q) (Real.exp (sink Z h g)) * delta (wt X n h g q) (Real.exp (sink Z h g)) (dp X Y n h g q))

def dsink (h : Fin 2) (g : Fin 4) (q : Fin 128) : ℝ := ∑ n, ds X Z Y n h g q

theorem wt_nonneg (n : Fin 128) (h : Fin 2) (g : Fin 4) (q : Fin 128) (k : Fin 256) : 0 ≤ wt X n h g q k := weight_nonneg _ _

theorem tot_pos (n : Fin 128) (h : Fin 2) (g : Fin 4) (q : Fin 128) : 0 < total (wt X n h g q) (Real.exp (sink Z h g)) :=
  total_pos (wt_nonneg X n h g q) (Real.exp_pos _)

end Spec

/-! ## The reference's intermediate arrays -/

variable (V0 : Valuation τ sig (Elt Ideal))
variable (X : S16384x2816.Idx → ℝ) (Z : S8.Idx → ℝ) (Y : S16384x1024.Idx → ℝ)

section
variable (hx : V0 (Proc.devRef .tc main_arg0) = fun i => ((X i : ℝ) : EReal))
include hx

theorem v1_at (n q : Fin 128) (h : Fin 2) (g : Fin 4) (d : Fin 64) : res_main_v1 V0 (ix5 n q h g d) = (query X n q h g d : EReal) := by
  pointwise [res_main_v1, hx, query]

theorem v9_at (n : Fin 128) (k : Fin 256) (h : Fin 2) (d : Fin 64) :
    res_main_v9 V0 (ix4 n k h d) = (key X 2560 (by norm_num) n k h d : EReal) := by
  pointwise [res_main_v9, res_main_v6, res_main_v3, hx, key]
  split_ifs <;> simp

theorem v12_at (n : Fin 128) (k : Fin 256) (h : Fin 2) (d : Fin 64) :
    res_main_v12 V0 (ix4 n k h d) = (key X 2688 (by norm_num) n k h d : EReal) := by
  pointwise [res_main_v12, res_main_v6, res_main_v5, hx, key]
  split_ifs <;> simp
end

theorem v26_at (z : Fin 1) (k : Fin 256) : res_main_v26 V0 (ix2 z k) = BitVec.ofNat 32 k.val := by
  pointwise [res_main_v26]

theorem v29_at (q : Fin 128) (k : Fin 256) :
    res_main_v29 V0 (ix2 q k) = IntOp.subi (IntOp.addi (BitVec.ofNat 32 q.val) 128#32) (BitVec.ofNat 32 k.val) := by
  pointwise [res_main_v29, v26_at]

theorem near_at : ∀ (q : Fin 128) (k : Fin 256),
    IntOp.andi (IntOp.cmpi .sge (IntOp.subi (IntOp.addi (BitVec.ofNat 32 q.val) 128#32) (BitVec.ofNat 32 k.val)) 0#32)
        (IntOp.cmpi .slt (IntOp.subi (IntOp.addi (BitVec.ofNat 32 q.val) 128#32) (BitVec.ofNat 32 k.val)) 128#32)
      = if k.val ≤ q.val + 128 ∧ q.val < k.val then 1#1 else 0#1 := by
  decide +kernel

theorem first_at : ∀ n : Fin 128, IntOp.cmpi .eq (BitVec.ofNat 32 n.val) 0#32 = if n.val = 0 then 1#1 else 0#1 := by
  decide +kernel

theorem before_at : ∀ k : Fin 256, IntOp.cmpi .slt (BitVec.ofNat 32 k.val) 128#32 = if k.val < 128 then 1#1 else 0#1 := by
  decide +kernel

theorem v51_1_at (n : Fin 128) (h : Fin 2) (g : Fin 4) (q : Fin 128) (k : Fin 256) :
    res_main_v51_1 V0 (ix5 n h g q k) = if ok n q k then 1#1 else 0#1 := by
  pointwise [res_main_v51_1, v26_at, v29_at]
  rw [near_at, first_at, before_at]
  by_cases h1 : k.val ≤ q.val + 128 ∧ q.val < k.val <;> by_cases h2 : n.val = 0 <;> by_cases h3 : k.val < 128 <;>
    simp [ok, h1, h2, h3, IntOp.andi]

/-- A place of the array of scores, without its last coordinate. -/
theorem drop_at (n : Fin 128) (h : Fin 2) (g : Fin 4) (q : Fin 128) (k : Fin 256) :
    reducesTo_S128x2x4x128x256_S128x2x4x128_d4.drop (ix5 n h g q k) = ix4 n h g q := by
  funext j
  refine Fin.cases ?_ (fun j => Fin.cases ?_ (fun j => Fin.cases ?_ (fun j => Fin.cases ?_ (fun j => j.elim0) j) j) j) j <;> rfl

/-- A row's scores. -/
def row (n : Fin 128) (h : Fin 2) (g : Fin 4) (q : Fin 128) : Fin 256 → EReal := fun k => res_main_v51_0 V0 (ix5 n h g q k)

theorem fold_row (x : S128x2x4x128x256.Idx → EReal) (n : Fin 128) (h : Fin 2) (g : Fin 4) (q : Fin 128) (s : Finset S128x2x4x128x256.Idx)
    (hs : ∀ i, i ∈ s ↔ reducesTo_S128x2x4x128x256_S128x2x4x128_d4.drop i = ix4 n h g q) :
    s.fold max ⊥ x = Finset.univ.fold max ⊥ fun k : Fin 256 => x (ix5 n h g q k) := by
  have : s = (Finset.univ : Finset (Fin 256)).map ⟨fun k => (ix5 n h g q k : S128x2x4x128x256.Idx), fun a b hab => congrFun hab 4⟩ := by
    ext i
    obtain ⟨a, b, c, d, k, rfl⟩ : ∃ (a : Fin 128) (b : Fin 2) (c : Fin 4) (d : Fin 128) (k : Fin 256), i = ix5 a b c d k :=
      ⟨i 0, i 1, i 2, i 3, i 4, eq_ix5 i⟩
    rw [hs, drop_at, Finset.mem_map]
    constructor
    · intro he
      obtain rfl : a = n := congrFun he 0
      obtain rfl : b = h := congrFun he 1
      obtain rfl : c = g := congrFun he 2
      obtain rfl : d = q := congrFun he 3
      exact ⟨k, Finset.mem_univ k, rfl⟩
    · rintro ⟨k', _, he⟩
      obtain rfl : n = a := congrFun he 0
      obtain rfl : h = b := congrFun he 1
      obtain rfl : g = c := congrFun he 2
      obtain rfl : q = d := congrFun he 3
      rfl
  rw [this, Finset.fold_map]
  rfl

/-- The largest score of a row. -/
def top (n : Fin 128) (h : Fin 2) (g : Fin 4) (q : Fin 128) : EReal := Finset.univ.fold max ⊥ (row V0 n h g q)

theorem top_attained (n : Fin 128) (h : Fin 2) (g : Fin 4) (q : Fin 128) : ∃ k, row V0 n h g q k = top V0 n h g q := fold_attained _

theorem v53_at (n : Fin 128) (h : Fin 2) (g : Fin 4) (q : Fin 128) : res_main_v53 V0 (ix4 n h g q) = top V0 n h g q := by
  pointwise [res_main_v53]
  rw [ofBits_bot]
  exact fold_row _ n h g q _ fun i => by simp

section
variable (hx : V0 (Proc.devRef .tc main_arg0) = fun i => ((X i : ℝ) : EReal)) (hz : V0 (Proc.devRef .tc main_arg1) = fun i => ((Z i : ℝ) : EReal))
  (hy : V0 (Proc.devRef .tc main_arg2) = fun i => ((Y i : ℝ) : EReal))

include hx in
theorem v51_0_at (n : Fin 128) (h : Fin 2) (g : Fin 4) (q : Fin 128) (k : Fin 256) :
    res_main_v51_0 V0 (ix5 n h g q k) = score (ok n q k) (scr X n h g q k) := by
  pointwise [res_main_v51_0, v51_1_at, v9_at V0 X hx, v1_at V0 X hx]
  rw [ofBits_eighth, show (id (constant S_ .f32 4286578688#32 : FVec Ideal S_ .f32)) ix0 = ⊥ from ofBits_bot]
  simp only [← EReal.coe_mul, ← Common.coe_sum]
  unfold score
  by_cases hk : ok n q k
  · rw [if_pos hk, if_pos hk]
    rfl
  · rw [if_neg hk, if_neg hk]
    rfl

include hx in
theorem top_ne (n : Fin 128) (h : Fin 2) (g : Fin 4) (q : Fin 128) : top V0 n h g q ≠ ⊤ :=
  fold_ne_top _ fun k => by rw [row, v51_0_at V0 X hx]; exact score_ne_top _ _

include hz in
theorem v52_at (h : Fin 2) (g : Fin 4) (q : Fin 128) : res_main_v52 V0 (ix5 0 h g q 0) = (sink Z h g : EReal) := by
  pointwise [res_main_v52, hz, sink]

end

end Cert.SwaRefIdeal.RefValue

end
-- ==== Proof.SwaResults.lean ====
/-
  The results: the queries' gradient, the keys' and values' (one row per key), and the array that carries the gradients of the sinks: for each group of heads a row with every query's share, four rows with the heads'
  sums, and three rows of zeros.
-/
module

public import proofs.«01_k».proof.Proof.SwaScores

@[expose] public section

set_option maxRecDepth 16384

noncomputable section

namespace Cert.SwaRefIdeal.RefValue

open Cert.SwaRefIdeal Cert.SwaRefIdeal.Gen Cert.SwaRefIdeal.Value Idealize.ShloMosaic Idealize.ShloMosaic.TcCoe Cert.Attention

variable (X : S16384x2816.Idx → ℝ) (Z : S8.Idx → ℝ) (Y : S16384x1024.Idx → ℝ)

/-- The gradient of the queries, one row per token. -/
def res0v : FVec Ideal S16384x512 .bf16 := fun i =>
  ((dq X Z Y ⟨(i 0).val / 128, by have : (i 0).val < 16384 := (i 0).isLt; omega⟩ ⟨(i 0).val % 128, by omega⟩ ⟨(i 1).val / 256, by have : (i 1).val < 512 := (i 1).isLt; omega⟩
    ⟨(i 1).val / 64 % 4, by omega⟩ ⟨(i 1).val % 64, by omega⟩ : ℝ) : EReal)

/-- A result with one row per key, from the array over blocks and their two blocks of keys: the block's own rows (`o` = 128) or the
    rows of the block before (`o` = 0). -/
def rows (f : Fin 128 → Fin 256 → Fin 2 → Fin 64 → ℝ) (o : ℕ) (ho : o + 128 ≤ 256) : FVec Ideal S16384x128 .f32 := fun i =>
  ((f ⟨(i 0).val / 128, by have : (i 0).val < 16384 := (i 0).isLt; omega⟩ ⟨o + (i 0).val % 128, by omega⟩ ⟨(i 1).val / 64, by have : (i 1).val < 128 := (i 1).isLt; omega⟩
    ⟨(i 1).val % 64, by omega⟩ : ℝ) : EReal)

theorem res_own (x : FVec Ideal S128x256x2x64 .f32) (f : Fin 128 → Fin 256 → Fin 2 → Fin 64 → ℝ) (hf : ∀ n k h d, x (ix4 n k h d) = (f n k h d : EReal)) :
    shapeCast S16384x128 (extractStridedSlice S128x128x2x64 ![0, 128, 0, 0] x slices_S128x256x2x64_S128x128x2x64_0_128_0_0) shapeCasts_S128x128x2x64_S16384x128 = rows f 128 (by norm_num) := by
  funext y
  obtain ⟨r, l, rfl⟩ : ∃ (r : Fin 16384) (l : Fin 128), y = ix2 r l := ⟨y 0, y 1, eq_ix2 y⟩
  pointwise [hf]
  rfl

theorem res_before (x : FVec Ideal S128x256x2x64 .f32) (f : Fin 128 → Fin 256 → Fin 2 → Fin 64 → ℝ) (hf : ∀ n k h d, x (ix4 n k h d) = (f n k h d : EReal)) :
    shapeCast S16384x128 (extractStridedSlice S128x128x2x64 ![0, 0, 0, 0] x slices_S128x256x2x64_S128x128x2x64_0_0_0_0) shapeCasts_S128x128x2x64_S16384x128 = rows f 0 (by norm_num) := by
  funext y
  obtain ⟨r, l, rfl⟩ : ∃ (r : Fin 16384) (l : Fin 128), y = ix2 r l := ⟨y 0, y 1, eq_ix2 y⟩
  pointwise [hf]
  simp only [rows, zero_add]
  rfl

/-- A row of the array of sinks: every query's share, a head's sum, or zero. -/
def sinkRow (f : Fin 2 → Fin 4 → Fin 128 → ℝ) (h : Fin 2) (s : ℕ) (l : Fin 512) : ℝ :=
  if s = 0 then f h ⟨l.val / 128, by omega⟩ ⟨l.val % 128, by omega⟩
  else if hs : s ≤ 4 then ∑ q, f h ⟨s - 1, by omega⟩ q else 0

/-- The array of sinks. -/
def sinkRows (f : Fin 2 → Fin 4 → Fin 128 → ℝ) : FVec Ideal S16x512 .f32 := fun i =>
  ((sinkRow f ⟨(i 0).val / 8, by have : (i 0).val < 16 := (i 0).isLt; omega⟩ ((i 0).val % 8) (i 1) : ℝ) : EReal)

theorem sinkRow_at (f : Fin 2 → Fin 4 → Fin 128 → ℝ) (r : Fin 16) (l : Fin 512) (z : EReal) (hz : z = 0) :
    (if _h : r.val / 8 < 2 ∧ r.val % 8 < 5 then
      if _h1 : r.val % 8 < 1 then ((f ⟨r.val / 8, by omega⟩ ⟨l.val / 128, by omega⟩ ⟨l.val % 128, by omega⟩ : ℝ) : EReal)
      else ∑ q, ((f ⟨r.val / 8, by omega⟩ ⟨r.val % 8 - 1, by omega⟩ q : ℝ) : EReal)
    else z) = ((sinkRow f ⟨r.val / 8, by omega⟩ (r.val % 8) l : ℝ) : EReal) := by
  unfold sinkRow
  by_cases h0 : r.val % 8 = 0
  · rw [dif_pos (by omega), dif_pos (by omega), if_pos h0]
  by_cases h4 : r.val % 8 ≤ 4
  · rw [dif_pos (by omega), dif_neg (by omega), if_neg h0, dif_pos h4, ← Common.coe_sum]
  · rw [dif_neg (by omega), if_neg h0, dif_neg h4, hz, EReal.coe_zero]

theorem res_sinks (x : FVec Ideal S2x4x128 .f32) (f : Fin 2 → Fin 4 → Fin 128 → ℝ) (hx : ∀ h g q, x (ix3 h g q) = (f h g q : EReal)) :
    shapeCast S16x512 (pad S2x8x512 ![0, 0, 0] ![0, 3, 0] ![0, 0, 0] (concatenate S2x5x512 1 [⟨S2x1x512, (shapeCast _ x shapeCasts_S2x4x128_S2x1x512)⟩,
      ⟨S2x4x512, (broadcastInDim S2x4x512 ![0, 1, 2] bcast_S2x4x1_S2x4x512_0_1_2 (broadcastInDim S2x4x1 ![0, 1] bcast_S2x4_S2x4x1_0_1
        (Host.reduceAdd x (constant S_ .f32 0x00000000#32) reducesTo_S2x4x128_S2x4_d2 h_S_)))⟩] concatenates_S2x1x512_S2x4x512_S2x5x512_d1)
      (sitofp .f32 (constantI S_ 32 0#32)) pads_S2x5x512_S2x8x512_000_030_000 h_S_) shapeCasts_S2x8x512_S16x512 = sinkRows f := by
  funext y
  obtain ⟨r, l, rfl⟩ : ∃ (r : Fin 16) (l : Fin 512), y = ix2 r l := ⟨y 0, y 1, eq_ix2 y⟩
  pointwise [hx]
  exact sinkRow_at f r l _ (by simp [FloatOps.sitofp])

end Cert.SwaRefIdeal.RefValue

end
-- ==== Proof.SwaReference.lean ====
/-
  The gradient of the sliding-window attention as the reference computes it: the vector-Jacobian product of the forward lines,
  read off element by element and brought to the formulas of one row of attention.
-/
module

public import proofs.«01_k».proof.Proof.SwaResults
public import proofs.«01_k».proof.Proof.Gen.SwaRefIdeal.Run
public import Idealize.ShloMosaic.Lib.Pipeline.ValueKit

@[expose] public section

set_option maxRecDepth 16384

noncomputable section

namespace Cert.SwaRefIdeal.RefValue

open Cert.SwaRefIdeal Cert.SwaRefIdeal.Gen Cert.SwaRefIdeal.Value Idealize.ShloMosaic Idealize.ShloMosaic.TcCoe Cert.Attention

/-! ## What is computed, over the reals: `X` the projections, `Z` the sinks, `Y` the cotangent of the mixed output -/

variable (V0 : Valuation τ sig (Elt Ideal))
variable (X : S16384x2816.Idx → ℝ) (Z : S8.Idx → ℝ) (Y : S16384x1024.Idx → ℝ)

section
variable (hx : V0 (Proc.devRef .tc main_arg0) = fun i => ((X i : ℝ) : EReal)) (hz : V0 (Proc.devRef .tc main_arg1) = fun i => ((Z i : ℝ) : EReal))
  (hy : V0 (Proc.devRef .tc main_arg2) = fun i => ((Y i : ℝ) : EReal))

include hz in
theorem v61_of (v : FVec Ideal S128x2x4x128 .f32) (hv : res_main_v53 V0 = v) (n : Fin 128) (h : Fin 2) (g : Fin 4) (q : Fin 128) :
    res_main_v61 V0 (ix5 n h g q 0) = max (v (ix4 n h g q)) (sink Z h g : EReal) := by
  rw [res_main_v61, res_main_v59, hv]
  pointwise [v52_at V0 Z hz]

include hx in
theorem v82_of (v : FVec Ideal S128x2x4x128x1 .f32) (hv : res_main_v61 V0 = v) (n : Fin 128) (h : Fin 2) (g : Fin 4) (q : Fin 128) (k : Fin 256) :
    res_main_v82 V0 (ix5 n h g q k) = Ideal.exp (score (ok n q k) (scr X n h g q k) - v (ix5 n h g q 0)) := by
  rw [res_main_v82, hv]
  pointwise [v51_0_at V0 X hx]

include hz in
theorem v87_of (v : FVec Ideal S128x2x4x128x1 .f32) (hv : res_main_v61 V0 = v) (n : Fin 128) (h : Fin 2) (g : Fin 4) (q : Fin 128) :
    res_main_v87 V0 (ix5 n h g q 0) = Ideal.exp ((sink Z h g : EReal) - v (ix5 n h g q 0)) := by
  rw [res_main_v87, hv]
  pointwise [v52_at V0 Z hz]

theorem v88_of (u : FVec Ideal S128x2x4x128x256 .f32) (hu : res_main_v82 V0 = u) (v : FVec Ideal S128x2x4x128x1 .f32) (hv : res_main_v87 V0 = v)
    (n : Fin 128) (h : Fin 2) (g : Fin 4) (q : Fin 128) (w : Fin 256 → EReal) (z : EReal) (hw : ∀ k, u (ix5 n h g q k) = w k)
    (hz : v (ix5 n h g q 0) = z) : res_main_v88 V0 (ix5 n h g q 0) = (∑ k : Fin 256, w k) + z := by
  rw [res_main_v88, hu, hv]
  pointwise [hw, hz]

include hx hz in
/-- A row's exponentials carry the exponential of minus the largest score as a common factor. -/
theorem row_at (n : Fin 128) (h : Fin 2) (g : Fin 4) (q : Fin 128) : ∃ a : ℝ, 0 < a
    ∧ (∀ k, res_main_v82 V0 (ix5 n h g q k) = ((a * wt X n h g q k : ℝ) : EReal))
    ∧ res_main_v87 V0 (ix5 n h g q 0) = ((a * Real.exp (sink Z h g) : ℝ) : EReal)
    ∧ res_main_v88 V0 (ix5 n h g q 0) = ((a * total (wt X n h g q) (Real.exp (sink Z h g)) : ℝ) : EReal) := by
  obtain ⟨M, hM⟩ := max_real (top V0 n h g q) (top_ne V0 X hx n h g q) (sink Z h g)
  have h61 : res_main_v61 V0 (ix5 n h g q 0) = (M : EReal) := by rw [v61_of V0 Z hz _ rfl, v53_at, hM]
  have h82 : ∀ k, res_main_v82 V0 (ix5 n h g q k) = ((Real.exp (-M) * wt X n h g q k : ℝ) : EReal) := fun k => by
    rw [v82_of V0 X hx _ rfl, h61]
    exact exp_score _ _ M
  have h87 : res_main_v87 V0 (ix5 n h g q 0) = ((Real.exp (-M) * Real.exp (sink Z h g) : ℝ) : EReal) := by
    rw [v87_of V0 Z hz _ rfl, h61]
    exact exp_sink _ M
  refine ⟨Real.exp (-M), Real.exp_pos _, h82, h87, ?_⟩
  exact (v88_of V0 _ rfl _ rfl n h g q _ _ h82 h87).trans (scaled_total _ _ _)

include hx hz in
theorem v90_at (n : Fin 128) (h : Fin 2) (g : Fin 4) (q : Fin 128) (k : Fin 256) :
    res_main_v90 V0 (ix5 n h g q k) = (pr X Z n h g q k : EReal) := by
  obtain ⟨a, ha, h82, h87, h88⟩ := row_at V0 X Z hx hz n h g q
  pointwise [res_main_v90, h82, h88]
  exact quot_at ha (tot_pos X Z n h g q) k

include hy in
theorem v96_at (n : Fin 128) (h : Fin 2) (d : Fin 64) (g : Fin 4) (q : Fin 128) : res_main_v96 V0 (ix5 n h d g q) = (cot Y n q h g d : EReal) := by
  pointwise [res_main_v96, hy, cot]

include hx hy in
theorem v97_at (n : Fin 128) (h : Fin 2) (g : Fin 4) (q : Fin 128) (k : Fin 256) : res_main_v97 V0 (ix5 n h g q k) = (dp X Y n h g q k : EReal) := by
  pointwise [res_main_v97, v96_at V0 Y hy, v12_at V0 X hx]
  simp only [← EReal.coe_mul, ← Common.coe_sum, dp]

include hx hz hy in
theorem v99_at (n : Fin 128) (k : Fin 256) (h : Fin 2) (d : Fin 64) : res_main_v99 V0 (ix4 n k h d) = (dv X Z Y n k h d : EReal) := by
  pointwise [res_main_v99, v96_at V0 Y hy, v90_at V0 X Z hx hz]
  simp only [← EReal.coe_mul, ← Common.coe_sum, dv]

include hx hz hy in
/-- The cotangents of the row's denominator, of the sink's exponential and of the keys' exponentials. -/
theorem cots_at (n : Fin 128) (h : Fin 2) (g : Fin 4) (q : Fin 128) :
    res_main_v108 V0 (ix5 n h g q 0) = (ds X Z Y n h g q : EReal) ∧ ∀ k, res_main_v115 V0 (ix5 n h g q k) = (gr X Z Y n h g q k : EReal) := by
  obtain ⟨a, ha, h82, h87, h88⟩ := row_at V0 X Z hx hz n h g q
  have ht := tot_pos X Z n h g q
  have h105 : res_main_v105 V0 (ix5 n h g q 0) = ((-(delta (wt X n h g q) (Real.exp (sink Z h g)) (dp X Y n h g q) / (a * total (wt X n h g q) (Real.exp (sink Z h g)))) : ℝ) : EReal) := by
    pointwise [res_main_v105, v97_at V0 X Y hx hy, h82, h88]
    exact denom_at ha ht
  constructor
  · pointwise [res_main_v108, h105, h87]
    exact sink_grad_at ha ht
  · intro k
    pointwise [res_main_v115, v97_at V0 X Y hx hy, h82, h88]
    rw [Fin.sum_univ_one, h105]
    exact exp_grad_at ha ht k

include hx hz hy in
theorem v119_at (n : Fin 128) (h : Fin 2) (g : Fin 4) (q : Fin 128) : res_main_v119 V0 (ix5 n h g q 0) = (0 : EReal) := by
  obtain ⟨h108, h115⟩ := cots_at V0 X Z Y hx hz hy n h g q
  pointwise [res_main_v119, h108, h115]
  exact max_grad_at (wt_nonneg X n h g q) (Real.exp_pos _)

theorem v57_of (v : FVec Ideal S128x2x4x128 .f32) (hv : res_main_v53 V0 = v) (n : Fin 128) (h : Fin 2) (g : Fin 4) (q : Fin 128) (k : Fin 256) :
    res_main_v57 V0 (ix5 n h g q k) = ((if row V0 n h g q k = v (ix4 n h g q) then 1 else 0 : ℝ) : EReal) := by
  rw [res_main_v57, hv, row]
  generalize res_main_v51_0 V0 = u
  pointwise []
  by_cases hk : u (ix5 n h g q k) = v (ix4 n h g q)
  · rw [if_pos hk]
    simp [hk, FloatOps.uitofp]
  · rw [if_neg hk]
    simp [hk, FloatOps.uitofp]

theorem v57_at (n : Fin 128) (h : Fin 2) (g : Fin 4) (q : Fin 128) (k : Fin 256) :
    res_main_v57 V0 (ix5 n h g q k) = ((if row V0 n h g q k = top V0 n h g q then 1 else 0 : ℝ) : EReal) := by
  rw [v57_of V0 _ rfl, v53_at]

theorem v134_of (v51 : IVec S128x2x4x128x256 1) (e51 : res_main_v51_1 V0 = v51) (v115 v57 : FVec Ideal S128x2x4x128x256 .f32)
    (e115 : res_main_v115 V0 = v115) (e57 : res_main_v57 V0 = v57) (v119 v59 : FVec Ideal S128x2x4x128x1 .f32) (e119 : res_main_v119 V0 = v119)
    (e59 : res_main_v59 V0 = v59) (v52 : FVec Ideal S1x2x4x128x1 .f32) (e52 : res_main_v52 V0 = v52)
    (n : Fin 128) (h : Fin 2) (k : Fin 256) (q : Fin 128) (g : Fin 4) (p : Prop) [Decidable p] (e : ℝ) (S : Fin 256 → EReal) (t : EReal)
    (h51 : v51 (ix5 n h g q k) = if p then 1#1 else 0#1) (h115 : v115 (ix5 n h g q k) = (e : EReal)) (h119 : v119 (ix5 n h g q 0) = (0 : EReal))
    (h57 : ∀ k, v57 (ix5 n h g q k) = ((if S k = t then 1 else 0 : ℝ) : EReal)) (ht : ∃ k, S k = t) (hp : ¬p → e = 0) :
    res_main_v134 V0 (ix5 n h k q g) = ((e * (1 / 8) : ℝ) : EReal) := by
  rw [res_main_v134, e51, e115, e57, e119, e59, e52]
  pointwise [h51, h115, h57]
  rw [Fin.sum_univ_one, h119, zero_mul, spread_at ht, add_zero, ofBits_eighth, ← EReal.coe_mul]
  by_cases hk : p
  · rw [if_pos hk]
    rfl
  · rw [if_neg hk, hp hk, zero_mul, EReal.coe_zero]
    rfl

include hx hz hy in
theorem v134_at (n : Fin 128) (h : Fin 2) (k : Fin 256) (q : Fin 128) (g : Fin 4) :
    res_main_v134 V0 (ix5 n h k q g) = ((gr X Z Y n h g q k * (1 / 8) : ℝ) : EReal) :=
  v134_of V0 _ rfl _ _ rfl rfl _ _ rfl rfl _ rfl n h k q g _ _ _ _ (v51_1_at V0 n h g q k) ((cots_at V0 X Z Y hx hz hy n h g q).2 k)
    (v119_at V0 X Z Y hx hz hy n h g q) (v57_at V0 n h g q) (top_attained V0 n h g q)
    fun hk => by rw [gr, grad_zero (by rw [wt, weight, if_neg hk])]

include hx hz hy in
theorem v138_at (n : Fin 128) (k : Fin 256) (h : Fin 2) (d : Fin 64) : res_main_v138 V0 (ix4 n k h d) = (dk X Z Y n k h d : EReal) := by
  pointwise [res_main_v138, v134_at V0 X Z Y hx hz hy, v1_at V0 X hx]
  simp only [← EReal.coe_mul, ← Common.coe_sum, dk]

/-! ## The results -/

include hx hz hy in
theorem res0 : (truncf .bf16 (shapeCast _ (transpose S128x128x2x4x64 [0, 2, 1, 3, 4] (Host.dotGeneral (φ₁ := .f32) (φ₂ := .f32) dot_S128x2x256x128x4_S128x256x2x64_S128x2x128x4x64_2_1_34_3_01_02 none (res_main_v134 V0) (res_main_v9 V0)) transposes_S128x2x128x4x64_S128x128x2x4x64_0_2_1_3_4) shapeCasts_S128x128x2x4x64_S16384x512) bitsLt_bf16_f32 : FVec Ideal S16384x512 .bf16)
    = res0v X Z Y := by
  funext y
  obtain ⟨r, l, rfl⟩ : ∃ (r : Fin 16384) (l : Fin 512), y = ix2 r l := ⟨y 0, y 1, eq_ix2 y⟩
  pointwise [v134_at V0 X Z Y hx hz hy, v9_at V0 X hx]
  simp only [← EReal.coe_mul, ← Common.coe_sum]
  rfl

theorem drop_ends (a : Fin 1) (h : Fin 2) (g : Fin 4) (q : Fin 128) (b : Fin 1) :
    reducesTo_S1x2x4x128x1_S2x4x128_d0_4.drop (ix5 a h g q b) = ix3 h g q := by
  funext j
  refine Fin.cases ?_ (fun j => Fin.cases ?_ (fun j => Fin.cases ?_ (fun j => j.elim0) j) j) j <;> rfl

theorem sum_ends (x : S1x2x4x128x1.Idx → EReal) (h : Fin 2) (g : Fin 4) (q : Fin 128) (s : Finset S1x2x4x128x1.Idx)
    (hs : ∀ i, i ∈ s ↔ reducesTo_S1x2x4x128x1_S2x4x128_d0_4.drop i = ix3 h g q) : ∑ i ∈ s, x i = x (ix5 0 h g q 0) := by
  have : s = {(ix5 0 h g q 0 : S1x2x4x128x1.Idx)} := by
    ext i
    obtain ⟨a, b, c, d, k, rfl⟩ : ∃ (a : Fin 1) (b : Fin 2) (c : Fin 4) (d : Fin 128) (k : Fin 1), i = ix5 a b c d k :=
      ⟨i 0, i 1, i 2, i 3, i 4, eq_ix5 i⟩
    obtain rfl : a = 0 := Subsingleton.elim _ _
    obtain rfl : k = 0 := Subsingleton.elim _ _
    rw [hs, drop_ends, Finset.mem_singleton]
    constructor
    · intro he
      obtain rfl : b = h := congrFun he 0
      obtain rfl : c = g := congrFun he 1
      obtain rfl : d = q := congrFun he 2
      rfl
    · intro he
      obtain rfl : b = h := congrFun he 1
      obtain rfl : c = g := congrFun he 2
      obtain rfl : d = q := congrFun he 3
      rfl
  rw [this, Finset.sum_singleton]

include hx hz hy in
theorem v130_at (h : Fin 2) (g : Fin 4) (q : Fin 128) : res_main_v130 V0 (ix3 h g q) = (dsink X Z Y h g q : EReal) := by
  have h108 : ∀ n, res_main_v108 V0 (ix5 n h g q 0) = (ds X Z Y n h g q : EReal) := fun n => (cots_at V0 X Z Y hx hz hy n h g q).1
  rw [res_main_v130]
  refine (congrArg (_ + ·) (sum_ends _ h g q (Finset.univ.filter fun i => reducesTo_S1x2x4x128x1_S2x4x128_d0_4.drop i = ix3 h g q) fun i => by simp)).trans ?_
  pointwise [h108, v119_at V0 X Z Y hx hz hy]
  simp only [zero_mul, Finset.sum_const_zero, add_zero, ← Common.coe_sum, dsink]

end

end Cert.SwaRefIdeal.RefValue

end
-- ==== Proof.SwaBlock.lean ====
/-
  One block of the attention's gradient as the kernel computes it: 128 queries of eight heads against 256 keys, the queries of a
  group of four heads side by side in 512 lanes. Each array of the block is given a name and read off element by element; where
  the operands hold real numbers and the mask holds zero or minus infinity, the elements are the formulas of one row of attention.
-/
module

public import proofs.«01_k».proof.Proof.Attention
public import proofs.«01_k».proof.Proof.Gen.SwaIdeal.Value
public import Idealize.ShloMosaic.Lib.Pipeline.ValueKit

@[expose] public section

set_option maxRecDepth 16384

noncomputable section

namespace Cert.SwaIdeal.RefValue

open Cert.SwaIdeal Cert.SwaIdeal.Gen Cert.SwaIdeal.Value Idealize.ShloMosaic Idealize.ShloMosaic.TcCoe Cert.Attention

/-! ## Lanes and columns -/

/-- The query of a lane. -/
def spot (l : Fin 512) : Fin 128 := ⟨l.val % 128, by omega⟩

/-- The head of a lane, within its group. -/
def part (l : Fin 512) : Fin 4 := ⟨l.val / 128, by omega⟩

/-- The column of a head's entry in the queries. -/
def col (h : Fin 2) (g : Fin 4) (d : Fin 64) : Fin 512 := ⟨h.val * 256 + g.val * 64 + d.val, by omega⟩

/-- The column of a group's entry in the keys and values. -/
def kcol (h : Fin 2) (d : Fin 64) : Fin 128 := ⟨h.val * 64 + d.val, by omega⟩

/-! ## The block's arrays -/

section Arrays

variable (M : FVec Ideal S256x512 .f32) (K V : FVec Ideal S256x128 .f32) (Q Y : FVec Ideal S128x512 .f32)

def queries0 : FVec Ideal S64x512 .f32 := k0_pay80 (k0_pay46 (F := Ideal) (k0_pay45 Q))
def queries1 : FVec Ideal S64x512 .f32 := k0_pay81 (k0_pay46 (F := Ideal) (k0_pay45 Q))
def cots0 : FVec Ideal S64x512 .f32 := k0_pay150 (k0_pay131 (F := Ideal) Y)
def cots1 : FVec Ideal S64x512 .f32 :=
  k0_pay155 (k0_pay151 (k0_pay131 (F := Ideal) Y)) (k0_pay152 (k0_pay131 (F := Ideal) Y)) (k0_pay153 (k0_pay131 (F := Ideal) Y))
    (k0_pay154 (k0_pay131 (F := Ideal) Y))
def scores0 : FVec Ideal S256x512 .f32 := k0_pay98 M (k0_pay61 K) (queries0 Q)
def scores1 : FVec Ideal S256x512 .f32 := k0_pay99 M (k0_pay62 K) (queries1 Q)
def dprobs0 : FVec Ideal S256x512 .f32 := k0_pay172 V (cots0 Y)
def dprobs1 : FVec Ideal S256x512 .f32 := k0_pay173 V (cots1 Y)

/-- The probabilities of scores and a row of sinks. -/
def probs (S : FVec Ideal S256x512 .f32) (s : FVec Ideal S1x512 .f32) : FVec Ideal S256x512 .f32 := k0_pay263 (k0_pay259 S s) (k0_pay261 S s)

/-- The sinks' probabilities. -/
def rests (S : FVec Ideal S256x512 .f32) (s : FVec Ideal S1x512 .f32) : FVec Ideal S1x512 .f32 := k0_pay264 (k0_pay260 S s) (k0_pay261 S s)

/-- The rows' mean cotangents. -/
def deltas (D P : FVec Ideal S256x512 .f32) : FVec Ideal S1x512 .f32 := k0_pay286 D P

/-- The gradients of the scores. -/
def grads (D P : FVec Ideal S256x512 .f32) : FVec Ideal S256x512 .f32 := k0_pay303 D P (deltas D P)

variable (s0 s1 : FVec Ideal S1x512 .f32)

def probs0 : FVec Ideal S256x512 .f32 := probs (scores0 M K Q) s0
def probs1 : FVec Ideal S256x512 .f32 := probs (scores1 M K Q) s1
def grads0 : FVec Ideal S256x512 .f32 := grads (dprobs0 V Y) (probs0 M K Q s0)
def grads1 : FVec Ideal S256x512 .f32 := grads (dprobs1 V Y) (probs1 M K Q s1)

/-- What the block stores of the queries' gradient. -/
def outQ : FVec Ideal S128x512 .bf16 := k0_pay417 (k0_pay323 (k0_pay123 K) (grads0 M K V Q Y s0)) (k0_pay324 (k0_pay123 K) (grads1 M K V Q Y s1))

/-- What it stores of the keys' gradient: the block's own rows and those of the block before. -/
def outKo : FVec Ideal S128x128 .f32 := k0_pay4 (k0_pay341 (queries0 Q) (grads0 M K V Q Y s0)) (k0_pay342 (queries1 Q) (grads1 M K V Q Y s1))
def outKp : FVec Ideal S128x128 .f32 := k0_pay3 (k0_pay341 (queries0 Q) (grads0 M K V Q Y s0)) (k0_pay342 (queries1 Q) (grads1 M K V Q Y s1))

/-- What it stores of the values' gradient. -/
def outVo : FVec Ideal S128x128 .f32 := k0_pay6 (k0_pay359 (cots0 Y) (probs0 M K Q s0)) (k0_pay360 (cots1 Y) (probs1 M K Q s1))
def outVp : FVec Ideal S128x128 .f32 := k0_pay5 (k0_pay359 (cots0 Y) (probs0 M K Q s0)) (k0_pay360 (cots1 Y) (probs1 M K Q s1))

end Arrays

/-! ## The formulas of the block -/

section Formulas

variable (ok : Fin 128 → Fin 256 → Prop) [∀ q k, Decidable (ok q k)] (kk vv : Fin 256 → Fin 128 → ℝ) (qq yy : Fin 128 → Fin 512 → ℝ)
  (zz : Fin 2 → Fin 512 → ℝ)

def bscr (h : Fin 2) (l : Fin 512) (k : Fin 256) : ℝ := ∑ d, kk k (kcol h d) * (qq (spot l) (col h (part l) d) * (1 / 8))
def bwt (h : Fin 2) (l : Fin 512) (k : Fin 256) : ℝ := weight (ok (spot l) k) (bscr kk qq h l k)
def bdp (h : Fin 2) (l : Fin 512) (k : Fin 256) : ℝ := ∑ d, vv k (kcol h d) * yy (spot l) (col h (part l) d)
def bpr (h : Fin 2) (l : Fin 512) (k : Fin 256) : ℝ := prob (bwt ok kk qq h l) (Real.exp (zz h l)) k
def brest (h : Fin 2) (l : Fin 512) : ℝ := rest (bwt ok kk qq h l) (Real.exp (zz h l))
def bdelta (h : Fin 2) (l : Fin 512) : ℝ := delta (bwt ok kk qq h l) (Real.exp (zz h l)) (bdp vv yy h l)
def bgr (h : Fin 2) (l : Fin 512) (k : Fin 256) : ℝ := grad (bwt ok kk qq h l) (Real.exp (zz h l)) (bdp vv yy h l) k

def bdq (h : Fin 2) (g : Fin 4) (d : Fin 64) (q : Fin 128) : ℝ :=
  (∑ k, kk k (kcol h d) * bgr ok kk vv qq yy zz h ⟨g.val * 128 + q.val, by omega⟩ k) * (1 / 8)
def bdk (k : Fin 256) (h : Fin 2) (d : Fin 64) : ℝ :=
  ∑ l, bgr ok kk vv qq yy zz h l k * (qq (spot l) (col h (part l) d) * (1 / 8))
def bdv (k : Fin 256) (h : Fin 2) (d : Fin 64) : ℝ := ∑ l, bpr ok kk qq zz h l k * yy (spot l) (col h (part l) d)

end Formulas

/-! ## Reading the arrays -/

section Reading

variable {M : FVec Ideal S256x512 .f32} {K V : FVec Ideal S256x128 .f32} {Q Y : FVec Ideal S128x512 .f32} {s0 s1 : FVec Ideal S1x512 .f32}
variable {ok : Fin 128 → Fin 256 → Prop} [∀ q k, Decidable (ok q k)] {kk vv : Fin 256 → Fin 128 → ℝ} {qq yy : Fin 128 → Fin 512 → ℝ}
  {zz : Fin 2 → Fin 512 → ℝ}

theorem lanes0_at (S : FVec Ideal S512x128 .f32) (d : Fin 64) (l : Fin 512) : k0_pay80 S (ix2 d l) = S (ix2 (col 0 (part l) d) (spot l)) := by
  pointwise [k0_pay80]
  split_ifs <;> exact congrArg S (congrArg₂ ix2 (Fin.ext (by simp [col, part]; omega)) (Fin.ext (by simp [spot]; omega)))

set_option maxHeartbeats 2000000 in
theorem lanes1_at (S : FVec Ideal S512x128 .f32) (d : Fin 64) (l : Fin 512) : k0_pay81 S (ix2 d l) = S (ix2 (col 1 (part l) d) (spot l)) := by
  pointwise [k0_pay81]
  split_ifs <;> exact congrArg S (congrArg₂ ix2 (Fin.ext (by simp [col, part]; omega)) (Fin.ext (by simp [spot]; omega)))

theorem queries0_at (hQ : ∀ q x, Q (ix2 q x) = (qq q x : EReal)) (d : Fin 64) (l : Fin 512) :
    queries0 Q (ix2 d l) = ((qq (spot l) (col 0 (part l) d) * (1 / 8) : ℝ) : EReal) := by
  rw [queries0, lanes0_at]
  pointwise [k0_pay46, k0_pay45, hQ]
  rw [ofBits_eighth, ← EReal.coe_mul]

theorem queries1_at (hQ : ∀ q x, Q (ix2 q x) = (qq q x : EReal)) (d : Fin 64) (l : Fin 512) :
    queries1 Q (ix2 d l) = ((qq (spot l) (col 1 (part l) d) * (1 / 8) : ℝ) : EReal) := by
  rw [queries1, lanes1_at]
  pointwise [k0_pay46, k0_pay45, hQ]
  rw [ofBits_eighth, ← EReal.coe_mul]

theorem cots0_at (hY : ∀ q x, Y (ix2 q x) = (yy q x : EReal)) (d : Fin 64) (l : Fin 512) :
    cots0 Y (ix2 d l) = (yy (spot l) (col 0 (part l) d) : EReal) := by
  rw [cots0, show k0_pay150 (k0_pay131 (F := Ideal) Y) = k0_pay80 (k0_pay131 (F := Ideal) Y) from rfl, lanes0_at]
  pointwise [k0_pay131, hY]

theorem cots1_at (hY : ∀ q x, Y (ix2 q x) = (yy q x : EReal)) (d : Fin 64) (l : Fin 512) :
    cots1 Y (ix2 d l) = (yy (spot l) (col 1 (part l) d) : EReal) := by
  rw [show cots1 Y = k0_pay81 (k0_pay131 (F := Ideal) Y) from rfl, lanes1_at]
  pointwise [k0_pay131, hY]

theorem masked (p : Prop) [Decidable p] (r : ℝ) : (r : EReal) + (if p then 0 else ⊥) = score p r := by
  unfold score
  split <;> simp

theorem scores0_at (hM : ∀ k l, M (ix2 k l) = if ok (spot l) k then (0 : EReal) else ⊥) (hK : ∀ k x, K (ix2 k x) = (kk k x : EReal))
    (hQ : ∀ q x, Q (ix2 q x) = (qq q x : EReal)) (k : Fin 256) (l : Fin 512) :
    scores0 M K Q (ix2 k l) = score (ok (spot l) k) (bscr kk qq 0 l k) := by
  pointwise [scores0, k0_pay98, k0_pay61, queries0_at hQ, hK, hM]
  simp only [← EReal.coe_mul, ← Common.coe_sum]
  refine Eq.trans ?_ (masked _ _)
  simp [bscr, kcol]

theorem scores1_at (hM : ∀ k l, M (ix2 k l) = if ok (spot l) k then (0 : EReal) else ⊥) (hK : ∀ k x, K (ix2 k x) = (kk k x : EReal))
    (hQ : ∀ q x, Q (ix2 q x) = (qq q x : EReal)) (k : Fin 256) (l : Fin 512) :
    scores1 M K Q (ix2 k l) = score (ok (spot l) k) (bscr kk qq 1 l k) := by
  pointwise [scores1, k0_pay99, k0_pay62, queries1_at hQ, hK, hM]
  simp only [← EReal.coe_mul, ← Common.coe_sum]
  refine Eq.trans ?_ (masked _ _)
  simp [bscr, kcol]

theorem dprobs0_at (hV : ∀ k x, V (ix2 k x) = (vv k x : EReal)) (hY : ∀ q x, Y (ix2 q x) = (yy q x : EReal)) (k : Fin 256) (l : Fin 512) :
    dprobs0 V Y (ix2 k l) = (bdp vv yy 0 l k : EReal) := by
  pointwise [dprobs0, k0_pay172, cots0_at hY, hV]
  simp only [← EReal.coe_mul, ← Common.coe_sum]
  simp [bdp, kcol]

theorem dprobs1_at (hV : ∀ k x, V (ix2 k x) = (vv k x : EReal)) (hY : ∀ q x, Y (ix2 q x) = (yy q x : EReal)) (k : Fin 256) (l : Fin 512) :
    dprobs1 V Y (ix2 k l) = (bdp vv yy 1 l k : EReal) := by
  pointwise [dprobs1, k0_pay173, cots1_at hY, hV]
  simp only [← EReal.coe_mul, ← Common.coe_sum]
  simp [bdp, kcol]

/-- The largest score of a lane, sink included, is a real number. -/
theorem peak_at {S : FVec Ideal S256x512 .f32} {s : FVec Ideal S1x512 .f32} {sc : Fin 512 → Fin 256 → ℝ} {z : Fin 512 → ℝ}
    (hS : ∀ k l, S (ix2 k l) = score (ok (spot l) k) (sc l k)) (hs : ∀ l, s (ix2 0 l) = (z l : EReal)) (l : Fin 512) :
    ∃ p : ℝ, k0_pay258 S s (ix2 0 l) = (p : EReal) := by
  obtain ⟨p, hp⟩ := max_real (Finset.univ.fold max ⊥ fun k => score (ok (spot l) k) (sc l k)) (fold_ne_top _ fun k => score_ne_top _ _) (z l)
  refine ⟨p, Eq.trans ?_ hp⟩
  pointwise [k0_pay258, hs, hS]
  rw [ofBits_bot]

theorem soft_at {S : FVec Ideal S256x512 .f32} {s : FVec Ideal S1x512 .f32} {sc : Fin 512 → Fin 256 → ℝ} {z : Fin 512 → ℝ}
    (hS : ∀ k l, S (ix2 k l) = score (ok (spot l) k) (sc l k)) (hs : ∀ l, s (ix2 0 l) = (z l : EReal)) (l : Fin 512) :
    (∀ k, probs S s (ix2 k l) = (prob (fun k => weight (ok (spot l) k) (sc l k)) (Real.exp (z l)) k : EReal))
      ∧ rests S s (ix2 0 l) = (rest (fun k => weight (ok (spot l) k) (sc l k)) (Real.exp (z l)) : EReal) := by
  obtain ⟨p, hp⟩ := peak_at hS hs l
  have ha : 0 < Real.exp (-p) := Real.exp_pos _
  have ht : 0 < total (fun k => weight (ok (spot l) k) (sc l k)) (Real.exp (z l)) := total_pos (fun k => weight_nonneg _ _) (Real.exp_pos _)
  have h1 : ∀ k, k0_pay259 S s (ix2 k l) = ((Real.exp (-p) * weight (ok (spot l) k) (sc l k) : ℝ) : EReal) := fun k => by
    pointwise [k0_pay259, hp, hS]
    exact exp_score _ _ p
  have h2 : k0_pay260 S s (ix2 0 l) = ((Real.exp (-p) * Real.exp (z l) : ℝ) : EReal) := by
    pointwise [k0_pay260, hp, hs]
    exact exp_sink _ p
  have h3 : k0_pay261 S s (ix2 0 l) = ((Real.exp (-p) * total (fun k => weight (ok (spot l) k) (sc l k)) (Real.exp (z l)) : ℝ) : EReal) := by
    pointwise [k0_pay261, h1, h2]
    exact scaled_total _ _ _
  have h4 : k0_pay262 (k0_pay261 S s) (ix2 0 l)
      = ((1 / (Real.exp (-p) * total (fun k => weight (ok (spot l) k) (sc l k)) (Real.exp (z l))) : ℝ) : EReal) := by
    pointwise [k0_pay262, h3]
    exact inv_at ha ht
  constructor
  · intro k
    pointwise [probs, k0_pay263, h1, h4]
    exact prob_at (w := fun k => weight (ok (spot l) k) (sc l k)) ha ht k
  · pointwise [rests, k0_pay264, h2, h4]
    exact rest_at ha ht

theorem grads_at {D P : FVec Ideal S256x512 .f32} {w v : Fin 512 → Fin 256 → ℝ} {u : Fin 512 → ℝ} (hD : ∀ k l, D (ix2 k l) = (v l k : EReal))
    (hP : ∀ k l, P (ix2 k l) = (prob (w l) (u l) k : EReal)) (l : Fin 512) :
    deltas D P (ix2 0 l) = (delta (w l) (u l) (v l) : EReal) ∧ ∀ k, grads D P (ix2 k l) = (grad (w l) (u l) (v l) k : EReal) := by
  have h1 : deltas D P (ix2 0 l) = (delta (w l) (u l) (v l) : EReal) := by
    pointwise [deltas, k0_pay286, hD, hP]
    exact delta_at _ _ _
  refine ⟨h1, fun k => ?_⟩
  pointwise [grads, k0_pay303, h1, hD, hP]
  exact grad_at _ _ _ _

section
variable (hM : ∀ k l, M (ix2 k l) = if ok (spot l) k then (0 : EReal) else ⊥) (hK : ∀ k x, K (ix2 k x) = (kk k x : EReal))
  (hV : ∀ k x, V (ix2 k x) = (vv k x : EReal)) (hQ : ∀ q x, Q (ix2 q x) = (qq q x : EReal)) (hY : ∀ q x, Y (ix2 q x) = (yy q x : EReal))
  (hs0 : ∀ l, s0 (ix2 0 l) = (zz 0 l : EReal)) (hs1 : ∀ l, s1 (ix2 0 l) = (zz 1 l : EReal))

include hM hK hQ hs0 in
theorem probs0_at (k : Fin 256) (l : Fin 512) : probs0 M K Q s0 (ix2 k l) = (bpr ok kk qq zz 0 l k : EReal) :=
  (soft_at (scores0_at hM hK hQ) hs0 l).1 k

include hM hK hQ hs1 in
theorem probs1_at (k : Fin 256) (l : Fin 512) : probs1 M K Q s1 (ix2 k l) = (bpr ok kk qq zz 1 l k : EReal) :=
  (soft_at (scores1_at hM hK hQ) hs1 l).1 k

include hM hK hQ hs0 in
theorem rests0_at (l : Fin 512) : rests (scores0 M K Q) s0 (ix2 0 l) = (brest ok kk qq zz 0 l : EReal) :=
  (soft_at (scores0_at hM hK hQ) hs0 l).2

include hM hK hQ hs1 in
theorem rests1_at (l : Fin 512) : rests (scores1 M K Q) s1 (ix2 0 l) = (brest ok kk qq zz 1 l : EReal) :=
  (soft_at (scores1_at hM hK hQ) hs1 l).2

include hM hK hV hQ hY hs0 in
theorem deltas0_at (l : Fin 512) : deltas (dprobs0 V Y) (probs0 M K Q s0) (ix2 0 l) = (bdelta ok kk vv qq yy zz 0 l : EReal) :=
  (grads_at (w := bwt ok kk qq 0) (dprobs0_at hV hY) (probs0_at hM hK hQ hs0) l).1

include hM hK hV hQ hY hs1 in
theorem deltas1_at (l : Fin 512) : deltas (dprobs1 V Y) (probs1 M K Q s1) (ix2 0 l) = (bdelta ok kk vv qq yy zz 1 l : EReal) :=
  (grads_at (w := bwt ok kk qq 1) (dprobs1_at hV hY) (probs1_at hM hK hQ hs1) l).1

include hM hK hV hQ hY hs0 in
theorem grads0_at (k : Fin 256) (l : Fin 512) : grads0 M K V Q Y s0 (ix2 k l) = (bgr ok kk vv qq yy zz 0 l k : EReal) :=
  (grads_at (w := bwt ok kk qq 0) (dprobs0_at hV hY) (probs0_at hM hK hQ hs0) l).2 k

include hM hK hV hQ hY hs1 in
theorem grads1_at (k : Fin 256) (l : Fin 512) : grads1 M K V Q Y s1 (ix2 k l) = (bgr ok kk vv qq yy zz 1 l k : EReal) :=
  (grads_at (w := bwt ok kk qq 1) (dprobs1_at hV hY) (probs1_at hM hK hQ hs1) l).2 k

theorem pick (a : FVec Ideal S64x512 .f32) {i j i' j' : ℕ} (hi : i < 64) (hj : j < 512) (hi' : i' < 64) (hj' : j' < 512) (h1 : i = i') (h2 : j = j') :
    a (ix2 ⟨i, hi⟩ ⟨j, hj⟩) = a (ix2 ⟨i', hi'⟩ ⟨j', hj'⟩) := by
  subst h1 h2
  rfl

set_option maxHeartbeats 8000000 in
theorem turned_at (a b : FVec Ideal S64x512 .f32) (q : Fin 128) (x : Fin 512) : k0_pay417 a b (ix2 q x)
    = if x.val < 256 then a (ix2 ⟨x.val % 64, by omega⟩ ⟨x.val / 64 % 4 * 128 + q.val, by omega⟩)
      else b (ix2 ⟨x.val % 64, by omega⟩ ⟨x.val / 64 % 4 * 128 + q.val, by omega⟩) := by
  pointwise [k0_pay417]
  split_ifs
  all_goals first
    | exact Eq.trans (pick a _ _ _ _ (by omega) (by omega)) (if_pos (by omega)).symm
    | exact Eq.trans (pick b _ _ _ _ (by omega) (by omega)) (if_neg (by omega)).symm

include hM hK hV hQ hY hs0 hs1 in
theorem outQ_at (q : Fin 128) (x : Fin 512) : outQ M K V Q Y s0 s1 (ix2 q x)
    = (bdq ok kk vv qq yy zz ⟨x.val / 256, by omega⟩ ⟨x.val / 64 % 4, by omega⟩ ⟨x.val % 64, by omega⟩ q : EReal) := by
  rw [outQ, turned_at]
  split
  · pointwise [k0_pay323, k0_pay123, hK, grads0_at hM hK hV hQ hY hs0]
    rw [ofBits_eighth]
    simp only [← EReal.coe_mul, ← Common.coe_sum]
    simp [bdq, kcol, show x.val / 256 = 0 by omega]
  · pointwise [k0_pay324, k0_pay123, hK, grads1_at hM hK hV hQ hY hs1]
    rw [ofBits_eighth]
    simp only [← EReal.coe_mul, ← Common.coe_sum]
    simp [bdq, kcol, show x.val / 256 = 1 by omega]

include hM hK hV hQ hY hs0 hs1 in
theorem keys_at (k : Fin 256) (x : Fin 128) : k0_pay1 (k0_pay341 (queries0 Q) (grads0 M K V Q Y s0)) (k0_pay342 (queries1 Q) (grads1 M K V Q Y s1)) (ix2 k x)
    = (bdk ok kk vv qq yy zz k ⟨x.val / 64, by omega⟩ ⟨x.val % 64, by omega⟩ : EReal) := by
  pointwise [k0_pay1]
  split
  · pointwise [k0_pay341, queries0_at hQ, grads0_at hM hK hV hQ hY hs0]
    simp only [← EReal.coe_mul, ← Common.coe_sum]
    simp [bdk, show x.val / 64 = 0 by omega, show x.val % 64 = x.val by omega]
  · pointwise [k0_pay342, queries1_at hQ, grads1_at hM hK hV hQ hY hs1]
    simp only [← EReal.coe_mul, ← Common.coe_sum]
    simp [bdk, show x.val / 64 = 1 by omega, show x.val % 64 = x.val - 64 by omega]

include hM hK hQ hY hs0 hs1 in
theorem values_at (k : Fin 256) (x : Fin 128) : k0_pay2 (k0_pay359 (cots0 Y) (probs0 M K Q s0)) (k0_pay360 (cots1 Y) (probs1 M K Q s1)) (ix2 k x)
    = (bdv ok kk qq yy zz k ⟨x.val / 64, by omega⟩ ⟨x.val % 64, by omega⟩ : EReal) := by
  pointwise [k0_pay2]
  split
  · pointwise [k0_pay359, cots0_at hY, probs0_at hM hK hQ hs0]
    simp only [← EReal.coe_mul, ← Common.coe_sum]
    simp [bdv, show x.val / 64 = 0 by omega, show x.val % 64 = x.val by omega]
  · pointwise [k0_pay360, cots1_at hY, probs1_at hM hK hQ hs1]
    simp only [← EReal.coe_mul, ← Common.coe_sum]
    simp [bdv, show x.val / 64 = 1 by omega, show x.val % 64 = x.val - 64 by omega]

include hM hK hV hQ hY hs0 hs1 in
theorem outK_at (q x : Fin 128) :
    outKp M K V Q Y s0 s1 (ix2 q x) = (bdk ok kk vv qq yy zz ⟨q.val, by omega⟩ ⟨x.val / 64, by omega⟩ ⟨x.val % 64, by omega⟩ : EReal)
      ∧ outKo M K V Q Y s0 s1 (ix2 q x) = (bdk ok kk vv qq yy zz ⟨128 + q.val, by omega⟩ ⟨x.val / 64, by omega⟩ ⟨x.val % 64, by omega⟩ : EReal) := by
  constructor
  · pointwise [outKp, k0_pay3, keys_at hM hK hV hQ hY hs0 hs1]
  · pointwise [outKo, k0_pay4, keys_at hM hK hV hQ hY hs0 hs1]

include hM hK hQ hY hs0 hs1 in
theorem outV_at (q x : Fin 128) :
    outVp M K Q Y s0 s1 (ix2 q x) = (bdv ok kk qq yy zz ⟨q.val, by omega⟩ ⟨x.val / 64, by omega⟩ ⟨x.val % 64, by omega⟩ : EReal)
      ∧ outVo M K Q Y s0 s1 (ix2 q x) = (bdv ok kk qq yy zz ⟨128 + q.val, by omega⟩ ⟨x.val / 64, by omega⟩ ⟨x.val % 64, by omega⟩ : EReal) := by
  constructor
  · pointwise [outVp, k0_pay5, values_at hM hK hQ hY hs0 hs1]
  · pointwise [outVo, k0_pay6, values_at hM hK hQ hY hs0 hs1]

end

end Reading

end Cert.SwaIdeal.RefValue

end
-- ==== Proof.SwaBridge.lean ====
/-
  A block's formulas over the rows it reads are those of the attention's gradient: the keys a query may look at are the ones read, and the
  lanes of a row are the heads' queries.
-/
module

public import proofs.«01_k».proof.Proof.SwaBlock
public import proofs.«01_k».proof.Proof.SwaScores

@[expose] public section

noncomputable section

namespace Cert.SwaIdeal.RefValue

open Idealize.ShloMosaic Cert.Attention Cert.SwaIdeal
open Cert.SwaRefIdeal.RefValue (ok key query cot scr wt sink dp pr gr dv dk dq ds)

variable (X : S16384x2816.Idx → ℝ) (Z : S8.Idx → ℝ) (Y : S16384x1024.Idx → ℝ) (n : Fin 128)

/-- The keys (or values) a block reads: those of the block before it, or its own where there is none, and its own. -/
def near (o : ℕ) (ho : o + 128 ≤ 2816) (k : Fin 256) (x : Fin 128) : ℝ :=
  X (ix2 ⟨if k.val < 128 then (n.val - 1) * 128 + k.val else n.val * 128 + (k.val - 128), by split <;> omega⟩ ⟨o + x.val, by omega⟩)

def queries (q : Fin 128) (x : Fin 512) : ℝ := X (ix2 ⟨n.val * 128 + q.val, by omega⟩ ⟨2048 + x.val, by omega⟩)
def cots (q : Fin 128) (x : Fin 512) : ℝ := Y (ix2 ⟨n.val * 128 + q.val, by omega⟩ ⟨512 + x.val, by omega⟩)
def sinks (h : Fin 2) (l : Fin 512) : ℝ := Z (ix1 ⟨h.val * 4 + l.val / 128, by omega⟩)

variable {n}

theorem near_key (o : ℕ) (ho : o + 128 ≤ 2816) {q : Fin 128} {k : Fin 256} (hk : ok n q k) (h : Fin 2) (d : Fin 64) :
    near X n o ho k (kcol h d) = key X o ho n k h d := by
  unfold near key
  by_cases h1 : k.val < 128
  · rw [dif_pos h1, dif_neg (fun h0 => hk.2.2 ⟨by omega, h1⟩)]
    exact congrArg X (congrArg₂ ix2 (Fin.ext (if_pos h1)) rfl)
  · rw [dif_neg h1]
    exact congrArg X (congrArg₂ ix2 (Fin.ext (if_neg h1)) rfl)

theorem query_at (q : Fin 128) (h : Fin 2) (g : Fin 4) (d : Fin 64) : queries X n q (col h g d) = query X n q h g d := rfl
theorem cot_at (q : Fin 128) (h : Fin 2) (g : Fin 4) (d : Fin 64) : cots Y n q (col h g d) = cot Y n q h g d := rfl

abbrev lane (g : Fin 4) (q : Fin 128) : Fin 512 := ⟨g.val * 128 + q.val, by omega⟩

theorem part_lane (g : Fin 4) (q : Fin 128) : part (lane g q) = g := Fin.ext (by simp [part] <;> omega)
theorem spot_lane (g : Fin 4) (q : Fin 128) : spot (lane g q) = q := Fin.ext (by simp [spot] <;> omega)
theorem sink_lane (h : Fin 2) (g : Fin 4) (q : Fin 128) : sinks Z h (lane g q) = sink Z h g :=
  congrArg Z (congrArg ix1 (Fin.ext (by simp <;> omega)))

theorem sum_lanes (f : Fin 512 → ℝ) : ∑ l, f l = ∑ g : Fin 4, ∑ q : Fin 128, f (lane g q) := by
  rw [← Fintype.sum_prod_type', ← Equiv.sum_comp (finProdFinEquiv (m := 4) (n := 128))]
  exact Finset.sum_congr rfl fun p _ => congrArg f (Fin.ext (by simp [finProdFinEquiv]; omega))

variable (n)

abbrev kk := near X n 2560 (by norm_num)
abbrev vv := near X n 2688 (by norm_num)

variable {n}

theorem kk_at {q : Fin 128} {k : Fin 256} (hk : ok n q k) (h : Fin 2) (d : Fin 64) : kk X n k (kcol h d) = key X 2560 (by norm_num) n k h d :=
  near_key X _ _ hk h d

theorem vv_at {q : Fin 128} {k : Fin 256} (hk : ok n q k) (h : Fin 2) (d : Fin 64) : vv X n k (kcol h d) = key X 2688 (by norm_num) n k h d :=
  near_key X _ _ hk h d

theorem bwt_eq (h : Fin 2) (g : Fin 4) (q : Fin 128) : bwt (ok n) (kk X n) (queries X n) h (lane g q) = wt X n h g q := by
  funext k
  rw [bwt, wt, spot_lane]
  unfold weight
  by_cases hk : ok n q k
  · rw [if_pos hk, if_pos hk, bscr, scr, Finset.sum_mul, part_lane, spot_lane]
    exact congrArg Real.exp (Finset.sum_congr rfl fun d _ => by rw [kk_at X hk, query_at, mul_assoc])
  · rw [if_neg hk, if_neg hk]

theorem wt_ok {h : Fin 2} {g : Fin 4} {q : Fin 128} {k : Fin 256} (hk : wt X n h g q k ≠ 0) : ok n q k := by
  by_contra h'
  exact hk (by rw [wt, weight, if_neg h'])

theorem dp_eq {h : Fin 2} {g : Fin 4} {q : Fin 128} {k : Fin 256} (hk : wt X n h g q k ≠ 0) :
    bdp (vv X n) (cots Y n) h (lane g q) k = dp X Y n h g q k := by
  rw [bdp, dp, part_lane, spot_lane]
  exact Finset.sum_congr rfl fun d _ => by rw [vv_at X (wt_ok X hk), cot_at, mul_comm]

theorem bpr_eq (h : Fin 2) (g : Fin 4) (q : Fin 128) (k : Fin 256) :
    bpr (ok n) (kk X n) (queries X n) (sinks Z) h (lane g q) k = pr X Z n h g q k := by
  rw [bpr, pr, bwt_eq, sink_lane]

theorem bgr_eq (h : Fin 2) (g : Fin 4) (q : Fin 128) (k : Fin 256) :
    bgr (ok n) (kk X n) (vv X n) (queries X n) (cots Y n) (sinks Z) h (lane g q) k = gr X Z Y n h g q k := by
  rw [bgr, gr, bwt_eq, sink_lane]
  exact grad_congr (fun k hk => dp_eq X Y hk) k

theorem bds_eq (h : Fin 2) (g : Fin 4) (q : Fin 128) :
    -(brest (ok n) (kk X n) (queries X n) (sinks Z) h (lane g q)
      * bdelta (ok n) (kk X n) (vv X n) (queries X n) (cots Y n) (sinks Z) h (lane g q)) = ds X Z Y n h g q := by
  rw [brest, bdelta, ds, bwt_eq, sink_lane, delta_congr fun k hk => dp_eq X Y hk]

theorem bdq_eq (h : Fin 2) (g : Fin 4) (d : Fin 64) (q : Fin 128) :
    bdq (ok n) (kk X n) (vv X n) (queries X n) (cots Y n) (sinks Z) h g d q = dq X Z Y n q h g d := by
  rw [bdq, dq, Finset.sum_mul]
  refine Finset.sum_congr rfl fun k _ => ?_
  rw [bgr_eq]
  by_cases hk : wt X n h g q k = 0
  · rw [gr, grad_zero hk]; ring
  · rw [kk_at X (wt_ok X hk)]; ring

theorem bdk_eq (k : Fin 256) (h : Fin 2) (d : Fin 64) :
    bdk (ok n) (kk X n) (vv X n) (queries X n) (cots Y n) (sinks Z) k h d = dk X Z Y n k h d := by
  rw [bdk, dk, sum_lanes, Finset.sum_comm]
  exact Finset.sum_congr rfl fun q _ => Finset.sum_congr rfl fun g _ => by rw [bgr_eq, part_lane, spot_lane, query_at]; ring

theorem bdv_eq (k : Fin 256) (h : Fin 2) (d : Fin 64) :
    bdv (ok n) (kk X n) (queries X n) (cots Y n) (sinks Z) k h d = dv X Z Y n k h d := by
  rw [bdv, dv, sum_lanes]
  exact Finset.sum_congr rfl fun g _ => Finset.sum_congr rfl fun q _ => by rw [bpr_eq, part_lane, spot_lane, cot_at]; ring

end Cert.SwaIdeal.RefValue

end
-- ==== Proof.SwaReads.lean ====
/-
  What the blocks of the attention's gradient hold at each grid point, as elements of the arguments: the keys and values with the
  block before them, the queries and cotangents, the sinks' rows and the mask.
-/
module

public import proofs.«01_k».proof.Proof.SwaBlock
public import proofs.«01_k».proof.Proof.SwaScores

@[expose] public section

set_option maxRecDepth 16384

noncomputable section

namespace Cert.SwaIdeal.RefValue

open Cert.SwaIdeal Cert.SwaIdeal.Gen Cert.SwaIdeal.Value Idealize.SL.Sem Idealize.ShloMosaic Idealize.ShloMosaic.TcCoe Cert.Attention
open Idealize.ShloMosaic.Pipeline (Dat)

variable (m : (ℓ : Loc nD τ sig) → Buf (Elt Ideal) ℓ)

theorem idx (t : Fin cfg0.N) : win0_0.index t = ![t.val, 4] ∧ win0_1.index t = ![8 * t.val - 1, 20] ∧ win0_2.index t = ![t.val, 20]
    ∧ win0_3.index t = ![8 * t.val - 1, 21] ∧ win0_4.index t = ![t.val, 21] ∧ win0_5.index t = ![0, 0] ∧ win0_6.index t = ![0, 0, 0]
    ∧ win0_7.index t = ![t.val, 1] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, win0_0.index t = ![t.val, 4] ∧ win0_1.index t = ![8 * t.val - 1, 20] ∧ win0_2.index t = ![t.val, 20]
    ∧ win0_3.index t = ![8 * t.val - 1, 21] ∧ win0_4.index t = ![t.val, 21] ∧ win0_5.index t = ![0, 0] ∧ win0_6.index t = ![0, 0, 0]
    ∧ win0_7.index t = ![t.val, 1] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0]) t

theorem off1 (t : Fin cfg0.N) : k0_off1 (grid0.coords t) = ![min t.val 1, 0, 0] :=
  (by decide +kernel : ∀ t : Fin grid0.N, k0_off1 (grid0.coords t) = ![min t.val 1, 0, 0]) t

theorem points (t : Fin cfg0.N) : t.val < 16 := t.isLt

variable (c : Dev nD)

theorem rd0 (t : Fin cfg0.N) (r : Fin 1024) (x : Fin 512) :
    X0_0 m c t (ix2 r x) = m ((c : Thread nD τ).loc main_arg0) (ix2 ⟨t.val * 1024 + r.val, by have := points t; omega⟩ ⟨2048 + x.val, by omega⟩) := by
  unfold X0_0 Pipeline.Window.fill
  rw [dif_pos (moved0_0 t _)]
  blk_point [iblk, V_main_arg0, idx t]

theorem rd1 (t : Fin cfg0.N) (r x : Fin 128) :
    iblk m c 1 t (ix2 r x) = m ((c : Thread nD τ).loc main_arg0) (ix2 ⟨(8 * t.val - 1) * 128 + r.val, by have := points t; omega⟩ ⟨2560 + x.val, by omega⟩) := by
  blk_point [iblk, V_main_arg0, idx t]

theorem rd2 (t : Fin cfg0.N) (r : Fin 1024) (x : Fin 128) :
    iblk m c 2 t (ix2 r x) = m ((c : Thread nD τ).loc main_arg0) (ix2 ⟨t.val * 1024 + r.val, by have := points t; omega⟩ ⟨2560 + x.val, by omega⟩) := by
  blk_point [iblk, V_main_arg0, idx t]

theorem rd3 (t : Fin cfg0.N) (r x : Fin 128) :
    iblk m c 3 t (ix2 r x) = m ((c : Thread nD τ).loc main_arg0) (ix2 ⟨(8 * t.val - 1) * 128 + r.val, by have := points t; omega⟩ ⟨2688 + x.val, by omega⟩) := by
  blk_point [iblk, V_main_arg0, idx t]

theorem rd4 (t : Fin cfg0.N) (r : Fin 1024) (x : Fin 128) :
    iblk m c 4 t (ix2 r x) = m ((c : Thread nD τ).loc main_arg0) (ix2 ⟨t.val * 1024 + r.val, by have := points t; omega⟩ ⟨2688 + x.val, by omega⟩) := by
  blk_point [iblk, V_main_arg0, idx t]

theorem rd7 (t : Fin cfg0.N) (r : Fin 1024) (x : Fin 512) :
    iblk m c 7 t (ix2 r x) = m ((c : Thread nD τ).loc main_arg2) (ix2 ⟨t.val * 1024 + r.val, by have := points t; omega⟩ ⟨512 + x.val, by omega⟩) := by
  blk_point [iblk, V_main_arg2, idx t]

theorem V_v4 (h : Fin 2) (l : Fin 512) :
    V m c main_v4 (ix2 ⟨8 * h.val, by omega⟩ l) = m ((c : Thread nD τ).loc main_arg1) (ix1 ⟨h.val * 4 + l.val / 128, by omega⟩) := by
  simp only [V, hostOps0, hostOps0_1, hostOps0_2, hostOps0_3, hostOps0_4, List.flatten_cons, List.flatten_nil, List.append_nil, List.cons_append,
    List.nil_append]
  entry_read
  pointwise []
  simp only [StableHlo.TRef.ofBuf, StableHlo.TRef.toBuf, cast_eq]
  pointwise []
  rw [dif_pos (by omega)]

/-- A mask's word for a lane is its query. -/
theorem lane_word : ∀ l : Fin 512, IntOp.andi (BitVec.ofNat 32 l.val) 127#32 = BitVec.ofNat 32 (l.val % 128) := by decide +kernel

theorem choice_word : ∀ z : Fin 2, IntOp.cmpi .eq (BitVec.ofNat 32 z.val) 0#32 = if z.val = 0 then 1#1 else 0#1 := by decide +kernel

/-- The two masks, before a fill is chosen: the first is for the block that has none before it. -/
abbrev seen (z : Fin 2) (q : Fin 128) (k : Fin 256) : Prop := k.val ≤ q.val + 128 ∧ q.val < k.val ∧ ¬ (z.val = 0 ∧ k.val < 128)

theorem V_v26 (z : Fin 2) (k : Fin 256) (l : Fin 512) :
    V m c main_v26 (ix3 z k l) = if seen z (spot l) k then Ideal.ofBits .f32 0x00000000#32 else Ideal.ofBits .f32 0xF149F2CA#32 := by
  simp only [V, hostOps0, hostOps0_1, hostOps0_2, hostOps0_3, hostOps0_4, List.flatten_cons, List.flatten_nil, List.append_nil, List.cons_append,
    List.nil_append]
  entry_read
  simp only [StableHlo.TRef.ofBuf, StableHlo.TRef.toBuf, cast_eq]
  pointwise []
  rw [lane_word, choice_word, Cert.SwaRefIdeal.RefValue.before_at k]
  refine (congrArg (fun w => Scalar.select (IntOp.andi w _) _ _) (Cert.SwaRefIdeal.RefValue.near_at (spot l) k)).trans ?_
  by_cases h1 : k.val ≤ (spot l).val + 128 ∧ (spot l).val < k.val <;> by_cases h2 : z.val = 0 <;> by_cases h3 : k.val < 128 <;>
    simp [seen, h1, h2, h3, IntOp.andi, Scalar.select]

end Cert.SwaIdeal.RefValue

end
-- ==== Proof.SwaValue.lean ====
/-
  The blocks of the attention's gradient at a grid point: the mask, the keys and values, the queries and cotangents and the sinks' rows of
  each of the eight blocks of 128 queries are the arguments' elements, and each stored tile is then a formula of one row of attention.
-/
module

public import proofs.«01_k».proof.Proof.SwaBridge
public import proofs.«01_k».proof.Proof.SwaReads
public import proofs.«01_k».proof.Proof.Stores

@[expose] public section

set_option maxRecDepth 16384

noncomputable section

namespace Cert.SwaIdeal.RefValue

open Cert.SwaIdeal Cert.SwaIdeal.Gen Cert.SwaIdeal.Value Idealize.SL.Sem Idealize.ShloMosaic Idealize.ShloMosaic.TcCoe Cert.Attention
open Idealize.ShloMosaic.Pipeline (Dat)
open Cert.SwaRefIdeal.RefValue (ok dk dv dq ds)

variable (m : (ℓ : Loc nD τ sig) → Buf (Elt Ideal) ℓ) (c : Dev nD)

theorem word_neg : Ideal.ofBits .f32 0xF149F2CA#32 < 0 := by
  simp [Ideal.ofBits, Ideal.ieee, -EReal.coe_mul]

theorem refill (p : Prop) [Decidable p] :
    (if (if p then Ideal.ofBits .f32 0x00000000#32 else Ideal.ofBits .f32 0xF149F2CA#32) < 0 then (⊥ : EReal) else 0) = if p then 0 else ⊥ := by
  by_cases h : p
  · simp [h, Ideal.ofBits, Ideal.ieee]
  · rw [if_neg h, if_neg h, if_pos word_neg]

theorem rd6 (t : Fin cfg0.N) (z : Fin 2) (k : Fin 256) (l : Fin 512) : iblk m c 6 t (ix3 z k l) = V m c main_v26 (ix3 z k l) := by
  blk_simp [iblk]
  blk_ext [idx t]

theorem rd5 (t : Fin cfg0.N) (r : Fin 16) (l : Fin 512) : iblk m c 5 t (ix2 r l) = V m c main_v4 (ix2 r l) := by
  blk_simp [iblk]
  blk_ext [idx t]

theorem mask_word : Named.named (F := Ideal) (φ := .f32) κ "mask" 0xF149F2CA#32 = (⊥ : EReal) := rfl

theorem mask_at (z : Fin 2) (n : Fin 128) (hz : z.val = 0 ↔ n.val = 0) (k : Fin 256) (l : Fin 512) (v : EReal) (hv : v = V m c main_v26 (ix3 z k l)) :
    (if v < 0 then Named.named (F := Ideal) (φ := .f32) κ "mask" 0xF149F2CA#32 else (0 : EReal)) = if ok n (spot l) k then (0 : EReal) else ⊥ := by
  rw [hv, V_v26, mask_word]
  refine (refill _).trans (if_congr ?_ rfl rfl)
  unfold seen ok
  rw [hz]

theorem mask_later (t : Fin cfg0.N) (n : Fin 128) (hn : n.val ≠ 0) (k : Fin 256) (l : Fin 512) :
    k0_pay37 (F := Ideal) (k0_pay36 (View.ld (iblk m c 6 t) (Rect.unit ![1, 0, 0] ![1, 256, 512] inb_S2x256x512_S1x256x512_1_0_0))) (ix2 k l)
      = if ok n (spot l) k then (0 : EReal) else ⊥ := by
  pointwise [k0_pay37, k0_pay36]
  exact mask_at m c 1 n (by simp [hn]) k l _ (rd6 m c t 1 k l)

theorem mask_first (t : Fin cfg0.N) (n : Fin 128) (hn : n.val = 8 * t.val) (k : Fin 256) (l : Fin 512) :
    k0_pay35 (F := Ideal) (View.ld (iblk m c 6 t) (Rect.unit (k0_off1 (grid0.coords t)) ![1, 256, 512] (k0_off1_inb _))) (ix2 k l)
      = if ok n (spot l) k then (0 : EReal) else ⊥ := by
  pointwise [k0_pay35]
  refine mask_at m c ⟨min t.val 1, by omega⟩ n (by show min t.val 1 = 0 ↔ _; omega) k l _ (Eq.trans ?_ (rd6 m c t _ k l))
  refine congrArg (iblk m c 6 t) ?_
  simp only [off1 t]
  exact congrArg₂ (ix3 _) (Fin.ext (Nat.zero_add _)) (Fin.ext (Nat.zero_add _))

/-- The blocks of 128 queries of a grid point. -/
abbrev blockAt (t : Fin cfg0.N) (b : Fin 8) : Fin 128 := ⟨8 * t.val + b.val, by have := points t; omega⟩

section
variable (X : S16384x2816.Idx → ℝ) (Z : S8.Idx → ℝ) (Y : S16384x1024.Idx → ℝ)
variable (hx : m ((c : Thread nD τ).loc main_arg0) = fun i => ((X i : ℝ) : EReal)) (hz : m ((c : Thread nD τ).loc main_arg1) = fun i => ((Z i : ℝ) : EReal))
  (hy : m ((c : Thread nD τ).loc main_arg2) = fun i => ((Y i : ℝ) : EReal))

include hz in
theorem sinks0_at (t : Fin cfg0.N) (l : Fin 512) :
    k0_pay114 (F := Ideal) (View.ld (iblk m c 5 t) (Rect.unit ![0, 0] ![1, 512] inb_S16x512_S1x512_0_0)) (ix2 0 l) = (sinks Z 0 l : EReal) := by
  pointwise [k0_pay114]
  refine (rd5 m c t 0 l).trans ((V_v4 m c 0 l).trans ?_)
  rw [hz]
  rfl

include hz in
theorem sinks1_at (t : Fin cfg0.N) (l : Fin 512) :
    k0_pay115 (F := Ideal) (View.ld (iblk m c 5 t) (Rect.unit ![8, 0] ![1, 512] inb_S16x512_S1x512_8_0)) (ix2 0 l) = (sinks Z 1 l : EReal) := by
  pointwise [k0_pay115]
  refine (rd5 m c t 8 l).trans ((V_v4 m c 1 l).trans ?_)
  rw [hz]
  rfl

include hx in
theorem keys_read (t : Fin cfg0.N) (b : Fin 8) (k : Fin 256) (x : Fin 128) (j : Fin 1152) (hj : j.val = 128 * b.val + k.val) :
    k0_pay17 (iblk m c 1 t) (iblk m c 2 t) (ix2 j x) = (kk X (blockAt t b) k x : EReal) := by
  obtain ⟨j, hj'⟩ := j
  obtain rfl : j = 128 * b.val + k.val := hj
  pointwise [k0_pay17]
  by_cases hb : 128 * b.val + k.val < 128
  · rw [dif_pos hb]
    refine (rd1 m c t _ x).trans ?_
    rw [hx]
    refine congrArg (fun i => ((X i : ℝ) : EReal)) (congrArg₂ ix2 (Fin.ext ?_) rfl)
    show (8 * t.val - 1) * 128 + (128 * b.val + k.val) = if k.val < 128 then (8 * t.val + b.val - 1) * 128 + k.val else (8 * t.val + b.val) * 128 + (k.val - 128)
    rw [if_pos (by omega)]
    omega
  · rw [dif_neg hb]
    refine (rd2 m c t _ x).trans ?_
    rw [hx]
    refine congrArg (fun i => ((X i : ℝ) : EReal)) (congrArg₂ ix2 (Fin.ext ?_) rfl)
    show t.val * 1024 + (128 * b.val + k.val - 128) = if k.val < 128 then (8 * t.val + b.val - 1) * 128 + k.val else (8 * t.val + b.val) * 128 + (k.val - 128)
    split_ifs <;> omega

include hx in
theorem values_read (t : Fin cfg0.N) (b : Fin 8) (k : Fin 256) (x : Fin 128) (j : Fin 1152) (hj : j.val = 128 * b.val + k.val) :
    k0_pay18 (iblk m c 3 t) (iblk m c 4 t) (ix2 j x) = (vv X (blockAt t b) k x : EReal) := by
  obtain ⟨j, hj'⟩ := j
  obtain rfl : j = 128 * b.val + k.val := hj
  pointwise [k0_pay18]
  by_cases hb : 128 * b.val + k.val < 128
  · rw [dif_pos hb]
    refine (rd3 m c t _ x).trans ?_
    rw [hx]
    refine congrArg (fun i => ((X i : ℝ) : EReal)) (congrArg₂ ix2 (Fin.ext ?_) rfl)
    show (8 * t.val - 1) * 128 + (128 * b.val + k.val) = if k.val < 128 then (8 * t.val + b.val - 1) * 128 + k.val else (8 * t.val + b.val) * 128 + (k.val - 128)
    rw [if_pos (by omega)]
    omega
  · rw [dif_neg hb]
    refine (rd4 m c t _ x).trans ?_
    rw [hx]
    refine congrArg (fun i => ((X i : ℝ) : EReal)) (congrArg₂ ix2 (Fin.ext ?_) rfl)
    show t.val * 1024 + (128 * b.val + k.val - 128) = if k.val < 128 then (8 * t.val + b.val - 1) * 128 + k.val else (8 * t.val + b.val) * 128 + (k.val - 128)
    split_ifs <;> omega

include hx in
theorem queries_read (t : Fin cfg0.N) (b : Fin 8) (q : Fin 128) (x : Fin 512) (j : Fin 1024) (hj : j.val = 128 * b.val + q.val) :
    X0_0 m c t (ix2 j x) = (queries X (blockAt t b) q x : EReal) := by
  obtain ⟨j, hj'⟩ := j
  obtain rfl : j = 128 * b.val + q.val := hj
  refine (rd0 m c t _ x).trans ?_
  rw [hx]
  refine congrArg (fun i => ((X i : ℝ) : EReal)) (congrArg₂ ix2 (Fin.ext ?_) rfl)
  show t.val * 1024 + (128 * b.val + q.val) = (8 * t.val + b.val) * 128 + q.val
  omega

include hy in
theorem cots_read (t : Fin cfg0.N) (b : Fin 8) (q : Fin 128) (x : Fin 512) (j : Fin 1024) (hj : j.val = 128 * b.val + q.val) :
    iblk m c 7 t (ix2 j x) = (cots Y (blockAt t b) q x : EReal) := by
  obtain ⟨j, hj'⟩ := j
  obtain rfl : j = 128 * b.val + q.val := hj
  refine (rd7 m c t _ x).trans ?_
  rw [hy]
  refine congrArg (fun i => ((Y i : ℝ) : EReal)) (congrArg₂ ix2 (Fin.ext ?_) rfl)
  show t.val * 1024 + (128 * b.val + q.val) = (8 * t.val + b.val) * 128 + q.val
  omega

/-- The arrays a block computes from hold block `n`'s mask, keys, values, queries, cotangents and sinks. -/
structure Block (n : Fin 128) (M : FVec Ideal S256x512 .f32) (K V : FVec Ideal S256x128 .f32) (Q C : FVec Ideal S128x512 .f32)
    (s0 s1 : FVec Ideal S1x512 .f32) : Prop where
  mask : ∀ k l, M (ix2 k l) = if ok n (spot l) k then (0 : EReal) else ⊥
  key : ∀ k x, K (ix2 k x) = (kk X n k x : EReal)
  value : ∀ k x, V (ix2 k x) = (vv X n k x : EReal)
  query : ∀ q x, Q (ix2 q x) = (queries X n q x : EReal)
  cot : ∀ q x, C (ix2 q x) = (cots Y n q x : EReal)
  sink0 : ∀ l, s0 (ix2 0 l) = (sinks Z 0 l : EReal)
  sink1 : ∀ l, s1 (ix2 0 l) = (sinks Z 1 l : EReal)

section
variable {X Z Y} {M : FVec Ideal S256x512 .f32} {K V : FVec Ideal S256x128 .f32} {Q C : FVec Ideal S128x512 .f32} {s0 s1 : FVec Ideal S1x512 .f32}
variable {n : Fin 128} (B : Block X Z Y n M K V Q C s0 s1)

include B

theorem pieceQ (q : Fin 128) (x : Fin 512) : outQ M K V Q C s0 s1 (ix2 q x)
    = (dq X Z Y n q ⟨x.val / 256, by omega⟩ ⟨x.val / 64 % 4, by omega⟩ ⟨x.val % 64, by omega⟩ : EReal) := by
  rw [outQ_at B.mask B.key B.value B.query B.cot B.sink0 B.sink1, bdq_eq]

theorem pieceKp (q x : Fin 128) : outKp M K V Q C s0 s1 (ix2 q x)
    = (dk X Z Y n ⟨0 + q.val, by omega⟩ ⟨x.val / 64, by omega⟩ ⟨x.val % 64, by omega⟩ : EReal) := by
  rw [(outK_at B.mask B.key B.value B.query B.cot B.sink0 B.sink1 q x).1, bdk_eq]
  simp only [Nat.zero_add]

theorem pieceKo (q x : Fin 128) : outKo M K V Q C s0 s1 (ix2 q x)
    = (dk X Z Y n ⟨128 + q.val, by omega⟩ ⟨x.val / 64, by omega⟩ ⟨x.val % 64, by omega⟩ : EReal) := by
  rw [(outK_at B.mask B.key B.value B.query B.cot B.sink0 B.sink1 q x).2, bdk_eq]

theorem pieceVp (q x : Fin 128) : outVp M K Q C s0 s1 (ix2 q x)
    = (dv X Z Y n ⟨0 + q.val, by omega⟩ ⟨x.val / 64, by omega⟩ ⟨x.val % 64, by omega⟩ : EReal) := by
  rw [(outV_at B.mask B.key B.query B.cot B.sink0 B.sink1 q x).1, bdv_eq]
  simp only [Nat.zero_add]

theorem pieceVo (q x : Fin 128) : outVo M K Q C s0 s1 (ix2 q x)
    = (dv X Z Y n ⟨128 + q.val, by omega⟩ ⟨x.val / 64, by omega⟩ ⟨x.val % 64, by omega⟩ : EReal) := by
  rw [(outV_at B.mask B.key B.query B.cot B.sink0 B.sink1 q x).2, bdv_eq]

end

/-! ## The eight blocks of a grid point -/

abbrev laterMask (t : Fin cfg0.N) : FVec Ideal S256x512 .f32 :=
  k0_pay37 (k0_pay36 (View.ld (iblk m c 6 t) (Rect.unit ![1, 0, 0] ![1, 256, 512] inb_S2x256x512_S1x256x512_1_0_0)))
abbrev firstMask (t : Fin cfg0.N) : FVec Ideal S256x512 .f32 :=
  k0_pay35 (View.ld (iblk m c 6 t) (Rect.unit (k0_off1 (grid0.coords t)) ![1, 256, 512] (k0_off1_inb _)))
abbrev sinkRow0 (t : Fin cfg0.N) : FVec Ideal S1x512 .f32 := k0_pay114 (View.ld (iblk m c 5 t) (Rect.unit ![0, 0] ![1, 512] inb_S16x512_S1x512_0_0))
abbrev sinkRow1 (t : Fin cfg0.N) : FVec Ideal S1x512 .f32 := k0_pay115 (View.ld (iblk m c 5 t) (Rect.unit ![8, 0] ![1, 512] inb_S16x512_S1x512_8_0))

include hx hz hy

theorem block0 (t : Fin cfg0.N) : Block X Z Y (blockAt t 0) (firstMask m c t) (k0_pay19 (iblk m c 1 t) (iblk m c 2 t)) (k0_pay27 (iblk m c 3 t) (iblk m c 4 t))
    (View.ld (X0_0 m c t) (Rect.unit ![0, 0] ![128, 512] inb_S1024x512_S128x512_0_0))
    (View.ld (iblk m c 7 t) (Rect.unit ![0, 0] ![128, 512] inb_S1024x512_S128x512_0_0)) (sinkRow0 m c t) (sinkRow1 m c t) where
  mask := mask_first m c t _ rfl
  key k x := by pointwise [k0_pay19]; exact keys_read m c X hx t 0 k x _ (by simp)
  value k x := by pointwise [k0_pay27]; exact values_read m c X hx t 0 k x _ (by simp)
  query q x := by pointwise []; exact queries_read m c X hx t 0 q x _ (by simp)
  cot q x := by pointwise []; exact cots_read m c Y hy t 0 q x _ (by simp)
  sink0 := sinks0_at m c Z hz t
  sink1 := sinks1_at m c Z hz t

theorem block1 (t : Fin cfg0.N) : Block X Z Y (blockAt t 1) (laterMask m c t) (k0_pay20 (iblk m c 1 t) (iblk m c 2 t)) (k0_pay28 (iblk m c 3 t) (iblk m c 4 t))
    (View.ld (X0_0 m c t) (Rect.unit ![128, 0] ![128, 512] inb_S1024x512_S128x512_128_0))
    (View.ld (iblk m c 7 t) (Rect.unit ![128, 0] ![128, 512] inb_S1024x512_S128x512_128_0)) (sinkRow0 m c t) (sinkRow1 m c t) where
  mask := mask_later m c t _ (Nat.succ_ne_zero _)
  key k x := by pointwise [k0_pay20]; exact keys_read m c X hx t 1 k x _ (by simp)
  value k x := by pointwise [k0_pay28]; exact values_read m c X hx t 1 k x _ (by simp)
  query q x := by pointwise []; exact queries_read m c X hx t 1 q x _ (by simp)
  cot q x := by pointwise []; exact cots_read m c Y hy t 1 q x _ (by simp)
  sink0 := sinks0_at m c Z hz t
  sink1 := sinks1_at m c Z hz t

theorem block2 (t : Fin cfg0.N) : Block X Z Y (blockAt t 2) (laterMask m c t) (k0_pay21 (iblk m c 1 t) (iblk m c 2 t)) (k0_pay29 (iblk m c 3 t) (iblk m c 4 t))
    (View.ld (X0_0 m c t) (Rect.unit ![256, 0] ![128, 512] inb_S1024x512_S128x512_256_0))
    (View.ld (iblk m c 7 t) (Rect.unit ![256, 0] ![128, 512] inb_S1024x512_S128x512_256_0)) (sinkRow0 m c t) (sinkRow1 m c t) where
  mask := mask_later m c t _ (Nat.succ_ne_zero _)
  key k x := by pointwise [k0_pay21]; exact keys_read m c X hx t 2 k x _ (by simp)
  value k x := by pointwise [k0_pay29]; exact values_read m c X hx t 2 k x _ (by simp)
  query q x := by pointwise []; exact queries_read m c X hx t 2 q x _ (by simp)
  cot q x := by pointwise []; exact cots_read m c Y hy t 2 q x _ (by simp)
  sink0 := sinks0_at m c Z hz t
  sink1 := sinks1_at m c Z hz t

theorem block3 (t : Fin cfg0.N) : Block X Z Y (blockAt t 3) (laterMask m c t) (k0_pay22 (iblk m c 1 t) (iblk m c 2 t)) (k0_pay30 (iblk m c 3 t) (iblk m c 4 t))
    (View.ld (X0_0 m c t) (Rect.unit ![384, 0] ![128, 512] inb_S1024x512_S128x512_384_0))
    (View.ld (iblk m c 7 t) (Rect.unit ![384, 0] ![128, 512] inb_S1024x512_S128x512_384_0)) (sinkRow0 m c t) (sinkRow1 m c t) where
  mask := mask_later m c t _ (Nat.succ_ne_zero _)
  key k x := by pointwise [k0_pay22]; exact keys_read m c X hx t 3 k x _ (by simp)
  value k x := by pointwise [k0_pay30]; exact values_read m c X hx t 3 k x _ (by simp)
  query q x := by pointwise []; exact queries_read m c X hx t 3 q x _ (by simp)
  cot q x := by pointwise []; exact cots_read m c Y hy t 3 q x _ (by simp)
  sink0 := sinks0_at m c Z hz t
  sink1 := sinks1_at m c Z hz t

theorem block4 (t : Fin cfg0.N) : Block X Z Y (blockAt t 4) (laterMask m c t) (k0_pay23 (iblk m c 1 t) (iblk m c 2 t)) (k0_pay31 (iblk m c 3 t) (iblk m c 4 t))
    (View.ld (X0_0 m c t) (Rect.unit ![512, 0] ![128, 512] inb_S1024x512_S128x512_512_0))
    (View.ld (iblk m c 7 t) (Rect.unit ![512, 0] ![128, 512] inb_S1024x512_S128x512_512_0)) (sinkRow0 m c t) (sinkRow1 m c t) where
  mask := mask_later m c t _ (Nat.succ_ne_zero _)
  key k x := by pointwise [k0_pay23]; exact keys_read m c X hx t 4 k x _ (by simp)
  value k x := by pointwise [k0_pay31]; exact values_read m c X hx t 4 k x _ (by simp)
  query q x := by pointwise []; exact queries_read m c X hx t 4 q x _ (by simp)
  cot q x := by pointwise []; exact cots_read m c Y hy t 4 q x _ (by simp)
  sink0 := sinks0_at m c Z hz t
  sink1 := sinks1_at m c Z hz t

theorem block5 (t : Fin cfg0.N) : Block X Z Y (blockAt t 5) (laterMask m c t) (k0_pay24 (iblk m c 1 t) (iblk m c 2 t)) (k0_pay32 (iblk m c 3 t) (iblk m c 4 t))
    (View.ld (X0_0 m c t) (Rect.unit ![640, 0] ![128, 512] inb_S1024x512_S128x512_640_0))
    (View.ld (iblk m c 7 t) (Rect.unit ![640, 0] ![128, 512] inb_S1024x512_S128x512_640_0)) (sinkRow0 m c t) (sinkRow1 m c t) where
  mask := mask_later m c t _ (Nat.succ_ne_zero _)
  key k x := by pointwise [k0_pay24]; exact keys_read m c X hx t 5 k x _ (by simp)
  value k x := by pointwise [k0_pay32]; exact values_read m c X hx t 5 k x _ (by simp)
  query q x := by pointwise []; exact queries_read m c X hx t 5 q x _ (by simp)
  cot q x := by pointwise []; exact cots_read m c Y hy t 5 q x _ (by simp)
  sink0 := sinks0_at m c Z hz t
  sink1 := sinks1_at m c Z hz t

theorem block6 (t : Fin cfg0.N) : Block X Z Y (blockAt t 6) (laterMask m c t) (k0_pay25 (iblk m c 1 t) (iblk m c 2 t)) (k0_pay33 (iblk m c 3 t) (iblk m c 4 t))
    (View.ld (X0_0 m c t) (Rect.unit ![768, 0] ![128, 512] inb_S1024x512_S128x512_768_0))
    (View.ld (iblk m c 7 t) (Rect.unit ![768, 0] ![128, 512] inb_S1024x512_S128x512_768_0)) (sinkRow0 m c t) (sinkRow1 m c t) where
  mask := mask_later m c t _ (Nat.succ_ne_zero _)
  key k x := by pointwise [k0_pay25]; exact keys_read m c X hx t 6 k x _ (by simp)
  value k x := by pointwise [k0_pay33]; exact values_read m c X hx t 6 k x _ (by simp)
  query q x := by pointwise []; exact queries_read m c X hx t 6 q x _ (by simp)
  cot q x := by pointwise []; exact cots_read m c Y hy t 6 q x _ (by simp)
  sink0 := sinks0_at m c Z hz t
  sink1 := sinks1_at m c Z hz t

theorem block7 (t : Fin cfg0.N) : Block X Z Y (blockAt t 7) (laterMask m c t) (k0_pay26 (iblk m c 1 t) (iblk m c 2 t)) (k0_pay34 (iblk m c 3 t) (iblk m c 4 t))
    (View.ld (X0_0 m c t) (Rect.unit ![896, 0] ![128, 512] inb_S1024x512_S128x512_896_0))
    (View.ld (iblk m c 7 t) (Rect.unit ![896, 0] ![128, 512] inb_S1024x512_S128x512_896_0)) (sinkRow0 m c t) (sinkRow1 m c t) where
  mask := mask_later m c t _ (Nat.succ_ne_zero _)
  key k x := by pointwise [k0_pay26]; exact keys_read m c X hx t 7 k x _ (by simp)
  value k x := by pointwise [k0_pay34]; exact values_read m c X hx t 7 k x _ (by simp)
  query q x := by pointwise []; exact queries_read m c X hx t 7 q x _ (by simp)
  cot q x := by pointwise []; exact cots_read m c Y hy t 7 q x _ (by simp)
  sink0 := sinks0_at m c Z hz t
  sink1 := sinks1_at m c Z hz t

end

end Cert.SwaIdeal.RefValue

end
-- ==== Proof.SwaFinals.lean ====
/-
  The first five results of the attention's gradient as the kernel leaves them: the queries' gradient, and the keys' and values' for the
  block's own rows and for the rows of the block before.
-/
module

public import proofs.«01_k».proof.Proof.SwaValue
public import proofs.«01_k».proof.Proof.SwaResults

@[expose] public section

set_option maxRecDepth 16384

noncomputable section

namespace Cert.SwaIdeal.RefValue

open Cert.SwaIdeal Cert.SwaIdeal.Gen Cert.SwaIdeal.Value Idealize.SL.Sem Idealize.ShloMosaic Idealize.ShloMosaic.TcCoe Cert.Attention
open Idealize.ShloMosaic.Pipeline (Dat)
open Cert.SwaRefIdeal.RefValue (ok dk dv dq ds res0v rows)

variable (m : (ℓ : Loc nD τ sig) → Buf (Elt Ideal) ℓ) (c : Dev nD)
variable (X : S16384x2816.Idx → ℝ) (Z : S8.Idx → ℝ) (Y : S16384x1024.Idx → ℝ)
variable (hx : m ((c : Thread nD τ).loc main_arg0) = fun i => ((X i : ℝ) : EReal)) (hz : m ((c : Thread nD τ).loc main_arg1) = fun i => ((Z i : ℝ) : EReal))
  (hy : m ((c : Thread nD τ).loc main_arg2) = fun i => ((Y i : ℝ) : EReal))

theorem queries_row (t : Fin cfg0.N) (b : Fin 8) (q : Fin 128) (l : Fin 512) (i : S16384x512.Idx) (h0 : (i 0).val = t.val * 1024 + (128 * b.val + q.val))
    (h1 : (i 1).val = l.val) :
    ((dq X Z Y (blockAt t b) q ⟨l.val / 256, by omega⟩ ⟨l.val / 64 % 4, by omega⟩ ⟨l.val % 64, by omega⟩ : ℝ) : EReal) = res0v X Z Y i := by
  obtain ⟨r, x, rfl⟩ : ∃ (r : Fin 16384) (x : Fin 512), i = ix2 r x := ⟨i 0, i 1, eq_ix2 i⟩
  obtain rfl : x = l := Fin.ext h1
  have h0 : r.val = t.val * 1024 + (128 * b.val + q.val) := h0
  have e1 : (⟨r.val / 128, by omega⟩ : Fin 128) = blockAt t b := Fin.ext (by show r.val / 128 = 8 * t.val + b.val; omega)
  have e2 : (⟨r.val % 128, by omega⟩ : Fin 128) = q := Fin.ext (by show r.val % 128 = q.val; omega)
  show _ = ((dq X Z Y ⟨r.val / 128, by omega⟩ ⟨r.val % 128, by omega⟩ _ _ _ : ℝ) : EReal)
  rw [e1, e2]
  rfl

theorem keys_row (f : Fin 128 → Fin 256 → Fin 2 → Fin 64 → ℝ) (o : ℕ) (ho : o + 128 ≤ 256) (t : Fin cfg0.N) (b : Fin 8) (q x : Fin 128) (i : S16384x128.Idx)
    (h0 : (i 0).val = t.val * 1024 + (128 * b.val + q.val)) (h1 : (i 1).val = x.val) :
    ((f (blockAt t b) ⟨o + q.val, by omega⟩ ⟨x.val / 64, by omega⟩ ⟨x.val % 64, by omega⟩ : ℝ) : EReal) = rows f o ho i := by
  obtain ⟨r, l, rfl⟩ : ∃ (r : Fin 16384) (l : Fin 128), i = ix2 r l := ⟨i 0, i 1, eq_ix2 i⟩
  obtain rfl : l = x := Fin.ext h1
  have h0 : r.val = t.val * 1024 + (128 * b.val + q.val) := h0
  have e1 : (⟨r.val / 128, by omega⟩ : Fin 128) = blockAt t b := Fin.ext (by show r.val / 128 = 8 * t.val + b.val; omega)
  have e2 : (⟨o + r.val % 128, by omega⟩ : Fin 256) = ⟨o + q.val, by omega⟩ := Fin.ext (by show o + r.val % 128 = o + q.val; omega)
  show _ = ((f ⟨r.val / 128, by omega⟩ ⟨o + r.val % 128, by omega⟩ _ _ : ℝ) : EReal)
  rw [e1, e2]
  rfl

include hx hz hy

set_option maxHeartbeats 8000000 in
theorem final8 : (dats m 0 c).arrAt 8 cfg0.N = res0v X Z Y := by
  refine (dats m 0 c).arrAt_eq_of_covers 8 _ (by decide +kernel) fun t hf y => ?_
  blk_simp
  have e0 : ((((View.whole main_v27_0).slice (win0_8.rect t)).emb y) 0).val = t.val * 1024 + (y 0).val := by blk_simp [idx t]
  have e1 : ((((View.whole main_v27_0).slice (win0_8.rect t)).emb y) 1).val = (y 1).val := by blk_simp [idx t]
  rw [after0_8]
  by_cases ha : t.val % 16 = 0
  on_goal 2 => by_cases hb : t.val % 16 = 15
  all_goals first
    | rw [outsAt0_A m c t ha (by omega)]
    | rw [outsAt0_C m c t ha hb]
    | rw [outsAt0_B m c t ha hb]
  all_goals
    frame_out
    canon_tiles x h
  all_goals
    obtain ⟨q, l, rfl⟩ : ∃ (q : Fin 128) (l : Fin 512), x = ix2 q l := ⟨x 0, x 1, eq_ix2 x⟩
    have h1 : (y 1).val = l.val := h1
    first
    | (have h : (y 0).val = q.val := h0; exact (pieceQ (block0 m c X Z Y hx hz hy t) q l).trans (queries_row X Z Y t 0 q l _ (by rw [e0, h]; simp) (by rw [e1, h1])))
    | (have h : (y 0).val = 128 + q.val := h0; exact (pieceQ (block1 m c X Z Y hx hz hy t) q l).trans (queries_row X Z Y t 1 q l _ (by rw [e0, h]; simp) (by rw [e1, h1])))
    | (have h : (y 0).val = 256 + q.val := h0; exact (pieceQ (block2 m c X Z Y hx hz hy t) q l).trans (queries_row X Z Y t 2 q l _ (by rw [e0, h]; simp) (by rw [e1, h1])))
    | (have h : (y 0).val = 384 + q.val := h0; exact (pieceQ (block3 m c X Z Y hx hz hy t) q l).trans (queries_row X Z Y t 3 q l _ (by rw [e0, h]; simp) (by rw [e1, h1])))
    | (have h : (y 0).val = 512 + q.val := h0; exact (pieceQ (block4 m c X Z Y hx hz hy t) q l).trans (queries_row X Z Y t 4 q l _ (by rw [e0, h]; simp) (by rw [e1, h1])))
    | (have h : (y 0).val = 640 + q.val := h0; exact (pieceQ (block5 m c X Z Y hx hz hy t) q l).trans (queries_row X Z Y t 5 q l _ (by rw [e0, h]; simp) (by rw [e1, h1])))
    | (have h : (y 0).val = 768 + q.val := h0; exact (pieceQ (block6 m c X Z Y hx hz hy t) q l).trans (queries_row X Z Y t 6 q l _ (by rw [e0, h]; simp) (by rw [e1, h1])))
    | (have h : (y 0).val = 896 + q.val := h0; exact (pieceQ (block7 m c X Z Y hx hz hy t) q l).trans (queries_row X Z Y t 7 q l _ (by rw [e0, h]; simp) (by rw [e1, h1])))

set_option maxHeartbeats 8000000 in
theorem final9 : (dats m 0 c).arrAt 9 cfg0.N = rows (dk X Z Y) 128 (by norm_num) := by
  refine (dats m 0 c).arrAt_eq_of_covers 9 _ (by decide +kernel) fun t hf y => ?_
  blk_simp
  have e0 : ((((View.whole main_v27_1).slice (win0_9.rect t)).emb y) 0).val = t.val * 1024 + (y 0).val := by blk_simp [idx t]
  have e1 : ((((View.whole main_v27_1).slice (win0_9.rect t)).emb y) 1).val = (y 1).val := by blk_simp [idx t]
  rw [after0_9]
  by_cases ha : t.val % 16 = 0
  on_goal 2 => by_cases hb : t.val % 16 = 15
  all_goals first
    | rw [outsAt0_A m c t ha (by omega)]
    | rw [outsAt0_C m c t ha hb]
    | rw [outsAt0_B m c t ha hb]
  all_goals
    frame_out
    canon_tiles x h
  all_goals
    obtain ⟨q, l, rfl⟩ : ∃ (q : Fin 128) (l : Fin 128), x = ix2 q l := ⟨x 0, x 1, eq_ix2 x⟩
    have h1 : (y 1).val = l.val := h1
    first
    | (have h : (y 0).val = q.val := h0; exact (pieceKo (block0 m c X Z Y hx hz hy t) q l).trans (keys_row (dk X Z Y) 128 (by norm_num) t 0 q l _ (by rw [e0, h]; simp) (by rw [e1, h1])))
    | (have h : (y 0).val = 128 + q.val := h0; exact (pieceKo (block1 m c X Z Y hx hz hy t) q l).trans (keys_row (dk X Z Y) 128 (by norm_num) t 1 q l _ (by rw [e0, h]; simp) (by rw [e1, h1])))
    | (have h : (y 0).val = 256 + q.val := h0; exact (pieceKo (block2 m c X Z Y hx hz hy t) q l).trans (keys_row (dk X Z Y) 128 (by norm_num) t 2 q l _ (by rw [e0, h]; simp) (by rw [e1, h1])))
    | (have h : (y 0).val = 384 + q.val := h0; exact (pieceKo (block3 m c X Z Y hx hz hy t) q l).trans (keys_row (dk X Z Y) 128 (by norm_num) t 3 q l _ (by rw [e0, h]; simp) (by rw [e1, h1])))
    | (have h : (y 0).val = 512 + q.val := h0; exact (pieceKo (block4 m c X Z Y hx hz hy t) q l).trans (keys_row (dk X Z Y) 128 (by norm_num) t 4 q l _ (by rw [e0, h]; simp) (by rw [e1, h1])))
    | (have h : (y 0).val = 640 + q.val := h0; exact (pieceKo (block5 m c X Z Y hx hz hy t) q l).trans (keys_row (dk X Z Y) 128 (by norm_num) t 5 q l _ (by rw [e0, h]; simp) (by rw [e1, h1])))
    | (have h : (y 0).val = 768 + q.val := h0; exact (pieceKo (block6 m c X Z Y hx hz hy t) q l).trans (keys_row (dk X Z Y) 128 (by norm_num) t 6 q l _ (by rw [e0, h]; simp) (by rw [e1, h1])))
    | (have h : (y 0).val = 896 + q.val := h0; exact (pieceKo (block7 m c X Z Y hx hz hy t) q l).trans (keys_row (dk X Z Y) 128 (by norm_num) t 7 q l _ (by rw [e0, h]; simp) (by rw [e1, h1])))

set_option maxHeartbeats 8000000 in
theorem final10 : (dats m 0 c).arrAt 10 cfg0.N = rows (dk X Z Y) 0 (by norm_num) := by
  refine (dats m 0 c).arrAt_eq_of_covers 10 _ (by decide +kernel) fun t hf y => ?_
  blk_simp
  have e0 : ((((View.whole main_v27_2).slice (win0_10.rect t)).emb y) 0).val = t.val * 1024 + (y 0).val := by blk_simp [idx t]
  have e1 : ((((View.whole main_v27_2).slice (win0_10.rect t)).emb y) 1).val = (y 1).val := by blk_simp [idx t]
  rw [after0_10]
  by_cases ha : t.val % 16 = 0
  on_goal 2 => by_cases hb : t.val % 16 = 15
  all_goals first
    | rw [outsAt0_A m c t ha (by omega)]
    | rw [outsAt0_C m c t ha hb]
    | rw [outsAt0_B m c t ha hb]
  all_goals
    frame_out
    canon_tiles x h
  all_goals
    obtain ⟨q, l, rfl⟩ : ∃ (q : Fin 128) (l : Fin 128), x = ix2 q l := ⟨x 0, x 1, eq_ix2 x⟩
    have h1 : (y 1).val = l.val := h1
    first
    | (have h : (y 0).val = q.val := h0; exact (pieceKp (block0 m c X Z Y hx hz hy t) q l).trans (keys_row (dk X Z Y) 0 (by norm_num) t 0 q l _ (by rw [e0, h]; simp) (by rw [e1, h1])))
    | (have h : (y 0).val = 128 + q.val := h0; exact (pieceKp (block1 m c X Z Y hx hz hy t) q l).trans (keys_row (dk X Z Y) 0 (by norm_num) t 1 q l _ (by rw [e0, h]; simp) (by rw [e1, h1])))
    | (have h : (y 0).val = 256 + q.val := h0; exact (pieceKp (block2 m c X Z Y hx hz hy t) q l).trans (keys_row (dk X Z Y) 0 (by norm_num) t 2 q l _ (by rw [e0, h]; simp) (by rw [e1, h1])))
    | (have h : (y 0).val = 384 + q.val := h0; exact (pieceKp (block3 m c X Z Y hx hz hy t) q l).trans (keys_row (dk X Z Y) 0 (by norm_num) t 3 q l _ (by rw [e0, h]; simp) (by rw [e1, h1])))
    | (have h : (y 0).val = 512 + q.val := h0; exact (pieceKp (block4 m c X Z Y hx hz hy t) q l).trans (keys_row (dk X Z Y) 0 (by norm_num) t 4 q l _ (by rw [e0, h]; simp) (by rw [e1, h1])))
    | (have h : (y 0).val = 640 + q.val := h0; exact (pieceKp (block5 m c X Z Y hx hz hy t) q l).trans (keys_row (dk X Z Y) 0 (by norm_num) t 5 q l _ (by rw [e0, h]; simp) (by rw [e1, h1])))
    | (have h : (y 0).val = 768 + q.val := h0; exact (pieceKp (block6 m c X Z Y hx hz hy t) q l).trans (keys_row (dk X Z Y) 0 (by norm_num) t 6 q l _ (by rw [e0, h]; simp) (by rw [e1, h1])))
    | (have h : (y 0).val = 896 + q.val := h0; exact (pieceKp (block7 m c X Z Y hx hz hy t) q l).trans (keys_row (dk X Z Y) 0 (by norm_num) t 7 q l _ (by rw [e0, h]; simp) (by rw [e1, h1])))

set_option maxHeartbeats 8000000 in
theorem final11 : (dats m 0 c).arrAt 11 cfg0.N = rows (dv X Z Y) 128 (by norm_num) := by
  refine (dats m 0 c).arrAt_eq_of_covers 11 _ (by decide +kernel) fun t hf y => ?_
  blk_simp
  have e0 : ((((View.whole main_v27_3).slice (win0_11.rect t)).emb y) 0).val = t.val * 1024 + (y 0).val := by blk_simp [idx t]
  have e1 : ((((View.whole main_v27_3).slice (win0_11.rect t)).emb y) 1).val = (y 1).val := by blk_simp [idx t]
  rw [after0_11]
  by_cases ha : t.val % 16 = 0
  on_goal 2 => by_cases hb : t.val % 16 = 15
  all_goals first
    | rw [outsAt0_A m c t ha (by omega)]
    | rw [outsAt0_C m c t ha hb]
    | rw [outsAt0_B m c t ha hb]
  all_goals
    frame_out
    canon_tiles x h
  all_goals
    obtain ⟨q, l, rfl⟩ : ∃ (q : Fin 128) (l : Fin 128), x = ix2 q l := ⟨x 0, x 1, eq_ix2 x⟩
    have h1 : (y 1).val = l.val := h1
    first
    | (have h : (y 0).val = q.val := h0; exact (pieceVo (block0 m c X Z Y hx hz hy t) q l).trans (keys_row (dv X Z Y) 128 (by norm_num) t 0 q l _ (by rw [e0, h]; simp) (by rw [e1, h1])))
    | (have h : (y 0).val = 128 + q.val := h0; exact (pieceVo (block1 m c X Z Y hx hz hy t) q l).trans (keys_row (dv X Z Y) 128 (by norm_num) t 1 q l _ (by rw [e0, h]; simp) (by rw [e1, h1])))
    | (have h : (y 0).val = 256 + q.val := h0; exact (pieceVo (block2 m c X Z Y hx hz hy t) q l).trans (keys_row (dv X Z Y) 128 (by norm_num) t 2 q l _ (by rw [e0, h]; simp) (by rw [e1, h1])))
    | (have h : (y 0).val = 384 + q.val := h0; exact (pieceVo (block3 m c X Z Y hx hz hy t) q l).trans (keys_row (dv X Z Y) 128 (by norm_num) t 3 q l _ (by rw [e0, h]; simp) (by rw [e1, h1])))
    | (have h : (y 0).val = 512 + q.val := h0; exact (pieceVo (block4 m c X Z Y hx hz hy t) q l).trans (keys_row (dv X Z Y) 128 (by norm_num) t 4 q l _ (by rw [e0, h]; simp) (by rw [e1, h1])))
    | (have h : (y 0).val = 640 + q.val := h0; exact (pieceVo (block5 m c X Z Y hx hz hy t) q l).trans (keys_row (dv X Z Y) 128 (by norm_num) t 5 q l _ (by rw [e0, h]; simp) (by rw [e1, h1])))
    | (have h : (y 0).val = 768 + q.val := h0; exact (pieceVo (block6 m c X Z Y hx hz hy t) q l).trans (keys_row (dv X Z Y) 128 (by norm_num) t 6 q l _ (by rw [e0, h]; simp) (by rw [e1, h1])))
    | (have h : (y 0).val = 896 + q.val := h0; exact (pieceVo (block7 m c X Z Y hx hz hy t) q l).trans (keys_row (dv X Z Y) 128 (by norm_num) t 7 q l _ (by rw [e0, h]; simp) (by rw [e1, h1])))

set_option maxHeartbeats 8000000 in
theorem final12 : (dats m 0 c).arrAt 12 cfg0.N = rows (dv X Z Y) 0 (by norm_num) := by
  refine (dats m 0 c).arrAt_eq_of_covers 12 _ (by decide +kernel) fun t hf y => ?_
  blk_simp
  have e0 : ((((View.whole main_v27_4).slice (win0_12.rect t)).emb y) 0).val = t.val * 1024 + (y 0).val := by blk_simp [idx t]
  have e1 : ((((View.whole main_v27_4).slice (win0_12.rect t)).emb y) 1).val = (y 1).val := by blk_simp [idx t]
  rw [after0_12]
  by_cases ha : t.val % 16 = 0
  on_goal 2 => by_cases hb : t.val % 16 = 15
  all_goals first
    | rw [outsAt0_A m c t ha (by omega)]
    | rw [outsAt0_C m c t ha hb]
    | rw [outsAt0_B m c t ha hb]
  all_goals
    frame_out
    canon_tiles x h
  all_goals
    obtain ⟨q, l, rfl⟩ : ∃ (q : Fin 128) (l : Fin 128), x = ix2 q l := ⟨x 0, x 1, eq_ix2 x⟩
    have h1 : (y 1).val = l.val := h1
    first
    | (have h : (y 0).val = q.val := h0; exact (pieceVp (block0 m c X Z Y hx hz hy t) q l).trans (keys_row (dv X Z Y) 0 (by norm_num) t 0 q l _ (by rw [e0, h]; simp) (by rw [e1, h1])))
    | (have h : (y 0).val = 128 + q.val := h0; exact (pieceVp (block1 m c X Z Y hx hz hy t) q l).trans (keys_row (dv X Z Y) 0 (by norm_num) t 1 q l _ (by rw [e0, h]; simp) (by rw [e1, h1])))
    | (have h : (y 0).val = 256 + q.val := h0; exact (pieceVp (block2 m c X Z Y hx hz hy t) q l).trans (keys_row (dv X Z Y) 0 (by norm_num) t 2 q l _ (by rw [e0, h]; simp) (by rw [e1, h1])))
    | (have h : (y 0).val = 384 + q.val := h0; exact (pieceVp (block3 m c X Z Y hx hz hy t) q l).trans (keys_row (dv X Z Y) 0 (by norm_num) t 3 q l _ (by rw [e0, h]; simp) (by rw [e1, h1])))
    | (have h : (y 0).val = 512 + q.val := h0; exact (pieceVp (block4 m c X Z Y hx hz hy t) q l).trans (keys_row (dv X Z Y) 0 (by norm_num) t 4 q l _ (by rw [e0, h]; simp) (by rw [e1, h1])))
    | (have h : (y 0).val = 640 + q.val := h0; exact (pieceVp (block5 m c X Z Y hx hz hy t) q l).trans (keys_row (dv X Z Y) 0 (by norm_num) t 5 q l _ (by rw [e0, h]; simp) (by rw [e1, h1])))
    | (have h : (y 0).val = 768 + q.val := h0; exact (pieceVp (block6 m c X Z Y hx hz hy t) q l).trans (keys_row (dv X Z Y) 0 (by norm_num) t 6 q l _ (by rw [e0, h]; simp) (by rw [e1, h1])))
    | (have h : (y 0).val = 896 + q.val := h0; exact (pieceVp (block7 m c X Z Y hx hz hy t) q l).trans (keys_row (dv X Z Y) 0 (by norm_num) t 7 q l _ (by rw [e0, h]; simp) (by rw [e1, h1])))

end Cert.SwaIdeal.RefValue

end
-- ==== Proof.SwaSinks.lean ====
/-
  The sinks' gradient as the kernel leaves it: two rows that add up over the sixteen grid points, and at the last one the rows of the heads'
  sums beside them.
-/
module

public import proofs.«01_k».proof.Proof.SwaValue
public import proofs.«01_k».proof.Proof.SwaResults
public import proofs.«01_k».proof.Proof.Norm

@[expose] public section

set_option maxRecDepth 16384

noncomputable section

namespace Cert.SwaIdeal.RefValue

open Cert.SwaIdeal Cert.SwaIdeal.Gen Cert.SwaIdeal.Value Idealize.SL.Sem Idealize.ShloMosaic Idealize.ShloMosaic.TcCoe Cert.Attention
open Idealize.ShloMosaic.Pipeline (Dat)
open Cert.SwaRefIdeal.RefValue (ok dk dv dq ds res0v rows dsink sinkRows sinkRow)

variable (m : (ℓ : Loc nD τ sig) → Buf (Elt Ideal) ℓ) (c : Dev nD)
variable (X : S16384x2816.Idx → ℝ) (Z : S8.Idx → ℝ) (Y : S16384x1024.Idx → ℝ)
variable (hx : m ((c : Thread nD τ).loc main_arg0) = fun i => ((X i : ℝ) : EReal)) (hz : m ((c : Thread nD τ).loc main_arg1) = fun i => ((Z i : ℝ) : EReal))
  (hy : m ((c : Thread nD τ).loc main_arg2) = fun i => ((Y i : ℝ) : EReal))

/-! ## The sinks' gradients -/

/-- A block's shares of the probabilities of a sink and of their mean cotangents. -/
def Share (n : Fin 128) (h : Fin 2) (l : Fin 512) (r d : FVec Ideal S1x512 .f32) : Prop :=
  ∃ a b : ℝ, r (ix2 0 l) = (a : EReal) ∧ d (ix2 0 l) = (b : EReal) ∧ -(a * b) = ds X Z Y n h (part l) (spot l)

theorem lane_spot (l : Fin 512) : lane (part l) (spot l) = l := Fin.ext (by show l.val / 128 * 128 + l.val % 128 = l.val; omega)

section
variable {X Z Y} {M : FVec Ideal S256x512 .f32} {K V : FVec Ideal S256x128 .f32} {Q C : FVec Ideal S128x512 .f32} {s0 s1 : FVec Ideal S1x512 .f32}
variable {n : Fin 128} (B : Block X Z Y n M K V Q C s0 s1)

include B

theorem share0 (l : Fin 512) : Share X Z Y n 0 l (rests (scores0 M K Q) s0) (deltas (dprobs0 V C) (probs0 M K Q s0)) :=
  ⟨_, _, rests0_at B.mask B.key B.query B.sink0 l, deltas0_at B.mask B.key B.value B.query B.cot B.sink0 l, by
    have e := bds_eq X Z Y (n := n) 0 (part l) (spot l)
    rwa [lane_spot] at e⟩

theorem share1 (l : Fin 512) : Share X Z Y n 1 l (rests (scores1 M K Q) s1) (deltas (dprobs1 V C) (probs1 M K Q s1)) :=
  ⟨_, _, rests1_at B.mask B.key B.query B.sink1 l, deltas1_at B.mask B.key B.value B.query B.cot B.sink1 l, by
    have e := bds_eq X Z Y (n := n) 1 (part l) (spot l)
    rwa [lane_spot] at e⟩

end

/-- A grid point's share of the gradient of a sink. -/
def shares (t : Fin cfg0.N) (h : Fin 2) (l : Fin 512) : ℝ := ∑ b : Fin 8, ds X Z Y (blockAt t b) h (part l) (spot l)

theorem row_step {r0 r1 r2 r3 r4 r5 r6 r7 d0 d1 d2 d3 d4 d5 d6 d7 old : FVec Ideal S1x512 .f32} (t : Fin cfg0.N) (h : Fin 2) (l : Fin 512)
    (e0 : Share X Z Y (blockAt t 0) h l r0 d0) (e1 : Share X Z Y (blockAt t 1) h l r1 d1) (e2 : Share X Z Y (blockAt t 2) h l r2 d2)
    (e3 : Share X Z Y (blockAt t 3) h l r3 d3) (e4 : Share X Z Y (blockAt t 4) h l r4 d4) (e5 : Share X Z Y (blockAt t 5) h l r5 d5)
    (e6 : Share X Z Y (blockAt t 6) h l r6 d6) (e7 : Share X Z Y (blockAt t 7) h l r7 d7) (o : ℝ) (ho : old (ix2 0 l) = (o : EReal)) :
    k0_pay361 r0 r1 r2 r3 r4 r5 r6 r7 d0 d1 d2 d3 d4 d5 d6 d7 old (ix2 0 l) = ((o + shares X Z Y t h l : ℝ) : EReal) := by
  obtain ⟨a0, b0, f0, g0, h0⟩ := e0
  obtain ⟨a1, b1, f1, g1, h1⟩ := e1
  obtain ⟨a2, b2, f2, g2, h2⟩ := e2
  obtain ⟨a3, b3, f3, g3, h3⟩ := e3
  obtain ⟨a4, b4, f4, g4, h4⟩ := e4
  obtain ⟨a5, b5, f5, g5, h5⟩ := e5
  obtain ⟨a6, b6, f6, g6, h6⟩ := e6
  obtain ⟨a7, b7, f7, g7, h7⟩ := e7
  pointwise [k0_pay361, f0, g0, f1, g1, f2, g2, f3, g3, f4, g4, f5, g5, f6, g6, f7, g7, ho]
  have e : shares X Z Y t h l = 0 - a0 * b0 - a1 * b1 - a2 * b2 - a3 * b3 - a4 * b4 - a5 * b5 - a6 * b6 - a7 * b7 := by
    rw [shares, Fin.sum_univ_eight, ← h0, ← h1, ← h2, ← h3, ← h4, ← h5, ← h6, ← h7]
    ring
  rw [e]
  push_cast
  rfl

/-! ### What is left in the array of sinks -/

variable {sig' : RefSig} {κ' : Kind} {sp' : Space} (v : View sig' κ' sp' S16x512 .f32) (f : v.ty.Contents (Elt Ideal)) (w0 w8 : FVec Ideal S1x512 .f32)

/-- The two rows stored at every grid point. -/
def left0 : List (View.Piece (Elt Ideal) S16x512 .f32) :=
  [⟨Rect.unit ![8, 0] ![1, 512] inb_S16x512_S1x512_8_0, w8⟩, ⟨Rect.unit ![0, 0] ![1, 512] inb_S16x512_S1x512_0_0, w0⟩]

/-- The loads of the last grid point: the lanes of one query head. -/
theorem load_at {o p : ℕ} (inb : ∀ a, (![o, p] : Fin 2 → ℕ) a + S1x128.size a ≤ S16x512.size a) (L : List (View.Piece (Elt Ideal) S16x512 .f32)) (r : Fin 16) (l : Fin 512) (q : Fin 128)
    (hr : r.val = o) (hl : l.val = p + q.val) : v.readCov L (Rect.unit (s := S16x512) ![o, p] S1x128.size inb).toLoadRect (ix2 0 q) = View.canon L (ix2 r l) := by
  rw [View.readCov_eq_canon']
  refine congrArg (View.canon L) (funext fun i => Fin.ext ?_)
  refine Fin.cases ?_ (fun i => Fin.cases ?_ (fun i => i.elim0) i) i
  · show o + 1 * 0 = r.val
    omega
  · show p + 1 * q.val = l.val
    omega

/-- And the rows of the heads' sums stored after them at the last one. -/
def left1 : List (View.Piece (Elt Ideal) S16x512 .f32) :=
  ⟨Rect.unit ![1, 0] ![1, 512] inb_S16x512_S1x512_1_0, k0_pay11 (v.readCov (left0 w0 w8) (Rect.unit ![0, 0] ![1, 128] inb_S16x512_S1x128_0_0).toLoadRect)⟩ :: left0 w0 w8

def left2 : List (View.Piece (Elt Ideal) S16x512 .f32) :=
  ⟨Rect.unit ![2, 0] ![1, 512] inb_S16x512_S1x512_2_0, k0_pay12 (v.readCov (left1 v w0 w8) (Rect.unit ![0, 128] ![1, 128] inb_S16x512_S1x128_0_128).toLoadRect)⟩ :: left1 v w0 w8

def left3 : List (View.Piece (Elt Ideal) S16x512 .f32) :=
  ⟨Rect.unit ![3, 0] ![1, 512] inb_S16x512_S1x512_3_0, k0_pay13 (v.readCov (left2 v w0 w8) (Rect.unit ![0, 256] ![1, 128] inb_S16x512_S1x128_0_256).toLoadRect)⟩ :: left2 v w0 w8

def left4 : List (View.Piece (Elt Ideal) S16x512 .f32) :=
  ⟨Rect.unit ![4, 0] ![1, 512] inb_S16x512_S1x512_4_0, k0_pay14 (v.readCov (left3 v w0 w8) (Rect.unit ![0, 384] ![1, 128] inb_S16x512_S1x128_0_384).toLoadRect)⟩ :: left3 v w0 w8

def left5 : List (View.Piece (Elt Ideal) S16x512 .f32) :=
  ⟨Rect.unit ![9, 0] ![1, 512] inb_S16x512_S1x512_9_0, k0_pay7 (k0_pay15 (v.readCov (left4 v w0 w8) (Rect.unit ![8, 0] ![1, 128] inb_S16x512_S1x128_8_0).toLoadRect))⟩ :: left4 v w0 w8

def left6 : List (View.Piece (Elt Ideal) S16x512 .f32) :=
  ⟨Rect.unit ![10, 0] ![1, 512] inb_S16x512_S1x512_10_0, k0_pay8 (v.readCov (left5 v w0 w8) (Rect.unit ![8, 128] ![1, 128] inb_S16x512_S1x128_8_128).toLoadRect)⟩ :: left5 v w0 w8

def left7 : List (View.Piece (Elt Ideal) S16x512 .f32) :=
  ⟨Rect.unit ![11, 0] ![1, 512] inb_S16x512_S1x512_11_0, k0_pay9 (v.readCov (left6 v w0 w8) (Rect.unit ![8, 256] ![1, 128] inb_S16x512_S1x128_8_256).toLoadRect)⟩ :: left6 v w0 w8

def left8 : List (View.Piece (Elt Ideal) S16x512 .f32) :=
  ⟨Rect.unit ![12, 0] ![1, 512] inb_S16x512_S1x512_12_0, k0_pay10 (v.readCov (left7 v w0 w8) (Rect.unit ![8, 384] ![1, 128] inb_S16x512_S1x128_8_384).toLoadRect)⟩ :: left7 v w0 w8

theorem canon_left0 (l : Fin 512) : View.canon (left0 w0 w8) (ix2 0 l) = w0 (ix2 0 l) ∧ View.canon (left0 w0 w8) (ix2 8 l) = w8 (ix2 0 l) := by
  constructor
  · rw [left0, Stores.canon_other _ _ _ _ _ (by decide), Stores.canon_row _ _ _ _ 0 _ (by decide)]
  · rw [left0, Stores.canon_row _ _ _ _ 0 _ (by decide)]

theorem canon_left1 (l : Fin 512) : View.canon (left1 v w0 w8) (ix2 0 l) = w0 (ix2 0 l) ∧ View.canon (left1 v w0 w8) (ix2 8 l) = w8 (ix2 0 l) := by
  rw [left1, Stores.canon_other _ _ _ _ _ (by decide), Stores.canon_other _ _ _ _ _ (by decide)]
  exact canon_left0 w0 w8 l

theorem canon_left2 (l : Fin 512) : View.canon (left2 v w0 w8) (ix2 0 l) = w0 (ix2 0 l) ∧ View.canon (left2 v w0 w8) (ix2 8 l) = w8 (ix2 0 l) := by
  rw [left2, Stores.canon_other _ _ _ _ _ (by decide), Stores.canon_other _ _ _ _ _ (by decide)]
  exact canon_left1 v w0 w8 l

theorem canon_left3 (l : Fin 512) : View.canon (left3 v w0 w8) (ix2 0 l) = w0 (ix2 0 l) ∧ View.canon (left3 v w0 w8) (ix2 8 l) = w8 (ix2 0 l) := by
  rw [left3, Stores.canon_other _ _ _ _ _ (by decide), Stores.canon_other _ _ _ _ _ (by decide)]
  exact canon_left2 v w0 w8 l

theorem canon_left4 (l : Fin 512) : View.canon (left4 v w0 w8) (ix2 0 l) = w0 (ix2 0 l) ∧ View.canon (left4 v w0 w8) (ix2 8 l) = w8 (ix2 0 l) := by
  rw [left4, Stores.canon_other _ _ _ _ _ (by decide), Stores.canon_other _ _ _ _ _ (by decide)]
  exact canon_left3 v w0 w8 l

theorem canon_left5 (l : Fin 512) : View.canon (left5 v w0 w8) (ix2 0 l) = w0 (ix2 0 l) ∧ View.canon (left5 v w0 w8) (ix2 8 l) = w8 (ix2 0 l) := by
  rw [left5, Stores.canon_other _ _ _ _ _ (by decide), Stores.canon_other _ _ _ _ _ (by decide)]
  exact canon_left4 v w0 w8 l

theorem canon_left6 (l : Fin 512) : View.canon (left6 v w0 w8) (ix2 0 l) = w0 (ix2 0 l) ∧ View.canon (left6 v w0 w8) (ix2 8 l) = w8 (ix2 0 l) := by
  rw [left6, Stores.canon_other _ _ _ _ _ (by decide), Stores.canon_other _ _ _ _ _ (by decide)]
  exact canon_left5 v w0 w8 l

theorem canon_left7 (l : Fin 512) : View.canon (left7 v w0 w8) (ix2 0 l) = w0 (ix2 0 l) ∧ View.canon (left7 v w0 w8) (ix2 8 l) = w8 (ix2 0 l) := by
  rw [left7, Stores.canon_other _ _ _ _ _ (by decide), Stores.canon_other _ _ _ _ _ (by decide)]
  exact canon_left6 v w0 w8 l

theorem canon_left8 (l : Fin 512) : View.canon (left8 v w0 w8) (ix2 0 l) = w0 (ix2 0 l) ∧ View.canon (left8 v w0 w8) (ix2 8 l) = w8 (ix2 0 l) := by
  rw [left8, Stores.canon_other _ _ _ _ _ (by decide), Stores.canon_other _ _ _ _ _ (by decide)]
  exact canon_left7 v w0 w8 l

theorem sum1 (l : Fin 512) : v.read (Elt Ideal) (v.writes (Elt Ideal) f (left8 v w0 w8)) (ix2 1 l) = ∑ q : Fin 128, w0 (ix2 0 (lane 0 q)) := by
  rw [left8, left7, left6, left5, left4, left3, left2, left1, Stores.read_other _ _ _ _ _ _ _ (by decide), Stores.read_other _ _ _ _ _ _ _ (by decide), Stores.read_other _ _ _ _ _ _ _ (by decide), Stores.read_other _ _ _ _ _ _ _ (by decide), Stores.read_other _ _ _ _ _ _ _ (by decide), Stores.read_other _ _ _ _ _ _ _ (by decide), Stores.read_other _ _ _ _ _ _ _ (by decide), Stores.read_row _ _ _ _ _ _ 0 _ (by decide)]
  pointwise [k0_pay11]
  refine Finset.sum_congr rfl fun q _ => (load_at v _ _ 0 (lane 0 q) q (by decide) (by simp)).trans ?_
  exact (canon_left0 w0 w8 _).1

theorem sum2 (l : Fin 512) : v.read (Elt Ideal) (v.writes (Elt Ideal) f (left8 v w0 w8)) (ix2 2 l) = ∑ q : Fin 128, w0 (ix2 0 (lane 1 q)) := by
  rw [left8, left7, left6, left5, left4, left3, left2, Stores.read_other _ _ _ _ _ _ _ (by decide), Stores.read_other _ _ _ _ _ _ _ (by decide), Stores.read_other _ _ _ _ _ _ _ (by decide), Stores.read_other _ _ _ _ _ _ _ (by decide), Stores.read_other _ _ _ _ _ _ _ (by decide), Stores.read_other _ _ _ _ _ _ _ (by decide), Stores.read_row _ _ _ _ _ _ 0 _ (by decide)]
  pointwise [k0_pay12]
  refine Finset.sum_congr rfl fun q _ => (load_at v _ _ 0 (lane 1 q) q (by decide) (by simp)).trans ?_
  exact (canon_left1 v w0 w8 _).1

theorem sum3 (l : Fin 512) : v.read (Elt Ideal) (v.writes (Elt Ideal) f (left8 v w0 w8)) (ix2 3 l) = ∑ q : Fin 128, w0 (ix2 0 (lane 2 q)) := by
  rw [left8, left7, left6, left5, left4, left3, Stores.read_other _ _ _ _ _ _ _ (by decide), Stores.read_other _ _ _ _ _ _ _ (by decide), Stores.read_other _ _ _ _ _ _ _ (by decide), Stores.read_other _ _ _ _ _ _ _ (by decide), Stores.read_other _ _ _ _ _ _ _ (by decide), Stores.read_row _ _ _ _ _ _ 0 _ (by decide)]
  pointwise [k0_pay13]
  refine Finset.sum_congr rfl fun q _ => (load_at v _ _ 0 (lane 2 q) q (by decide) (by simp)).trans ?_
  exact (canon_left2 v w0 w8 _).1

theorem sum4 (l : Fin 512) : v.read (Elt Ideal) (v.writes (Elt Ideal) f (left8 v w0 w8)) (ix2 4 l) = ∑ q : Fin 128, w0 (ix2 0 (lane 3 q)) := by
  rw [left8, left7, left6, left5, left4, Stores.read_other _ _ _ _ _ _ _ (by decide), Stores.read_other _ _ _ _ _ _ _ (by decide), Stores.read_other _ _ _ _ _ _ _ (by decide), Stores.read_other _ _ _ _ _ _ _ (by decide), Stores.read_row _ _ _ _ _ _ 0 _ (by decide)]
  pointwise [k0_pay14]
  refine Finset.sum_congr rfl fun q _ => (load_at v _ _ 0 (lane 3 q) q (by decide) (by simp)).trans ?_
  exact (canon_left3 v w0 w8 _).1

theorem sum5 (l : Fin 512) : v.read (Elt Ideal) (v.writes (Elt Ideal) f (left8 v w0 w8)) (ix2 9 l) = ∑ q : Fin 128, w8 (ix2 0 (lane 0 q)) := by
  rw [left8, left7, left6, left5, Stores.read_other _ _ _ _ _ _ _ (by decide), Stores.read_other _ _ _ _ _ _ _ (by decide), Stores.read_other _ _ _ _ _ _ _ (by decide), Stores.read_row _ _ _ _ _ _ 0 _ (by decide)]
  pointwise [k0_pay7, k0_pay15]
  refine Finset.sum_congr rfl fun q _ => (load_at v _ _ 8 (lane 0 q) q (by decide) (by simp)).trans ?_
  exact (canon_left4 v w0 w8 _).2

theorem sum6 (l : Fin 512) : v.read (Elt Ideal) (v.writes (Elt Ideal) f (left8 v w0 w8)) (ix2 10 l) = ∑ q : Fin 128, w8 (ix2 0 (lane 1 q)) := by
  rw [left8, left7, left6, Stores.read_other _ _ _ _ _ _ _ (by decide), Stores.read_other _ _ _ _ _ _ _ (by decide), Stores.read_row _ _ _ _ _ _ 0 _ (by decide)]
  pointwise [k0_pay8]
  refine Finset.sum_congr rfl fun q _ => (load_at v _ _ 8 (lane 1 q) q (by decide) (by simp)).trans ?_
  exact (canon_left5 v w0 w8 _).2

theorem sum7 (l : Fin 512) : v.read (Elt Ideal) (v.writes (Elt Ideal) f (left8 v w0 w8)) (ix2 11 l) = ∑ q : Fin 128, w8 (ix2 0 (lane 2 q)) := by
  rw [left8, left7, Stores.read_other _ _ _ _ _ _ _ (by decide), Stores.read_row _ _ _ _ _ _ 0 _ (by decide)]
  pointwise [k0_pay9]
  refine Finset.sum_congr rfl fun q _ => (load_at v _ _ 8 (lane 2 q) q (by decide) (by simp)).trans ?_
  exact (canon_left6 v w0 w8 _).2

theorem sum8 (l : Fin 512) : v.read (Elt Ideal) (v.writes (Elt Ideal) f (left8 v w0 w8)) (ix2 12 l) = ∑ q : Fin 128, w8 (ix2 0 (lane 3 q)) := by
  rw [left8, Stores.read_row _ _ _ _ _ _ 0 _ (by decide)]
  pointwise [k0_pay10]
  refine Finset.sum_congr rfl fun q _ => (load_at v _ _ 8 (lane 3 q) q (by decide) (by simp)).trans ?_
  exact (canon_left7 v w0 w8 _).2

theorem left0_rest (r : Fin 16) (l : Fin 512) (h : ¬r.val % 8 = 0) :
    v.read (Elt Ideal) (v.writes (Elt Ideal) f (left0 w0 w8)) (ix2 r l) = v.read (Elt Ideal) f (ix2 r l) := by
  rw [left0, Stores.read_other _ _ _ _ _ _ _ (by omega), Stores.read_other _ _ _ _ _ _ _ (by omega), View.writes_nil]

theorem left0_first (l : Fin 512) : v.read (Elt Ideal) (v.writes (Elt Ideal) f (left0 w0 w8)) (ix2 0 l) = w0 (ix2 0 l)
    ∧ v.read (Elt Ideal) (v.writes (Elt Ideal) f (left0 w0 w8)) (ix2 8 l) = w8 (ix2 0 l) := by
  constructor
  · rw [left0, Stores.read_other _ _ _ _ _ _ _ (by decide), Stores.read_row _ _ _ _ _ _ 0 _ (by decide)]
  · rw [left0, Stores.read_row _ _ _ _ _ _ 0 _ (by decide)]

/-- Off the rows of sums, the last grid point leaves what the others leave. -/
theorem left8_rest (r : Fin 16) (l : Fin 512) (h : r.val % 8 = 0 ∨ 4 < r.val % 8) :
    v.read (Elt Ideal) (v.writes (Elt Ideal) f (left8 v w0 w8)) (ix2 r l) = v.read (Elt Ideal) (v.writes (Elt Ideal) f (left0 w0 w8)) (ix2 r l) := by
  rw [left8, left7, left6, left5, left4, left3, left2, left1, Stores.read_other _ _ _ _ _ _ _ (by omega), Stores.read_other _ _ _ _ _ _ _ (by omega),
    Stores.read_other _ _ _ _ _ _ _ (by omega), Stores.read_other _ _ _ _ _ _ _ (by omega), Stores.read_other _ _ _ _ _ _ _ (by omega),
    Stores.read_other _ _ _ _ _ _ _ (by omega), Stores.read_other _ _ _ _ _ _ _ (by omega), Stores.read_other _ _ _ _ _ _ _ (by omega)]

/-! ### One grid point -/

theorem row_step' {r0 r1 r2 r3 r4 r5 r6 r7 d0 d1 d2 d3 d4 d5 d6 d7 old : FVec Ideal S1x512 .f32} (t : Fin cfg0.N) (h : Fin 2) (l : Fin 512)
    (e0 : Share X Z Y (blockAt t 0) h l r0 d0) (e1 : Share X Z Y (blockAt t 1) h l r1 d1) (e2 : Share X Z Y (blockAt t 2) h l r2 d2)
    (e3 : Share X Z Y (blockAt t 3) h l r3 d3) (e4 : Share X Z Y (blockAt t 4) h l r4 d4) (e5 : Share X Z Y (blockAt t 5) h l r5 d5)
    (e6 : Share X Z Y (blockAt t 6) h l r6 d6) (e7 : Share X Z Y (blockAt t 7) h l r7 d7) (o : ℝ) (ho : old (ix2 0 l) = (o : EReal)) :
    k0_pay362 r0 r1 r2 r3 r4 r5 r6 r7 d0 d1 d2 d3 d4 d5 d6 d7 old (ix2 0 l) = ((o + shares X Z Y t h l : ℝ) : EReal) :=
  row_step X Z Y t h l e0 e1 e2 e3 e4 e5 e6 e7 o ho

section
include hx hz hy

/-- What the array of sinks holds at a place after a grid point. -/
abbrev held (n : ℕ) (hn : n < cfg0.N) (r : Fin 16) (l : Fin 512) : EReal := (outsAt0 m c n hn).2.2.2.2.2 (ix2 r l)

theorem firstStep (t : Fin cfg0.N) (ha : t.val % 16 = 0) (l : Fin 512) :
    held m c t.val t.isLt 0 l = (shares X Z Y t 0 l : EReal) ∧ held m c t.val t.isLt 8 l = (shares X Z Y t 1 l : EReal)
      ∧ ∀ r : Fin 16, ¬r.val % 8 = 0 → held m c t.val t.isLt r l = 0 := by
  unfold held
  rw [outsAt0_A m c t ha (by omega)]; frame_out
  refine ⟨?_, ?_, fun r hr => ?_⟩
  · rw [Stores.canon_other _ _ _ _ _ (by decide), Stores.canon_row _ _ _ _ 0 _ (by decide), View.readCov_fill _ _ _ _ _ (by decide)]
    refine (row_step X Z Y t 0 l (share0 (block0 m c X Z Y hx hz hy t) l) (share0 (block1 m c X Z Y hx hz hy t) l) (share0 (block2 m c X Z Y hx hz hy t) l) (share0 (block3 m c X Z Y hx hz hy t) l)
      (share0 (block4 m c X Z Y hx hz hy t) l) (share0 (block5 m c X Z Y hx hz hy t) l) (share0 (block6 m c X Z Y hx hz hy t) l) (share0 (block7 m c X Z Y hx hz hy t) l) 0 ?_).trans (by rw [zero_add])
    exact (Stores.ld_row _ _ 0 0 l (by decide)).trans (by pointwise [k0_pay16]; rfl)
  · rw [Stores.canon_row _ _ _ _ 0 _ (by decide), View.readCov_skip _ _ _ _ _ (by decide), View.readCov_fill _ _ _ _ _ (by decide)]
    refine (row_step' X Z Y t 1 l (share1 (block0 m c X Z Y hx hz hy t) l) (share1 (block1 m c X Z Y hx hz hy t) l) (share1 (block2 m c X Z Y hx hz hy t) l) (share1 (block3 m c X Z Y hx hz hy t) l)
      (share1 (block4 m c X Z Y hx hz hy t) l) (share1 (block5 m c X Z Y hx hz hy t) l) (share1 (block6 m c X Z Y hx hz hy t) l) (share1 (block7 m c X Z Y hx hz hy t) l) 0 ?_).trans (by rw [zero_add])
    exact (Stores.ld_row _ _ 8 0 l (by decide)).trans (by pointwise [k0_pay16]; rfl)
  · rw [Stores.canon_other _ _ _ _ _ (by omega), Stores.canon_other _ _ _ _ _ (by omega), View.canon_cons_unit_lit _ _ _ (by decide)]
    pointwise [k0_pay16]

theorem step (t : Fin cfg0.N) (ha : ¬t.val % 16 = 0) (o0 o8 : Fin 512 → ℝ) (h0 : ∀ l, held m c (t.val - 1) (by have := t.isLt; omega) 0 l = (o0 l : EReal))
    (h8 : ∀ l, held m c (t.val - 1) (by have := t.isLt; omega) 8 l = (o8 l : EReal)) :
    ∃ (f : (ms0_13 t).view.ty.Contents (Elt Ideal)) (w0 w8 : FVec Ideal S1x512 .f32),
      (outsAt0 m c t.val t.isLt).2.2.2.2.2 = (ms0_13 t).view.read (Elt Ideal) ((ms0_13 t).view.writes (Elt Ideal) f (if t.val % 16 = 15 then left8 (ms0_13 t).view w0 w8 else left0 w0 w8))
      ∧ (ms0_13 t).view.read (Elt Ideal) f = (outsAt0 m c (t.val - 1) (by have := t.isLt; omega)).2.2.2.2.2
      ∧ (∀ l, w0 (ix2 0 l) = ((o0 l + shares X Z Y t 0 l : ℝ) : EReal)) ∧ ∀ l, w8 (ix2 0 l) = ((o8 l + shares X Z Y t 1 l : ℝ) : EReal) := by
  by_cases hb : t.val % 16 = 15
  all_goals
    first | simp only [if_pos hb] | simp only [if_neg hb]
    first | rw [outsAt0_C m c t ha hb] | rw [outsAt0_B m c t ha hb]
    frame_out
    refine ⟨_, _, _, rfl, Stores.read_unread _ _, fun l => ?_, fun l => ?_⟩
    · exact row_step X Z Y t 0 l (share0 (block0 m c X Z Y hx hz hy t) l) (share0 (block1 m c X Z Y hx hz hy t) l) (share0 (block2 m c X Z Y hx hz hy t) l) (share0 (block3 m c X Z Y hx hz hy t) l)
        (share0 (block4 m c X Z Y hx hz hy t) l) (share0 (block5 m c X Z Y hx hz hy t) l) (share0 (block6 m c X Z Y hx hz hy t) l) (share0 (block7 m c X Z Y hx hz hy t) l) _
        ((Stores.ld_row _ _ 0 0 l (by decide)).trans (h0 l))
    · exact row_step' X Z Y t 1 l (share1 (block0 m c X Z Y hx hz hy t) l) (share1 (block1 m c X Z Y hx hz hy t) l) (share1 (block2 m c X Z Y hx hz hy t) l) (share1 (block3 m c X Z Y hx hz hy t) l)
        (share1 (block4 m c X Z Y hx hz hy t) l) (share1 (block5 m c X Z Y hx hz hy t) l) (share1 (block6 m c X Z Y hx hz hy t) l) (share1 (block7 m c X Z Y hx hz hy t) l) _
        ((Stores.ld_row _ _ 8 0 l (by decide)).trans (h8 l))

/-- The shares of the grid points up to one. -/
def upTo (n : ℕ) (h : Fin 2) (l : Fin 512) : ℝ := ∑ s ∈ Finset.range (n + 1), if hs : s < cfg0.N then shares X Z Y ⟨s, hs⟩ h l else 0

omit hx hz hy in
theorem upTo_next (n : ℕ) (hn : n + 1 < cfg0.N) (h : Fin 2) (l : Fin 512) : upTo X Z Y n h l + shares X Z Y ⟨n + 1, hn⟩ h l = upTo X Z Y (n + 1) h l := by
  rw [upTo, upTo, Finset.sum_range_succ _ (n + 1), dif_pos hn]

omit hx hz hy in
theorem upTo_last (h : Fin 2) (l : Fin 512) : upTo X Z Y 15 h l = dsink X Z Y h (part l) (spot l) := by
  rw [upTo, Finset.sum_range, dsink, ← Cert.Norm.rows_sum 16 8 (by norm_num) (fun n => ds X Z Y n h (part l) (spot l)) (fun s k => by omega)]
  refine Finset.sum_congr rfl fun s _ => ?_
  rw [dif_pos (show s.val < cfg0.N from s.isLt), shares]
  refine Finset.sum_congr rfl fun b _ => congrArg (fun n => ds X Z Y n h (part l) (spot l)) (Fin.ext ?_)
  show 8 * s.val + b.val = s.val * 8 + b.val
  omega

theorem before (n : ℕ) (hn : n < cfg0.N) (h15 : n < 15) :
    (∀ l, held m c n hn 0 l = (upTo X Z Y n 0 l : EReal)) ∧ (∀ l, held m c n hn 8 l = (upTo X Z Y n 1 l : EReal))
      ∧ ∀ (r : Fin 16) (l : Fin 512), ¬r.val % 8 = 0 → held m c n hn r l = 0 := by
  induction n with
  | zero =>
    have e : ∀ h l, upTo X Z Y 0 h l = shares X Z Y ⟨0, hn⟩ h l := fun h l => by rw [upTo, Finset.sum_range_one, dif_pos hn]
    have s := firstStep m c X Z Y hx hz hy ⟨0, hn⟩ rfl
    exact ⟨fun l => (s l).1.trans (by rw [e]), fun l => (s l).2.1.trans (by rw [e]), fun r l => (s l).2.2 r⟩
  | succ n ih =>
    obtain ⟨i0, i8, ir⟩ := ih (by omega) (by omega)
    have hl : ¬(n + 1) % 16 = 15 := by omega
    obtain ⟨f, w0, w8, e, ef, e0, e8⟩ := step m c X Z Y hx hz hy ⟨n + 1, hn⟩ (by show ¬(n + 1) % 16 = 0; omega) _ _ i0 i8
    rw [if_neg (by exact hl)] at e
    refine ⟨fun l => ?_, fun l => ?_, fun r l hr => ?_⟩
    · exact (congrFun e _).trans ((left0_first _ f w0 w8 l).1.trans ((e0 l).trans (by rw [upTo_next])))
    · exact (congrFun e _).trans ((left0_first _ f w0 w8 l).2.trans ((e8 l).trans (by rw [upTo_next])))
    · exact (congrFun e _).trans ((left0_rest _ f w0 w8 r l hr).trans ((congrFun ef _).trans (ir r l hr)))

omit hx hz hy in
theorem at_first (D : Fin 2 → Fin 4 → Fin 128 → ℝ) (h : Fin 2) (l : Fin 512) : (D h (part l) (spot l) : EReal) = (sinkRow D h 0 l : EReal) := by
  rw [sinkRow, if_pos rfl]
  rfl

omit hx hz hy in
theorem at_sum (D : Fin 2 → Fin 4 → Fin 128 → ℝ) (h : Fin 2) (g : Fin 4) (l : Fin 512) : ((∑ q, D h g q : ℝ) : EReal) = (sinkRow D h (g.val + 1) l : EReal) := by
  have hg := g.isLt
  rw [sinkRow, if_neg (by omega), dif_pos (by omega)]
  rfl

omit hx hz hy in
theorem at_rest (D : Fin 2 → Fin 4 → Fin 128 → ℝ) (h : Fin 2) (s : ℕ) (l : Fin 512) (hs : 4 < s) : (0 : EReal) = (sinkRow D h s l : EReal) := by
  rw [sinkRow, if_neg (by omega), dif_neg (by omega), EReal.coe_zero]

omit hx hz hy in
theorem at_row (D : Fin 2 → Fin 4 → Fin 128 → ℝ) (r : Fin 16) (h : Fin 2) (s : ℕ) (l : Fin 512) (hs : s < 8) (hr : r.val = 8 * h.val + s) :
    (sinkRow D h s l : EReal) = sinkRows D (ix2 r l) := by
  show _ = ((sinkRow D ⟨r.val / 8, _⟩ (r.val % 8) l : ℝ) : EReal)
  rw [show (⟨r.val / 8, by omega⟩ : Fin 2) = h from Fin.ext (by show r.val / 8 = h.val; omega), show r.val % 8 = s by omega]

omit hx hz hy in
theorem all_rows (D : Fin 2 → Fin 4 → Fin 128 → ℝ) (e0 : ∀ l, w0 (ix2 0 l) = (D 0 (part l) (spot l) : EReal)) (e8 : ∀ l, w8 (ix2 0 l) = (D 1 (part l) (spot l) : EReal))
    (l : Fin 512) (hf : ∀ r : Fin 16, ¬r.val % 8 = 0 → v.read (Elt Ideal) f (ix2 r l) = 0) (r : Fin 16) :
    v.read (Elt Ideal) (v.writes (Elt Ideal) f (left8 v w0 w8)) (ix2 r l) = sinkRows D (ix2 r l) := by
  have s0 : ∀ g, ∑ q : Fin 128, w0 (ix2 0 (lane g q)) = ((∑ q, D 0 g q : ℝ) : EReal) := fun g => by
    simp only [e0, part_lane, spot_lane, ← Common.coe_sum]
  have s8 : ∀ g, ∑ q : Fin 128, w8 (ix2 0 (lane g q)) = ((∑ q, D 1 g q : ℝ) : EReal) := fun g => by
    simp only [e8, part_lane, spot_lane, ← Common.coe_sum]
  have rest : ∀ r : Fin 16, r.val % 8 = 0 ∨ 4 < r.val % 8 → ¬r.val % 8 = 0 → v.read (Elt Ideal) (v.writes (Elt Ideal) f (left8 v w0 w8)) (ix2 r l) = 0 := fun r h h' =>
    (left8_rest v f w0 w8 r l h).trans ((left0_rest v f w0 w8 r l h').trans (hf r h'))
  fin_cases r
  · exact (left8_rest v f w0 w8 0 l (by decide)).trans ((left0_first v f w0 w8 l).1.trans ((e0 l).trans ((at_first D 0 l).trans (at_row D 0 0 0 l (by decide) (by decide)))))
  · exact (sum1 v f w0 w8 l).trans ((s0 0).trans ((at_sum D 0 0 l).trans (at_row D 1 0 1 l (by decide) (by decide))))
  · exact (sum2 v f w0 w8 l).trans ((s0 1).trans ((at_sum D 0 1 l).trans (at_row D 2 0 2 l (by decide) (by decide))))
  · exact (sum3 v f w0 w8 l).trans ((s0 2).trans ((at_sum D 0 2 l).trans (at_row D 3 0 3 l (by decide) (by decide))))
  · exact (sum4 v f w0 w8 l).trans ((s0 3).trans ((at_sum D 0 3 l).trans (at_row D 4 0 4 l (by decide) (by decide))))
  · exact (rest _ (by decide) (by decide)).trans ((at_rest D 0 5 l (by decide)).trans (at_row D 5 0 5 l (by decide) (by decide)))
  · exact (rest _ (by decide) (by decide)).trans ((at_rest D 0 6 l (by decide)).trans (at_row D 6 0 6 l (by decide) (by decide)))
  · exact (rest _ (by decide) (by decide)).trans ((at_rest D 0 7 l (by decide)).trans (at_row D 7 0 7 l (by decide) (by decide)))
  · exact (left8_rest v f w0 w8 8 l (by decide)).trans ((left0_first v f w0 w8 l).2.trans ((e8 l).trans ((at_first D 1 l).trans (at_row D 8 1 0 l (by decide) (by decide)))))
  · exact (sum5 v f w0 w8 l).trans ((s8 0).trans ((at_sum D 1 0 l).trans (at_row D 9 1 1 l (by decide) (by decide))))
  · exact (sum6 v f w0 w8 l).trans ((s8 1).trans ((at_sum D 1 1 l).trans (at_row D 10 1 2 l (by decide) (by decide))))
  · exact (sum7 v f w0 w8 l).trans ((s8 2).trans ((at_sum D 1 2 l).trans (at_row D 11 1 3 l (by decide) (by decide))))
  · exact (sum8 v f w0 w8 l).trans ((s8 3).trans ((at_sum D 1 3 l).trans (at_row D 12 1 4 l (by decide) (by decide))))
  · exact (rest _ (by decide) (by decide)).trans ((at_rest D 1 5 l (by decide)).trans (at_row D 13 1 5 l (by decide) (by decide)))
  · exact (rest _ (by decide) (by decide)).trans ((at_rest D 1 6 l (by decide)).trans (at_row D 14 1 6 l (by decide) (by decide)))
  · exact (rest _ (by decide) (by decide)).trans ((at_rest D 1 7 l (by decide)).trans (at_row D 15 1 7 l (by decide) (by decide)))

theorem after (t : Fin cfg0.N) (ht : t.val % 16 = 15) (r : Fin 16) (l : Fin 512) :
    held m c t.val t.isLt r l = sinkRows (dsink X Z Y) (ix2 r l) := by
  have hp := points t
  have h14 : t.val - 1 = 14 := by omega
  obtain ⟨i0, i8, ir⟩ := before m c X Z Y hx hz hy (t.val - 1) (by omega) (by omega)
  obtain ⟨f, w0, w8, e, ef, e0, e8⟩ := step m c X Z Y hx hz hy t (by omega) _ _ i0 i8
  have up : ∀ h l, upTo X Z Y (t.val - 1) h l + shares X Z Y t h l = dsink X Z Y h (part l) (spot l) := fun h l => by
    have e : t = ⟨14 + 1, by omega⟩ := Fin.ext (by show t.val = 15; omega)
    rw [h14, ← upTo_last, e, upTo_next]
  rw [if_pos ht] at e
  exact (congrFun e _).trans (all_rows _ f w0 w8 (dsink X Z Y) (fun l => (e0 l).trans (by rw [up])) (fun l => (e8 l).trans (by rw [up])) l
    (fun r hr => (congrFun ef _).trans (ir r l hr)) r)

theorem final13 : (dats m 0 c).arrAt 13 cfg0.N = sinkRows (dsink X Z Y) := by
  refine (dats m 0 c).arrAt_eq_of_covers 13 _ (by decide +kernel) fun t hf y => ?_
  blk_simp
  rw [after0_13]
  obtain ⟨r, l, rfl⟩ : ∃ (r : Fin 16) (l : Fin 512), y = ix2 r l := ⟨y 0, y 1, eq_ix2 y⟩
  rw [show (win0_13.blk t).view.emb (ix2 r l) = ix2 r l by blk_ext [idx t]]
  exact after m c X Z Y hx hz hy t ((flush0_13 t).mp hf) r l

end

end Cert.SwaIdeal.RefValue

end
-- ==== Proof.LossValue.lean ====
/-
The value of the loss head: the final norm, the error against the target, half its mean square, and the gradient.
-/
module

public import proofs.«01_k».proof.Proof.Norm
public import proofs.«01_k».proof.Proof.Stores
public import proofs.«01_k».proof.Proof.Gen.LossIdeal.Value
public import proofs.«01_k».proof.Proof.Gen.LossRefIdeal.Run
public import Idealize.ShloMosaic.Lib.Pipeline.ValueKit

@[expose] public section

set_option maxRecDepth 16384

noncomputable section

namespace Cert.LossRow

open Idealize.ShloMosaic Cert.Common

variable (x g t : Fin 1024 → ℝ)

/-- The error of a row: the normalised row, weighted, minus the target. -/
def err (j : Fin 1024) : ℝ := x j * Norm.rs x * g j - t j

/-- The cotangent of the normalised row. -/
def cot (j : Fin 1024) : ℝ := err x g t j * (1 / 1024) * g j

/-- The row's mean square error. -/
def mse : ℝ := (∑ j, err x g t j * err x g t j) / 1024

/-- The row's term of the gradient of the weight. -/
def term (l : Fin 1024) : ℝ := err x g t l * (1 / 1024) * (x l * Norm.rs x)

/-- The scale of a row as both programs write it. -/
abbrev scale : EReal := Ideal.rsqrt (Ideal.div (∑ j, (x j : EReal) * (x j : EReal)) (Ideal.ofBits .f32 0x44800000#32) + Ideal.ofBits .f32 0x358637BD#32)

theorem scale_at : scale x = (Norm.rs x : EReal) := by rw [scale, Norm.ms_at, Norm.rs_at]

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv : Ideal.ofBits .f32 0x3A800000#32 = ((1 / 1024 : ℝ) : EReal) := by
  simp [Ideal.ofBits, Ideal.ieee, -EReal.coe_mul]; norm_num

theorem err_at (j : Fin 1024) : (x j : EReal) * scale x * (g j : EReal) - (t j : EReal) = (err x g t j : EReal) := by
  rw [scale_at, ← EReal.coe_mul, ← EReal.coe_mul, ← EReal.coe_sub, err]

theorem mse_at : Ideal.div (∑ j, ((x j : EReal) * scale x * (g j : EReal) - (t j : EReal)) * ((x j : EReal) * scale x * (g j : EReal) - (t j : EReal)))
    (Ideal.ofBits .f32 0x44800000#32) = (mse x g t : EReal) := by
  simp only [err_at, ← EReal.coe_mul, ← coe_sum, ofBits_1024]
  rw [div_real _ _ (by norm_num), mse]

/-- The reference's factor of the error: half of one over the width, times two. -/
theorem twice (e : ℝ) : Ideal.div (Ideal.ofBits .f32 0x3F000000#32) (Ideal.ofBits .f32 0x44800000#32) * (Ideal.ofBits .f32 0x40000000#32 * (e : EReal)) = ((e * (1 / 1024) : ℝ) : EReal) := by
  rw [ofBits_half, ofBits_two, ofBits_1024, div_real _ _ (by norm_num), ← EReal.coe_mul, ← EReal.coe_mul]
  congr 1
  ring

end Cert.LossRow

namespace Cert.LossRefIdeal.RefValue

open Cert.LossRefIdeal Cert.LossRefIdeal.Gen Cert.LossRefIdeal.Value Idealize.ShloMosaic Idealize.ShloMosaic.TcCoe

open Cert.LossRow

/-- A row of an array. -/
abbrev row (X : S16384x1024.Idx → ℝ) (r : Fin 16384) (j : Fin 1024) : ℝ := X (ix2 r j)

abbrev vec (G : S1024.Idx → ℝ) (j : Fin 1024) : ℝ := G (ix1 j)

variable (X : S16384x1024.Idx → ℝ) (G : S1024.Idx → ℝ) (T : S16384x1024.Idx → ℝ)

/-- The gradient of the rows. -/
def dh : FVec Ideal S16384x1024 .f32 := fun i =>
  ((Norm.bwd (cot (row X (i 0)) (vec G) (row T (i 0))) (row X (i 0)) (i 1) : ℝ) : EReal)

/-- The loss, in one corner. -/
def value : FVec Ideal S8x128 .f32 := fun i =>
  if (i 0).val = 0 ∧ (i 1).val = 0 then ((1 / 2 * ∑ r : Fin 16384, mse (row X r) (vec G) (row T r) : ℝ) : EReal) else 0

/-- The gradient of the weight, in the first of eight rows. -/
def dg : FVec Ideal S8x1024 .f32 := fun i =>
  if (i 0).val = 0 then ((∑ r : Fin 16384, term (row X r) (vec G) (row T r) (i 1) : ℝ) : EReal) else 0

section
variable (m : (ℓ : Loc nD τ sig) → Buf (Elt Ideal) ℓ) (c : Dev nD)

theorem res0 (hx : m ((c : Thread nD τ).loc main_arg0) = fun i => ((X i : ℝ) : EReal))
    (hg : m ((c : Thread nD τ).loc main_arg1) = fun i => ((G i : ℝ) : EReal))
    (ht : m ((c : Thread nD τ).loc main_arg2) = fun i => ((T i : ℝ) : EReal)) : res_main_v50 m c = dh X G T := by
  funext y
  obtain ⟨r, l, rfl⟩ : ∃ (r : Fin 16384) (l : Fin 1024), y = ix2 r l := ⟨y 0, y 1, eq_ix2 y⟩
  pointwise [res_main_v50, hx, hg, ht]
  have h := Norm.ref_form (cot (row X r) (vec G) (row T r)) (row X r)
    (fun j => Ideal.div (Ideal.ofBits .f32 0x3F000000#32) (Ideal.ofBits .f32 0x44800000#32) * (Ideal.ofBits .f32 0x40000000#32
      * ((row X r j : EReal) * scale (row X r) * (vec G j : EReal) - (row T r j : EReal))) * (vec G j : EReal))
    (fun j => by rw [err_at, twice, ← EReal.coe_mul, cot]) 0 l
  rw [zero_add, zero_add] at h
  exact h

theorem res1 (hx : m ((c : Thread nD τ).loc main_arg0) = fun i => ((X i : ℝ) : EReal))
    (hg : m ((c : Thread nD τ).loc main_arg1) = fun i => ((G i : ℝ) : EReal))
    (ht : m ((c : Thread nD τ).loc main_arg2) = fun i => ((T i : ℝ) : EReal)) : res_main_v51 m c = dh X G T :=
  (show res_main_v51 m c = res_main_v50 m c from rfl).trans (res0 X G T m c hx hg ht)

end

theorem res2 (x : FVec Ideal S16384x1024 .f32) (g : FVec Ideal S1024 .f32) (t : FVec Ideal S16384x1024 .f32)
    (hx : x = fun i => ((X i : ℝ) : EReal)) (hg : g = fun i => ((G i : ℝ) : EReal)) (ht : t = fun i => ((T i : ℝ) : EReal)) :
    pad S8x128 ![0, 0] ![7, 127] ![0, 0] (broadcastInDim S1x1 ![] bcast_S_S1x1 (mulf (constant S_ .f32 0x3F000000#32) (Host.reduceAdd (Host.divf (Host.reduceAdd (mulf (subf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) t) (subf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) t)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_))) (sitofp .f32 (constantI S_ 32 0#32)) pads_S1x1_S8x128_070_01270 h_S_
      = value X G T := by
  funext y
  obtain ⟨r, l, rfl⟩ : ∃ (r : Fin 8) (l : Fin 128), y = ix2 r l := ⟨y 0, y 1, eq_ix2 y⟩
  pointwise [hx, hg, ht]
  by_cases h : r.val = 0 ∧ l.val = 0
  · refine Eq.trans ?_ (if_pos h).symm
    rw [dif_pos (by omega)]
    refine (congrArg (_ * ·) (Finset.sum_congr rfl fun r _ => mse_at (row X r) (vec G) (row T r))).trans ?_
    rw [ofBits_half, ← Common.coe_sum, ← EReal.coe_mul]
  · refine Eq.trans ?_ (if_neg h).symm
    rw [dif_neg (by omega)]
    simp [FloatOps.sitofp]

theorem res3 (x : FVec Ideal S16384x1024 .f32) (g : FVec Ideal S1024 .f32) (t : FVec Ideal S16384x1024 .f32)
    (hx : x = fun i => ((X i : ℝ) : EReal)) (hg : g = fun i => ((G i : ℝ) : EReal)) (ht : t = fun i => ((T i : ℝ) : EReal)) :
    pad S8x1024 ![0, 0] ![7, 0] ![0, 0] (broadcastInDim S1x1024 ![1] bcast_S1024_S1x1024_1 (Host.reduceAdd (shapeCast _ (Host.reduceAdd (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) (subf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) t)))) (constant S_ .f32 0x00000000#32) reducesTo_S16384x1024_S1024_d0 h_S_) shapeCasts_S1024_S1x1024) (constant S_ .f32 0x00000000#32) reducesTo_S1x1024_S1024_d0 h_S_)) (sitofp .f32 (constantI S_ 32 0#32)) pads_S1x1024_S8x1024_070_000 h_S_
      = dg X G T := by
  funext y
  obtain ⟨r, l, rfl⟩ : ∃ (r : Fin 8) (l : Fin 1024), y = ix2 r l := ⟨y 0, y 1, eq_ix2 y⟩
  pointwise [hx, hg, ht]
  by_cases h : r.val = 0
  · refine Eq.trans ?_ (if_pos h).symm
    rw [dif_pos (by omega), Fin.sum_univ_one, Common.coe_sum]
    refine Finset.sum_congr rfl fun r _ => ?_
    refine (congrArg (_ * ·) ((congrArg (fun e : EReal => Ideal.div (Ideal.ofBits .f32 0x3F000000#32) (Ideal.ofBits .f32 0x44800000#32) * (Ideal.ofBits .f32 0x40000000#32 * e))
      (err_at (row X r) (vec G) (row T r) l)).trans (twice _))).trans ?_
    refine (congrArg (fun e : EReal => (row X r l : EReal) * e * _) (scale_at (row X r))).trans ?_
    rw [← EReal.coe_mul, ← EReal.coe_mul]
    exact congrArg (fun v : ℝ => (v : EReal)) (mul_comm _ _)
  · refine Eq.trans ?_ (if_neg h).symm
    rw [dif_neg (by omega)]
    simp [FloatOps.sitofp]

end Cert.LossRefIdeal.RefValue

namespace Cert.LossIdeal.RefValue

open Cert.LossIdeal Cert.LossIdeal.Gen Idealize.ShloMosaic Idealize.ShloMosaic.TcCoe Idealize.SL.Sem Cert.LossRow
open Idealize.ShloMosaic.Pipeline (Dat)
open Cert.LossRefIdeal.RefValue (row vec dh value dg)

variable (m : (ℓ : Loc nD τ sig) → Buf (Elt Ideal) ℓ) (c : Dev nD)
variable (X : S16384x1024.Idx → ℝ) (G : S1024.Idx → ℝ) (T : S16384x1024.Idx → ℝ)

theorem idx (t : Fin cfg0.N) : win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]) t

theorem V_v0 (z : Fin 1) (l : Fin 1024) : V m c main_v0 (ix2 z l) = m ((c : Thread nD τ).loc main_arg1) (ix1 l) := by
  entry_read
  pointwise []

theorem row_lt (t : Fin cfg0.N) (r : Fin 512) : t.val * 512 + r.val < 16384 := by
  have h : t.val < 32 := t.isLt
  omega

/-- The array row of row `r` of block `t`. -/
abbrev at_ (t : Fin cfg0.N) (r : Fin 512) : Fin 16384 := ⟨t.val * 512 + r.val, row_lt t r⟩

theorem rd0 (t : Fin cfg0.N) (r : Fin 512) (k : Fin 1024) : iblk m c 0 t (ix2 r k) = m ((c : Thread nD τ).loc main_arg0) (ix2 (at_ t r) k) := by
  blk_point [iblk, V_main_arg0, idx t]
theorem rd1 (t : Fin cfg0.N) (k : Fin 1024) : iblk m c 1 t (ix2 0 k) = m ((c : Thread nD τ).loc main_arg1) (ix1 k) := by
  rw [← V_v0 m c 0]
  blk_point [iblk, idx t]
theorem rd2 (t : Fin cfg0.N) (r : Fin 512) (k : Fin 1024) : iblk m c 2 t (ix2 r k) = m ((c : Thread nD τ).loc main_arg2) (ix2 (at_ t r) k) := by
  blk_point [iblk, V_main_arg2, idx t]

section
variable {x t : FVec Ideal S512x1024 .f32} {g : FVec Ideal S1x1024 .f32} {r : Fin 512} {a b d : Fin 1024 → ℝ}
  (hx : ∀ j, x (ix2 r j) = (a j : EReal)) (hg : ∀ j, g (ix2 0 j) = (b j : EReal)) (ht : ∀ j, t (ix2 r j) = (d j : EReal))
include hx hg ht

theorem cot_at (j : Fin 1024) : k0_pay11 (F := Ideal) x g t (ix2 r j) = ((err a b d j * (1 / 1024) : ℝ) : EReal) := by
  pointwise [k0_pay11, k0_pay9, k0_pay8, k0_pay7, k0_pay6, hx, hg, ht]
  exact (congrArg (· * Ideal.ofBits .f32 0x3A800000#32) (err_at a b d j)).trans (by rw [ofBits_inv, ← EReal.coe_mul])

theorem dx_at (l : Fin 1024) : k0_pay2 (F := Ideal) (k0_pay6 g) (k0_pay7 x) (k0_pay8 x) (k0_pay11 x g t) (ix2 r l) = ((Norm.bwd (cot a b d) a l : ℝ) : EReal) := by
  have h := Norm.ker_form (cot a b d) a (fun j => ((err a b d j * (1 / 1024) : ℝ) : EReal) * (b j : EReal)) (fun j => by rw [← EReal.coe_mul, cot]) 0 l
  rw [zero_add, zero_add] at h
  pointwise [k0_pay2, k0_pay6, k0_pay7, k0_pay8, hx, hg, cot_at hx hg ht]
  exact h

theorem term_at (l : Fin 1024) : (k0_pay11 (F := Ideal) x g t (ix2 r l) : EReal) * k0_pay8 (F := Ideal) x (ix2 r l) = ((term a b d l : ℝ) : EReal) := by
  rw [cot_at hx hg ht]
  pointwise [k0_pay8, k0_pay7, hx]
  exact (congrArg (fun e : EReal => _ * ((a l : EReal) * e)) (scale_at a)).trans (by rw [← EReal.coe_mul, ← EReal.coe_mul, LossRow.term])

end

section
variable (hx : m ((c : Thread nD τ).loc main_arg0) = fun i => ((X i : ℝ) : EReal)) (hg : m ((c : Thread nD τ).loc main_arg1) = fun i => ((G i : ℝ) : EReal))
  (ht : m ((c : Thread nD τ).loc main_arg2) = fun i => ((T i : ℝ) : EReal))
include hx hg ht

theorem blk_at (t : Fin cfg0.N) (r : Fin 512) (l : Fin 1024) :
    k0_pay2 (F := Ideal) (k0_pay6 (iblk m c 1 t)) (k0_pay7 (iblk m c 0 t)) (k0_pay8 (iblk m c 0 t)) (k0_pay11 (iblk m c 0 t) (iblk m c 1 t) (iblk m c 2 t)) (ix2 r l)
      = dh X G T (ix2 (at_ t r) l) :=
  dx_at (fun j => by rw [rd0, hx]; rfl) (fun j => by rw [rd1, hg]) (fun j => by rw [rd2, ht]; rfl) l

theorem final3 : (dats m 0 c).arrAt 3 cfg0.N = dh X G T := by
  refine (dats m 0 c).arrAt_eq_of_covers 3 _ (by decide +kernel) fun t hf y => ?_
  blk_simp
  obtain ⟨r, l, rfl⟩ : ∃ (r : Fin 512) (l : Fin 1024), y = ix2 r l := ⟨y 0, y 1, eq_ix2 y⟩
  rw [after0_3]
  by_cases h : t.val % 32 = 0
  all_goals
    first | rw [outsAt0_A m c t h] | rw [outsAt0_B m c t h]
    frame_out
    refine (blk_at m c X G T hx hg ht t r l).trans ?_
    blk_ext [idx t]

theorem final4 : (dats m 0 c).arrAt 4 cfg0.N = dh X G T := by
  refine (dats m 0 c).arrAt_eq_of_covers 4 _ (by decide +kernel) fun t hf y => ?_
  blk_simp
  obtain ⟨r, l, rfl⟩ : ∃ (r : Fin 512) (l : Fin 1024), y = ix2 r l := ⟨y 0, y 1, eq_ix2 y⟩
  rw [after0_4]
  by_cases h : t.val % 32 = 0
  all_goals
    first | rw [outsAt0_A m c t h] | rw [outsAt0_B m c t h]
    frame_out
    refine (blk_at m c X G T hx hg ht t r l).trans ?_
    blk_ext [idx t]

/-- What a point adds to the loss. -/
def part5 (t : Fin cfg0.N) (j : S8x128.Idx) : EReal :=
  if (j 0).val = 0 ∧ (j 1).val = 0 then ((∑ r : Fin 512, 1 / 2 * mse (row X (at_ t r)) (vec G) (row T (at_ t r)) : ℝ) : EReal) else 0

/-- And to the gradient of the weight. -/
def part6 (t : Fin cfg0.N) (j : S8x1024.Idx) : EReal :=
  if (j 0).val = 0 then ((∑ r : Fin 512, term (row X (at_ t r)) (vec G) (row T (at_ t r)) (j 1) : ℝ) : EReal) else 0

theorem part5_at (t : Fin cfg0.N) (o : FVec Ideal S1x1 .f32) :
    k0_pay10 (F := Ideal) (iblk m c 0 t) (iblk m c 1 t) (iblk m c 2 t) o (ix2 0 0)
      = (o (ix2 0 0) : EReal) + ((∑ r : Fin 512, 1 / 2 * mse (row X (at_ t r)) (vec G) (row T (at_ t r)) : ℝ) : EReal) := by
  pointwise [k0_pay10, k0_pay9, k0_pay8, k0_pay7, k0_pay6]
  simp only [rd0, rd1, rd2, hx, hg, ht]
  refine congrArg ((o (ix2 0 0) : EReal) + ·) ?_
  refine (congrArg (Ideal.ofBits .f32 0x3F000000#32 * ·) (Finset.sum_congr rfl fun r _ => mse_at (row X (at_ t r)) (vec G) (row T (at_ t r)))).trans ?_
  rw [ofBits_half, ← Common.coe_sum, ← EReal.coe_mul, Finset.mul_sum]

theorem part6_at (t : Fin cfg0.N) (o : FVec Ideal S1x1024 .f32) (l : Fin 1024) :
    k0_pay1 (F := Ideal) (k0_pay8 (iblk m c 0 t)) (k0_pay11 (iblk m c 0 t) (iblk m c 1 t) (iblk m c 2 t)) o (ix2 0 l)
      = (o (ix2 0 l) : EReal) + ((∑ r : Fin 512, term (row X (at_ t r)) (vec G) (row T (at_ t r)) l : ℝ) : EReal) := by
  pointwise [k0_pay1]
  refine congrArg ((o (ix2 0 l) : EReal) + ·) ?_
  rw [Common.coe_sum]
  exact Finset.sum_congr rfl fun r _ => term_at (fun j => by rw [rd0, hx]) (fun j => by rw [rd1, hg]) (fun j => by rw [rd2, ht]) l

theorem stepA5 (t : Fin cfg0.N) (h : t.val % 32 = 0) (j : S8x128.Idx) : (outsAt0 m c t.val t.isLt).2.2.1 j = (0 : EReal) + part5 X G T t j := by
  rw [outsAt0_A m c t h]; frame_out
  obtain ⟨r, l, rfl⟩ : ∃ (r : Fin 8) (l : Fin 128), j = ix2 r l := ⟨j 0, j 1, eq_ix2 j⟩
  rw [Stores.canon_corner, View.canon_cons_unit_lit _ _ _ (by decide), View.readCov_fill _ _ _ _ _ (by decide)]
  unfold part5
  by_cases hr : r.val = 0 ∧ l.val = 0
  · rw [if_pos hr, part5_at m c X G T hx hg ht]
    refine congrArg₂ (· + ·) ?_ (if_pos hr).symm
    pointwise [k0_pay4]
  · rw [if_neg hr]
    refine Eq.trans ?_ ((congrArg ((0 : EReal) + ·) (if_neg hr)).trans (add_zero _)).symm
    pointwise [k0_pay4]

theorem stepB5 (t : Fin cfg0.N) (h : ¬ t.val % 32 = 0) (j : S8x128.Idx) :
    (outsAt0 m c t.val t.isLt).2.2.1 j = ((outsAt0 m c (t.val - 1) (by have := t.isLt; omega)).2.2.1 j : EReal) + part5 X G T t j := by
  rw [outsAt0_B m c t h]; frame_out
  obtain ⟨r, l, rfl⟩ : ∃ (r : Fin 8) (l : Fin 128), j = ix2 r l := ⟨j 0, j 1, eq_ix2 j⟩
  rw [Stores.read_corner, View.writes_nil, Stores.read_unread]
  unfold part5
  by_cases hr : r.val = 0 ∧ l.val = 0
  · rw [if_pos hr, part5_at m c X G T hx hg ht]
    refine congrArg₂ (· + ·) ?_ (if_pos hr).symm
    obtain rfl : r = 0 := Fin.ext hr.1
    obtain rfl : l = 0 := Fin.ext hr.2
    exact congrArg _ (Stores.emb_corner _ 0 0 ⟨rfl, rfl⟩)
  · rw [if_neg hr]
    exact ((congrArg (_ + ·) (if_neg hr)).trans (add_zero _)).symm

theorem stepA6 (t : Fin cfg0.N) (h : t.val % 32 = 0) (j : S8x1024.Idx) : (outsAt0 m c t.val t.isLt).2.2.2 j = (0 : EReal) + part6 X G T t j := by
  rw [outsAt0_A m c t h]; frame_out
  obtain ⟨r, l, rfl⟩ : ∃ (r : Fin 8) (l : Fin 1024), j = ix2 r l := ⟨j 0, j 1, eq_ix2 j⟩
  rw [Stores.canon_first, View.canon_cons_unit_lit _ _ _ (by decide), View.readCov_fill _ _ _ _ _ (by decide)]
  unfold part6
  by_cases hr : r.val = 0
  · rw [if_pos hr, part6_at m c X G T hx hg ht]
    refine congrArg₂ (· + ·) ?_ (if_pos hr).symm
    pointwise [k0_pay5]
  · rw [if_neg hr]
    refine Eq.trans ?_ ((congrArg ((0 : EReal) + ·) (if_neg hr)).trans (add_zero _)).symm
    pointwise [k0_pay5]

theorem stepB6 (t : Fin cfg0.N) (h : ¬ t.val % 32 = 0) (j : S8x1024.Idx) :
    (outsAt0 m c t.val t.isLt).2.2.2 j = ((outsAt0 m c (t.val - 1) (by have := t.isLt; omega)).2.2.2 j : EReal) + part6 X G T t j := by
  rw [outsAt0_B m c t h]; frame_out
  obtain ⟨r, l, rfl⟩ : ∃ (r : Fin 8) (l : Fin 1024), j = ix2 r l := ⟨j 0, j 1, eq_ix2 j⟩
  rw [Stores.read_first, View.writes_nil, Stores.read_unread]
  unfold part6
  by_cases hr : r.val = 0
  · rw [if_pos hr, part6_at m c X G T hx hg ht]
    refine congrArg₂ (· + ·) ?_ (if_pos hr).symm
    obtain rfl : r = 0 := Fin.ext hr
    exact Stores.ld_row _ _ 0 0 l rfl
  · rw [if_neg hr]
    exact ((congrArg (_ + ·) (if_neg hr)).trans (add_zero _)).symm

omit hx hg ht in
theorem at_run (t : Fin cfg0.N) (s : Fin 32) (h : 32 * (t.val / 32) + s.val < cfg0.N) (k : Fin 512) (h' : s.val * 512 + k.val < 16384) :
    at_ ⟨32 * (t.val / 32) + s.val, h⟩ k = ⟨s.val * 512 + k.val, h'⟩ := by
  have : t.val < 32 := t.isLt
  exact Fin.ext (by show (32 * (t.val / 32) + s.val) * 512 + k.val = s.val * 512 + k.val; omega)

omit hx hg ht in
theorem run_sum (t : Fin cfg0.N) (h : ∀ s : Fin 32, 32 * (t.val / 32) + s.val < cfg0.N) (f : Fin 16384 → ℝ) :
    ∑ s : Fin 32, ((∑ r : Fin 512, f (at_ ⟨32 * (t.val / 32) + s.val, h s⟩ r) : ℝ) : EReal) = ((∑ r : Fin 16384, f r : ℝ) : EReal) := by
  have hb : ∀ (s : Fin 32) (k : Fin 512), s.val * 512 + k.val < 16384 := fun s k => by omega
  simp only [at_run t _ (h _) _ (hb _ _)]
  rw [← Common.coe_sum, Norm.rows_sum 32 512 (by norm_num) f hb]

omit hx hg ht in
theorem parts5 (t : Fin cfg0.N) (h : ∀ s : Fin 32, 32 * (t.val / 32) + s.val < cfg0.N) (r : Fin 8) (l : Fin 128) :
    ∑ s : Fin 32, part5 X G T ⟨32 * (t.val / 32) + s.val, h s⟩ (ix2 r l) = value X G T (ix2 r l) := by
  by_cases hr : r.val = 0 ∧ l.val = 0
  · refine ((Finset.sum_congr rfl fun s _ => if_pos hr).trans (run_sum t h fun R => 1 / 2 * mse (row X R) (vec G) (row T R))).trans ?_
    rw [← Finset.mul_sum]
    exact (if_pos hr).symm
  · exact ((Finset.sum_congr rfl fun s _ => if_neg hr).trans Finset.sum_const_zero).trans (if_neg hr).symm

omit hx hg ht in
theorem parts6 (t : Fin cfg0.N) (h : ∀ s : Fin 32, 32 * (t.val / 32) + s.val < cfg0.N) (r : Fin 8) (l : Fin 1024) :
    ∑ s : Fin 32, part6 X G T ⟨32 * (t.val / 32) + s.val, h s⟩ (ix2 r l) = dg X G T (ix2 r l) := by
  by_cases hr : r.val = 0
  · exact ((Finset.sum_congr rfl fun s _ => if_pos hr).trans (run_sum t h fun R => term (row X R) (vec G) (row T R) l)).trans (if_pos hr).symm
  · exact ((Finset.sum_congr rfl fun s _ => if_neg hr).trans Finset.sum_const_zero).trans (if_neg hr).symm

theorem final5 : (dats m 0 c).arrAt 5 cfg0.N = value X G T := by
  refine (dats m 0 c).arrAt_eq_of_covers 5 _ (by decide +kernel) fun t hf y => ?_
  blk_simp
  rw [after0_5, Pipeline.eq_sum_fin_of_reset_step_apply_of_flush (f := fun n h => (outsAt0 m c n h).2.2.1) 32 (fun _ => (0 : EReal)) (part5 X G T)
        (fun t h j => stepA5 m c X G T hx hg ht t h j) (fun t h j => stepB5 m c X G T hx hg ht t h j) t ((flush0_5 t).mp hf) _]
  obtain ⟨r, l, rfl⟩ : ∃ (r : Fin 8) (l : Fin 128), y = ix2 r l := ⟨y 0, y 1, eq_ix2 y⟩
  rw [zero_add, show (win0_5.blk t).view.emb (ix2 r l) = ix2 r l by blk_ext [idx t]]
  have hf' := (flush0_5 t).mp hf
  have hN : t.val < 32 := t.isLt
  exact parts5 X G T t _ r l

theorem final6 : (dats m 0 c).arrAt 6 cfg0.N = dg X G T := by
  refine (dats m 0 c).arrAt_eq_of_covers 6 _ (by decide +kernel) fun t hf y => ?_
  blk_simp
  rw [after0_6, Pipeline.eq_sum_fin_of_reset_step_apply_of_flush (f := fun n h => (outsAt0 m c n h).2.2.2) 32 (fun _ => (0 : EReal)) (part6 X G T)
        (fun t h j => stepA6 m c X G T hx hg ht t h j) (fun t h j => stepB6 m c X G T hx hg ht t h j) t ((flush0_6 t).mp hf) _]
  obtain ⟨r, l, rfl⟩ : ∃ (r : Fin 8) (l : Fin 1024), y = ix2 r l := ⟨y 0, y 1, eq_ix2 y⟩
  rw [zero_add, show (win0_6.blk t).view.emb (ix2 r l) = ix2 r l by blk_ext [idx t]]
  have hf' := (flush0_6 t).mp hf
  have hN : t.val < 32 := t.isLt
  exact parts6 X G T t _ r l

end

end Cert.LossIdeal.RefValue

end
-- ==== Proof.ConvReference.lean ====
/-
The gradients of the causal convolution of three taps and its gate, as sums over the reals, and the reference that computes them.
-/
module

public import proofs.«01_k».proof.Proof.Norm
public import proofs.«01_k».proof.Proof.Gen.ConvRefIdeal.Run
public import Idealize.ShloMosaic.Lib.Pipeline.ValueKit

@[expose] public section

set_option maxRecDepth 16384

noncomputable section

namespace Cert.ConvRow

open Idealize.ShloMosaic

/-- The sigmoid of a real. -/
def sg (v : ℝ) : ℝ := (1 + Real.exp (-v))⁻¹

theorem logistic_at (v : ℝ) : Ideal.div 1 (1 + Ideal.exp (-(v : EReal))) = (sg v : EReal) :=
  Ideal.logistic_coe v

theorem tanh_at (v : ℝ) : Ideal.ofBits .f32 0x3F000000#32 * Ideal.tanh (Ideal.ofBits .f32 0x3F000000#32 * (v : EReal)) + Ideal.ofBits .f32 0x3F000000#32
    = (sg v : EReal) := (Common.sigmoid_eq v).trans (logistic_at v)

/-- The elements of `f` from `k` on. -/
def from_ {N : ℕ} (f : Fin N → ℝ) (n : ℕ) : ℝ := if h : n < N then f ⟨n, h⟩ else 0

theorem from_val {N : ℕ} (f : Fin N → ℝ) (r : Fin N) : from_ f r.val = f r := dif_pos r.isLt

theorem from_out {N : ℕ} (f : Fin N → ℝ) (n : ℕ) (h : N ≤ n) : from_ f n = 0 := dif_neg (by omega)

/-- A sum against a sequence moved later is the sum of the one moved earlier. -/
theorem shift_sum {N : ℕ} (k : ℕ) (hk : k ≤ N) (f a : Fin N → ℝ) :
    ∑ r : Fin N, f r * (if r.val < k then 0 else from_ a (r.val - k)) = ∑ r : Fin N, from_ f (r.val + k) * a r := by
  have h1 : ∀ r : Fin N, f r * (if r.val < k then 0 else from_ a (r.val - k)) = from_ f r.val * (if r.val < k then 0 else from_ a (r.val - k)) :=
    fun r => by rw [from_val]
  have h2 : ∀ r : Fin N, from_ f (r.val + k) * a r = from_ f (r.val + k) * from_ a r.val := fun r => by rw [from_val]
  have e1 : Finset.range N = Finset.range (k + (N - k)) := congrArg _ (by omega)
  have e2 : Finset.range N = Finset.range ((N - k) + k) := congrArg _ (by omega)
  have l1 : ∑ n ∈ Finset.range N, from_ f n * (if n < k then 0 else from_ a (n - k)) = ∑ n ∈ Finset.range (N - k), from_ f (k + n) * from_ a n := by
    rw [e1, Finset.sum_range_add, Finset.sum_eq_zero fun n hn => by rw [if_pos (Finset.mem_range.mp hn), mul_zero], zero_add]
    exact Finset.sum_congr rfl fun n _ => by rw [if_neg (by omega), Nat.add_sub_cancel_left]
  have l2 : ∑ n ∈ Finset.range N, from_ f (n + k) * from_ a n = ∑ n ∈ Finset.range (N - k), from_ f (k + n) * from_ a n := by
    rw [e2, Finset.sum_range_add, Finset.sum_eq_zero (s := Finset.range k) fun n _ => by rw [from_out f _ (by omega), zero_mul], add_zero]
    exact Finset.sum_congr rfl fun n _ => by rw [Nat.add_comm n k]
  rw [Finset.sum_congr rfl fun r _ => h1 r, Finset.sum_congr rfl fun r _ => h2 r,
    Fin.sum_univ_eq_sum_range (fun n => from_ f n * (if n < k then 0 else from_ a (n - k))),
    Fin.sum_univ_eq_sum_range (fun n => from_ f (n + k) * from_ a n), l1, l2]

end Cert.ConvRow

namespace Cert.ConvRefIdeal.RefValue

open Cert.ConvRefIdeal Cert.ConvRefIdeal.Gen Cert.ConvRefIdeal.Value Idealize.ShloMosaic Idealize.ShloMosaic.TcCoe Cert.ConvRow

/-- A column of the first half, and of the second. -/
abbrev low (l : Fin 2816) : Fin 5632 := ⟨l.val, by omega⟩
abbrev high (l : Fin 2816) : Fin 5632 := ⟨2816 + l.val, by omega⟩

variable (A : S16384x5632.Idx → ℝ) (W : S3x2816.Idx → ℝ) (B : S2816.Idx → ℝ) (Y : S16384x2816.Idx → ℝ)

/-- A column of the convolved half, and the same some rows later. -/
def col (l : Fin 2816) (r : Fin 16384) : ℝ := A (ix2 r (low l))
def late (k : ℕ) (l : Fin 2816) (r : Fin 16384) : ℝ := if r.val < k then 0 else from_ (col A l) (r.val - k)

/-- The convolution. -/
def act (l : Fin 2816) (r : Fin 16384) : ℝ :=
  W (ix2 0 l) * late A 2 l r + W (ix2 1 l) * late A 1 l r + W (ix2 2 l) * col A l r + B (ix1 l)

/-- Its cotangent. -/
def cot (l : Fin 2816) (r : Fin 16384) : ℝ :=
  Y (ix2 r l) * A (ix2 r (high l)) * (sg (act A W B l r) + act A W B l r * (sg (act A W B l r) * (1 - sg (act A W B l r))))

/-- The gradient of the convolved half. -/
def da : FVec Ideal S16384x2816 .bf16 := fun i => ((W (ix2 2 (i 1)) * from_ (cot A W B Y (i 1)) (i 0).val
  + W (ix2 1 (i 1)) * from_ (cot A W B Y (i 1)) ((i 0).val + 1) + W (ix2 0 (i 1)) * from_ (cot A W B Y (i 1)) ((i 0).val + 2) : ℝ) : EReal)

/-- The gradient of the gated half. -/
def db : FVec Ideal S16384x2816 .bf16 := fun i =>
  ((Y (ix2 (i 0) (i 1)) * (act A W B (i 1) (i 0) * sg (act A W B (i 1) (i 0))) : ℝ) : EReal)

/-- What a row adds to the four rows of the gradients of the taps and of the bias. -/
def tap (q : ℕ) (l : Fin 2816) (r : Fin 16384) : ℝ :=
  if q = 0 then from_ (cot A W B Y l) (r.val + 2) * col A l r else if q = 1 then from_ (cot A W B Y l) (r.val + 1) * col A l r
  else if q = 2 then from_ (cot A W B Y l) r.val * col A l r else if q = 3 then from_ (cot A W B Y l) r.val else 0

/-- The gradients of the taps and of the bias. -/
def dw : FVec Ideal S8x2816 .f32 := fun i => ((∑ r : Fin 16384, tap A W B Y (i 0).val (i 1) r : ℝ) : EReal)

theorem late_at (k : ℕ) (l : Fin 2816) (r : Fin 16384) :
    (if h : r.val < k then (0 : EReal) else (A (ix2 ⟨r.val - k, by omega⟩ ⟨l.val, by omega⟩) : EReal)) = (late A k l r : EReal) := by
  by_cases h : r.val < k
  · rw [dif_pos h, late, if_pos h, EReal.coe_zero]
  · rw [dif_neg h, late, if_neg h, from_, dif_pos (by omega)]
    rfl

/-- The convolution over the extended reals. -/
theorem act_at (l : Fin 2816) (r : Fin 16384) :
    (W (ix2 0 l) : EReal) * (late A 2 l r : EReal) + (W (ix2 1 l) : EReal) * (late A 1 l r : EReal) + (W (ix2 2 l) : EReal) * (A (ix2 r (low l)) : EReal)
      + (B (ix1 l) : EReal) = (act A W B l r : EReal) := by
  simp only [← EReal.coe_mul, ← EReal.coe_add]
  rfl

/-- The first half of the columns, two rows later. -/
def sh2 (x : FVec Ideal S16384x5632 .f32) : FVec Ideal S16384x2816 .f32 :=
  (concatenate S16384x2816 0 [⟨S2x2816, (broadcastInDim S2x2816 ![] bcast_S_S2x2816 (constant S_ .f32 0x00000000#32))⟩, ⟨S16382x2816, (extractStridedSlice S16382x2816 ![0, 0] (extractStridedSlice S16384x2816 ![0, 0] x slices_S16384x5632_S16384x2816_0_0) slices_S16384x2816_S16382x2816_0_0)⟩] concatenates_S2x2816_S16382x2816_S16384x2816_d0)

/-- The same, one row later. -/
def sh1 (x : FVec Ideal S16384x5632 .f32) : FVec Ideal S16384x2816 .f32 :=
  (concatenate S16384x2816 0 [⟨S1x2816, (broadcastInDim S1x2816 ![] bcast_S_S1x2816 (constant S_ .f32 0x00000000#32))⟩, ⟨S16383x2816, (extractStridedSlice S16383x2816 ![0, 0] (extractStridedSlice S16384x2816 ![0, 0] x slices_S16384x5632_S16384x2816_0_0) slices_S16384x2816_S16383x2816_0_0)⟩] concatenates_S1x2816_S16383x2816_S16384x2816_d0)

/-- The convolution, before the gate. -/
def pre (x : FVec Ideal S16384x5632 .f32) (w : FVec Ideal S3x2816 .f32) (b : FVec Ideal S2816 .f32) : FVec Ideal S16384x2816 .f32 :=
  (addf (addf (addf (mulf (broadcastInDim S16384x2816 ![0, 1] bcast_S1x2816_S16384x2816_0_1 (broadcastInDim S1x2816 ![1] bcast_S2816_S1x2816_1 (shapeCast _ (extractStridedSlice S1x2816 ![0, 0] w slices_S3x2816_S1x2816_0_0) shapeCasts_S1x2816_S2816))) (sh2 x)) (mulf (broadcastInDim S16384x2816 ![0, 1] bcast_S1x2816_S16384x2816_0_1 (broadcastInDim S1x2816 ![1] bcast_S2816_S1x2816_1 (shapeCast _ (extractStridedSlice S1x2816 ![1, 0] w slices_S3x2816_S1x2816_1_0) shapeCasts_S1x2816_S2816))) (sh1 x))) (mulf (broadcastInDim S16384x2816 ![0, 1] bcast_S1x2816_S16384x2816_0_1 (broadcastInDim S1x2816 ![1] bcast_S2816_S1x2816_1 (shapeCast _ (extractStridedSlice S1x2816 ![2, 0] w slices_S3x2816_S1x2816_2_0) shapeCasts_S1x2816_S2816))) (extractStridedSlice S16384x2816 ![0, 0] x slices_S16384x5632_S16384x2816_0_0))) (broadcastInDim S16384x2816 ![0, 1] bcast_S1x2816_S16384x2816_0_1 (broadcastInDim S1x2816 ![1] bcast_S2816_S1x2816_1 b)))

/-- Its sigmoid. -/
def gate (x : FVec Ideal S16384x5632 .f32) (w : FVec Ideal S3x2816 .f32) (b : FVec Ideal S2816 .f32) : FVec Ideal S16384x2816 .f32 :=
  (Host.divf (broadcastInDim S16384x2816 ![] bcast_S_S16384x2816 (constant S_ .f32 0x3F800000#32)) (addf (broadcastInDim S16384x2816 ![] bcast_S_S16384x2816 (constant S_ .f32 0x3F800000#32)) (Host.exp (Host.negf (pre x w b)))))

/-- The cotangent of the convolution. -/
def dpre (x : FVec Ideal S16384x5632 .f32) (w : FVec Ideal S3x2816 .f32) (b : FVec Ideal S2816 .f32) (y : FVec Ideal S16384x2816 .f32) : FVec Ideal S16384x2816 .f32 :=
  (addf (mulf (mulf y (extractStridedSlice S16384x2816 ![0, 2816] x slices_S16384x5632_S16384x2816_0_2816)) (gate x w b)) (mulf (mulf (pre x w b) (mulf y (extractStridedSlice S16384x2816 ![0, 2816] x slices_S16384x5632_S16384x2816_0_2816))) (mulf (gate x w b) (subf (broadcastInDim S16384x2816 ![] bcast_S_S16384x2816 (constant S_ .f32 0x3F800000#32)) (gate x w b)))))

section
variable {x : FVec Ideal S16384x5632 .f32} {w : FVec Ideal S3x2816 .f32} {b : FVec Ideal S2816 .f32} {y : FVec Ideal S16384x2816 .f32}
  (hx : x = fun i => ((A i : ℝ) : EReal)) (hw : w = fun i => ((W i : ℝ) : EReal)) (hb : b = fun i => ((B i : ℝ) : EReal))
  (hy : y = fun i => ((Y i : ℝ) : EReal))

include hx in
theorem sh2_at (r : Fin 16384) (l : Fin 2816) : sh2 x (ix2 r l) = (late A 2 l r : EReal) := by
  pointwise [sh2, hx]
  exact late_at A 2 l r

include hx in
theorem sh1_at (r : Fin 16384) (l : Fin 2816) : sh1 x (ix2 r l) = (late A 1 l r : EReal) := by
  pointwise [sh1, hx]
  exact late_at A 1 l r

include hx hw hb in
theorem pre_at (r : Fin 16384) (l : Fin 2816) : pre x w b (ix2 r l) = (act A W B l r : EReal) := by
  pointwise [pre, hx, hw, hb]
  rw [sh1_at A rfl, sh2_at A rfl]
  exact act_at A W B l r

include hx hw hb in
theorem gate_at (r : Fin 16384) (l : Fin 2816) : gate x w b (ix2 r l) = (sg (act A W B l r) : EReal) := by
  pointwise [gate]
  rw [pre_at A W B hx hw hb]
  exact logistic_at _

include hx hw hb hy in
theorem dpre_at (r : Fin 16384) (l : Fin 2816) : dpre x w b y (ix2 r l) = (cot A W B Y l r : EReal) := by
  pointwise [dpre]
  rw [pre_at A W B hx hw hb, gate_at A W B hx hw hb, hx, hy]
  refine Eq.trans (b := (((Y (ix2 r l) * A (ix2 r (high l))) * sg (act A W B l r) + act A W B l r * (Y (ix2 r l) * A (ix2 r (high l)))
    * (sg (act A W B l r) * (1 - sg (act A W B l r))) : ℝ) : EReal)) ?_ (congrArg _ (by rw [cot]; ring))
  push_cast
  rfl

include hx hw hb hy in
theorem da_at : (truncf .bf16 (addf (addf (mulf (broadcastInDim S16384x2816 ![0, 1] bcast_S1x2816_S16384x2816_0_1 (broadcastInDim S1x2816 ![1] bcast_S2816_S1x2816_1 (shapeCast _ (extractStridedSlice S1x2816 ![2, 0] w slices_S3x2816_S1x2816_2_0) shapeCasts_S1x2816_S2816))) (dpre x w b y)) (pad S16384x2816 ![0, 0] ![2, 0] ![0, 0] (extractStridedSlice S16382x2816 ![2, 0] (mulf (broadcastInDim S16384x2816 ![0, 1] bcast_S1x2816_S16384x2816_0_1 (broadcastInDim S1x2816 ![1] bcast_S2816_S1x2816_1 (shapeCast _ (extractStridedSlice S1x2816 ![0, 0] w slices_S3x2816_S1x2816_0_0) shapeCasts_S1x2816_S2816))) (dpre x w b y)) slices_S16384x2816_S16382x2816_2_0) (constant S_ .f32 0x00000000#32) pads_S16382x2816_S16384x2816_020_000 h_S_)) (pad S16384x2816 ![0, 0] ![1, 0] ![0, 0] (extractStridedSlice S16383x2816 ![1, 0] (mulf (broadcastInDim S16384x2816 ![0, 1] bcast_S1x2816_S16384x2816_0_1 (broadcastInDim S1x2816 ![1] bcast_S2816_S1x2816_1 (shapeCast _ (extractStridedSlice S1x2816 ![1, 0] w slices_S3x2816_S1x2816_1_0) shapeCasts_S1x2816_S2816))) (dpre x w b y)) slices_S16384x2816_S16383x2816_1_0) (constant S_ .f32 0x00000000#32) pads_S16383x2816_S16384x2816_010_000 h_S_)) bitsLt_bf16_f32) = da A W B Y := by
  funext i
  obtain ⟨r, l, rfl⟩ : ∃ (r : Fin 16384) (l : Fin 2816), i = ix2 r l := ⟨i 0, i 1, eq_ix2 i⟩
  pointwise []
  simp only [dpre_at A W B Y hx hw hb hy]
  rw [hw]
  refine Eq.trans ?_ (congrArg (fun v : ℝ => (v : EReal)) (show W (ix2 2 l) * cot A W B Y l r + W (ix2 0 l) * from_ (cot A W B Y l) (2 + r.val)
    + W (ix2 1 l) * from_ (cot A W B Y l) (1 + r.val) = W (ix2 2 l) * from_ (cot A W B Y l) r.val
    + W (ix2 1 l) * from_ (cot A W B Y l) (r.val + 1) + W (ix2 0 l) * from_ (cot A W B Y l) (r.val + 2) by
      rw [from_val, Nat.add_comm 1, Nat.add_comm 2]; ring))
  rw [EReal.coe_add, EReal.coe_add, EReal.coe_mul, EReal.coe_mul, EReal.coe_mul]
  refine congrArg₂ (· + ·) (congrArg₂ (· + ·) rfl ?_) ?_
  · by_cases h : r.val < 16382
    · rw [dif_pos h, from_, dif_pos (by omega)]
    · rw [dif_neg h, from_out _ _ (by omega), EReal.coe_zero, mul_zero]
  · by_cases h : r.val < 16383
    · rw [dif_pos h, from_, dif_pos (by omega)]
    · rw [dif_neg h, from_out _ _ (by omega), EReal.coe_zero, mul_zero]

include hx hw hb hy in
theorem db_at : (truncf .bf16 (mulf (mulf (pre x w b) (gate x w b)) y) bitsLt_bf16_f32) = db A W B Y := by
  funext i
  obtain ⟨r, l, rfl⟩ : ∃ (r : Fin 16384) (l : Fin 2816), i = ix2 r l := ⟨i 0, i 1, eq_ix2 i⟩
  pointwise []
  rw [pre_at A W B hx hw hb, gate_at A W B hx hw hb, hy, ← EReal.coe_mul, ← EReal.coe_mul]
  exact congrArg (fun v : ℝ => (v : EReal)) (mul_comm _ _)

theorem late_sum (k : ℕ) (hk : k ≤ 16384) (l : Fin 2816) :
    ∑ r : Fin 16384, cot A W B Y l r * late A k l r = ∑ r : Fin 16384, from_ (cot A W B Y l) (r.val + k) * col A l r :=
  shift_sum k hk _ _

theorem prod_sum (f g : Fin 16384 → ℝ) : ∑ r, (f r : EReal) * (g r : EReal) = ((∑ r, f r * g r : ℝ) : EReal) := by
  rw [Common.coe_sum]
  exact Finset.sum_congr rfl fun r _ => (EReal.coe_mul _ _).symm

include hx hw hb hy in
theorem dw_at : (pad S8x2816 ![0, 0] ![4, 0] ![0, 0] (concatenate S4x2816 0 [⟨S3x2816, (addf (addf (pad S3x2816 ![2, 0] ![0, 0] ![0, 0] (broadcastInDim S1x2816 ![1] bcast_S2816_S1x2816_1 (Host.reduceAdd (shapeCast _ (Host.reduceAdd (mulf (dpre x w b y) (extractStridedSlice S16384x2816 ![0, 0] x slices_S16384x5632_S16384x2816_0_0)) (constant S_ .f32 0x00000000#32) reducesTo_S16384x2816_S2816_d0 h_S_) shapeCasts_S2816_S1x2816) (constant S_ .f32 0x00000000#32) reducesTo_S1x2816_S2816_d0 h_S_)) (constant S_ .f32 0x00000000#32) pads_S1x2816_S3x2816_200_000 h_S_) (pad S3x2816 ![1, 0] ![1, 0] ![0, 0] (broadcastInDim S1x2816 ![1] bcast_S2816_S1x2816_1 (Host.reduceAdd (shapeCast _ (Host.reduceAdd (mulf (dpre x w b y) (sh1 x)) (constant S_ .f32 0x00000000#32) reducesTo_S16384x2816_S2816_d0 h_S_) shapeCasts_S2816_S1x2816) (constant S_ .f32 0x00000000#32) reducesTo_S1x2816_S2816_d0 h_S_)) (constant S_ .f32 0x00000000#32) pads_S1x2816_S3x2816_110_000 h_S_)) (pad S3x2816 ![0, 0] ![2, 0] ![0, 0] (broadcastInDim S1x2816 ![1] bcast_S2816_S1x2816_1 (Host.reduceAdd (shapeCast _ (Host.reduceAdd (mulf (dpre x w b y) (sh2 x)) (constant S_ .f32 0x00000000#32) reducesTo_S16384x2816_S2816_d0 h_S_) shapeCasts_S2816_S1x2816) (constant S_ .f32 0x00000000#32) reducesTo_S1x2816_S2816_d0 h_S_)) (constant S_ .f32 0x00000000#32) pads_S1x2816_S3x2816_020_000 h_S_))⟩, ⟨S1x2816, (broadcastInDim S1x2816 ![1] bcast_S2816_S1x2816_1 (Host.reduceAdd (shapeCast _ (Host.reduceAdd (dpre x w b y) (constant S_ .f32 0x00000000#32) reducesTo_S16384x2816_S2816_d0 h_S_) shapeCasts_S2816_S1x2816) (constant S_ .f32 0x00000000#32) reducesTo_S1x2816_S2816_d0 h_S_))⟩] concatenates_S3x2816_S1x2816_S4x2816_d0) (sitofp .f32 (constantI S_ 32 0#32)) pads_S4x2816_S8x2816_040_000 h_S_) = dw A W B Y := by
  funext i
  obtain ⟨r, l, rfl⟩ : ∃ (r : Fin 8) (l : Fin 2816), i = ix2 r l := ⟨i 0, i 1, eq_ix2 i⟩
  pointwise []
  simp only [dpre_at A W B Y hx hw hb hy, sh1_at A hx, sh2_at A hx, Fin.sum_univ_one]
  rw [hx]
  have hz : ∀ q, q = r.val → dw A W B Y (ix2 r l) = ((∑ R : Fin 16384, tap A W B Y q l R : ℝ) : EReal) := fun q hq => by subst hq; rfl
  have h0 : r.val = 0 ∨ r.val = 1 ∨ r.val = 2 ∨ r.val = 3 ∨ 4 ≤ r.val := by omega
  rcases h0 with h | h | h | h | h
  · rw [dif_pos (by omega), dif_pos (by omega), dif_neg (by omega), dif_neg (by omega), dif_pos (by omega), hz 0 h.symm]
    refine Eq.trans (congrArg (fun v : EReal => 0 + 0 + v) ((prod_sum _ _).trans (congrArg _ (late_sum A W B Y 2 (by norm_num) l)))) ?_
    rw [add_zero, zero_add]
    rfl
  · rw [dif_pos (by omega), dif_pos (by omega), dif_neg (by omega), dif_pos (by omega), dif_neg (by omega), hz 1 h.symm]
    refine Eq.trans (congrArg (fun v : EReal => 0 + v + 0) ((prod_sum _ _).trans (congrArg _ (late_sum A W B Y 1 (by norm_num) l)))) ?_
    rw [add_zero, zero_add]
    rfl
  · rw [dif_pos (by omega), dif_pos (by omega), dif_pos (by omega), dif_neg (by omega), dif_neg (by omega), hz 2 h.symm]
    refine Eq.trans (congrArg (fun v : EReal => v + 0 + 0) (prod_sum (cot A W B Y l) (col A l))) ?_
    rw [add_zero, add_zero]
    exact congrArg (fun v : ℝ => (v : EReal)) (Finset.sum_congr rfl fun R _ => by
      rw [tap, if_neg (by norm_num), if_neg (by norm_num), if_pos rfl, from_val])
  · rw [dif_pos (by omega), dif_neg (by omega), hz 3 h.symm]
    refine (Common.coe_sum _ _).symm.trans ?_
    exact congrArg (fun v : ℝ => (v : EReal)) (Finset.sum_congr rfl fun R _ => by
      rw [tap, if_neg (by norm_num), if_neg (by norm_num), if_neg (by norm_num), if_pos rfl, from_val])
  · rw [dif_neg (by omega), hz _ rfl, Finset.sum_eq_zero fun R _ => by
      rw [tap, if_neg (by omega), if_neg (by omega), if_neg (by omega), if_neg (by omega)]]
    simp [FloatOps.sitofp]
end

/-! The results of the reference's run. -/

theorem res0 (m : (ℓ : Loc nD τ sig) → Buf (Elt Ideal) ℓ) (c : Dev nD) (hx : m ((c.tc : Thread nD τ).loc main_arg0) = fun i => ((A i : ℝ) : EReal))
    (hw : m ((c.tc : Thread nD τ).loc main_arg1) = fun i => ((W i : ℝ) : EReal)) (hb : m ((c.tc : Thread nD τ).loc main_arg2) = fun i => ((B i : ℝ) : EReal))
    (hy : m ((c.tc : Thread nD τ).loc main_arg3) = fun i => ((Y i : ℝ) : EReal)) : res_main_v72 m c = da A W B Y := by
  unfold res_main_v72
  exact da_at A W B Y hx hw hb hy

theorem res1 (m : (ℓ : Loc nD τ sig) → Buf (Elt Ideal) ℓ) (c : Dev nD) (hx : m ((c.tc : Thread nD τ).loc main_arg0) = fun i => ((A i : ℝ) : EReal))
    (hw : m ((c.tc : Thread nD τ).loc main_arg1) = fun i => ((W i : ℝ) : EReal)) (hb : m ((c.tc : Thread nD τ).loc main_arg2) = fun i => ((B i : ℝ) : EReal))
    (hy : m ((c.tc : Thread nD τ).loc main_arg3) = fun i => ((Y i : ℝ) : EReal)) : res_main_v73 m c = db A W B Y := by
  unfold res_main_v73
  exact db_at A W B Y hx hw hb hy

theorem res2 (m : (ℓ : Loc nD τ sig) → Buf (Elt Ideal) ℓ) (c : Dev nD) (hx : m ((c.tc : Thread nD τ).loc main_arg0) = fun i => ((A i : ℝ) : EReal))
    (hw : m ((c.tc : Thread nD τ).loc main_arg1) = fun i => ((W i : ℝ) : EReal)) (hb : m ((c.tc : Thread nD τ).loc main_arg2) = fun i => ((B i : ℝ) : EReal))
    (hy : m ((c.tc : Thread nD τ).loc main_arg3) = fun i => ((Y i : ℝ) : EReal)) : res_main_v76 m c = dw A W B Y := by
  unfold res_main_v76
  exact dw_at A W B Y hx hw hb hy

end Cert.ConvRefIdeal.RefValue

end
-- ==== Proof.ConvValue.lean ====
/-
The value of the gradient kernel of the convolution and its gate.
-/
module

public import proofs.«01_k».proof.Proof.ConvReference
public import proofs.«01_k».proof.Proof.Stores
public import proofs.«01_k».proof.Proof.Gen.ConvIdeal.Value

@[expose] public section

set_option maxRecDepth 16384

noncomputable section

namespace Cert.ConvIdeal.RefValue

open Cert.ConvIdeal Cert.ConvIdeal.Gen Idealize.ShloMosaic Idealize.ShloMosaic.TcCoe Idealize.SL.Sem Cert.ConvRow
open Idealize.ShloMosaic.Pipeline (Dat)
open Cert.ConvRefIdeal.RefValue (low high act cot da db dw tap late late_at act_at col)

variable (m : (ℓ : Loc nD τ sig) → Buf (Elt Ideal) ℓ) (c : Dev nD)
variable (A : S16384x5632.Idx → ℝ) (W : S3x2816.Idx → ℝ) (B : S2816.Idx → ℝ) (Y : S16384x2816.Idx → ℝ)

theorem idx (t : Fin cfg0.N) : win0_0.index t = ![t.val % 32, t.val / 32] ∧ win0_1.index t = ![t.val % 32, t.val / 32 + 2]
    ∧ win0_2.index t = ![min (32 * (t.val % 32) + 32) 1023, t.val / 32 + 2] ∧ win0_3.index t = ![t.val % 32, t.val / 32]
    ∧ win0_4.index t = ![min (32 * (t.val % 32) + 32) 1023, t.val / 32]
    ∧ win0_5.index t = ![t.val % 32, t.val / 32] ∧ win0_6.index t = ![min (32 * (t.val % 32) + 32) 1023, t.val / 32] ∧ win0_7.index t = ![0, t.val / 32]
    ∧ win0_8.index t = ![t.val % 32, t.val / 32] ∧ win0_9.index t = ![t.val % 32, t.val / 32] ∧ win0_10.index t = ![0, t.val / 32] :=
  (by decide +kernel : ∀ t : Fin grid0.N, win0_0.index t = ![t.val % 32, t.val / 32] ∧ win0_1.index t = ![t.val % 32, t.val / 32 + 2]
    ∧ win0_2.index t = ![min (32 * (t.val % 32) + 32) 1023, t.val / 32 + 2] ∧ win0_3.index t = ![t.val % 32, t.val / 32]
    ∧ win0_4.index t = ![min (32 * (t.val % 32) + 32) 1023, t.val / 32]
    ∧ win0_5.index t = ![t.val % 32, t.val / 32] ∧ win0_6.index t = ![min (32 * (t.val % 32) + 32) 1023, t.val / 32] ∧ win0_7.index t = ![0, t.val / 32]
    ∧ win0_8.index t = ![t.val % 32, t.val / 32] ∧ win0_9.index t = ![t.val % 32, t.val / 32] ∧ win0_10.index t = ![0, t.val / 32]) t

theorem points (t : Fin cfg0.N) : t.val < 64 := t.isLt

/-- The last block of rows has no rows after it. -/
theorem edge (t : Fin cfg0.N) : Scalar.cmpi .eq (BitVec.ofNat 32 (grid0.coords t 1).val) 31#32 = if t.val % 32 = 31 then 1#1 else 0#1 :=
  (by decide +kernel : ∀ t : Fin grid0.N, Scalar.cmpi .eq (BitVec.ofNat 32 (grid0.coords t 1).val) 31#32 = if t.val % 32 = 31 then 1#1 else 0#1) t

/-- The array's row and column of a block's, and the row of one of the rows after. -/
abbrev at_ (t : Fin cfg0.N) (r : Fin 512) : Fin 16384 := ⟨t.val % 32 * 512 + r.val, by omega⟩
abbrev next (t : Fin cfg0.N) (r : Fin 16) : Fin 16384 := ⟨min (32 * (t.val % 32) + 32) 1023 * 16 + r.val, by omega⟩
abbrev lane (t : Fin cfg0.N) (l : Fin 1408) : Fin 2816 := ⟨t.val / 32 * 1408 + l.val, by have := points t; omega⟩

section
variable (hx : m ((c : Thread nD τ).loc main_arg0) = fun i => ((A i : ℝ) : EReal)) (hw : m ((c : Thread nD τ).loc main_arg1) = fun i => ((W i : ℝ) : EReal))
  (hb : m ((c : Thread nD τ).loc main_arg2) = fun i => ((B i : ℝ) : EReal)) (hy : m ((c : Thread nD τ).loc main_arg3) = fun i => ((Y i : ℝ) : EReal))

include hx in
theorem V_v0 (i : S16384x5632.Idx) : V m c main_v0 i = (A i : EReal) := by
  simp only [V, hostOps0, hostOps0_1, hostOps0_2, List.flatten_cons, List.flatten_nil, List.append_nil, List.cons_append, List.nil_append]
  entry_read
  pointwise [hx]

include hw in
theorem V_v1 (q : Fin 8) (l : Fin 2816) (z : Fin 3) (h : z.val = q.val) : V m c main_v1 (ix2 q l) = (W (ix2 z l) : EReal) := by
  simp only [V, hostOps0, hostOps0_1, hostOps0_2, List.flatten_cons, List.flatten_nil, List.append_nil, List.cons_append, List.nil_append]
  entry_read
  pointwise []
  simp only [StableHlo.TRef.ofBuf, StableHlo.TRef.toBuf, cast_eq]
  pointwise []
  obtain ⟨q, hq⟩ := q
  obtain rfl : z.val = q := h
  rw [dif_pos (show z.val < 3 from z.isLt), hw]

include hx hw hb in
theorem V_v30 (r : Fin 16384) (l : Fin 2816) : V m c main_v30 (ix2 r l) = (act A W B l r : EReal) := by
  simp only [V, hostOps0, hostOps0_1, hostOps0_2, List.flatten_cons, List.flatten_nil, List.append_nil, List.cons_append, List.nil_append]
  entry_read
  pointwise [hx, hw, hb]
  refine Eq.trans ?_ (act_at A W B l r)
  rw [← late_at, ← late_at]

include hy in
theorem V_v31 (i : S16384x2816.Idx) : V m c main_v31 i = (Y i : EReal) := by
  simp only [V, hostOps0, hostOps0_1, hostOps0_2, List.flatten_cons, List.flatten_nil, List.append_nil, List.cons_append, List.nil_append]
  entry_read
  pointwise [hy]

include hx in
theorem rd0 (t : Fin cfg0.N) (r : Fin 512) (l : Fin 1408) : iblk m c 0 t (ix2 r l) = (A (ix2 (at_ t r) (low (lane t l))) : EReal) := by
  rw [← V_v0 m c A hx]
  blk_point [iblk, idx t]
include hx in
theorem rd1 (t : Fin cfg0.N) (r : Fin 512) (l : Fin 1408) : iblk m c 1 t (ix2 r l) = (A (ix2 (at_ t r) (high (lane t l))) : EReal) := by
  rw [← V_v0 m c A hx]
  blk_point [iblk, idx t]
include hx in
theorem rd2 (t : Fin cfg0.N) (r : Fin 16) (l : Fin 1408) : iblk m c 2 t (ix2 r l) = (A (ix2 (next t r) (high (lane t l))) : EReal) := by
  rw [← V_v0 m c A hx]
  blk_point [iblk, idx t]
include hx hw hb in
theorem rd3 (t : Fin cfg0.N) (r : Fin 512) (l : Fin 1408) : iblk m c 3 t (ix2 r l) = (act A W B (lane t l) (at_ t r) : EReal) := by
  rw [← V_v30 m c A W B hx hw hb]
  blk_point [iblk, idx t]
include hx hw hb in
theorem rd4 (t : Fin cfg0.N) (r : Fin 16) (l : Fin 1408) : iblk m c 4 t (ix2 r l) = (act A W B (lane t l) (next t r) : EReal) := by
  rw [← V_v30 m c A W B hx hw hb]
  blk_point [iblk, idx t]
include hy in
theorem rd5 (t : Fin cfg0.N) (r : Fin 512) (l : Fin 1408) : iblk m c 5 t (ix2 r l) = (Y (ix2 (at_ t r) (lane t l)) : EReal) := by
  rw [← V_v31 m c Y hy]
  blk_point [iblk, idx t]
include hy in
theorem rd6 (t : Fin cfg0.N) (r : Fin 16) (l : Fin 1408) : iblk m c 6 t (ix2 r l) = (Y (ix2 (next t r) (lane t l)) : EReal) := by
  rw [← V_v31 m c Y hy]
  blk_point [iblk, idx t]
include hw in
theorem rd7 (t : Fin cfg0.N) (q : Fin 8) (l : Fin 1408) (z : Fin 3) (h : z.val = q.val) : iblk m c 7 t (ix2 q l) = (W (ix2 z (lane t l)) : EReal) := by
  rw [← V_v1 m c W hw q (lane t l) z h]
  blk_point [iblk, idx t]

end

/-- The gate's gradient at reals. -/
theorem gate_at (y b p : ℝ) : (y : EReal) * (b : EReal) * (Ideal.ofBits .f32 0x3F000000#32 * Ideal.tanh (Ideal.ofBits .f32 0x3F000000#32 * (p : EReal))
      + Ideal.ofBits .f32 0x3F000000#32 + (p : EReal) * (Ideal.ofBits .f32 0x3F000000#32 * Ideal.tanh (Ideal.ofBits .f32 0x3F000000#32 * (p : EReal))
      + Ideal.ofBits .f32 0x3F000000#32) * (1 - (Ideal.ofBits .f32 0x3F000000#32 * Ideal.tanh (Ideal.ofBits .f32 0x3F000000#32 * (p : EReal))
      + Ideal.ofBits .f32 0x3F000000#32))) = ((y * b * (sg p + p * (sg p * (1 - sg p))) : ℝ) : EReal) := by
  rw [tanh_at]
  refine Eq.trans (b := ((y * b * (sg p + p * sg p * (1 - sg p)) : ℝ) : EReal)) ?_ (congrArg _ (by ring))
  push_cast
  rfl

section
variable {x0 d0 a0 : FVec Ideal S512x1408 .bf16} {x1 d1 a1 : FVec Ideal S16x1408 .bf16} {i : grid0.Coords} {l : Fin 1408}

/-- A row of the block. -/
theorem own_at (r : Fin 520) (r' : Fin 512) (h : r'.val = r.val) {y b p : ℝ} (hd : d0 (ix2 r' l) = (y : EReal)) (ha : a0 (ix2 r' l) = (b : EReal))
    (hp : x0 (ix2 r' l) = (p : EReal)) :
    k0_pay12 (F := Ideal) (k0_pay6 a0 a1) (k0_pay8 i d0 d1) (k0_pay9 x0 x1) (k0_pay10 x0 x1) (ix2 r l) = ((y * b * (sg p + p * (sg p * (1 - sg p))) : ℝ) : EReal) := by
  obtain ⟨r, hr⟩ := r
  obtain rfl : r'.val = r := h
  pointwise [k0_pay12, k0_pay6, k0_pay8, k0_pay10, k0_pay9, k0_pay7]
  rw [hd, ha, hp]
  exact gate_at y b p

/-- A row after the block. -/
theorem next_at (r : Fin 520) (r' : Fin 16) (h : r.val = 512 + r'.val) (e : Prop) [Decidable e]
    (he : Scalar.cmpi .eq (BitVec.ofNat 32 (i 1).val) 31#32 = if e then 1#1 else 0#1)
    {y b p : ℝ} (hd : d1 (ix2 r' l) = (y : EReal)) (ha : a1 (ix2 r' l) = (b : EReal)) (hp : x1 (ix2 r' l) = (p : EReal)) :
    k0_pay12 (F := Ideal) (k0_pay6 a0 a1) (k0_pay8 i d0 d1) (k0_pay9 x0 x1) (k0_pay10 x0 x1) (ix2 r l)
      = ((if e then 0 else y * b * (sg p + p * (sg p * (1 - sg p))) : ℝ) : EReal) := by
  obtain ⟨r, hr⟩ := r
  obtain rfl : r = 512 + r'.val := h
  pointwise [k0_pay12, k0_pay6, k0_pay8, k0_pay10, k0_pay9, k0_pay7]
  refine (congrArg (fun e' : BitVec 1 => (Scalar.select e' (0 : EReal) _ : EReal)) he).trans ?_
  by_cases h : e
  · rw [if_pos h, if_pos h]
    rfl
  · rw [if_neg h, if_neg h, hd, ha, hp]
    exact gate_at y b p

end

/-- The cotangent of the convolution, of a point's rows and of those after. -/
abbrev back (t : Fin cfg0.N) : FVec Ideal S520x1408 .f32 :=
  k0_pay12 (F := Ideal) (k0_pay6 (iblk m c 1 t) (iblk m c 2 t)) (k0_pay8 (grid0.coords t) (iblk m c 5 t) (iblk m c 6 t))
    (k0_pay9 (iblk m c 3 t) (iblk m c 4 t)) (k0_pay10 (iblk m c 3 t) (iblk m c 4 t))

section
variable (hx : m ((c : Thread nD τ).loc main_arg0) = fun i => ((A i : ℝ) : EReal)) (hw : m ((c : Thread nD τ).loc main_arg1) = fun i => ((W i : ℝ) : EReal))
  (hb : m ((c : Thread nD τ).loc main_arg2) = fun i => ((B i : ℝ) : EReal)) (hy : m ((c : Thread nD τ).loc main_arg3) = fun i => ((Y i : ℝ) : EReal))
include hx hw hb hy

theorem back_at (t : Fin cfg0.N) (q : Fin 520) (l : Fin 1408) (n : ℕ) (hn : q.val = n) (hq : n < 528) :
    back m c t (ix2 q l) = (from_ (cot A W B Y (lane t l)) (t.val % 32 * 512 + n) : EReal) := by
  by_cases h : q.val < 512
  · rw [back, own_at q ⟨q.val, h⟩ rfl (rd5 m c Y hy t _ l) (rd1 m c A hx t _ l) (rd3 m c A W B hx hw hb t _ l), from_, dif_pos (by omega)]
    subst hn
    rfl
  · have hlt := q.isLt
    rw [back, next_at q ⟨q.val - 512, by omega⟩ (by show q.val = 512 + (q.val - 512); omega) (t.val % 32 = 31) (edge t) (rd6 m c Y hy t _ l)
      (rd2 m c A hx t _ l) (rd4 m c A W B hx hw hb t _ l)]
    by_cases e : t.val % 32 = 31
    · rw [if_pos e, from_out _ _ (by omega)]
    · rw [if_neg e, from_, dif_pos (by omega)]
      have hr : next t ⟨q.val - 512, by omega⟩ = ⟨t.val % 32 * 512 + n, by omega⟩ := Fin.ext (by
        show min (32 * (t.val % 32) + 32) 1023 * 16 + (q.val - 512) = t.val % 32 * 512 + n
        omega)
      rw [hr]
      rfl

omit hx hw hb hy in
/-- Three products added. -/
theorem three {a b d e f g : ℝ} {a' b' d' e' f' g' : EReal} (ha : a' = a) (hb : b' = b) (hd : d' = d) (he : e' = e) (hf : f' = f) (hg : g' = g) :
    a' * b' + d' * e' + f' * g' = ((a * b + d * e + f * g : ℝ) : EReal) := by
  rw [ha, hb, hd, he, hf, hg]
  simp only [← EReal.coe_mul, ← EReal.coe_add]

theorem da_row (t : Fin cfg0.N) (r : Fin 512) (l : Fin 1408) :
    k0_pay16 (F := Ideal) (k0_pay6 (iblk m c 1 t) (iblk m c 2 t)) (k0_pay8 (grid0.coords t) (iblk m c 5 t) (iblk m c 6 t))
      (k0_pay9 (iblk m c 3 t) (iblk m c 4 t)) (k0_pay10 (iblk m c 3 t) (iblk m c 4 t))
      (View.ld (iblk m c 7 t) (Rect.unit ![2, 0] ![1, 1408] inb_S8x1408_S1x1408_2_0))
      (View.ld (iblk m c 7 t) (Rect.unit ![1, 0] ![1, 1408] inb_S8x1408_S1x1408_1_0))
      (View.ld (iblk m c 7 t) (Rect.unit ![0, 0] ![1, 1408] inb_S8x1408_S1x1408_0_0)) (ix2 r l) = da A W B Y (ix2 (at_ t r) (lane t l)) := by
  pointwise [k0_pay16, k0_pay13, k0_pay14, k0_pay15]
  have w2 := rd7 m c W hw t 2 l 2 rfl
  have w1 := rd7 m c W hw t 1 l 1 rfl
  have w0 := rd7 m c W hw t 0 l 0 rfl
  have b0 := back_at m c A W B Y hx hw hb hy t ⟨r.val, by omega⟩ l r.val rfl (by omega)
  have b1 := back_at m c A W B Y hx hw hb hy t ⟨(r.val + 520 - 519) % 520, by omega⟩ l (r.val + 1)
    (by show (r.val + 520 - 519) % 520 = r.val + 1; omega) (by omega)
  have b2 := back_at m c A W B Y hx hw hb hy t ⟨(r.val + 520 - 518) % 520, by omega⟩ l (r.val + 2)
    (by show (r.val + 520 - 518) % 520 = r.val + 2; omega) (by omega)
  refine (three w2 b0 w1 b1 w0 b2).trans ?_
  rfl

theorem db_row (t : Fin cfg0.N) (r : Fin 512) (l : Fin 1408) :
    k0_pay11 (F := Ideal) (k0_pay8 (grid0.coords t) (iblk m c 5 t) (iblk m c 6 t)) (k0_pay10 (iblk m c 3 t) (iblk m c 4 t)) (ix2 r l)
      = db A W B Y (ix2 (at_ t r) (lane t l)) := by
  pointwise [k0_pay11, k0_pay8, k0_pay10, k0_pay9, k0_pay7]
  rw [rd5 m c Y hy, rd3 m c A W B hx hw hb, tanh_at, ← EReal.coe_mul, ← EReal.coe_mul]
  rfl

theorem final8 : (dats m 0 c).arrAt 8 cfg0.N = da A W B Y := by
  refine (dats m 0 c).arrAt_eq_of_covers 8 _ (by decide +kernel) fun t hf y => ?_
  blk_simp
  obtain ⟨r, l, rfl⟩ : ∃ (r : Fin 512) (l : Fin 1408), y = ix2 r l := ⟨y 0, y 1, eq_ix2 y⟩
  rw [after0_8]
  by_cases h : t.val % 32 = 0
  all_goals
    first | rw [outsAt0_A m c t h] | rw [outsAt0_B m c t h]
    frame_out
    refine (da_row m c A W B Y hx hw hb hy t r l).trans ?_
    blk_ext [idx t]

theorem final9 : (dats m 0 c).arrAt 9 cfg0.N = db A W B Y := by
  refine (dats m 0 c).arrAt_eq_of_covers 9 _ (by decide +kernel) fun t hf y => ?_
  blk_simp
  obtain ⟨r, l, rfl⟩ : ∃ (r : Fin 512) (l : Fin 1408), y = ix2 r l := ⟨y 0, y 1, eq_ix2 y⟩
  rw [after0_9]
  by_cases h : t.val % 32 = 0
  all_goals
    first | rw [outsAt0_A m c t h] | rw [outsAt0_B m c t h]
    frame_out
    refine (db_row m c A W B Y hx hw hb hy t r l).trans ?_
    blk_ext [idx t]

/-- What a point adds to the gradients of the taps and of the bias. -/
def part (t : Fin cfg0.N) (j : S8x1408.Idx) : EReal := ((∑ r : Fin 512, tap A W B Y (j 0).val (lane t (j 1)) (at_ t r) : ℝ) : EReal)

omit hx hw hb hy in
theorem part_row (t : Fin cfg0.N) (r : Fin 8) (l : Fin 1408) (q : ℕ) (h : r.val = q) :
    part A W B Y t (ix2 r l) = ((∑ k : Fin 512, tap A W B Y q (lane t l) (at_ t k) : ℝ) : EReal) := by
  subst h
  rfl

theorem row0 (t : Fin cfg0.N) (o : FVec Ideal S1x1408 .f32) (l : Fin 1408) :
    k0_pay1 (F := Ideal) (k0_pay18 o) (k0_pay19 (k0_pay6 (iblk m c 1 t) (iblk m c 2 t)) (k0_pay8 (grid0.coords t) (iblk m c 5 t) (iblk m c 6 t))
      (k0_pay9 (iblk m c 3 t) (iblk m c 4 t)) (k0_pay10 (iblk m c 3 t) (iblk m c 4 t)) (iblk m c 0 t)) (ix2 0 l)
      = (o (ix2 0 l) : EReal) + part A W B Y t (ix2 0 l) := by
  pointwise [k0_pay1, k0_pay18, k0_pay19, k0_pay17, k0_pay15]
  rw [part_row A W B Y t 0 l 0 rfl, Common.coe_sum]
  refine congrArg ((o (ix2 0 l) : EReal) + ·) (Finset.sum_congr rfl fun k _ => ?_)
  rw [tap, if_pos rfl, EReal.coe_mul]
  refine congrArg₂ (fun a b : EReal => a * b) (back_at m c A W B Y hx hw hb hy t _ l (k.val + 2) ?_ (by omega)) (rd0 m c A hx t k l)
  show (k.val + 520 - 518) % 520 = k.val + 2
  omega

theorem row1 (t : Fin cfg0.N) (o : FVec Ideal S1x1408 .f32) (l : Fin 1408) :
    k0_pay2 (F := Ideal) (k0_pay14 (k0_pay6 (iblk m c 1 t) (iblk m c 2 t)) (k0_pay8 (grid0.coords t) (iblk m c 5 t) (iblk m c 6 t))
      (k0_pay9 (iblk m c 3 t) (iblk m c 4 t)) (k0_pay10 (iblk m c 3 t) (iblk m c 4 t))) (k0_pay17 (iblk m c 0 t)) o (ix2 0 l)
      = (o (ix2 0 l) : EReal) + part A W B Y t (ix2 1 l) := by
  pointwise [k0_pay2, k0_pay14, k0_pay17]
  rw [part_row A W B Y t 1 l 1 rfl, Common.coe_sum]
  refine congrArg ((o (ix2 0 l) : EReal) + ·) (Finset.sum_congr rfl fun k _ => ?_)
  rw [tap, if_neg (by norm_num), if_pos rfl, EReal.coe_mul]
  refine congrArg₂ (fun a b : EReal => a * b) (back_at m c A W B Y hx hw hb hy t _ l (k.val + 1) ?_ (by omega)) (rd0 m c A hx t k l)
  show (k.val + 520 - 519) % 520 = k.val + 1
  omega

theorem row2 (t : Fin cfg0.N) (o : FVec Ideal S1x1408 .f32) (l : Fin 1408) :
    k0_pay3 (F := Ideal) (k0_pay13 (k0_pay6 (iblk m c 1 t) (iblk m c 2 t)) (k0_pay8 (grid0.coords t) (iblk m c 5 t) (iblk m c 6 t))
      (k0_pay9 (iblk m c 3 t) (iblk m c 4 t)) (k0_pay10 (iblk m c 3 t) (iblk m c 4 t))) (k0_pay17 (iblk m c 0 t)) o (ix2 0 l)
      = (o (ix2 0 l) : EReal) + part A W B Y t (ix2 2 l) := by
  pointwise [k0_pay3, k0_pay13, k0_pay17]
  rw [part_row A W B Y t 2 l 2 rfl, Common.coe_sum]
  refine congrArg ((o (ix2 0 l) : EReal) + ·) (Finset.sum_congr rfl fun k _ => ?_)
  rw [tap, if_neg (by norm_num), if_neg (by norm_num), if_pos rfl, EReal.coe_mul]
  exact congrArg₂ (fun a b : EReal => a * b) (back_at m c A W B Y hx hw hb hy t _ l k.val rfl (by omega)) (rd0 m c A hx t k l)

theorem row3 (t : Fin cfg0.N) (o : FVec Ideal S1x1408 .f32) (l : Fin 1408) :
    k0_pay4 (F := Ideal) (k0_pay13 (k0_pay6 (iblk m c 1 t) (iblk m c 2 t)) (k0_pay8 (grid0.coords t) (iblk m c 5 t) (iblk m c 6 t))
      (k0_pay9 (iblk m c 3 t) (iblk m c 4 t)) (k0_pay10 (iblk m c 3 t) (iblk m c 4 t))) o (ix2 0 l)
      = (o (ix2 0 l) : EReal) + part A W B Y t (ix2 3 l) := by
  pointwise [k0_pay4, k0_pay13]
  rw [part_row A W B Y t 3 l 3 rfl, Common.coe_sum]
  refine congrArg ((o (ix2 0 l) : EReal) + ·) (Finset.sum_congr rfl fun k _ => ?_)
  rw [tap, if_neg (by norm_num), if_neg (by norm_num), if_neg (by norm_num), if_pos rfl]
  exact back_at m c A W B Y hx hw hb hy t _ l k.val rfl (by omega)

omit hx hw hb hy in
theorem part_out (t : Fin cfg0.N) (r : Fin 8) (l : Fin 1408) (h : 4 ≤ r.val) : part A W B Y t (ix2 r l) = 0 := by
  rw [part_row A W B Y t r l _ rfl, Finset.sum_eq_zero fun k _ => by
    rw [tap, if_neg (by omega), if_neg (by omega), if_neg (by omega), if_neg (by omega)], EReal.coe_zero]

theorem stepA (t : Fin cfg0.N) (h : t.val % 32 = 0) (j : S8x1408.Idx) : (outsAt0 m c t.val t.isLt).2.2 j = (0 : EReal) + part A W B Y t j := by
  rw [outsAt0_A m c t h]; frame_out
  obtain ⟨r, l, rfl⟩ : ∃ (r : Fin 8) (l : Fin 1408), j = ix2 r l := ⟨j 0, j 1, eq_ix2 j⟩
  have h0 : r = 0 ∨ r = 1 ∨ r = 2 ∨ r = 3 ∨ 4 ≤ r.val := by omega
  rcases h0 with rfl | rfl | rfl | rfl | h
  · rw [Stores.canon_other _ _ _ _ _ (by decide), Stores.canon_other _ _ _ _ _ (by decide), Stores.canon_other _ _ _ _ _ (by decide),
      Stores.canon_row _ _ _ _ 0 l rfl, row0 m c A W B Y hx hw hb hy, View.readCov_fill _ _ _ _ _ (by decide)]
    refine congrArg (· + _) ?_
    pointwise [k0_pay5]
  · rw [Stores.canon_other _ _ _ _ _ (by decide), Stores.canon_other _ _ _ _ _ (by decide),
      Stores.canon_row _ _ _ _ 0 l rfl, row1 m c A W B Y hx hw hb hy, View.readCov_skip _ _ _ _ _ (by decide), View.readCov_fill _ _ _ _ _ (by decide)]
    refine congrArg (· + _) ?_
    pointwise [k0_pay5]
  · rw [Stores.canon_other _ _ _ _ _ (by decide), Stores.canon_row _ _ _ _ 0 l rfl, row2 m c A W B Y hx hw hb hy,
      View.readCov_skip _ _ _ _ _ (by decide), View.readCov_skip _ _ _ _ _ (by decide), View.readCov_fill _ _ _ _ _ (by decide)]
    refine congrArg (· + _) ?_
    pointwise [k0_pay5]
  · rw [Stores.canon_row _ _ _ _ 0 l rfl, row3 m c A W B Y hx hw hb hy, View.readCov_skip _ _ _ _ _ (by decide),
      View.readCov_skip _ _ _ _ _ (by decide), View.readCov_skip _ _ _ _ _ (by decide), View.readCov_fill _ _ _ _ _ (by decide)]
    refine congrArg (· + _) ?_
    pointwise [k0_pay5]
  · rw [Stores.canon_other _ _ _ _ _ (by omega), Stores.canon_other _ _ _ _ _ (by omega), Stores.canon_other _ _ _ _ _ (by omega),
      Stores.canon_other _ _ _ _ _ (by omega), View.canon_cons_unit_lit _ _ _ (by decide), part_out A W B Y t r l h, add_zero]
    pointwise [k0_pay5]

theorem stepB (t : Fin cfg0.N) (h : ¬ t.val % 32 = 0) (j : S8x1408.Idx) :
    (outsAt0 m c t.val t.isLt).2.2 j = ((outsAt0 m c (t.val - 1) (by have := t.isLt; omega)).2.2 j : EReal) + part A W B Y t j := by
  rw [outsAt0_B m c t h]; frame_out
  obtain ⟨r, l, rfl⟩ : ∃ (r : Fin 8) (l : Fin 1408), j = ix2 r l := ⟨j 0, j 1, eq_ix2 j⟩
  have h0 : r = 0 ∨ r = 1 ∨ r = 2 ∨ r = 3 ∨ 4 ≤ r.val := by omega
  rcases h0 with rfl | rfl | rfl | rfl | h
  · rw [Stores.read_other _ _ _ _ _ _ _ (by decide), Stores.read_other _ _ _ _ _ _ _ (by decide), Stores.read_other _ _ _ _ _ _ _ (by decide),
      Stores.read_row _ _ _ _ _ _ 0 l rfl, row0 m c A W B Y hx hw hb hy, Stores.ld_row _ _ 0 0 l rfl]
  · rw [Stores.read_other _ _ _ _ _ _ _ (by decide), Stores.read_other _ _ _ _ _ _ _ (by decide),
      Stores.read_row _ _ _ _ _ _ 0 l rfl, row1 m c A W B Y hx hw hb hy, Stores.ld_row _ _ 1 0 l rfl]
  · rw [Stores.read_other _ _ _ _ _ _ _ (by decide), Stores.read_row _ _ _ _ _ _ 0 l rfl, row2 m c A W B Y hx hw hb hy, Stores.ld_row _ _ 2 0 l rfl]
  · rw [Stores.read_row _ _ _ _ _ _ 0 l rfl, row3 m c A W B Y hx hw hb hy, Stores.ld_row _ _ 3 0 l rfl]
  · rw [Stores.read_other _ _ _ _ _ _ _ (by omega), Stores.read_other _ _ _ _ _ _ _ (by omega), Stores.read_other _ _ _ _ _ _ _ (by omega),
      Stores.read_other _ _ _ _ _ _ _ (by omega), View.writes_nil, Stores.read_unread, part_out A W B Y t r l h, add_zero]

omit hx hw hb hy in
theorem parts_sum (t : Fin cfg0.N) (h : ∀ s : Fin 32, 32 * (t.val / 32) + s.val < cfg0.N) (r : Fin 8) (l : Fin 1408) :
    ∑ s : Fin 32, part A W B Y ⟨32 * (t.val / 32) + s.val, h s⟩ (ix2 r l) = dw A W B Y (ix2 r (lane t l)) := by
  have hN := points t
  have hb : ∀ (s : Fin 32) (k : Fin 512), s.val * 512 + k.val < 16384 := fun s k => by omega
  have hp : ∀ s : Fin 32, part A W B Y ⟨32 * (t.val / 32) + s.val, h s⟩ (ix2 r l)
      = ((∑ k : Fin 512, tap A W B Y r.val (lane t l) ⟨s.val * 512 + k.val, hb s k⟩ : ℝ) : EReal) := fun s => by
    rw [part_row A W B Y _ r l _ rfl]
    refine congrArg (fun v : ℝ => (v : EReal)) (Finset.sum_congr rfl fun k _ => ?_)
    have e1 : lane ⟨32 * (t.val / 32) + s.val, h s⟩ l = lane t l := Fin.ext (by
      show (32 * (t.val / 32) + s.val) / 32 * 1408 + l.val = t.val / 32 * 1408 + l.val; omega)
    have e2 : at_ ⟨32 * (t.val / 32) + s.val, h s⟩ k = ⟨s.val * 512 + k.val, hb s k⟩ := Fin.ext (by
      show (32 * (t.val / 32) + s.val) % 32 * 512 + k.val = s.val * 512 + k.val; omega)
    rw [e1, e2]
  rw [Finset.sum_congr rfl fun s _ => hp s, ← Common.coe_sum, Norm.rows_sum 32 512 (by norm_num) (fun R => tap A W B Y r.val (lane t l) R) hb]
  rfl

theorem final10 : (dats m 0 c).arrAt 10 cfg0.N = dw A W B Y := by
  refine (dats m 0 c).arrAt_eq_of_covers 10 _ (by decide +kernel) fun t hf y => ?_
  blk_simp
  rw [after0_10, Pipeline.eq_sum_fin_of_reset_step_apply_of_flush (f := fun n h => (outsAt0 m c n h).2.2) 32 (fun _ => (0 : EReal)) (part A W B Y)
        (fun t h j => stepA m c A W B Y hx hw hb hy t h j) (fun t h j => stepB m c A W B Y hx hw hb hy t h j) t ((flush0_10 t).mp hf) _]
  obtain ⟨r, l, rfl⟩ : ∃ (r : Fin 8) (l : Fin 1408), y = ix2 r l := ⟨y 0, y 1, eq_ix2 y⟩
  rw [zero_add, show (win0_10.blk t).view.emb (ix2 r l) = ix2 r (lane t l) by blk_ext [idx t]]
  exact parts_sum A W B Y t _ r l

end

end Cert.ConvIdeal.RefValue

end
-- ==== Proof.AsmValue.lean ====
/-
  The gradient of the fused projection, assembled in place: the kernel copies nine blocks of columns into one array, adding the keys'
  and values' two halves; the reference joins the same arrays.
-/
module

public import proofs.«01_k».proof.Proof.Common
public import proofs.«01_k».proof.Proof.Stores
public import proofs.«01_k».proof.Proof.Gen.AsmRefIdeal.Run
public import proofs.«01_k».proof.Proof.Gen.AsmIdeal.Value

@[expose] public section

set_option maxRecDepth 16384

noncomputable section

namespace Cert.AsmRefIdeal.RefValue

open Cert.AsmRefIdeal Cert.AsmRefIdeal.Gen Cert.AsmRefIdeal.Value Idealize.ShloMosaic Idealize.ShloMosaic.TcCoe

variable (a b c d q : S16384x512.Idx → EReal) (k k1 v v1 : S16384x128.Idx → EReal)

/-- The keys' or values' gradient of a row: its own part and, where a later block looked back at it, that block's part. -/
def both (own back : S16384x128.Idx → EReal) (r : Fin 16384) (l : Fin 128) : EReal :=
  own (ix2 r l) + if h : r.val + 128 < 16384 then back (ix2 ⟨r.val + 128, h⟩ l) else 0

/-- The gradients side by side. -/
def joined : FVec Ideal S16384x2816 .bf16 := fun i =>
  if h : (i 1).val < 512 then a (ix2 (i 0) ⟨(i 1).val, h⟩)
  else if h : (i 1).val < 1024 then b (ix2 (i 0) ⟨(i 1).val - 512, by omega⟩)
  else if h : (i 1).val < 1536 then c (ix2 (i 0) ⟨(i 1).val - 1024, by omega⟩)
  else if h : (i 1).val < 2048 then d (ix2 (i 0) ⟨(i 1).val - 1536, by omega⟩)
  else if h : (i 1).val < 2560 then q (ix2 (i 0) ⟨(i 1).val - 2048, by omega⟩)
  else if h : (i 1).val < 2688 then both k k1 (i 0) ⟨(i 1).val - 2560, by omega⟩
  else both v v1 (i 0) ⟨(i 1).val - 2688, by have : (i 1).val < 2816 := (i 1).isLt; omega⟩

theorem col_eq (x : S16384x512.Idx → EReal) (r : Fin 16384) (j j' : Fin 512) (e : j.val = j'.val) : x (ix2 r j) = x (ix2 r j') := by rw [Fin.ext e]

theorem both_eq (x y : S16384x128.Idx → EReal) (r : Fin 16384) (j j' : Fin 128) (e : j.val = j'.val) :
    (x (ix2 r j) + if h : r.val / 128 < 127 ∧ r.val % 128 < 128 ∧ j.val < 128 then y (ix2 ⟨(1 + r.val / 128) * 128 + r.val % 128, by omega⟩ j) else 0)
      = both x y r j' := by
  obtain rfl : j = j' := Fin.ext e
  refine congrArg ((x (ix2 r j) : EReal) + ·) ?_
  by_cases h : r.val + 128 < 16384
  · rw [dif_pos h, dif_pos ⟨by omega, by omega, j.isLt⟩]
    exact congrArg (fun R => y (ix2 R j)) (Fin.ext (by show (1 + r.val / 128) * 128 + r.val % 128 = r.val + 128; omega))
  · rw [dif_neg h, dif_neg (by omega)]

theorem beside (r : Fin 16384) (l : Fin 2816) :
    (if h : l.val < 512 then a (ix2 r ⟨l.val, h⟩)
    else if h : l.val - 512 < 512 then b (ix2 r ⟨l.val - 512, h⟩)
    else if h : l.val - 512 - 512 < 512 then c (ix2 r ⟨l.val - 512 - 512, h⟩)
    else if h : l.val - 512 - 512 - 512 < 512 then d (ix2 r ⟨l.val - 512 - 512 - 512, h⟩)
    else if h : l.val - 512 - 512 - 512 - 512 < 512 then q (ix2 r ⟨l.val - 512 - 512 - 512 - 512, h⟩)
    else if h : l.val - 512 - 512 - 512 - 512 - 512 < 128 then
      k (ix2 r ⟨l.val - 512 - 512 - 512 - 512 - 512, h⟩) + if h : r.val / 128 < 127 ∧ r.val % 128 < 128 ∧ l.val - 512 - 512 - 512 - 512 - 512 < 128 then
        k1 (ix2 ⟨(1 + r.val / 128) * 128 + r.val % 128, by omega⟩ ⟨l.val - 512 - 512 - 512 - 512 - 512, by omega⟩) else 0
    else
      v (ix2 r ⟨l.val - 512 - 512 - 512 - 512 - 512 - 128, by omega⟩)
        + if h : r.val / 128 < 127 ∧ r.val % 128 < 128 ∧ l.val - 512 - 512 - 512 - 512 - 512 - 128 < 128 then
          v1 (ix2 ⟨(1 + r.val / 128) * 128 + r.val % 128, by omega⟩ ⟨l.val - 512 - 512 - 512 - 512 - 512 - 128, by omega⟩) else 0)
      = joined a b c d q k k1 v v1 (ix2 r l) := by
  show _ = (if h : l.val < 512 then _ else if h : l.val < 1024 then _ else if h : l.val < 1536 then _ else if h : l.val < 2048 then _
    else if h : l.val < 2560 then _ else if h : l.val < 2688 then _ else _)
  by_cases h1 : l.val < 512
  · rw [dif_pos h1, dif_pos h1]
    rfl
  rw [dif_neg h1, dif_neg h1]
  by_cases h2 : l.val < 1024
  · rw [dif_pos h2, dif_pos (by omega)]
    rfl
  rw [dif_neg h2, dif_neg (by omega)]
  by_cases h3 : l.val < 1536
  · rw [dif_pos h3, dif_pos (by omega)]
    exact col_eq _ _ _ _ (by show l.val - 512 - 512 = l.val - 1024; omega)
  rw [dif_neg h3, dif_neg (by omega)]
  by_cases h4 : l.val < 2048
  · rw [dif_pos h4, dif_pos (by omega)]
    exact col_eq _ _ _ _ (by show l.val - 512 - 512 - 512 = l.val - 1536; omega)
  rw [dif_neg h4, dif_neg (by omega)]
  by_cases h5 : l.val < 2560
  · rw [dif_pos h5, dif_pos (by omega)]
    exact col_eq _ _ _ _ (by show l.val - 512 - 512 - 512 - 512 = l.val - 2048; omega)
  rw [dif_neg h5, dif_neg (by omega)]
  by_cases h6 : l.val < 2688
  · rw [dif_pos h6, dif_pos (by omega)]
    exact both_eq _ _ _ _ _ (by show l.val - 512 - 512 - 512 - 512 - 512 = l.val - 2560; omega)
  · rw [dif_neg h6, dif_neg (by omega)]
    exact both_eq _ _ _ _ _ (by show l.val - 512 - 512 - 512 - 512 - 512 - 128 = l.val - 2688; omega)

section
variable {a' b' c' d' q' : FVec Ideal S16384x512 .f32} {k' k1' v' v1' : FVec Ideal S16384x128 .f32}
variable (ha : a' = a) (hb : b' = b) (hc : c' = c) (hd : d' = d) (hq : q' = q) (hk : k' = k) (hk1 : k1' = k1) (hv : v' = v) (hv1 : v1' = v1)
include ha hb hc hd hq hk hk1 hv hv1

theorem joined_at : (truncf .bf16 ((concatenate S16384x2816 1 [⟨S16384x512, a'⟩, ⟨S16384x512, b'⟩, ⟨S16384x512, c'⟩, ⟨S16384x512, d'⟩, ⟨S16384x512, q'⟩, ⟨S16384x128, ((shapeCast _ (addf (shapeCast _ k' shapeCasts_S16384x128_S128x128x128) (pad S128x128x128 ![0, 0, 0] ![1, 0, 0] ![0, 0, 0] (extractStridedSlice S127x128x128 ![1, 0, 0] (shapeCast _ k1' shapeCasts_S16384x128_S128x128x128) slices_S128x128x128_S127x128x128_1_0_0) (constant S_ .f32 0x00000000#32) pads_S127x128x128_S128x128x128_010_000_000 h_S_)) shapeCasts_S128x128x128_S16384x128) : (⟨S16384x128, .f32⟩ : BufTy).Contents (Elt Ideal))⟩, ⟨S16384x128, ((shapeCast _ (addf (shapeCast _ v' shapeCasts_S16384x128_S128x128x128) (pad S128x128x128 ![0, 0, 0] ![1, 0, 0] ![0, 0, 0] (extractStridedSlice S127x128x128 ![1, 0, 0] (shapeCast _ v1' shapeCasts_S16384x128_S128x128x128) slices_S128x128x128_S127x128x128_1_0_0) (constant S_ .f32 0x00000000#32) pads_S127x128x128_S128x128x128_010_000_000 h_S_)) shapeCasts_S128x128x128_S16384x128) : (⟨S16384x128, .f32⟩ : BufTy).Contents (Elt Ideal))⟩] concatenates_S16384x512_S16384x512_S16384x512_S16384x512_S16384x512_S16384x128_S16384x128_S16384x2816_d1 : (⟨S16384x2816, .f32⟩ : BufTy).Contents (Elt Ideal))) bitsLt_bf16_f32) = joined a b c d q k k1 v v1 := by
  subst ha hb hc hd hq hk hk1 hv hv1
  funext i
  obtain ⟨r, l, rfl⟩ : ∃ (r : Fin 16384) (l : Fin 2816), i = ix2 r l := ⟨i 0, i 1, eq_ix2 i⟩
  pointwise []
  exact beside _ _ _ _ _ _ _ _ _ r l
end

end Cert.AsmRefIdeal.RefValue

namespace Cert.AsmIdeal.RefValue

open Cert.AsmIdeal Cert.AsmIdeal.Gen Idealize.ShloMosaic Idealize.ShloMosaic.TcCoe Idealize.SL.Sem
open Idealize.ShloMosaic.Pipeline (Dat)
open Cert.AsmRefIdeal.RefValue (both joined)

variable (m : (ℓ : Loc nD τ sig) → Buf (Elt Ideal) ℓ) (c : Dev nD)

theorem idx (t : Fin cfg0.N) : win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![min (8 * t.val + 8) 127, 0]
    ∧ win0_8.index t = ![t.val, 0] ∧ win0_9.index t = ![t.val, 0] ∧ win0_10.index t = ![min (8 * t.val + 8) 127, 0] ∧ win0_11.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![min (8 * t.val + 8) 127, 0]
    ∧ win0_8.index t = ![t.val, 0] ∧ win0_9.index t = ![t.val, 0] ∧ win0_10.index t = ![min (8 * t.val + 8) 127, 0] ∧ win0_11.index t = ![t.val, 0]) t

theorem points (t : Fin cfg0.N) : t.val < 16 := t.isLt

/-- The last block of rows has no rows after it. -/
theorem edge (t : Fin cfg0.N) : Scalar.cmpi .eq (BitVec.ofNat 32 (grid0.coords t 0).val) 15#32 = if t.val = 15 then 1#1 else 0#1 :=
  (by decide +kernel : ∀ t : Fin grid0.N, Scalar.cmpi .eq (BitVec.ofNat 32 (grid0.coords t 0).val) 15#32 = if t.val = 15 then 1#1 else 0#1) t

/-- The array's row of a block's, and the row of one of the rows after. -/
abbrev at_ (t : Fin cfg0.N) (r : Fin 1024) : Fin 16384 := ⟨t.val * 1024 + r.val, by have := points t; omega⟩
abbrev next (t : Fin cfg0.N) (r : Fin 128) : Fin 16384 := ⟨min (8 * t.val + 8) 127 * 128 + r.val, by omega⟩

variable (A0 A1 A2 A3 A4 : S16384x512.Idx → EReal) (A5 A6 A7 A8 : S16384x128.Idx → EReal)
variable (h0 : m ((c : Thread nD τ).loc main_arg0) = A0) (h1 : m ((c : Thread nD τ).loc main_arg1) = A1) (h2 : m ((c : Thread nD τ).loc main_arg2) = A2)
  (h3 : m ((c : Thread nD τ).loc main_arg3) = A3) (h4 : m ((c : Thread nD τ).loc main_arg4) = A4) (h5 : m ((c : Thread nD τ).loc main_arg5) = A5)
  (h6 : m ((c : Thread nD τ).loc main_arg6) = A6) (h7 : m ((c : Thread nD τ).loc main_arg7) = A7) (h8 : m ((c : Thread nD τ).loc main_arg8) = A8)
include h0 in
theorem wide0 (t : Fin cfg0.N) (r : Fin 1024) (l : Fin 512) : (k0_pay4 (F := Ideal) (iblk m c 0 t) (ix2 r l) : EReal) = A0 (ix2 (at_ t r) l) := by
  have hv : ∀ i, V m c main_v0 i = (A0 i : EReal) := fun i => by
    simp only [V, hostOps0, List.flatten_cons, List.flatten_nil, List.append_nil, List.cons_append, List.nil_append]
    entry_read
    pointwise [h0]
  pointwise [k0_pay4]
  blk_point [iblk, hv, idx t]

include h1 in
theorem wide1 (t : Fin cfg0.N) (r : Fin 1024) (l : Fin 512) : (k0_pay5 (F := Ideal) (iblk m c 1 t) (ix2 r l) : EReal) = A1 (ix2 (at_ t r) l) := by
  have hv : ∀ i, V m c main_v1 i = (A1 i : EReal) := fun i => by
    simp only [V, hostOps0, List.flatten_cons, List.flatten_nil, List.append_nil, List.cons_append, List.nil_append]
    entry_read
    pointwise [h1]
  pointwise [k0_pay5]
  blk_point [iblk, hv, idx t]

include h2 in
theorem wide2 (t : Fin cfg0.N) (r : Fin 1024) (l : Fin 512) : (k0_pay6 (F := Ideal) (iblk m c 2 t) (ix2 r l) : EReal) = A2 (ix2 (at_ t r) l) := by
  have hv : ∀ i, V m c main_v2 i = (A2 i : EReal) := fun i => by
    simp only [V, hostOps0, List.flatten_cons, List.flatten_nil, List.append_nil, List.cons_append, List.nil_append]
    entry_read
    pointwise [h2]
  pointwise [k0_pay6]
  blk_point [iblk, hv, idx t]

include h3 in
theorem wide3 (t : Fin cfg0.N) (r : Fin 1024) (l : Fin 512) : (k0_pay7 (F := Ideal) (iblk m c 3 t) (ix2 r l) : EReal) = A3 (ix2 (at_ t r) l) := by
  have hv : ∀ i, V m c main_v3 i = (A3 i : EReal) := fun i => by
    simp only [V, hostOps0, List.flatten_cons, List.flatten_nil, List.append_nil, List.cons_append, List.nil_append]
    entry_read
    pointwise [h3]
  pointwise [k0_pay7]
  blk_point [iblk, hv, idx t]

include h4 in
theorem wide4 (t : Fin cfg0.N) (r : Fin 1024) (l : Fin 512) : (k0_pay8 (F := Ideal) (iblk m c 4 t) (ix2 r l) : EReal) = A4 (ix2 (at_ t r) l) := by
  have hv : ∀ i, V m c main_v4 i = (A4 i : EReal) := fun i => by
    simp only [V, hostOps0, List.flatten_cons, List.flatten_nil, List.append_nil, List.cons_append, List.nil_append]
    entry_read
    pointwise [h4]
  pointwise [k0_pay8]
  blk_point [iblk, hv, idx t]

include h5 in
theorem own5 (t : Fin cfg0.N) (r : Fin 1024) (l : Fin 128) : iblk m c 5 t (ix2 r l) = (A5 (ix2 (at_ t r) l) : EReal) := by
  subst h5
  blk_point [iblk, V_main_arg5, idx t]

include h6 in
theorem back5 (t : Fin cfg0.N) (r : Fin 1024) (l : Fin 128) : iblk m c 6 t (ix2 r l) = (A6 (ix2 (at_ t r) l) : EReal) := by
  subst h6
  blk_point [iblk, V_main_arg6, idx t]

include h6 in
theorem after5 (t : Fin cfg0.N) (r : Fin 128) (l : Fin 128) : iblk m c 7 t (ix2 r l) = (A6 (ix2 (next t r) l) : EReal) := by
  subst h6
  blk_point [iblk, V_main_arg6, idx t]

include h5 h6 in
theorem inner5 (t : Fin cfg0.N) (r : Fin 1024) (hr : r.val < 896) (l : Fin 128) :
    k0_pay9 (F := Ideal) (View.ld (iblk m c 5 t) (Rect.unit ![0, 0] ![896, 128] inb_S1024x128_S896x128_0_0))
      (View.ld (iblk m c 6 t) (Rect.unit ![128, 0] ![896, 128] inb_S1024x128_S896x128_128_0)) (ix2 ⟨r.val, hr⟩ l) = both A5 A6 (at_ t r) l := by
  have ht := points t
  pointwise [k0_pay9]
  rw [both, dif_pos (show t.val * 1024 + r.val + 128 < 16384 by omega)]
  refine congrArg₂ (fun x y : EReal => x + y) (own5 m c A5 h5 t r l) ((back5 m c A6 h6 t ⟨128 + r.val, by omega⟩ l).trans ?_)
  exact congrArg (fun R => A6 (ix2 R l)) (Fin.ext (by show t.val * 1024 + (128 + r.val) = t.val * 1024 + r.val + 128; omega))

include h5 h6 in
theorem last5 (t : Fin cfg0.N) (r : Fin 1024) (hr : ¬ r.val < 896) (l : Fin 128) :
    k0_pay1 (F := Ideal) (Scalar.cmpi .eq (BitVec.ofNat 32 (grid0.coords t 0).val) 15#32) (iblk m c 7 t) k0_pay10
      (View.ld (iblk m c 5 t) (Rect.unit ![896, 0] ![128, 128] inb_S1024x128_S128x128_896_0)) (ix2 ⟨r.val - 896, by omega⟩ l) = both A5 A6 (at_ t r) l := by
  have ht := points t
  have hlt := r.isLt
  rw [edge t]
  have ho : iblk m c 5 t (ix2 ⟨896 + (r.val - 896), by omega⟩ l) = (A5 (ix2 (at_ t r) l) : EReal) := (own5 m c A5 h5 t _ l).trans
    (congrArg (fun R => A5 (ix2 R l)) (Fin.ext (by show t.val * 1024 + (896 + (r.val - 896)) = t.val * 1024 + r.val; omega)))
  by_cases e : t.val = 15
  · rw [if_pos e, both, dif_neg (show ¬ t.val * 1024 + r.val + 128 < 16384 by omega)]
    pointwise [k0_pay1, k0_pay10, Scalar.select]
    exact (congrArg₂ (fun x y : EReal => x + y) ho rfl).trans (add_zero _)
  · rw [if_neg e, both, dif_pos (show t.val * 1024 + r.val + 128 < 16384 by omega)]
    pointwise [k0_pay1, k0_pay10, Scalar.select]
    rw [if_neg (by decide)]
    refine congrArg₂ (fun x y : EReal => x + y) ho ((after5 m c A6 h6 t ⟨r.val - 896, by omega⟩ l).trans ?_)
    exact congrArg (fun R => A6 (ix2 R l)) (Fin.ext (by show min (8 * t.val + 8) 127 * 128 + (r.val - 896) = t.val * 1024 + r.val + 128; omega))

include h7 in
theorem own8 (t : Fin cfg0.N) (r : Fin 1024) (l : Fin 128) : iblk m c 8 t (ix2 r l) = (A7 (ix2 (at_ t r) l) : EReal) := by
  subst h7
  blk_point [iblk, V_main_arg7, idx t]

include h8 in
theorem back8 (t : Fin cfg0.N) (r : Fin 1024) (l : Fin 128) : iblk m c 9 t (ix2 r l) = (A8 (ix2 (at_ t r) l) : EReal) := by
  subst h8
  blk_point [iblk, V_main_arg8, idx t]

include h8 in
theorem after8 (t : Fin cfg0.N) (r : Fin 128) (l : Fin 128) : iblk m c 10 t (ix2 r l) = (A8 (ix2 (next t r) l) : EReal) := by
  subst h8
  blk_point [iblk, V_main_arg8, idx t]

include h7 h8 in
theorem inner8 (t : Fin cfg0.N) (r : Fin 1024) (hr : r.val < 896) (l : Fin 128) :
    k0_pay2 (F := Ideal) (View.ld (iblk m c 8 t) (Rect.unit ![0, 0] ![896, 128] inb_S1024x128_S896x128_0_0))
      (View.ld (iblk m c 9 t) (Rect.unit ![128, 0] ![896, 128] inb_S1024x128_S896x128_128_0)) (ix2 ⟨r.val, hr⟩ l) = both A7 A8 (at_ t r) l := by
  have ht := points t
  pointwise [k0_pay2]
  rw [both, dif_pos (show t.val * 1024 + r.val + 128 < 16384 by omega)]
  refine congrArg₂ (fun x y : EReal => x + y) (own8 m c A7 h7 t r l) ((back8 m c A8 h8 t ⟨128 + r.val, by omega⟩ l).trans ?_)
  exact congrArg (fun R => A8 (ix2 R l)) (Fin.ext (by show t.val * 1024 + (128 + r.val) = t.val * 1024 + r.val + 128; omega))

include h7 h8 in
theorem last8 (t : Fin cfg0.N) (r : Fin 1024) (hr : ¬ r.val < 896) (l : Fin 128) :
    k0_pay3 (F := Ideal) (Scalar.cmpi .eq (BitVec.ofNat 32 (grid0.coords t 0).val) 15#32) (iblk m c 10 t)
      (View.ld (iblk m c 8 t) (Rect.unit ![896, 0] ![128, 128] inb_S1024x128_S128x128_896_0)) (ix2 ⟨r.val - 896, by omega⟩ l) = both A7 A8 (at_ t r) l := by
  have ht := points t
  have hlt := r.isLt
  rw [edge t]
  have ho : iblk m c 8 t (ix2 ⟨896 + (r.val - 896), by omega⟩ l) = (A7 (ix2 (at_ t r) l) : EReal) := (own8 m c A7 h7 t _ l).trans
    (congrArg (fun R => A7 (ix2 R l)) (Fin.ext (by show t.val * 1024 + (896 + (r.val - 896)) = t.val * 1024 + r.val; omega)))
  by_cases e : t.val = 15
  · rw [if_pos e, both, dif_neg (show ¬ t.val * 1024 + r.val + 128 < 16384 by omega)]
    pointwise [k0_pay3, k0_pay10, Scalar.select]
    exact (congrArg₂ (fun x y : EReal => x + y) ho rfl).trans (add_zero _)
  · rw [if_neg e, both, dif_pos (show t.val * 1024 + r.val + 128 < 16384 by omega)]
    pointwise [k0_pay3, k0_pay10, Scalar.select]
    rw [if_neg (by decide)]
    refine congrArg₂ (fun x y : EReal => x + y) ho ((after8 m c A8 h8 t ⟨r.val - 896, by omega⟩ l).trans ?_)
    exact congrArg (fun R => A8 (ix2 R l)) (Fin.ext (by show min (8 * t.val + 8) 127 * 128 + (r.val - 896) = t.val * 1024 + r.val + 128; omega))

include h0 h1 h2 h3 h4 h5 h6 h7 h8

theorem final : (dats m 0 c).arrAt 11 cfg0.N = joined A0 A1 A2 A3 A4 A5 A6 A7 A8 := by
  refine (dats m 0 c).arrAt_eq_of_covers 11 _ (by decide +kernel) fun t hf y => ?_
  blk_simp
  obtain ⟨r, l, rfl⟩ : ∃ (r : Fin 1024) (l : Fin 2816), y = ix2 r l := ⟨y 0, y 1, eq_ix2 y⟩
  rw [show (win0_11.blk t).view.emb (ix2 r l) = ix2 (at_ t r) l by blk_ext [idx t]]
  rw [after0_11, outsAt0]
  frame_out
  have ht := points t
  show _ = (if h : l.val < 512 then _ else if h : l.val < 1024 then _ else if h : l.val < 1536 then _ else if h : l.val < 2048 then _
    else if h : l.val < 2560 then _ else if h : l.val < 2688 then _ else _)
  by_cases c1 : l.val < 512
  · rw [dif_pos c1, Stores.canon_beside _ _ _ _ _ (by omega), Stores.canon_beside _ _ _ _ _ (by omega), Stores.canon_beside _ _ _ _ _ (by omega),
      Stores.canon_beside _ _ _ _ _ (by omega), Stores.canon_beside _ _ _ _ _ (by omega), Stores.canon_beside _ _ _ _ _ (by omega),
      Stores.canon_beside _ _ _ _ _ (by omega), Stores.canon_beside _ _ _ _ _ (by omega), Stores.canon_block _ _ _ _ _ r ⟨l.val, c1⟩ (by omega) (by show l.val = 0 + l.val; omega)]
    exact wide0 m c A0 h0 t r _
  rw [dif_neg c1]
  by_cases c2 : l.val < 1024
  · rw [dif_pos c2, Stores.canon_beside _ _ _ _ _ (by omega), Stores.canon_beside _ _ _ _ _ (by omega), Stores.canon_beside _ _ _ _ _ (by omega),
      Stores.canon_beside _ _ _ _ _ (by omega), Stores.canon_beside _ _ _ _ _ (by omega), Stores.canon_beside _ _ _ _ _ (by omega),
      Stores.canon_beside _ _ _ _ _ (by omega), Stores.canon_block _ _ _ _ _ r ⟨l.val - 512, by omega⟩ (by omega) (by show l.val = 512 + (l.val - 512); omega)]
    exact wide1 m c A1 h1 t r _
  rw [dif_neg c2]
  by_cases c3 : l.val < 1536
  · rw [dif_pos c3, Stores.canon_beside _ _ _ _ _ (by omega), Stores.canon_beside _ _ _ _ _ (by omega), Stores.canon_beside _ _ _ _ _ (by omega),
      Stores.canon_beside _ _ _ _ _ (by omega), Stores.canon_beside _ _ _ _ _ (by omega), Stores.canon_beside _ _ _ _ _ (by omega),
      Stores.canon_block _ _ _ _ _ r ⟨l.val - 1024, by omega⟩ (by omega) (by show l.val = 1024 + (l.val - 1024); omega)]
    exact wide2 m c A2 h2 t r _
  rw [dif_neg c3]
  by_cases c4 : l.val < 2048
  · rw [dif_pos c4, Stores.canon_beside _ _ _ _ _ (by omega), Stores.canon_beside _ _ _ _ _ (by omega), Stores.canon_beside _ _ _ _ _ (by omega),
      Stores.canon_beside _ _ _ _ _ (by omega), Stores.canon_beside _ _ _ _ _ (by omega),
      Stores.canon_block _ _ _ _ _ r ⟨l.val - 1536, by omega⟩ (by omega) (by show l.val = 1536 + (l.val - 1536); omega)]
    exact wide3 m c A3 h3 t r _
  rw [dif_neg c4]
  by_cases c5 : l.val < 2560
  · rw [dif_pos c5, Stores.canon_beside _ _ _ _ _ (by omega), Stores.canon_beside _ _ _ _ _ (by omega), Stores.canon_beside _ _ _ _ _ (by omega),
      Stores.canon_beside _ _ _ _ _ (by omega), Stores.canon_block _ _ _ _ _ r ⟨l.val - 2048, by omega⟩ (by omega) (by show l.val = 2048 + (l.val - 2048); omega)]
    exact wide4 m c A4 h4 t r _
  rw [dif_neg c5]
  by_cases c6 : l.val < 2688
  · rw [dif_pos c6, Stores.canon_beside _ _ _ _ _ (by omega), Stores.canon_beside _ _ _ _ _ (by omega)]
    by_cases cr : r.val < 896
    · rw [Stores.canon_beside _ _ _ _ _ (by omega), Stores.canon_block _ _ _ _ _ ⟨r.val, cr⟩ ⟨l.val - 2560, by omega⟩ (by show r.val = 0 + r.val; omega) (by show l.val = 2560 + (l.val - 2560); omega)]
      exact inner5 m c A5 A6 h5 h6 t r cr _
    · rw [Stores.canon_block _ _ _ _ _ ⟨r.val - 896, by omega⟩ ⟨l.val - 2560, by omega⟩ (by show r.val = 896 + (r.val - 896); omega)
        (by show l.val = 2560 + (l.val - 2560); omega)]
      exact last5 m c A5 A6 h5 h6 t r cr _
  · rw [dif_neg c6]
    by_cases cr : r.val < 896
    · rw [Stores.canon_beside _ _ _ _ _ (by omega), Stores.canon_block _ _ _ _ _ ⟨r.val, cr⟩ ⟨l.val - 2688, by omega⟩ (by show r.val = 0 + r.val; omega) (by show l.val = 2688 + (l.val - 2688); omega)]
      exact inner8 m c A7 A8 h7 h8 t r cr _
    · rw [Stores.canon_block _ _ _ _ _ ⟨r.val - 896, by omega⟩ ⟨l.val - 2688, by omega⟩ (by show r.val = 896 + (r.val - 896); omega)
        (by show l.val = 2688 + (l.val - 2688); omega)]
      exact last8 m c A7 A8 h7 h8 t r cr _

end Cert.AsmIdeal.RefValue

end
-- ==== Proof.SwafReference.lean ====
/-
  The sliding-window attention as the reference computes it: the forward lines whose gradient is taken elsewhere, so the probabilities
  and the values with their block before are the arrays read there, and only their product and its place in the mixed output are new.
-/
module

public import proofs.«01_k».proof.Proof.SwaReference
public import proofs.«01_k».proof.Proof.Gen.SwafRefIdeal.Run

@[expose] public section

set_option maxRecDepth 16384

noncomputable section

namespace Cert.SwafRefIdeal.RefValue

open Cert.SwafRefIdeal Cert.SwafRefIdeal.Gen Cert.SwafRefIdeal.Value Idealize.ShloMosaic Idealize.ShloMosaic.TcCoe Cert.Attention
open Cert.SwaRefIdeal.RefValue (key pr)

variable (X : S16384x2816.Idx → ℝ) (Z : S8.Idx → ℝ) (Y : S16384x1024.Idx → EReal)

/-- One entry of the attention's output: the values weighted by the probabilities. -/
def out (n q : Fin 128) (h : Fin 2) (g : Fin 4) (d : Fin 64) : ℝ := ∑ k, key X 2688 (by norm_num) n k h d * pr X Z n h g q k

/-- The mixed output: its left half as it was, its right half the attention's. -/
def mixed : FVec Ideal S16384x1024 .bf16 := fun i =>
  if (i 1).val < 512 then Y i
  else ((out X Z ⟨(i 0).val / 128, by have : (i 0).val < 16384 := (i 0).isLt; omega⟩ ⟨(i 0).val % 128, by omega⟩
    ⟨((i 1).val - 512) / 256, by have : (i 1).val < 1024 := (i 1).isLt; omega⟩ ⟨((i 1).val - 512) / 64 % 4, by omega⟩
    ⟨((i 1).val - 512) % 64, by omega⟩ : ℝ) : EReal)

/-- The mixed output from the values and the probabilities. -/
def joined (v : FVec Ideal S128x256x2x64 .f32) (p : FVec Ideal S128x2x4x128x256 .f32) (y : FVec Ideal S16384x1024 .f32) : FVec Ideal S16384x1024 .bf16 :=
  truncf .bf16 (concatenate S16384x1024 1 [⟨S16384x512, (extractStridedSlice S16384x512 ![0, 0] y slices_S16384x1024_S16384x512_0_0)⟩,
    ⟨S16384x512, (shapeCast _ (transpose S128x128x2x4x64 [0, 4, 1, 3, 2] (Host.dotGeneral dot_S128x256x2x64_S128x2x4x128x256_S128x2x64x4x128_1_4_3_23_02_01 none v p)
      transposes_S128x2x64x4x128_S128x128x2x4x64_0_4_1_3_2) shapeCasts_S128x128x2x4x64_S16384x512)⟩] concatenates_S16384x512_S16384x512_S16384x1024_d1) bitsLt_bf16_f32

theorem joined_at (v : FVec Ideal S128x256x2x64 .f32) (p : FVec Ideal S128x2x4x128x256 .f32)
    (hv : ∀ n k h d, v (ix4 n k h d) = (key X 2688 (by norm_num) n k h d : EReal))
    (hp : ∀ n h g q k, p (ix5 n h g q k) = (pr X Z n h g q k : EReal)) : joined v p Y = mixed X Z Y := by
  funext i
  obtain ⟨r, l, rfl⟩ : ∃ (r : Fin 16384) (l : Fin 1024), i = ix2 r l := ⟨i 0, i 1, eq_ix2 i⟩
  show _ = if l.val < 512 then Y (ix2 r l) else _
  pointwise [joined]
  by_cases hl : l.val < 512
  · rw [dif_pos hl, if_pos hl]
  · rw [dif_neg hl, if_neg hl]
    pointwise [hv, hp]
    simp only [← EReal.coe_mul, ← Common.coe_sum]
    rfl

variable (m : (ℓ : Loc nD τ sig) → Buf (Elt Ideal) ℓ) (c : Dev nD)

theorem as_gradient (V0 : Valuation Cert.SwaRefIdeal.τ Cert.SwaRefIdeal.sig (Elt Ideal))
    (h0 : V0 (Proc.devRef .tc Cert.SwaRefIdeal.main_arg0) = m ((c.tc : Thread nD τ).loc main_arg0))
    (h1 : V0 (Proc.devRef .tc Cert.SwaRefIdeal.main_arg1) = m ((c.tc : Thread nD τ).loc main_arg1)) :
    res_main_v71 m c = joined (Cert.SwaRefIdeal.Value.res_main_v12 V0) (Cert.SwaRefIdeal.Value.res_main_v90 V0) (m ((c.tc : Thread nD τ).loc main_arg2)) := by
  rw [res_main_v71, ← h0, ← h1]
  rfl

/-- There are contents of the gradient's program that agree with given arguments. -/
theorem contents (x : FVec Ideal S16384x2816 .f32) (z : FVec Ideal S8 .f32) :
    ∃ V0 : Valuation Cert.SwaRefIdeal.τ Cert.SwaRefIdeal.sig (Elt Ideal), V0 (Proc.devRef .tc Cert.SwaRefIdeal.main_arg0) = x
      ∧ V0 (Proc.devRef .tc Cert.SwaRefIdeal.main_arg1) = z := by
  classical
  refine ⟨Function.update (Function.update (fun _ _ => Classical.arbitrary _) (Proc.devRef .tc Cert.SwaRefIdeal.main_arg1) z)
    (Proc.devRef .tc Cert.SwaRefIdeal.main_arg0) x, Function.update_self .., ?_⟩
  rw [Function.update_of_ne (by decide)]
  exact Function.update_self ..

theorem res (hx : m ((c.tc : Thread nD τ).loc main_arg0) = fun i => ((X i : ℝ) : EReal)) (hz : m ((c.tc : Thread nD τ).loc main_arg1) = fun i => ((Z i : ℝ) : EReal))
    (hy : m ((c.tc : Thread nD τ).loc main_arg2) = Y) : res_main_v71 m c = mixed X Z Y := by
  obtain ⟨V0, h0, h1⟩ := contents (fun i => ((X i : ℝ) : EReal)) (fun i => ((Z i : ℝ) : EReal))
  rw [as_gradient m c V0 (h0.trans hx.symm) (h1.trans hz.symm), hy]
  exact joined_at X Z Y _ _ (Cert.SwaRefIdeal.RefValue.v12_at V0 X h0) (Cert.SwaRefIdeal.RefValue.v90_at V0 X Z h0 h1)

end Cert.SwafRefIdeal.RefValue

end
-- ==== Proof.SwafValue.lean ====
/-
  The sliding-window attention kernel: its blocks are those of the gradient's kernel, so the scores and probabilities of a block are the
  arrays read there; the values weighted by them are turned into rows, and the left half of the mixed output keeps what it held.
-/
module

public import proofs.«01_k».proof.Proof.SwafReference
public import proofs.«01_k».proof.Proof.SwaValue
public import proofs.«01_k».proof.Proof.Gen.SwafIdeal.Value

@[expose] public section

set_option maxRecDepth 16384

noncomputable section

namespace Cert.SwafIdeal.RefValue

open Cert.SwafIdeal Cert.SwafIdeal.Gen Cert.SwafIdeal.Value Idealize.SL.Sem Idealize.ShloMosaic Idealize.ShloMosaic.TcCoe Cert.Attention
open Idealize.ShloMosaic.Pipeline (Dat)
open Cert.SwaRefIdeal.RefValue (ok key pr wt)
open Cert.SwafRefIdeal.RefValue (out mixed)
open Cert.SwaIdeal.RefValue (spot part col kcol lane kk vv queries sinks Block probs0 probs1 probs0_at probs1_at bpr_eq part_lane spot_lane vv_at lane_word
  choice_word seen refill)

/-! ## A block's output -/

/-- What a block stores: the values weighted by the two groups' probabilities, one row per query. -/
def stored (V : FVec Ideal S256x128 .f32) (P0 P1 : FVec Ideal S256x512 .f32) : FVec Ideal S128x512 .bf16 :=
  k0_pay160 (k0_pay142 (k0_pay99 V) P0) (k0_pay143 (k0_pay99 V) P1)

theorem pick (a : FVec Ideal S64x512 .f32) {i j i' j' : ℕ} (hi : i < 64) (hj : j < 512) (hi' : i' < 64) (hj' : j' < 512) (h1 : i = i') (h2 : j = j') :
    a (ix2 ⟨i, hi⟩ ⟨j, hj⟩) = a (ix2 ⟨i', hi'⟩ ⟨j', hj'⟩) := by
  subst h1 h2
  rfl

set_option maxHeartbeats 8000000 in
theorem turned_at (a b : FVec Ideal S64x512 .f32) (q : Fin 128) (x : Fin 512) : k0_pay160 a b (ix2 q x)
    = if x.val < 256 then a (ix2 ⟨x.val % 64, by omega⟩ ⟨x.val / 64 % 4 * 128 + q.val, by omega⟩)
      else b (ix2 ⟨x.val % 64, by omega⟩ ⟨x.val / 64 % 4 * 128 + q.val, by omega⟩) := by
  pointwise [k0_pay160]
  split_ifs
  all_goals first
    | exact Eq.trans (pick a _ _ _ _ (by omega) (by omega)) (if_pos (by omega)).symm
    | exact Eq.trans (pick b _ _ _ _ (by omega) (by omega)) (if_neg (by omega)).symm

theorem stored_at {V : FVec Ideal S256x128 .f32} {P0 P1 : FVec Ideal S256x512 .f32} {v : Fin 256 → Fin 128 → ℝ} {p : Fin 2 → Fin 512 → Fin 256 → ℝ}
    (hV : ∀ k x, V (ix2 k x) = (v k x : EReal)) (h0 : ∀ k l, P0 (ix2 k l) = (p 0 l k : EReal)) (h1 : ∀ k l, P1 (ix2 k l) = (p 1 l k : EReal))
    (q : Fin 128) (x : Fin 512) : stored V P0 P1 (ix2 q x)
    = ((∑ k, v k (kcol ⟨x.val / 256, by omega⟩ ⟨x.val % 64, by omega⟩) * p ⟨x.val / 256, by omega⟩ (lane ⟨x.val / 64 % 4, by omega⟩ q) k : ℝ) : EReal) := by
  rw [stored, turned_at]
  split
  · pointwise [k0_pay142, k0_pay99, hV, h0]
    simp only [← EReal.coe_mul, ← Common.coe_sum]
    simp [kcol, show x.val / 256 = 0 by omega]
  · pointwise [k0_pay143, k0_pay99, hV, h1]
    simp only [← EReal.coe_mul, ← Common.coe_sum]
    simp [kcol, show x.val / 256 = 1 by omega]

section
variable {X : S16384x2816.Idx → ℝ} {Z : S8.Idx → ℝ} {Y : S16384x1024.Idx → ℝ} {M : FVec Ideal S256x512 .f32} {K V : FVec Ideal S256x128 .f32}
  {Q C : FVec Ideal S128x512 .f32} {s0 s1 : FVec Ideal S1x512 .f32} {n : Fin 128} (B : Block X Z Y n M K V Q C s0 s1)

include B in
theorem piece (q : Fin 128) (x : Fin 512) : stored V (probs0 M K Q s0) (probs1 M K Q s1) (ix2 q x)
    = (out X Z n q ⟨x.val / 256, by omega⟩ ⟨x.val / 64 % 4, by omega⟩ ⟨x.val % 64, by omega⟩ : EReal) := by
  rw [stored_at (p := Cert.SwaIdeal.RefValue.bpr (ok n) (kk X n) (queries X n) (sinks Z)) B.value (probs0_at B.mask B.key B.query B.sink0)
    (probs1_at B.mask B.key B.query B.sink1), out]
  refine congrArg (fun v : ℝ => (v : EReal)) (Finset.sum_congr rfl fun k _ => ?_)
  rw [bpr_eq]
  by_cases hk : wt X n ⟨x.val / 256, by omega⟩ ⟨x.val / 64 % 4, by omega⟩ q k = 0
  · rw [pr, prob, hk]
    simp
  · rw [vv_at X (Cert.SwaIdeal.RefValue.wt_ok X hk)]

end

/-! ## What the input blocks hold -/

variable (m : (ℓ : Loc nD τ sig) → Buf (Elt Ideal) ℓ)

theorem idx (t : Fin cfg0.N) : win0_0.index t = ![t.val, 4] ∧ win0_1.index t = ![8 * t.val - 1, 20] ∧ win0_2.index t = ![t.val, 20]
    ∧ win0_3.index t = ![8 * t.val - 1, 21] ∧ win0_4.index t = ![t.val, 21] ∧ win0_5.index t = ![0, 0] ∧ win0_6.index t = ![0, 0, 0]
    ∧ win0_7.index t = ![t.val, 1] :=
  (by decide +kernel : ∀ t : Fin grid0.N, win0_0.index t = ![t.val, 4] ∧ win0_1.index t = ![8 * t.val - 1, 20] ∧ win0_2.index t = ![t.val, 20]
    ∧ win0_3.index t = ![8 * t.val - 1, 21] ∧ win0_4.index t = ![t.val, 21] ∧ win0_5.index t = ![0, 0] ∧ win0_6.index t = ![0, 0, 0]
    ∧ win0_7.index t = ![t.val, 1]) t

theorem off1 (t : Fin cfg0.N) : k0_off1 (grid0.coords t) = ![min t.val 1, 0, 0] :=
  (by decide +kernel : ∀ t : Fin grid0.N, k0_off1 (grid0.coords t) = ![min t.val 1, 0, 0]) t

theorem points (t : Fin cfg0.N) : t.val < 16 := t.isLt

variable (c : Dev nD)

theorem rd0 (t : Fin cfg0.N) (r : Fin 1024) (x : Fin 512) :
    X0_0 m c t (ix2 r x) = m ((c : Thread nD τ).loc main_arg0) (ix2 ⟨t.val * 1024 + r.val, by have := points t; omega⟩ ⟨2048 + x.val, by omega⟩) := by
  unfold X0_0 Pipeline.Window.fill
  rw [dif_pos (moved0_0 t _)]
  blk_point [iblk, V_main_arg0, idx t]

theorem rd1 (t : Fin cfg0.N) (r x : Fin 128) :
    iblk m c 1 t (ix2 r x) = m ((c : Thread nD τ).loc main_arg0) (ix2 ⟨(8 * t.val - 1) * 128 + r.val, by have := points t; omega⟩ ⟨2560 + x.val, by omega⟩) := by
  blk_point [iblk, V_main_arg0, idx t]

theorem rd2 (t : Fin cfg0.N) (r : Fin 1024) (x : Fin 128) :
    iblk m c 2 t (ix2 r x) = m ((c : Thread nD τ).loc main_arg0) (ix2 ⟨t.val * 1024 + r.val, by have := points t; omega⟩ ⟨2560 + x.val, by omega⟩) := by
  blk_point [iblk, V_main_arg0, idx t]

theorem rd3 (t : Fin cfg0.N) (r x : Fin 128) :
    iblk m c 3 t (ix2 r x) = m ((c : Thread nD τ).loc main_arg0) (ix2 ⟨(8 * t.val - 1) * 128 + r.val, by have := points t; omega⟩ ⟨2688 + x.val, by omega⟩) := by
  blk_point [iblk, V_main_arg0, idx t]

theorem rd4 (t : Fin cfg0.N) (r : Fin 1024) (x : Fin 128) :
    iblk m c 4 t (ix2 r x) = m ((c : Thread nD τ).loc main_arg0) (ix2 ⟨t.val * 1024 + r.val, by have := points t; omega⟩ ⟨2688 + x.val, by omega⟩) := by
  blk_point [iblk, V_main_arg0, idx t]

theorem V_v4 (h : Fin 2) (l : Fin 512) :
    V m c main_v4 (ix2 ⟨8 * h.val, by omega⟩ l) = m ((c : Thread nD τ).loc main_arg1) (ix1 ⟨h.val * 4 + l.val / 128, by omega⟩) := by
  simp only [V, hostOps0, hostOps0_1, hostOps0_2, hostOps0_3, hostOps0_4, List.flatten_cons, List.flatten_nil, List.append_nil, List.cons_append,
    List.nil_append]
  entry_read
  pointwise []
  simp only [StableHlo.TRef.ofBuf, StableHlo.TRef.toBuf, cast_eq]
  pointwise []
  rw [dif_pos (by omega)]

theorem V_v26 (z : Fin 2) (k : Fin 256) (l : Fin 512) :
    V m c main_v26 (ix3 z k l) = if seen z (spot l) k then Ideal.ofBits .f32 0x00000000#32 else Ideal.ofBits .f32 0xF149F2CA#32 := by
  simp only [V, hostOps0, hostOps0_1, hostOps0_2, hostOps0_3, hostOps0_4, List.flatten_cons, List.flatten_nil, List.append_nil, List.cons_append,
    List.nil_append]
  entry_read
  simp only [StableHlo.TRef.ofBuf, StableHlo.TRef.toBuf, cast_eq]
  pointwise []
  rw [lane_word, choice_word, Cert.SwaRefIdeal.RefValue.before_at k]
  refine (congrArg (fun w => Scalar.select (IntOp.andi w _) _ _) (Cert.SwaRefIdeal.RefValue.near_at (spot l) k)).trans ?_
  by_cases h1 : k.val ≤ (spot l).val + 128 ∧ (spot l).val < k.val <;> by_cases h2 : z.val = 0 <;> by_cases h3 : k.val < 128 <;>
    simp [seen, h1, h2, h3, IntOp.andi, Scalar.select]

theorem rd6 (t : Fin cfg0.N) (z : Fin 2) (k : Fin 256) (l : Fin 512) : iblk m c 6 t (ix3 z k l) = V m c main_v26 (ix3 z k l) := by
  blk_simp [iblk]
  blk_ext [idx t]

theorem rd5 (t : Fin cfg0.N) (r : Fin 16) (l : Fin 512) : iblk m c 5 t (ix2 r l) = V m c main_v4 (ix2 r l) := by
  blk_simp [iblk]
  blk_ext [idx t]

theorem mask_word : Named.named (F := Ideal) (φ := .f32) κ "mask" 0xF149F2CA#32 = (⊥ : EReal) := rfl

theorem mask_at (z : Fin 2) (n : Fin 128) (hz : z.val = 0 ↔ n.val = 0) (k : Fin 256) (l : Fin 512) (v : EReal) (hv : v = V m c main_v26 (ix3 z k l)) :
    (if v < 0 then Named.named (F := Ideal) (φ := .f32) κ "mask" 0xF149F2CA#32 else (0 : EReal)) = if ok n (spot l) k then (0 : EReal) else ⊥ := by
  rw [hv, V_v26, mask_word]
  refine (refill _).trans (if_congr ?_ rfl rfl)
  unfold seen ok
  rw [hz]

theorem mask_later (t : Fin cfg0.N) (n : Fin 128) (hn : n.val ≠ 0) (k : Fin 256) (l : Fin 512) :
    k0_pay21 (F := Ideal) (View.ld (iblk m c 6 t) (Rect.unit ![1, 0, 0] ![1, 256, 512] inb_S2x256x512_S1x256x512_1_0_0)) (ix2 k l)
      = if ok n (spot l) k then (0 : EReal) else ⊥ := by
  pointwise [k0_pay21]
  exact mask_at m c 1 n (by simp [hn]) k l _ (rd6 m c t 1 k l)

theorem mask_first (t : Fin cfg0.N) (n : Fin 128) (hn : n.val = 8 * t.val) (k : Fin 256) (l : Fin 512) :
    k0_pay20 (F := Ideal) (View.ld (iblk m c 6 t) (Rect.unit (k0_off1 (grid0.coords t)) ![1, 256, 512] (k0_off1_inb _))) (ix2 k l)
      = if ok n (spot l) k then (0 : EReal) else ⊥ := by
  pointwise [k0_pay20]
  refine mask_at m c ⟨min t.val 1, by omega⟩ n (by show min t.val 1 = 0 ↔ _; omega) k l _ (Eq.trans ?_ (rd6 m c t _ k l))
  refine congrArg (iblk m c 6 t) ?_
  simp only [off1 t]
  exact congrArg₂ (ix3 _) (Fin.ext (Nat.zero_add _)) (Fin.ext (Nat.zero_add _))

/-- The blocks of 128 queries of a grid point. -/
abbrev blockAt (t : Fin cfg0.N) (b : Fin 8) : Fin 128 := ⟨8 * t.val + b.val, by have := points t; omega⟩

section
variable (X : S16384x2816.Idx → ℝ) (Z : S8.Idx → ℝ)
variable (hx : m ((c : Thread nD τ).loc main_arg0) = fun i => ((X i : ℝ) : EReal)) (hz : m ((c : Thread nD τ).loc main_arg1) = fun i => ((Z i : ℝ) : EReal))

include hz in
theorem sinks0_at (t : Fin cfg0.N) (l : Fin 512) :
    k0_pay83 (F := Ideal) (View.ld (iblk m c 5 t) (Rect.unit ![0, 0] ![1, 512] inb_S16x512_S1x512_0_0)) (ix2 0 l) = (sinks Z 0 l : EReal) := by
  pointwise [k0_pay83]
  refine (rd5 m c t 0 l).trans ((V_v4 m c 0 l).trans ?_)
  rw [hz]
  rfl

include hz in
theorem sinks1_at (t : Fin cfg0.N) (l : Fin 512) :
    k0_pay84 (F := Ideal) (View.ld (iblk m c 5 t) (Rect.unit ![8, 0] ![1, 512] inb_S16x512_S1x512_8_0)) (ix2 0 l) = (sinks Z 1 l : EReal) := by
  pointwise [k0_pay84]
  refine (rd5 m c t 8 l).trans ((V_v4 m c 1 l).trans ?_)
  rw [hz]
  rfl

include hx in
theorem keys_read (t : Fin cfg0.N) (b : Fin 8) (k : Fin 256) (x : Fin 128) (j : Fin 1152) (hj : j.val = 128 * b.val + k.val) :
    k0_pay2 (iblk m c 1 t) (iblk m c 2 t) (ix2 j x) = (kk X (blockAt t b) k x : EReal) := by
  obtain ⟨j, hj'⟩ := j
  obtain rfl : j = 128 * b.val + k.val := hj
  pointwise [k0_pay2]
  by_cases hb : 128 * b.val + k.val < 128
  · rw [dif_pos hb]
    refine (rd1 m c t _ x).trans ?_
    rw [hx]
    refine congrArg (fun i => ((X i : ℝ) : EReal)) (congrArg₂ ix2 (Fin.ext ?_) rfl)
    show (8 * t.val - 1) * 128 + (128 * b.val + k.val) = if k.val < 128 then (8 * t.val + b.val - 1) * 128 + k.val else (8 * t.val + b.val) * 128 + (k.val - 128)
    rw [if_pos (by omega)]
    omega
  · rw [dif_neg hb]
    refine (rd2 m c t _ x).trans ?_
    rw [hx]
    refine congrArg (fun i => ((X i : ℝ) : EReal)) (congrArg₂ ix2 (Fin.ext ?_) rfl)
    show t.val * 1024 + (128 * b.val + k.val - 128) = if k.val < 128 then (8 * t.val + b.val - 1) * 128 + k.val else (8 * t.val + b.val) * 128 + (k.val - 128)
    split_ifs <;> omega

include hx in
theorem values_read (t : Fin cfg0.N) (b : Fin 8) (k : Fin 256) (x : Fin 128) (j : Fin 1152) (hj : j.val = 128 * b.val + k.val) :
    k0_pay3 (iblk m c 3 t) (iblk m c 4 t) (ix2 j x) = (vv X (blockAt t b) k x : EReal) := by
  obtain ⟨j, hj'⟩ := j
  obtain rfl : j = 128 * b.val + k.val := hj
  pointwise [k0_pay3]
  by_cases hb : 128 * b.val + k.val < 128
  · rw [dif_pos hb]
    refine (rd3 m c t _ x).trans ?_
    rw [hx]
    refine congrArg (fun i => ((X i : ℝ) : EReal)) (congrArg₂ ix2 (Fin.ext ?_) rfl)
    show (8 * t.val - 1) * 128 + (128 * b.val + k.val) = if k.val < 128 then (8 * t.val + b.val - 1) * 128 + k.val else (8 * t.val + b.val) * 128 + (k.val - 128)
    rw [if_pos (by omega)]
    omega
  · rw [dif_neg hb]
    refine (rd4 m c t _ x).trans ?_
    rw [hx]
    refine congrArg (fun i => ((X i : ℝ) : EReal)) (congrArg₂ ix2 (Fin.ext ?_) rfl)
    show t.val * 1024 + (128 * b.val + k.val - 128) = if k.val < 128 then (8 * t.val + b.val - 1) * 128 + k.val else (8 * t.val + b.val) * 128 + (k.val - 128)
    split_ifs <;> omega

include hx in
theorem queries_read (t : Fin cfg0.N) (b : Fin 8) (q : Fin 128) (x : Fin 512) (j : Fin 1024) (hj : j.val = 128 * b.val + q.val) :
    X0_0 m c t (ix2 j x) = (queries X (blockAt t b) q x : EReal) := by
  obtain ⟨j, hj'⟩ := j
  obtain rfl : j = 128 * b.val + q.val := hj
  refine (rd0 m c t _ x).trans ?_
  rw [hx]
  refine congrArg (fun i => ((X i : ℝ) : EReal)) (congrArg₂ ix2 (Fin.ext ?_) rfl)
  show t.val * 1024 + (128 * b.val + q.val) = (8 * t.val + b.val) * 128 + q.val
  omega

/-! ## The eight blocks of a grid point -/

abbrev laterMask (t : Fin cfg0.N) : FVec Ideal S256x512 .f32 :=
  k0_pay21 (View.ld (iblk m c 6 t) (Rect.unit ![1, 0, 0] ![1, 256, 512] inb_S2x256x512_S1x256x512_1_0_0))
abbrev firstMask (t : Fin cfg0.N) : FVec Ideal S256x512 .f32 :=
  k0_pay20 (View.ld (iblk m c 6 t) (Rect.unit (k0_off1 (grid0.coords t)) ![1, 256, 512] (k0_off1_inb _)))
abbrev sinkRow0 (t : Fin cfg0.N) : FVec Ideal S1x512 .f32 := k0_pay83 (View.ld (iblk m c 5 t) (Rect.unit ![0, 0] ![1, 512] inb_S16x512_S1x512_0_0))
abbrev sinkRow1 (t : Fin cfg0.N) : FVec Ideal S1x512 .f32 := k0_pay84 (View.ld (iblk m c 5 t) (Rect.unit ![8, 0] ![1, 512] inb_S16x512_S1x512_8_0))

include hx hz

theorem block0 (t : Fin cfg0.N) : Block X Z 0 (blockAt t 0) (firstMask m c t) (k0_pay4 (iblk m c 1 t) (iblk m c 2 t)) (k0_pay12 (iblk m c 3 t) (iblk m c 4 t))
    (View.ld (X0_0 m c t) (Rect.unit ![0, 0] ![128, 512] inb_S1024x512_S128x512_0_0)) (fun _ => ((0 : ℝ) : EReal)) (sinkRow0 m c t) (sinkRow1 m c t) where
  mask := mask_first m c t _ rfl
  key k x := by pointwise [k0_pay4]; exact keys_read m c X hx t 0 k x _ (by simp)
  value k x := by pointwise [k0_pay12]; exact values_read m c X hx t 0 k x _ (by simp)
  query q x := by pointwise []; exact queries_read m c X hx t 0 q x _ (by simp)
  cot _ _ := rfl
  sink0 := sinks0_at m c Z hz t
  sink1 := sinks1_at m c Z hz t

theorem block1 (t : Fin cfg0.N) : Block X Z 0 (blockAt t 1) (laterMask m c t) (k0_pay5 (iblk m c 1 t) (iblk m c 2 t)) (k0_pay13 (iblk m c 3 t) (iblk m c 4 t))
    (View.ld (X0_0 m c t) (Rect.unit ![128, 0] ![128, 512] inb_S1024x512_S128x512_128_0)) (fun _ => ((0 : ℝ) : EReal)) (sinkRow0 m c t) (sinkRow1 m c t) where
  mask := mask_later m c t _ (Nat.succ_ne_zero _)
  key k x := by pointwise [k0_pay5]; exact keys_read m c X hx t 1 k x _ (by simp)
  value k x := by pointwise [k0_pay13]; exact values_read m c X hx t 1 k x _ (by simp)
  query q x := by pointwise []; exact queries_read m c X hx t 1 q x _ (by simp)
  cot _ _ := rfl
  sink0 := sinks0_at m c Z hz t
  sink1 := sinks1_at m c Z hz t

theorem block2 (t : Fin cfg0.N) : Block X Z 0 (blockAt t 2) (laterMask m c t) (k0_pay6 (iblk m c 1 t) (iblk m c 2 t)) (k0_pay14 (iblk m c 3 t) (iblk m c 4 t))
    (View.ld (X0_0 m c t) (Rect.unit ![256, 0] ![128, 512] inb_S1024x512_S128x512_256_0)) (fun _ => ((0 : ℝ) : EReal)) (sinkRow0 m c t) (sinkRow1 m c t) where
  mask := mask_later m c t _ (Nat.succ_ne_zero _)
  key k x := by pointwise [k0_pay6]; exact keys_read m c X hx t 2 k x _ (by simp)
  value k x := by pointwise [k0_pay14]; exact values_read m c X hx t 2 k x _ (by simp)
  query q x := by pointwise []; exact queries_read m c X hx t 2 q x _ (by simp)
  cot _ _ := rfl
  sink0 := sinks0_at m c Z hz t
  sink1 := sinks1_at m c Z hz t

theorem block3 (t : Fin cfg0.N) : Block X Z 0 (blockAt t 3) (laterMask m c t) (k0_pay7 (iblk m c 1 t) (iblk m c 2 t)) (k0_pay15 (iblk m c 3 t) (iblk m c 4 t))
    (View.ld (X0_0 m c t) (Rect.unit ![384, 0] ![128, 512] inb_S1024x512_S128x512_384_0)) (fun _ => ((0 : ℝ) : EReal)) (sinkRow0 m c t) (sinkRow1 m c t) where
  mask := mask_later m c t _ (Nat.succ_ne_zero _)
  key k x := by pointwise [k0_pay7]; exact keys_read m c X hx t 3 k x _ (by simp)
  value k x := by pointwise [k0_pay15]; exact values_read m c X hx t 3 k x _ (by simp)
  query q x := by pointwise []; exact queries_read m c X hx t 3 q x _ (by simp)
  cot _ _ := rfl
  sink0 := sinks0_at m c Z hz t
  sink1 := sinks1_at m c Z hz t

theorem block4 (t : Fin cfg0.N) : Block X Z 0 (blockAt t 4) (laterMask m c t) (k0_pay8 (iblk m c 1 t) (iblk m c 2 t)) (k0_pay16 (iblk m c 3 t) (iblk m c 4 t))
    (View.ld (X0_0 m c t) (Rect.unit ![512, 0] ![128, 512] inb_S1024x512_S128x512_512_0)) (fun _ => ((0 : ℝ) : EReal)) (sinkRow0 m c t) (sinkRow1 m c t) where
  mask := mask_later m c t _ (Nat.succ_ne_zero _)
  key k x := by pointwise [k0_pay8]; exact keys_read m c X hx t 4 k x _ (by simp)
  value k x := by pointwise [k0_pay16]; exact values_read m c X hx t 4 k x _ (by simp)
  query q x := by pointwise []; exact queries_read m c X hx t 4 q x _ (by simp)
  cot _ _ := rfl
  sink0 := sinks0_at m c Z hz t
  sink1 := sinks1_at m c Z hz t

theorem block5 (t : Fin cfg0.N) : Block X Z 0 (blockAt t 5) (laterMask m c t) (k0_pay9 (iblk m c 1 t) (iblk m c 2 t)) (k0_pay17 (iblk m c 3 t) (iblk m c 4 t))
    (View.ld (X0_0 m c t) (Rect.unit ![640, 0] ![128, 512] inb_S1024x512_S128x512_640_0)) (fun _ => ((0 : ℝ) : EReal)) (sinkRow0 m c t) (sinkRow1 m c t) where
  mask := mask_later m c t _ (Nat.succ_ne_zero _)
  key k x := by pointwise [k0_pay9]; exact keys_read m c X hx t 5 k x _ (by simp)
  value k x := by pointwise [k0_pay17]; exact values_read m c X hx t 5 k x _ (by simp)
  query q x := by pointwise []; exact queries_read m c X hx t 5 q x _ (by simp)
  cot _ _ := rfl
  sink0 := sinks0_at m c Z hz t
  sink1 := sinks1_at m c Z hz t

theorem block6 (t : Fin cfg0.N) : Block X Z 0 (blockAt t 6) (laterMask m c t) (k0_pay10 (iblk m c 1 t) (iblk m c 2 t)) (k0_pay18 (iblk m c 3 t) (iblk m c 4 t))
    (View.ld (X0_0 m c t) (Rect.unit ![768, 0] ![128, 512] inb_S1024x512_S128x512_768_0)) (fun _ => ((0 : ℝ) : EReal)) (sinkRow0 m c t) (sinkRow1 m c t) where
  mask := mask_later m c t _ (Nat.succ_ne_zero _)
  key k x := by pointwise [k0_pay10]; exact keys_read m c X hx t 6 k x _ (by simp)
  value k x := by pointwise [k0_pay18]; exact values_read m c X hx t 6 k x _ (by simp)
  query q x := by pointwise []; exact queries_read m c X hx t 6 q x _ (by simp)
  cot _ _ := rfl
  sink0 := sinks0_at m c Z hz t
  sink1 := sinks1_at m c Z hz t

theorem block7 (t : Fin cfg0.N) : Block X Z 0 (blockAt t 7) (laterMask m c t) (k0_pay11 (iblk m c 1 t) (iblk m c 2 t)) (k0_pay19 (iblk m c 3 t) (iblk m c 4 t))
    (View.ld (X0_0 m c t) (Rect.unit ![896, 0] ![128, 512] inb_S1024x512_S128x512_896_0)) (fun _ => ((0 : ℝ) : EReal)) (sinkRow0 m c t) (sinkRow1 m c t) where
  mask := mask_later m c t _ (Nat.succ_ne_zero _)
  key k x := by pointwise [k0_pay11]; exact keys_read m c X hx t 7 k x _ (by simp)
  value k x := by pointwise [k0_pay19]; exact values_read m c X hx t 7 k x _ (by simp)
  query q x := by pointwise []; exact queries_read m c X hx t 7 q x _ (by simp)
  cot _ _ := rfl
  sink0 := sinks0_at m c Z hz t
  sink1 := sinks1_at m c Z hz t

end

end Cert.SwafIdeal.RefValue

end
-- ==== Proof.SwafFinals.lean ====
/-
  The mixed output as the sliding-window attention's kernel leaves it: the attention's rows in the right half, the left half as it was.
-/
module

public import proofs.«01_k».proof.Proof.SwafValue

@[expose] public section

set_option maxRecDepth 16384

noncomputable section

namespace Cert.SwafIdeal.RefValue

open Cert.SwafIdeal Cert.SwafIdeal.Gen Cert.SwafIdeal.Value Idealize.SL.Sem Idealize.ShloMosaic Idealize.ShloMosaic.TcCoe Cert.Attention
open Idealize.ShloMosaic.Pipeline (Dat)
open Cert.SwafRefIdeal.RefValue (out mixed)

/-- The right half of the mixed output, at an index of the whole. -/
def half (X : S16384x2816.Idx → ℝ) (Z : S8.Idx → ℝ) : FVec Ideal S16384x1024 .bf16 := fun i =>
  ((out X Z ⟨(i 0).val / 128, by have : (i 0).val < 16384 := (i 0).isLt; omega⟩ ⟨(i 0).val % 128, by omega⟩
    ⟨((i 1).val - 512) / 256, by have : (i 1).val < 1024 := (i 1).isLt; omega⟩ ⟨((i 1).val - 512) / 64 % 4, by omega⟩
    ⟨((i 1).val - 512) % 64, by omega⟩ : ℝ) : EReal)

variable (m : (ℓ : Loc nD τ sig) → Buf (Elt Ideal) ℓ) (c : Dev nD)
variable (X : S16384x2816.Idx → ℝ) (Z : S8.Idx → ℝ)
variable (hx : m ((c : Thread nD τ).loc main_arg0) = fun i => ((X i : ℝ) : EReal)) (hz : m ((c : Thread nD τ).loc main_arg1) = fun i => ((Z i : ℝ) : EReal))

theorem half_row (t : Fin cfg0.N) (b : Fin 8) (q : Fin 128) (l : Fin 512) (i : S16384x1024.Idx) (h0 : (i 0).val = t.val * 1024 + (128 * b.val + q.val))
    (h1 : (i 1).val = 512 + l.val) :
    (out X Z (blockAt t b) q ⟨l.val / 256, by omega⟩ ⟨l.val / 64 % 4, by omega⟩ ⟨l.val % 64, by omega⟩ : EReal) = half X Z i := by
  obtain ⟨r, x, rfl⟩ : ∃ (r : Fin 16384) (x : Fin 1024), i = ix2 r x := ⟨i 0, i 1, eq_ix2 i⟩
  have h1 : x.val = 512 + l.val := h1
  have h0 : r.val = t.val * 1024 + (128 * b.val + q.val) := h0
  have e1 : (⟨r.val / 128, by omega⟩ : Fin 128) = blockAt t b := Fin.ext (by show r.val / 128 = 8 * t.val + b.val; omega)
  have e2 : (⟨r.val % 128, by omega⟩ : Fin 128) = q := Fin.ext (by show r.val % 128 = q.val; omega)
  show _ = ((out X Z ⟨r.val / 128, by omega⟩ ⟨r.val % 128, by omega⟩ ⟨(x.val - 512) / 256, by omega⟩ ⟨(x.val - 512) / 64 % 4, by omega⟩
    ⟨(x.val - 512) % 64, by omega⟩ : ℝ) : EReal)
  simp only [e1, e2, show x.val - 512 = l.val by omega]

theorem V_v28 : V m c main_v28 = m ((c : Thread nD τ).loc main_arg2) := by
  funext i
  simp only [V, hostOps0, hostOps0_1, hostOps0_2, hostOps0_3, hostOps0_4, List.flatten_cons, List.flatten_nil, List.append_nil, List.cons_append,
    List.nil_append]
  entry_read
  pointwise []

include hx hz

set_option maxHeartbeats 8000000 in
theorem final7 : (dats m 0 c).arrAt 7 cfg0.N = mixed X Z (m ((c : Thread nD τ).loc main_arg2)) := by
  have h : (dats m 0 c).arrAt 7 cfg0.N = fun i => if 512 ≤ (i 1).val then half X Z i else V m c main_v28 i := by
    refine (dats m 0 c).arrAt_eq_of_coversWhere 7 (half X Z) (fun β => β (1 : Fin 2) = 1) (by decide +kernel) (fun t hf y => ?_)
      (fun j => by have hj : (j 1).val < 1024 := (j 1).isLt; blk_simp [Pipeline.Window.cell_apply]; omega)
    blk_simp
    have e0 : ((((View.whole main_v28).slice (win0_7.rect t)).emb y) 0).val = t.val * 1024 + (y 0).val := by blk_simp [idx t]
    have e1 : ((((View.whole main_v28).slice (win0_7.rect t)).emb y) 1).val = 512 + (y 1).val := by blk_simp [idx t]
    rw [after0_7, outsAt0]
    frame_out
    canon_tiles x h
    all_goals
      obtain ⟨q, l, rfl⟩ : ∃ (q : Fin 128) (l : Fin 512), x = ix2 q l := ⟨x 0, x 1, eq_ix2 x⟩
      have h1 : (y 1).val = l.val := h1
      first
      | (have h : (y 0).val = q.val := h0; exact (piece (block0 m c X Z hx hz t) q l).trans (half_row X Z t 0 q l _ (by rw [e0, h]; simp) (by rw [e1, h1])))
      | (have h : (y 0).val = 128 + q.val := h0; exact (piece (block1 m c X Z hx hz t) q l).trans (half_row X Z t 1 q l _ (by rw [e0, h]; simp) (by rw [e1, h1])))
      | (have h : (y 0).val = 256 + q.val := h0; exact (piece (block2 m c X Z hx hz t) q l).trans (half_row X Z t 2 q l _ (by rw [e0, h]; simp) (by rw [e1, h1])))
      | (have h : (y 0).val = 384 + q.val := h0; exact (piece (block3 m c X Z hx hz t) q l).trans (half_row X Z t 3 q l _ (by rw [e0, h]; simp) (by rw [e1, h1])))
      | (have h : (y 0).val = 512 + q.val := h0; exact (piece (block4 m c X Z hx hz t) q l).trans (half_row X Z t 4 q l _ (by rw [e0, h]; simp) (by rw [e1, h1])))
      | (have h : (y 0).val = 640 + q.val := h0; exact (piece (block5 m c X Z hx hz t) q l).trans (half_row X Z t 5 q l _ (by rw [e0, h]; simp) (by rw [e1, h1])))
      | (have h : (y 0).val = 768 + q.val := h0; exact (piece (block6 m c X Z hx hz t) q l).trans (half_row X Z t 6 q l _ (by rw [e0, h]; simp) (by rw [e1, h1])))
      | (have h : (y 0).val = 896 + q.val := h0; exact (piece (block7 m c X Z hx hz t) q l).trans (half_row X Z t 7 q l _ (by rw [e0, h]; simp) (by rw [e1, h1])))
  rw [h, V_v28]
  funext i
  show (if 512 ≤ (i 1).val then _ else _) = if (i 1).val < 512 then _ else _
  by_cases hi : (i 1).val < 512
  · rw [if_neg (by omega), if_pos hi]
  · rw [if_pos (by omega), if_neg hi]
    rfl

end Cert.SwafIdeal.RefValue

end
-- ==== Proof.LbReference.lean ====
/-
  The gradient of the recurrence's lower bounds in the layers' logits, as the reference computes it: a softmax down the layers, its running sums,
  and the three saved rows of each bound.
-/
module

public import proofs.«01_k».proof.Proof.Common
public import proofs.«01_k».proof.Proof.Attention
public import proofs.«01_k».proof.Proof.Gen.LbRefIdeal.Run

@[expose] public section

set_option maxRecDepth 16384

noncomputable section

namespace Cert.LbRefIdeal.RefValue

open Cert.LbRefIdeal Cert.LbRefIdeal.Gen Cert.LbRefIdeal.Value Idealize.ShloMosaic Idealize.ShloMosaic.TcCoe Cert.Attention

variable (x : FVec Ideal S4x512 .f32) (d : FVec Ideal S32x512 .f32)

/-- The exponentials of the logits less their column's largest. -/
def expo : FVec Ideal S4x512 .f32 :=
  Host.exp (subf x (broadcastInDim S4x512 ![0, 1] bcast_S1x512_S4x512_0_1 (broadcastInDim S1x512 ![1] bcast_S512_S1x512_1
    (maximumf (broadcastInDim S512 ![] bcast_S_S512 (constant S_ .f32 0xFF800000#32))
      (Host.reduce FloatOps.maximumf x (constant S_ .f32 0xFF800000#32) reducesTo_S4x512_S512_d0 h_S_)))))

/-- Their sum down a column. -/
def total : FVec Ideal S1x512 .f32 :=
  broadcastInDim S1x512 ![1] bcast_S512_S1x512_1 (Host.reduceAdd (expo x) (constant S_ .f32 0x00000000#32) reducesTo_S4x512_S512_d0 h_S_)

/-- The sums, once per row. -/
def totals : FVec Ideal S4x512 .f32 := broadcastInDim S4x512 ![0, 1] bcast_S1x512_S4x512_0_1 (total x)

/-- The softmax down the columns. -/
def soft : FVec Ideal S4x512 .f32 := Host.divf (expo x) (totals x)

/-- Running sums down the rows. -/
def running (y : FVec Ideal S4x512 .f32) : FVec Ideal S4x512 .f32 :=
  Host.reduceWindowAdd ![4, 1] ![1, 1] ![3, 0] ![0, 0] y (broadcastInDim S_ ![] bcast_S_S_ (constant S_ .f32 0x00000000#32))
    reduceWindows_S4x512_S4x512_w4s1p3_0_w1s1p0_0 h_S_

/-- Running sums up the rows. -/
def backward (y : FVec Ideal S4x512 .f32) : FVec Ideal S4x512 .f32 :=
  Host.reduceWindowAdd ![4, 1] ![1, 1] ![0, 0] ![3, 0] y (broadcastInDim S_ ![] bcast_S_S_ (constant S_ .f32 0x00000000#32))
    reduceWindows_S4x512_S4x512_w4s1p0_3_w1s1p0_0 h_S_

/-- The lower bounds: the running sums of the softmax less its first row. -/
def bounds (y : FVec Ideal S4x512 .f32) : FVec Ideal S4x512 .f32 :=
  subf (running y) (broadcastInDim S4x512 ![0, 1] bcast_S1x512_S4x512_0_1 (broadcastInDim S1x512 ![1] bcast_S512_S1x512_1
    (shapeCast _ (extractStridedSlice S1x512 ![0, 0] y slices_S4x512_S1x512_0_0) shapeCasts_S1x512_S512)))

/-- One row in eight of the cotangents. -/
def part (o : ℕ) (h : S4x8x512.Slices ![0, o, 0] S4x1x512) : FVec Ideal S4x512 .f32 :=
  shapeCast _ (extractStridedSlice S4x1x512 ![0, o, 0] (shapeCast _ d shapeCasts_S32x512_S4x8x512) h) shapeCasts_S4x1x512_S4x512

/-- An array of ones. -/
def ones : FVec Ideal S4x512 .f32 := broadcastInDim S4x512 ![] bcast_S_S4x512 (constant S_ .f32 0x3F800000#32)
/-- An array of the floor. -/
def floors : FVec Ideal S4x512 .f32 := broadcastInDim S4x512 ![] bcast_S_S4x512 (constant S_ .f32 0x0DA24260#32)

/-- The gradient of the three saved rows at the bounds. -/
def rowGrad (b : FVec Ideal S4x512 .f32) : FVec Ideal S4x512 .f32 :=
  addf (addf (Host.negf (part d 2 slices_S4x8x512_S4x1x512_0_2_0))
      (Host.negf (Host.divf (part d 1 slices_S4x8x512_S4x1x512_0_1_0) (addf (Host.negf b) ones))))
    (mulf (Host.divf (part d 0 slices_S4x8x512_S4x1x512_0_0_0) (maximumf b floors))
      (select (cmpf .ogt b floors) ones (select (cmpf .oeq b floors) (broadcastInDim S4x512 ![] bcast_S_S4x512 (constant S_ .f32 0x3F000000#32))
        (broadcastInDim S4x512 ![] bcast_S_S4x512 (constant S_ .f32 0x00000000#32)))))

/-- The gradient at the softmax, from the gradient at the bounds. -/
def down (g : FVec Ideal S4x512 .f32) : FVec Ideal S4x512 .f32 :=
  addf (pad S4x512 ![0, 0] ![3, 0] ![0, 0] (broadcastInDim S1x512 ![1] bcast_S512_S1x512_1
      (Host.reduceAdd (shapeCast _ (Host.reduceAdd (Host.negf g) (constant S_ .f32 0x00000000#32) reducesTo_S4x512_S512_d0 h_S_) shapeCasts_S512_S1x512)
        (constant S_ .f32 0x00000000#32) reducesTo_S1x512_S512_d0 h_S_)) (constant S_ .f32 0x00000000#32) pads_S1x512_S4x512_030_000 h_S_)
    (backward g)

/-- The gradient at the logits, from the gradient at the softmax. -/
def logitGrad (e : FVec Ideal S4x512 .f32) (s : FVec Ideal S1x512 .f32) (g : FVec Ideal S4x512 .f32) : FVec Ideal S4x512 .f32 :=
  mulf (addf (Host.divf g (broadcastInDim S4x512 ![0, 1] bcast_S1x512_S4x512_0_1 s))
    (broadcastInDim S4x512 ![1] bcast_S512_S4x512_1 (Host.reduceAdd (Host.negf (shapeCast _ (Host.reduceAdd (mulf (mulf g
      (broadcastInDim S4x512 ![0, 1] bcast_S1x512_S4x512_0_1 (Host.divf (broadcastInDim S1x512 ![] bcast_S_S1x512 (constant S_ .f32 0x3F800000#32)) (mulf s s)))) e)
      (constant S_ .f32 0x00000000#32) reducesTo_S4x512_S512_d0 h_S_) shapeCasts_S512_S1x512)) (constant S_ .f32 0x00000000#32) reducesTo_S1x512_S512_d0 h_S_))) e

/-- Eight rows, the last four zero. -/
def padded (y : FVec Ideal S4x512 .f32) : FVec Ideal S8x512 .f32 :=
  pad S8x512 ![0, 0] ![4, 0] ![0, 0] y (sitofp .f32 (constantI S_ 32 0#32)) pads_S4x512_S8x512_040_000 h_S_

theorem as_grad (m : (ℓ : Loc nD τ sig) → Buf (Elt Ideal) ℓ) (c : Dev nD) : res_main_v86 m c
    = padded (logitGrad (expo (m ((c.tc : Thread nD τ).loc main_arg0))) (total (m ((c.tc : Thread nD τ).loc main_arg0)))
        (down (rowGrad (m ((c.tc : Thread nD τ).loc main_arg1)) (bounds (soft (m ((c.tc : Thread nD τ).loc main_arg0))))))) := by
  rw [res_main_v86]
  rfl

/-- The places of a window of four rows, in order. -/
theorem places (n : Fin 4) : ((Shape.rowMajor ⟨2, ![4, 1]⟩).symm n 0).val = n.val ∧ ((Shape.rowMajor ⟨2, ![4, 1]⟩).symm n 1).val = 0 :=
  (by decide +kernel : ∀ n : Fin 4, ((Shape.rowMajor ⟨2, ![4, 1]⟩).symm n 0).val = n.val ∧ ((Shape.rowMajor ⟨2, ![4, 1]⟩).symm n 1).val = 0) n

variable (y : FVec Ideal S4x512 .f32)

theorem running_fold (k : Fin 4) (l : Fin 512) : running y (ix2 k l)
    = (List.finRange 4).foldl (fun r n => r + if h : 3 ≤ k.val + n.val then y (ix2 ⟨k.val + n.val - 3, by omega⟩ l) else 0) 0 := by
  unfold running Host.reduceWindowAdd
  rw [Ideal.hostReduceWindowAdd_def]
  unfold Ideal.hostReduceWindowAdd Host.reduceWindow
  rw [show (broadcastInDim S_ ![] bcast_S_S_ (constant S_ .f32 0x00000000#32) : FVec Ideal S_ .f32) (Shape.Idx.first h_S_) = 0 from Ideal.ofBits_zero_f32]
  refine congrArg (fun f => (List.finRange 4).foldl f 0) (funext fun r => funext fun n => ?_)
  obtain ⟨h0, h1⟩ := places n
  refine congrArg (fun v : EReal => r + v) ?_
  by_cases h : 3 ≤ k.val + n.val
  · rw [dif_pos h]
    refine (dif_pos ?_).trans (congrArg y ?_)
    · refine (Fin.forall_fin_two (p := fun a : Fin 2 => _)).mpr ⟨?_, ?_⟩
      · show 3 ≤ k.val * 1 + ((Shape.rowMajor ⟨2, ![4, 1]⟩).symm n 0).val ∧ k.val * 1 + ((Shape.rowMajor ⟨2, ![4, 1]⟩).symm n 0).val - 3 < 4
        rw [h0]
        omega
      · show 0 ≤ l.val * 1 + ((Shape.rowMajor ⟨2, ![4, 1]⟩).symm n 1).val ∧ l.val * 1 + ((Shape.rowMajor ⟨2, ![4, 1]⟩).symm n 1).val - 0 < 512
        rw [h1]
        omega
    · refine (eq_ix2 _).trans (congrArg₂ ix2 (Fin.ext ?_) (Fin.ext ?_))
      · show k.val * 1 + ((Shape.rowMajor ⟨2, ![4, 1]⟩).symm n 0).val - 3 = k.val + n.val - 3
        rw [h0, mul_one]
      · show l.val * 1 + ((Shape.rowMajor ⟨2, ![4, 1]⟩).symm n 1).val - 0 = l.val
        rw [h1]
        omega
  · rw [dif_neg h]
    refine (dif_neg fun ha => h ?_).trans ?_
    · have := (ha 0).1
      have : 3 ≤ k.val * 1 + ((Shape.rowMajor ⟨2, ![4, 1]⟩).symm n 0).val := this
      rw [h0] at this
      omega
    · rfl

theorem backward_fold (k : Fin 4) (l : Fin 512) : backward y (ix2 k l)
    = (List.finRange 4).foldl (fun r n => r + if h : k.val + n.val < 4 then y (ix2 ⟨k.val + n.val, h⟩ l) else 0) 0 := by
  unfold backward Host.reduceWindowAdd
  rw [Ideal.hostReduceWindowAdd_def]
  unfold Ideal.hostReduceWindowAdd Host.reduceWindow
  rw [show (broadcastInDim S_ ![] bcast_S_S_ (constant S_ .f32 0x00000000#32) : FVec Ideal S_ .f32) (Shape.Idx.first h_S_) = 0 from Ideal.ofBits_zero_f32]
  refine congrArg (fun f => (List.finRange 4).foldl f 0) (funext fun r => funext fun n => ?_)
  obtain ⟨h0, h1⟩ := places n
  refine congrArg (fun v : EReal => r + v) ?_
  by_cases h : k.val + n.val < 4
  · rw [dif_pos h]
    refine (dif_pos ?_).trans (congrArg y ?_)
    · refine (Fin.forall_fin_two (p := fun a : Fin 2 => _)).mpr ⟨?_, ?_⟩
      · show 0 ≤ k.val * 1 + ((Shape.rowMajor ⟨2, ![4, 1]⟩).symm n 0).val ∧ k.val * 1 + ((Shape.rowMajor ⟨2, ![4, 1]⟩).symm n 0).val - 0 < 4
        rw [h0]
        omega
      · show 0 ≤ l.val * 1 + ((Shape.rowMajor ⟨2, ![4, 1]⟩).symm n 1).val ∧ l.val * 1 + ((Shape.rowMajor ⟨2, ![4, 1]⟩).symm n 1).val - 0 < 512
        rw [h1]
        omega
    · refine (eq_ix2 _).trans (congrArg₂ ix2 (Fin.ext ?_) (Fin.ext ?_))
      · show k.val * 1 + ((Shape.rowMajor ⟨2, ![4, 1]⟩).symm n 0).val - 0 = k.val + n.val
        rw [h0]
        omega
      · show l.val * 1 + ((Shape.rowMajor ⟨2, ![4, 1]⟩).symm n 1).val - 0 = l.val
        rw [h1]
        omega
  · rw [dif_neg h]
    refine (dif_neg fun ha => h ?_).trans ?_
    · have := (ha 0).2
      have : k.val * 1 + ((Shape.rowMajor ⟨2, ![4, 1]⟩).symm n 0).val - 0 < 4 := this
      rw [h0] at this
      omega
    · rfl

theorem running_at (l : Fin 512) : running y (ix2 0 l) = y (ix2 0 l) ∧ running y (ix2 1 l) = y (ix2 0 l) + y (ix2 1 l)
    ∧ running y (ix2 2 l) = y (ix2 0 l) + y (ix2 1 l) + y (ix2 2 l) ∧ running y (ix2 3 l) = y (ix2 0 l) + y (ix2 1 l) + y (ix2 2 l) + y (ix2 3 l) := by
  refine ⟨?_, ?_, ?_, ?_⟩ <;> rw [running_fold] <;> rw [show List.finRange 4 = [0, 1, 2, 3] from rfl] <;> simp

theorem backward_at (l : Fin 512) : backward y (ix2 0 l) = y (ix2 0 l) + y (ix2 1 l) + y (ix2 2 l) + y (ix2 3 l)
    ∧ backward y (ix2 1 l) = y (ix2 1 l) + y (ix2 2 l) + y (ix2 3 l) ∧ backward y (ix2 2 l) = y (ix2 2 l) + y (ix2 3 l) ∧ backward y (ix2 3 l) = y (ix2 3 l) := by
  refine ⟨?_, ?_, ?_, ?_⟩ <;> rw [backward_fold] <;> rw [show List.finRange 4 = [0, 1, 2, 3] from rfl] <;> simp

/-! ## The same numbers over the reals -/

/-- The softmax of a column from its exponentials. -/
def prob (e : Fin 4 → ℝ) (k : Fin 4) : ℝ := e k / ∑ j, e j

/-- The bounds of a column. -/
def bound (p : Fin 4 → ℝ) : Fin 4 → ℝ := ![0, p 1, p 1 + p 2, p 1 + p 2 + p 3]

/-- The floor, the number nearest 1e-30. -/
def least : ℝ := 332307 / 2 ^ 118

/-- The gradient of one bound's three saved values. -/
def slope (b da dc dl : ℝ) : ℝ := (if least < b then da / max b least else 0) - dc / (1 - b) - dl

/-- The gradient at the softmax of a column from that at its bounds. -/
def below (g : Fin 4 → ℝ) : Fin 4 → ℝ := ![0, g 1 + g 2 + g 3, g 2 + g 3, g 3]

/-- The gradient at the logits of a column. -/
def grad (e g : Fin 4 → ℝ) (k : Fin 4) : ℝ := prob e k * (below g k - ∑ j, prob e j * below g j)

theorem ofBits_least : Ideal.ofBits .f32 0x0DA24260#32 = (least : EReal) := by
  simp [Ideal.ofBits, Ideal.ieee, -EReal.coe_mul, least]
  norm_num

theorem least_pos : 0 < least := by norm_num [least]

variable (X : S4x512.Idx → ℝ) (D : S32x512.Idx → ℝ)

theorem top_exists (l : Fin 512) : ∃ M : ℝ, Finset.univ.fold max ⊥ (fun k : Fin 4 => ((X (ix2 k l) : ℝ) : EReal)) = (M : EReal) := by
  obtain ⟨k, h⟩ := fold_attained (fun k : Fin 4 => ((X (ix2 k l) : ℝ) : EReal))
  exact ⟨_, h.symm⟩

/-- The largest logit of a column. -/
def top (l : Fin 512) : ℝ := (top_exists X l).choose

theorem top_eq (l : Fin 512) : Finset.univ.fold max ⊥ (fun k : Fin 4 => ((X (ix2 k l) : ℝ) : EReal)) = (top X l : EReal) := (top_exists X l).choose_spec

/-- The exponentials of a column. -/
def ex (l : Fin 512) (k : Fin 4) : ℝ := Real.exp (X (ix2 k l) - top X l)

theorem sum_pos (l : Fin 512) : 0 < ∑ k, ex X l k := Finset.sum_pos (fun _ _ => Real.exp_pos _) Finset.univ_nonempty

theorem prob_pos (l : Fin 512) (k : Fin 4) : 0 < prob (ex X l) k := div_pos (Real.exp_pos _) (sum_pos X l)

theorem prob_sum (l : Fin 512) : prob (ex X l) 0 + prob (ex X l) 1 + prob (ex X l) 2 + prob (ex X l) 3 = 1 := by
  have h := (sum_pos X l).ne'
  have e : ∑ k, prob (ex X l) k = 1 := by
    unfold prob
    rw [← Finset.sum_div, div_self h]
  rw [← e, Fin.sum_univ_four]

theorem bound_lt (l : Fin 512) (k : Fin 4) : bound (prob (ex X l)) k < 1 := by
  have h := prob_sum X l
  have h0 := prob_pos X l 0
  have h1 := prob_pos X l 1
  have h2 := prob_pos X l 2
  have h3 := prob_pos X l 3
  fin_cases k <;> simp [bound] <;> linarith

theorem expo_at (k : Fin 4) (l : Fin 512) : expo (fun i => ((X i : ℝ) : EReal)) (ix2 k l) = (ex X l k : EReal) := by
  pointwise [expo]
  rw [ofBits_bot, top_eq, max_eq_right bot_le, ← EReal.coe_sub, Ideal.exp_coe]
  rfl

theorem total_at (l : Fin 512) : total (fun i => ((X i : ℝ) : EReal)) (ix2 0 l) = ((∑ k, ex X l k : ℝ) : EReal) := by
  pointwise [total, expo_at]
  rw [Common.coe_sum]

theorem soft_at (k : Fin 4) (l : Fin 512) : soft (fun i => ((X i : ℝ) : EReal)) (ix2 k l) = (prob (ex X l) k : EReal) := by
  pointwise [soft, totals, total_at, expo_at]
  rw [Common.div_real _ _ (sum_pos X l).ne']
  rfl

theorem bounds_at {l : Fin 512} (p : Fin 4 → ℝ) (h : ∀ k, y (ix2 k l) = (p k : EReal)) (k : Fin 4) : bounds y (ix2 k l) = (bound p k : EReal) := by
  obtain ⟨h0, h1, h2, h3⟩ := running_at y l
  pointwise [bounds]
  fin_cases k
  · refine (congrArg (· - y (ix2 0 l)) h0).trans ?_
    simp only [h, ← EReal.coe_sub]
    exact congrArg _ (by simp [bound])
  · refine (congrArg (· - y (ix2 0 l)) h1).trans ?_
    simp only [h, ← EReal.coe_sub, ← EReal.coe_add]
    exact congrArg _ (by simp [bound])
  · refine (congrArg (· - y (ix2 0 l)) h2).trans ?_
    simp only [h, ← EReal.coe_sub, ← EReal.coe_add]
    exact congrArg _ (by simp [bound]; ring)
  · refine (congrArg (· - y (ix2 0 l)) h3).trans ?_
    simp only [h, ← EReal.coe_sub, ← EReal.coe_add]
    exact congrArg _ (by simp [bound]; ring)

/-- The gradient of a bound's three values from the cotangents' rows. -/
def slopes (l : Fin 512) (k : Fin 4) : ℝ :=
  slope (bound (prob (ex X l)) k) (D (ix2 ⟨k.val * 8, by omega⟩ l)) (D (ix2 ⟨k.val * 8 + 1, by omega⟩ l)) (D (ix2 ⟨k.val * 8 + 2, by omega⟩ l))

theorem slope_eq (b da dc dl : ℝ) (hb : b < 1) (hf : b ≠ least) :
    (-(dl : EReal) + -Ideal.div (dc : EReal) (-(b : EReal) + 1) + Ideal.div (da : EReal) (max (b : EReal) (least : EReal)) *
      if (least : EReal) < (b : EReal) then 1 else if (b : EReal) = (least : EReal) then Ideal.ofBits .f32 0x3F000000#32 else 0) = (slope b da dc dl : EReal) := by
  have hm : max b least ≠ 0 := (lt_of_lt_of_le least_pos (le_max_right _ _)).ne'
  rw [show -(b : EReal) + 1 = ((1 - b : ℝ) : EReal) by rw [← EReal.coe_neg, ← EReal.coe_one, ← EReal.coe_add]; exact congrArg _ (by ring),
    Common.div_real _ _ (by linarith), ← EReal.coe_strictMono.monotone.map_max, Common.div_real _ _ hm]
  rw [if_congr EReal.coe_lt_coe_iff rfl rfl, if_neg (fun h => hf (EReal.coe_injective h))]
  unfold slope
  by_cases h : least < b
  · rw [if_pos h, if_pos h, mul_one, ← EReal.coe_neg, ← EReal.coe_neg, ← EReal.coe_add, ← EReal.coe_add]
    exact congrArg _ (by ring)
  · rw [if_neg h, if_neg h, mul_zero, add_zero, ← EReal.coe_neg, ← EReal.coe_neg, ← EReal.coe_add]
    exact congrArg _ (by ring)

theorem rowGrad_at {l : Fin 512} {k : Fin 4} {b : ℝ} (h : y (ix2 k l) = (b : EReal)) (hb : b < 1) (hf : b ≠ least) :
    rowGrad (fun i => ((D i : ℝ) : EReal)) y (ix2 k l)
      = (slope b (D (ix2 ⟨k.val * 8, by omega⟩ l)) (D (ix2 ⟨k.val * 8 + 1, by omega⟩ l)) (D (ix2 ⟨k.val * 8 + 2, by omega⟩ l)) : EReal) := by
  pointwise [rowGrad, part, ones, floors]
  rw [h, ofBits_least]
  exact slope_eq b _ _ _ hb hf

theorem down_at {l : Fin 512} (g : Fin 4 → ℝ) (h : ∀ k, y (ix2 k l) = (g k : EReal)) (k : Fin 4) : down y (ix2 k l) = (below g k : EReal) := by
  obtain ⟨h0, h1, h2, h3⟩ := backward_at y l
  pointwise [down]
  fin_cases k
  · refine (congrArg₂ (· + ·) (dif_pos Nat.one_pos) h0).trans ?_
    simp only [h, Fin.sum_univ_four, Finset.univ_unique, Finset.sum_singleton, ← EReal.coe_neg, ← EReal.coe_add]
    exact congrArg _ (by simp [below]; ring)
  · refine (congrArg₂ (· + ·) (dif_neg (by decide)) h1).trans ?_
    simp only [h, ← EReal.coe_add, zero_add]
    exact congrArg _ (by simp [below])
  · refine (congrArg₂ (· + ·) (dif_neg (by decide)) h2).trans ?_
    simp only [h, ← EReal.coe_add, zero_add]
    exact congrArg _ (by simp [below])
  · refine (congrArg₂ (· + ·) (dif_neg (by decide)) h3).trans ?_
    simp only [h, ← EReal.coe_add, zero_add]
    exact congrArg _ (by simp [below])

theorem logitGrad_at {l : Fin 512} {s : FVec Ideal S1x512 .f32} {g : FVec Ideal S4x512 .f32} (e w : Fin 4 → ℝ) (he : ∀ k, y (ix2 k l) = (e k : EReal))
    (hs : s (ix2 0 l) = ((∑ k, e k : ℝ) : EReal)) (hg : ∀ k, g (ix2 k l) = (below w k : EReal)) (hp : ∑ k, e k ≠ 0) (k : Fin 4) :
    logitGrad y s g (ix2 k l) = (grad e w k : EReal) := by
  pointwise [logitGrad]
  simp only [hs, hg, he]
  rw [Common.div_real _ _ hp, ← EReal.coe_mul, ← EReal.coe_one, Common.div_real _ _ (mul_ne_zero hp hp)]
  simp only [← EReal.coe_mul, ← Common.coe_sum, ← EReal.coe_neg, ← EReal.coe_add]
  refine congrArg _ ?_
  simp only [Finset.univ_unique, Finset.sum_singleton, grad, prob]
  rw [show ∑ j, e j / (∑ j, e j) * below w j = ∑ j, below w j * (1 / ((∑ k, e k) * ∑ k, e k)) * e j * ∑ k, e k from
    Finset.sum_congr rfl fun j _ => by field_simp, ← Finset.sum_mul]
  field_simp
  ring

/-- The result: the gradient's four rows, then four of zeros. -/
def result : FVec Ideal S8x512 .f32 := fun i =>
  if h : (i 0).val < 4 then ((grad (ex X (i 1)) (slopes X D (i 1)) ⟨(i 0).val, h⟩ : ℝ) : EReal) else 0

/-- No bound is the floor. -/
def Off : Prop := ∀ l k, bound (prob (ex X l)) k ≠ least

theorem res (m : (ℓ : Loc nD τ sig) → Buf (Elt Ideal) ℓ) (c : Dev nD) (hx : m ((c.tc : Thread nD τ).loc main_arg0) = fun i => ((X i : ℝ) : EReal))
    (hd : m ((c.tc : Thread nD τ).loc main_arg1) = fun i => ((D i : ℝ) : EReal)) (ho : Off X) : res_main_v86 m c = result X D := by
  rw [as_grad, hx, hd]
  funext i
  obtain ⟨r, l, rfl⟩ : ∃ (r : Fin 8) (l : Fin 512), i = ix2 r l := ⟨i 0, i 1, eq_ix2 i⟩
  pointwise [padded]
  show _ = if h : r.val < 4 then _ else _
  by_cases h : r.val < 4
  · rw [dif_pos h, dif_pos h]
    exact logitGrad_at _ (ex X l) (slopes X D l) (fun k => expo_at X k l) (total_at X l)
      (down_at _ (slopes X D l) fun k => rowGrad_at _ D (bounds_at _ (prob (ex X l)) (fun k => soft_at X k l) k) (bound_lt X l k) (ho l k)) (sum_pos X l).ne' _
  · rw [dif_neg h, dif_neg h]
    exact (by simp [FloatOps.sitofp] : (FloatOps.sitofp (F := Ideal) .f32 0#32 : EReal) = 0)

end Cert.LbRefIdeal.RefValue

end
-- ==== Proof.LbOff.lean ====
/-
  The precondition of the lower bounds' gradient: no bound of the arguments it admits is the floor.
-/
module

public import proofs.«01_k».proof.Pre_off_floor
public import proofs.«01_k».proof.Proof.LbReference

@[expose] public section

set_option maxRecDepth 16384

noncomputable section

namespace Cert.LbRefIdeal.RefValue

open Cert.Pre_off_floor Idealize.SL.Sem Idealize.ShloMosaic Idealize.ShloMosaic.TcCoe
open Cert.Attention hiding prob

variable [Cert.Pre_off_floor.Facts] (X : Pre_off_floor.S4x512.Idx → ℝ) (d : FVec Ideal Pre_off_floor.S32x512 .f32)

/-- The precondition's softmax. -/
def sm (x : FVec Ideal Pre_off_floor.S4x512 .f32) : FVec Ideal Pre_off_floor.S4x512 .f32 :=
  have top := broadcastInDim Pre_off_floor.S4x512 ![0, 1] Facts.bcast_S1x512_S4x512_0_1 (broadcastInDim Pre_off_floor.S1x512 ![1] Facts.bcast_S512_S1x512_1
    (maximumf (broadcastInDim Pre_off_floor.S512 ![] Facts.bcast_S_S512 (constant Pre_off_floor.S_ .f32 0xFF800000#32))
      (Host.reduce FloatOps.maximumf x (constant Pre_off_floor.S_ .f32 0xFF800000#32) Facts.reducesTo_S4x512_S512_d0 Facts.h_S_)))
  Host.divf (Host.exp (subf x top)) (broadcastInDim Pre_off_floor.S4x512 ![0, 1] Facts.bcast_S1x512_S4x512_0_1 (broadcastInDim Pre_off_floor.S1x512 ![1] Facts.bcast_S512_S1x512_1
    (Host.reduceAdd (Host.exp (subf x top)) (constant Pre_off_floor.S_ .f32 0x00000000#32) Facts.reducesTo_S4x512_S512_d0 Facts.h_S_)))

/-- A row of it. -/
def row (o : ℕ) (h : Pre_off_floor.S4x512.Slices ![o, 0] Pre_off_floor.S1x512) (x : FVec Ideal Pre_off_floor.S4x512 .f32) : FVec Ideal Pre_off_floor.S512 .f32 :=
  shapeCast Pre_off_floor.S512 (extractStridedSlice Pre_off_floor.S1x512 ![o, 0] (sm x) h) Facts.shapeCasts_S1x512_S512

/-- The floor, for every column. -/
def line : FVec Ideal Pre_off_floor.S512 .f32 := broadcastInDim Pre_off_floor.S512 ![] Facts.bcast_S_S512 (constant Pre_off_floor.S_ .f32 0x0DA24260#32)

theorem conditions (x : FVec Ideal Pre_off_floor.S4x512 .f32) :
    (fn x d).2.2 = (cmpf .une (row 1 Facts.slices_S4x512_S1x512_1_0 x) line,
      cmpf .une (addf (row 1 Facts.slices_S4x512_S1x512_1_0 x) (row 2 Facts.slices_S4x512_S1x512_2_0 x)) line,
      cmpf .une (addf (addf (row 1 Facts.slices_S4x512_S1x512_1_0 x) (row 2 Facts.slices_S4x512_S1x512_2_0 x)) (row 3 Facts.slices_S4x512_S1x512_3_0 x)) line) := rfl

theorem sm_at (k : Fin 4) (l : Fin 512) : sm (fun i => ((X i : ℝ) : EReal)) (ix2 k l) = (prob (ex X l) k : EReal) := by
  have he : ∀ j : Fin 4, Ideal.exp (((X (ix2 j l) : ℝ) : EReal) - max (Ideal.ofBits .f32 0xFF800000#32) (Finset.univ.fold max (Ideal.ofBits .f32 0xFF800000#32) fun x : Fin 4 => ((X (ix2 x l) : ℝ) : EReal)))
      = (ex X l j : EReal) := fun j => by
    rw [ofBits_bot, top_eq, max_eq_right bot_le, ← EReal.coe_sub, Ideal.exp_coe]
    rfl
  pointwise [sm]
  simp only [he]
  rw [← Common.coe_sum, Common.div_real _ _ (sum_pos X l).ne']
  rfl

theorem row_at (o : Fin 4) (h : Pre_off_floor.S4x512.Slices ![o.val, 0] Pre_off_floor.S1x512) (l : Fin 512) :
    row o.val h (fun i => ((X i : ℝ) : EReal)) (ix1 l) = (prob (ex X l) o : EReal) := by
  pointwise [row]
  exact sm_at X o l

theorem apart {a : FVec Ideal Pre_off_floor.S512 .f32} (l : Fin 512) (v : ℝ) (h : cmpf .une a line = fun _ => 1#1) (ha : a (ix1 l) = (v : EReal)) : v ≠ least := by
  have := congrFun h (ix1 l)
  pointwise [line] at this
  rw [ha, ofBits_least] at this
  rintro rfl
  simp at this

/-- At arguments that meet the precondition no bound is the floor. -/
theorem off_of (h1 : (fn (fun i => ((X i : ℝ) : EReal)) d).2.2.1 = fun _ => 1#1) (h2 : (fn (fun i => ((X i : ℝ) : EReal)) d).2.2.2.1 = fun _ => 1#1)
    (h3 : (fn (fun i => ((X i : ℝ) : EReal)) d).2.2.2.2 = fun _ => 1#1) : Off X := by
  rw [conditions] at h1 h2 h3
  intro l k
  have r1 := row_at X 1 Facts.slices_S4x512_S1x512_1_0 l
  have r2 := row_at X 2 Facts.slices_S4x512_S1x512_2_0 l
  have r3 := row_at X 3 Facts.slices_S4x512_S1x512_3_0 l
  have s2 := (congrArg₂ (· + ·) r1 r2).trans (EReal.coe_add _ _).symm
  have s3 := (congrArg₂ (· + ·) s2 r3).trans (EReal.coe_add _ _).symm
  fin_cases k
  · exact least_pos.ne
  · exact apart (a := row 1 Facts.slices_S4x512_S1x512_1_0 fun i => ((X i : ℝ) : EReal)) l _ h1 r1
  · exact apart (a := addf _ _) l _ h2 s2
  · exact apart (a := addf _ _) l _ h3 s3

end Cert.LbRefIdeal.RefValue

end
-- ==== Proof.LbValue.lean ====
/-
  The kernel of the lower bounds' gradient: the four rows it stores are those of the reference, over zeros.
-/
module

public import proofs.«01_k».proof.Proof.LbReference
public import proofs.«01_k».proof.Proof.Stores
public import proofs.«01_k».proof.Proof.Gen.LbIdeal.Value

@[expose] public section

set_option maxRecDepth 16384

noncomputable section

namespace Cert.LbIdeal.RefValue

open Cert.LbIdeal Cert.LbIdeal.Gen Cert.LbIdeal.Value Idealize.SL.Sem Idealize.ShloMosaic Idealize.ShloMosaic.TcCoe
open Cert.Attention hiding prob
open Idealize.ShloMosaic.Pipeline (Dat)
open Cert.LbRefIdeal.RefValue (prob bound least slope below grad ex top top_eq slopes result Off sum_pos bound_lt ofBits_least least_pos)

variable (X : S4x512.Idx → ℝ) (D : S32x512.Idx → ℝ)

/-- The kernel's softmax. -/
theorem soft_at (k : Fin 4) (l : Fin 512) : k0_pay5 (F := Ideal) (fun i => ((X i : ℝ) : EReal)) (ix2 k l) = (prob (ex X l) k : EReal) := by
  have he : ∀ j : Fin 4, Ideal.exp (((X (ix2 j l) : ℝ) : EReal) - Finset.univ.fold max (Ideal.ofBits .f32 0xFF800000#32) fun x : Fin 4 => ((X (ix2 x l) : ℝ) : EReal))
      = (ex X l j : EReal) := fun j => by
    rw [ofBits_bot, top_eq, ← EReal.coe_sub, Ideal.exp_coe]
    rfl
  pointwise [k0_pay5]
  simp only [he]
  rw [← Common.coe_sum, Common.div_real _ _ (sum_pos X l).ne']
  rfl

/-- The second bound, and the two after it. -/
def second (x : FVec Ideal S4x512 .f32) : FVec Ideal S1x512 .f32 := fun i => k0_pay6 (F := Ideal) x i - k0_pay5 (F := Ideal) x (ix2 0 (i 1))

theorem second_at (l : Fin 512) : second (fun i => ((X i : ℝ) : EReal)) (ix2 0 l) = (bound (prob (ex X l)) 1 : EReal) := by
  pointwise [second, k0_pay6]
  simp only [soft_at, ← EReal.coe_add, ← EReal.coe_sub]
  exact congrArg _ (by simp [bound])

theorem third_at (l : Fin 512) : k0_pay8 (F := Ideal) (fun i => ((X i : ℝ) : EReal)) (ix2 0 l) = (bound (prob (ex X l)) 2 : EReal) := by
  pointwise [k0_pay8, k0_pay7, k0_pay6]
  simp only [soft_at, ← EReal.coe_add, ← EReal.coe_sub]
  exact congrArg _ (by simp [bound]; ring)

theorem fourth_at (l : Fin 512) : k0_pay9 (F := Ideal) (fun i => ((X i : ℝ) : EReal)) (ix2 0 l) = (bound (prob (ex X l)) 3 : EReal) := by
  pointwise [k0_pay9, k0_pay7, k0_pay6]
  simp only [soft_at, ← EReal.coe_add, ← EReal.coe_sub]
  exact congrArg _ (by simp [bound]; ring)

theorem slope_eq (b da dc dl : ℝ) (hb : b < 1) :
    (if (least : EReal) < (b : EReal) then Ideal.div (da : EReal) (max (b : EReal) (least : EReal)) else 0) - Ideal.div (dc : EReal) (1 - (b : EReal)) - (dl : EReal)
      = (slope b da dc dl : EReal) := by
  have hm : max b least ≠ 0 := (lt_of_lt_of_le least_pos (le_max_right _ _)).ne'
  rw [show 1 - (b : EReal) = ((1 - b : ℝ) : EReal) by rw [← EReal.coe_one, ← EReal.coe_sub],
    Common.div_real _ _ (by linarith), ← EReal.coe_strictMono.monotone.map_max, Common.div_real _ _ hm, if_congr EReal.coe_lt_coe_iff rfl rfl]
  unfold LbRefIdeal.RefValue.slope
  split_ifs <;> simp only [← EReal.coe_zero, ← EReal.coe_sub]

/-- The gradient of one bound, from the bound's row and the three cotangents' rows. -/
theorem slope_at {b a d e : FVec Ideal S1x512 .f32} {l : Fin 512} (v x y z : ℝ) (hb : b (ix2 0 l) = (v : EReal)) (ha : a (ix2 0 l) = (x : EReal))
    (hd : d (ix2 0 l) = (y : EReal)) (he : e (ix2 0 l) = (z : EReal)) (hv : v < 1) : k0_pay11 (F := Ideal) b a d e (ix2 0 l) = (slope v x y z : EReal) := by
  pointwise [k0_pay11]
  rw [hb, ha, hd, he, ofBits_least]
  exact slope_eq v x y z hv

theorem slope_last (b a d e : FVec Ideal S1x512 .f32) : k0_pay12 (F := Ideal) b a d e = k0_pay11 (F := Ideal) b a d e := rfl

theorem slope_first (x : FVec Ideal S4x512 .f32) (a d e : FVec Ideal S1x512 .f32) (l : Fin 512) :
    k0_pay10 (F := Ideal) x a d e (ix2 0 l) = k0_pay11 (F := Ideal) (second x) a d e (ix2 0 l) := by
  pointwise [k0_pay10, k0_pay11, second]

/-- What the kernel stores in a row of the gradient, from the softmax and the bounds' gradients. -/
theorem rows_at {p : FVec Ideal S4x512 .f32} {b2 b3 s a2 d2 e2 a3 d3 e3 : FVec Ideal S1x512 .f32} {l : Fin 512} (e g : Fin 4 → ℝ) (hp : ∀ k, p (ix2 k l) = (prob e k : EReal))
    (h1 : s (ix2 0 l) = (g 1 : EReal)) (h2 : k0_pay11 (F := Ideal) b2 a2 d2 e2 (ix2 0 l) = (g 2 : EReal)) (h3 : k0_pay12 (F := Ideal) b3 a3 d3 e3 (ix2 0 l) = (g 3 : EReal)) :
    k0_pay1 (F := Ideal) p k0_pay13 (k0_pay16 (F := Ideal) p b2 b3 s a2 d2 e2 a3 d3 e3) (ix2 0 l) = (grad e g 0 : EReal)
    ∧ k0_pay2 (F := Ideal) p (k0_pay14 (F := Ideal) b2 b3 s a2 d2 e2 a3 d3 e3) (k0_pay16 (F := Ideal) p b2 b3 s a2 d2 e2 a3 d3 e3) (ix2 0 l) = (grad e g 1 : EReal)
    ∧ k0_pay3 (F := Ideal) p (k0_pay15 (F := Ideal) b2 b3 a2 d2 e2 a3 d3 e3) (k0_pay16 (F := Ideal) p b2 b3 s a2 d2 e2 a3 d3 e3) (ix2 0 l) = (grad e g 2 : EReal)
    ∧ k0_pay4 (F := Ideal) p (k0_pay12 (F := Ideal) b3 a3 d3 e3) (k0_pay16 (F := Ideal) p b2 b3 s a2 d2 e2 a3 d3 e3) (ix2 0 l) = (grad e g 3 : EReal) := by
  have hz : k0_pay13 (F := Ideal) (ix2 0 l) = 0 := by pointwise [k0_pay13]
  have h14 : k0_pay14 (F := Ideal) b2 b3 s a2 d2 e2 a3 d3 e3 (ix2 0 l) = (below g 1 : EReal) := by
    pointwise [k0_pay14]
    rw [h1, h2, h3, ← EReal.coe_add, ← EReal.coe_add]
    rfl
  have h15 : k0_pay15 (F := Ideal) b2 b3 a2 d2 e2 a3 d3 e3 (ix2 0 l) = (below g 2 : EReal) := by
    pointwise [k0_pay15]
    rw [h2, h3, ← EReal.coe_add]
    rfl
  have hdot : k0_pay16 (F := Ideal) p b2 b3 s a2 d2 e2 a3 d3 e3 (ix2 0 l) = ((∑ j : Fin 4, prob e j * below g j : ℝ) : EReal) := by
    pointwise [k0_pay16]
    rw [h14, h15, h3, hz]
    simp only [hp, mul_zero, zero_add, ← EReal.coe_mul, ← EReal.coe_add]
    exact congrArg _ (by simp [Fin.sum_univ_four, below])
  refine ⟨?_, ?_, ?_, ?_⟩
  · pointwise [k0_pay1]
    rw [hp, hdot, hz, ← EReal.coe_zero, ← EReal.coe_sub, ← EReal.coe_mul]
    rfl
  · pointwise [k0_pay2]
    rw [hp, hdot, h14, ← EReal.coe_sub, ← EReal.coe_mul]
    rfl
  · pointwise [k0_pay3]
    rw [hp, hdot, h15, ← EReal.coe_sub, ← EReal.coe_mul]
    rfl
  · pointwise [k0_pay4]
    rw [hp, hdot, h3, ← EReal.coe_sub, ← EReal.coe_mul]
    rfl

variable (m : (ℓ : Loc nD τ sig) → Buf (Elt Ideal) ℓ) (c : Dev nD)

theorem idx (t : Fin cfg0.N) : win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0]) t

theorem rd0 (t : Fin cfg0.N) : iblk m c 0 t = m ((c : Thread nD τ).loc main_arg1) := by
  funext i
  obtain ⟨r, l, rfl⟩ : ∃ (r : Fin 32) (l : Fin 512), i = ix2 r l := ⟨i 0, i 1, eq_ix2 i⟩
  blk_point [iblk, V_main_arg1, idx t]

theorem rd1 (t : Fin cfg0.N) : iblk m c 1 t = m ((c : Thread nD τ).loc main_arg0) := by
  funext i
  obtain ⟨r, l, rfl⟩ : ∃ (r : Fin 4) (l : Fin 512), i = ix2 r l := ⟨i 0, i 1, eq_ix2 i⟩
  blk_point [iblk, V_main_arg0, idx t]

/-- The four rows over the zeros. -/
theorem stored {w0 w1 w2 w3 : S1x512.Idx → Elt Ideal .f32} (r : Fin 8) (l : Fin 512) (h0 : w0 (ix2 0 l) = (grad (ex X l) (slopes X D l) 0 : EReal))
    (h1 : w1 (ix2 0 l) = (grad (ex X l) (slopes X D l) 1 : EReal)) (h2 : w2 (ix2 0 l) = (grad (ex X l) (slopes X D l) 2 : EReal))
    (h3 : w3 (ix2 0 l) = (grad (ex X l) (slopes X D l) 3 : EReal)) :
    View.canon (Val := Elt Ideal) [⟨Rect.unit (s := S8x512) ![3, 0] ![1, 512] inb_S8x512_S1x512_3_0, w3⟩, ⟨Rect.unit (s := S8x512) ![2, 0] ![1, 512] inb_S8x512_S1x512_2_0, w2⟩,
      ⟨Rect.unit (s := S8x512) ![1, 0] ![1, 512] inb_S8x512_S1x512_1_0, w1⟩, ⟨Rect.unit (s := S8x512) ![0, 0] ![1, 512] inb_S8x512_S1x512_0_0, w0⟩,
      ⟨Rect.unit (s := S8x512) ![0, 0] ![8, 512] inb_S8x512_S8x512_0_0, k0_pay17 (F := Ideal)⟩] (ix2 r l) = result X D (ix2 r l) := by
  by_cases h : r.val < 4
  · refine Eq.trans ?_ (dif_pos h).symm
    obtain ⟨n, hn⟩ := r
    have : n = 0 ∨ n = 1 ∨ n = 2 ∨ n = 3 := by simp only at h; omega
    rcases this with rfl | rfl | rfl | rfl
    · rw [Stores.canon_other _ _ _ _ _ (.inl (by simp)), Stores.canon_other _ _ _ _ _ (.inl (by simp)), Stores.canon_other _ _ _ _ _ (.inl (by simp)),
        Stores.canon_row _ _ _ _ 0 _ rfl]
      exact h0
    · rw [Stores.canon_other _ _ _ _ _ (.inl (by simp)), Stores.canon_other _ _ _ _ _ (.inl (by simp)), Stores.canon_row _ _ _ _ 0 _ rfl]
      exact h1
    · rw [Stores.canon_other _ _ _ _ _ (.inl (by simp)), Stores.canon_row _ _ _ _ 0 _ rfl]
      exact h2
    · rw [Stores.canon_row _ _ _ _ 0 _ rfl]
      exact h3
  · refine Eq.trans ?_ (dif_neg h).symm
    rw [Stores.canon_other _ _ _ _ _ (.inr (by omega)), Stores.canon_other _ _ _ _ _ (.inr (by omega)), Stores.canon_other _ _ _ _ _ (.inr (by omega)),
      Stores.canon_other _ _ _ _ _ (.inr (by omega)), Stores.canon_row _ _ _ _ r _ (by omega)]
    pointwise [k0_pay17]

/-- What the body leaves in the result's block, entry by entry. -/
theorem body_at {M0 : Memref sig .tc .vmem S32x512 .f32} (w0 : M0.IsWhole) {M1 : Memref sig .tc .vmem S4x512 .f32} (w1 : M1.IsWhole) {M2 : Memref sig .tc .vmem S8x512 .f32}
    (w2 : M2.IsWhole) (r : Fin 8) (l : Fin 512) : out0_A_2 (F := Ideal) c M0 w0 M1 w1 M2 w2 (fun i => ((D i : ℝ) : EReal)) (fun i => ((X i : ℝ) : EReal)) (ix2 r l) = result X D (ix2 r l) := by
  frame_out
  have hl : ∀ (o : ℕ) (inb : ∀ i, (![o, 0] : Fin 2 → ℕ) i + (![1, 512] : Fin 2 → ℕ) i ≤ S32x512.size i) (ho : o < 32),
      View.ld (Val := Elt Ideal) (e' := .f32) (fun i : S32x512.Idx => ((D i : ℝ) : EReal)) (Rect.unit (s := S32x512) ![o, 0] ![1, 512] inb) (ix2 0 l) = (D (ix2 ⟨o, ho⟩ l) : EReal) :=
    fun o inb ho => Stores.ld_row inb _ ⟨o, ho⟩ 0 l rfl
  obtain ⟨h0, h1, h2, h3⟩ := rows_at (l := l) (ex X l) (slopes X D l) (fun k => soft_at X k l)
    ((slope_first (fun i => ((X i : ℝ) : EReal)) _ _ _ l).trans (slope_at _ _ _ _ (second_at X l) (hl 8 inb_S32x512_S1x512_8_0 (by decide)) (hl 9 inb_S32x512_S1x512_9_0 (by decide))
      (hl 10 inb_S32x512_S1x512_10_0 (by decide)) (bound_lt X l 1)))
    (slope_at _ _ _ _ (third_at X l) (hl 16 inb_S32x512_S1x512_16_0 (by decide)) (hl 17 inb_S32x512_S1x512_17_0 (by decide)) (hl 18 inb_S32x512_S1x512_18_0 (by decide)) (bound_lt X l 2))
    ((congrFun (slope_last _ _ _ _) _).trans (slope_at _ _ _ _ (fourth_at X l) (hl 24 inb_S32x512_S1x512_24_0 (by decide)) (hl 25 inb_S32x512_S1x512_25_0 (by decide))
      (hl 26 inb_S32x512_S1x512_26_0 (by decide)) (bound_lt X l 3)))
  exact stored X D r l h0 h1 h2 h3

theorem final2 (hx : m ((c : Thread nD τ).loc main_arg0) = fun i => ((X i : ℝ) : EReal)) (hd : m ((c : Thread nD τ).loc main_arg1) = fun i => ((D i : ℝ) : EReal)) :
    (dats m 0 c).arrAt 2 cfg0.N = result X D := by
  refine (dats m 0 c).arrAt_eq_of_covers 2 _ (by decide +kernel) fun t hf y => ?_
  blk_simp
  rw [after0_2, outsAt0, rd0, rd1, hx, hd]
  obtain ⟨r, l, rfl⟩ : ∃ (r : Fin 8) (l : Fin 512), y = ix2 r l := ⟨y 0, y 1, eq_ix2 y⟩
  refine Eq.trans (body_at X D c _ _ _ r l) ?_
  blk_ext [idx t]

end Cert.LbIdeal.RefValue

end
-- ==== Proof.ConvfValue.lean ====
/-
  The short convolution and its gate. The kernel walks the rows in blocks of 512 and takes the two rows before a block from the
  sixteen rows above it; the reference shifts the whole array. Both results of the kernel are shown to be the reference's.
-/
module

public import proofs.«01_k».proof.Proof.Common
public import proofs.«01_k».proof.Proof.Stores
public import proofs.«01_k».proof.Proof.Gen.ConvfIdeal.Value
public import proofs.«01_k».proof.Proof.Gen.ConvfRefIdeal.Run
public import Idealize.ShloMosaic.Lib.Pipeline.ValueKit

@[expose] public section

set_option maxRecDepth 16384

noncomputable section

namespace Cert.ConvfRefIdeal.RefValue

open Cert.ConvfRefIdeal Cert.ConvfRefIdeal.Gen Idealize.ShloMosaic Idealize.ShloMosaic.TcCoe Idealize.SL.Sem

/-- The first half of the columns two rows later, and one row later. -/
def sh2 (x : FVec Ideal S16384x5632 .f32) : FVec Ideal S16384x2816 .f32 :=
  concatenate S16384x2816 0 [⟨S2x2816, (broadcastInDim S2x2816 ![] bcast_S_S2x2816 (constant S_ .f32 0x00000000#32))⟩, ⟨S16382x2816, (extractStridedSlice S16382x2816 ![0, 0] (extractStridedSlice S16384x2816 ![0, 0] x slices_S16384x5632_S16384x2816_0_0) slices_S16384x2816_S16382x2816_0_0)⟩] concatenates_S2x2816_S16382x2816_S16384x2816_d0
def sh1 (x : FVec Ideal S16384x5632 .f32) : FVec Ideal S16384x2816 .f32 :=
  concatenate S16384x2816 0 [⟨S1x2816, (broadcastInDim S1x2816 ![] bcast_S_S1x2816 (constant S_ .f32 0x00000000#32))⟩, ⟨S16383x2816, (extractStridedSlice S16383x2816 ![0, 0] (extractStridedSlice S16384x2816 ![0, 0] x slices_S16384x5632_S16384x2816_0_0) slices_S16384x2816_S16383x2816_0_0)⟩] concatenates_S1x2816_S16383x2816_S16384x2816_d0

/-- The three taps, each on every row. -/
def tap0 (w : FVec Ideal S3x2816 .f32) : FVec Ideal S16384x2816 .f32 :=
  broadcastInDim S16384x2816 ![0, 1] bcast_S1x2816_S16384x2816_0_1 (broadcastInDim S1x2816 ![1] bcast_S2816_S1x2816_1 (shapeCast _ (extractStridedSlice S1x2816 ![0, 0] w slices_S3x2816_S1x2816_0_0) shapeCasts_S1x2816_S2816))
def tap1 (w : FVec Ideal S3x2816 .f32) : FVec Ideal S16384x2816 .f32 :=
  broadcastInDim S16384x2816 ![0, 1] bcast_S1x2816_S16384x2816_0_1 (broadcastInDim S1x2816 ![1] bcast_S2816_S1x2816_1 (shapeCast _ (extractStridedSlice S1x2816 ![1, 0] w slices_S3x2816_S1x2816_1_0) shapeCasts_S1x2816_S2816))
def tap2 (w : FVec Ideal S3x2816 .f32) : FVec Ideal S16384x2816 .f32 :=
  broadcastInDim S16384x2816 ![0, 1] bcast_S1x2816_S16384x2816_0_1 (broadcastInDim S1x2816 ![1] bcast_S2816_S1x2816_1 (shapeCast _ (extractStridedSlice S1x2816 ![2, 0] w slices_S3x2816_S1x2816_2_0) shapeCasts_S1x2816_S2816))

/-- The convolution, before the gate. -/
def pre (x : FVec Ideal S16384x5632 .f32) (w : FVec Ideal S3x2816 .f32) (b : FVec Ideal S2816 .f32) : FVec Ideal S16384x2816 .f32 :=
  (addf (addf (addf (mulf (tap0 w) (sh2 x)) (mulf (tap1 w) (sh1 x))) (mulf (tap2 w) (extractStridedSlice S16384x2816 ![0, 0] x slices_S16384x5632_S16384x2816_0_0)))
    (broadcastInDim S16384x2816 ![0, 1] bcast_S1x2816_S16384x2816_0_1 (broadcastInDim S1x2816 ![1] bcast_S2816_S1x2816_1 b)))

/-- The gated convolution. -/
def out (x : FVec Ideal S16384x5632 .f32) (w : FVec Ideal S3x2816 .f32) (b : FVec Ideal S2816 .f32) : FVec Ideal S16384x2816 .bf16 :=
  truncf .bf16 (mulf (mulf (pre x w b) (Host.divf (broadcastInDim S16384x2816 ![] bcast_S_S16384x2816 (constant S_ .f32 0x3F800000#32))
    (addf (broadcastInDim S16384x2816 ![] bcast_S_S16384x2816 (constant S_ .f32 0x3F800000#32)) (Host.exp (Host.negf (pre x w b))))))
    (extractStridedSlice S16384x2816 ![0, 2816] x slices_S16384x5632_S16384x2816_0_2816)) bitsLt_bf16_f32

theorem res0 (m : (ℓ : Loc nD τ sig) → Buf (Elt Ideal) ℓ) (c : Dev nD) :
    Value.res_main_v30 m c = out (m ((c.tc : Thread nD τ).loc main_arg0)) (m ((c.tc : Thread nD τ).loc main_arg1)) (m ((c.tc : Thread nD τ).loc main_arg2)) := by
  rw [Value.res_main_v30]
  rfl

/-- A column of the first half, `k` rows later. -/
def late (x : FVec Ideal S16384x5632 .f32) (k : ℕ) (r : Fin 16384) (l : Fin 2816) : EReal :=
  if h : r.val < k then 0 else x (ix2 ⟨r.val - k, by omega⟩ ⟨l.val, by omega⟩)

theorem sh2_at (x : FVec Ideal S16384x5632 .f32) (r : Fin 16384) (l : Fin 2816) : sh2 x (ix2 r l) = late x 2 r l := by
  pointwise [sh2, late]

theorem sh1_at (x : FVec Ideal S16384x5632 .f32) (r : Fin 16384) (l : Fin 2816) : sh1 x (ix2 r l) = late x 1 r l := by
  pointwise [sh1, late]

/-- The convolution at a row and a column. -/
theorem pre_at (x : FVec Ideal S16384x5632 .f32) (w : FVec Ideal S3x2816 .f32) (b : FVec Ideal S2816 .f32) (r : Fin 16384) (l : Fin 2816) :
    pre x w b (ix2 r l) = w (ix2 0 l) * late x 2 r l + w (ix2 1 l) * late x 1 r l + w (ix2 2 l) * x (ix2 r ⟨l.val, by omega⟩) + b (ix1 l) := by
  rw [← sh2_at, ← sh1_at]
  pointwise [pre, tap0, tap1, tap2]

end Cert.ConvfRefIdeal.RefValue

namespace Cert.ConvfIdeal.RefValue

open Cert.ConvfIdeal Cert.ConvfIdeal.Gen Idealize.ShloMosaic Idealize.ShloMosaic.TcCoe Idealize.SL.Sem
open Idealize.ShloMosaic.Pipeline (Dat)

variable (m : (ℓ : Loc nD τ sig) → Buf (Elt Ideal) ℓ)

theorem first_word : ∀ j : Fin 32, (Scalar.cmpi .eq (BitVec.ofNat 32 j.val) 0#32 = 1#1) = (j.val = 0) := by
  decide

/-- The rows above a block: nothing above the first. -/
theorem edge_at (i : grid0.Coords) (e : FVec Ideal S16x1408 .bf16) (r : Fin 8) (l : Fin 1408) :
    k0_pay4 (F := Ideal) i e (ix2 r l) = if (i 1).val = 0 then 0 else e (ix2 ⟨8 + r.val, by omega⟩ l) := by
  pointwise [k0_pay4]
  rw [Scalar.select]
  exact if_congr (iff_of_eq (first_word (i 1))) rfl rfl

theorem below : ∀ n, n < 8 → ((IntOp.cmpi .slt (BitVec.ofNat 32 n) 2#32 = 1 ↔ n < 2) ∧ (IntOp.cmpi .slt (BitVec.ofNat 32 n) 1#32 = 1 ↔ n < 1)) := by
  decide

/-- The block two rows later, its first two rows from above. -/
theorem two_at (i : grid0.Coords) (e : FVec Ideal S16x1408 .bf16) (x : FVec Ideal S512x1408 .bf16) (r : Fin 512) (l : Fin 1408) :
    k0_pay6 (F := Ideal) i e x (ix2 r l)
      = if h : r.val < 2 then (if (i 1).val = 0 then 0 else e (ix2 ⟨14 + r.val, by omega⟩ l)) else x (ix2 ⟨r.val - 2, by omega⟩ l) := by
  pointwise [k0_pay6, k0_pay5]
  by_cases h8 : r.val < 8
  · rw [dif_pos h8, Scalar.select]
    by_cases h : r.val < 2
    · rw [if_pos ((below r.val h8).1.mpr h), dif_pos h, edge_at]
      exact congrArg (fun q => if (i 1).val = 0 then 0 else e (ix2 q l)) (Fin.ext (show 8 + (r.val + 8 - 2) % 8 = 14 + r.val by omega))
    · rw [if_neg (fun g => h ((below r.val h8).1.mp g)), dif_neg h]
      exact congrArg (fun q => x (ix2 q l)) (Fin.ext (show (r.val + 512 - 2) % 512 = r.val - 2 by omega))
  · rw [dif_neg h8, dif_neg (by omega)]
    exact congrArg (fun q => x (ix2 q l)) (Fin.ext (show (8 + (r.val - 8) + 512 - 2) % 512 = r.val - 2 by omega))

/-- The first two products: the row itself, and the row above it. -/
theorem near_at (i : grid0.Coords) (e : FVec Ideal S16x1408 .bf16) (x : FVec Ideal S512x1408 .bf16) (u v : FVec Ideal S1x1408 .f32) (r : Fin 512) (l : Fin 1408) :
    k0_pay7 (F := Ideal) i e x u v (ix2 r l)
      = u (ix2 0 l) * x (ix2 r l) + v (ix2 0 l) * (if h : r.val < 1 then (if (i 1).val = 0 then 0 else e (ix2 ⟨15 + r.val, by omega⟩ l)) else x (ix2 ⟨r.val - 1, by omega⟩ l)) := by
  pointwise [k0_pay7, k0_pay5]
  congr 2
  by_cases h8 : r.val < 8
  · rw [dif_pos h8, Scalar.select]
    by_cases h : r.val < 1
    · rw [if_pos ((below r.val h8).2.mpr h), dif_pos h, edge_at]
      exact congrArg (fun q => if (i 1).val = 0 then 0 else e (ix2 q l)) (Fin.ext (show 8 + (r.val + 8 - 1) % 8 = 15 + r.val by omega))
    · rw [if_neg (fun g => h ((below r.val h8).2.mp g)), dif_neg h]
      exact congrArg (fun q => x (ix2 q l)) (Fin.ext (show (r.val + 512 - 1) % 512 = r.val - 1 by omega))
  · rw [dif_neg h8, dif_neg (by omega)]
    exact congrArg (fun q => x (ix2 q l)) (Fin.ext (show (8 + (r.val - 8) + 512 - 1) % 512 = r.val - 1 by omega))

/-- The convolution of a block. -/
theorem conv_at (p q s : FVec Ideal S512x1408 .f32) (b : FVec Ideal S1x1408 .f32) (r : Fin 512) (l : Fin 1408) :
    k0_pay1 (F := Ideal) p q s b (ix2 r l) = q (ix2 r l) + s (ix2 r l) * p (ix2 r l) + b (ix2 0 l) := by
  pointwise [k0_pay1]

theorem gated_at (p q s : FVec Ideal S512x1408 .f32) (b : FVec Ideal S1x1408 .f32) (y : FVec Ideal S512x1408 .bf16) (r : Fin 512) (l : Fin 1408) :
    k0_pay3 (F := Ideal) p q s b y (ix2 r l) = k0_pay1 (F := Ideal) p q s b (ix2 r l) * Ideal.div 1 (1 + Ideal.exp (-(k0_pay1 (F := Ideal) p q s b (ix2 r l)))) * y (ix2 r l) := by
  rw [← Common.sigmoid_eq]
  pointwise [k0_pay3]

theorem tap_at (u : FVec Ideal S1x1408 .f32) (r : Fin 512) (l : Fin 1408) : k0_pay8 (F := Ideal) u (ix2 r l) = u (ix2 0 l) := by
  pointwise [k0_pay8]

/-- Where each window's block lies, for the grid point's column half and row block. -/
theorem idx (t : Fin cfg0.N) : win0_0.index t = ![t.val % 32, t.val / 32] ∧ win0_1.index t = ![t.val % 32 * 32 - 1, t.val / 32]
    ∧ win0_2.index t = ![t.val % 32, t.val / 32 + 2] ∧ win0_3.index t = ![0, t.val / 32] ∧ win0_4.index t = ![0, t.val / 32]
    ∧ win0_5.index t = ![t.val % 32, t.val / 32] ∧ win0_6.index t = ![t.val % 32, t.val / 32] ∧ (grid0.coords t 1).val = t.val % 32 :=
  (by decide +kernel : ∀ t : Fin grid0.N, win0_0.index t = ![t.val % 32, t.val / 32] ∧ win0_1.index t = ![t.val % 32 * 32 - 1, t.val / 32]
    ∧ win0_2.index t = ![t.val % 32, t.val / 32 + 2] ∧ win0_3.index t = ![0, t.val / 32] ∧ win0_4.index t = ![0, t.val / 32]
    ∧ win0_5.index t = ![t.val % 32, t.val / 32] ∧ win0_6.index t = ![t.val % 32, t.val / 32] ∧ (grid0.coords t 1).val = t.val % 32) t

/-- Row and column of the whole arrays, and the row of the block above. -/
abbrev at_ (t : Fin cfg0.N) (r : Fin 512) : Fin 16384 := ⟨t.val % 32 * 512 + r.val, by omega⟩
abbrev lane (t : Fin cfg0.N) (l : Fin 1408) : Fin 2816 := ⟨t.val / 32 * 1408 + l.val, by have := (show t.val < 64 from t.isLt); omega⟩
abbrev above (t : Fin cfg0.N) (r : Fin 16) : Fin 16384 := ⟨(t.val % 32 * 32 - 1) * 16 + r.val, by omega⟩
abbrev low (l : Fin 2816) : Fin 5632 := ⟨l.val, by omega⟩
abbrev high (l : Fin 2816) : Fin 5632 := ⟨2816 + l.val, by omega⟩

variable (c : Dev nD)

theorem V_v0 : V m c main_v0 = truncf (F := Ideal) (s := S16384x5632) (φ := .f32) .bf16 (m ((c : Thread nD τ).loc main_arg0)) bitsLt_bf16_f32 := by
  entry_read
  rfl

theorem V_v1 (q : Fin 8) (l : Fin 2816) (z : Fin 3) (h : z.val = q.val) : V m c main_v1 (ix2 q l) = m ((c : Thread nD τ).loc main_arg1) (ix2 z l) := by
  simp only [V, hostOps0, hostOps0_1, hostOps0_2, List.flatten_cons, List.flatten_nil, List.append_nil, List.cons_append, List.nil_append]
  entry_read
  pointwise []
  simp only [StableHlo.TRef.ofBuf, StableHlo.TRef.toBuf, cast_eq]
  pointwise []
  obtain ⟨q, hq⟩ := q
  obtain rfl : z.val = q := h
  rw [dif_pos (show z.val < 3 from z.isLt)]

theorem V_v2 (l : Fin 2816) : V m c main_v2 (ix2 0 l) = m ((c : Thread nD τ).loc main_arg2) (ix1 l) := by
  simp only [V, hostOps0, hostOps0_1, hostOps0_2, List.flatten_cons, List.flatten_nil, List.append_nil, List.cons_append, List.nil_append]
  entry_read
  pointwise []

theorem rd0 (t : Fin cfg0.N) (r : Fin 512) (l : Fin 1408) : iblk m c 0 t (ix2 r l) = m ((c : Thread nD τ).loc main_arg0) (ix2 (at_ t r) (low (lane t l))) := by
  blk_point [iblk, V_v0, idx t]
theorem rd1 (t : Fin cfg0.N) (r : Fin 16) (l : Fin 1408) : iblk m c 1 t (ix2 r l) = m ((c : Thread nD τ).loc main_arg0) (ix2 (above t r) (low (lane t l))) := by
  blk_point [iblk, V_v0, idx t]
theorem rd2 (t : Fin cfg0.N) (r : Fin 512) (l : Fin 1408) : iblk m c 2 t (ix2 r l) = m ((c : Thread nD τ).loc main_arg0) (ix2 (at_ t r) (high (lane t l))) := by
  blk_point [iblk, V_v0, idx t]
theorem rd3 (t : Fin cfg0.N) (q : Fin 8) (l : Fin 1408) (z : Fin 3) (h : z.val = q.val) : iblk m c 3 t (ix2 q l) = m ((c : Thread nD τ).loc main_arg1) (ix2 z (lane t l)) := by
  rw [← V_v1 m c q (lane t l) z h]
  blk_point [iblk, idx t]
theorem rd4 (t : Fin cfg0.N) (l : Fin 1408) : iblk m c 4 t (ix2 0 l) = m ((c : Thread nD τ).loc main_arg2) (ix1 (lane t l)) := by
  rw [← V_v2 m c]
  blk_point [iblk, idx t]

/-- The convolution over a block's arrays. -/
theorem body_at (i : grid0.Coords) (x0 : FVec Ideal S512x1408 .bf16) (x1 : FVec Ideal S16x1408 .bf16) (x2 : FVec Ideal S512x1408 .bf16) (x3 : FVec Ideal S8x1408 .f32)
    (x4 : FVec Ideal S1x1408 .f32) (r : Fin 512) (l : Fin 1408) :
    k0_pay1 (F := Ideal) (k0_pay9 i x0 x1 x2 x3 x4) (k0_pay10 i x0 x1 x2 x3 x4) (k0_pay11 i x0 x1 x2 x3 x4) x4 (ix2 r l)
    = x3 (ix2 2 l) * x0 (ix2 r l) + x3 (ix2 1 l) * (if h : r.val < 1 then (if (i 1).val = 0 then 0 else x1 (ix2 ⟨15 + r.val, by omega⟩ l)) else x0 (ix2 ⟨r.val - 1, by omega⟩ l))
      + x3 (ix2 0 l) * (if h : r.val < 2 then (if (i 1).val = 0 then 0 else x1 (ix2 ⟨14 + r.val, by omega⟩ l)) else x0 (ix2 ⟨r.val - 2, by omega⟩ l)) + x4 (ix2 0 l) := by
  have e1 (X : S16x1408.Idx → Elt Ideal .bf16) : View.ld X r0_0 = X := View.ld_unit_lit (S := S16x1408) (off := ![0, 0]) inb_S16x1408_S16x1408_0_0 X (by decide)
  have e0 (X : S512x1408.Idx → Elt Ideal .bf16) : View.ld X r0_1 = X := View.ld_unit_lit (S := S512x1408) (off := ![0, 0]) inb_S512x1408_S512x1408_0_0 X (by decide)
  have e2 : View.ld (Val := Elt Ideal) (e' := .f32) x3 r0_2 (ix2 0 l) = x3 (ix2 2 l) := by
    unfold r0_2; exact Stores.ld_row (Val := Elt Ideal) (e := .f32) _ x3 2 0 l rfl
  have e3 : View.ld (Val := Elt Ideal) (e' := .f32) x3 r0_3 (ix2 0 l) = x3 (ix2 1 l) := by
    unfold r0_3; exact Stores.ld_row (Val := Elt Ideal) (e := .f32) _ x3 1 0 l rfl
  have e4 : View.ld (Val := Elt Ideal) (e' := .f32) x3 r0_4 (ix2 0 l) = x3 (ix2 0 l) := by
    unfold r0_4; exact Stores.ld_row (Val := Elt Ideal) (e := .f32) _ x3 0 0 l rfl
  rw [conv_at, k0_pay9, k0_pay10, k0_pay11, e0, e1, two_at, near_at, tap_at, e2, e3, e4]

/-- A column of a block, `k` rows later. -/
theorem late_at (k : ℕ) (hk : k ≤ 2) (t : Fin cfg0.N) (r : Fin 512) (l : Fin 1408) :
    (if h : r.val < k then (if (grid0.coords t 1).val = 0 then (0 : EReal) else iblk m c 1 t (ix2 ⟨16 - k + r.val, by omega⟩ l)) else iblk m c 0 t (ix2 ⟨r.val - k, by omega⟩ l))
      = ConvfRefIdeal.RefValue.late (m ((c : Thread nD τ).loc main_arg0)) k (at_ t r) (lane t l) := by
  have ht := (idx t).2.2.2.2.2.2.2
  rw [ConvfRefIdeal.RefValue.late, ht]
  by_cases h : r.val < k
  · rw [dif_pos h]
    by_cases h0 : t.val % 32 = 0
    · rw [if_pos h0, dif_pos (by simp only [at_]; omega)]
    · rw [if_neg h0, dif_neg (by simp only [at_]; omega), rd1]
      exact congrArg (fun q => m ((c : Thread nD τ).loc main_arg0) (ix2 q (low (lane t l)))) (Fin.ext (show (t.val % 32 * 32 - 1) * 16 + (16 - k + r.val) = t.val % 32 * 512 + r.val - k by omega))
  · rw [dif_neg h, dif_neg (by simp only [at_]; omega), rd0]
    exact congrArg (fun q => m ((c : Thread nD τ).loc main_arg0) (ix2 q (low (lane t l)))) (Fin.ext (show t.val % 32 * 512 + (r.val - k) = t.val % 32 * 512 + r.val - k by omega))

/-- The convolution a point computes is the reference's. -/
theorem point (t : Fin cfg0.N) (r : Fin 512) (l : Fin 1408) :
    k0_pay1 (F := Ideal) (k0_pay9 (grid0.coords t) (iblk m c 0 t) (iblk m c 1 t) (iblk m c 2 t) (iblk m c 3 t) (iblk m c 4 t))
      (k0_pay10 (grid0.coords t) (iblk m c 0 t) (iblk m c 1 t) (iblk m c 2 t) (iblk m c 3 t) (iblk m c 4 t))
      (k0_pay11 (grid0.coords t) (iblk m c 0 t) (iblk m c 1 t) (iblk m c 2 t) (iblk m c 3 t) (iblk m c 4 t)) (iblk m c 4 t) (ix2 r l)
    = ConvfRefIdeal.RefValue.pre (m ((c : Thread nD τ).loc main_arg0)) (m ((c : Thread nD τ).loc main_arg1)) (m ((c : Thread nD τ).loc main_arg2)) (ix2 (at_ t r) (lane t l)) := by
  refine (body_at _ _ _ _ _ _ r l).trans ?_
  rw [ConvfRefIdeal.RefValue.pre_at, ← late_at m c 2 (le_refl 2) t r l, ← late_at m c 1 (by decide) t r l, rd0, rd4, rd3 m c t 0 l 0 rfl, rd3 m c t 1 l 1 rfl, rd3 m c t 2 l 2 rfl]
  refine congrArg (· + _) ?_
  rw [add_assoc, add_comm]
  exact congrArg (· + _) (add_comm _ _)

/-- The kernel's second result is the convolution. -/
theorem final6 : (dats m 0 c).arrAt 6 cfg0.N = truncf .bf16 (ConvfRefIdeal.RefValue.pre (m ((c : Thread nD τ).loc main_arg0)) (m ((c : Thread nD τ).loc main_arg1))
    (m ((c : Thread nD τ).loc main_arg2))) bitsLt_bf16_f32 := by
  refine (dats m 0 c).arrAt_eq_of_covers 6 _ (by decide +kernel) fun t hf y => ?_
  obtain ⟨r, l, rfl⟩ : ∃ (r : Fin 512) (l : Fin 1408), y = ix2 r l := ⟨y 0, y 1, eq_ix2 y⟩
  blk_simp
  rw [show (win0_6.blk t).view.emb (ix2 r l) = ix2 (at_ t r) (lane t l) by blk_ext [idx t], after0_6]
  frame_out
  exact point m c t r l

/-- Its first result is the gated convolution. -/
theorem final5 : (dats m 0 c).arrAt 5 cfg0.N = ConvfRefIdeal.RefValue.out (m ((c : Thread nD τ).loc main_arg0)) (m ((c : Thread nD τ).loc main_arg1))
    (m ((c : Thread nD τ).loc main_arg2)) := by
  refine (dats m 0 c).arrAt_eq_of_covers 5 _ (by decide +kernel) fun t hf y => ?_
  obtain ⟨r, l, rfl⟩ : ∃ (r : Fin 512) (l : Fin 1408), y = ix2 r l := ⟨y 0, y 1, eq_ix2 y⟩
  blk_simp
  rw [show (win0_5.blk t).view.emb (ix2 r l) = ix2 (at_ t r) (lane t l) by blk_ext [idx t], after0_5]
  frame_out
  refine (gated_at _ _ _ _ _ r l).trans ?_
  pointwise [ConvfRefIdeal.RefValue.out]
  rw [← point m c t r l, rd2]

end Cert.ConvfIdeal.RefValue

end
-- ==== Proof.RmsValue.lean ====
/-
  The root-mean-square norm. The kernel walks the rows in blocks of 512; its result is shown to be the reference's. The reference's
  norm and the norm of a block are used again by the calls that end in one.
-/
module

public import proofs.«01_k».proof.Proof.Common
public import proofs.«01_k».proof.Proof.Gen.RmsIdeal.Value
public import proofs.«01_k».proof.Proof.Gen.RmsRefIdeal.Run
public import Idealize.ShloMosaic.Lib.Pipeline.ValueKit

@[expose] public section

set_option maxRecDepth 16384

noncomputable section

namespace Cert.RmsRefIdeal.RefValue

open Cert.RmsRefIdeal Cert.RmsRefIdeal.Gen Idealize.ShloMosaic Idealize.ShloMosaic.TcCoe

/-- The row's scale: one over the root of the mean square and epsilon. -/
def scale (x : FVec Ideal S16384x1024 .f32) : FVec Ideal S16384x1 .f32 :=
  Host.rsqrt (addf (Host.divf (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32)))

/-- The norm of an array's rows. -/
def normed (x : FVec Ideal S16384x1024 .f32) (g : FVec Ideal S1024 .f32) : FVec Ideal S16384x1024 .bf16 :=
  truncf .bf16 (mulf (mulf x (broadcastInDim S16384x1024 ![0, 1] bcast_S16384x1_S16384x1024_0_1 (scale x)))
    (broadcastInDim S16384x1024 ![0, 1] bcast_S1x1024_S16384x1024_0_1 (broadcastInDim S1x1024 ![1] bcast_S1024_S1x1024_1 g))) bitsLt_bf16_f32

end Cert.RmsRefIdeal.RefValue

namespace Cert.RmsIdeal.RefValue

open Cert.RmsIdeal Cert.RmsIdeal.Gen Idealize.ShloMosaic Idealize.ShloMosaic.TcCoe Idealize.SL.Sem
open Idealize.ShloMosaic.Pipeline (Dat)

variable (m : (ℓ : Loc nD τ sig) → Buf (Elt Ideal) ℓ)

/-- The norm of a block, element by element. -/
theorem normed_at (x : FVec Ideal S512x1024 .f32) (g : FVec Ideal S1x1024 .f32) (r : Fin 512) (l : Fin 1024) :
    k0_pay1 (F := Ideal) x g (ix2 r l) = x (ix2 r l) * Ideal.rsqrt (Ideal.div (∑ j : Fin 1024, x (ix2 r j) * x (ix2 r j)) (Ideal.ofBits .f32 0x44800000#32) + Ideal.ofBits .f32 0x358637BD#32)
      * g (ix2 0 l) := by
  pointwise [k0_pay1]

/-- Where each window's block lies: the row windows move with the grid point, the norm's weight stays. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

theorem V_v0 (c : Dev nD) : V m c main_v0 = broadcastInDim S1x1024 ![1] bcast_S1024_S1x1024_1 (m ((c : Thread nD τ).loc main_arg1)) := by
  entry_read
  rfl

/-- The kernel's result is the norm of its rows. -/
theorem final2 (c : Dev nD) : (dats m 0 c).arrAt 2 cfg0.N
    = RmsRefIdeal.RefValue.normed (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨r, l, rfl⟩ : ∃ (r : Fin 512) (l : Fin 1024), y = ix2 r l := ⟨y 0, y 1, eq_ix2 y⟩
  refine (normed_at _ _ r l).trans ?_
  pointwise [RmsRefIdeal.RefValue.normed, RmsRefIdeal.RefValue.scale]
  blk_point [iblk, V_v0, V_main_arg0, idx t]

end Cert.RmsIdeal.RefValue

end
-- ==== Proof.PlefValue.lean ====
/-
  The gated embedding added to the residual stream, and its norm. The kernel walks the rows in blocks of 512; each of its two
  results is shown to be the reference's.
-/
module

public import proofs.«01_k».proof.Proof.RmsValue
public import proofs.«01_k».proof.Proof.Gen.PlefIdeal.Value
public import proofs.«01_k».proof.Proof.Gen.PlefRefIdeal.Run

@[expose] public section

set_option maxRecDepth 16384

noncomputable section

namespace Cert.PlefRefIdeal.RefValue

open Cert.PlefRefIdeal Cert.PlefRefIdeal.Gen Idealize.ShloMosaic Idealize.ShloMosaic.TcCoe

/-- The residual stream after the gated embedding. -/
def out (h g : FVec Ideal S16384x1024 .f32) (p : FVec Ideal S16384x256 .f32) (w : FVec Ideal S256x1024 .f32) : FVec Ideal S16384x1024 .f32 :=
  addf h (mulf (Host.divf (broadcastInDim S16384x1024 ![] bcast_S_S16384x1024 (constant S_ .f32 0x3F800000#32))
    (addf (broadcastInDim S16384x1024 ![] bcast_S_S16384x1024 (constant S_ .f32 0x3F800000#32)) (Host.exp (Host.negf g))))
    (Host.dotGeneral dot_S16384x256_S256x1024_S16384x1024_1_0_0_1_n_n none p w))

end Cert.PlefRefIdeal.RefValue

namespace Cert.PlefIdeal.RefValue

open Cert.PlefIdeal Cert.PlefIdeal.Gen Idealize.ShloMosaic Idealize.ShloMosaic.TcCoe Idealize.SL.Sem
open Idealize.ShloMosaic.Pipeline (Dat)

variable (m : (ℓ : Loc nD τ sig) → Buf (Elt Ideal) ℓ)

theorem out_at (h : FVec Ideal S512x1024 .f32) (g : FVec Ideal S512x1024 .bf16) (p : FVec Ideal S512x256 .f32) (w : FVec Ideal S256x1024 .bf16) (r : Fin 512) (l : Fin 1024) :
    k0_pay1 (F := Ideal) h g p w (ix2 r l) = h (ix2 r l) + Ideal.div 1 (1 + Ideal.exp (-(g (ix2 r l)))) * ∑ k : Fin 256, p (ix2 r k) * w (ix2 k l) := by
  rw [← Common.sigmoid_eq]
  pointwise [k0_pay1]

theorem norm_eq (h : FVec Ideal S512x1024 .f32) (g : FVec Ideal S512x1024 .bf16) (p : FVec Ideal S512x256 .f32) (w : FVec Ideal S256x1024 .bf16) (n : FVec Ideal S1x1024 .f32) :
    k0_pay2 (F := Ideal) h g p w n = RmsIdeal.Gen.k0_pay1 (F := Ideal) (k0_pay1 (F := Ideal) h g p w) n := rfl

theorem idx (t : Fin cfg0.N) : win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0]) t

theorem V_v0 (c : Dev nD) : V m c main_v0 = truncf (F := Ideal) (s := S16384x1024) (φ := .f32) .bf16 (m ((c : Thread nD τ).loc main_arg1)) bitsLt_bf16_f32 := by
  entry_read
  rfl
theorem V_v1 (c : Dev nD) : V m c main_v1 = truncf (F := Ideal) (s := S256x1024) (φ := .f32) .bf16 (m ((c : Thread nD τ).loc main_arg3)) bitsLt_bf16_f32 := by
  entry_read
  rfl
theorem V_v2 (c : Dev nD) : V m c main_v2 = broadcastInDim S1x1024 ![1] bcast_S1024_S1x1024_1 (m ((c : Thread nD τ).loc main_arg4)) := by
  entry_read
  rfl

/-- The kernel's first result is the residual stream after the gated embedding. -/
theorem final5 (c : Dev nD) : (dats m 0 c).arrAt 5 cfg0.N = PlefRefIdeal.RefValue.out (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]; frame_out
  obtain ⟨r, l, rfl⟩ : ∃ (r : Fin 512) (l : Fin 1024), y = ix2 r l := ⟨y 0, y 1, eq_ix2 y⟩
  refine (out_at _ _ _ _ r l).trans ?_
  pointwise [PlefRefIdeal.RefValue.out]
  blk_point [iblk, V_v0, V_v1, V_main_arg0, V_main_arg2, idx t]

/-- Its second result is the norm of the first. -/
theorem final6 (c : Dev nD) : (dats m 0 c).arrAt 6 cfg0.N = RmsRefIdeal.RefValue.normed (PlefRefIdeal.RefValue.out (m ((c : Thread nD τ).loc main_arg0)) (m ((c : Thread nD τ).loc main_arg1))
    (m ((c : Thread nD τ).loc main_arg2)) (m ((c : Thread nD τ).loc main_arg3))) (m ((c : Thread nD τ).loc main_arg4)) := by
  refine (dats m 0 c).arrAt_eq_of_covers 6 _ (by decide +kernel) fun t hf y => ?_
  blk_simp
  rw [after0_6]; frame_out
  obtain ⟨r, l, rfl⟩ : ∃ (r : Fin 512) (l : Fin 1024), y = ix2 r l := ⟨y 0, y 1, eq_ix2 y⟩
  rw [norm_eq]
  refine (RmsIdeal.RefValue.normed_at _ _ r l).trans ?_
  simp only [out_at]
  pointwise [RmsRefIdeal.RefValue.normed, RmsRefIdeal.RefValue.scale, PlefRefIdeal.RefValue.out]
  blk_point [iblk, V_v0, V_v1, V_v2, V_main_arg0, V_main_arg2, idx t]

end Cert.PlefIdeal.RefValue

end
-- ==== Proof.LbfValue.lean ====
/-
  The kernel of the recurrence's lower bounds: it stores four rows of each bound over zeros, and the reference stacks the same rows.
-/
module

public import proofs.«01_k».proof.Proof.LbReference
public import proofs.«01_k».proof.Proof.Stores
public import proofs.«01_k».proof.Proof.Gen.LbfIdeal.Value
public import proofs.«01_k».proof.Proof.Gen.LbfRefIdeal.Run

@[expose] public section

set_option maxRecDepth 16384

noncomputable section

namespace Cert.LbfRefIdeal.RefValue

open Cert.LbfRefIdeal Cert.LbfRefIdeal.Gen Cert.LbfRefIdeal.Value Idealize.ShloMosaic Idealize.ShloMosaic.TcCoe Cert.Attention
open Cert.LbRefIdeal.RefValue (soft bounds)

variable (x : FVec Ideal S4x512 .f32)

/-- The value in the `j`-th of a bound's eight rows. -/
def entry (b : EReal) (j : ℕ) : EReal :=
  if j = 0 then Ideal.log (max b (Ideal.ofBits .f32 0x0DA24260#32)) else if j = 1 then Ideal.log1p (-b) else if j = 2 then 1 - b else if j = 3 then b else 0

/-- The rows of all the bounds. -/
def result : FVec Ideal S32x512 .f32 := fun i => entry (bounds (soft x) (ix2 ⟨(i 0).val / 8, by have : (i 0).val < 32 := (i 0).2; omega⟩ (i 1))) ((i 0).val % 8)

/-- The four rows of a bound. -/
def stacked (b : FVec Ideal S4x512 .f32) : FVec Ideal S4x4x512 .f32 :=
  concatenate S4x4x512 1 [⟨S4x1x512, broadcastInDim S4x1x512 ![0, 2] bcast_S4x512_S4x1x512_0_2 (Host.log (maximumf b (broadcastInDim S4x512 ![] bcast_S_S4x512 (constant S_ .f32 0x0DA24260#32))))⟩,
    ⟨S4x1x512, broadcastInDim S4x1x512 ![0, 2] bcast_S4x512_S4x1x512_0_2 (Host.log1p (Host.negf b))⟩,
    ⟨S4x1x512, broadcastInDim S4x1x512 ![0, 2] bcast_S4x512_S4x1x512_0_2 (subf (broadcastInDim S4x512 ![] bcast_S_S4x512 (constant S_ .f32 0x3F800000#32)) b)⟩,
    ⟨S4x1x512, broadcastInDim S4x1x512 ![0, 2] bcast_S4x512_S4x1x512_0_2 b⟩] concatenates_S4x1x512_S4x1x512_S4x1x512_S4x1x512_S4x4x512_d1

/-- The rows, padded to eight for each bound. -/
def padded (b : FVec Ideal S4x512 .f32) : FVec Ideal S32x512 .f32 :=
  shapeCast _ (pad S4x8x512 ![0, 0, 0] ![0, 4, 0] ![0, 0, 0] (stacked b) (sitofp .f32 (constantI S_ 32 0#32)) pads_S4x4x512_S4x8x512_000_040_000 h_S_) shapeCasts_S4x8x512_S32x512

theorem as_rows (m : (ℓ : Loc nD τ sig) → Buf (Elt Ideal) ℓ) (c : Dev nD) : res_main_v47 m c = padded (bounds (soft (m ((c.tc : Thread nD τ).loc main_arg0)))) := by
  rw [res_main_v47]
  rfl

theorem ladder (v : EReal) (p : Prop) (j : ℕ) {_ : Decidable (p ∧ j < 4)} (hp : p) (z : EReal) (hz : z = 0) :
    (if _h : p ∧ j < 4 then if _h1 : j < 1 then Ideal.log (max v (Ideal.ofBits .f32 0x0DA24260#32)) else if _h2 : j - 1 < 1 then Ideal.log1p (-v)
      else if _h3 : j - 1 - 1 < 1 then 1 - v else v else z) = entry v j := by
  subst hz
  obtain rfl | rfl | rfl | rfl | hj : j = 0 ∨ j = 1 ∨ j = 2 ∨ j = 3 ∨ 4 ≤ j := by omega
  · rw [dif_pos ⟨hp, by decide⟩, dif_pos (by decide), entry, if_pos rfl]
  · rw [dif_pos ⟨hp, by decide⟩, dif_neg (by decide), dif_pos (by decide), entry, if_neg (by decide), if_pos rfl]
  · rw [dif_pos ⟨hp, by decide⟩, dif_neg (by decide), dif_neg (by decide), dif_pos (by decide), entry, if_neg (by decide), if_neg (by decide), if_pos rfl]
  · rw [dif_pos ⟨hp, by decide⟩, dif_neg (by decide), dif_neg (by decide), dif_neg (by decide), entry, if_neg (by decide), if_neg (by decide), if_neg (by decide), if_pos rfl]
  · rw [dif_neg (by omega), entry, if_neg (by omega), if_neg (by omega), if_neg (by omega), if_neg (by omega)]

set_option maxHeartbeats 1000000 in
theorem padded_at (b : FVec Ideal S4x512 .f32) (r : Fin 32) (l : Fin 512) : padded b (ix2 r l) = entry (b (ix2 ⟨r.val / 8, by omega⟩ l)) (r.val % 8) := by
  pointwise [padded, stacked]
  have hz : (FloatOps.sitofp (F := Ideal) .f32 0#32 : EReal) = 0 := by simp [FloatOps.sitofp]
  have h4 : r.val / 8 < 4 := by omega
  exact ladder (b (ix2 ⟨r.val / 8, h4⟩ l)) (r.val / 8 < 4) (r.val % 8) h4 (FloatOps.sitofp (F := Ideal) .f32 0#32) hz

theorem result_at (l : Fin 512) (k : Fin 4) (j : Fin 8) {n : ℕ} {hn : n < 32} (h : n = 8 * k.val + j.val) :
    result x (ix2 ⟨n, hn⟩ l) = entry (bounds (soft x) (ix2 k l)) j.val := by
  have hk : (⟨n / 8, by omega⟩ : Fin 4) = k := Fin.ext (by show n / 8 = k.val; omega)
  have hj : n % 8 = j.val := by omega
  show entry (bounds (soft x) (ix2 ⟨n / 8, _⟩ l)) (n % 8) = _
  rw [hk, hj]

theorem res (m : (ℓ : Loc nD τ sig) → Buf (Elt Ideal) ℓ) (c : Dev nD) : res_main_v47 m c = result (m ((c.tc : Thread nD τ).loc main_arg0)) := by
  rw [as_rows]
  funext i
  obtain ⟨r, l, rfl⟩ : ∃ (r : Fin 32) (l : Fin 512), i = ix2 r l := ⟨i 0, i 1, eq_ix2 i⟩
  exact padded_at _ r l

end Cert.LbfRefIdeal.RefValue

namespace Cert.LbfIdeal.RefValue

open Cert.LbfIdeal Cert.LbfIdeal.Gen Cert.LbfIdeal.Value Idealize.SL.Sem Idealize.ShloMosaic Idealize.ShloMosaic.TcCoe
open Cert.Attention hiding prob
open Idealize.ShloMosaic.Pipeline (Dat)
open Cert.LbRefIdeal.RefValue (soft bounds expo totals running running_at)
open Cert.LbfRefIdeal.RefValue (entry result result_at)

variable (x : FVec Ideal S4x512 .f32)

/-- The kernel's softmax is the reference's. -/
theorem soft_at (k : Fin 4) (l : Fin 512) : k0_pay3 (F := Ideal) x (ix2 k l) = soft x (ix2 k l) := by
  pointwise [k0_pay3, soft, totals, LbRefIdeal.RefValue.total, expo]
  simp only [ofBits_bot, max_eq_right bot_le]

/-- The four bounds. -/
theorem bounds_at (l : Fin 512) : k0_pay5 (F := Ideal) x (ix2 0 l) = bounds (soft x) (ix2 0 l) ∧ k0_pay7 (F := Ideal) x (ix2 0 l) = bounds (soft x) (ix2 1 l)
    ∧ k0_pay9 (F := Ideal) x (ix2 0 l) = bounds (soft x) (ix2 2 l) ∧ k0_pay10 (F := Ideal) x (ix2 0 l) = bounds (soft x) (ix2 3 l) := by
  obtain ⟨h0, h1, h2, h3⟩ := running_at (soft x) l
  have hb : ∀ k, bounds (soft x) (ix2 k l) = running (soft x) (ix2 k l) - soft x (ix2 0 l) := fun k => by pointwise [bounds]
  simp only [hb, h0, h1, h2, h3]
  refine ⟨?_, ?_, ?_, ?_⟩ <;> pointwise [k0_pay5, k0_pay7, k0_pay9, k0_pay10, k0_pay8, k0_pay6, k0_pay4] <;> simp only [soft_at]

variable {v : FVec Ideal S1x512 .f32} {l : Fin 512} {b : EReal}

/-- The rows stored of one bound. -/
theorem log_at (h : v (ix2 0 l) = b) : k0_pay15 (F := Ideal) v (ix2 0 l) = entry b 0 := by
  pointwise [k0_pay15]
  rw [h]
  rfl

theorem log1p_at (h : v (ix2 0 l) = b) : k0_pay16 (F := Ideal) v (ix2 0 l) = entry b 1 := by
  pointwise [k0_pay16]
  rw [h, zero_sub]
  rfl

theorem less_at (h : v (ix2 0 l) = b) : k0_pay17 (F := Ideal) v (ix2 0 l) = entry b 2 := by
  pointwise [k0_pay17]
  rw [h]
  rfl

theorem zero_at (r : Fin 32) (j : ℕ) (hj : 3 < j) : k0_pay11 (F := Ideal) (ix2 r l) = entry b j := by
  pointwise [k0_pay11]
  unfold entry
  rw [if_neg (by omega), if_neg (by omega), if_neg (by omega), if_neg (by omega)]

variable (m : (ℓ : Loc nD τ sig) → Buf (Elt Ideal) ℓ) (c : Dev nD)

theorem idx (t : Fin cfg0.N) : win0_0.index t = ![0, 0] ∧ win0_1.index t = ![0, 0] :=
  (by decide +kernel : ∀ t : Fin grid0.N, win0_0.index t = ![0, 0] ∧ win0_1.index t = ![0, 0]) t

theorem rd0 (t : Fin cfg0.N) : iblk m c 0 t = m ((c : Thread nD τ).loc main_arg0) := by
  funext i
  obtain ⟨r, l, rfl⟩ : ∃ (r : Fin 4) (l : Fin 512), i = ix2 r l := ⟨i 0, i 1, eq_ix2 i⟩
  blk_point [iblk, V_main_arg0, idx t]

/-- What the body leaves in the result's block, entry by entry. -/
theorem body_at {M0 : Memref sig .tc .vmem S4x512 .f32} (w0 : M0.IsWhole) {M1 : Memref sig .tc .vmem S32x512 .f32} (w1 : M1.IsWhole) (r : Fin 32) (l : Fin 512) :
    out0_A_1 (F := Ideal) c M0 w0 M1 w1 x (ix2 r l) = result x (ix2 r l) := by
  frame_out
  obtain ⟨h0, h1, h2, h3⟩ := bounds_at x l
  obtain ⟨n, hn⟩ := r
  have hz := fun r : Fin 32 => Stores.canon_row (Val := Elt Ideal) (e := .f32) inb_S32x512_S32x512_0_0 (k0_pay11 (F := Ideal)) [] r r l (by simp)
  interval_cases n <;> repeat (first
    | rw [hz]
    | rw [Stores.canon_row _ _ _ _ 0 _ rfl]
    | rw [Stores.canon_other _ _ _ _ _ (by simp)])
  · exact (log_at h0).trans (result_at x l 0 0 rfl).symm
  · exact (log1p_at h0).trans (result_at x l 0 1 rfl).symm
  · exact (less_at h0).trans (result_at x l 0 2 rfl).symm
  · exact h0.trans (result_at x l 0 3 rfl).symm
  · exact (zero_at _ 4 (by decide)).trans (result_at x l 0 4 rfl).symm
  · exact (zero_at _ 5 (by decide)).trans (result_at x l 0 5 rfl).symm
  · exact (zero_at _ 6 (by decide)).trans (result_at x l 0 6 rfl).symm
  · exact (zero_at _ 7 (by decide)).trans (result_at x l 0 7 rfl).symm
  · exact (log_at h1).trans (result_at x l 1 0 rfl).symm
  · exact (log1p_at h1).trans (result_at x l 1 1 rfl).symm
  · exact (less_at h1).trans (result_at x l 1 2 rfl).symm
  · exact h1.trans (result_at x l 1 3 rfl).symm
  · exact (zero_at _ 4 (by decide)).trans (result_at x l 1 4 rfl).symm
  · exact (zero_at _ 5 (by decide)).trans (result_at x l 1 5 rfl).symm
  · exact (zero_at _ 6 (by decide)).trans (result_at x l 1 6 rfl).symm
  · exact (zero_at _ 7 (by decide)).trans (result_at x l 1 7 rfl).symm
  · exact (log_at h2).trans (result_at x l 2 0 rfl).symm
  · exact (log1p_at h2).trans (result_at x l 2 1 rfl).symm
  · exact (less_at h2).trans (result_at x l 2 2 rfl).symm
  · exact h2.trans (result_at x l 2 3 rfl).symm
  · exact (zero_at _ 4 (by decide)).trans (result_at x l 2 4 rfl).symm
  · exact (zero_at _ 5 (by decide)).trans (result_at x l 2 5 rfl).symm
  · exact (zero_at _ 6 (by decide)).trans (result_at x l 2 6 rfl).symm
  · exact (zero_at _ 7 (by decide)).trans (result_at x l 2 7 rfl).symm
  · exact (log_at h3).trans (result_at x l 3 0 rfl).symm
  · exact (log1p_at h3).trans (result_at x l 3 1 rfl).symm
  · exact (less_at h3).trans (result_at x l 3 2 rfl).symm
  · exact h3.trans (result_at x l 3 3 rfl).symm
  · exact (zero_at _ 4 (by decide)).trans (result_at x l 3 4 rfl).symm
  · exact (zero_at _ 5 (by decide)).trans (result_at x l 3 5 rfl).symm
  · exact (zero_at _ 6 (by decide)).trans (result_at x l 3 6 rfl).symm
  · exact (zero_at _ 7 (by decide)).trans (result_at x l 3 7 rfl).symm

theorem final1 : (dats m 0 c).arrAt 1 cfg0.N = result (m ((c : Thread nD τ).loc main_arg0)) := by
  refine (dats m 0 c).arrAt_eq_of_covers 1 _ (by decide +kernel) fun t hf y => ?_
  blk_simp
  rw [after0_1, outsAt0, rd0]
  obtain ⟨r, l, rfl⟩ : ∃ (r : Fin 32) (l : Fin 512), y = ix2 r l := ⟨y 0, y 1, eq_ix2 y⟩
  refine Eq.trans (body_at _ c _ _ r l) ?_
  blk_ext [idx t]

end Cert.LbfIdeal.RefValue

end
-- ==== Proof.MmoutValue.lean ====
/-
  The output product added to the residual stream, and its norm. The kernel walks the rows in blocks of 1024; each of its two
  results is shown to be the reference's.
-/
module

public import proofs.«01_k».proof.Proof.RmsValue
public import proofs.«01_k».proof.Proof.Gen.MmoutIdeal.Value
public import proofs.«01_k».proof.Proof.Gen.MmoutRefIdeal.Run

@[expose] public section

set_option maxRecDepth 16384

noncomputable section

namespace Cert.MmoutRefIdeal.RefValue

open Cert.MmoutRefIdeal Cert.MmoutRefIdeal.Gen Idealize.ShloMosaic Idealize.ShloMosaic.TcCoe

/-- The residual stream with the product added. -/
def out (a : FVec Ideal S16384x1024 .f32) (w : FVec Ideal S1024x1024 .f32) (h : FVec Ideal S16384x1024 .f32) : FVec Ideal S16384x1024 .f32 :=
  addf h (Host.dotGeneral dot_S16384x1024_S1024x1024_S16384x1024_1_0_0_1_n_n none a w)

end Cert.MmoutRefIdeal.RefValue

namespace Cert.MmoutIdeal.RefValue

open Cert.MmoutIdeal Cert.MmoutIdeal.Gen Idealize.ShloMosaic Idealize.ShloMosaic.TcCoe Idealize.SL.Sem
open Idealize.ShloMosaic.Pipeline (Dat)

variable (m : (ℓ : Loc nD τ sig) → Buf (Elt Ideal) ℓ)

theorem out_at (a : FVec Ideal S1024x1024 .bf16) (w : FVec Ideal S1024x1024 .bf16) (h : FVec Ideal S1024x1024 .f32) (r : Fin 1024) (l : Fin 1024) :
    k0_pay1 (F := Ideal) a w h (ix2 r l) = h (ix2 r l) + ∑ k : Fin 1024, a (ix2 r k) * w (ix2 k l) := by
  rw [add_comm]
  pointwise [k0_pay1]

theorem norm_at (a : FVec Ideal S1024x1024 .bf16) (w : FVec Ideal S1024x1024 .bf16) (h : FVec Ideal S1024x1024 .f32) (n : FVec Ideal S1x1024 .f32) (r : Fin 1024) (l : Fin 1024) :
    k0_pay2 (F := Ideal) a w h n (ix2 r l) = k0_pay1 (F := Ideal) a w h (ix2 r l)
      * Ideal.rsqrt (Ideal.div (∑ j : Fin 1024, k0_pay1 (F := Ideal) a w h (ix2 r j) * k0_pay1 (F := Ideal) a w h (ix2 r j)) (Ideal.ofBits .f32 0x44800000#32) + Ideal.ofBits .f32 0x358637BD#32)
      * n (ix2 0 l) := by
  pointwise [k0_pay2]

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0]) t

theorem V_v0 (c : Dev nD) : V m c main_v0 = truncf (F := Ideal) (s := S16384x1024) (φ := .f32) .bf16 (m ((c : Thread nD τ).loc main_arg0)) bitsLt_bf16_f32 := by
  entry_read
  rfl
theorem V_v1 (c : Dev nD) : V m c main_v1 = truncf (F := Ideal) (s := S1024x1024) (φ := .f32) .bf16 (m ((c : Thread nD τ).loc main_arg1)) bitsLt_bf16_f32 := by
  entry_read
  rfl
theorem V_v2 (c : Dev nD) : V m c main_v2 = broadcastInDim S1x1024 ![1] bcast_S1024_S1x1024_1 (m ((c : Thread nD τ).loc main_arg3)) := by
  entry_read
  rfl

/-- The kernel's first result is the residual stream with the product added. -/
theorem final4 (c : Dev nD) : (dats m 0 c).arrAt 4 cfg0.N = MmoutRefIdeal.RefValue.out (m ((c : Thread nD τ).loc main_arg0)) (m ((c : Thread nD τ).loc main_arg1))
    (m ((c : Thread nD τ).loc main_arg2)) := by
  refine (dats m 0 c).arrAt_eq_of_covers 4 _ (by decide +kernel) fun t hf y => ?_
  blk_simp
  rw [after0_4]; frame_out
  obtain ⟨r, l, rfl⟩ : ∃ (r : Fin 1024) (l : Fin 1024), y = ix2 r l := ⟨y 0, y 1, eq_ix2 y⟩
  refine (out_at _ _ _ r l).trans ?_
  pointwise [MmoutRefIdeal.RefValue.out]
  blk_point [iblk, V_v0, V_v1, V_main_arg2, idx t]

/-- Its second result is the norm of the first. -/
theorem final5 (c : Dev nD) : (dats m 0 c).arrAt 5 cfg0.N = RmsRefIdeal.RefValue.normed (MmoutRefIdeal.RefValue.out (m ((c : Thread nD τ).loc main_arg0)) (m ((c : Thread nD τ).loc main_arg1))
    (m ((c : Thread nD τ).loc main_arg2))) (m ((c : Thread nD τ).loc main_arg3)) := by
  refine (dats m 0 c).arrAt_eq_of_covers 5 _ (by decide +kernel) fun t hf y => ?_
  blk_simp
  rw [after0_5]; frame_out
  obtain ⟨r, l, rfl⟩ : ∃ (r : Fin 1024) (l : Fin 1024), y = ix2 r l := ⟨y 0, y 1, eq_ix2 y⟩
  refine (norm_at _ _ _ _ r l).trans ?_
  simp only [out_at]
  pointwise [RmsRefIdeal.RefValue.normed, RmsRefIdeal.RefValue.scale, MmoutRefIdeal.RefValue.out]
  blk_point [iblk, V_v0, V_v1, V_v2, V_main_arg2, idx t]

end Cert.MmoutIdeal.RefValue

end
-- ==== Proof.MmdownValue.lean ====
/-
  The down product added to the residual stream, and its norm. The kernel walks the rows in blocks of 512; each of its two
  results is shown to be the reference's.
-/
module

public import proofs.«01_k».proof.Proof.RmsValue
public import proofs.«01_k».proof.Proof.Gen.MmdownIdeal.Value
public import proofs.«01_k».proof.Proof.Gen.MmdownRefIdeal.Run

@[expose] public section

set_option maxRecDepth 16384

noncomputable section

namespace Cert.MmdownRefIdeal.RefValue

open Cert.MmdownRefIdeal Cert.MmdownRefIdeal.Gen Idealize.ShloMosaic Idealize.ShloMosaic.TcCoe

/-- The residual stream with the product added. -/
def out (a : FVec Ideal S16384x2816 .f32) (w : FVec Ideal S2816x1024 .f32) (h : FVec Ideal S16384x1024 .f32) : FVec Ideal S16384x1024 .f32 :=
  addf h (Host.dotGeneral dot_S16384x2816_S2816x1024_S16384x1024_1_0_0_1_n_n none a w)

end Cert.MmdownRefIdeal.RefValue

namespace Cert.MmdownIdeal.RefValue

open Cert.MmdownIdeal Cert.MmdownIdeal.Gen Idealize.ShloMosaic Idealize.ShloMosaic.TcCoe Idealize.SL.Sem
open Idealize.ShloMosaic.Pipeline (Dat)

variable (m : (ℓ : Loc nD τ sig) → Buf (Elt Ideal) ℓ)

theorem out_at (a : FVec Ideal S512x2816 .bf16) (w : FVec Ideal S2816x1024 .bf16) (h : FVec Ideal S512x1024 .f32) (r : Fin 512) (l : Fin 1024) :
    k0_pay1 (F := Ideal) a w h (ix2 r l) = h (ix2 r l) + ∑ k : Fin 2816, a (ix2 r k) * w (ix2 k l) := by
  rw [add_comm]
  pointwise [k0_pay1]

theorem norm_eq (a : FVec Ideal S512x2816 .bf16) (w : FVec Ideal S2816x1024 .bf16) (h : FVec Ideal S512x1024 .f32) (n : FVec Ideal S1x1024 .f32) :
    k0_pay2 (F := Ideal) a w h n = RmsIdeal.Gen.k0_pay1 (F := Ideal) (k0_pay1 (F := Ideal) a w h) n := rfl

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0]) t

theorem V_v0 (c : Dev nD) : V m c main_v0 = truncf (F := Ideal) (s := S16384x2816) (φ := .f32) .bf16 (m ((c : Thread nD τ).loc main_arg0)) bitsLt_bf16_f32 := by
  entry_read
  rfl
theorem V_v1 (c : Dev nD) : V m c main_v1 = truncf (F := Ideal) (s := S2816x1024) (φ := .f32) .bf16 (m ((c : Thread nD τ).loc main_arg1)) bitsLt_bf16_f32 := by
  entry_read
  rfl
theorem V_v2 (c : Dev nD) : V m c main_v2 = broadcastInDim S1x1024 ![1] bcast_S1024_S1x1024_1 (m ((c : Thread nD τ).loc main_arg3)) := by
  entry_read
  rfl

/-- The kernel's first result is the residual stream with the product added. -/
theorem final4 (c : Dev nD) : (dats m 0 c).arrAt 4 cfg0.N = MmdownRefIdeal.RefValue.out (m ((c : Thread nD τ).loc main_arg0)) (m ((c : Thread nD τ).loc main_arg1))
    (m ((c : Thread nD τ).loc main_arg2)) := by
  refine (dats m 0 c).arrAt_eq_of_covers 4 _ (by decide +kernel) fun t hf y => ?_
  blk_simp
  rw [after0_4]; frame_out
  obtain ⟨r, l, rfl⟩ : ∃ (r : Fin 512) (l : Fin 1024), y = ix2 r l := ⟨y 0, y 1, eq_ix2 y⟩
  refine (out_at _ _ _ r l).trans ?_
  pointwise [MmdownRefIdeal.RefValue.out]
  blk_point [iblk, V_v0, V_v1, V_main_arg2, idx t]

/-- Its second result is the norm of the first. -/
theorem final5 (c : Dev nD) : (dats m 0 c).arrAt 5 cfg0.N = RmsRefIdeal.RefValue.normed (MmdownRefIdeal.RefValue.out (m ((c : Thread nD τ).loc main_arg0)) (m ((c : Thread nD τ).loc main_arg1))
    (m ((c : Thread nD τ).loc main_arg2))) (m ((c : Thread nD τ).loc main_arg3)) := by
  refine (dats m 0 c).arrAt_eq_of_covers 5 _ (by decide +kernel) fun t hf y => ?_
  blk_simp
  rw [after0_5]; frame_out
  obtain ⟨r, l, rfl⟩ : ∃ (r : Fin 512) (l : Fin 1024), y = ix2 r l := ⟨y 0, y 1, eq_ix2 y⟩
  rw [norm_eq]
  refine (RmsIdeal.RefValue.normed_at _ _ r l).trans ?_
  simp only [out_at]
  pointwise [RmsRefIdeal.RefValue.normed, RmsRefIdeal.RefValue.scale, MmdownRefIdeal.RefValue.out]
  blk_point [iblk, V_v0, V_v1, V_v2, V_main_arg2, idx t]

end Cert.MmdownIdeal.RefValue

end
-- ==== Proof.AdamwValue.lean ====
/-
  The optimiser's step. The kernel walks the rows in blocks of 512; each of its three results is the reference's, entry by entry.
-/
module

public import proofs.«01_k».proof.Proof.Common
public import proofs.«01_k».proof.Proof.Gen.AdamwIdeal.Value
public import proofs.«01_k».proof.Proof.Gen.AdamwRefIdeal.Run
public import Idealize.ShloMosaic.Lib.Pipeline.ValueKit

@[expose] public section

set_option maxRecDepth 16384

noncomputable section

namespace Cert.AdamwRefIdeal.RefValue

open Cert.AdamwRefIdeal Cert.AdamwRefIdeal.Gen Idealize.ShloMosaic Idealize.ShloMosaic.TcCoe

/-- An array of one constant. -/
def all (b : BitVec 32) : FVec Ideal S1024x256 .f32 := broadcastInDim S1024x256 ![] bcast_S_S1024x256 (constant S_ .f32 b)

/-- The first moment after the step. -/
def first (g m : FVec Ideal S1024x256 .f32) : FVec Ideal S1024x256 .f32 := addf (mulf (all 0x3F666666#32) m) (mulf (all 0x3DCCCCCD#32) g)

/-- The second moment after the step. -/
def second (g v : FVec Ideal S1024x256 .f32) : FVec Ideal S1024x256 .f32 := addf (mulf (all 0x3F7FBE77#32) v) (mulf (all 0x3A83126F#32) (mulf g g))

/-- The step of the weights. -/
def delta (w g m v : FVec Ideal S1024x256 .f32) : FVec Ideal S1024x256 .f32 :=
  mulf (all 0xBA83126F#32) (addf (Host.divf (Host.divf (first g m) (all 0x3F26BD02#32))
    (addf (Host.sqrt (Host.divf (second g v) (all 0x3C231ACC#32))) (all 0x322BCC77#32))) (mulf (all 0x3C23D70A#32) w))

end Cert.AdamwRefIdeal.RefValue

namespace Cert.AdamwIdeal.RefValue

open Cert.AdamwIdeal Cert.AdamwIdeal.Gen Idealize.ShloMosaic Idealize.ShloMosaic.TcCoe Idealize.SL.Sem
open Idealize.ShloMosaic.Pipeline (Dat)

variable (m : (ℓ : Loc nD τ sig) → Buf (Elt Ideal) ℓ)

theorem idx (t : Fin cfg0.N) : win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]) t

open Cert.AdamwRefIdeal.RefValue (all first second delta)

theorem final5 (c : Dev nD) : (dats m 0 c).arrAt 5 cfg0.N = first (m ((c : Thread nD τ).loc main_arg1)) (m ((c : Thread nD τ).loc main_arg2)) := by
  refine (dats m 0 c).arrAt_eq_of_covers 5 _ (by decide +kernel) fun t hf y => ?_
  blk_simp
  rw [after0_5]; frame_out
  obtain ⟨r, l, rfl⟩ : ∃ (r : Fin 512) (l : Fin 256), y = ix2 r l := ⟨y 0, y 1, eq_ix2 y⟩
  pointwise [first, all, k0_pay1]
  blk_point [iblk, V_main_arg1, V_main_arg2, idx t]

theorem final6 (c : Dev nD) : (dats m 0 c).arrAt 6 cfg0.N = second (m ((c : Thread nD τ).loc main_arg1)) (m ((c : Thread nD τ).loc main_arg3)) := by
  refine (dats m 0 c).arrAt_eq_of_covers 6 _ (by decide +kernel) fun t hf y => ?_
  blk_simp
  rw [after0_6]; frame_out
  obtain ⟨r, l, rfl⟩ : ∃ (r : Fin 512) (l : Fin 256), y = ix2 r l := ⟨y 0, y 1, eq_ix2 y⟩
  pointwise [second, all, k0_pay2]
  blk_point [iblk, V_main_arg1, V_main_arg3, idx t]

theorem final4 (c : Dev nD) : (dats m 0 c).arrAt 4 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  obtain ⟨r, l, rfl⟩ : ∃ (r : Fin 512) (l : Fin 256), y = ix2 r l := ⟨y 0, y 1, eq_ix2 y⟩
  pointwise [delta, first, second, all, k0_pay1, k0_pay2, k0_pay3]
  blk_point [iblk, V_main_arg0, V_main_arg1, V_main_arg2, V_main_arg3, idx t]

end Cert.AdamwIdeal.RefValue

end
-- ==== Proof.ProdValue.lean ====
/-
  A plain product. The kernel walks blocks of 1024 rows and 1408 columns, each a whole contraction.
-/
module

public import proofs.«01_k».proof.Proof.Common
public import proofs.«01_k».proof.Proof.Gen.ProdIdeal.Value
public import proofs.«01_k».proof.Proof.Gen.ProdRefIdeal.Run
public import Idealize.ShloMosaic.Lib.Pipeline.ValueKit

@[expose] public section

set_option maxRecDepth 16384

noncomputable section

namespace Cert.ProdRefIdeal.RefValue

open Cert.ProdRefIdeal Cert.ProdRefIdeal.Gen Idealize.ShloMosaic Idealize.ShloMosaic.TcCoe

/-- The product the reference makes, as cast. -/
def product (a : FVec Ideal S16384x1024 .f32) (w : FVec Ideal S1024x5632 .f32) : FVec Ideal S16384x5632 .bf16 :=
  truncf .bf16 (Host.dotGeneral dot_S16384x1024_S1024x5632_S16384x5632_1_0_0_1_n_n none a w) bitsLt_bf16_f32

end Cert.ProdRefIdeal.RefValue

namespace Cert.ProdIdeal.RefValue

open Cert.ProdIdeal Cert.ProdIdeal.Gen Idealize.ShloMosaic Idealize.ShloMosaic.TcCoe Idealize.SL.Sem
open Idealize.ShloMosaic.Pipeline (Dat)

variable (m : (ℓ : Loc nD τ sig) → Buf (Elt Ideal) ℓ)

open Cert.ProdRefIdeal.RefValue (product)

theorem product_at (a : FVec Ideal S1024x1024 .bf16) (w : FVec Ideal S1024x1408 .bf16) (r : Fin 1024) (l : Fin 1408) :
    k0_pay1 (F := Ideal) a w (ix2 r l) = ∑ k : Fin 1024, a (ix2 r k) * w (ix2 k l) := by
  pointwise [k0_pay1]

theorem idx (t : Fin cfg0.N) : win0_0.index t = ![t.val % 16, 0] ∧ win0_1.index t = ![0, t.val / 16] ∧ win0_2.index t = ![t.val % 16, t.val / 16] :=
  (by decide +kernel : ∀ t : Fin grid0.N, win0_0.index t = ![t.val % 16, 0] ∧ win0_1.index t = ![0, t.val / 16] ∧ win0_2.index t = ![t.val % 16, t.val / 16]) t

theorem V_v0 (c : Dev nD) : V m c main_v0 = truncf (F := Ideal) (s := S16384x1024) (φ := .f32) .bf16 (m ((c : Thread nD τ).loc main_arg0)) bitsLt_bf16_f32 := by
  entry_read
  rfl
theorem V_v1 (c : Dev nD) : V m c main_v1 = truncf (F := Ideal) (s := S1024x5632) (φ := .f32) .bf16 (m ((c : Thread nD τ).loc main_arg1)) bitsLt_bf16_f32 := by
  entry_read
  rfl

theorem final2 (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨r, l, rfl⟩ : ∃ (r : Fin 1024) (l : Fin 1408), y = ix2 r l := ⟨y 0, y 1, eq_ix2 y⟩
  refine (product_at _ _ r l).trans ?_
  pointwise [product]
  blk_point [iblk, V_v0, V_v1, idx t]

end Cert.ProdIdeal.RefValue

end
-- ==== Proof.WgradValue.lean ====
/-
  The weight gradient of a plain product. The kernel keeps a running sum in its scratch over eight steps of 2048 rows, and casts it out at the last.
-/
module

public import proofs.«01_k».proof.Proof.Common
public import proofs.«01_k».proof.Proof.Gen.WgradIdeal.Value
public import proofs.«01_k».proof.Proof.Gen.WgradRefIdeal.Run
public import Idealize.ShloMosaic.Lib.Pipeline.ValueKit

@[expose] public section

set_option maxRecDepth 16384

noncomputable section

namespace Cert.WgradRefIdeal.RefValue

open Cert.WgradRefIdeal Cert.WgradRefIdeal.Gen Idealize.ShloMosaic Idealize.ShloMosaic.TcCoe

/-- The weight gradient the reference makes. -/
def grad (ct : FVec Ideal S16384x2816 .f32) (p : FVec Ideal S16384x1024 .f32) : FVec Ideal S1024x2816 .bf16 :=
  truncf .bf16 (transpose S1024x2816 [1, 0] (Host.dotGeneral dot_S16384x2816_S16384x1024_S2816x1024_0_0_1_1_n_n none ct p) transposes_S2816x1024_S1024x2816_1_0) bitsLt_bf16_f32

end Cert.WgradRefIdeal.RefValue

namespace Cert.WgradIdeal.RefValue

open Cert.WgradIdeal Cert.WgradIdeal.Gen Idealize.ShloMosaic Idealize.ShloMosaic.TcCoe Idealize.SL.Sem
open Idealize.ShloMosaic.Pipeline (Dat)

variable (m : (ℓ : Loc nD τ sig) → Buf (Elt Ideal) ℓ)

open Cert.WgradRefIdeal.RefValue (grad)

theorem zero_at (r : Fin 1024) (l : Fin 1408) : k0_pay1 (F := Ideal) (ix2 r l) = 0 := by pointwise [k0_pay1]

theorem step_at (acc : FVec Ideal S1024x1408 .f32) (p : FVec Ideal S2048x1024 .bf16) (ct : FVec Ideal S2048x1408 .bf16) (r : Fin 1024) (l : Fin 1408) :
    k0_pay2 (F := Ideal) acc p ct (ix2 r l) = acc (ix2 r l) + ∑ k : Fin 2048, p (ix2 k r) * ct (ix2 k l) := by
  pointwise [k0_pay2]

theorem grad_at (ct : FVec Ideal WgradRefIdeal.S16384x2816 .f32) (p : FVec Ideal WgradRefIdeal.S16384x1024 .f32) (r : Fin 1024) (l : Fin 2816) :
    grad ct p (ix2 r l) = ∑ k : Fin 16384, p (ix2 k r) * ct (ix2 k l) := by
  simp only [mul_comm (p _)]
  pointwise [grad]

theorem grad_at' (ct : FVec Ideal WgradRefIdeal.S16384x2816 .f32) (p : FVec Ideal WgradRefIdeal.S16384x1024 .f32) (i : WgradRefIdeal.S1024x2816.Idx) :
    grad ct p i = ∑ k : Fin 16384, p (ix2 k (i 0)) * ct (ix2 k (i 1)) := by
  conv_lhs => rw [eq_ix2 i]
  exact grad_at ct p (i 0) (i 1)

theorem idx (t : Fin cfg0.N) : win0_0.index t = ![t.val % 8, 0] ∧ win0_1.index t = ![t.val % 8, t.val / 8] ∧ win0_2.index t = ![0, t.val / 8] :=
  (by decide +kernel : ∀ t : Fin grid0.N, win0_0.index t = ![t.val % 8, 0] ∧ win0_1.index t = ![t.val % 8, t.val / 8] ∧ win0_2.index t = ![0, t.val / 8]) t

theorem V_v0 (c : Dev nD) : V m c main_v0 = truncf (F := Ideal) (s := S16384x1024) (φ := .f32) .bf16 (m ((c : Thread nD τ).loc main_arg0)) bitsLt_bf16_f32 := by
  entry_read
  rfl
theorem V_v1 (c : Dev nD) : V m c main_v1 = truncf (F := Ideal) (s := S16384x2816) (φ := .f32) .bf16 (m ((c : Thread nD τ).loc main_arg2)) bitsLt_bf16_f32 := by
  entry_read
  rfl

/-- What the last step casts out is what it leaves in the scratch. -/
theorem out_last (c : Dev nD) (t : Fin cfg0.N) (h : t.val % 8 = 7) (r : Fin 1024) (l : Fin 1408) :
    (outsAt0 m c t.val t.isLt).1 (ix2 r l) = (outsAt0 m c t.val t.isLt).2 (ix2 r l) := by
  rw [outsAt0_C m c t (by omega) h]
  frame_out
  pointwise [k0_pay3]

theorem final2 (c : Dev nD) : (dats m 0 c).arrAt 2 cfg0.N = grad (m ((c : Thread nD τ).loc main_arg2)) (m ((c : Thread nD τ).loc main_arg0)) := by
  refine (dats m 0 c).arrAt_eq_of_covers 2 _ (by decide +kernel) fun t hf y => ?_
  have h7 := (flush0_2 t).mp hf
  obtain ⟨r, l, rfl⟩ : ∃ (r : Fin 1024) (l : Fin 1408), y = ix2 r l := ⟨y 0, y 1, eq_ix2 y⟩
  blk_simp
  rw [after0_2, out_last m c t h7 r l, Pipeline.eq_sum_fin_of_reset_step_apply_of_flush (fun n h => (outsAt0 m c n h).2) 8 (fun _ => 0)
    (fun p j => ∑ k : Fin 2048, (show FVec Ideal S2048x1024 .bf16 from iblk m c 0 p) (ix2 k (j 0)) * (show FVec Ideal S2048x1408 .bf16 from iblk m c 1 p) (ix2 k (j 1)))
    (fun t h j => by
      obtain ⟨r, l, rfl⟩ : ∃ (r : Fin 1024) (l : Fin 1408), j = ix2 r l := ⟨j 0, j 1, eq_ix2 j⟩
      rw [outsAt0_A m c t h (by omega)]; frame_out; rw [step_at, zero_at]; rfl)
    (fun t h j => by
      obtain ⟨r, l, rfl⟩ : ∃ (r : Fin 1024) (l : Fin 1408), j = ix2 r l := ⟨j 0, j 1, eq_ix2 j⟩
      by_cases h1 : t.val % 8 = 7
      · rw [outsAt0_C m c t h h1]; frame_out; rw [step_at]; exact congrArg₂ (· + ·) (congrFun (Memref.IsWhole.read_unread (Memref.isWhole_whole _) _) _) rfl
      · rw [outsAt0_B m c t h h1]; frame_out; rw [step_at]; exact congrArg₂ (· + ·) (congrFun (Memref.IsWhole.read_unread (Memref.isWhole_whole _) _) _) rfl)
    t h7 (ix2 r l), zero_add]
  refine Eq.trans ?_ (grad_at' _ _ _).symm
  refine Fin.sum_mul_add_congr (fun s k hl => ?_)
  blk_point [iblk, V_v0, V_v1, idx t, idx ⟨_, Pipeline.run_point_lt_of_flush t h7 s⟩]

end Cert.WgradIdeal.RefValue

end
-- ==== Proof.SlotsValue.lean ====
/-
  The sum of the four chips' parts. The kernel adds them in order, the reference along their axis.
-/
module

public import proofs.«01_k».proof.Proof.Common
public import proofs.«01_k».proof.Proof.Gen.SlotsIdeal.Value
public import proofs.«01_k».proof.Proof.Gen.SlotsRefIdeal.Run
public import Idealize.ShloMosaic.Lib.Pipeline.ValueKit

@[expose] public section

set_option maxRecDepth 16384

noncomputable section

namespace Cert.SlotsRefIdeal.RefValue

open Cert.SlotsRefIdeal Cert.SlotsRefIdeal.Gen Idealize.ShloMosaic Idealize.ShloMosaic.TcCoe

/-- The sum the reference makes. -/
def added (x : FVec Ideal S4x352x1024 .f32) : FVec Ideal S352x1024 .f32 :=
  Host.reduceAdd x (constant S_ .f32 0x00000000#32) reducesTo_S4x352x1024_S352x1024_d0 h_S_

end Cert.SlotsRefIdeal.RefValue

namespace Cert.SlotsIdeal.RefValue

open Cert.SlotsIdeal Cert.SlotsIdeal.Gen Idealize.ShloMosaic Idealize.ShloMosaic.TcCoe Idealize.SL.Sem
open Idealize.ShloMosaic.Pipeline (Dat)

variable (m : (ℓ : Loc nD τ sig) → Buf (Elt Ideal) ℓ)

open Cert.SlotsRefIdeal.RefValue (added)

theorem idx (t : Fin cfg0.N) : win0_0.index t = ![0, 0, 0] ∧ win0_1.index t = ![0, 0] :=
  (by decide +kernel : ∀ t : Fin grid0.N, win0_0.index t = ![0, 0, 0] ∧ win0_1.index t = ![0, 0]) t

theorem V_v0 (c : Dev nD) : V m c main_v0 = truncf (F := Ideal) (s := S4x352x1024) (φ := .f32) .bf16 (m ((c : Thread nD τ).loc main_arg0)) bitsLt_bf16_f32 := by
  entry_read
  rfl

theorem final1 (c : Dev nD) : (dats m 0 c).arrAt 1 cfg0.N = added (m ((c : Thread nD τ).loc main_arg0)) := by
  refine (dats m 0 c).arrAt_eq_of_covers 1 _ (by decide +kernel) fun t hf y => ?_
  blk_simp
  rw [after0_1]; frame_out
  obtain ⟨r, l, rfl⟩ : ∃ (r : Fin 352) (l : Fin 1024), y = ix2 r l := ⟨y 0, y 1, eq_ix2 y⟩
  pointwise [added, k0_pay1]
  simp only [Fin.sum_univ_four]
  blk_point [iblk, V_v0, idx t]

end Cert.SlotsIdeal.RefValue

end
-- ==== Proof.PairValue.lean ====
/-
  The sum of the two cores' parts, entry by entry.
-/
module

public import proofs.«01_k».proof.Proof.Common
public import proofs.«01_k».proof.Proof.Gen.PairIdeal.Value
public import proofs.«01_k».proof.Proof.Gen.PairRefIdeal.Run
public import Idealize.ShloMosaic.Lib.Pipeline.ValueKit

@[expose] public section

set_option maxRecDepth 16384

noncomputable section

namespace Cert.PairIdeal.RefValue

open Cert.PairIdeal Cert.PairIdeal.Gen Idealize.ShloMosaic Idealize.ShloMosaic.TcCoe Idealize.SL.Sem
open Idealize.ShloMosaic.Pipeline (Dat)

variable (m : (ℓ : Loc nD τ sig) → Buf (Elt Ideal) ℓ)

theorem idx (t : Fin cfg0.N) : win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0]) t

theorem V_v0 (c : Dev nD) : V m c main_v0 = truncf (F := Ideal) (s := S1408x1024) (φ := .f32) .bf16 (m ((c : Thread nD τ).loc main_arg0)) bitsLt_bf16_f32 := by
  entry_read
  rfl
theorem V_v1 (c : Dev nD) : V m c main_v1 = truncf (F := Ideal) (s := S1408x1024) (φ := .f32) .bf16 (m ((c : Thread nD τ).loc main_arg1)) bitsLt_bf16_f32 := by
  entry_read
  rfl

/-- The sum, as cast. -/
def added (a b : FVec Ideal S1408x1024 .f32) : FVec Ideal S1408x1024 .bf16 := truncf .bf16 (addf a b) bitsLt_bf16_f32

theorem final2 (c : Dev nD) : (dats m 0 c).arrAt 2 cfg0.N = added (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨r, l, rfl⟩ : ∃ (r : Fin 704) (l : Fin 1024), y = ix2 r l := ⟨y 0, y 1, eq_ix2 y⟩
  pointwise [added, k0_pay1]
  blk_point [iblk, V_v0, V_v1, idx t]

end Cert.PairIdeal.RefValue

end
-- ==== Proof.lean ====
module

public import proofs.«01_k».proof.Defs
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.PleValue
public import proofs.«01_k».proof.Proof.Gen.Mmgate
public import proofs.«01_k».proof.Proof.Gen.Mmgate.Skeleton
public import proofs.«01_k».proof.Proof.Gen.Mmgate.Launch
public import proofs.«01_k».proof.Proof.Gen.Mmgate.Points
public import proofs.«01_k».proof.Proof.Gen.Mmgate.Frame
public import proofs.«01_k».proof.Proof.Gen.MmgateIdeal
public import proofs.«01_k».proof.Proof.Gen.MmgateIdeal.Skeleton
public import proofs.«01_k».proof.Proof.Gen.MmgateIdeal.Launch
public import proofs.«01_k».proof.Proof.Gen.MmgateIdeal.Points
public import proofs.«01_k».proof.Proof.Gen.MmgateIdeal.Frame
public import proofs.«01_k».proof.Proof.Gen.MmgateIdeal.Value
public import proofs.«01_k».proof.Proof.Gen.MmgateRefIdeal
public import proofs.«01_k».proof.Proof.Gen.MmgateRefIdeal.Run
public import proofs.«01_k».proof.Proof.MmgateValue
public import proofs.«01_k».proof.Proof.Gen.Mmin
public import proofs.«01_k».proof.Proof.Gen.Mmin.Skeleton
public import proofs.«01_k».proof.Proof.Gen.Mmin.Launch
public import proofs.«01_k».proof.Proof.Gen.Mmin.Points
public import proofs.«01_k».proof.Proof.Gen.Mmin.Frame
public import proofs.«01_k».proof.Proof.Gen.MminIdeal
public import proofs.«01_k».proof.Proof.Gen.MminIdeal.Skeleton
public import proofs.«01_k».proof.Proof.Gen.MminIdeal.Launch
public import proofs.«01_k».proof.Proof.Gen.MminIdeal.Points
public import proofs.«01_k».proof.Proof.Gen.MminIdeal.Frame
public import proofs.«01_k».proof.Proof.Gen.MminIdeal.Value
public import proofs.«01_k».proof.Proof.Gen.MminRefIdeal
public import proofs.«01_k».proof.Proof.Gen.MminRefIdeal.Run
public import proofs.«01_k».proof.Proof.MminValue
public import proofs.«01_k».proof.Proof.Gen.Mmup
public import proofs.«01_k».proof.Proof.Gen.Mmup.Skeleton
public import proofs.«01_k».proof.Proof.Gen.Mmup.Launch
public import proofs.«01_k».proof.Proof.Gen.Mmup.Points
public import proofs.«01_k».proof.Proof.Gen.Mmup.Frame
public import proofs.«01_k».proof.Proof.Gen.MmupIdeal
public import proofs.«01_k».proof.Proof.Gen.MmupIdeal.Skeleton
public import proofs.«01_k».proof.Proof.Gen.MmupIdeal.Launch
public import proofs.«01_k».proof.Proof.Gen.MmupIdeal.Points
public import proofs.«01_k».proof.Proof.Gen.MmupIdeal.Frame
public import proofs.«01_k».proof.Proof.Gen.MmupIdeal.Value
public import proofs.«01_k».proof.Proof.Gen.MmupRefIdeal
public import proofs.«01_k».proof.Proof.Gen.MmupRefIdeal.Run
public import proofs.«01_k».proof.Proof.MmupValue
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.SwaReference
public import proofs.«01_k».proof.Proof.SwaFinals
public import proofs.«01_k».proof.Proof.SwaSinks
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.LossValue
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.ConvValue
public import proofs.«01_k».proof.Proof.Gen.Asm
public import proofs.«01_k».proof.Proof.Gen.Asm.Skeleton
public import proofs.«01_k».proof.Proof.Gen.Asm.Launch
public import proofs.«01_k».proof.Proof.Gen.Asm.Points
public import proofs.«01_k».proof.Proof.Gen.Asm.Frame
public import proofs.«01_k».proof.Proof.Gen.AsmIdeal
public import proofs.«01_k».proof.Proof.Gen.AsmIdeal.Skeleton
public import proofs.«01_k».proof.Proof.Gen.AsmIdeal.Launch
public import proofs.«01_k».proof.Proof.Gen.AsmIdeal.Points
public import proofs.«01_k».proof.Proof.Gen.AsmIdeal.Frame
public import proofs.«01_k».proof.Proof.Gen.AsmIdeal.Value
public import proofs.«01_k».proof.Proof.Gen.AsmRefIdeal
public import proofs.«01_k».proof.Proof.Gen.AsmRefIdeal.Run
public import proofs.«01_k».proof.Proof.AsmValue
public import proofs.«01_k».proof.Proof.Gen.Swaf
public import proofs.«01_k».proof.Proof.Gen.Swaf.Skeleton
public import proofs.«01_k».proof.Proof.Gen.Swaf.Launch
public import proofs.«01_k».proof.Proof.Gen.Swaf.Points
public import proofs.«01_k».proof.Proof.Gen.Swaf.Frame
public import proofs.«01_k».proof.Proof.Gen.SwafIdeal
public import proofs.«01_k».proof.Proof.Gen.SwafIdeal.Skeleton
public import proofs.«01_k».proof.Proof.Gen.SwafIdeal.Launch
public import proofs.«01_k».proof.Proof.Gen.SwafIdeal.Points
public import proofs.«01_k».proof.Proof.Gen.SwafIdeal.Frame
public import proofs.«01_k».proof.Proof.Gen.SwafIdeal.Value
public import proofs.«01_k».proof.Proof.Gen.SwafRefIdeal
public import proofs.«01_k».proof.Proof.Gen.SwafRefIdeal.Run
public import proofs.«01_k».proof.Proof.SwafReference
public import proofs.«01_k».proof.Proof.SwafFinals
public import proofs.«01_k».proof.Proof.Gen.Lb
public import proofs.«01_k».proof.Proof.Gen.Lb.Skeleton
public import proofs.«01_k».proof.Proof.Gen.Lb.Launch
public import proofs.«01_k».proof.Proof.Gen.Lb.Points
public import proofs.«01_k».proof.Proof.Gen.Lb.Frame
public import proofs.«01_k».proof.Proof.Gen.LbIdeal
public import proofs.«01_k».proof.Proof.Gen.LbIdeal.Skeleton
public import proofs.«01_k».proof.Proof.Gen.LbIdeal.Launch
public import proofs.«01_k».proof.Proof.Gen.LbIdeal.Points
public import proofs.«01_k».proof.Proof.Gen.LbIdeal.Frame
public import proofs.«01_k».proof.Proof.Gen.LbIdeal.Value
public import proofs.«01_k».proof.Proof.Gen.LbRefIdeal
public import proofs.«01_k».proof.Proof.Gen.LbRefIdeal.Run
public import proofs.«01_k».proof.Proof.LbReference
public import proofs.«01_k».proof.Proof.LbOff
public import proofs.«01_k».proof.Proof.LbValue
public import proofs.«01_k».proof.Proof.Gen.Convf
public import proofs.«01_k».proof.Proof.Gen.Convf.Skeleton
public import proofs.«01_k».proof.Proof.Gen.Convf.Launch
public import proofs.«01_k».proof.Proof.Gen.Convf.Points
public import proofs.«01_k».proof.Proof.Gen.Convf.Frame
public import proofs.«01_k».proof.Proof.Gen.ConvfIdeal
public import proofs.«01_k».proof.Proof.Gen.ConvfIdeal.Skeleton
public import proofs.«01_k».proof.Proof.Gen.ConvfIdeal.Launch
public import proofs.«01_k».proof.Proof.Gen.ConvfIdeal.Points
public import proofs.«01_k».proof.Proof.Gen.ConvfIdeal.Frame
public import proofs.«01_k».proof.Proof.Gen.ConvfIdeal.Value
public import proofs.«01_k».proof.Proof.Gen.ConvfRefIdeal
public import proofs.«01_k».proof.Proof.Gen.ConvfRefIdeal.Run
public import proofs.«01_k».proof.Proof.ConvfValue
public import proofs.«01_k».proof.Proof.Gen.Plef
public import proofs.«01_k».proof.Proof.Gen.Plef.Skeleton
public import proofs.«01_k».proof.Proof.Gen.Plef.Launch
public import proofs.«01_k».proof.Proof.Gen.Plef.Points
public import proofs.«01_k».proof.Proof.Gen.Plef.Frame
public import proofs.«01_k».proof.Proof.Gen.PlefIdeal
public import proofs.«01_k».proof.Proof.Gen.PlefIdeal.Skeleton
public import proofs.«01_k».proof.Proof.Gen.PlefIdeal.Launch
public import proofs.«01_k».proof.Proof.Gen.PlefIdeal.Points
public import proofs.«01_k».proof.Proof.Gen.PlefIdeal.Frame
public import proofs.«01_k».proof.Proof.Gen.PlefIdeal.Value
public import proofs.«01_k».proof.Proof.Gen.PlefRefIdeal
public import proofs.«01_k».proof.Proof.Gen.PlefRefIdeal.Run
public import proofs.«01_k».proof.Proof.RmsValue
public import proofs.«01_k».proof.Proof.PlefValue
public import proofs.«01_k».proof.Proof.Gen.Lbf
public import proofs.«01_k».proof.Proof.Gen.Lbf.Skeleton
public import proofs.«01_k».proof.Proof.Gen.Lbf.Launch
public import proofs.«01_k».proof.Proof.Gen.Lbf.Points
public import proofs.«01_k».proof.Proof.Gen.Lbf.Frame
public import proofs.«01_k».proof.Proof.Gen.LbfIdeal
public import proofs.«01_k».proof.Proof.Gen.LbfIdeal.Skeleton
public import proofs.«01_k».proof.Proof.Gen.LbfIdeal.Launch
public import proofs.«01_k».proof.Proof.Gen.LbfIdeal.Points
public import proofs.«01_k».proof.Proof.Gen.LbfIdeal.Frame
public import proofs.«01_k».proof.Proof.Gen.LbfIdeal.Value
public import proofs.«01_k».proof.Proof.Gen.LbfRefIdeal
public import proofs.«01_k».proof.Proof.Gen.LbfRefIdeal.Run
public import proofs.«01_k».proof.Proof.LbfValue
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.RmsValue
public import proofs.«01_k».proof.Proof.Gen.Mmout
public import proofs.«01_k».proof.Proof.Gen.Mmout.Skeleton
public import proofs.«01_k».proof.Proof.Gen.Mmout.Launch
public import proofs.«01_k».proof.Proof.Gen.Mmout.Points
public import proofs.«01_k».proof.Proof.Gen.Mmout.Frame
public import proofs.«01_k».proof.Proof.Gen.MmoutIdeal
public import proofs.«01_k».proof.Proof.Gen.MmoutIdeal.Skeleton
public import proofs.«01_k».proof.Proof.Gen.MmoutIdeal.Launch
public import proofs.«01_k».proof.Proof.Gen.MmoutIdeal.Points
public import proofs.«01_k».proof.Proof.Gen.MmoutIdeal.Frame
public import proofs.«01_k».proof.Proof.Gen.MmoutIdeal.Value
public import proofs.«01_k».proof.Proof.Gen.MmoutRefIdeal
public import proofs.«01_k».proof.Proof.Gen.MmoutRefIdeal.Run
public import proofs.«01_k».proof.Proof.RmsValue
public import proofs.«01_k».proof.Proof.MmoutValue
public import proofs.«01_k».proof.Proof.Gen.Mmdown
public import proofs.«01_k».proof.Proof.Gen.Mmdown.Skeleton
public import proofs.«01_k».proof.Proof.Gen.Mmdown.Launch
public import proofs.«01_k».proof.Proof.Gen.Mmdown.Points
public import proofs.«01_k».proof.Proof.Gen.Mmdown.Frame
public import proofs.«01_k».proof.Proof.Gen.MmdownIdeal
public import proofs.«01_k».proof.Proof.Gen.MmdownIdeal.Skeleton
public import proofs.«01_k».proof.Proof.Gen.MmdownIdeal.Launch
public import proofs.«01_k».proof.Proof.Gen.MmdownIdeal.Points
public import proofs.«01_k».proof.Proof.Gen.MmdownIdeal.Frame
public import proofs.«01_k».proof.Proof.Gen.MmdownIdeal.Value
public import proofs.«01_k».proof.Proof.Gen.MmdownRefIdeal
public import proofs.«01_k».proof.Proof.Gen.MmdownRefIdeal.Run
public import proofs.«01_k».proof.Proof.RmsValue
public import proofs.«01_k».proof.Proof.MmdownValue
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.AdamwValue
public import proofs.«01_k».proof.Proof.Gen.Prod
public import proofs.«01_k».proof.Proof.Gen.Prod.Skeleton
public import proofs.«01_k».proof.Proof.Gen.Prod.Launch
public import proofs.«01_k».proof.Proof.Gen.Prod.Points
public import proofs.«01_k».proof.Proof.Gen.Prod.Frame
public import proofs.«01_k».proof.Proof.Gen.ProdIdeal
public import proofs.«01_k».proof.Proof.Gen.ProdIdeal.Skeleton
public import proofs.«01_k».proof.Proof.Gen.ProdIdeal.Launch
public import proofs.«01_k».proof.Proof.Gen.ProdIdeal.Points
public import proofs.«01_k».proof.Proof.Gen.ProdIdeal.Frame
public import proofs.«01_k».proof.Proof.Gen.ProdIdeal.Value
public import proofs.«01_k».proof.Proof.Gen.ProdRefIdeal
public import proofs.«01_k».proof.Proof.Gen.ProdRefIdeal.Run
public import proofs.«01_k».proof.Proof.ProdValue
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradIdeal.Value
public import proofs.«01_k».proof.Proof.Gen.WgradRefIdeal
public import proofs.«01_k».proof.Proof.Gen.WgradRefIdeal.Run
public import proofs.«01_k».proof.Proof.WgradValue
public import proofs.«01_k».proof.Proof.Gen.Slots
public import proofs.«01_k».proof.Proof.Gen.Slots.Skeleton
public import proofs.«01_k».proof.Proof.Gen.Slots.Launch
public import proofs.«01_k».proof.Proof.Gen.Slots.Points
public import proofs.«01_k».proof.Proof.Gen.Slots.Frame
public import proofs.«01_k».proof.Proof.Gen.SlotsIdeal
public import proofs.«01_k».proof.Proof.Gen.SlotsIdeal.Skeleton
public import proofs.«01_k».proof.Proof.Gen.SlotsIdeal.Launch
public import proofs.«01_k».proof.Proof.Gen.SlotsIdeal.Points
public import proofs.«01_k».proof.Proof.Gen.SlotsIdeal.Frame
public import proofs.«01_k».proof.Proof.Gen.SlotsIdeal.Value
public import proofs.«01_k».proof.Proof.Gen.SlotsRefIdeal
public import proofs.«01_k».proof.Proof.Gen.SlotsRefIdeal.Run
public import proofs.«01_k».proof.Proof.SlotsValue
public import proofs.«01_k».proof.Proof.Gen.Pair
public import proofs.«01_k».proof.Proof.Gen.Pair.Skeleton
public import proofs.«01_k».proof.Proof.Gen.Pair.Launch
public import proofs.«01_k».proof.Proof.Gen.Pair.Points
public import proofs.«01_k».proof.Proof.Gen.Pair.Frame
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Points
public import proofs.«01_k».proof.Proof.Gen.PairIdeal.Frame
public import proofs.«01_k».proof.Proof.Gen.PairIdeal.Value
public import proofs.«01_k».proof.Proof.Gen.PairRefIdeal
public import proofs.«01_k».proof.Proof.Gen.PairRefIdeal.Run
public import proofs.«01_k».proof.Proof.PairValue
public import Idealize.ShloMosaic.Adequacy
public import Idealize.ShloMosaic.Init

@[expose] public section

noncomputable section

namespace Cert.Proof

open Idealize.ShloMosaic Idealize.SL.Sem

/-- The host reference ends with its semaphores at zero: it uses none. -/
theorem frame_PleRef : Cert.quiescent_PleRefIdeal (hPleRefIdeal := Cert.PleRefIdeal.Gen.facts) := by
  intro m g _
  exact (θ_run _ _ _).mono (fun r h => ⟨fun c => (h c).2.2, sem_eq_zero_of_no_sems (by decide) r.2⟩)
    (PleRefIdeal.Value.run m g)

/-- The gate's gradient is the reference's. -/
theorem algebraic_Ple : Cert.algebraic_PleIdeal_PleRefIdeal (hPleIdeal := Cert.PleIdeal.Gen.facts)
    (hPleRefIdeal := Cert.PleRefIdeal.Gen.facts) := fun m ρ m' ρ' _ hag =>
  ⟨_, _, (θ_run _ _ _).mono (fun _ h c => by
      obtain ⟨h4, h5, h⟩ := h c
      exact ⟨h4.trans (PleIdeal.RefValue.final4 m c), h5.trans (PleIdeal.RefValue.final5 m c), h⟩) (PleIdeal.Value.run_blocks m ρ),
    (θ_run _ _ _).mono (fun _ h c => by
      obtain ⟨h1, h2, h⟩ := h c
      obtain ⟨a0, a1, a2, a3⟩ := hag c
      rw [a0, a3] at h1
      rw [a0, a1, a2, a3] at h2
      exact ⟨h1, h2, h⟩) (PleRefIdeal.Value.run m' ρ')⟩

/-- The side conditions of the precondition. -/
theorem facts_finite_gate : Cert.Pre_finite_gate.Facts := by constructor <;> decide

theorem frame_MmgateRef : Cert.quiescent_MmgateRefIdeal (hMmgateRefIdeal := Cert.MmgateRefIdeal.Gen.facts) := by
  intro m g _
  exact (θ_run _ _ _).mono (fun r h => ⟨fun c => (h c).2.2.2, sem_eq_zero_of_no_sems (by decide) r.2⟩)
    (MmgateRefIdeal.Value.run m g)

/-- The gradient through the norm, of the product with a square weight, is the reference's at finite arguments. -/
theorem algebraic_Mmgate : Cert.algebraic_MmgateIdeal_MmgateRefIdeal_pre_finite_gate (hMmgateIdeal := Cert.MmgateIdeal.Gen.facts)
    (hMmgateRefIdeal := Cert.MmgateRefIdeal.Gen.facts) (hPre_finite_gate := facts_finite_gate) := fun m ρ m' ρ' hp hag =>
  ⟨_, _, _, MmgateIdeal.Value.run_blocks m ρ,
    (θ_run _ _ _).mono (fun _ h c => by
      obtain ⟨p0, p1, p2, p3⟩ := hp c
      obtain ⟨X, hx⟩ := Common.reals_of_abs_lt _ p0
      obtain ⟨G, hg⟩ := Common.reals_of_abs_lt _ p1
      obtain ⟨W, hw⟩ := Common.reals_of_abs_lt _ p2
      obtain ⟨Z, hz⟩ := Common.reals_of_abs_lt _ p3
      obtain ⟨h1, h2, h3, h⟩ := h c
      obtain ⟨a0, a1, a2, a3, a4⟩ := hag c
      have r0 := MmgateRefIdeal.RefValue.res0 m' c X G W Z _ (a0.trans hx) (a1.trans hg) (a2.trans hw) (a3.trans hz) a4
      refine ⟨h1.trans (r0.trans (MmgateIdeal.RefValue.final5 m X G W Z c hx hg hw hz).symm),
        h2.trans (r0.trans (MmgateIdeal.RefValue.final6 m X G W Z c hx hg hw hz).symm),
        h3.trans ((MmgateRefIdeal.RefValue.res2 _ _ _).trans ?_), h⟩
      rw [a0, a2, a3]
      exact (MmgateIdeal.RefValue.final7 m c).symm) (MmgateRefIdeal.Value.run m' ρ')⟩

theorem facts_finite_in : Cert.Pre_finite_in.Facts := by constructor <;> decide

theorem frame_MminRef : Cert.quiescent_MminRefIdeal (hMminRefIdeal := Cert.MminRefIdeal.Gen.facts) := by
  intro m g _
  exact (θ_run _ _ _).mono (fun r h => ⟨fun c => (h c).2.2.2, sem_eq_zero_of_no_sems (by decide) r.2⟩)
    (MminRefIdeal.Value.run m g)

/-- The gradient through the norm, of the product with a wide weight, is the reference's at finite arguments. -/
theorem algebraic_Mmin : Cert.algebraic_MminIdeal_MminRefIdeal_pre_finite_in (hMminIdeal := Cert.MminIdeal.Gen.facts)
    (hMminRefIdeal := Cert.MminRefIdeal.Gen.facts) (hPre_finite_in := facts_finite_in) := fun m ρ m' ρ' hp hag =>
  ⟨_, _, _, MminIdeal.Value.run_blocks m ρ,
    (θ_run _ _ _).mono (fun _ h c => by
      obtain ⟨p0, p1, p2, p3⟩ := hp c
      obtain ⟨X, hx⟩ := Common.reals_of_abs_lt _ p0
      obtain ⟨G, hg⟩ := Common.reals_of_abs_lt _ p1
      obtain ⟨W, hw⟩ := Common.reals_of_abs_lt _ p2
      obtain ⟨Z, hz⟩ := Common.reals_of_abs_lt _ p3
      obtain ⟨h1, h2, h3, h⟩ := h c
      obtain ⟨a0, a1, a2, a3, a4⟩ := hag c
      have r0 := MminRefIdeal.RefValue.res0 m' c X G W Z _ (a0.trans hx) (a1.trans hg) (a2.trans hw) (a3.trans hz) a4
      refine ⟨h1.trans (r0.trans (MminIdeal.RefValue.final5 m X G W Z c hx hg hw hz).symm),
        h2.trans (r0.trans (MminIdeal.RefValue.final6 m X G W Z c hx hg hw hz).symm),
        h3.trans ((MminRefIdeal.RefValue.res2 _ _ _).trans ?_), h⟩
      rw [a0, a2, a3]
      exact (MminIdeal.RefValue.final7 m c).symm) (MminRefIdeal.Value.run m' ρ')⟩

theorem facts_finite_up : Cert.Pre_finite_up.Facts := by constructor <;> decide

theorem frame_MmupRef : Cert.quiescent_MmupRefIdeal (hMmupRefIdeal := Cert.MmupRefIdeal.Gen.facts) := by
  intro m g _
  exact (θ_run _ _ _).mono (fun r h => ⟨fun c => (h c).2.2.2, sem_eq_zero_of_no_sems (by decide) r.2⟩)
    (MmupRefIdeal.Value.run m g)

/-- The gradient through the norm, of the product with a weight in two parts, is the reference's at finite arguments. -/
theorem algebraic_Mmup : Cert.algebraic_MmupIdeal_MmupRefIdeal_pre_finite_up (hMmupIdeal := Cert.MmupIdeal.Gen.facts)
    (hMmupRefIdeal := Cert.MmupRefIdeal.Gen.facts) (hPre_finite_up := facts_finite_up) := fun m ρ m' ρ' hp hag =>
  ⟨_, _, _, MmupIdeal.Value.run_blocks m ρ,
    (θ_run _ _ _).mono (fun _ h c => by
      obtain ⟨p0, p1, p2, p3, p4⟩ := hp c
      obtain ⟨X, hx⟩ := Common.reals_of_abs_lt _ p0
      obtain ⟨G, hg⟩ := Common.reals_of_abs_lt _ p1
      obtain ⟨W, hw⟩ := Common.reals_of_abs_lt _ p2
      obtain ⟨Z, hz⟩ := Common.reals_of_abs_lt _ p3
      obtain ⟨Y, hy⟩ := Common.reals_of_abs_lt _ p4
      obtain ⟨h1, h2, h3, h⟩ := h c
      obtain ⟨a0, a1, a2, a3, a4, a5⟩ := hag c
      have r0 := MmupRefIdeal.RefValue.res0 m' c X G W Z Y _ (a0.trans hx) (a1.trans hg) (a2.trans hw) (a3.trans hz) (a4.trans hy) a5
      refine ⟨h1.trans (r0.trans (MmupIdeal.RefValue.final7 m X G W Z Y c hx hg hw hz hy).symm),
        h2.trans (r0.trans (MmupIdeal.RefValue.final8 m X G W Z Y c hx hg hw hz hy).symm),
        h3.trans ((MmupRefIdeal.RefValue.res2 _ _ _ _).trans ?_), h⟩
      rw [a0, a2, a3, a4]
      exact (MmupIdeal.RefValue.final9 m c).symm) (MmupRefIdeal.Value.run m' ρ')⟩

theorem facts_finite_swa : Cert.Pre_finite_swa.Facts := by constructor <;> decide

theorem frame_SwaRef : Cert.quiescent_SwaRefIdeal (hSwaRefIdeal := Cert.SwaRefIdeal.Gen.facts) := by
  intro m g _
  exact (θ_run _ _ _).mono (fun r h => ⟨fun c => (h c).2.2.2.2.2.2, sem_eq_zero_of_no_sems (by decide) r.2⟩)
    (SwaRefIdeal.Value.run m g)

/-- The mask's literal is read as minus infinity. -/
theorem preserves_Swa : Cert.preserves_Swa_SwaIdeal := IdealRules.named_const.statement Cert.SwaIdeal.κ "mask" .f32 0xF149F2CA#32 ⊥ rfl

/-- The gradient of the sliding-window attention is the reference's at finite arguments. -/
theorem algebraic_Swa : Cert.algebraic_SwaIdeal_SwaRefIdeal_pre_finite_swa (hSwaIdeal := Cert.SwaIdeal.Gen.facts)
    (hSwaRefIdeal := Cert.SwaRefIdeal.Gen.facts) (hPre_finite_swa := facts_finite_swa) := fun m ρ m' ρ' hp hag =>
  ⟨_, _, _, _, _, _, SwaIdeal.Value.run_blocks m ρ,
    (θ_run _ _ _).mono (fun _ h c => by
      obtain ⟨p0, p1, p2⟩ := hp c
      obtain ⟨X, hx⟩ := Common.reals_of_abs_lt _ p0
      obtain ⟨Z, hz⟩ := Common.reals_of_abs_lt _ p1
      obtain ⟨Y, hy⟩ := Common.reals_of_abs_lt _ p2
      obtain ⟨h1, h2, h3, h4, h5, h6, h⟩ := h c
      obtain ⟨a0, a1, a2⟩ := hag c
      have x0 := a0.trans hx
      have z0 := a1.trans hz
      have y0 := a2.trans hy
      have kd := SwaRefIdeal.RefValue.v138_at (StableHlo.launchContents m' c) X Z Y x0 z0 y0
      have vd := SwaRefIdeal.RefValue.v99_at (StableHlo.launchContents m' c) X Z Y x0 z0 y0
      exact ⟨h1.trans ((SwaRefIdeal.RefValue.res0 (StableHlo.launchContents m' c) X Z Y x0 z0 y0).trans (SwaIdeal.RefValue.final8 m c X Z Y hx hz hy).symm),
        h2.trans ((SwaRefIdeal.RefValue.res_own _ _ kd).trans (SwaIdeal.RefValue.final9 m c X Z Y hx hz hy).symm),
        h3.trans ((SwaRefIdeal.RefValue.res_before _ _ kd).trans (SwaIdeal.RefValue.final10 m c X Z Y hx hz hy).symm),
        h4.trans ((SwaRefIdeal.RefValue.res_own _ _ vd).trans (SwaIdeal.RefValue.final11 m c X Z Y hx hz hy).symm),
        h5.trans ((SwaRefIdeal.RefValue.res_before _ _ vd).trans (SwaIdeal.RefValue.final12 m c X Z Y hx hz hy).symm),
        h6.trans ((SwaRefIdeal.RefValue.res_sinks _ _ (SwaRefIdeal.RefValue.v130_at (StableHlo.launchContents m' c) X Z Y x0 z0 y0)).trans
          (SwaIdeal.RefValue.final13 m c X Z Y hx hz hy).symm), h⟩) (SwaRefIdeal.Value.run m' ρ')⟩

theorem facts_finite_loss : Cert.Pre_finite_loss.Facts := by constructor <;> decide

theorem frame_LossRef : Cert.quiescent_LossRefIdeal (hLossRefIdeal := Cert.LossRefIdeal.Gen.facts) := by
  intro m g _
  exact (θ_run _ _ _).mono (fun r h => ⟨fun c => (h c).2.2.2.2, sem_eq_zero_of_no_sems (by decide) r.2⟩)
    (LossRefIdeal.Value.run m g)

/-- The loss and its gradient through the last norm are the reference's at finite arguments. -/
theorem algebraic_Loss : Cert.algebraic_LossIdeal_LossRefIdeal_pre_finite_loss (hLossIdeal := Cert.LossIdeal.Gen.facts)
    (hLossRefIdeal := Cert.LossRefIdeal.Gen.facts) (hPre_finite_loss := facts_finite_loss) := fun m ρ m' ρ' hp hag =>
  ⟨_, _, _, _, LossIdeal.Value.run_blocks m ρ,
    (θ_run _ _ _).mono (fun _ h c => by
      obtain ⟨p0, p1, p2⟩ := hp c
      obtain ⟨X, hx⟩ := Common.reals_of_abs_lt _ p0
      obtain ⟨G, hg⟩ := Common.reals_of_abs_lt _ p1
      obtain ⟨T, ht⟩ := Common.reals_of_abs_lt _ p2
      obtain ⟨h1, h2, h3, h4, h⟩ := h c
      obtain ⟨a0, a1, a2⟩ := hag c
      have x0 := a0.trans hx
      have g0 := a1.trans hg
      have t0 := a2.trans ht
      exact ⟨h1.trans ((LossRefIdeal.RefValue.res0 X G T m' c x0 g0 t0).trans (LossIdeal.RefValue.final3 m c X G T hx hg ht).symm),
        h2.trans ((LossRefIdeal.RefValue.res1 X G T m' c x0 g0 t0).trans (LossIdeal.RefValue.final4 m c X G T hx hg ht).symm),
        h3.trans ((LossRefIdeal.RefValue.res2 X G T _ _ _ x0 g0 t0).trans (LossIdeal.RefValue.final5 m c X G T hx hg ht).symm),
        h4.trans ((LossRefIdeal.RefValue.res3 X G T _ _ _ x0 g0 t0).trans (LossIdeal.RefValue.final6 m c X G T hx hg ht).symm), h⟩)
      (LossRefIdeal.Value.run m' ρ')⟩

theorem facts_finite_conv : Cert.Pre_finite_conv.Facts := by constructor <;> decide

theorem frame_ConvRef : Cert.quiescent_ConvRefIdeal (hConvRefIdeal := Cert.ConvRefIdeal.Gen.facts) := by
  intro m g _
  exact (θ_run _ _ _).mono (fun r h => ⟨fun c => (h c).2.2.2, sem_eq_zero_of_no_sems (by decide) r.2⟩)
    (ConvRefIdeal.Value.run m g)

/-- The gradients through the convolution and the gate are the reference's at finite arguments. -/
theorem algebraic_Conv : Cert.algebraic_ConvIdeal_ConvRefIdeal_pre_finite_conv (hConvIdeal := Cert.ConvIdeal.Gen.facts)
    (hConvRefIdeal := Cert.ConvRefIdeal.Gen.facts) (hPre_finite_conv := facts_finite_conv) := fun m ρ m' ρ' hp hag =>
  ⟨_, _, _, ConvIdeal.Value.run_blocks m ρ,
    (θ_run _ _ _).mono (fun _ h c => by
      obtain ⟨p0, p1, p2, p3⟩ := hp c
      obtain ⟨A, hx⟩ := Common.reals_of_abs_lt _ p0
      obtain ⟨W, hw⟩ := Common.reals_of_abs_lt _ p1
      obtain ⟨B, hb⟩ := Common.reals_of_abs_lt _ p2
      obtain ⟨Y, hy⟩ := Common.reals_of_abs_lt _ p3
      obtain ⟨h1, h2, h3, h⟩ := h c
      obtain ⟨a0, a1, a2, a3⟩ := hag c
      have x0 := a0.trans hx
      have w0 := a1.trans hw
      have b0 := a2.trans hb
      have y0 := a3.trans hy
      exact ⟨h1.trans ((ConvRefIdeal.RefValue.res0 A W B Y m' c x0 w0 b0 y0).trans (ConvIdeal.RefValue.final8 m c A W B Y hx hw hb hy).symm),
        h2.trans ((ConvRefIdeal.RefValue.res1 A W B Y m' c x0 w0 b0 y0).trans (ConvIdeal.RefValue.final9 m c A W B Y hx hw hb hy).symm),
        h3.trans ((ConvRefIdeal.RefValue.res2 A W B Y m' c x0 w0 b0 y0).trans (ConvIdeal.RefValue.final10 m c A W B Y hx hw hb hy).symm), h⟩)
      (ConvRefIdeal.Value.run m' ρ')⟩

theorem frame_AsmRef : Cert.quiescent_AsmRefIdeal (hAsmRefIdeal := Cert.AsmRefIdeal.Gen.facts) := by
  intro m g _
  exact (θ_run _ _ _).mono (fun r h => ⟨fun c => (h c).2, sem_eq_zero_of_no_sems (by decide) r.2⟩)
    (AsmRefIdeal.Value.run m g)

/-- The gradient of the fused projection is the reference's. -/
theorem algebraic_Asm : Cert.algebraic_AsmIdeal_AsmRefIdeal (hAsmIdeal := Cert.AsmIdeal.Gen.facts)
    (hAsmRefIdeal := Cert.AsmRefIdeal.Gen.facts) := fun m ρ m' ρ' _ hag =>
  ⟨_, AsmIdeal.Value.run_blocks m ρ,
    (θ_run _ _ _).mono (fun _ h c => by
      obtain ⟨h1, h⟩ := h c
      obtain ⟨a0, a1, a2, a3, a4, a5, a6, a7, a8⟩ := hag c
      exact ⟨h1.trans ((AsmRefIdeal.RefValue.joined_at _ _ _ _ _ _ _ _ _ a0 a1 a2 a3 a4 a5 a6 a7 a8).trans
        (AsmIdeal.RefValue.final m c _ _ _ _ _ _ _ _ _ rfl rfl rfl rfl rfl rfl rfl rfl rfl).symm), h⟩)
      (AsmRefIdeal.Value.run m' ρ')⟩

theorem facts_finite_swaf : Cert.Pre_finite_swaf.Facts := by constructor <;> decide

theorem frame_SwafRef : Cert.quiescent_SwafRefIdeal (hSwafRefIdeal := Cert.SwafRefIdeal.Gen.facts) := by
  intro m g _
  exact (θ_run _ _ _).mono (fun r h => ⟨fun c => (h c).2, sem_eq_zero_of_no_sems (by decide) r.2⟩)
    (SwafRefIdeal.Value.run m g)

/-- The mask's literal is read as minus infinity. -/
theorem preserves_Swaf : Cert.preserves_Swaf_SwafIdeal := IdealRules.named_const.statement Cert.SwafIdeal.κ "mask" .f32 0xF149F2CA#32 ⊥ rfl

/-- The sliding-window attention is the reference's where the projection and the sinks are finite. -/
theorem algebraic_Swaf : Cert.algebraic_SwafIdeal_SwafRefIdeal_pre_finite_swaf (hSwafIdeal := Cert.SwafIdeal.Gen.facts)
    (hSwafRefIdeal := Cert.SwafRefIdeal.Gen.facts) (hPre_finite_swaf := facts_finite_swaf) := fun m ρ m' ρ' hp hag =>
  ⟨_, SwafIdeal.Value.run_blocks m ρ,
    (θ_run _ _ _).mono (fun _ h c => by
      obtain ⟨p0, p1⟩ := hp c
      obtain ⟨X, hx⟩ := Common.reals_of_abs_lt _ p0
      obtain ⟨Z, hz⟩ := Common.reals_of_abs_lt _ p1
      obtain ⟨h1, h⟩ := h c
      obtain ⟨a0, a1, a2⟩ := hag c
      exact ⟨h1.trans ((SwafRefIdeal.RefValue.res X Z _ m' c (a0.trans hx) (a1.trans hz) a2).trans (SwafIdeal.RefValue.final7 m c X Z hx hz).symm), h⟩)
      (SwafRefIdeal.Value.run m' ρ')⟩

theorem facts_off_floor : Cert.Pre_off_floor.Facts := by constructor <;> decide

theorem frame_LbRef : Cert.quiescent_LbRefIdeal (hLbRefIdeal := Cert.LbRefIdeal.Gen.facts) := by
  intro m g _
  exact (θ_run _ _ _).mono (fun r h => ⟨fun c => (h c).2, sem_eq_zero_of_no_sems (by decide) r.2⟩)
    (LbRefIdeal.Value.run m g)

/-- The gradient of the lower bounds is the reference's at finite arguments none of whose bounds is the floor. -/
theorem algebraic_Lb : Cert.algebraic_LbIdeal_LbRefIdeal_pre_off_floor (hLbIdeal := Cert.LbIdeal.Gen.facts)
    (hLbRefIdeal := Cert.LbRefIdeal.Gen.facts) (hPre_off_floor := facts_off_floor) := fun m ρ m' ρ' hp hag =>
  ⟨_, LbIdeal.Value.run_blocks m ρ,
    (θ_run _ _ _).mono (fun _ h c => by
      have := facts_off_floor
      obtain ⟨p0, p1, p2, p3, p4⟩ := hp c
      obtain ⟨X, hx⟩ := Common.reals_of_abs_lt _ p0
      obtain ⟨D, hd⟩ := Common.reals_of_abs_lt _ p1
      obtain ⟨h1, h⟩ := h c
      obtain ⟨a0, a1⟩ := hag c
      rw [hx] at p2 p3 p4
      exact ⟨h1.trans ((LbRefIdeal.RefValue.res X D m' c (a0.trans hx) (a1.trans hd) (LbRefIdeal.RefValue.off_of X _ p2 p3 p4)).trans
        (LbIdeal.RefValue.final2 X D m c hx hd).symm), h⟩)
      (LbRefIdeal.Value.run m' ρ')⟩

theorem frame_ConvfRef : Cert.quiescent_ConvfRefIdeal (hConvfRefIdeal := Cert.ConvfRefIdeal.Gen.facts) := by
  intro m g _
  exact (θ_run _ _ _).mono (fun r h => ⟨fun c => (h c).2.2, sem_eq_zero_of_no_sems (by decide) r.2⟩)
    (ConvfRefIdeal.Value.run m g)

/-- The short convolution and its gate: both results are the reference's. -/
theorem algebraic_Convf : Cert.algebraic_ConvfIdeal_ConvfRefIdeal (hConvfIdeal := Cert.ConvfIdeal.Gen.facts)
    (hConvfRefIdeal := Cert.ConvfRefIdeal.Gen.facts) := fun m ρ m' ρ' _ hag =>
  ⟨_, _, ConvfIdeal.Value.run_blocks m ρ,
    (θ_run _ _ _).mono (fun _ h c => by
      obtain ⟨h0, h1, h⟩ := h c
      obtain ⟨a0, a1, a2⟩ := hag c
      refine ⟨h0.trans ((ConvfRefIdeal.RefValue.res0 m' c).trans ?_), h1.trans ?_, h⟩
      · refine Eq.trans ?_ (ConvfIdeal.RefValue.final5 m c).symm
        rw [a0, a1, a2]
      · refine Eq.trans ?_ (ConvfIdeal.RefValue.final6 m c).symm
        rw [a0, a1, a2]
        rfl)
      (ConvfRefIdeal.Value.run m' ρ')⟩

theorem frame_PlefRef : Cert.quiescent_PlefRefIdeal (hPlefRefIdeal := Cert.PlefRefIdeal.Gen.facts) := by
  intro m g _
  exact (θ_run _ _ _).mono (fun r h => ⟨fun c => (h c).2.2, sem_eq_zero_of_no_sems (by decide) r.2⟩)
    (PlefRefIdeal.Value.run m g)

/-- The gated embedding added to the residual stream, and its norm: both are the reference's. -/
theorem algebraic_Plef : Cert.algebraic_PlefIdeal_PlefRefIdeal (hPlefIdeal := Cert.PlefIdeal.Gen.facts)
    (hPlefRefIdeal := Cert.PlefRefIdeal.Gen.facts) := fun m ρ m' ρ' _ hag =>
  ⟨_, _, PlefIdeal.Value.run_blocks m ρ,
    (θ_run _ _ _).mono (fun _ h c => by
      obtain ⟨h0, h1, h⟩ := h c
      obtain ⟨a0, a1, a2, a3, a4⟩ := hag c
      refine ⟨h0.trans ?_, h1.trans ?_, h⟩
      · refine Eq.trans ?_ (PlefIdeal.RefValue.final5 m c).symm
        rw [a0, a1, a2, a3]
        rfl
      · refine Eq.trans ?_ (PlefIdeal.RefValue.final6 m c).symm
        rw [a0, a1, a2, a3, a4]
        rfl)
      (PlefRefIdeal.Value.run m' ρ')⟩

theorem frame_LbfRef : Cert.quiescent_LbfRefIdeal (hLbfRefIdeal := Cert.LbfRefIdeal.Gen.facts) := by
  intro m g _
  exact (θ_run _ _ _).mono (fun r h => ⟨fun c => (h c).2, sem_eq_zero_of_no_sems (by decide) r.2⟩)
    (LbfRefIdeal.Value.run m g)

/-- The rows of the lower bounds are the reference's. -/
theorem algebraic_Lbf : Cert.algebraic_LbfIdeal_LbfRefIdeal (hLbfIdeal := Cert.LbfIdeal.Gen.facts)
    (hLbfRefIdeal := Cert.LbfRefIdeal.Gen.facts) := fun m ρ m' ρ' _ hag =>
  ⟨_, LbfIdeal.Value.run_blocks m ρ,
    (θ_run _ _ _).mono (fun _ h c => by
      obtain ⟨h0, h⟩ := h c
      have a0 := hag c
      refine ⟨h0.trans ((LbfRefIdeal.RefValue.res m' c).trans ?_), h⟩
      refine Eq.trans ?_ (LbfIdeal.RefValue.final1 m c).symm
      rw [a0])
      (LbfRefIdeal.Value.run m' ρ')⟩

theorem frame_RmsRef : Cert.quiescent_RmsRefIdeal (hRmsRefIdeal := Cert.RmsRefIdeal.Gen.facts) := by
  intro m g _
  exact (θ_run _ _ _).mono (fun r h => ⟨fun c => (h c).2, sem_eq_zero_of_no_sems (by decide) r.2⟩)
    (RmsRefIdeal.Value.run m g)

/-- The norm of the rows is the reference's. -/
theorem algebraic_Rms : Cert.algebraic_RmsIdeal_RmsRefIdeal (hRmsIdeal := Cert.RmsIdeal.Gen.facts)
    (hRmsRefIdeal := Cert.RmsRefIdeal.Gen.facts) := fun m ρ m' ρ' _ hag =>
  ⟨_, RmsIdeal.Value.run_blocks m ρ,
    (θ_run _ _ _).mono (fun _ h c => by
      obtain ⟨h0, h⟩ := h c
      obtain ⟨a0, a1⟩ := hag c
      refine ⟨h0.trans ?_, h⟩
      refine Eq.trans ?_ (RmsIdeal.RefValue.final2 m c).symm
      rw [a0, a1]
      rfl)
      (RmsRefIdeal.Value.run m' ρ')⟩

theorem frame_MmoutRef : Cert.quiescent_MmoutRefIdeal (hMmoutRefIdeal := Cert.MmoutRefIdeal.Gen.facts) := by
  intro m g _
  exact (θ_run _ _ _).mono (fun r h => ⟨fun c => (h c).2.2, sem_eq_zero_of_no_sems (by decide) r.2⟩)
    (MmoutRefIdeal.Value.run m g)

/-- The output product added to the residual stream, and its norm: both are the reference's. -/
theorem algebraic_Mmout : Cert.algebraic_MmoutIdeal_MmoutRefIdeal (hMmoutIdeal := Cert.MmoutIdeal.Gen.facts)
    (hMmoutRefIdeal := Cert.MmoutRefIdeal.Gen.facts) := fun m ρ m' ρ' _ hag =>
  ⟨_, _, MmoutIdeal.Value.run_blocks m ρ,
    (θ_run _ _ _).mono (fun _ h c => by
      obtain ⟨h0, h1, h⟩ := h c
      obtain ⟨a0, a1, a2, a3⟩ := hag c
      refine ⟨h0.trans ?_, h1.trans ?_, h⟩
      · refine Eq.trans ?_ (MmoutIdeal.RefValue.final4 m c).symm
        rw [a0, a1, a2]
        rfl
      · refine Eq.trans ?_ (MmoutIdeal.RefValue.final5 m c).symm
        rw [a0, a1, a2, a3]
        rfl)
      (MmoutRefIdeal.Value.run m' ρ')⟩

theorem frame_MmdownRef : Cert.quiescent_MmdownRefIdeal (hMmdownRefIdeal := Cert.MmdownRefIdeal.Gen.facts) := by
  intro m g _
  exact (θ_run _ _ _).mono (fun r h => ⟨fun c => (h c).2.2, sem_eq_zero_of_no_sems (by decide) r.2⟩)
    (MmdownRefIdeal.Value.run m g)

/-- The down product added to the residual stream, and its norm: both are the reference's. -/
theorem algebraic_Mmdown : Cert.algebraic_MmdownIdeal_MmdownRefIdeal (hMmdownIdeal := Cert.MmdownIdeal.Gen.facts)
    (hMmdownRefIdeal := Cert.MmdownRefIdeal.Gen.facts) := fun m ρ m' ρ' _ hag =>
  ⟨_, _, MmdownIdeal.Value.run_blocks m ρ,
    (θ_run _ _ _).mono (fun _ h c => by
      obtain ⟨h0, h1, h⟩ := h c
      obtain ⟨a0, a1, a2, a3⟩ := hag c
      refine ⟨h0.trans ?_, h1.trans ?_, h⟩
      · refine Eq.trans ?_ (MmdownIdeal.RefValue.final4 m c).symm
        rw [a0, a1, a2]
        rfl
      · refine Eq.trans ?_ (MmdownIdeal.RefValue.final5 m c).symm
        rw [a0, a1, a2, a3]
        rfl)
      (MmdownRefIdeal.Value.run m' ρ')⟩

theorem frame_AdamwRef : Cert.quiescent_AdamwRefIdeal (hAdamwRefIdeal := Cert.AdamwRefIdeal.Gen.facts) := by
  intro m g _
  exact (θ_run _ _ _).mono (fun r h => ⟨fun c => (h c).2.2.2, sem_eq_zero_of_no_sems (by decide) r.2⟩)
    (AdamwRefIdeal.Value.run m g)

/-- The optimiser's step: the change of the weights and both moments are the reference's. -/
theorem algebraic_Adamw : Cert.algebraic_AdamwIdeal_AdamwRefIdeal (hAdamwIdeal := Cert.AdamwIdeal.Gen.facts)
    (hAdamwRefIdeal := Cert.AdamwRefIdeal.Gen.facts) := fun m ρ m' ρ' _ hag =>
  ⟨_, _, _, AdamwIdeal.Value.run_blocks m ρ,
    (θ_run _ _ _).mono (fun _ h c => by
      obtain ⟨h0, h1, h2, h⟩ := h c
      obtain ⟨a0, a1, a2, a3⟩ := hag c
      refine ⟨h0.trans ?_, h1.trans ?_, h2.trans ?_, h⟩
      · refine Eq.trans ?_ (AdamwIdeal.RefValue.final4 m c).symm
        rw [a0, a1, a2, a3]
        rfl
      · refine Eq.trans ?_ (AdamwIdeal.RefValue.final5 m c).symm
        rw [a1, a2]
        rfl
      · refine Eq.trans ?_ (AdamwIdeal.RefValue.final6 m c).symm
        rw [a1, a3]
        rfl)
      (AdamwRefIdeal.Value.run m' ρ')⟩

theorem frame_ProdRef : Cert.quiescent_ProdRefIdeal (hProdRefIdeal := Cert.ProdRefIdeal.Gen.facts) := by
  intro m g _
  exact (θ_run _ _ _).mono (fun r h => ⟨fun c => (h c).2, sem_eq_zero_of_no_sems (by decide) r.2⟩)
    (ProdRefIdeal.Value.run m g)

/-- The plain product is the reference's. -/
theorem algebraic_Prod : Cert.algebraic_ProdIdeal_ProdRefIdeal (hProdIdeal := Cert.ProdIdeal.Gen.facts)
    (hProdRefIdeal := Cert.ProdRefIdeal.Gen.facts) := fun m ρ m' ρ' _ hag =>
  ⟨_, ProdIdeal.Value.run_blocks m ρ,
    (θ_run _ _ _).mono (fun _ h c => by
      obtain ⟨h0, h⟩ := h c
      obtain ⟨a0, a1⟩ := hag c
      refine ⟨h0.trans ?_, h⟩
      · refine Eq.trans ?_ (ProdIdeal.RefValue.final2 m c).symm
        rw [a0, a1]
        rfl)
      (ProdRefIdeal.Value.run m' ρ')⟩

theorem frame_WgradRef : Cert.quiescent_WgradRefIdeal (hWgradRefIdeal := Cert.WgradRefIdeal.Gen.facts) := by
  intro m g _
  exact (θ_run _ _ _).mono (fun r h => ⟨fun c => (h c).2, sem_eq_zero_of_no_sems (by decide) r.2⟩)
    (WgradRefIdeal.Value.run m g)

/-- The weight gradient of the plain product is the reference's. -/
theorem algebraic_Wgrad : Cert.algebraic_WgradIdeal_WgradRefIdeal (hWgradIdeal := Cert.WgradIdeal.Gen.facts)
    (hWgradRefIdeal := Cert.WgradRefIdeal.Gen.facts) := fun m ρ m' ρ' _ hag =>
  ⟨_, WgradIdeal.Value.run_blocks m ρ,
    (θ_run _ _ _).mono (fun _ h c => by
      obtain ⟨h0, h⟩ := h c
      obtain ⟨a0, a1, a2⟩ := hag c
      refine ⟨h0.trans ?_, h⟩
      · refine Eq.trans ?_ (WgradIdeal.RefValue.final2 m c).symm
        rw [a0, a2]
        rfl)
      (WgradRefIdeal.Value.run m' ρ')⟩

theorem frame_SlotsRef : Cert.quiescent_SlotsRefIdeal (hSlotsRefIdeal := Cert.SlotsRefIdeal.Gen.facts) := by
  intro m g _
  exact (θ_run _ _ _).mono (fun r h => ⟨fun c => (h c).2, sem_eq_zero_of_no_sems (by decide) r.2⟩)
    (SlotsRefIdeal.Value.run m g)

/-- The sum of the four chips' parts is the reference's. -/
theorem algebraic_Slots : Cert.algebraic_SlotsIdeal_SlotsRefIdeal (hSlotsIdeal := Cert.SlotsIdeal.Gen.facts)
    (hSlotsRefIdeal := Cert.SlotsRefIdeal.Gen.facts) := fun m ρ m' ρ' _ hag =>
  ⟨_, SlotsIdeal.Value.run_blocks m ρ,
    (θ_run _ _ _).mono (fun _ h c => by
      obtain ⟨h0, h⟩ := h c
      have a0 := hag c
      refine ⟨h0.trans ?_, h⟩
      · refine Eq.trans ?_ (SlotsIdeal.RefValue.final1 m c).symm
        rw [a0]
        rfl)
      (SlotsRefIdeal.Value.run m' ρ')⟩

theorem frame_PairRef : Cert.quiescent_PairRefIdeal (hPairRefIdeal := Cert.PairRefIdeal.Gen.facts) := by
  intro m g _
  exact (θ_run _ _ _).mono (fun r h => ⟨fun c => (h c).2, sem_eq_zero_of_no_sems (by decide) r.2⟩)
    (PairRefIdeal.Value.run m g)

/-- The sum of the two cores' parts is the reference's. -/
theorem algebraic_Pair : Cert.algebraic_PairIdeal_PairRefIdeal (hPairIdeal := Cert.PairIdeal.Gen.facts)
    (hPairRefIdeal := Cert.PairRefIdeal.Gen.facts) := fun m ρ m' ρ' _ hag =>
  ⟨_, PairIdeal.Value.run_blocks m ρ,
    (θ_run _ _ _).mono (fun _ h c => by
      obtain ⟨h0, h⟩ := h c
      obtain ⟨a0, a1⟩ := hag c
      refine ⟨h0.trans ?_, h⟩
      · refine Eq.trans ?_ (PairIdeal.RefValue.final2 m c).symm
        rw [a0, a1]
        rfl)
      (PairRefIdeal.Value.run m' ρ')⟩

set_option maxHeartbeats 2000000 in
theorem claim : Cert.Claim := by
  refine ⟨Cert.Ple.Gen.facts, Cert.PleIdeal.Gen.facts, Cert.PleRefIdeal.Gen.facts, Cert.Mmgate.Gen.facts, Cert.MmgateIdeal.Gen.facts, Cert.MmgateRefIdeal.Gen.facts, Cert.Mmin.Gen.facts, Cert.MminIdeal.Gen.facts, Cert.MminRefIdeal.Gen.facts, Cert.Mmup.Gen.facts, Cert.MmupIdeal.Gen.facts, Cert.MmupRefIdeal.Gen.facts, Cert.Swa.Gen.facts, Cert.SwaIdeal.Gen.facts, Cert.SwaRefIdeal.Gen.facts, Cert.Loss.Gen.facts, Cert.LossIdeal.Gen.facts, Cert.LossRefIdeal.Gen.facts, Cert.Conv.Gen.facts, Cert.ConvIdeal.Gen.facts, Cert.ConvRefIdeal.Gen.facts, Cert.Asm.Gen.facts, Cert.AsmIdeal.Gen.facts, Cert.AsmRefIdeal.Gen.facts, Cert.Swaf.Gen.facts, Cert.SwafIdeal.Gen.facts, Cert.SwafRefIdeal.Gen.facts, Cert.Lb.Gen.facts, Cert.LbIdeal.Gen.facts, Cert.LbRefIdeal.Gen.facts, Cert.Convf.Gen.facts, Cert.ConvfIdeal.Gen.facts, Cert.ConvfRefIdeal.Gen.facts, Cert.Plef.Gen.facts, Cert.PlefIdeal.Gen.facts, Cert.PlefRefIdeal.Gen.facts, Cert.Lbf.Gen.facts, Cert.LbfIdeal.Gen.facts, Cert.LbfRefIdeal.Gen.facts, Cert.Rms.Gen.facts, Cert.RmsIdeal.Gen.facts, Cert.RmsRefIdeal.Gen.facts, Cert.Mmout.Gen.facts, Cert.MmoutIdeal.Gen.facts, Cert.MmoutRefIdeal.Gen.facts, Cert.Mmdown.Gen.facts, Cert.MmdownIdeal.Gen.facts, Cert.MmdownRefIdeal.Gen.facts, Cert.Adamw.Gen.facts, Cert.AdamwIdeal.Gen.facts, Cert.AdamwRefIdeal.Gen.facts, Cert.Prod.Gen.facts, Cert.ProdIdeal.Gen.facts, Cert.ProdRefIdeal.Gen.facts, Cert.Wgrad.Gen.facts, Cert.WgradIdeal.Gen.facts, Cert.WgradRefIdeal.Gen.facts, Cert.Slots.Gen.facts, Cert.SlotsIdeal.Gen.facts, Cert.SlotsRefIdeal.Gen.facts, Cert.Pair.Gen.facts, Cert.PairIdeal.Gen.facts, Cert.PairRefIdeal.Gen.facts, facts_finite_gate, facts_finite_in, facts_finite_up, facts_finite_swa, facts_finite_loss, facts_finite_conv, facts_finite_swaf, facts_off_floor, ?_⟩
  refine ⟨fun m ρ _ => Cert.Ple.Gen.frame m ρ, fun m ρ _ => Cert.PleIdeal.Gen.frame m ρ, frame_PleRef, ?_⟩
  refine ⟨fun m ρ _ => Cert.Mmgate.Gen.frame m ρ, fun m ρ _ => Cert.MmgateIdeal.Gen.frame m ρ, fun m ρ _ => Cert.MmgateIdeal.Gen.frame m ρ,
  frame_MmgateRef, fun m g _ => frame_MmgateRef m g trivial, ?_⟩
  refine ⟨fun m ρ _ => Cert.Mmin.Gen.frame m ρ, fun m ρ _ => Cert.MminIdeal.Gen.frame m ρ, fun m ρ _ => Cert.MminIdeal.Gen.frame m ρ,
  frame_MminRef, fun m g _ => frame_MminRef m g trivial, ?_⟩
  refine ⟨fun m ρ _ => Cert.Mmup.Gen.frame m ρ, fun m ρ _ => Cert.MmupIdeal.Gen.frame m ρ, fun m ρ _ => Cert.MmupIdeal.Gen.frame m ρ,
  frame_MmupRef, fun m g _ => frame_MmupRef m g trivial, ?_⟩
  refine ⟨fun m ρ _ => Cert.Swa.Gen.frame m ρ, fun m ρ _ => Cert.SwaIdeal.Gen.frame m ρ, fun m ρ _ => Cert.SwaIdeal.Gen.frame m ρ,
  frame_SwaRef, fun m g _ => frame_SwaRef m g trivial, ?_⟩
  refine ⟨fun m ρ _ => Cert.Loss.Gen.frame m ρ, fun m ρ _ => Cert.LossIdeal.Gen.frame m ρ, fun m ρ _ => Cert.LossIdeal.Gen.frame m ρ,
  frame_LossRef, fun m g _ => frame_LossRef m g trivial, ?_⟩
  refine ⟨fun m ρ _ => Cert.Conv.Gen.frame m ρ, fun m ρ _ => Cert.ConvIdeal.Gen.frame m ρ, fun m ρ _ => Cert.ConvIdeal.Gen.frame m ρ,
  frame_ConvRef, fun m g _ => frame_ConvRef m g trivial, ?_⟩
  refine ⟨fun m ρ _ => Cert.Asm.Gen.frame m ρ, fun m ρ _ => Cert.AsmIdeal.Gen.frame m ρ, frame_AsmRef, ?_⟩
  refine ⟨fun m ρ _ => Cert.Swaf.Gen.frame m ρ, fun m ρ _ => Cert.SwafIdeal.Gen.frame m ρ, fun m ρ _ => Cert.SwafIdeal.Gen.frame m ρ,
  frame_SwafRef, fun m g _ => frame_SwafRef m g trivial, ?_⟩
  refine ⟨fun m ρ _ => Cert.Lb.Gen.frame m ρ, fun m ρ _ => Cert.LbIdeal.Gen.frame m ρ, fun m ρ _ => Cert.LbIdeal.Gen.frame m ρ,
  frame_LbRef, fun m g _ => frame_LbRef m g trivial, ?_⟩
  refine ⟨fun m ρ _ => Cert.Convf.Gen.frame m ρ, fun m ρ _ => Cert.ConvfIdeal.Gen.frame m ρ, frame_ConvfRef, ?_⟩
  refine ⟨fun m ρ _ => Cert.Plef.Gen.frame m ρ, fun m ρ _ => Cert.PlefIdeal.Gen.frame m ρ, frame_PlefRef, ?_⟩
  refine ⟨fun m ρ _ => Cert.Lbf.Gen.frame m ρ, fun m ρ _ => Cert.LbfIdeal.Gen.frame m ρ, frame_LbfRef, ?_⟩
  refine ⟨fun m ρ _ => Cert.Rms.Gen.frame m ρ, fun m ρ _ => Cert.RmsIdeal.Gen.frame m ρ, frame_RmsRef, ?_⟩
  refine ⟨fun m ρ _ => Cert.Mmout.Gen.frame m ρ, fun m ρ _ => Cert.MmoutIdeal.Gen.frame m ρ, frame_MmoutRef, ?_⟩
  refine ⟨fun m ρ _ => Cert.Mmdown.Gen.frame m ρ, fun m ρ _ => Cert.MmdownIdeal.Gen.frame m ρ, frame_MmdownRef, ?_⟩
  refine ⟨fun m ρ _ => Cert.Adamw.Gen.frame m ρ, fun m ρ _ => Cert.AdamwIdeal.Gen.frame m ρ, frame_AdamwRef, ?_⟩
  refine ⟨fun m ρ _ => Cert.Prod.Gen.frame m ρ, fun m ρ _ => Cert.ProdIdeal.Gen.frame m ρ, frame_ProdRef, ?_⟩
  refine ⟨fun m ρ _ => Cert.Wgrad.Gen.frame m ρ, fun m ρ _ => Cert.WgradIdeal.Gen.frame m ρ, frame_WgradRef, ?_⟩
  refine ⟨fun m ρ _ => Cert.Slots.Gen.frame m ρ, fun m ρ _ => Cert.SlotsIdeal.Gen.frame m ρ, frame_SlotsRef, ?_⟩
  refine ⟨fun m ρ _ => Cert.Pair.Gen.frame m ρ, fun m ρ _ => Cert.PairIdeal.Gen.frame m ρ, frame_PairRef, ?_⟩
  exact ⟨trivial, algebraic_Ple,
    trivial, algebraic_Mmgate,
    trivial, algebraic_Mmin,
    trivial, algebraic_Mmup,
    preserves_Swa, algebraic_Swa,
    trivial, algebraic_Loss,
    trivial, algebraic_Conv,
    trivial, algebraic_Asm,
    preserves_Swaf, algebraic_Swaf,
    trivial, algebraic_Lb,
    trivial, algebraic_Convf,
    trivial, algebraic_Plef,
    trivial, algebraic_Lbf,
    trivial, algebraic_Rms,
    trivial, algebraic_Mmout,
    trivial, algebraic_Mmdown,
    trivial, algebraic_Adamw,
    trivial, algebraic_Prod,
    trivial, algebraic_Wgrad,
    trivial, algebraic_Slots,
    trivial, algebraic_Pair⟩

end Cert.Proof

end
